-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Acts (m : (ℓ : Loc Cert.Acts.nD Cert.Acts.τ Cert.Acts.sig) → Buf (Elt Bits) ℓ) : Prop :=
  True

def Pre_ActsIdeal (m : (ℓ : Loc Cert.ActsIdeal.nD Cert.ActsIdeal.τ Cert.ActsIdeal.sig) → Buf (Elt Ideal) ℓ) : Prop :=
  True

def Pre_ActsIdeal_finite_acts [hPre_finite_acts : Cert.Pre_finite_acts.Facts] (m : (ℓ : Loc Cert.ActsIdeal.nD Cert.ActsIdeal.τ Cert.ActsIdeal.sig) → Buf (Elt Ideal) ℓ) : Prop :=
  ∀ c : Dev Cert.ActsIdeal.nD,
    (Cert.Pre_finite_acts.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5))) = (fun _ => 1#1)

def Pre_ActsRefIdeal (m : (ℓ : Loc Cert.ActsRefIdeal.nD Cert.ActsRefIdeal.τ Cert.ActsRefIdeal.sig) → Buf (Elt Ideal) ℓ) : Prop :=
  True

def Pre_ActsRefIdeal_finite_acts [hPre_finite_acts : Cert.Pre_finite_acts.Facts] (m : (ℓ : Loc Cert.ActsRefIdeal.nD Cert.ActsRefIdeal.τ Cert.ActsRefIdeal.sig) → Buf (Elt Ideal) ℓ) : Prop :=
  ∀ c : Dev Cert.ActsRefIdeal.nD,
    (Cert.Pre_finite_acts.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_Acts [hActs : Cert.Acts.Facts] : Prop :=
  ∀ (m : (ℓ : Loc Cert.Acts.nD Cert.Acts.τ Cert.Acts.sig) → Buf (Elt Bits) ℓ) (g : Dev Cert.Acts.nD → PrngReg), Pre_Acts m →
    θ_run (Cert.Acts.defs (F := Bits)) (onTc (τ := Cert.Acts.τ) (Cert.Acts.main (F := Bits))) ⟨m, fun _ => 0, g⟩ (fun r => (∀ c : Dev Cert.Acts.nD,
      r.2.mem ((c.tc : Thread Cert.Acts.nD Cert.Acts.τ).loc Cert.Acts.main_arg0) = m ((c.tc : Thread Cert.Acts.nD Cert.Acts.τ).loc Cert.Acts.main_arg0)
      ∧ r.2.mem ((c.tc : Thread Cert.Acts.nD Cert.Acts.τ).loc Cert.Acts.main_arg1) = m ((c.tc : Thread Cert.Acts.nD Cert.Acts.τ).loc Cert.Acts.main_arg1)
      ∧ r.2.mem ((c.tc : Thread Cert.Acts.nD Cert.Acts.τ).loc Cert.Acts.main_arg2) = m ((c.tc : Thread Cert.Acts.nD Cert.Acts.τ).loc Cert.Acts.main_arg2)
      ∧ r.2.mem ((c.tc : Thread Cert.Acts.nD Cert.Acts.τ).loc Cert.Acts.main_arg3) = m ((c.tc : Thread Cert.Acts.nD Cert.Acts.τ).loc Cert.Acts.main_arg3)
      ∧ r.2.mem ((c.tc : Thread Cert.Acts.nD Cert.Acts.τ).loc Cert.Acts.main_arg4) = m ((c.tc : Thread Cert.Acts.nD Cert.Acts.τ).loc Cert.Acts.main_arg4)
      ∧ r.2.mem ((c.tc : Thread Cert.Acts.nD Cert.Acts.τ).loc Cert.Acts.main_arg5) = m ((c.tc : Thread Cert.Acts.nD Cert.Acts.τ).loc Cert.Acts.main_arg5))
      ∧ r.2.sem = fun _ => 0)

def quiescent_ActsIdeal [hActsIdeal : Cert.ActsIdeal.Facts] : Prop :=
  ∀ (m : (ℓ : Loc Cert.ActsIdeal.nD Cert.ActsIdeal.τ Cert.ActsIdeal.sig) → Buf (Elt Ideal) ℓ) (g : Dev Cert.ActsIdeal.nD → PrngReg), Pre_ActsIdeal m →
    θ_run (Cert.ActsIdeal.defs (F := Ideal)) (onTc (τ := Cert.ActsIdeal.τ) (Cert.ActsIdeal.main (F := Ideal))) ⟨m, fun _ => 0, g⟩ (fun r => (∀ c : Dev Cert.ActsIdeal.nD,
      r.2.mem ((c.tc : Thread Cert.ActsIdeal.nD Cert.ActsIdeal.τ).loc Cert.ActsIdeal.main_arg0) = m ((c.tc : Thread Cert.ActsIdeal.nD Cert.ActsIdeal.τ).loc Cert.ActsIdeal.main_arg0)
      ∧ r.2.mem ((c.tc : Thread Cert.ActsIdeal.nD Cert.ActsIdeal.τ).loc Cert.ActsIdeal.main_arg1) = m ((c.tc : Thread Cert.ActsIdeal.nD Cert.ActsIdeal.τ).loc Cert.ActsIdeal.main_arg1)
      ∧ r.2.mem ((c.tc : Thread Cert.ActsIdeal.nD Cert.ActsIdeal.τ).loc Cert.ActsIdeal.main_arg2) = m ((c.tc : Thread Cert.ActsIdeal.nD Cert.ActsIdeal.τ).loc Cert.ActsIdeal.main_arg2)
      ∧ r.2.mem ((c.tc : Thread Cert.ActsIdeal.nD Cert.ActsIdeal.τ).loc Cert.ActsIdeal.main_arg3) = m ((c.tc : Thread Cert.ActsIdeal.nD Cert.ActsIdeal.τ).loc Cert.ActsIdeal.main_arg3)
      ∧ r.2.mem ((c.tc : Thread Cert.ActsIdeal.nD Cert.ActsIdeal.τ).loc Cert.ActsIdeal.main_arg4) = m ((c.tc : Thread Cert.ActsIdeal.nD Cert.ActsIdeal.τ).loc Cert.ActsIdeal.main_arg4)
      ∧ r.2.mem ((c.tc : Thread Cert.ActsIdeal.nD Cert.ActsIdeal.τ).loc Cert.ActsIdeal.main_arg5) = m ((c.tc : Thread Cert.ActsIdeal.nD Cert.ActsIdeal.τ).loc Cert.ActsIdeal.main_arg5))
      ∧ r.2.sem = fun _ => 0)

def quiescent_ActsIdeal_pre_finite_acts [hActsIdeal : Cert.ActsIdeal.Facts] [hPre_finite_acts : Cert.Pre_finite_acts.Facts] : Prop :=
  ∀ (m : (ℓ : Loc Cert.ActsIdeal.nD Cert.ActsIdeal.τ Cert.ActsIdeal.sig) → Buf (Elt Ideal) ℓ) (g : Dev Cert.ActsIdeal.nD → PrngReg), Pre_ActsIdeal_finite_acts m →
    θ_run (Cert.ActsIdeal.defs (F := Ideal)) (onTc (τ := Cert.ActsIdeal.τ) (Cert.ActsIdeal.main (F := Ideal))) ⟨m, fun _ => 0, g⟩ (fun r => (∀ c : Dev Cert.ActsIdeal.nD,
      r.2.mem ((c.tc : Thread Cert.ActsIdeal.nD Cert.ActsIdeal.τ).loc Cert.ActsIdeal.main_arg0) = m ((c.tc : Thread Cert.ActsIdeal.nD Cert.ActsIdeal.τ).loc Cert.ActsIdeal.main_arg0)
      ∧ r.2.mem ((c.tc : Thread Cert.ActsIdeal.nD Cert.ActsIdeal.τ).loc Cert.ActsIdeal.main_arg1) = m ((c.tc : Thread Cert.ActsIdeal.nD Cert.ActsIdeal.τ).loc Cert.ActsIdeal.main_arg1)
      ∧ r.2.mem ((c.tc : Thread Cert.ActsIdeal.nD Cert.ActsIdeal.τ).loc Cert.ActsIdeal.main_arg2) = m ((c.tc : Thread Cert.ActsIdeal.nD Cert.ActsIdeal.τ).loc Cert.ActsIdeal.main_arg2)
      ∧ r.2.mem ((c.tc : Thread Cert.ActsIdeal.nD Cert.ActsIdeal.τ).loc Cert.ActsIdeal.main_arg3) = m ((c.tc : Thread Cert.ActsIdeal.nD Cert.ActsIdeal.τ).loc Cert.ActsIdeal.main_arg3)
      ∧ r.2.mem ((c.tc : Thread Cert.ActsIdeal.nD Cert.ActsIdeal.τ).loc Cert.ActsIdeal.main_arg4) = m ((c.tc : Thread Cert.ActsIdeal.nD Cert.ActsIdeal.τ).loc Cert.ActsIdeal.main_arg4)
      ∧ r.2.mem ((c.tc : Thread Cert.ActsIdeal.nD Cert.ActsIdeal.τ).loc Cert.ActsIdeal.main_arg5) = m ((c.tc : Thread Cert.ActsIdeal.nD Cert.ActsIdeal.τ).loc Cert.ActsIdeal.main_arg5))
      ∧ r.2.sem = fun _ => 0)

def quiescent_ActsRefIdeal [hActsRefIdeal : Cert.ActsRefIdeal.Facts] : Prop :=
  ∀ (m : (ℓ : Loc Cert.ActsRefIdeal.nD Cert.ActsRefIdeal.τ Cert.ActsRefIdeal.sig) → Buf (Elt Ideal) ℓ) (g : Dev Cert.ActsRefIdeal.nD → PrngReg), Pre_ActsRefIdeal m →
    θ_run (Cert.ActsRefIdeal.defs (F := Ideal)) (onTc (τ := Cert.ActsRefIdeal.τ) (Cert.ActsRefIdeal.main (F := Ideal))) ⟨m, fun _ => 0, g⟩ (fun r => (∀ c : Dev Cert.ActsRefIdeal.nD,
      r.2.mem ((c.tc : Thread Cert.ActsRefIdeal.nD Cert.ActsRefIdeal.τ).loc Cert.ActsRefIdeal.main_arg0) = m ((c.tc : Thread Cert.ActsRefIdeal.nD Cert.ActsRefIdeal.τ).loc Cert.ActsRefIdeal.main_arg0)
      ∧ r.2.mem ((c.tc : Thread Cert.ActsRefIdeal.nD Cert.ActsRefIdeal.τ).loc Cert.ActsRefIdeal.main_arg1) = m ((c.tc : Thread Cert.ActsRefIdeal.nD Cert.ActsRefIdeal.τ).loc Cert.ActsRefIdeal.main_arg1)
      ∧ r.2.mem ((c.tc : Thread Cert.ActsRefIdeal.nD Cert.ActsRefIdeal.τ).loc Cert.ActsRefIdeal.main_arg2) = m ((c.tc : Thread Cert.ActsRefIdeal.nD Cert.ActsRefIdeal.τ).loc Cert.ActsRefIdeal.main_arg2)
      ∧ r.2.mem ((c.tc : Thread Cert.ActsRefIdeal.nD Cert.ActsRefIdeal.τ).loc Cert.ActsRefIdeal.main_arg3) = m ((c.tc : Thread Cert.ActsRefIdeal.nD Cert.ActsRefIdeal.τ).loc Cert.ActsRefIdeal.main_arg3)
      ∧ r.2.mem ((c.tc : Thread Cert.ActsRefIdeal.nD Cert.ActsRefIdeal.τ).loc Cert.ActsRefIdeal.main_arg4) = m ((c.tc : Thread Cert.ActsRefIdeal.nD Cert.ActsRefIdeal.τ).loc Cert.ActsRefIdeal.main_arg4)
      ∧ r.2.mem ((c.tc : Thread Cert.ActsRefIdeal.nD Cert.ActsRefIdeal.τ).loc Cert.ActsRefIdeal.main_arg5) = m ((c.tc : Thread Cert.ActsRefIdeal.nD Cert.ActsRefIdeal.τ).loc Cert.ActsRefIdeal.main_arg5))
      ∧ r.2.sem = fun _ => 0)

def quiescent_ActsRefIdeal_pre_finite_acts [hActsRefIdeal : Cert.ActsRefIdeal.Facts] [hPre_finite_acts : Cert.Pre_finite_acts.Facts] : Prop :=
  ∀ (m : (ℓ : Loc Cert.ActsRefIdeal.nD Cert.ActsRefIdeal.τ Cert.ActsRefIdeal.sig) → Buf (Elt Ideal) ℓ) (g : Dev Cert.ActsRefIdeal.nD → PrngReg), Pre_ActsRefIdeal_finite_acts m →
    θ_run (Cert.ActsRefIdeal.defs (F := Ideal)) (onTc (τ := Cert.ActsRefIdeal.τ) (Cert.ActsRefIdeal.main (F := Ideal))) ⟨m, fun _ => 0, g⟩ (fun r => (∀ c : Dev Cert.ActsRefIdeal.nD,
      r.2.mem ((c.tc : Thread Cert.ActsRefIdeal.nD Cert.ActsRefIdeal.τ).loc Cert.ActsRefIdeal.main_arg0) = m ((c.tc : Thread Cert.ActsRefIdeal.nD Cert.ActsRefIdeal.τ).loc Cert.ActsRefIdeal.main_arg0)
      ∧ r.2.mem ((c.tc : Thread Cert.ActsRefIdeal.nD Cert.ActsRefIdeal.τ).loc Cert.ActsRefIdeal.main_arg1) = m ((c.tc : Thread Cert.ActsRefIdeal.nD Cert.ActsRefIdeal.τ).loc Cert.ActsRefIdeal.main_arg1)
      ∧ r.2.mem ((c.tc : Thread Cert.ActsRefIdeal.nD Cert.ActsRefIdeal.τ).loc Cert.ActsRefIdeal.main_arg2) = m ((c.tc : Thread Cert.ActsRefIdeal.nD Cert.ActsRefIdeal.τ).loc Cert.ActsRefIdeal.main_arg2)
      ∧ r.2.mem ((c.tc : Thread Cert.ActsRefIdeal.nD Cert.ActsRefIdeal.τ).loc Cert.ActsRefIdeal.main_arg3) = m ((c.tc : Thread Cert.ActsRefIdeal.nD Cert.ActsRefIdeal.τ).loc Cert.ActsRefIdeal.main_arg3)
      ∧ r.2.mem ((c.tc : Thread Cert.ActsRefIdeal.nD Cert.ActsRefIdeal.τ).loc Cert.ActsRefIdeal.main_arg4) = m ((c.tc : Thread Cert.ActsRefIdeal.nD Cert.ActsRefIdeal.τ).loc Cert.ActsRefIdeal.main_arg4)
      ∧ r.2.mem ((c.tc : Thread Cert.ActsRefIdeal.nD Cert.ActsRefIdeal.τ).loc Cert.ActsRefIdeal.main_arg5) = m ((c.tc : Thread Cert.ActsRefIdeal.nD Cert.ActsRefIdeal.τ).loc Cert.ActsRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1)
      ∧ r.2.mem ((c.tc : Thread Cert.Ab.nD Cert.Ab.τ).loc Cert.Ab.main_arg2) = m ((c.tc : Thread Cert.Ab.nD Cert.Ab.τ).loc Cert.Ab.main_arg2)
      ∧ r.2.mem ((c.tc : Thread Cert.Ab.nD Cert.Ab.τ).loc Cert.Ab.main_arg3) = m ((c.tc : Thread Cert.Ab.nD Cert.Ab.τ).loc Cert.Ab.main_arg3)
      ∧ r.2.mem ((c.tc : Thread Cert.Ab.nD Cert.Ab.τ).loc Cert.Ab.main_arg4) = m ((c.tc : Thread Cert.Ab.nD Cert.Ab.τ).loc Cert.Ab.main_arg4)
      ∧ r.2.mem ((c.tc : Thread Cert.Ab.nD Cert.Ab.τ).loc Cert.Ab.main_arg5) = m ((c.tc : Thread Cert.Ab.nD Cert.Ab.τ).loc Cert.Ab.main_arg5)
      ∧ r.2.mem ((c.tc : Thread Cert.Ab.nD Cert.Ab.τ).loc Cert.Ab.main_arg6) = m ((c.tc : Thread Cert.Ab.nD Cert.Ab.τ).loc Cert.Ab.main_arg6)
      ∧ r.2.mem ((c.tc : Thread Cert.Ab.nD Cert.Ab.τ).loc Cert.Ab.main_arg7) = m ((c.tc : Thread Cert.Ab.nD Cert.Ab.τ).loc Cert.Ab.main_arg7)
      ∧ r.2.mem ((c.tc : Thread Cert.Ab.nD Cert.Ab.τ).loc Cert.Ab.main_arg8) = m ((c.tc : Thread Cert.Ab.nD Cert.Ab.τ).loc Cert.Ab.main_arg8)
      ∧ r.2.mem ((c.tc : Thread Cert.Ab.nD Cert.Ab.τ).loc Cert.Ab.main_arg9) = m ((c.tc : Thread Cert.Ab.nD Cert.Ab.τ).loc Cert.Ab.main_arg9))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
      ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
      ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
      ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
      ∧ r.2.mem ((c.tc : Thread Cert.AbIdeal.nD Cert.AbIdeal.τ).loc Cert.AbIdeal.main_arg5) = m ((c.tc : Thread Cert.AbIdeal.nD Cert.AbIdeal.τ).loc Cert.AbIdeal.main_arg5)
      ∧ r.2.mem ((c.tc : Thread Cert.AbIdeal.nD Cert.AbIdeal.τ).loc Cert.AbIdeal.main_arg6) = m ((c.tc : Thread Cert.AbIdeal.nD Cert.AbIdeal.τ).loc Cert.AbIdeal.main_arg6)
      ∧ r.2.mem ((c.tc : Thread Cert.AbIdeal.nD Cert.AbIdeal.τ).loc Cert.AbIdeal.main_arg7) = m ((c.tc : Thread Cert.AbIdeal.nD Cert.AbIdeal.τ).loc Cert.AbIdeal.main_arg7)
      ∧ r.2.mem ((c.tc : Thread Cert.AbIdeal.nD Cert.AbIdeal.τ).loc Cert.AbIdeal.main_arg8) = m ((c.tc : Thread Cert.AbIdeal.nD Cert.AbIdeal.τ).loc Cert.AbIdeal.main_arg8)
      ∧ r.2.mem ((c.tc : Thread Cert.AbIdeal.nD Cert.AbIdeal.τ).loc Cert.AbIdeal.main_arg9) = m ((c.tc : Thread Cert.AbIdeal.nD Cert.AbIdeal.τ).loc Cert.AbIdeal.main_arg9))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1)
      ∧ r.2.mem ((c.tc : Thread Cert.AbRefIdeal.nD Cert.AbRefIdeal.τ).loc Cert.AbRefIdeal.main_arg2) = m ((c.tc : Thread Cert.AbRefIdeal.nD Cert.AbRefIdeal.τ).loc Cert.AbRefIdeal.main_arg2)
      ∧ r.2.mem ((c.tc : Thread Cert.AbRefIdeal.nD Cert.AbRefIdeal.τ).loc Cert.AbRefIdeal.main_arg3) = m ((c.tc : Thread Cert.AbRefIdeal.nD Cert.AbRefIdeal.τ).loc Cert.AbRefIdeal.main_arg3)
      ∧ r.2.mem ((c.tc : Thread Cert.AbRefIdeal.nD Cert.AbRefIdeal.τ).loc Cert.AbRefIdeal.main_arg4) = m ((c.tc : Thread Cert.AbRefIdeal.nD Cert.AbRefIdeal.τ).loc Cert.AbRefIdeal.main_arg4)
      ∧ r.2.mem ((c.tc : Thread Cert.AbRefIdeal.nD Cert.AbRefIdeal.τ).loc Cert.AbRefIdeal.main_arg5) = m ((c.tc : Thread Cert.AbRefIdeal.nD Cert.AbRefIdeal.τ).loc Cert.AbRefIdeal.main_arg5)
      ∧ r.2.mem ((c.tc : Thread Cert.AbRefIdeal.nD Cert.AbRefIdeal.τ).loc Cert.AbRefIdeal.main_arg6) = m ((c.tc : Thread Cert.AbRefIdeal.nD Cert.AbRefIdeal.τ).loc Cert.AbRefIdeal.main_arg6)
      ∧ r.2.mem ((c.tc : Thread Cert.AbRefIdeal.nD Cert.AbRefIdeal.τ).loc Cert.AbRefIdeal.main_arg7) = m ((c.tc : Thread Cert.AbRefIdeal.nD Cert.AbRefIdeal.τ).loc Cert.AbRefIdeal.main_arg7)
      ∧ r.2.mem ((c.tc : Thread Cert.AbRefIdeal.nD Cert.AbRefIdeal.τ).loc Cert.AbRefIdeal.main_arg8) = m ((c.tc : Thread Cert.AbRefIdeal.nD Cert.AbRefIdeal.τ).loc Cert.AbRefIdeal.main_arg8)
      ∧ r.2.mem ((c.tc : Thread Cert.AbRefIdeal.nD Cert.AbRefIdeal.τ).loc Cert.AbRefIdeal.main_arg9) = m ((c.tc : Thread Cert.AbRefIdeal.nD Cert.AbRefIdeal.τ).loc Cert.AbRefIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v16_0)) (v1 : (c : Dev Cert.DxIdeal.nD) → Buf (Elt Ideal) ((c.tc : Thread Cert.DxIdeal.nD Cert.DxIdeal.τ).loc Cert.DxIdeal.main_v16_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v16_0) = v0 c
          ∧ r.2.mem ((c.tc : Thread Cert.DxIdeal.nD Cert.DxIdeal.τ).loc Cert.DxIdeal.main_v16_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v67) = v0 c
          ∧ r.2.mem ((c.tc : Thread Cert.DxRefIdeal.nD Cert.DxRefIdeal.τ).loc Cert.DxRefIdeal.main_v71) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_Acts_ActsIdeal : Prop :=
  True

def algebraic_ActsIdeal_ActsRefIdeal_pre_finite_acts [hActsIdeal : Cert.ActsIdeal.Facts] [hActsRefIdeal : Cert.ActsRefIdeal.Facts] [hPre_finite_acts : Cert.Pre_finite_acts.Facts] : Prop :=
  ∀ (m : (ℓ : Loc Cert.ActsIdeal.nD Cert.ActsIdeal.τ Cert.ActsIdeal.sig) → Buf (Elt Ideal) ℓ) (g : Dev Cert.ActsIdeal.nD → PrngReg)
    (m' : (ℓ : Loc Cert.ActsRefIdeal.nD Cert.ActsRefIdeal.τ Cert.ActsRefIdeal.sig) → Buf (Elt Ideal) ℓ) (g' : Dev Cert.ActsRefIdeal.nD → PrngReg), Pre_ActsIdeal_finite_acts m →
    (∀ c : Dev Cert.ActsIdeal.nD,
      m' ((c.tc : Thread Cert.ActsRefIdeal.nD Cert.ActsRefIdeal.τ).loc Cert.ActsRefIdeal.main_arg0) = m ((c.tc : Thread Cert.ActsIdeal.nD Cert.ActsIdeal.τ).loc Cert.ActsIdeal.main_arg0)
      ∧ m' ((c.tc : Thread Cert.ActsRefIdeal.nD Cert.ActsRefIdeal.τ).loc Cert.ActsRefIdeal.main_arg1) = m ((c.tc : Thread Cert.ActsIdeal.nD Cert.ActsIdeal.τ).loc Cert.ActsIdeal.main_arg1)
      ∧ m' ((c.tc : Thread Cert.ActsRefIdeal.nD Cert.ActsRefIdeal.τ).loc Cert.ActsRefIdeal.main_arg2) = m ((c.tc : Thread Cert.ActsIdeal.nD Cert.ActsIdeal.τ).loc Cert.ActsIdeal.main_arg2)
      ∧ m' ((c.tc : Thread Cert.ActsRefIdeal.nD Cert.ActsRefIdeal.τ).loc Cert.ActsRefIdeal.main_arg3) = m ((c.tc : Thread Cert.ActsIdeal.nD Cert.ActsIdeal.τ).loc Cert.ActsIdeal.main_arg3)
      ∧ m' ((c.tc : Thread Cert.ActsRefIdeal.nD Cert.ActsRefIdeal.τ).loc Cert.ActsRefIdeal.main_arg4) = m ((c.tc : Thread Cert.ActsIdeal.nD Cert.ActsIdeal.τ).loc Cert.ActsIdeal.main_arg4)
      ∧ m' ((c.tc : Thread Cert.ActsRefIdeal.nD Cert.ActsRefIdeal.τ).loc Cert.ActsRefIdeal.main_arg5) = m ((c.tc : Thread Cert.ActsIdeal.nD Cert.ActsIdeal.τ).loc Cert.ActsIdeal.main_arg5)) →
    ∃ (v0 : (c : Dev Cert.ActsIdeal.nD) → Buf (Elt Ideal) ((c.tc : Thread Cert.ActsIdeal.nD Cert.ActsIdeal.τ).loc Cert.ActsIdeal.main_v46_0)) (v1 : (c : Dev Cert.ActsIdeal.nD) → Buf (Elt Ideal) ((c.tc : Thread Cert.ActsIdeal.nD Cert.ActsIdeal.τ).loc Cert.ActsIdeal.main_v46_1)) (v2 : (c : Dev Cert.ActsIdeal.nD) → Buf (Elt Ideal) ((c.tc : Thread Cert.ActsIdeal.nD Cert.ActsIdeal.τ).loc Cert.ActsIdeal.main_v46_2)),
      θ_run (Cert.ActsIdeal.defs (F := Ideal)) (onTc (τ := Cert.ActsIdeal.τ) (Cert.ActsIdeal.main (F := Ideal))) ⟨m, fun _ => 0, g⟩ (fun r => ∀ c : Dev Cert.ActsIdeal.nD,
          r.2.mem ((c.tc : Thread Cert.ActsIdeal.nD Cert.ActsIdeal.τ).loc Cert.ActsIdeal.main_v46_0) = v0 c
          ∧ r.2.mem ((c.tc : Thread Cert.ActsIdeal.nD Cert.ActsIdeal.τ).loc Cert.ActsIdeal.main_v46_1) = v1 c
          ∧ r.2.mem ((c.tc : Thread Cert.ActsIdeal.nD Cert.ActsIdeal.τ).loc Cert.ActsIdeal.main_v46_2) = v2 c
          ∧ r.2.mem ((c.tc : Thread Cert.ActsIdeal.nD Cert.ActsIdeal.τ).loc Cert.ActsIdeal.main_arg0) = m ((c.tc : Thread Cert.ActsIdeal.nD Cert.ActsIdeal.τ).loc Cert.ActsIdeal.main_arg0)
          ∧ r.2.mem ((c.tc : Thread Cert.ActsIdeal.nD Cert.ActsIdeal.τ).loc Cert.ActsIdeal.main_arg1) = m ((c.tc : Thread Cert.ActsIdeal.nD Cert.ActsIdeal.τ).loc Cert.ActsIdeal.main_arg1)
          ∧ r.2.mem ((c.tc : Thread Cert.ActsIdeal.nD Cert.ActsIdeal.τ).loc Cert.ActsIdeal.main_arg2) = m ((c.tc : Thread Cert.ActsIdeal.nD Cert.ActsIdeal.τ).loc Cert.ActsIdeal.main_arg2)
          ∧ r.2.mem ((c.tc : Thread Cert.ActsIdeal.nD Cert.ActsIdeal.τ).loc Cert.ActsIdeal.main_arg3) = m ((c.tc : Thread Cert.ActsIdeal.nD Cert.ActsIdeal.τ).loc Cert.ActsIdeal.main_arg3)
          ∧ r.2.mem ((c.tc : Thread Cert.ActsIdeal.nD Cert.ActsIdeal.τ).loc Cert.ActsIdeal.main_arg4) = m ((c.tc : Thread Cert.ActsIdeal.nD Cert.ActsIdeal.τ).loc Cert.ActsIdeal.main_arg4)
          ∧ r.2.mem ((c.tc : Thread Cert.ActsIdeal.nD Cert.ActsIdeal.τ).loc Cert.ActsIdeal.main_arg5) = m ((c.tc : Thread Cert.ActsIdeal.nD Cert.ActsIdeal.τ).loc Cert.ActsIdeal.main_arg5))
      ∧ θ_run (Cert.ActsRefIdeal.defs (F := Ideal)) (onTc (τ := Cert.ActsRefIdeal.τ) (Cert.ActsRefIdeal.main (F := Ideal))) ⟨m', fun _ => 0, g'⟩ (fun r => ∀ c : Dev Cert.ActsRefIdeal.nD,
          r.2.mem ((c.tc : Thread Cert.ActsRefIdeal.nD Cert.ActsRefIdeal.τ).loc Cert.ActsRefIdeal.main_v61) = v0 c
          ∧ r.2.mem ((c.tc : Thread Cert.ActsRefIdeal.nD Cert.ActsRefIdeal.τ).loc Cert.ActsRefIdeal.main_v63) = v1 c
          ∧ r.2.mem ((c.tc : Thread Cert.ActsRefIdeal.nD Cert.ActsRefIdeal.τ).loc Cert.ActsRefIdeal.main_v58) = v2 c
          ∧ r.2.mem ((c.tc : Thread Cert.ActsRefIdeal.nD Cert.ActsRefIdeal.τ).loc Cert.ActsRefIdeal.main_arg0) = m' ((c.tc : Thread Cert.ActsRefIdeal.nD Cert.ActsRefIdeal.τ).loc Cert.ActsRefIdeal.main_arg0)
          ∧ r.2.mem ((c.tc : Thread Cert.ActsRefIdeal.nD Cert.ActsRefIdeal.τ).loc Cert.ActsRefIdeal.main_arg1) = m' ((c.tc : Thread Cert.ActsRefIdeal.nD Cert.ActsRefIdeal.τ).loc Cert.ActsRefIdeal.main_arg1)
          ∧ r.2.mem ((c.tc : Thread Cert.ActsRefIdeal.nD Cert.ActsRefIdeal.τ).loc Cert.ActsRefIdeal.main_arg2) = m' ((c.tc : Thread Cert.ActsRefIdeal.nD Cert.ActsRefIdeal.τ).loc Cert.ActsRefIdeal.main_arg2)
          ∧ r.2.mem ((c.tc : Thread Cert.ActsRefIdeal.nD Cert.ActsRefIdeal.τ).loc Cert.ActsRefIdeal.main_arg3) = m' ((c.tc : Thread Cert.ActsRefIdeal.nD Cert.ActsRefIdeal.τ).loc Cert.ActsRefIdeal.main_arg3)
          ∧ r.2.mem ((c.tc : Thread Cert.ActsRefIdeal.nD Cert.ActsRefIdeal.τ).loc Cert.ActsRefIdeal.main_arg4) = m' ((c.tc : Thread Cert.ActsRefIdeal.nD Cert.ActsRefIdeal.τ).loc Cert.ActsRefIdeal.main_arg4)
          ∧ r.2.mem ((c.tc : Thread Cert.ActsRefIdeal.nD Cert.ActsRefIdeal.τ).loc Cert.ActsRefIdeal.main_arg5) = m' ((c.tc : Thread Cert.ActsRefIdeal.nD Cert.ActsRefIdeal.τ).loc Cert.ActsRefIdeal.main_arg5))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v50_0)) (v1 : (c : Dev Cert.FfnIdeal.nD) → Buf (Elt Ideal) ((c.tc : Thread Cert.FfnIdeal.nD Cert.FfnIdeal.τ).loc Cert.FfnIdeal.main_v50_1)) (v2 : (c : Dev Cert.FfnIdeal.nD) → Buf (Elt Ideal) ((c.tc : Thread Cert.FfnIdeal.nD Cert.FfnIdeal.τ).loc Cert.FfnIdeal.main_v50_2)) (v3 : (c : Dev Cert.FfnIdeal.nD) → Buf (Elt Ideal) ((c.tc : Thread Cert.FfnIdeal.nD Cert.FfnIdeal.τ).loc Cert.FfnIdeal.main_v50_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v50_0) = v0 c
          ∧ r.2.mem ((c.tc : Thread Cert.FfnIdeal.nD Cert.FfnIdeal.τ).loc Cert.FfnIdeal.main_v50_1) = v1 c
          ∧ r.2.mem ((c.tc : Thread Cert.FfnIdeal.nD Cert.FfnIdeal.τ).loc Cert.FfnIdeal.main_v50_2) = v2 c
          ∧ r.2.mem ((c.tc : Thread Cert.FfnIdeal.nD Cert.FfnIdeal.τ).loc Cert.FfnIdeal.main_v50_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v99) = v0 c
          ∧ r.2.mem ((c.tc : Thread Cert.FfnRefIdeal.nD Cert.FfnRefIdeal.τ).loc Cert.FfnRefIdeal.main_v100) = v1 c
          ∧ r.2.mem ((c.tc : Thread Cert.FfnRefIdeal.nD Cert.FfnRefIdeal.τ).loc Cert.FfnRefIdeal.main_v102) = v2 c
          ∧ r.2.mem ((c.tc : Thread Cert.FfnRefIdeal.nD Cert.FfnRefIdeal.τ).loc Cert.FfnRefIdeal.main_v96) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Pool_PoolIdeal : Prop :=
  True

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v13_0)) (v1 : (c : Dev Cert.HeadIdeal.nD) → Buf (Elt Ideal) ((c.tc : Thread Cert.HeadIdeal.nD Cert.HeadIdeal.τ).loc Cert.HeadIdeal.main_v13_1)) (v2 : (c : Dev Cert.HeadIdeal.nD) → Buf (Elt Ideal) ((c.tc : Thread Cert.HeadIdeal.nD Cert.HeadIdeal.τ).loc Cert.HeadIdeal.main_v13_2)) (v3 : (c : Dev Cert.HeadIdeal.nD) → Buf (Elt Ideal) ((c.tc : Thread Cert.HeadIdeal.nD Cert.HeadIdeal.τ).loc Cert.HeadIdeal.main_v13_3)) (v4 : (c : Dev Cert.HeadIdeal.nD) → Buf (Elt Ideal) ((c.tc : Thread Cert.HeadIdeal.nD Cert.HeadIdeal.τ).loc Cert.HeadIdeal.main_v13_4)) (v5 : (c : Dev Cert.HeadIdeal.nD) → Buf (Elt Ideal) ((c.tc : Thread Cert.HeadIdeal.nD Cert.HeadIdeal.τ).loc Cert.HeadIdeal.main_v13_5)) (v6 : (c : Dev Cert.HeadIdeal.nD) → Buf (Elt Ideal) ((c.tc : Thread Cert.HeadIdeal.nD Cert.HeadIdeal.τ).loc Cert.HeadIdeal.main_v13_6)) (v7 : (c : Dev Cert.HeadIdeal.nD) → Buf (Elt Ideal) ((c.tc : Thread Cert.HeadIdeal.nD Cert.HeadIdeal.τ).loc Cert.HeadIdeal.main_v13_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v13_0) = v0 c
          ∧ r.2.mem ((c.tc : Thread Cert.HeadIdeal.nD Cert.HeadIdeal.τ).loc Cert.HeadIdeal.main_v13_1) = v1 c
          ∧ r.2.mem ((c.tc : Thread Cert.HeadIdeal.nD Cert.HeadIdeal.τ).loc Cert.HeadIdeal.main_v13_2) = v2 c
          ∧ r.2.mem ((c.tc : Thread Cert.HeadIdeal.nD Cert.HeadIdeal.τ).loc Cert.HeadIdeal.main_v13_3) = v3 c
          ∧ r.2.mem ((c.tc : Thread Cert.HeadIdeal.nD Cert.HeadIdeal.τ).loc Cert.HeadIdeal.main_v13_4) = v4 c
          ∧ r.2.mem ((c.tc : Thread Cert.HeadIdeal.nD Cert.HeadIdeal.τ).loc Cert.HeadIdeal.main_v13_5) = v5 c
          ∧ r.2.mem ((c.tc : Thread Cert.HeadIdeal.nD Cert.HeadIdeal.τ).loc Cert.HeadIdeal.main_v13_6) = v6 c
          ∧ r.2.mem ((c.tc : Thread Cert.HeadIdeal.nD Cert.HeadIdeal.τ).loc Cert.HeadIdeal.main_v13_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v88) = v0 c
          ∧ r.2.mem ((c.tc : Thread Cert.HeadRefIdeal.nD Cert.HeadRefIdeal.τ).loc Cert.HeadRefIdeal.main_v90) = v1 c
          ∧ r.2.mem ((c.tc : Thread Cert.HeadRefIdeal.nD Cert.HeadRefIdeal.τ).loc Cert.HeadRefIdeal.main_v93) = v2 c
          ∧ r.2.mem ((c.tc : Thread Cert.HeadRefIdeal.nD Cert.HeadRefIdeal.τ).loc Cert.HeadRefIdeal.main_v96) = v3 c
          ∧ r.2.mem ((c.tc : Thread Cert.HeadRefIdeal.nD Cert.HeadRefIdeal.τ).loc Cert.HeadRefIdeal.main_v97) = v4 c
          ∧ r.2.mem ((c.tc : Thread Cert.HeadRefIdeal.nD Cert.HeadRefIdeal.τ).loc Cert.HeadRefIdeal.main_v100) = v5 c
          ∧ r.2.mem ((c.tc : Thread Cert.HeadRefIdeal.nD Cert.HeadRefIdeal.τ).loc Cert.HeadRefIdeal.main_v101) = v6 c
          ∧ r.2.mem ((c.tc : Thread Cert.HeadRefIdeal.nD Cert.HeadRefIdeal.τ).loc Cert.HeadRefIdeal.main_v104) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)
      ∧ m' ((c.tc : Thread Cert.AbRefIdeal.nD Cert.AbRefIdeal.τ).loc Cert.AbRefIdeal.main_arg2) = m ((c.tc : Thread Cert.AbIdeal.nD Cert.AbIdeal.τ).loc Cert.AbIdeal.main_arg2)
      ∧ m' ((c.tc : Thread Cert.AbRefIdeal.nD Cert.AbRefIdeal.τ).loc Cert.AbRefIdeal.main_arg3) = m ((c.tc : Thread Cert.AbIdeal.nD Cert.AbIdeal.τ).loc Cert.AbIdeal.main_arg3)
      ∧ m' ((c.tc : Thread Cert.AbRefIdeal.nD Cert.AbRefIdeal.τ).loc Cert.AbRefIdeal.main_arg4) = m ((c.tc : Thread Cert.AbIdeal.nD Cert.AbIdeal.τ).loc Cert.AbIdeal.main_arg4)
      ∧ m' ((c.tc : Thread Cert.AbRefIdeal.nD Cert.AbRefIdeal.τ).loc Cert.AbRefIdeal.main_arg5) = m ((c.tc : Thread Cert.AbIdeal.nD Cert.AbIdeal.τ).loc Cert.AbIdeal.main_arg5)
      ∧ m' ((c.tc : Thread Cert.AbRefIdeal.nD Cert.AbRefIdeal.τ).loc Cert.AbRefIdeal.main_arg6) = m ((c.tc : Thread Cert.AbIdeal.nD Cert.AbIdeal.τ).loc Cert.AbIdeal.main_arg6)
      ∧ m' ((c.tc : Thread Cert.AbRefIdeal.nD Cert.AbRefIdeal.τ).loc Cert.AbRefIdeal.main_arg7) = m ((c.tc : Thread Cert.AbIdeal.nD Cert.AbIdeal.τ).loc Cert.AbIdeal.main_arg7)
      ∧ m' ((c.tc : Thread Cert.AbRefIdeal.nD Cert.AbRefIdeal.τ).loc Cert.AbRefIdeal.main_arg8) = m ((c.tc : Thread Cert.AbIdeal.nD Cert.AbIdeal.τ).loc Cert.AbIdeal.main_arg8)
      ∧ m' ((c.tc : Thread Cert.AbRefIdeal.nD Cert.AbRefIdeal.τ).loc Cert.AbRefIdeal.main_arg9) = m ((c.tc : Thread Cert.AbIdeal.nD Cert.AbIdeal.τ).loc Cert.AbIdeal.main_arg9)) →
    ∃ (v0 : (c : Dev Cert.AbIdeal.nD) → Buf (Elt Ideal) ((c.tc : Thread Cert.AbIdeal.nD Cert.AbIdeal.τ).loc Cert.AbIdeal.main_v136_2)) (v1 : (c : Dev Cert.AbIdeal.nD) → Buf (Elt Ideal) ((c.tc : Thread Cert.AbIdeal.nD Cert.AbIdeal.τ).loc Cert.AbIdeal.main_v136_3)) (v2 : (c : Dev Cert.AbIdeal.nD) → Buf (Elt Ideal) ((c.tc : Thread Cert.AbIdeal.nD Cert.AbIdeal.τ).loc Cert.AbIdeal.main_v136_5)) (v3 : (c : Dev Cert.AbIdeal.nD) → Buf (Elt Ideal) ((c.tc : Thread Cert.AbIdeal.nD Cert.AbIdeal.τ).loc Cert.AbIdeal.main_v136_6)) (v4 : (c : Dev Cert.AbIdeal.nD) → Buf (Elt Ideal) ((c.tc : Thread Cert.AbIdeal.nD Cert.AbIdeal.τ).loc Cert.AbIdeal.main_v136_7)) (v5 : (c : Dev Cert.AbIdeal.nD) → Buf (Elt Ideal) ((c.tc : Thread Cert.AbIdeal.nD Cert.AbIdeal.τ).loc Cert.AbIdeal.main_v136_8)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v136_2) = v0 c
          ∧ r.2.mem ((c.tc : Thread Cert.AbIdeal.nD Cert.AbIdeal.τ).loc Cert.AbIdeal.main_v136_3) = v1 c
          ∧ r.2.mem ((c.tc : Thread Cert.AbIdeal.nD Cert.AbIdeal.τ).loc Cert.AbIdeal.main_v136_5) = v2 c
          ∧ r.2.mem ((c.tc : Thread Cert.AbIdeal.nD Cert.AbIdeal.τ).loc Cert.AbIdeal.main_v136_6) = v3 c
          ∧ r.2.mem ((c.tc : Thread Cert.AbIdeal.nD Cert.AbIdeal.τ).loc Cert.AbIdeal.main_v136_7) = v4 c
          ∧ r.2.mem ((c.tc : Thread Cert.AbIdeal.nD Cert.AbIdeal.τ).loc Cert.AbIdeal.main_v136_8) = v5 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
          ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
          ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
          ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
          ∧ r.2.mem ((c.tc : Thread Cert.AbIdeal.nD Cert.AbIdeal.τ).loc Cert.AbIdeal.main_arg5) = m ((c.tc : Thread Cert.AbIdeal.nD Cert.AbIdeal.τ).loc Cert.AbIdeal.main_arg5)
          ∧ r.2.mem ((c.tc : Thread Cert.AbIdeal.nD Cert.AbIdeal.τ).loc Cert.AbIdeal.main_arg6) = m ((c.tc : Thread Cert.AbIdeal.nD Cert.AbIdeal.τ).loc Cert.AbIdeal.main_arg6)
          ∧ r.2.mem ((c.tc : Thread Cert.AbIdeal.nD Cert.AbIdeal.τ).loc Cert.AbIdeal.main_arg7) = m ((c.tc : Thread Cert.AbIdeal.nD Cert.AbIdeal.τ).loc Cert.AbIdeal.main_arg7)
          ∧ r.2.mem ((c.tc : Thread Cert.AbIdeal.nD Cert.AbIdeal.τ).loc Cert.AbIdeal.main_arg8) = m ((c.tc : Thread Cert.AbIdeal.nD Cert.AbIdeal.τ).loc Cert.AbIdeal.main_arg8)
          ∧ r.2.mem ((c.tc : Thread Cert.AbIdeal.nD Cert.AbIdeal.τ).loc Cert.AbIdeal.main_arg9) = m ((c.tc : Thread Cert.AbIdeal.nD Cert.AbIdeal.τ).loc Cert.AbIdeal.main_arg9))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v168) = v0 c
          ∧ r.2.mem ((c.tc : Thread Cert.AbRefIdeal.nD Cert.AbRefIdeal.τ).loc Cert.AbRefIdeal.main_v170) = v1 c
          ∧ r.2.mem ((c.tc : Thread Cert.AbRefIdeal.nD Cert.AbRefIdeal.τ).loc Cert.AbRefIdeal.main_v173) = v2 c
          ∧ r.2.mem ((c.tc : Thread Cert.AbRefIdeal.nD Cert.AbRefIdeal.τ).loc Cert.AbRefIdeal.main_v160) = v3 c
          ∧ r.2.mem ((c.tc : Thread Cert.AbRefIdeal.nD Cert.AbRefIdeal.τ).loc Cert.AbRefIdeal.main_v175) = v4 c
          ∧ r.2.mem ((c.tc : Thread Cert.AbRefIdeal.nD Cert.AbRefIdeal.τ).loc Cert.AbRefIdeal.main_v177) = v5 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1)
          ∧ r.2.mem ((c.tc : Thread Cert.AbRefIdeal.nD Cert.AbRefIdeal.τ).loc Cert.AbRefIdeal.main_arg2) = m' ((c.tc : Thread Cert.AbRefIdeal.nD Cert.AbRefIdeal.τ).loc Cert.AbRefIdeal.main_arg2)
          ∧ r.2.mem ((c.tc : Thread Cert.AbRefIdeal.nD Cert.AbRefIdeal.τ).loc Cert.AbRefIdeal.main_arg3) = m' ((c.tc : Thread Cert.AbRefIdeal.nD Cert.AbRefIdeal.τ).loc Cert.AbRefIdeal.main_arg3)
          ∧ r.2.mem ((c.tc : Thread Cert.AbRefIdeal.nD Cert.AbRefIdeal.τ).loc Cert.AbRefIdeal.main_arg4) = m' ((c.tc : Thread Cert.AbRefIdeal.nD Cert.AbRefIdeal.τ).loc Cert.AbRefIdeal.main_arg4)
          ∧ r.2.mem ((c.tc : Thread Cert.AbRefIdeal.nD Cert.AbRefIdeal.τ).loc Cert.AbRefIdeal.main_arg5) = m' ((c.tc : Thread Cert.AbRefIdeal.nD Cert.AbRefIdeal.τ).loc Cert.AbRefIdeal.main_arg5)
          ∧ r.2.mem ((c.tc : Thread Cert.AbRefIdeal.nD Cert.AbRefIdeal.τ).loc Cert.AbRefIdeal.main_arg6) = m' ((c.tc : Thread Cert.AbRefIdeal.nD Cert.AbRefIdeal.τ).loc Cert.AbRefIdeal.main_arg6)
          ∧ r.2.mem ((c.tc : Thread Cert.AbRefIdeal.nD Cert.AbRefIdeal.τ).loc Cert.AbRefIdeal.main_arg7) = m' ((c.tc : Thread Cert.AbRefIdeal.nD Cert.AbRefIdeal.τ).loc Cert.AbRefIdeal.main_arg7)
          ∧ r.2.mem ((c.tc : Thread Cert.AbRefIdeal.nD Cert.AbRefIdeal.τ).loc Cert.AbRefIdeal.main_arg8) = m' ((c.tc : Thread Cert.AbRefIdeal.nD Cert.AbRefIdeal.τ).loc Cert.AbRefIdeal.main_arg8)
          ∧ r.2.mem ((c.tc : Thread Cert.AbRefIdeal.nD Cert.AbRefIdeal.τ).loc Cert.AbRefIdeal.main_arg9) = m' ((c.tc : Thread Cert.AbRefIdeal.nD Cert.AbRefIdeal.τ).loc Cert.AbRefIdeal.main_arg9))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v11_0)) (v1 : (c : Dev Cert.FwdIdeal.nD) → Buf (Elt Ideal) ((c.tc : Thread Cert.FwdIdeal.nD Cert.FwdIdeal.τ).loc Cert.FwdIdeal.main_v11_1)) (v2 : (c : Dev Cert.FwdIdeal.nD) → Buf (Elt Ideal) ((c.tc : Thread Cert.FwdIdeal.nD Cert.FwdIdeal.τ).loc Cert.FwdIdeal.main_v11_2)) (v3 : (c : Dev Cert.FwdIdeal.nD) → Buf (Elt Ideal) ((c.tc : Thread Cert.FwdIdeal.nD Cert.FwdIdeal.τ).loc Cert.FwdIdeal.main_v11_3)) (v4 : (c : Dev Cert.FwdIdeal.nD) → Buf (Elt Ideal) ((c.tc : Thread Cert.FwdIdeal.nD Cert.FwdIdeal.τ).loc Cert.FwdIdeal.main_v11_4)) (v5 : (c : Dev Cert.FwdIdeal.nD) → Buf (Elt Ideal) ((c.tc : Thread Cert.FwdIdeal.nD Cert.FwdIdeal.τ).loc Cert.FwdIdeal.main_v11_5)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v11_0) = v0 c
          ∧ r.2.mem ((c.tc : Thread Cert.FwdIdeal.nD Cert.FwdIdeal.τ).loc Cert.FwdIdeal.main_v11_1) = v1 c
          ∧ r.2.mem ((c.tc : Thread Cert.FwdIdeal.nD Cert.FwdIdeal.τ).loc Cert.FwdIdeal.main_v11_2) = v2 c
          ∧ r.2.mem ((c.tc : Thread Cert.FwdIdeal.nD Cert.FwdIdeal.τ).loc Cert.FwdIdeal.main_v11_3) = v3 c
          ∧ r.2.mem ((c.tc : Thread Cert.FwdIdeal.nD Cert.FwdIdeal.τ).loc Cert.FwdIdeal.main_v11_4) = v4 c
          ∧ r.2.mem ((c.tc : Thread Cert.FwdIdeal.nD Cert.FwdIdeal.τ).loc Cert.FwdIdeal.main_v11_5) = v5 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v36) = v0 c
          ∧ r.2.mem ((c.tc : Thread Cert.FwdRefIdeal.nD Cert.FwdRefIdeal.τ).loc Cert.FwdRefIdeal.main_v38) = v1 c
          ∧ r.2.mem ((c.tc : Thread Cert.FwdRefIdeal.nD Cert.FwdRefIdeal.τ).loc Cert.FwdRefIdeal.main_v41) = v2 c
          ∧ r.2.mem ((c.tc : Thread Cert.FwdRefIdeal.nD Cert.FwdRefIdeal.τ).loc Cert.FwdRefIdeal.main_v44) = v3 c
          ∧ r.2.mem ((c.tc : Thread Cert.FwdRefIdeal.nD Cert.FwdRefIdeal.τ).loc Cert.FwdRefIdeal.main_v45) = v4 c
          ∧ r.2.mem ((c.tc : Thread Cert.FwdRefIdeal.nD Cert.FwdRefIdeal.τ).loc Cert.FwdRefIdeal.main_v48) = v5 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def Claim : Prop :=
  ∃ (hDx : Cert.Dx.Facts) (hDxIdeal : Cert.DxIdeal.Facts) (hDxRefIdeal : Cert.DxRefIdeal.Facts) (hActs : Cert.Acts.Facts) (hActsIdeal : Cert.ActsIdeal.Facts) (hActsRefIdeal : Cert.ActsRefIdeal.Facts) (hFfn : Cert.Ffn.Facts) (hFfnIdeal : Cert.FfnIdeal.Facts) (hFfnRefIdeal : Cert.FfnRefIdeal.Facts) (hPool : Cert.Pool.Facts) (hPoolIdeal : Cert.PoolIdeal.Facts) (hPoolRefIdeal : Cert.PoolRefIdeal.Facts) (hHead : Cert.Head.Facts) (hHeadIdeal : Cert.HeadIdeal.Facts) (hHeadRefIdeal : Cert.HeadRefIdeal.Facts) (hAb : Cert.Ab.Facts) (hAbIdeal : Cert.AbIdeal.Facts) (hAbRefIdeal : Cert.AbRefIdeal.Facts) (hFwd : Cert.Fwd.Facts) (hFwdIdeal : Cert.FwdIdeal.Facts) (hFwdRefIdeal : Cert.FwdRefIdeal.Facts) (hPre_finite_acts : Cert.Pre_finite_acts.Facts) (hPre_finite_ffn : Cert.Pre_finite_ffn.Facts),
    quiescent_Dx (hDx := hDx)
    ∧ quiescent_DxIdeal (hDxIdeal := hDxIdeal)
    ∧ quiescent_DxRefIdeal (hDxRefIdeal := hDxRefIdeal)
    ∧ quiescent_Acts (hActs := hActs)
    ∧ quiescent_ActsIdeal (hActsIdeal := hActsIdeal)
    ∧ quiescent_ActsIdeal_pre_finite_acts (hActsIdeal := hActsIdeal) (hPre_finite_acts := hPre_finite_acts)
    ∧ quiescent_ActsRefIdeal (hActsRefIdeal := hActsRefIdeal)
    ∧ quiescent_ActsRefIdeal_pre_finite_acts (hActsRefIdeal := hActsRefIdeal) (hPre_finite_acts := hPre_finite_acts)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Pool (hPool := hPool)
    ∧ quiescent_PoolIdeal (hPoolIdeal := hPoolIdeal)
    ∧ quiescent_PoolRefIdeal (hPoolRefIdeal := hPoolRefIdeal)
    ∧ quiescent_Head (hHead := hHead)
    ∧ quiescent_HeadIdeal (hHeadIdeal := hHeadIdeal)
    ∧ quiescent_HeadRefIdeal (hHeadRefIdeal := hHeadRefIdeal)
    ∧ quiescent_Ab (hAb := hAb)
    ∧ quiescent_AbIdeal (hAbIdeal := hAbIdeal)
    ∧ quiescent_AbRefIdeal (hAbRefIdeal := hAbRefIdeal)
    ∧ quiescent_Fwd (hFwd := hFwd)
    ∧ quiescent_FwdIdeal (hFwdIdeal := hFwdIdeal)
    ∧ quiescent_FwdRefIdeal (hFwdRefIdeal := hFwdRefIdeal)
    ∧ preserves_Dx_DxIdeal
    ∧ algebraic_DxIdeal_DxRefIdeal (hDxIdeal := hDxIdeal) (hDxRefIdeal := hDxRefIdeal)
    ∧ preserves_Acts_ActsIdeal
    ∧ algebraic_ActsIdeal_ActsRefIdeal_pre_finite_acts (hActsIdeal := hActsIdeal) (hActsRefIdeal := hActsRefIdeal) (hPre_finite_acts := hPre_finite_acts)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Pool_PoolIdeal
    ∧ preserves_Head_HeadIdeal
    ∧ algebraic_HeadIdeal_HeadRefIdeal (hHeadIdeal := hHeadIdeal) (hHeadRefIdeal := hHeadRefIdeal)
    ∧ preserves_Ab_AbIdeal
    ∧ algebraic_AbIdeal_AbRefIdeal (hAbIdeal := hAbIdeal) (hAbRefIdeal := hAbRefIdeal)
    ∧ preserves_Fwd_FwdIdeal
    ∧ algebraic_FwdIdeal_FwdRefIdeal (hFwdIdeal := hFwdIdeal) (hFwdRefIdeal := hFwdRefIdeal)
-- ==== Pre_finite_acts.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x3072 : S_.BroadcastsInDim S1x3072 (![] : Fin 0 → Fin S1x3072.rank)
  reducesTo_S1x3072_S_d0_1 : S1x3072.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part1 {F : FTy → Type} [FloatOps F] (main_arg5 : FVec F S1x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x2048x1024 .f32 := subf main_arg5 main_arg5
  let main_cst_6 : FVec F S_ .f32 := constant S_ .f32 0x00000000#32
  let main_v20 : FVec F S1x2048x1024 .f32 := broadcastInDim S1x2048x1024 ![] bcast_S_S1x2048x1024 main_cst_6
  let main_v21 : IVec S1x2048x1024 1 := cmpf .oeq main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  main_v23

def fn {F : FTy → Type} [FloatOps F] (main_arg0 : FVec F S1x2048x1024 .f32) (main_arg1 : FVec F S1x3072 .f32) (main_arg2 : FVec F S1024 .f32) (main_arg3 : FVec F S1024x5632 .f32) (main_arg4 : FVec F S2816x1024 .f32) (main_arg5 : FVec F S1x2048x1024 .f32) : IVec S_ 1 :=
  let main_v0 : FVec F S1x3072 .f32 := subf main_arg1 main_arg1
  let main_cst : FVec F S_ .f32 := constant S_ .f32 0x00000000#32
  let main_v1 : FVec F S1x3072 .f32 := broadcastInDim S1x3072 ![] bcast_S_S1x3072 main_cst
  let main_v2 : IVec S1x3072 1 := cmpf .oeq main_v0 main_v1
  let main_c : IVec S_ 1 := constantI S_ 1 1#1
  let main_v3 : IVec S_ 1 := (fun x v => Host.reduce IntOp.andi x v reducesTo_S1x3072_S_d0_1 h_S_) main_v2 main_c
  let main_v4 : FVec F S1024 .f32 := subf main_arg2 main_arg2
  let main_cst_0 : FVec F S_ .f32 := constant S_ .f32 0x00000000#32
  let main_v5 : FVec F S1024 .f32 := broadcastInDim S1024 ![] bcast_S_S1024 main_cst_0
  let main_v6 : IVec S1024 1 := cmpf .oeq main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := subf main_arg3 main_arg3
  let main_cst_2 : FVec F S_ .f32 := constant S_ .f32 0x00000000#32
  let main_v10 : FVec F S1024x5632 .f32 := broadcastInDim S1024x5632 ![] bcast_S_S1024x5632 main_cst_2
  let main_v11 : IVec S1024x5632 1 := cmpf .oeq main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := subf main_arg4 main_arg4
  let main_cst_4 : FVec F S_ .f32 := constant S_ .f32 0x00000000#32
  let main_v15 : FVec F S2816x1024 .f32 := broadcastInDim S2816x1024 ![] bcast_S_S2816x1024 main_cst_4
  let main_v16 : IVec S2816x1024 1 := cmpf .oeq main_v14 main_v15
  fn_part1 (F := F) main_arg5 main_v13 main_v16
-- ==== Pre_finite_ffn.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x3072 : S_.BroadcastsInDim S1x3072 (![] : Fin 0 → Fin S1x3072.rank)
  reducesTo_S1x3072_S_d0_1 : S1x3072.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part1 {F : FTy → Type} [FloatOps F] (main_arg5 : FVec F S1x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x2048x1024 .f32 := subf main_arg5 main_arg5
  let main_cst_6 : FVec F S_ .f32 := constant S_ .f32 0x00000000#32
  let main_v20 : FVec F S1x2048x1024 .f32 := broadcastInDim S1x2048x1024 ![] bcast_S_S1x2048x1024 main_cst_6
  let main_v21 : IVec S1x2048x1024 1 := cmpf .oeq main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  main_v23

def fn {F : FTy → Type} [FloatOps F] (main_arg0 : FVec F S1x2048x1024 .f32) (main_arg1 : FVec F S1x3072 .f32) (main_arg2 : FVec F S1024 .f32) (main_arg3 : FVec F S1024x5632 .f32) (main_arg4 : FVec F S2816x1024 .f32) (main_arg5 : FVec F S1x2048x1024 .f32) : IVec S_ 1 :=
  let main_v0 : FVec F S1x3072 .f32 := subf main_arg1 main_arg1
  let main_cst : FVec F S_ .f32 := constant S_ .f32 0x00000000#32
  let main_v1 : FVec F S1x3072 .f32 := broadcastInDim S1x3072 ![] bcast_S_S1x3072 main_cst
  let main_v2 : IVec S1x3072 1 := cmpf .oeq main_v0 main_v1
  let main_c : IVec S_ 1 := constantI S_ 1 1#1
  let main_v3 : IVec S_ 1 := (fun x v => Host.reduce IntOp.andi x v reducesTo_S1x3072_S_d0_1 h_S_) main_v2 main_c
  let main_v4 : FVec F S1024 .f32 := subf main_arg2 main_arg2
  let main_cst_0 : FVec F S_ .f32 := constant S_ .f32 0x00000000#32
  let main_v5 : FVec F S1024 .f32 := broadcastInDim S1024 ![] bcast_S_S1024 main_cst_0
  let main_v6 : IVec S1024 1 := cmpf .oeq main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := subf main_arg3 main_arg3
  let main_cst_2 : FVec F S_ .f32 := constant S_ .f32 0x00000000#32
  let main_v10 : FVec F S1024x5632 .f32 := broadcastInDim S1024x5632 ![] bcast_S_S1024x5632 main_cst_2
  let main_v11 : IVec S1024x5632 1 := cmpf .oeq main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := subf main_arg4 main_arg4
  let main_cst_4 : FVec F S_ .f32 := constant S_ .f32 0x00000000#32
  let main_v15 : FVec F S2816x1024 .f32 := broadcastInDim S2816x1024 ![] bcast_S_S2816x1024 main_cst_4
  let main_v16 : IVec S2816x1024 1 := cmpf .oeq main_v14 main_v15
  fn_part1 (F := F) main_arg5 main_v13 main_v16
-- ==== Dx.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S1x2048x5632 : Shape := ⟨3, ![1, 2048, 5632]⟩
abbrev S1x1024 : Shape := ⟨2, ![1, 1024]⟩
abbrev S1x3x1024 : Shape := ⟨3, ![1, 3, 1024]⟩
abbrev S3x1024 : Shape := ⟨2, ![3, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S8x704x1024 : Shape := ⟨3, ![8, 704, 1024]⟩
abbrev S2048x22x256 : Shape := ⟨3, ![2048, 22, 256]⟩
abbrev S22x2048x256 : Shape := ⟨3, ![22, 2048, 256]⟩
abbrev S2x1024 : Shape := ⟨2, ![2, 1024]⟩
abbrev S5x1024 : Shape := ⟨2, ![5, 1024]⟩
abbrev S2048x1024 : Shape := ⟨2, ![2048, 1024]⟩
abbrev S256x1024 : Shape := ⟨2, ![256, 1024]⟩
abbrev S22x256x256 : Shape := ⟨3, ![22, 256, 256]⟩
abbrev S256x5632 : Shape := ⟨2, ![256, 5632]⟩
abbrev S4x8x1024 : Shape := ⟨3, ![4, 8, 1024]⟩
abbrev S8 : Shape := ⟨1, ![8]⟩
abbrev S1 : Shape := ⟨1, ![1]⟩
abbrev S704x1024 : Shape := ⟨2, ![704, 1024]⟩
abbrev S1x704x1024 : Shape := ⟨3, ![1, 704, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x8x1024 : Shape := ⟨3, ![1, 8, 1024]⟩
abbrev S32x8x1024 : Shape := ⟨3, ![32, 8, 1024]⟩

abbrev nBuf : Space → Nat
  | .hbm => 28
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S1x2048x1024, .f32⟩
  | .hbm, ⟨5, _⟩ => ⟨S1x2048x5632, .f32⟩
  | .hbm, ⟨6, _⟩ => ⟨S1x1024, .f32⟩
  | .hbm, ⟨7, _⟩ => ⟨S1x3x1024, .f32⟩
  | .hbm, ⟨8, _⟩ => ⟨S3x1024, .f32⟩
  | .hbm, ⟨9, _⟩ => ⟨S1x1024, .f32⟩
  | .hbm, ⟨10, _⟩ => ⟨S_, .f32⟩
  | .hbm, ⟨11, _⟩ => ⟨S4x1024, .f32⟩
  | .hbm, ⟨12, _⟩ => ⟨S8x1024, .f32⟩
  | .hbm, ⟨13, _⟩ => ⟨S5632x1024, .f32⟩
  | .hbm, ⟨14, _⟩ => ⟨S5632x1024, .bf16⟩
  | .hbm, ⟨15, _⟩ => ⟨S8x704x1024, .bf16⟩
  | .hbm, ⟨16, _⟩ => ⟨S2048x22x256, .f32⟩
  | .hbm, ⟨17, _⟩ => ⟨S22x2048x256, .f32⟩
  | .hbm, ⟨18, _⟩ => ⟨S22x2048x256, .bf16⟩
  | .hbm, ⟨19, _⟩ => ⟨S_, .f32⟩
  | .hbm, ⟨20, _⟩ => ⟨S2x1024, .f32⟩
  | .hbm, ⟨21, _⟩ => ⟨S_, .f32⟩
  | .hbm, ⟨22, _⟩ => ⟨S5x1024, .f32⟩
  | .hbm, ⟨23, _⟩ => ⟨S8x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S22x256x256, .bf16⟩
  | .local _ .vmem, ⟨6, _⟩ => ⟨S22x256x256, .bf16⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S5632x1024, .bf16⟩
  | .local _ .vmem, ⟨12, _⟩ => ⟨S256x5632, .bf16⟩
  | .local _ .vmem, ⟨13, _⟩ => ⟨S4x8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v180 : BitVec 1 := Scalar.cmpi .eq arg0 c7_i32
  let v181 : BitVec 32 := Scalar.extui v180
  let c0_i32_109 : BitVec 32 := 0#32
  let v182 : BitVec 1 := Scalar.cmpi .ne v181 c0_i32_109
  v182

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S22x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxRefIdeal.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S1x2048x5632 : Shape := ⟨3, ![1, 2048, 5632]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩
abbrev S3x1024 : Shape := ⟨2, ![3, 1024]⟩
abbrev S4x1024 : Shape := ⟨2, ![4, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S1x2048x1024, .f32⟩
  | .hbm, ⟨5, _⟩ => ⟨S1x2048x5632, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x5632, .f32⟩
  | .hbm, ⟨41, _⟩ => ⟨S1x1x1024, .f32⟩
  | .hbm, ⟨42, _⟩ => ⟨S1x2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S1x2048x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x2048x1024, .f32⟩
  | .hbm, ⟨57, _⟩ => ⟨S1x2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1x2048x1024, .f32⟩
  | .hbm, ⟨62, _⟩ => ⟨S_, .f32⟩
  | .hbm, ⟨63, _⟩ => ⟨S1x1024, .f32⟩
  | .hbm, ⟨64, _⟩ => ⟨S1x1x1024, .f32⟩
  | .hbm, ⟨65, _⟩ => ⟨S1x2048x1024, .f32⟩
  | .hbm, ⟨66, _⟩ => ⟨S1x2048x1024, .f32⟩
  | .hbm, ⟨67, _⟩ => ⟨S_, .f32⟩
  | .hbm, ⟨68, _⟩ => ⟨S1024, .f32⟩
  | .hbm, ⟨69, _⟩ => ⟨S1x2048x1024, .f32⟩
  | .hbm, ⟨70, _⟩ => ⟨S_, .f32⟩
  | .hbm, ⟨71, _⟩ => ⟨S1x2048, .f32⟩
  | .hbm, ⟨72, _⟩ => ⟨S1x2048x1, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x2048x1, .f32⟩
  | .hbm, ⟨77, _⟩ => ⟨S_, .f32⟩
  | .hbm, ⟨78, _⟩ => ⟨S1x2048x1, .f32⟩
  | .hbm, ⟨79, _⟩ => ⟨S1x2048x1, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S1x2048x1024, .f32⟩
  | .hbm, ⟨84, _⟩ => ⟨S1x2048x1024, .f32⟩
  | .hbm, ⟨85, _⟩ => ⟨S1x2048x1024, .f32⟩
  | .hbm, ⟨86, _⟩ => ⟨S1x2048x1024, .f32⟩
  | .hbm, ⟨87, _⟩ => ⟨S1x2048x1024, .f32⟩
  | .hbm, ⟨88, _⟩ => ⟨S1x3072, .f32⟩
  | .hbm, ⟨89, _⟩ => ⟨S2048x1024, .f32⟩
  | .hbm, ⟨90, _⟩ => ⟨S3x1024, .f32⟩
  | .hbm, ⟨91, _⟩ => ⟨S1x1024, .f32⟩
  | .hbm, ⟨92, _⟩ => ⟨S_, .f32⟩
  | .hbm, ⟨93, _⟩ => ⟨S4x1024, .f32⟩
  | .hbm, ⟨94, _⟩ => ⟨S8x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Acts.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S8x352x1024 : Shape := ⟨3, ![8, 352, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048x1024 : Shape := ⟨2, ![2048, 1024]⟩
abbrev S2048x11x256 : Shape := ⟨3, ![2048, 11, 256]⟩
abbrev S11x2048x256 : Shape := ⟨3, ![11, 2048, 256]⟩
abbrev S22x2048x256 : Shape := ⟨3, ![22, 2048, 256]⟩
abbrev S256x1024 : Shape := ⟨2, ![256, 1024]⟩
abbrev S11x256x256 : Shape := ⟨3, ![11, 256, 256]⟩
abbrev S22x256x256 : Shape := ⟨3, ![22, 256, 256]⟩
abbrev S8 : Shape := ⟨1, ![8]⟩
abbrev S1 : Shape := ⟨1, ![1]⟩
abbrev S352x1024 : Shape := ⟨2, ![352, 1024]⟩
abbrev S1x352x1024 : Shape := ⟨3, ![1, 352, 1024]⟩
abbrev S32x8x1024 : Shape := ⟨3, ![32, 8, 1024]⟩
abbrev S256x256 : Shape := ⟨2, ![256, 256]⟩
abbrev S1x256x256 : Shape := ⟨3, ![1, 256, 256]⟩
abbrev S2x1024 : Shape := ⟨2, ![2, 1024]⟩
abbrev S5x1024 : Shape := ⟨2, ![5, 1024]⟩

abbrev nBuf : Space → Nat
  | .hbm => 68
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x2048x1024, .f32⟩
  | .hbm, ⟨6, _⟩ => ⟨S1x3x1024, .f32⟩
  | .hbm, ⟨7, _⟩ => ⟨S3x1024, .f32⟩
  | .hbm, ⟨8, _⟩ => ⟨S1x1024, .f32⟩
  | .hbm, ⟨9, _⟩ => ⟨S_, .f32⟩
  | .hbm, ⟨10, _⟩ => ⟨S4x1024, .f32⟩
  | .hbm, ⟨11, _⟩ => ⟨S8x1024, .f32⟩
  | .hbm, ⟨12, _⟩ => ⟨S2816x1024, .bf16⟩
  | .hbm, ⟨13, _⟩ => ⟨S8x352x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x2048x1024, .f32⟩
  | .hbm, ⟨18, _⟩ => ⟨S_, .f32⟩
  | .hbm, ⟨19, _⟩ => ⟨S1x2048, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x1, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x1024, .f32⟩
  | .hbm, ⟨41, _⟩ => ⟨S1x2048x1024, .f32⟩
  | .hbm, ⟨42, _⟩ => ⟨S1x1x1024, .f32⟩
  | .hbm, ⟨43, _⟩ => ⟨S1x2048x5632, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S_, .f32⟩
  | .hbm, ⟨49, _⟩ => ⟨S1x2048x2816, .f32⟩
  | .hbm, ⟨50, _⟩ => ⟨S1x2048x2816, .f32⟩
  | .hbm, ⟨51, _⟩ => ⟨S_, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S1x2048x1024, .f32⟩
  | .hbm, ⟨57, _⟩ => ⟨S2048x1024, .f32⟩
  | .hbm, ⟨58, _⟩ => ⟨S2048x11x256, .f32⟩
  | .hbm, ⟨59, _⟩ => ⟨S11x2048x256, .f32⟩
  | .hbm, ⟨60, _⟩ => ⟨S11x2048x256, .bf16⟩
  | .hbm, ⟨61, _⟩ => ⟨S2048x11x256, .f32⟩
  | .hbm, ⟨62, _⟩ => ⟨S11x2048x256, .f32⟩
  | .hbm, ⟨63, _⟩ => ⟨S11x2048x256, .bf16⟩
  | .hbm, ⟨64, _⟩ => ⟨S2048x1024, .f32⟩
  | .hbm, ⟨65, _⟩ => ⟨S22x2048x256, .bf16⟩
  | .hbm, ⟨66, _⟩ => ⟨S2048x1024, .bf16⟩
  | .hbm, ⟨67, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S11x256x256, .bf16⟩
  | .local _ .vmem, ⟨4, _⟩ => ⟨S11x256x256, .bf16⟩
  | .local _ .vmem, ⟨5, _⟩ => ⟨S11x256x256, .bf16⟩
  | .local _ .vmem, ⟨6, _⟩ => ⟨S11x256x256, .bf16⟩
  | .local _ .vmem, ⟨7, _⟩ => ⟨S256x1024, .f32⟩
  | .local _ .vmem, ⟨8, _⟩ => ⟨S256x1024, .f32⟩
  | .local _ .vmem, ⟨9, _⟩ => ⟨S22x256x256, .bf16⟩
  | .local _ .vmem, ⟨10, _⟩ => ⟨S22x256x256, .bf16⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S2816x1024, .bf16⟩
  | .local _ .vmem, ⟨15, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_v46_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v322 : BitVec 1 := Scalar.cmpi .eq arg0 c7_i32
  let v323 : BitVec 32 := Scalar.extui v322
  let c0_i32_170 : BitVec 32 := 0#32
  let v324 : BitVec 1 := Scalar.cmpi .ne v323 c0_i32_170
  v324

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S11x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S11x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S22x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ActsRefIdeal.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x2048x5632 : Shape := ⟨3, ![1, 2048, 5632]⟩
abbrev S1x1024 : Shape := ⟨2, ![1, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x2048x2816 : Shape := ⟨3, ![1, 2048, 2816]⟩
abbrev S2x1024 : Shape := ⟨2, ![2, 1024]⟩
abbrev S5x1024 : Shape := ⟨2, ![5, 1024]⟩
abbrev S8x1024 : Shape := ⟨2, ![8, 1024]⟩
abbrev S2048x22x256 : Shape := ⟨3, ![2048, 22, 256]⟩
abbrev S22x2048x256 : Shape := ⟨3, ![22, 2048, 256]⟩
abbrev S2048x1024 : Shape := ⟨2, ![2048, 1024]⟩

abbrev nBuf : Space → Nat
  | .hbm => 97
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x2048x1024, .f32⟩
  | .hbm, ⟨6, _⟩ => ⟨S_, .f32⟩
  | .hbm, ⟨7, _⟩ => ⟨S1x2048x5632, .f32⟩
  | .hbm, ⟨8, _⟩ => ⟨S_, .f32⟩
  | .hbm, ⟨9, _⟩ => ⟨S1x2048x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x2048x1024, .f32⟩
  | .hbm, ⟨15, _⟩ => ⟨S_, .f32⟩
  | .hbm, ⟨16, _⟩ => ⟨S1x2048, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x1, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x5632, .f32⟩
  | .hbm, ⟨41, _⟩ => ⟨S1x2048x5632, .f32⟩
  | .hbm, ⟨42, _⟩ => ⟨S1x2048x2816, .f32⟩
  | .hbm, ⟨43, _⟩ => ⟨S1x2048x2816, .f32⟩
  | .hbm, ⟨44, _⟩ => ⟨S1x1x1024, .f32⟩
  | .hbm, ⟨45, _⟩ => ⟨S_, .f32⟩
  | .hbm, ⟨46, _⟩ => ⟨S1x1x1024, .f32⟩
  | .hbm, ⟨47, _⟩ => ⟨S1x1x1024, .f32⟩
  | .hbm, ⟨48, _⟩ => ⟨S1x2048x2816, .f32⟩
  | .hbm, ⟨49, _⟩ => ⟨S1x2048x2816, .f32⟩
  | .hbm, ⟨50, _⟩ => ⟨S_, .f32⟩
  | .hbm, ⟨51, _⟩ => ⟨S1x2048x2816, .f32⟩
  | .hbm, ⟨52, _⟩ => ⟨S1x2048x2816, .f32⟩
  | .hbm, ⟨53, _⟩ => ⟨S_, .f32⟩
  | .hbm, ⟨54, _⟩ => ⟨S1x2048x2816, .f32⟩
  | .hbm, ⟨55, _⟩ => ⟨S1x2048x2816, .f32⟩
  | .hbm, ⟨56, _⟩ => ⟨S_, .f32⟩
  | .hbm, ⟨57, _⟩ => ⟨S1x2048x2816, .f32⟩
  | .hbm, ⟨58, _⟩ => ⟨S1x2048x2816, .f32⟩
  | .hbm, ⟨59, _⟩ => ⟨S1x2048x2816, .f32⟩
  | .hbm, ⟨60, _⟩ => ⟨S1x2048x2816, .f32⟩
  | .hbm, ⟨61, _⟩ => ⟨S1x2048x2816, .f32⟩
  | .hbm, ⟨62, _⟩ => ⟨S1x2048x1024, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S_, .f32⟩
  | .hbm, ⟨71, _⟩ => ⟨S1x1024, .f32⟩
  | .hbm, ⟨72, _⟩ => ⟨S1x1x1024, .f32⟩
  | .hbm, ⟨73, _⟩ => ⟨S1x2048x2816, .f32⟩
  | .hbm, ⟨74, _⟩ => ⟨S1x2048x2816, .f32⟩
  | .hbm, ⟨75, _⟩ => ⟨S1x2048x2816, .f32⟩
  | .hbm, ⟨76, _⟩ => ⟨S1x2048x2816, .f32⟩
  | .hbm, ⟨77, _⟩ => ⟨S1x2048x2816, .f32⟩
  | .hbm, ⟨78, _⟩ => ⟨S1x2048x2816, .f32⟩
  | .hbm, ⟨79, _⟩ => ⟨S1x2048x2816, .f32⟩
  | .hbm, ⟨80, _⟩ => ⟨S_, .f32⟩
  | .hbm, ⟨81, _⟩ => ⟨S1x1x1024, .f32⟩
  | .hbm, ⟨82, _⟩ => ⟨S1x1x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S1x2048x5632, .f32⟩
  | .hbm, ⟨87, _⟩ => ⟨S_, .f32⟩
  | .hbm, ⟨88, _⟩ => ⟨S2x1024, .f32⟩
  | .hbm, ⟨89, _⟩ => ⟨S_, .f32⟩
  | .hbm, ⟨90, _⟩ => ⟨S5x1024, .f32⟩
  | .hbm, ⟨91, _⟩ => ⟨S8x1024, .f32⟩
  | .hbm, ⟨92, _⟩ => ⟨S2048x22x256, .f32⟩
  | .hbm, ⟨93, _⟩ => ⟨S22x2048x256, .f32⟩
  | .hbm, ⟨94, _⟩ => ⟨S22x2048x256, .bf16⟩
  | .hbm, ⟨95, _⟩ => ⟨S2048x1024, .f32⟩
  | .hbm, ⟨96, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v35_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v35_1 : Ref sig .tc := ⟨.hbm, 59, rfl⟩
abbrev main_v35_0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Ffn.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048x1024 : Shape := ⟨2, ![2048, 1024]⟩
abbrev S2048x11x256 : Shape := ⟨3, ![2048, 11, 256]⟩
abbrev S11x2048x256 : Shape := ⟨3, ![11, 2048, 256]⟩
abbrev S22x2048x256 : Shape := ⟨3, ![22, 2048, 256]⟩
abbrev S256x1024 : Shape := ⟨2, ![256, 1024]⟩
abbrev S11x256x256 : Shape := ⟨3, ![11, 256, 256]⟩
abbrev S22x256x256 : Shape := ⟨3, ![22, 256, 256]⟩
abbrev S256x5632 : Shape := ⟨2, ![256, 5632]⟩
abbrev S4x8x1024 : Shape := ⟨3, ![4, 8, 1024]⟩
abbrev S16 : Shape := ⟨1, ![16]⟩
abbrev S1 : Shape := ⟨1, ![1]⟩
abbrev S704x1024 : Shape := ⟨2, ![704, 1024]⟩
abbrev S1x704x1024 : Shape := ⟨3, ![1, 704, 1024]⟩
abbrev S352x1024 : Shape := ⟨2, ![352, 1024]⟩
abbrev S1x352x1024 : Shape := ⟨3, ![1, 352, 1024]⟩
abbrev S1x8x1024 : Shape := ⟨3, ![1, 8, 1024]⟩
abbrev S32x8x1024 : Shape := ⟨3, ![32, 8, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 73
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x2048x1024, .f32⟩
  | .hbm, ⟨6, _⟩ => ⟨S1x3x1024, .f32⟩
  | .hbm, ⟨7, _⟩ => ⟨S3x1024, .f32⟩
  | .hbm, ⟨8, _⟩ => ⟨S1x1024, .f32⟩
  | .hbm, ⟨9, _⟩ => ⟨S_, .f32⟩
  | .hbm, ⟨10, _⟩ => ⟨S4x1024, .f32⟩
  | .hbm, ⟨11, _⟩ => ⟨S8x1024, .f32⟩
  | .hbm, ⟨12, _⟩ => ⟨S5632x1024, .f32⟩
  | .hbm, ⟨13, _⟩ => ⟨S5632x1024, .bf16⟩
  | .hbm, ⟨14, _⟩ => ⟨S8x704x1024, .bf16⟩
  | .hbm, ⟨15, _⟩ => ⟨S2816x1024, .bf16⟩
  | .hbm, ⟨16, _⟩ => ⟨S8x352x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x2048x1024, .f32⟩
  | .hbm, ⟨21, _⟩ => ⟨S_, .f32⟩
  | .hbm, ⟨22, _⟩ => ⟨S1x2048, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S_, .f32⟩
  | .hbm, ⟨28, _⟩ => ⟨S1x2048x1, .f32⟩
  | .hbm, ⟨29, _⟩ => ⟨S1x2048x1, .f32⟩
  | .hbm, ⟨30, _⟩ => ⟨S1x2048x1, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x1x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S1x2048x1024, .f32⟩
  | .hbm, ⟨41, _⟩ => ⟨S1x2048x1024, .f32⟩
  | .hbm, ⟨42, _⟩ => ⟨S1x1x1024, .f32⟩
  | .hbm, ⟨43, _⟩ => ⟨S1x2048x1024, .f32⟩
  | .hbm, ⟨44, _⟩ => ⟨S1x2048x1024, .f32⟩
  | .hbm, ⟨45, _⟩ => ⟨S1x1x1024, .f32⟩
  | .hbm, ⟨46, _⟩ => ⟨S1x2048x5632, .f32⟩
  | .hbm, ⟨47, _⟩ => ⟨S1x2048x2816, .f32⟩
  | .hbm, ⟨48, _⟩ => ⟨S1x2048x2816, .f32⟩
  | .hbm, ⟨49, _⟩ => ⟨S1x2048x2816, .f32⟩
  | .hbm, ⟨50, _⟩ => ⟨S1x2048x2816, .f32⟩
  | .hbm, ⟨51, _⟩ => ⟨S_, .f32⟩
  | .hbm, ⟨52, _⟩ => ⟨S1x2048x2816, .f32⟩
  | .hbm, ⟨53, _⟩ => ⟨S1x2048x2816, .f32⟩
  | .hbm, ⟨54, _⟩ => ⟨S_, .f32⟩
  | .hbm, ⟨55, _⟩ => ⟨S1x2048x2816, .f32⟩
  | .hbm, ⟨56, _⟩ => ⟨S1x2048x2816, .f32⟩
  | .hbm, ⟨57, _⟩ => ⟨S1x2048x2816, .f32⟩
  | .hbm, ⟨58, _⟩ => ⟨S1x2048x2816, .f32⟩
  | .hbm, ⟨59, _⟩ => ⟨S1x2048x1024, .f32⟩
  | .hbm, ⟨60, _⟩ => ⟨S2048x1024, .f32⟩
  | .hbm, ⟨61, _⟩ => ⟨S2048x1024, .f32⟩
  | .hbm, ⟨62, _⟩ => ⟨S2048x11x256, .f32⟩
  | .hbm, ⟨63, _⟩ => ⟨S11x2048x256, .f32⟩
  | .hbm, ⟨64, _⟩ => ⟨S11x2048x256, .bf16⟩
  | .hbm, ⟨65, _⟩ => ⟨S2048x11x256, .f32⟩
  | .hbm, ⟨66, _⟩ => ⟨S11x2048x256, .f32⟩
  | .hbm, ⟨67, _⟩ => ⟨S11x2048x256, .bf16⟩
  | .hbm, ⟨68, _⟩ => ⟨S2048x1024, .f32⟩
  | .hbm, ⟨69, _⟩ => ⟨S2048x1024, .f32⟩
  | .hbm, ⟨70, _⟩ => ⟨S22x2048x256, .bf16⟩
  | .hbm, ⟨71, _⟩ => ⟨S2048x1024, .bf16⟩
  | .hbm, ⟨72, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S11x256x256, .bf16⟩
  | .local _ .vmem, ⟨6, _⟩ => ⟨S11x256x256, .bf16⟩
  | .local _ .vmem, ⟨7, _⟩ => ⟨S11x256x256, .bf16⟩
  | .local _ .vmem, ⟨8, _⟩ => ⟨S11x256x256, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S22x256x256, .bf16⟩
  | .local _ .vmem, ⟨14, _⟩ => ⟨S22x256x256, .bf16⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | .local _ .vmem, ⟨18, _⟩ => ⟨S5632x1024, .bf16⟩
  | .local _ .vmem, ⟨19, _⟩ => ⟨S2816x1024, .bf16⟩
  | .local _ .vmem, ⟨20, _⟩ => ⟨S256x5632, .bf16⟩
  | .local _ .vmem, ⟨21, _⟩ => ⟨S4x8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50_0 : Ref sig .tc := ⟨.hbm, 69, rfl⟩
abbrev main_v50_1 : Ref sig .tc := ⟨.hbm, 70, rfl⟩
abbrev main_v50_2 : Ref sig .tc := ⟨.hbm, 71, rfl⟩
abbrev main_v50_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v454 : BitVec 1 := Scalar.cmpi .eq arg0 c7_i32
  let v455 : BitVec 32 := Scalar.extui v454
  let c0_i32_245 : BitVec 32 := 0#32
  let v456 : BitVec 1 := Scalar.cmpi .ne v455 c0_i32_245
  v456

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S11x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S22x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x2048x5632 : Shape := ⟨3, ![1, 2048, 5632]⟩
abbrev S1x1024 : Shape := ⟨2, ![1, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x2048x2816 : Shape := ⟨3, ![1, 2048, 2816]⟩
abbrev S2048 : Shape := ⟨1, ![2048]⟩
abbrev S3x1024 : Shape := ⟨2, ![3, 1024]⟩
abbrev S4x1024 : Shape := ⟨2, ![4, 1024]⟩
abbrev S8x1024 : Shape := ⟨2, ![8, 1024]⟩
abbrev S2048x22x256 : Shape := ⟨3, ![2048, 22, 256]⟩
abbrev S22x2048x256 : Shape := ⟨3, ![22, 2048, 256]⟩
abbrev S2048x1024 : Shape := ⟨2, ![2048, 1024]⟩

abbrev nBuf : Space → Nat
  | .hbm => 145
  | .vmem => 0
  | .smem => 0
  | _ => 0

abbrev hbmTy0_0 (i : Nat) : BufTy := match i % 128 with
  | 0 => ⟨S1x2048x1024, .f32⟩
  | 1 => ⟨S1x3072, .f32⟩
  | 2 => ⟨S1024, .f32⟩
  | 3 => ⟨S1024x5632, .f32⟩
  | 4 => ⟨S2816x1024, .f32⟩
  | 5 => ⟨S1x2048x1024, .f32⟩
  | 6 => ⟨S_, .f32⟩
  | 7 => ⟨S1x2048x5632, .f32⟩
  | 8 => ⟨S_, .f32⟩
  | 9 => ⟨S1x2048x1024, .f32⟩
  | 10 => ⟨S1x1024, .f32⟩
  | 11 => ⟨S1x1024, .f32⟩
  | 12 => ⟨S1x1024, .f32⟩
  | 13 => ⟨S1x2048x1024, .f32⟩
  | 14 => ⟨S_, .f32⟩
  | 15 => ⟨S1x2048, .f32⟩
  | 16 => ⟨S1x2048x1, .f32⟩
  | 17 => ⟨S_, .f32⟩
  | 18 => ⟨S1x2048x1, .f32⟩
  | 19 => ⟨S1x2048x1, .f32⟩
  | 20 => ⟨S_, .f32⟩
  | 21 => ⟨S1x2048x1, .f32⟩
  | 22 => ⟨S1x2048x1, .f32⟩
  | 23 => ⟨S1x2048x1, .f32⟩
  | 24 => ⟨S1x2048x1, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S1x1x1024, .f32⟩
  | 31 => ⟨S1x2048x1024, .f32⟩
  | 32 => ⟨S1x2048x1024, .f32⟩
  | 33 => ⟨S1x1x1024, .f32⟩
  | 34 => ⟨S_, .f32⟩
  | 35 => ⟨S1x1x1024, .f32⟩
  | 36 => ⟨S1x1x1024, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S1x1x1024, .f32⟩
  | 43 => ⟨S1x2048x5632, .f32⟩
  | 44 => ⟨S1x2048x5632, .f32⟩
  | 45 => ⟨S1x2048x2816, .f32⟩
  | 46 => ⟨S1x2048x2816, .f32⟩
  | 47 => ⟨S_, .f32⟩
  | 48 => ⟨S1x1x1024, .f32⟩
  | 49 => ⟨S1x1x1024, .f32⟩
  | 50 => ⟨S1x2048x2816, .f32⟩
  | 51 => ⟨S1x2048x2816, .f32⟩
  | 52 => ⟨S_, .f32⟩
  | 53 => ⟨S1x2048x2816, .f32⟩
  | 54 => ⟨S1x2048x2816, .f32⟩
  | 55 => ⟨S_, .f32⟩
  | 56 => ⟨S1x2048x2816, .f32⟩
  | 57 => ⟨S1x2048x2816, .f32⟩
  | 58 => ⟨S_, .f32⟩
  | 59 => ⟨S1x2048x2816, .f32⟩
  | 60 => ⟨S1x2048x2816, .f32⟩
  | 61 => ⟨S1x2048x2816, .f32⟩
  | 62 => ⟨S1x2048x2816, .f32⟩
  | 63 => ⟨S1x2048x2816, .f32⟩
  | 64 => ⟨S1x2048x1024, .f32⟩
  | 65 => ⟨S1x2048x1024, .f32⟩
  | 66 => ⟨S1x2048x1024, .f32⟩
  | 67 => ⟨S1x2048x1024, .f32⟩
  | 68 => ⟨S1x2048x1024, .f32⟩
  | 69 => ⟨S1x2048x1024, .f32⟩
  | 70 => ⟨S1x2048x1024, .f32⟩
  | 71 => ⟨S1x2048x1024, .f32⟩
  | 72 => ⟨S1x2048x1024, .f32⟩
  | 73 => ⟨S_, .f32⟩
  | 74 => ⟨S1x1024, .f32⟩
  | 75 => ⟨S1x1x1024, .f32⟩
  | 76 => ⟨S1x2048x2816, .f32⟩
  | 77 => ⟨S1x2048x2816, .f32⟩
  | 78 => ⟨S1x2048x2816, .f32⟩
  | 79 => ⟨S1x2048x2816, .f32⟩
  | 80 => ⟨S1x2048x2816, .f32⟩
  | 81 => ⟨S1x2048x2816, .f32⟩
  | 82 => ⟨S1x2048x2816, .f32⟩
  | 83 => ⟨S_, .f32⟩
  | 84 => ⟨S1x1x1024, .f32⟩
  | 85 => ⟨S1x1x1024, .f32⟩
  | 86 => ⟨S1x2048x5632, .f32⟩
  | 87 => ⟨S1x2048x1024, .f32⟩
  | 88 => ⟨S_, .f32⟩
  | 89 => ⟨S1024, .f32⟩
  | 90 => ⟨S1x1024, .f32⟩
  | 91 => ⟨S_, .f32⟩
  | 92 => ⟨S1x1024, .f32⟩
  | 93 => ⟨S1x1x1024, .f32⟩
  | 94 => ⟨S_, .f32⟩
  | 95 => ⟨S1024, .f32⟩
  | 96 => ⟨S1x1024, .f32⟩
  | 97 => ⟨S1x2048x1024, .f32⟩
  | 98 => ⟨S_, .f32⟩
  | 99 => ⟨S1x1024, .f32⟩
  | 100 => ⟨S1x1x1024, .f32⟩
  | 101 => ⟨S1x2048x1024, .f32⟩
  | 102 => ⟨S1x2048x1024, .f32⟩
  | 103 => ⟨S_, .f32⟩
  | 104 => ⟨S1024, .f32⟩
  | 105 => ⟨S1x1024, .f32⟩
  | 106 => ⟨S1x2048x1024, .f32⟩
  | 107 => ⟨S_, .f32⟩
  | 108 => ⟨S1x1024, .f32⟩
  | 109 => ⟨S1x1x1024, .f32⟩
  | 110 => ⟨S1x2048x1024, .f32⟩
  | 111 => ⟨S1x2048x1024, .f32⟩
  | 112 => ⟨S_, .f32⟩
  | 113 => ⟨S1024, .f32⟩
  | 114 => ⟨S1x2048x1024, .f32⟩
  | 115 => ⟨S_, .f32⟩
  | 116 => ⟨S1x2048, .f32⟩
  | 117 => ⟨S1x2048x1, .f32⟩
  | 118 => ⟨S1x2048x1024, .f32⟩
  | 119 => ⟨S1x2048x1024, .f32⟩
  | 120 => ⟨S1x2048x1024, .f32⟩
  | 121 => ⟨S1x2048x1, .f32⟩
  | 122 => ⟨S_, .f32⟩
  | 123 => ⟨S1x2048x1, .f32⟩
  | 124 => ⟨S1x2048x1, .f32⟩
  | 125 => ⟨S_, .f32⟩
  | 126 => ⟨S2048, .f32⟩
  | 127 => ⟨S1x2048, .f32⟩
  | _ => ⟨S1x2048x1024, .f32⟩

abbrev hbmTy0_1 (i : Nat) : BufTy := match i % 128 with
  | 0 => ⟨S1x2048x1024, .f32⟩
  | 1 => ⟨S1x2048x1024, .f32⟩
  | 2 => ⟨S1x2048x1024, .f32⟩
  | 3 => ⟨S1x2048x1024, .f32⟩
  | 4 => ⟨S1x2048x1024, .f32⟩
  | 5 => ⟨S1x3072, .f32⟩
  | 6 => ⟨S3x1024, .f32⟩
  | 7 => ⟨S1x1024, .f32⟩
  | 8 => ⟨S_, .f32⟩
  | 9 => ⟨S4x1024, .f32⟩
  | 10 => ⟨S8x1024, .f32⟩
  | 11 => ⟨S2048x22x256, .f32⟩
  | 12 => ⟨S22x2048x256, .f32⟩
  | 13 => ⟨S2048x1024, .f32⟩
  | 14 => ⟨S22x2048x256, .bf16⟩
  | 15 => ⟨S2048x1024, .f32⟩
  | 16 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v36_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v36_1 : Ref sig .tc := ⟨.hbm, 61, rfl⟩
abbrev main_v36_0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]
-- ==== Pool.lean ====
abbrev S1x2048x1024 : Shape := ⟨3, ![1, 2048, 1024]⟩
abbrev S1x3072 : Shape := ⟨2, ![1, 3072]⟩
abbrev S1024 : Shape := ⟨1, ![1024]⟩
abbrev S4x256x256 : Shape := ⟨3, ![4, 256, 256]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S4x8x32x256 : Shape := ⟨4, ![4, 8, 32, 256]⟩
abbrev S8x4x32x256 : Shape := ⟨4, ![8, 4, 32, 256]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S1x2048x256 : Shape := ⟨3, ![1, 2048, 256]⟩
abbrev S1x2x256 : Shape := ⟨3, ![1, 2, 256]⟩
abbrev S1x2046x256 : Shape := ⟨3, ![1, 2046, 256]⟩
abbrev S1x4x256 : Shape := ⟨3, ![1, 4, 256]⟩
abbrev S1x2044x256 : Shape := ⟨3, ![1, 2044, 256]⟩
abbrev S1x8x256 : Shape := ⟨3, ![1, 8, 256]⟩
abbrev S1x2040x256 : Shape := ⟨3, ![1, 2040, 256]⟩
abbrev S1x16x256 : Shape := ⟨3, ![1, 16, 256]⟩
abbrev S1x2032x256 : Shape := ⟨3, ![1, 2032, 256]⟩
abbrev S2048x1024 : Shape := ⟨2, ![2048, 1024]⟩
abbrev S1x256x256 : Shape := ⟨3, ![1, 256, 256]⟩
abbrev S256x256 : Shape := ⟨2, ![256, 256]⟩
abbrev S256x1024 : Shape := ⟨2, ![256, 1024]⟩
abbrev S16x1024 : Shape := ⟨2, ![16, 1024]⟩
abbrev S4x8x1024 : Shape := ⟨3, ![4, 8, 1024]⟩
abbrev S1x8x1024 : Shape := ⟨3, ![1, 8, 1024]⟩
abbrev S32x8x1024 : Shape := ⟨3, ![32, 8, 1024]⟩
abbrev S8x1x32x256 : Shape := ⟨4, ![8, 1, 32, 256]⟩
abbrev S8x32x256 : Shape := ⟨3, ![8, 32, 256]⟩
abbrev S256x1 : Shape := ⟨2, ![256, 1]⟩
abbrev S272x1024 : Shape := ⟨2, ![272, 1024]⟩
abbrev S272x768 : Shape := ⟨2, ![272, 768]⟩
abbrev S272x512 : Shape := ⟨2, ![272, 512]⟩
abbrev S272x256 : Shape := ⟨2, ![272, 256]⟩
abbrev S256 : Shape := ⟨1, ![256]⟩
abbrev S7x1024 : Shape := ⟨2, ![7, 1024]⟩

abbrev nBuf : Space → Nat
  | .hbm => 144
  | .vmem => 20
  | .smem => 0
  | _ => 0

abbrev hbmTy0_0 (i : Nat) : BufTy := match i % 128 with
  | 0 => ⟨S1x2048x1024, .f32⟩
  | 1 => ⟨S1x3072, .f32⟩
  | 2 => ⟨S1024, .f32⟩
  | 3 => ⟨S4x256x256, .f32⟩
  | 4 => ⟨S1024, .f32⟩
  | 5 => ⟨S1x2048x1024, .f32⟩
  | 6 => ⟨S1x3x1024, .f32⟩
  | 7 => ⟨S3x1024, .f32⟩
  | 8 => ⟨S1x1024, .f32⟩
  | 9 => ⟨S_, .f32⟩
  | 10 => ⟨S4x1024, .f32⟩
  | 11 => ⟨S8x1024, .f32⟩
  | 12 => ⟨S4x8x32x256, .f32⟩
  | 13 => ⟨S8x4x32x256, .f32⟩
  | 14 => ⟨S8x4x32x256, .bf16⟩
  | 15 => ⟨S1x1024, .f32⟩
  | 16 => ⟨S1x1024, .f32⟩
  | 17 => ⟨S1x1024, .f32⟩
  | 18 => ⟨S1x2048x1024, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S_, .f32⟩
  | 26 => ⟨S1x2048x1, .f32⟩
  | 27 => ⟨S1x2048x1, .f32⟩
  | 28 => ⟨S1x2048x1, .f32⟩
  | 29 => ⟨S1x2048x1024, .f32⟩
  | 30 => ⟨S1x2048x1024, .f32⟩
  | 31 => ⟨S1x1x1024, .f32⟩
  | 32 => ⟨S1x2048x1024, .f32⟩
  | 33 => ⟨S1x2048x1024, .f32⟩
  | 34 => ⟨S1x1x1024, .f32⟩
  | 35 => ⟨S_, .f32⟩
  | 36 => ⟨S1x1x1024, .f32⟩
  | 37 => ⟨S1x1x1024, .f32⟩
  | 38 => ⟨S1x2048x1024, .f32⟩
  | 39 => ⟨S1x2048x1024, .f32⟩
  | 40 => ⟨S1x1x1024, .f32⟩
  | 41 => ⟨S1x2048x1024, .f32⟩
  | 42 => ⟨S1x2048x1024, .f32⟩
  | 43 => ⟨S1x1x1024, .f32⟩
  | 44 => ⟨S_, .f32⟩
  | 45 => ⟨S_, .f32⟩
  | 46 => ⟨S1x2048x1024, .f32⟩
  | 47 => ⟨S2048, .i32⟩
  | 48 => ⟨S1x2048x256, .f32⟩
  | 49 => ⟨S_, .f32⟩
  | 50 => ⟨S1x2x256, .f32⟩
  | 51 => ⟨S1x2046x256, .f32⟩
  | 52 => ⟨S1x2048x256, .f32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S2048, .f32⟩
  | 60 => ⟨S1x2048x1, .f32⟩
  | 61 => ⟨S1x2048x256, .f32⟩
  | 62 => ⟨S1x2048x256, .f32⟩
  | 63 => ⟨S1x2048x256, .f32⟩
  | 64 => ⟨S1x2048x256, .f32⟩
  | 65 => ⟨S1x2048x256, .f32⟩
  | 66 => ⟨S1x2048x256, .f32⟩
  | 67 => ⟨S_, .f32⟩
  | 68 => ⟨S1x4x256, .f32⟩
  | 69 => ⟨S1x2044x256, .f32⟩
  | 70 => ⟨S1x2048x256, .f32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S2048, .f32⟩
  | 78 => ⟨S1x2048x1, .f32⟩
  | 79 => ⟨S1x2048x256, .f32⟩
  | 80 => ⟨S1x2048x256, .f32⟩
  | 81 => ⟨S1x2048x256, .f32⟩
  | 82 => ⟨S1x2048x256, .f32⟩
  | 83 => ⟨S1x2048x256, .f32⟩
  | 84 => ⟨S1x2048x256, .f32⟩
  | 85 => ⟨S_, .f32⟩
  | 86 => ⟨S1x8x256, .f32⟩
  | 87 => ⟨S1x2040x256, .f32⟩
  | 88 => ⟨S1x2048x256, .f32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S2048, .f32⟩
  | 96 => ⟨S1x2048x1, .f32⟩
  | 97 => ⟨S1x2048x256, .f32⟩
  | 98 => ⟨S1x2048x256, .f32⟩
  | 99 => ⟨S1x2048x256, .f32⟩
  | 100 => ⟨S1x2048x256, .f32⟩
  | 101 => ⟨S1x2048x256, .f32⟩
  | 102 => ⟨S1x2048x256, .f32⟩
  | 103 => ⟨S_, .f32⟩
  | 104 => ⟨S1x16x256, .f32⟩
  | 105 => ⟨S1x2032x256, .f32⟩
  | 106 => ⟨S1x2048x256, .f32⟩
  | 107 => ⟨S_, .i32⟩
  | 108 => ⟨S2048, .i32⟩
  | 109 => ⟨S2048, .i32⟩
  | 110 => ⟨S_, .i32⟩
  | 111 => ⟨S2048, .i32⟩
  | 112 => ⟨S2048, .i32⟩
  | 113 => ⟨S2048, .f32⟩
  | 114 => ⟨S1x2048x1, .f32⟩
  | 115 => ⟨S1x2048x256, .f32⟩
  | 116 => ⟨S1x2048x256, .f32⟩
  | 117 => ⟨S1x2048x256, .f32⟩
  | 118 => ⟨S1x2048x256, .f32⟩
  | 119 => ⟨S1x2048x256, .f32⟩
  | 120 => ⟨S1x2048x1024, .f32⟩
  | 121 => ⟨S2048x1024, .f32⟩
  | 122 => ⟨S2048x1024, .bf16⟩
  | 123 => ⟨S1x256x256, .f32⟩
  | 124 => ⟨S256x256, .f32⟩
  | 125 => ⟨S1x2048x256, .f32⟩
  | 126 => ⟨S1x256x256, .f32⟩
  | 127 => ⟨S256x256, .f32⟩
  | _ => ⟨S1x2048x1024, .f32⟩

abbrev hbmTy0_1 (i : Nat) : BufTy := match i % 128 with
  | 0 => ⟨S1x2048x256, .f32⟩
  | 1 => ⟨S1x256x256, .f32⟩
  | 2 => ⟨S256x256, .f32⟩
  | 3 => ⟨S1x2048x256, .f32⟩
  | 4 => ⟨S1x256x256, .f32⟩
  | 5 => ⟨S256x256, .f32⟩
  | 6 => ⟨S1x2048x256, .f32⟩
  | 7 => ⟨S1x2048x1024, .f32⟩
  | 8 => ⟨S2048x1024, .f32⟩
  | 9 => ⟨S2048x1024, .f32⟩
  | 10 => ⟨S2048x1024, .f32⟩
  | 11 => ⟨S1x1024, .f32⟩
  | 12 => ⟨S2048x1024, .f32⟩
  | 13 => ⟨S8x1024, .f32⟩
  | 14 => ⟨S8x1024, .f32⟩
  | 15 => ⟨S4x256x256, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S8x4x32x256, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S8x1024, .f32⟩
  | .local _ .vmem, ⟨15, _⟩ => ⟨S4x256x256, .bf16⟩
  | .local _ .vmem, ⟨16, _⟩ => ⟨S16x1024, .f32⟩
  | .local _ .vmem, ⟨17, _⟩ => ⟨S4x8x1024, .f32⟩
  | .local _ .vmem, ⟨18, _⟩ => ⟨S8x1024, .f32⟩
  | .local _ .vmem, ⟨19, _⟩ => ⟨S4x256x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_call0_cst : Ref sig .tc := ⟨.hbm, 44, rfl⟩
abbrev main_call0_call0_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_10 : Ref sig .tc := ⟨.hbm, 89, rfl⟩
abbrev main_v69 : Ref sig .tc := ⟨.hbm, 90, rfl⟩
abbrev main_v70 : Ref sig .tc := ⟨.hbm, 91, rfl⟩
abbrev main_c_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_13 : Ref sig .tc := ⟨.hbm, 107, rfl⟩
abbrev main_v84 : Ref sig .tc := ⟨.hbm, 108, rfl⟩
abbrev main_v85 : Ref sig .tc := ⟨.hbm, 109, rfl⟩
abbrev main_c_14 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115_0 : Ref sig .tc := ⟨.hbm, 140, rfl⟩
abbrev main_v115_1 : Ref sig .tc := ⟨.hbm, 141, rfl⟩
abbrev main_v115_2 : Ref sig .tc := ⟨.hbm, 142, rfl⟩
abbrev main_v115_3 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_110 : BitVec 32 := 7#32
  let v208 : BitVec 1 := Scalar.cmpi .eq arg0 c7_i32_110
  let v209 : BitVec 32 := Scalar.extui v208
  let c0_i32_111 : BitVec 32 := 0#32
  let v210 : BitVec 1 := Scalar.cmpi .ne v209 c0_i32_111
  v210

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x4x32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PoolRefIdeal.lean ====
abbrev S1x2048x1024 : Shape := ⟨3, ![1, 2048, 1024]⟩
abbrev S1x3072 : Shape := ⟨2, ![1, 3072]⟩
abbrev S1024 : Shape := ⟨1, ![1024]⟩
abbrev S4x256x256 : Shape := ⟨3, ![4, 256, 256]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S1x2048x256 : Shape := ⟨3, ![1, 2048, 256]⟩
abbrev S1x2x256 : Shape := ⟨3, ![1, 2, 256]⟩
abbrev S1x2046x256 : Shape := ⟨3, ![1, 2046, 256]⟩
abbrev S1x4x256 : Shape := ⟨3, ![1, 4, 256]⟩
abbrev S1x2044x256 : Shape := ⟨3, ![1, 2044, 256]⟩
abbrev S1x8x256 : Shape := ⟨3, ![1, 8, 256]⟩
abbrev S1x2040x256 : Shape := ⟨3, ![1, 2040, 256]⟩
abbrev S1x16x256 : Shape := ⟨3, ![1, 16, 256]⟩
abbrev S1x2032x256 : Shape := ⟨3, ![1, 2032, 256]⟩
abbrev S1x256x256 : Shape := ⟨3, ![1, 256, 256]⟩
abbrev S256x256 : Shape := ⟨2, ![256, 256]⟩
abbrev S3x1024 : Shape := ⟨2, ![3, 1024]⟩
abbrev S4x1024 : Shape := ⟨2, ![4, 1024]⟩
abbrev S8x1024 : Shape := ⟨2, ![8, 1024]⟩
abbrev S2048x1024 : Shape := ⟨2, ![2048, 1024]⟩
abbrev S7x1024 : Shape := ⟨2, ![7, 1024]⟩

abbrev nBuf : Space → Nat
  | .hbm => 307
  | .vmem => 0
  | .smem => 0
  | _ => 0

abbrev hbmTy0_0 (i : Nat) : BufTy := match i % 128 with
  | 0 => ⟨S1x2048x1024, .f32⟩
  | 1 => ⟨S1x3072, .f32⟩
  | 2 => ⟨S1024, .f32⟩
  | 3 => ⟨S4x256x256, .f32⟩
  | 4 => ⟨S1024, .f32⟩
  | 5 => ⟨S1x2048x1024, .f32⟩
  | 6 => ⟨S1x1024, .f32⟩
  | 7 => ⟨S1x1024, .f32⟩
  | 8 => ⟨S1x1024, .f32⟩
  | 9 => ⟨S1x2048x1024, .f32⟩
  | 10 => ⟨S_, .f32⟩
  | 11 => ⟨S1x2048, .f32⟩
  | 12 => ⟨S1x2048x1, .f32⟩
  | 13 => ⟨S_, .f32⟩
  | 14 => ⟨S1x2048x1, .f32⟩
  | 15 => ⟨S1x2048x1, .f32⟩
  | 16 => ⟨S_, .f32⟩
  | 17 => ⟨S1x2048x1, .f32⟩
  | 18 => ⟨S1x2048x1, .f32⟩
  | 19 => ⟨S1x2048x1, .f32⟩
  | 20 => ⟨S1x2048x1, .f32⟩
  | 21 => ⟨S_, .f32⟩
  | 22 => ⟨S1x2048x1, .f32⟩
  | 23 => ⟨S1x2048x1, .f32⟩
  | 24 => ⟨S1x2048x1024, .f32⟩
  | 25 => ⟨S1x2048x1024, .f32⟩
  | 26 => ⟨S1x1x1024, .f32⟩
  | 27 => ⟨S1x2048x1024, .f32⟩
  | 28 => ⟨S1x2048x1024, .f32⟩
  | 29 => ⟨S1x1x1024, .f32⟩
  | 30 => ⟨S_, .f32⟩
  | 31 => ⟨S1x1x1024, .f32⟩
  | 32 => ⟨S1x1x1024, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1x1x1024, .f32⟩
  | 39 => ⟨S_, .f32⟩
  | 40 => ⟨S_, .f32⟩
  | 41 => ⟨S1x2048x1024, .f32⟩
  | 42 => ⟨S2048, .i32⟩
  | 43 => ⟨S1x2048x256, .f32⟩
  | 44 => ⟨S_, .f32⟩
  | 45 => ⟨S1x2x256, .f32⟩
  | 46 => ⟨S1x2046x256, .f32⟩
  | 47 => ⟨S1x2048x256, .f32⟩
  | 48 => ⟨S_, .f32⟩
  | 49 => ⟨S1x2x256, .f32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .f32⟩
  | 57 => ⟨S1x2048x1, .f32⟩
  | 58 => ⟨S1x2048x256, .f32⟩
  | 59 => ⟨S1x2048x256, .f32⟩
  | 60 => ⟨S1x2048x256, .f32⟩
  | 61 => ⟨S1x2048x256, .f32⟩
  | 62 => ⟨S1x2048x256, .f32⟩
  | 63 => ⟨S1x2048x256, .f32⟩
  | 64 => ⟨S_, .f32⟩
  | 65 => ⟨S1x4x256, .f32⟩
  | 66 => ⟨S1x2044x256, .f32⟩
  | 67 => ⟨S1x2048x256, .f32⟩
  | 68 => ⟨S_, .f32⟩
  | 69 => ⟨S1x4x256, .f32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S2048, .f32⟩
  | 77 => ⟨S1x2048x1, .f32⟩
  | 78 => ⟨S1x2048x256, .f32⟩
  | 79 => ⟨S1x2048x256, .f32⟩
  | 80 => ⟨S1x2048x256, .f32⟩
  | 81 => ⟨S1x2048x256, .f32⟩
  | 82 => ⟨S1x2048x256, .f32⟩
  | 83 => ⟨S1x2048x256, .f32⟩
  | 84 => ⟨S_, .f32⟩
  | 85 => ⟨S1x8x256, .f32⟩
  | 86 => ⟨S1x2040x256, .f32⟩
  | 87 => ⟨S1x2048x256, .f32⟩
  | 88 => ⟨S_, .f32⟩
  | 89 => ⟨S1x8x256, .f32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S2048, .f32⟩
  | 97 => ⟨S1x2048x1, .f32⟩
  | 98 => ⟨S1x2048x256, .f32⟩
  | 99 => ⟨S1x2048x256, .f32⟩
  | 100 => ⟨S1x2048x256, .f32⟩
  | 101 => ⟨S1x2048x256, .f32⟩
  | 102 => ⟨S1x2048x256, .f32⟩
  | 103 => ⟨S1x2048x256, .f32⟩
  | 104 => ⟨S_, .f32⟩
  | 105 => ⟨S1x16x256, .f32⟩
  | 106 => ⟨S1x2032x256, .f32⟩
  | 107 => ⟨S1x2048x256, .f32⟩
  | 108 => ⟨S_, .f32⟩
  | 109 => ⟨S1x16x256, .f32⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .f32⟩
  | 117 => ⟨S1x2048x1, .f32⟩
  | 118 => ⟨S1x2048x256, .f32⟩
  | 119 => ⟨S1x2048x256, .f32⟩
  | 120 => ⟨S1x2048x256, .f32⟩
  | 121 => ⟨S1x2048x256, .f32⟩
  | 122 => ⟨S1x2048x256, .f32⟩
  | 123 => ⟨S1x256x256, .f32⟩
  | 124 => ⟨S256x256, .f32⟩
  | 125 => ⟨S1x2048x256, .f32⟩
  | 126 => ⟨S1x256x256, .f32⟩
  | 127 => ⟨S256x256, .f32⟩
  | _ => ⟨S1x2048x1024, .f32⟩

abbrev hbmTy0_1 (i : Nat) : BufTy := match i % 128 with
  | 0 => ⟨S1x2048x256, .f32⟩
  | 1 => ⟨S1x256x256, .f32⟩
  | 2 => ⟨S256x256, .f32⟩
  | 3 => ⟨S1x2048x256, .f32⟩
  | 4 => ⟨S1x256x256, .f32⟩
  | 5 => ⟨S256x256, .f32⟩
  | 6 => ⟨S1x2048x256, .f32⟩
  | 7 => ⟨S1x2048x1024, .f32⟩
  | 8 => ⟨S1x1x1024, .f32⟩
  | 9 => ⟨S1x2048x1024, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S1x2048x1024, .f32⟩
  | 18 => ⟨S_, .f32⟩
  | 19 => ⟨S1x1024, .f32⟩
  | 20 => ⟨S1x1x1024, .f32⟩
  | 21 => ⟨S1x2048x1024, .f32⟩
  | 22 => ⟨S_, .f32⟩
  | 23 => ⟨S1x1024, .f32⟩
  | 24 => ⟨S1x1x1024, .f32⟩
  | 25 => ⟨S1x2048x1024, .f32⟩
  | 26 => ⟨S1x2048x1024, .f32⟩
  | 27 => ⟨S_, .f32⟩
  | 28 => ⟨S1024, .f32⟩
  | 29 => ⟨S1x2048x256, .f32⟩
  | 30 => ⟨S1x2048x256, .f32⟩
  | 31 => ⟨S1x2048x256, .f32⟩
  | 32 => ⟨S1x2048x256, .f32⟩
  | 33 => ⟨S256x256, .f32⟩
  | 34 => ⟨S256x256, .f32⟩
  | 35 => ⟨S1x2048x256, .f32⟩
  | 36 => ⟨S1x256x256, .f32⟩
  | 37 => ⟨S_, .f32⟩
  | 38 => ⟨S4x256x256, .f32⟩
  | 39 => ⟨S256x256, .f32⟩
  | 40 => ⟨S256x256, .f32⟩
  | 41 => ⟨S1x2048x256, .f32⟩
  | 42 => ⟨S1x256x256, .f32⟩
  | 43 => ⟨S_, .f32⟩
  | 44 => ⟨S4x256x256, .f32⟩
  | 45 => ⟨S4x256x256, .f32⟩
  | 46 => ⟨S256x256, .f32⟩
  | 47 => ⟨S256x256, .f32⟩
  | 48 => ⟨S1x2048x256, .f32⟩
  | 49 => ⟨S1x256x256, .f32⟩
  | 50 => ⟨S_, .f32⟩
  | 51 => ⟨S4x256x256, .f32⟩
  | 52 => ⟨S4x256x256, .f32⟩
  | 53 => ⟨S256x256, .f32⟩
  | 54 => ⟨S256x256, .f32⟩
  | 55 => ⟨S1x2048x256, .f32⟩
  | 56 => ⟨S1x256x256, .f32⟩
  | 57 => ⟨S_, .f32⟩
  | 58 => ⟨S4x256x256, .f32⟩
  | 59 => ⟨S4x256x256, .f32⟩
  | 60 => ⟨S1x2048x256, .f32⟩
  | 61 => ⟨S_, .f32⟩
  | 62 => ⟨S1x2048x1024, .f32⟩
  | 63 => ⟨S1x2048x256, .f32⟩
  | 64 => ⟨S1x2048x256, .f32⟩
  | 65 => ⟨S1x2048x256, .f32⟩
  | 66 => ⟨S1x16x256, .f32⟩
  | 67 => ⟨S1x2032x256, .f32⟩
  | 68 => ⟨S_, .f32⟩
  | 69 => ⟨S1x2048x256, .f32⟩
  | 70 => ⟨S1x2048x256, .f32⟩
  | 71 => ⟨S_, .f32⟩
  | 72 => ⟨S1x2048x1024, .f32⟩
  | 73 => ⟨S1x2048x256, .f32⟩
  | 74 => ⟨S_, .f32⟩
  | 75 => ⟨S1x2048x1024, .f32⟩
  | 76 => ⟨S1x2048x1024, .f32⟩
  | 77 => ⟨S1x2048x256, .f32⟩
  | 78 => ⟨S1x2048x256, .f32⟩
  | 79 => ⟨S1x2048x256, .f32⟩
  | 80 => ⟨S1x8x256, .f32⟩
  | 81 => ⟨S1x2040x256, .f32⟩
  | 82 => ⟨S_, .f32⟩
  | 83 => ⟨S1x2048x256, .f32⟩
  | 84 => ⟨S1x2048x256, .f32⟩
  | 85 => ⟨S_, .f32⟩
  | 86 => ⟨S1x2048x1024, .f32⟩
  | 87 => ⟨S1x2048x1024, .f32⟩
  | 88 => ⟨S1x2048x256, .f32⟩
  | 89 => ⟨S_, .f32⟩
  | 90 => ⟨S1x2048x1024, .f32⟩
  | 91 => ⟨S1x2048x1024, .f32⟩
  | 92 => ⟨S1x2048x256, .f32⟩
  | 93 => ⟨S1x2048x256, .f32⟩
  | 94 => ⟨S1x2048x256, .f32⟩
  | 95 => ⟨S1x4x256, .f32⟩
  | 96 => ⟨S1x2044x256, .f32⟩
  | 97 => ⟨S_, .f32⟩
  | 98 => ⟨S1x2048x256, .f32⟩
  | 99 => ⟨S1x2048x256, .f32⟩
  | 100 => ⟨S_, .f32⟩
  | 101 => ⟨S1x2048x1024, .f32⟩
  | 102 => ⟨S1x2048x1024, .f32⟩
  | 103 => ⟨S1x2048x256, .f32⟩
  | 104 => ⟨S_, .f32⟩
  | 105 => ⟨S1x2048x1024, .f32⟩
  | 106 => ⟨S1x2048x1024, .f32⟩
  | 107 => ⟨S1x2048x256, .f32⟩
  | 108 => ⟨S1x2048x256, .f32⟩
  | 109 => ⟨S1x2048x256, .f32⟩
  | 110 => ⟨S1x2x256, .f32⟩
  | 111 => ⟨S1x2046x256, .f32⟩
  | 112 => ⟨S_, .f32⟩
  | 113 => ⟨S1x2048x256, .f32⟩
  | 114 => ⟨S1x2048x256, .f32⟩
  | 115 => ⟨S_, .f32⟩
  | 116 => ⟨S1x2048x1024, .f32⟩
  | 117 => ⟨S1x2048x1024, .f32⟩
  | 118 => ⟨S_, .f32⟩
  | 119 => ⟨S_, .f32⟩
  | 120 => ⟨S1x2048x1024, .f32⟩
  | 121 => ⟨S1x2048x1024, .f32⟩
  | 122 => ⟨S_, .f32⟩
  | 123 => ⟨S1024, .f32⟩
  | 124 => ⟨S1x1024, .f32⟩
  | 125 => ⟨S_, .f32⟩
  | 126 => ⟨S1x1024, .f32⟩
  | 127 => ⟨S1x1x1024, .f32⟩
  | _ => ⟨S1x2048x1024, .f32⟩

abbrev hbmTy0_2 (i : Nat) : BufTy := match i % 128 with
  | 0 => ⟨S_, .f32⟩
  | 1 => ⟨S1024, .f32⟩
  | 2 => ⟨S1x1024, .f32⟩
  | 3 => ⟨S1x2048x1024, .f32⟩
  | 4 => ⟨S_, .f32⟩
  | 5 => ⟨S1x1024, .f32⟩
  | 6 => ⟨S1x1x1024, .f32⟩
  | 7 => ⟨S1x2048x1024, .f32⟩
  | 8 => ⟨S1x2048x1024, .f32⟩
  | 9 => ⟨S_, .f32⟩
  | 10 => ⟨S1024, .f32⟩
  | 11 => ⟨S1x1024, .f32⟩
  | 12 => ⟨S1x2048x1024, .f32⟩
  | 13 => ⟨S_, .f32⟩
  | 14 => ⟨S1x1024, .f32⟩
  | 15 => ⟨S1x1x1024, .f32⟩
  | 16 => ⟨S1x2048x1024, .f32⟩
  | 17 => ⟨S1x2048x1024, .f32⟩
  | 18 => ⟨S_, .f32⟩
  | 19 => ⟨S1024, .f32⟩
  | 20 => ⟨S1x2048x1024, .f32⟩
  | 21 => ⟨S_, .f32⟩
  | 22 => ⟨S1x2048, .f32⟩
  | 23 => ⟨S1x2048x1, .f32⟩
  | 24 => ⟨S1x2048x1024, .f32⟩
  | 25 => ⟨S1x2048x1024, .f32⟩
  | 26 => ⟨S1x2048x1024, .f32⟩
  | 27 => ⟨S1x2048x1, .f32⟩
  | 28 => ⟨S_, .f32⟩
  | 29 => ⟨S1x2048x1, .f32⟩
  | 30 => ⟨S1x2048x1, .f32⟩
  | 31 => ⟨S_, .f32⟩
  | 32 => ⟨S2048, .f32⟩
  | 33 => ⟨S1x2048, .f32⟩
  | 34 => ⟨S1x2048x1024, .f32⟩
  | 35 => ⟨S1x2048x1024, .f32⟩
  | 36 => ⟨S1x2048x1024, .f32⟩
  | 37 => ⟨S1x2048x1024, .f32⟩
  | 38 => ⟨S1x2048x1024, .f32⟩
  | 39 => ⟨S1x3072, .f32⟩
  | 40 => ⟨S3x1024, .f32⟩
  | 41 => ⟨S1x1024, .f32⟩
  | 42 => ⟨S_, .f32⟩
  | 43 => ⟨S4x1024, .f32⟩
  | 44 => ⟨S8x1024, .f32⟩
  | 45 => ⟨S2048x1024, .f32⟩
  | 46 => ⟨S1x1024, .f32⟩
  | 47 => ⟨S_, .f32⟩
  | 48 => ⟨S7x1024, .f32⟩
  | 49 => ⟨S8x1024, .f32⟩
  | 50 => ⟨S4x256x256, .bf16⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_call0_cst : Ref sig .tc := ⟨.hbm, 39, rfl⟩
abbrev main_call0_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_19 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_20 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_21 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_22 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_23 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_24 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_25 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_26 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_27 : Ref sig .tc := ⟨.hbm, 196, rfl⟩
abbrev main_v159 : Ref sig .tc := ⟨.hbm, 197, rfl⟩
abbrev main_v160 : Ref sig .tc := ⟨.hbm, 198, rfl⟩
abbrev main_cst_28 : Ref sig .tc := ⟨.hbm, 199, rfl⟩
abbrev main_v161 : Ref sig .tc := ⟨.hbm, 200, rfl⟩
abbrev main_v162 : Ref sig .tc := ⟨.hbm, 201, rfl⟩
abbrev main_cst_29 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_30 : Ref sig .tc := ⟨.hbm, 210, rfl⟩
abbrev main_v170 : Ref sig .tc := ⟨.hbm, 211, rfl⟩
abbrev main_v171 : Ref sig .tc := ⟨.hbm, 212, rfl⟩
abbrev main_cst_31 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_32 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_cst_33 : Ref sig .tc := ⟨.hbm, 225, rfl⟩
abbrev main_v182 : Ref sig .tc := ⟨.hbm, 226, rfl⟩
abbrev main_v183 : Ref sig .tc := ⟨.hbm, 227, rfl⟩
abbrev main_cst_34 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_35 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_cst_36 : Ref sig .tc := ⟨.hbm, 240, rfl⟩
abbrev main_v194 : Ref sig .tc := ⟨.hbm, 241, rfl⟩
abbrev main_v195 : Ref sig .tc := ⟨.hbm, 242, rfl⟩
abbrev main_cst_37 : Ref sig .tc := ⟨.hbm, 243, rfl⟩
abbrev main_v196 : Ref sig .tc := ⟨.hbm, 244, rfl⟩
abbrev main_v197 : Ref sig .tc := ⟨.hbm, 245, rfl⟩
abbrev main_call1_call0_cst : Ref sig .tc := ⟨.hbm, 246, rfl⟩
abbrev main_call1_call0_v0 : Ref sig .tc := ⟨.hbm, 247, rfl⟩
abbrev main_v198 : Ref sig .tc := ⟨.hbm, 248, rfl⟩
abbrev main_v199 : Ref sig .tc := ⟨.hbm, 249, rfl⟩
abbrev main_cst_38 : Ref sig .tc := ⟨.hbm, 250, rfl⟩
abbrev main_v200 : Ref sig .tc := ⟨.hbm, 251, rfl⟩
abbrev main_v201 : Ref sig .tc := ⟨.hbm, 252, rfl⟩
abbrev main_cst_39 : Ref sig .tc := ⟨.hbm, 253, rfl⟩
abbrev main_v202 : Ref sig .tc := ⟨.hbm, 254, rfl⟩
abbrev main_v203 : Ref sig .tc := ⟨.hbm, 255, rfl⟩
abbrev main_cst_40 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_41 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_cst_42 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_cst_43 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_44 : Ref sig .tc := ⟨.hbm, 274, rfl⟩
abbrev main_v218 : Ref sig .tc := ⟨.hbm, 275, rfl⟩
abbrev main_v219 : Ref sig .tc := ⟨.hbm, 276, rfl⟩
abbrev main_cst_45 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_46 : Ref sig .tc := ⟨.hbm, 284, rfl⟩
abbrev main_v226 : Ref sig .tc := ⟨.hbm, 285, rfl⟩
abbrev main_v227 : Ref sig .tc := ⟨.hbm, 286, rfl⟩
abbrev main_cst_47 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_cst_48 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_cst_49 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩

abbrev nD : Nat := 1
abbrev τ : Topo := Topo.v7x

variable {F : FTy → Type} [FloatOps F]
-- ==== Head.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S2048x1024 : Shape := ⟨2, ![2048, 1024]⟩
abbrev S11x2048x256 : Shape := ⟨3, ![11, 2048, 256]⟩
abbrev S8x128 : Shape := ⟨2, ![8, 128]⟩
abbrev S256x1024 : Shape := ⟨2, ![256, 1024]⟩
abbrev S11x256x256 : Shape := ⟨3, ![11, 256, 256]⟩
abbrev S256x2816 : Shape := ⟨2, ![256, 2816]⟩
abbrev S16 : Shape := ⟨1, ![16]⟩
abbrev S1 : Shape := ⟨1, ![1]⟩
abbrev S704x1024 : Shape := ⟨2, ![704, 1024]⟩
abbrev S1x704x1024 : Shape := ⟨3, ![1, 704, 1024]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S32x8x1024 : Shape := ⟨3, ![32, 8, 1024]⟩
abbrev S1x1 : Shape := ⟨2, ![1, 1]⟩
abbrev S7x1024 : Shape := ⟨2, ![7, 1024]⟩

abbrev nBuf : Space → Nat
  | .hbm => 29
  | .vmem => 25
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x2048x1024, .f32⟩
  | .hbm, ⟨7, _⟩ => ⟨S1x3x1024, .f32⟩
  | .hbm, ⟨8, _⟩ => ⟨S3x1024, .f32⟩
  | .hbm, ⟨9, _⟩ => ⟨S1x1024, .f32⟩
  | .hbm, ⟨10, _⟩ => ⟨S_, .f32⟩
  | .hbm, ⟨11, _⟩ => ⟨S4x1024, .f32⟩
  | .hbm, ⟨12, _⟩ => ⟨S8x1024, .f32⟩
  | .hbm, ⟨13, _⟩ => ⟨S5632x1024, .f32⟩
  | .hbm, ⟨14, _⟩ => ⟨S5632x1024, .bf16⟩
  | .hbm, ⟨15, _⟩ => ⟨S8x704x1024, .bf16⟩
  | .hbm, ⟨16, _⟩ => ⟨S2816x1024, .bf16⟩
  | .hbm, ⟨17, _⟩ => ⟨S8x352x1024, .bf16⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S11x2048x256, .bf16⟩
  | .hbm, ⟨24, _⟩ => ⟨S11x2048x256, .bf16⟩
  | .hbm, ⟨25, _⟩ => ⟨S2048x1024, .f32⟩
  | .hbm, ⟨26, _⟩ => ⟨S11x2048x256, .bf16⟩
  | .hbm, ⟨27, _⟩ => ⟨S8x128, .f32⟩
  | .hbm, ⟨28, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S11x256x256, .bf16⟩
  | .local _ .vmem, ⟨11, _⟩ => ⟨S11x256x256, .bf16⟩
  | .local _ .vmem, ⟨12, _⟩ => ⟨S11x256x256, .bf16⟩
  | .local _ .vmem, ⟨13, _⟩ => ⟨S11x256x256, .bf16⟩
  | .local _ .vmem, ⟨14, _⟩ => ⟨S256x1024, .f32⟩
  | .local _ .vmem, ⟨15, _⟩ => ⟨S256x1024, .f32⟩
  | .local _ .vmem, ⟨16, _⟩ => ⟨S11x256x256, .bf16⟩
  | .local _ .vmem, ⟨17, _⟩ => ⟨S11x256x256, .bf16⟩
  | .local _ .vmem, ⟨18, _⟩ => ⟨S8x128, .f32⟩
  | .local _ .vmem, ⟨19, _⟩ => ⟨S8x1024, .f32⟩
  | .local _ .vmem, ⟨20, _⟩ => ⟨S5632x1024, .bf16⟩
  | .local _ .vmem, ⟨21, _⟩ => ⟨S2816x1024, .bf16⟩
  | .local _ .vmem, ⟨22, _⟩ => ⟨S256x2816, .bf16⟩
  | .local _ .vmem, ⟨23, _⟩ => ⟨S8x1024, .f32⟩
  | .local _ .vmem, ⟨24, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v332 : BitVec 1 := Scalar.cmpi .eq arg0 c7_i32
  let v333 : BitVec 32 := Scalar.extui v332
  let c0_i32_201 : BitVec 32 := 0#32
  let v334 : BitVec 1 := Scalar.cmpi .ne v333 c0_i32_201
  v334

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S11x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadRefIdeal.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048 : Shape := ⟨1, ![2048]⟩
abbrev S2048x1024 : Shape := ⟨2, ![2048, 1024]⟩
abbrev S2048x11x256 : Shape := ⟨3, ![2048, 11, 256]⟩
abbrev S11x2048x256 : Shape := ⟨3, ![11, 2048, 256]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 143
  | .vmem => 0
  | .smem => 0
  | _ => 0

abbrev hbmTy0_0 (i : Nat) : BufTy := match i % 128 with
  | 0 => ⟨S1x2048x1024, .f32⟩
  | 1 => ⟨S1x3072, .f32⟩
  | 2 => ⟨S1024, .f32⟩
  | 3 => ⟨S1024x5632, .f32⟩
  | 4 => ⟨S2816x1024, .f32⟩
  | 5 => ⟨S1024, .f32⟩
  | 6 => ⟨S1x2048x1024, .f32⟩
  | 7 => ⟨S1x1024, .f32⟩
  | 8 => ⟨S1x1024, .f32⟩
  | 9 => ⟨S1x1024, .f32⟩
  | 10 => ⟨S1x2048x1024, .f32⟩
  | 11 => ⟨S_, .f32⟩
  | 12 => ⟨S1x2048, .f32⟩
  | 13 => ⟨S1x2048x1, .f32⟩
  | 14 => ⟨S_, .f32⟩
  | 15 => ⟨S1x2048x1, .f32⟩
  | 16 => ⟨S1x2048x1, .f32⟩
  | 17 => ⟨S_, .f32⟩
  | 18 => ⟨S1x2048x1, .f32⟩
  | 19 => ⟨S1x2048x1, .f32⟩
  | 20 => ⟨S1x2048x1, .f32⟩
  | 21 => ⟨S1x2048x1024, .f32⟩
  | 22 => ⟨S1x2048x1024, .f32⟩
  | 23 => ⟨S1x1x1024, .f32⟩
  | 24 => ⟨S1x2048x1024, .f32⟩
  | 25 => ⟨S1x2048x1024, .f32⟩
  | 26 => ⟨S1x1x1024, .f32⟩
  | 27 => ⟨S_, .f32⟩
  | 28 => ⟨S1x1x1024, .f32⟩
  | 29 => ⟨S1x1x1024, .f32⟩
  | 30 => ⟨S1x2048x1024, .f32⟩
  | 31 => ⟨S1x2048x1024, .f32⟩
  | 32 => ⟨S1x1x1024, .f32⟩
  | 33 => ⟨S1x2048x1024, .f32⟩
  | 34 => ⟨S1x2048x1024, .f32⟩
  | 35 => ⟨S1x1x1024, .f32⟩
  | 36 => ⟨S1x2048x5632, .f32⟩
  | 37 => ⟨S1x2048x2816, .f32⟩
  | 38 => ⟨S1x2048x2816, .f32⟩
  | 39 => ⟨S1x2048x2816, .f32⟩
  | 40 => ⟨S1x2048x2816, .f32⟩
  | 41 => ⟨S_, .f32⟩
  | 42 => ⟨S1x2048x2816, .f32⟩
  | 43 => ⟨S1x2048x2816, .f32⟩
  | 44 => ⟨S_, .f32⟩
  | 45 => ⟨S1x2048x2816, .f32⟩
  | 46 => ⟨S1x2048x2816, .f32⟩
  | 47 => ⟨S1x2048x2816, .f32⟩
  | 48 => ⟨S1x2048x2816, .f32⟩
  | 49 => ⟨S1x2048x1024, .f32⟩
  | 50 => ⟨S_, .f32⟩
  | 51 => ⟨S1x1x1024, .f32⟩
  | 52 => ⟨S1x1x1024, .f32⟩
  | 53 => ⟨S1x2048x1024, .f32⟩
  | 54 => ⟨S1x2048x1024, .f32⟩
  | 55 => ⟨S1x2048x1024, .f32⟩
  | 56 => ⟨S1x2048x1024, .f32⟩
  | 57 => ⟨S_, .f32⟩
  | 58 => ⟨S1x2048, .f32⟩
  | 59 => ⟨S1x2048x1, .f32⟩
  | 60 => ⟨S_, .f32⟩
  | 61 => ⟨S1x2048x1, .f32⟩
  | 62 => ⟨S1x2048x1, .f32⟩
  | 63 => ⟨S_, .f32⟩
  | 64 => ⟨S1x2048x1, .f32⟩
  | 65 => ⟨S1x2048x1, .f32⟩
  | 66 => ⟨S1x2048x1, .f32⟩
  | 67 => ⟨S1x2048x1, .f32⟩
  | 68 => ⟨S_, .f32⟩
  | 69 => ⟨S1x2048x1, .f32⟩
  | 70 => ⟨S1x2048x1, .f32⟩
  | 71 => ⟨S1x2048x1024, .f32⟩
  | 72 => ⟨S1x2048x1024, .f32⟩
  | 73 => ⟨S1x1x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S_, .f32⟩
  | 79 => ⟨S1x2048x1024, .f32⟩
  | 80 => ⟨S1x2048x1024, .f32⟩
  | 81 => ⟨S_, .f32⟩
  | 82 => ⟨S1x2048, .f32⟩
  | 83 => ⟨S_, .f32⟩
  | 84 => ⟨S1x2048, .f32⟩
  | 85 => ⟨S1x2048, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1x2048, .f32⟩
  | 94 => ⟨S_, .f32⟩
  | 95 => ⟨S1x2048, .f32⟩
  | 96 => ⟨S1x2048, .f32⟩
  | 97 => ⟨S1x2048x1024, .f32⟩
  | 98 => ⟨S1x2048x1024, .f32⟩
  | 99 => ⟨S1x2048x1024, .f32⟩
  | 100 => ⟨S_, .f32⟩
  | 101 => ⟨S1x1024, .f32⟩
  | 102 => ⟨S1x1x1024, .f32⟩
  | 103 => ⟨S1x2048x1024, .f32⟩
  | 104 => ⟨S1x2048x1024, .f32⟩
  | 105 => ⟨S_, .f32⟩
  | 106 => ⟨S1024, .f32⟩
  | 107 => ⟨S1x2048x1024, .f32⟩
  | 108 => ⟨S_, .f32⟩
  | 109 => ⟨S1x2048, .f32⟩
  | 110 => ⟨S1x2048x1, .f32⟩
  | 111 => ⟨S1x2048x1024, .f32⟩
  | 112 => ⟨S1x2048x1024, .f32⟩
  | 113 => ⟨S1x2048x1, .f32⟩
  | 114 => ⟨S_, .f32⟩
  | 115 => ⟨S1x2048x1, .f32⟩
  | 116 => ⟨S1x2048x1, .f32⟩
  | 117 => ⟨S_, .f32⟩
  | 118 => ⟨S2048, .f32⟩
  | 119 => ⟨S1x2048, .f32⟩
  | 120 => ⟨S1x2048x1024, .f32⟩
  | 121 => ⟨S1x2048x1024, .f32⟩
  | 122 => ⟨S1x2048x1024, .f32⟩
  | 123 => ⟨S1x2048x1024, .f32⟩
  | 124 => ⟨S1x2048x1024, .f32⟩
  | 125 => ⟨S2048x1024, .f32⟩
  | 126 => ⟨S2048x1024, .f32⟩
  | 127 => ⟨S2048x1024, .bf16⟩
  | _ => ⟨S1x2048x1024, .f32⟩

abbrev hbmTy0_1 (i : Nat) : BufTy := match i % 128 with
  | 0 => ⟨S2048x11x256, .f32⟩
  | 1 => ⟨S11x2048x256, .f32⟩
  | 2 => ⟨S11x2048x256, .bf16⟩
  | 3 => ⟨S2048x11x256, .f32⟩
  | 4 => ⟨S11x2048x256, .f32⟩
  | 5 => ⟨S11x2048x256, .bf16⟩
  | 6 => ⟨S2048x1024, .f32⟩
  | 7 => ⟨S2048x11x256, .f32⟩
  | 8 => ⟨S11x2048x256, .f32⟩
  | 9 => ⟨S11x2048x256, .bf16⟩
  | 10 => ⟨S8x128, .f32⟩
  | 11 => ⟨S1x1024, .f32⟩
  | 12 => ⟨S_, .f32⟩
  | 13 => ⟨S7x1024, .f32⟩
  | 14 => ⟨S8x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_cst_13 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_19 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== Ab.lean ====
abbrev S1x2048x1024 : Shape := ⟨3, ![1, 2048, 1024]⟩
abbrev S1x3072 : Shape := ⟨2, ![1, 3072]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S2560x1024 : Shape := ⟨2, ![2560, 1024]⟩
abbrev S8x320x1024 : Shape := ⟨3, ![8, 320, 1024]⟩
abbrev S8x128x1024 : Shape := ⟨3, ![8, 128, 1024]⟩
abbrev S5x512 : Shape := ⟨2, ![5, 512]⟩
abbrev S8x512 : Shape := ⟨2, ![8, 512]⟩
abbrev S1x2048 : Shape := ⟨2, ![1, 2048]⟩
abbrev S1x2048x1 : Shape := ⟨3, ![1, 2048, 1]⟩
abbrev S1x1x1024 : Shape := ⟨3, ![1, 1, 1024]⟩
abbrev S1x2048x2560 : Shape := ⟨3, ![1, 2048, 2560]⟩
abbrev S1x2048x512 : Shape := ⟨3, ![1, 2048, 512]⟩
abbrev S1x1x512 : Shape := ⟨3, ![1, 1, 512]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S1x1x128x4x1 : Shape := ⟨5, ![1, 1, 128, 4, 1]⟩
abbrev S1x2x512 : Shape := ⟨3, ![1, 2, 512]⟩
abbrev S1x2050x512 : Shape := ⟨3, ![1, 2050, 512]⟩
abbrev S1x512 : Shape := ⟨2, ![1, 512]⟩
abbrev S2048x1024 : Shape := ⟨2, ![2048, 1024]⟩
abbrev S2048x2560 : Shape := ⟨2, ![2048, 2560]⟩
abbrev S10x2048x256 : Shape := ⟨3, ![10, 2048, 256]⟩
abbrev S4x2048x256 : Shape := ⟨3, ![4, 2048, 256]⟩
abbrev S256x1024 : Shape := ⟨2, ![256, 1024]⟩
abbrev S256x2560 : Shape := ⟨2, ![256, 2560]⟩
abbrev S8x2560 : Shape := ⟨2, ![8, 2560]⟩
abbrev S10x256x256 : Shape := ⟨3, ![10, 256, 256]⟩
abbrev S4x256x256 : Shape := ⟨3, ![4, 256, 256]⟩
abbrev S4x8x1024 : Shape := ⟨3, ![4, 8, 1024]⟩
abbrev S16 : Shape := ⟨1, ![16]⟩
abbrev S1 : Shape := ⟨1, ![1]⟩
abbrev S320x1024 : Shape := ⟨2, ![320, 1024]⟩
abbrev S1x320x1024 : Shape := ⟨3, ![1, 320, 1024]⟩
abbrev S128x1024 : Shape := ⟨2, ![128, 1024]⟩
abbrev S1x128x1024 : Shape := ⟨3, ![1, 128, 1024]⟩
abbrev S1x8x1024 : Shape := ⟨3, ![1, 8, 1024]⟩
abbrev S32x8x1024 : Shape := ⟨3, ![32, 8, 1024]⟩
abbrev S256x512 : Shape := ⟨2, ![256, 512]⟩
abbrev S256 : Shape := ⟨1, ![256]⟩
abbrev S256x1 : Shape := ⟨2, ![256, 1]⟩
abbrev S128x1 : Shape := ⟨2, ![128, 1]⟩
abbrev S128x512 : Shape := ⟨2, ![128, 512]⟩
abbrev S32x8x512 : Shape := ⟨3, ![32, 8, 512]⟩
abbrev S256x256 : Shape := ⟨2, ![256, 256]⟩
abbrev S1x256x256 : Shape := ⟨3, ![1, 256, 256]⟩
abbrev S7x512 : Shape := ⟨2, ![7, 512]⟩
abbrev S128 : Shape := ⟨1, ![128]⟩

abbrev nBuf : Space → Nat
  | .hbm => 184
  | .vmem => 36
  | .smem => 0
  | _ => 0

abbrev hbmTy0_0 (i : Nat) : BufTy := match i % 128 with
  | 0 => ⟨S1x2048x1024, .f32⟩
  | 1 => ⟨S1x3072, .f32⟩
  | 2 => ⟨S1024, .f32⟩
  | 3 => ⟨S1024x2560, .f32⟩
  | 4 => ⟨S512, .f32⟩
  | 5 => ⟨S4x128x128, .f32⟩
  | 6 => ⟨S4x128, .f32⟩
  | 7 => ⟨S3x512, .f32⟩
  | 8 => ⟨S1024x1024, .f32⟩
  | 9 => ⟨S1x2048x1024, .f32⟩
  | 10 => ⟨S1x3x1024, .f32⟩
  | 11 => ⟨S3x1024, .f32⟩
  | 12 => ⟨S1x1024, .f32⟩
  | 13 => ⟨S_, .f32⟩
  | 14 => ⟨S4x1024, .f32⟩
  | 15 => ⟨S8x1024, .f32⟩
  | 16 => ⟨S2560x1024, .f32⟩
  | 17 => ⟨S2560x1024, .bf16⟩
  | 18 => ⟨S8x320x1024, .bf16⟩
  | 19 => ⟨S1024x1024, .bf16⟩
  | 20 => ⟨S8x128x1024, .bf16⟩
  | 21 => ⟨S_, .f32⟩
  | 22 => ⟨S5x512, .f32⟩
  | 23 => ⟨S8x512, .f32⟩
  | 24 => ⟨S1x1024, .f32⟩
  | 25 => ⟨S1x1024, .f32⟩
  | 26 => ⟨S1x1024, .f32⟩
  | 27 => ⟨S1x2048x1024, .f32⟩
  | 28 => ⟨S_, .f32⟩
  | 29 => ⟨S1x2048, .f32⟩
  | 30 => ⟨S1x2048x1, .f32⟩
  | 31 => ⟨S_, .f32⟩
  | 32 => ⟨S1x2048x1, .f32⟩
  | 33 => ⟨S1x2048x1, .f32⟩
  | 34 => ⟨S_, .f32⟩
  | 35 => ⟨S1x2048x1, .f32⟩
  | 36 => ⟨S1x2048x1, .f32⟩
  | 37 => ⟨S1x2048x1, .f32⟩
  | 38 => ⟨S1x2048x1024, .f32⟩
  | 39 => ⟨S1x2048x1024, .f32⟩
  | 40 => ⟨S1x1x1024, .f32⟩
  | 41 => ⟨S1x2048x1024, .f32⟩
  | 42 => ⟨S1x2048x1024, .f32⟩
  | 43 => ⟨S1x1x1024, .f32⟩
  | 44 => ⟨S_, .f32⟩
  | 45 => ⟨S1x1x1024, .f32⟩
  | 46 => ⟨S1x1x1024, .f32⟩
  | 47 => ⟨S1x2048x1024, .f32⟩
  | 48 => ⟨S1x2048x1024, .f32⟩
  | 49 => ⟨S1x1x1024, .f32⟩
  | 50 => ⟨S1x2048x1024, .f32⟩
  | 51 => ⟨S1x2048x1024, .f32⟩
  | 52 => ⟨S1x1x1024, .f32⟩
  | 53 => ⟨S1x2048x2560, .f32⟩
  | 54 => ⟨S1x2048x512, .f32⟩
  | 55 => ⟨S1x2048x512, .f32⟩
  | 56 => ⟨S1x2048x512, .f32⟩
  | 57 => ⟨S1x2048x512, .f32⟩
  | 58 => ⟨S1x2048x512, .f32⟩
  | 59 => ⟨S1x2048x512, .f32⟩
  | 60 => ⟨S1x2048x512, .f32⟩
  | 61 => ⟨S_, .f32⟩
  | 62 => ⟨S1x2048x512, .f32⟩
  | 63 => ⟨S1x2048x512, .f32⟩
  | 64 => ⟨S1x2048x512, .f32⟩
  | 65 => ⟨S_, .f32⟩
  | 66 => ⟨S1x2048x512, .f32⟩
  | 67 => ⟨S1x2048x512, .f32⟩
  | 68 => ⟨S1x2048x512, .f32⟩
  | 69 => ⟨S_, .f32⟩
  | 70 => ⟨S1x2048x512, .f32⟩
  | 71 => ⟨S1x2048x512, .f32⟩
  | 72 => ⟨S_, .f32⟩
  | 73 => ⟨S1x2048x512, .f32⟩
  | 74 => ⟨S1x2048x512, .f32⟩
  | 75 => ⟨S1x2048x512, .f32⟩
  | 76 => ⟨S1x2048x512, .f32⟩
  | 77 => ⟨S1x2048x512, .f32⟩
  | 78 => ⟨S_, .f32⟩
  | 79 => ⟨S1x2048x512, .f32⟩
  | 80 => ⟨S1x2048x512, .f32⟩
  | 81 => ⟨S1x2048x512, .f32⟩
  | 82 => ⟨S_, .f32⟩
  | 83 => ⟨S1x2048x512, .f32⟩
  | 84 => ⟨S1x2048x512, .f32⟩
  | 85 => ⟨S1x2048x512, .f32⟩
  | 86 => ⟨S_, .f32⟩
  | 87 => ⟨S1x2048x512, .f32⟩
  | 88 => ⟨S1x2048x512, .f32⟩
  | 89 => ⟨S_, .f32⟩
  | 90 => ⟨S1x2048x512, .f32⟩
  | 91 => ⟨S1x2048x512, .f32⟩
  | 92 => ⟨S1x2048x512, .f32⟩
  | 93 => ⟨S_, .f32⟩
  | 94 => ⟨S1x2048, .f32⟩
  | 95 => ⟨S1x2048x1, .f32⟩
  | 96 => ⟨S_, .f32⟩
  | 97 => ⟨S1x2048x1, .f32⟩
  | 98 => ⟨S1x2048x1, .f32⟩
  | 99 => ⟨S1x2048x512, .f32⟩
  | 100 => ⟨S1x2048x512, .f32⟩
  | 101 => ⟨S1x2048x512, .f32⟩
  | 102 => ⟨S_, .f32⟩
  | 103 => ⟨S1x2048, .f32⟩
  | 104 => ⟨S1x2048x1, .f32⟩
  | 105 => ⟨S_, .f32⟩
  | 106 => ⟨S1x2048x1, .f32⟩
  | 107 => ⟨S1x2048x1, .f32⟩
  | 108 => ⟨S1x2048x512, .f32⟩
  | 109 => ⟨S1x2048x512, .f32⟩
  | 110 => ⟨S_, .f32⟩
  | 111 => ⟨S1x2048x1, .f32⟩
  | 112 => ⟨S1x2048x1, .f32⟩
  | 113 => ⟨S1x2048x1, .f32⟩
  | 114 => ⟨S1x2048x512, .f32⟩
  | 115 => ⟨S1x2048x512, .f32⟩
  | 116 => ⟨S1x1x512, .f32⟩
  | 117 => ⟨S1x2048x512, .f32⟩
  | 118 => ⟨S1x2048x512, .f32⟩
  | 119 => ⟨S1x16x128x4x128, .f32⟩
  | 120 => ⟨S_, .f32⟩
  | 121 => ⟨S128x128, .f32⟩
  | 122 => ⟨S128x128, .i32⟩
  | 123 => ⟨S_, .i32⟩
  | 124 => ⟨S128x128, .i32⟩
  | 125 => ⟨S128x128, .i32⟩
  | 126 => ⟨S128x128, .i32⟩
  | 127 => ⟨S128x128, .i1⟩
  | _ => ⟨S1x2048x1024, .f32⟩

abbrev hbmTy0_1 (i : Nat) : BufTy := match i % 128 with
  | 0 => ⟨S_, .f32⟩
  | 1 => ⟨S128x128, .f32⟩
  | 2 => ⟨S128x128, .f32⟩
  | 3 => ⟨S1x128x128, .f32⟩
  | 4 => ⟨S4x128x128, .f32⟩
  | 5 => ⟨S4x128x128, .f32⟩
  | 6 => ⟨S4x1x16x128x128, .f32⟩
  | 7 => ⟨S1x16x128x4x128, .f32⟩
  | 8 => ⟨S128x4, .f32⟩
  | 9 => ⟨S1x1x128x4x1, .f32⟩
  | 10 => ⟨S1x16x128x4x128, .f32⟩
  | 11 => ⟨S1x16x128x4x128, .f32⟩
  | 12 => ⟨S1x2048x512, .f32⟩
  | 13 => ⟨S1x2048x512, .f32⟩
  | 14 => ⟨S1x2048x512, .f32⟩
  | 15 => ⟨S_, .f32⟩
  | 16 => ⟨S1x2x512, .f32⟩
  | 17 => ⟨S1x2050x512, .f32⟩
  | 18 => ⟨S1x512, .f32⟩
  | 19 => ⟨S512, .f32⟩
  | 20 => ⟨S1x2048x512, .f32⟩
  | 21 => ⟨S1x1x512, .f32⟩
  | 22 => ⟨S1x2048x512, .f32⟩
  | 23 => ⟨S1x2048x512, .f32⟩
  | 24 => ⟨S1x512, .f32⟩
  | 25 => ⟨S512, .f32⟩
  | 26 => ⟨S1x2048x512, .f32⟩
  | 27 => ⟨S1x1x512, .f32⟩
  | 28 => ⟨S1x2048x512, .f32⟩
  | 29 => ⟨S1x2048x512, .f32⟩
  | 30 => ⟨S1x2048x512, .f32⟩
  | 31 => ⟨S1x512, .f32⟩
  | 32 => ⟨S512, .f32⟩
  | 33 => ⟨S1x2048x512, .f32⟩
  | 34 => ⟨S1x1x512, .f32⟩
  | 35 => ⟨S1x2048x512, .f32⟩
  | 36 => ⟨S1x2048x512, .f32⟩
  | 37 => ⟨S1x2048x512, .f32⟩
  | 38 => ⟨S1x2048x512, .f32⟩
  | 39 => ⟨S1x2048x1024, .f32⟩
  | 40 => ⟨S1x2048x1024, .f32⟩
  | 41 => ⟨S2048x1024, .f32⟩
  | 42 => ⟨S2048x1024, .f32⟩
  | 43 => ⟨S2048x2560, .f32⟩
  | 44 => ⟨S2048x1024, .f32⟩
  | 45 => ⟨S1x512, .f32⟩
  | 46 => ⟨S128x4, .f32⟩
  | 47 => ⟨S2048x1024, .f32⟩
  | 48 => ⟨S10x2048x256, .bf16⟩
  | 49 => ⟨S4x2048x256, .bf16⟩
  | 50 => ⟨S2048x1024, .bf16⟩
  | 51 => ⟨S8x1024, .f32⟩
  | 52 => ⟨S8x512, .f32⟩
  | 53 => ⟨S4x128x128, .f32⟩
  | 54 => ⟨S4x128x128, .f32⟩
  | 55 => ⟨S8x512, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S256x2560, .f32⟩
  | .local _ .vmem, ⟨6, _⟩ => ⟨S256x2560, .f32⟩
  | .local _ .vmem, ⟨7, _⟩ => ⟨S8x2560, .f32⟩
  | .local _ .vmem, ⟨8, _⟩ => ⟨S8x2560, .f32⟩
  | .local _ .vmem, ⟨9, _⟩ => ⟨S256x1024, .f32⟩
  | .local _ .vmem, ⟨10, _⟩ => ⟨S256x1024, .f32⟩
  | .local _ .vmem, ⟨11, _⟩ => ⟨S1x512, .f32⟩
  | .local _ .vmem, ⟨12, _⟩ => ⟨S4x128x128, .f32⟩
  | .local _ .vmem, ⟨13, _⟩ => ⟨S128x4, .f32⟩
  | .local _ .vmem, ⟨14, _⟩ => ⟨S8x512, .f32⟩
  | .local _ .vmem, ⟨15, _⟩ => ⟨S256x1024, .f32⟩
  | .local _ .vmem, ⟨16, _⟩ => ⟨S256x1024, .f32⟩
  | .local _ .vmem, ⟨17, _⟩ => ⟨S10x256x256, .bf16⟩
  | .local _ .vmem, ⟨18, _⟩ => ⟨S10x256x256, .bf16⟩
  | .local _ .vmem, ⟨19, _⟩ => ⟨S4x256x256, .bf16⟩
  | .local _ .vmem, ⟨20, _⟩ => ⟨S4x256x256, .bf16⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | .local _ .vmem, ⟨24, _⟩ => ⟨S8x512, .f32⟩
  | .local _ .vmem, ⟨25, _⟩ => ⟨S4x128x128, .f32⟩
  | .local _ .vmem, ⟨26, _⟩ => ⟨S4x128x128, .f32⟩
  | .local _ .vmem, ⟨27, _⟩ => ⟨S8x512, .f32⟩
  | .local _ .vmem, ⟨28, _⟩ => ⟨S2560x1024, .bf16⟩
  | .local _ .vmem, ⟨29, _⟩ => ⟨S1024x1024, .bf16⟩
  | .local _ .vmem, ⟨30, _⟩ => ⟨S8x512, .f32⟩
  | .local _ .vmem, ⟨31, _⟩ => ⟨S4x8x1024, .f32⟩
  | .local _ .vmem, ⟨32, _⟩ => ⟨S8x512, .f32⟩
  | .local _ .vmem, ⟨33, _⟩ => ⟨S4x128x128, .f32⟩
  | .local _ .vmem, ⟨34, _⟩ => ⟨S4x128x128, .f32⟩
  | .local _ .vmem, ⟨35, _⟩ => ⟨S8x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_18 : Ref sig .tc := ⟨.hbm, 120, rfl⟩
abbrev main_v91 : Ref sig .tc := ⟨.hbm, 121, rfl⟩
abbrev main_call0_v0 : Ref sig .tc := ⟨.hbm, 122, rfl⟩
abbrev main_call0_c : Ref sig .tc := ⟨.hbm, 123, rfl⟩
abbrev main_call0_v1 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_call0_cst : Ref sig .tc := ⟨.hbm, 128, rfl⟩
abbrev main_call0_v5 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_19 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136_0 : Ref sig .tc := ⟨.hbm, 175, rfl⟩
abbrev main_v136_1 : Ref sig .tc := ⟨.hbm, 176, rfl⟩
abbrev main_v136_2 : Ref sig .tc := ⟨.hbm, 177, rfl⟩
abbrev main_v136_3 : Ref sig .tc := ⟨.hbm, 178, rfl⟩
abbrev main_v136_4 : Ref sig .tc := ⟨.hbm, 179, rfl⟩
abbrev main_v136_5 : Ref sig .tc := ⟨.hbm, 180, rfl⟩
abbrev main_v136_6 : Ref sig .tc := ⟨.hbm, 181, rfl⟩
abbrev main_v136_7 : Ref sig .tc := ⟨.hbm, 182, rfl⟩
abbrev main_v136_8 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_297 : BitVec 32 := 7#32
  let v619 : BitVec 1 := Scalar.cmpi .eq arg0 c7_i32_297
  let v620 : BitVec 32 := Scalar.extui v619
  let c0_i32_298 : BitVec 32 := 0#32
  let v621 : BitVec 1 := Scalar.cmpi .ne v620 c0_i32_298
  v621

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S10x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== AbRefIdeal.lean ====
abbrev S1x2048x1024 : Shape := ⟨3, ![1, 2048, 1024]⟩
abbrev S1x3072 : Shape := ⟨2, ![1, 3072]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩
abbrev S1x1024 : Shape := ⟨2, ![1, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x2048x2560 : Shape := ⟨3, ![1, 2048, 2560]⟩
abbrev S1x2048x512 : Shape := ⟨3, ![1, 2048, 512]⟩
abbrev S1x1x512 : Shape := ⟨3, ![1, 1, 512]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S1x1x128x4x1 : Shape := ⟨5, ![1, 1, 128, 4, 1]⟩
abbrev S1x2x512 : Shape := ⟨3, ![1, 2, 512]⟩
abbrev S1x2050x512 : Shape := ⟨3, ![1, 2050, 512]⟩
abbrev S1x512 : Shape := ⟨2, ![1, 512]⟩
abbrev S1x128x4 : Shape := ⟨3, ![1, 128, 4]⟩
abbrev S2048x4x256 : Shape := ⟨3, ![2048, 4, 256]⟩
abbrev S4x2048x256 : Shape := ⟨3, ![4, 2048, 256]⟩
abbrev S2048x1024 : Shape := ⟨2, ![2048, 1024]⟩
abbrev S7x512 : Shape := ⟨2, ![7, 512]⟩
abbrev S8x512 : Shape := ⟨2, ![8, 512]⟩
abbrev S4x128x1 : Shape := ⟨3, ![4, 128, 1]⟩
abbrev S5x512 : Shape := ⟨2, ![5, 512]⟩

abbrev nBuf : Space → Nat
  | .hbm => 231
  | .vmem => 0
  | .smem => 0
  | _ => 0

abbrev hbmTy0_0 (i : Nat) : BufTy := match i % 128 with
  | 0 => ⟨S1x2048x1024, .f32⟩
  | 1 => ⟨S1x3072, .f32⟩
  | 2 => ⟨S1024, .f32⟩
  | 3 => ⟨S1024x2560, .f32⟩
  | 4 => ⟨S512, .f32⟩
  | 5 => ⟨S4x128x128, .f32⟩
  | 6 => ⟨S4x128, .f32⟩
  | 7 => ⟨S3x512, .f32⟩
  | 8 => ⟨S1024x1024, .f32⟩
  | 9 => ⟨S1x2048x1024, .f32⟩
  | 10 => ⟨S_, .f32⟩
  | 11 => ⟨S1x2048x1024, .f32⟩
  | 12 => ⟨S1x1024, .f32⟩
  | 13 => ⟨S1x1024, .f32⟩
  | 14 => ⟨S1x1024, .f32⟩
  | 15 => ⟨S1x2048x1024, .f32⟩
  | 16 => ⟨S_, .f32⟩
  | 17 => ⟨S1x2048, .f32⟩
  | 18 => ⟨S1x2048x1, .f32⟩
  | 19 => ⟨S_, .f32⟩
  | 20 => ⟨S1x2048x1, .f32⟩
  | 21 => ⟨S1x2048x1, .f32⟩
  | 22 => ⟨S_, .f32⟩
  | 23 => ⟨S1x2048x1, .f32⟩
  | 24 => ⟨S1x2048x1, .f32⟩
  | 25 => ⟨S1x2048x1, .f32⟩
  | 26 => ⟨S1x2048x1024, .f32⟩
  | 27 => ⟨S1x2048x1024, .f32⟩
  | 28 => ⟨S1x1x1024, .f32⟩
  | 29 => ⟨S1x2048x1024, .f32⟩
  | 30 => ⟨S1x2048x1024, .f32⟩
  | 31 => ⟨S1x1x1024, .f32⟩
  | 32 => ⟨S_, .f32⟩
  | 33 => ⟨S1x1x1024, .f32⟩
  | 34 => ⟨S1x1x1024, .f32⟩
  | 35 => ⟨S1x2048x1024, .f32⟩
  | 36 => ⟨S1x2048x1024, .f32⟩
  | 37 => ⟨S1x1x1024, .f32⟩
  | 38 => ⟨S1x2048x1024, .f32⟩
  | 39 => ⟨S1x2048x1024, .f32⟩
  | 40 => ⟨S1x1x1024, .f32⟩
  | 41 => ⟨S1x2048x2560, .f32⟩
  | 42 => ⟨S1x2048x512, .f32⟩
  | 43 => ⟨S1x2048x512, .f32⟩
  | 44 => ⟨S1x2048x512, .f32⟩
  | 45 => ⟨S1x2048x512, .f32⟩
  | 46 => ⟨S1x2048x512, .f32⟩
  | 47 => ⟨S1x2048x512, .f32⟩
  | 48 => ⟨S1x2048x512, .f32⟩
  | 49 => ⟨S_, .f32⟩
  | 50 => ⟨S1x2048x512, .f32⟩
  | 51 => ⟨S1x2048x512, .f32⟩
  | 52 => ⟨S1x2048x512, .f32⟩
  | 53 => ⟨S_, .f32⟩
  | 54 => ⟨S1x2048x512, .f32⟩
  | 55 => ⟨S1x2048x512, .f32⟩
  | 56 => ⟨S1x2048x512, .f32⟩
  | 57 => ⟨S_, .f32⟩
  | 58 => ⟨S1x2048x512, .f32⟩
  | 59 => ⟨S1x2048x512, .f32⟩
  | 60 => ⟨S_, .f32⟩
  | 61 => ⟨S1x2048x512, .f32⟩
  | 62 => ⟨S1x2048x512, .f32⟩
  | 63 => ⟨S1x2048x512, .f32⟩
  | 64 => ⟨S1x2048x512, .f32⟩
  | 65 => ⟨S1x2048x512, .f32⟩
  | 66 => ⟨S_, .f32⟩
  | 67 => ⟨S1x2048x512, .f32⟩
  | 68 => ⟨S1x2048x512, .f32⟩
  | 69 => ⟨S1x2048x512, .f32⟩
  | 70 => ⟨S_, .f32⟩
  | 71 => ⟨S1x2048x512, .f32⟩
  | 72 => ⟨S1x2048x512, .f32⟩
  | 73 => ⟨S1x2048x512, .f32⟩
  | 74 => ⟨S_, .f32⟩
  | 75 => ⟨S1x2048x512, .f32⟩
  | 76 => ⟨S1x2048x512, .f32⟩
  | 77 => ⟨S_, .f32⟩
  | 78 => ⟨S1x2048x512, .f32⟩
  | 79 => ⟨S1x2048x512, .f32⟩
  | 80 => ⟨S1x2048x512, .f32⟩
  | 81 => ⟨S_, .f32⟩
  | 82 => ⟨S1x2048, .f32⟩
  | 83 => ⟨S1x2048x1, .f32⟩
  | 84 => ⟨S_, .f32⟩
  | 85 => ⟨S1x2048x1, .f32⟩
  | 86 => ⟨S1x2048x1, .f32⟩
  | 87 => ⟨S1x2048x512, .f32⟩
  | 88 => ⟨S1x2048x512, .f32⟩
  | 89 => ⟨S1x2048x512, .f32⟩
  | 90 => ⟨S_, .f32⟩
  | 91 => ⟨S1x2048, .f32⟩
  | 92 => ⟨S1x2048x1, .f32⟩
  | 93 => ⟨S_, .f32⟩
  | 94 => ⟨S1x2048x1, .f32⟩
  | 95 => ⟨S1x2048x1, .f32⟩
  | 96 => ⟨S1x2048x512, .f32⟩
  | 97 => ⟨S1x2048x512, .f32⟩
  | 98 => ⟨S_, .f32⟩
  | 99 => ⟨S1x2048x1, .f32⟩
  | 100 => ⟨S1x2048x1, .f32⟩
  | 101 => ⟨S1x2048x1, .f32⟩
  | 102 => ⟨S1x2048x512, .f32⟩
  | 103 => ⟨S1x2048x512, .f32⟩
  | 104 => ⟨S1x1x512, .f32⟩
  | 105 => ⟨S1x2048x512, .f32⟩
  | 106 => ⟨S1x2048x512, .f32⟩
  | 107 => ⟨S1x16x128x4x128, .f32⟩
  | 108 => ⟨S_, .f32⟩
  | 109 => ⟨S128x128, .f32⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .f32⟩
  | 117 => ⟨S128x128, .f32⟩
  | 118 => ⟨S128x128, .f32⟩
  | 119 => ⟨S1x128x128, .f32⟩
  | 120 => ⟨S4x128x128, .f32⟩
  | 121 => ⟨S4x128x128, .f32⟩
  | 122 => ⟨S4x1x16x128x128, .f32⟩
  | 123 => ⟨S1x16x128x4x128, .f32⟩
  | 124 => ⟨S128x4, .f32⟩
  | 125 => ⟨S1x1x128x4x1, .f32⟩
  | 126 => ⟨S1x16x128x4x128, .f32⟩
  | 127 => ⟨S1x16x128x4x128, .f32⟩
  | _ => ⟨S1x2048x1024, .f32⟩

abbrev hbmTy0_1 (i : Nat) : BufTy := match i % 128 with
  | 0 => ⟨S1x2048x512, .f32⟩
  | 1 => ⟨S1x2048x512, .f32⟩
  | 2 => ⟨S1x2048x512, .f32⟩
  | 3 => ⟨S_, .f32⟩
  | 4 => ⟨S1x2x512, .f32⟩
  | 5 => ⟨S1x2050x512, .f32⟩
  | 6 => ⟨S1x512, .f32⟩
  | 7 => ⟨S512, .f32⟩
  | 8 => ⟨S1x2048x512, .f32⟩
  | 9 => ⟨S1x1x512, .f32⟩
  | 10 => ⟨S1x2048x512, .f32⟩
  | 11 => ⟨S1x2048x512, .f32⟩
  | 12 => ⟨S1x512, .f32⟩
  | 13 => ⟨S512, .f32⟩
  | 14 => ⟨S1x2048x512, .f32⟩
  | 15 => ⟨S1x1x512, .f32⟩
  | 16 => ⟨S1x2048x512, .f32⟩
  | 17 => ⟨S1x2048x512, .f32⟩
  | 18 => ⟨S1x2048x512, .f32⟩
  | 19 => ⟨S1x512, .f32⟩
  | 20 => ⟨S512, .f32⟩
  | 21 => ⟨S1x2048x512, .f32⟩
  | 22 => ⟨S1x1x512, .f32⟩
  | 23 => ⟨S1x2048x512, .f32⟩
  | 24 => ⟨S1x2048x512, .f32⟩
  | 25 => ⟨S1x2048x512, .f32⟩
  | 26 => ⟨S1x2048x512, .f32⟩
  | 27 => ⟨S1x2048x1024, .f32⟩
  | 28 => ⟨S1x2048x1024, .f32⟩
  | 29 => ⟨S1x2048x1024, .f32⟩
  | 30 => ⟨S1x2048x1024, .f32⟩
  | 31 => ⟨S1x2048x1024, .f32⟩
  | 32 => ⟨S1x2048x1024, .f32⟩
  | 33 => ⟨S1x2048x1024, .f32⟩
  | 34 => ⟨S1x2048x1024, .f32⟩
  | 35 => ⟨S1x2048x1024, .f32⟩
  | 36 => ⟨S1x2048x512, .f32⟩
  | 37 => ⟨S1x2048x512, .f32⟩
  | 38 => ⟨S1x2048x512, .f32⟩
  | 39 => ⟨S1x2048x512, .f32⟩
  | 40 => ⟨S_, .f32⟩
  | 41 => ⟨S1x512, .f32⟩
  | 42 => ⟨S1x1x512, .f32⟩
  | 43 => ⟨S_, .f32⟩
  | 44 => ⟨S512, .f32⟩
  | 45 => ⟨S1x512, .f32⟩
  | 46 => ⟨S_, .f32⟩
  | 47 => ⟨S3x512, .f32⟩
  | 48 => ⟨S1x2048x512, .f32⟩
  | 49 => ⟨S_, .f32⟩
  | 50 => ⟨S1x512, .f32⟩
  | 51 => ⟨S1x1x512, .f32⟩
  | 52 => ⟨S_, .f32⟩
  | 53 => ⟨S512, .f32⟩
  | 54 => ⟨S1x512, .f32⟩
  | 55 => ⟨S_, .f32⟩
  | 56 => ⟨S3x512, .f32⟩
  | 57 => ⟨S3x512, .f32⟩
  | 58 => ⟨S1x2048x512, .f32⟩
  | 59 => ⟨S_, .f32⟩
  | 60 => ⟨S1x512, .f32⟩
  | 61 => ⟨S1x1x512, .f32⟩
  | 62 => ⟨S_, .f32⟩
  | 63 => ⟨S512, .f32⟩
  | 64 => ⟨S1x512, .f32⟩
  | 65 => ⟨S_, .f32⟩
  | 66 => ⟨S3x512, .f32⟩
  | 67 => ⟨S3x512, .f32⟩
  | 68 => ⟨S1x2048x512, .f32⟩
  | 69 => ⟨S1x16x128x4x128, .f32⟩
  | 70 => ⟨S_, .f32⟩
  | 71 => ⟨S1x128x4, .f32⟩
  | 72 => ⟨S1x1x128x4x1, .f32⟩
  | 73 => ⟨S_, .f32⟩
  | 74 => ⟨S128x4, .f32⟩
  | 75 => ⟨S4x128, .f32⟩
  | 76 => ⟨S4x1x16x128x128, .f32⟩
  | 77 => ⟨S4x128x128, .f32⟩
  | 78 => ⟨S4x1x16x128x128, .f32⟩
  | 79 => ⟨S1x16x128x4x128, .f32⟩
  | 80 => ⟨S4x128x128, .f32⟩
  | 81 => ⟨S4x128x128, .f32⟩
  | 82 => ⟨S1x2048x512, .f32⟩
  | 83 => ⟨S1x2048x512, .f32⟩
  | 84 => ⟨S_, .f32⟩
  | 85 => ⟨S1x512, .f32⟩
  | 86 => ⟨S1x1x512, .f32⟩
  | 87 => ⟨S_, .f32⟩
  | 88 => ⟨S512, .f32⟩
  | 89 => ⟨S2048x4x256, .f32⟩
  | 90 => ⟨S4x2048x256, .f32⟩
  | 91 => ⟨S4x2048x256, .bf16⟩
  | 92 => ⟨S2048x1024, .f32⟩
  | 93 => ⟨S2048x1024, .bf16⟩
  | 94 => ⟨S1x512, .f32⟩
  | 95 => ⟨S_, .f32⟩
  | 96 => ⟨S7x512, .f32⟩
  | 97 => ⟨S8x512, .f32⟩
  | 98 => ⟨S4x128x1, .f32⟩
  | 99 => ⟨S4x128x128, .f32⟩
  | 100 => ⟨S_, .f32⟩
  | 101 => ⟨S5x512, .f32⟩
  | 102 => ⟨S8x512, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_cst : Ref sig .tc := ⟨.hbm, 116, rfl⟩
abbrev main_call0_v5 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_18 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_19 : Ref sig .tc := ⟨.hbm, 168, rfl⟩
abbrev main_v130 : Ref sig .tc := ⟨.hbm, 169, rfl⟩
abbrev main_v131 : Ref sig .tc := ⟨.hbm, 170, rfl⟩
abbrev main_cst_20 : Ref sig .tc := ⟨.hbm, 171, rfl⟩
abbrev main_v132 : Ref sig .tc := ⟨.hbm, 172, rfl⟩
abbrev main_v133 : Ref sig .tc := ⟨.hbm, 173, rfl⟩
abbrev main_cst_21 : Ref sig .tc := ⟨.hbm, 174, rfl⟩
abbrev main_v134 : Ref sig .tc := ⟨.hbm, 175, rfl⟩
abbrev main_v135 : Ref sig .tc := ⟨.hbm, 176, rfl⟩
abbrev main_cst_22 : Ref sig .tc := ⟨.hbm, 177, rfl⟩
abbrev main_v136 : Ref sig .tc := ⟨.hbm, 178, rfl⟩
abbrev main_v137 : Ref sig .tc := ⟨.hbm, 179, rfl⟩
abbrev main_cst_23 : Ref sig .tc := ⟨.hbm, 180, rfl⟩
abbrev main_v138 : Ref sig .tc := ⟨.hbm, 181, rfl⟩
abbrev main_v139 : Ref sig .tc := ⟨.hbm, 182, rfl⟩
abbrev main_cst_24 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_25 : Ref sig .tc := ⟨.hbm, 187, rfl⟩
abbrev main_v143 : Ref sig .tc := ⟨.hbm, 188, rfl⟩
abbrev main_v144 : Ref sig .tc := ⟨.hbm, 189, rfl⟩
abbrev main_cst_26 : Ref sig .tc := ⟨.hbm, 190, rfl⟩
abbrev main_v145 : Ref sig .tc := ⟨.hbm, 191, rfl⟩
abbrev main_v146 : Ref sig .tc := ⟨.hbm, 192, rfl⟩
abbrev main_cst_27 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_28 : Ref sig .tc := ⟨.hbm, 198, rfl⟩
abbrev main_v151 : Ref sig .tc := ⟨.hbm, 199, rfl⟩
abbrev main_v152 : Ref sig .tc := ⟨.hbm, 200, rfl⟩
abbrev main_cst_29 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_30 : Ref sig .tc := ⟨.hbm, 212, rfl⟩
abbrev main_v163 : Ref sig .tc := ⟨.hbm, 213, rfl⟩
abbrev main_v164 : Ref sig .tc := ⟨.hbm, 214, rfl⟩
abbrev main_cst_31 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_32 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_33 : Ref sig .tc := ⟨.hbm, 228, rfl⟩
abbrev main_v176 : Ref sig .tc := ⟨.hbm, 229, rfl⟩
abbrev main_v177 : Ref sig .tc := ⟨.hbm, 230, rfl⟩

abbrev nD : Nat := 1
abbrev τ : Topo := Topo.v7x

variable {F : FTy → Type} [FloatOps F]
-- ==== Fwd.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S2048x1024 : Shape := ⟨2, ![2048, 1024]⟩
abbrev S11x2048x256 : Shape := ⟨3, ![11, 2048, 256]⟩
abbrev S256x1024 : Shape := ⟨2, ![256, 1024]⟩
abbrev S11x256x256 : Shape := ⟨3, ![11, 256, 256]⟩
abbrev S256x2816 : Shape := ⟨2, ![256, 2816]⟩
abbrev S16 : Shape := ⟨1, ![16]⟩
abbrev S1 : Shape := ⟨1, ![1]⟩
abbrev S704x1024 : Shape := ⟨2, ![704, 1024]⟩
abbrev S1x704x1024 : Shape := ⟨3, ![1, 704, 1024]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 23
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x3x1024, .f32⟩
  | .hbm, ⟨6, _⟩ => ⟨S3x1024, .f32⟩
  | .hbm, ⟨7, _⟩ => ⟨S1x1024, .f32⟩
  | .hbm, ⟨8, _⟩ => ⟨S_, .f32⟩
  | .hbm, ⟨9, _⟩ => ⟨S4x1024, .f32⟩
  | .hbm, ⟨10, _⟩ => ⟨S8x1024, .f32⟩
  | .hbm, ⟨11, _⟩ => ⟨S5632x1024, .f32⟩
  | .hbm, ⟨12, _⟩ => ⟨S5632x1024, .bf16⟩
  | .hbm, ⟨13, _⟩ => ⟨S8x704x1024, .bf16⟩
  | .hbm, ⟨14, _⟩ => ⟨S2816x1024, .bf16⟩
  | .hbm, ⟨15, _⟩ => ⟨S8x352x1024, .bf16⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S11x2048x256, .bf16⟩
  | .hbm, ⟨20, _⟩ => ⟨S11x2048x256, .bf16⟩
  | .hbm, ⟨21, _⟩ => ⟨S2048x1024, .f32⟩
  | .hbm, ⟨22, _⟩ => ⟨S11x2048x256, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S11x256x256, .bf16⟩
  | .local _ .vmem, ⟨8, _⟩ => ⟨S11x256x256, .bf16⟩
  | .local _ .vmem, ⟨9, _⟩ => ⟨S11x256x256, .bf16⟩
  | .local _ .vmem, ⟨10, _⟩ => ⟨S11x256x256, .bf16⟩
  | .local _ .vmem, ⟨11, _⟩ => ⟨S256x1024, .f32⟩
  | .local _ .vmem, ⟨12, _⟩ => ⟨S256x1024, .f32⟩
  | .local _ .vmem, ⟨13, _⟩ => ⟨S11x256x256, .bf16⟩
  | .local _ .vmem, ⟨14, _⟩ => ⟨S11x256x256, .bf16⟩
  | .local _ .vmem, ⟨15, _⟩ => ⟨S5632x1024, .bf16⟩
  | .local _ .vmem, ⟨16, _⟩ => ⟨S2816x1024, .bf16⟩
  | .local _ .vmem, ⟨17, _⟩ => ⟨S256x2816, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S11x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdRefIdeal.lean ====
abbrev S1x2048x1024 : Shape := ⟨3, ![1, 2048, 1024]⟩
abbrev S1x3072 : Shape := ⟨2, ![1, 3072]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048x1024 : Shape := ⟨2, ![2048, 1024]⟩
abbrev S2048x11x256 : Shape := ⟨3, ![2048, 11, 256]⟩
abbrev S11x2048x256 : Shape := ⟨3, ![11, 2048, 256]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x3072, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S1x2048x5632, .f32⟩
  | .hbm, ⟨35, _⟩ => ⟨S1x2048x2816, .f32⟩
  | .hbm, ⟨36, _⟩ => ⟨S1x2048x2816, .f32⟩
  | .hbm, ⟨37, _⟩ => ⟨S1x2048x2816, .f32⟩
  | .hbm, ⟨38, _⟩ => ⟨S1x2048x2816, .f32⟩
  | .hbm, ⟨39, _⟩ => ⟨S_, .f32⟩
  | .hbm, ⟨40, _⟩ => ⟨S1x2048x2816, .f32⟩
  | .hbm, ⟨41, _⟩ => ⟨S1x2048x2816, .f32⟩
  | .hbm, ⟨42, _⟩ => ⟨S_, .f32⟩
  | .hbm, ⟨43, _⟩ => ⟨S1x2048x2816, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x1024, .f32⟩
  | .hbm, ⟨48, _⟩ => ⟨S_, .f32⟩
  | .hbm, ⟨49, _⟩ => ⟨S1x1x1024, .f32⟩
  | .hbm, ⟨50, _⟩ => ⟨S1x1x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S2048x1024, .f32⟩
  | .hbm, ⟨55, _⟩ => ⟨S2048x1024, .f32⟩
  | .hbm, ⟨56, _⟩ => ⟨S2048x1024, .bf16⟩
  | .hbm, ⟨57, _⟩ => ⟨S2048x11x256, .f32⟩
  | .hbm, ⟨58, _⟩ => ⟨S11x2048x256, .f32⟩
  | .hbm, ⟨59, _⟩ => ⟨S11x2048x256, .bf16⟩
  | .hbm, ⟨60, _⟩ => ⟨S2048x11x256, .f32⟩
  | .hbm, ⟨61, _⟩ => ⟨S11x2048x256, .f32⟩
  | .hbm, ⟨62, _⟩ => ⟨S11x2048x256, .bf16⟩
  | .hbm, ⟨63, _⟩ => ⟨S2048x1024, .f32⟩
  | .hbm, ⟨64, _⟩ => ⟨S2048x11x256, .f32⟩
  | .hbm, ⟨65, _⟩ => ⟨S11x2048x256, .f32⟩
  | .hbm, ⟨66, _⟩ => ⟨S11x2048x256, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Dx.RunA.lean ====
/- The body of `Dx` at the first point of its grid. -/
module

public import proofs.«01_k».proof.Proof.Gen.DxIdeal.Frame.Runs

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body at a first point, run: the pieces it stores into each output and scratch. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S22x256x256 .bf16) (harg4 : arg4.IsWhole) (arg5 : Memref sig .tc .vmem S8x1024 .f32) (harg5 : arg5.IsWhole) (arg7 : Memref sig .tc .vmem S256x1024 .f32) (harg7 : arg7.IsWhole) (arg8 : Memref sig .tc .vmem S8x1024 .f32) (harg8 : arg8.IsWhole) (arg9 : Memref sig .tc .vmem S5632x1024 .bf16) (harg9 : arg9.IsWhole) (arg10 : Memref sig .tc .vmem S256x5632 .bf16) (harg10 : arg10.IsWhole) (arg11 : Memref sig .tc .vmem S4x8x1024 .f32) (harg11 : arg11.IsWhole) (hc0 : cond0_0 i) (hc1 : ¬cond0_1 i)
    (x0 : Vec F S256x1024 .f32) (x1 : Vec F S256x1024 .f32) (x2 : Vec F S8x1024 .f32) (x3 : Vec F S22x256x256 .bf16) (x4 : Vec F S8x1024 .f32) (fh0 : HbBuf0 (F := F) c hbM0_0) :
    Σ' (L5 : List (View.Piece (Elt F) S256x1024 .f32)), Σ' (L6 : List (View.Piece (Elt F) S8x1024 .f32)), Σ' (LS0 : List (View.Piece (Elt F) S5632x1024 .bf16)), Σ' (LS2 : List (View.Piece (Elt F) S4x8x1024 .f32)), { LT1 : List (View.Piece (Elt F) S256x5632 .bf16) //
      ∀ (xi6 : Vec F S8x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ (∃ W', owes (c : Thread nD τ) 0 W')) -∗ K ⟨⟩))
          ⊢ wp frame (wpE (defs₀ (F := F)) Variants.none c none) Set.univ (cc0_ffn_bwd_dx_0 i arg1 harg1 arg2 harg2 arg3 harg3 arg4 harg4 arg5 harg5 (Memref.whole main_v7) (Memref.isWhole_whole _) arg7 harg7 arg8 harg8 arg9 harg9 arg10 harg10 arg11 harg11 cc0_scratch3) K } := by
  refine ⟨?_, [], ?_, ?_, ?_, fun xi6 W K => ?run⟩
  case run =>
    simp only [cc0_ffn_bwd_dx_0_eq_skeleton]; unfold cc0_ffn_bwd_dx_0_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.DxIdeal.Gen

end
-- ==== Proof.Dx.RunB.lean ====
/- The body of `Dx` at the middle point of its grid. -/
module

public import proofs.«01_k».proof.Proof.Gen.DxIdeal.Frame.Runs

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a middle point, run: the pieces it stores into each output and scratch. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S22x256x256 .bf16) (harg4 : arg4.IsWhole) (arg5 : Memref sig .tc .vmem S8x1024 .f32) (harg5 : arg5.IsWhole) (arg7 : Memref sig .tc .vmem S256x1024 .f32) (harg7 : arg7.IsWhole) (arg8 : Memref sig .tc .vmem S8x1024 .f32) (harg8 : arg8.IsWhole) (arg9 : Memref sig .tc .vmem S5632x1024 .bf16) (harg9 : arg9.IsWhole) (arg10 : Memref sig .tc .vmem S256x5632 .bf16) (harg10 : arg10.IsWhole) (arg11 : Memref sig .tc .vmem S4x8x1024 .f32) (harg11 : arg11.IsWhole) (hc0 : ¬cond0_0 i) (hc1 : ¬cond0_1 i)
    (x0 : Vec F S256x1024 .f32) (x1 : Vec F S256x1024 .f32) (x2 : Vec F S8x1024 .f32) (x3 : Vec F S22x256x256 .bf16) (x4 : Vec F S8x1024 .f32) (xs0 : Vec F S5632x1024 .bf16) (xs2 : Vec F S4x8x1024 .f32) (fh0 : HbBuf0 (F := F) c hbM0_0) :
    Σ' (L5 : List (View.Piece (Elt F) S256x1024 .f32)), Σ' (L6 : List (View.Piece (Elt F) S8x1024 .f32)), Σ' (LS0 : List (View.Piece (Elt F) S5632x1024 .bf16)), Σ' (LS2 : List (View.Piece (Elt F) S4x8x1024 .f32)), { LT1 : List (View.Piece (Elt F) S256x5632 .bf16) //
      ∀ (xi6 : Vec F S8x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xi6 ∗ owns (c : Thread nD τ) arg9 fullShare xs0 ∗ (∃ d, owns (c : Thread nD τ) arg10 fullShare d) ∗ owns (c : Thread nD τ) arg11 fullShare xs2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0 ∗ (∃ f, arg10.view.loc (c : Thread nD τ) ↦[arg10.view.set]{fullShare} arg10.view.writes (Elt F) f LT1) ∗ (arg11.view.loc (c : Thread nD τ) ↦[arg11.view.set]{fullShare} arg11.view.writes (Elt F) (harg11.unread xs2) LS2) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ (∃ W', owes (c : Thread nD τ) 0 W')) -∗ K ⟨⟩))
          ⊢ wp frame (wpE (defs₀ (F := F)) Variants.none c none) Set.univ (cc0_ffn_bwd_dx_0 i arg1 harg1 arg2 harg2 arg3 harg3 arg4 harg4 arg5 harg5 (Memref.whole main_v7) (Memref.isWhole_whole _) arg7 harg7 arg8 harg8 arg9 harg9 arg10 harg10 arg11 harg11 cc0_scratch3) K } := by
  refine ⟨?_, [], [], ?_, ?_, fun xi6 W K => ?run⟩
  case run =>
    simp only [cc0_ffn_bwd_dx_0_eq_skeleton]; unfold cc0_ffn_bwd_dx_0_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨%fs2, %hfs2, HS2⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hfs0; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.DxIdeal.Gen

end
-- ==== Proof.Dx.RunC.lean ====
/- The body of `Dx` at the last point of its grid. -/
module

public import proofs.«01_k».proof.Proof.Gen.DxIdeal.Frame.Runs

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a last point, run: the pieces it stores into each output and scratch. -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S22x256x256 .bf16) (harg4 : arg4.IsWhole) (arg5 : Memref sig .tc .vmem S8x1024 .f32) (harg5 : arg5.IsWhole) (arg7 : Memref sig .tc .vmem S256x1024 .f32) (harg7 : arg7.IsWhole) (arg8 : Memref sig .tc .vmem S8x1024 .f32) (harg8 : arg8.IsWhole) (arg9 : Memref sig .tc .vmem S5632x1024 .bf16) (harg9 : arg9.IsWhole) (arg10 : Memref sig .tc .vmem S256x5632 .bf16) (harg10 : arg10.IsWhole) (arg11 : Memref sig .tc .vmem S4x8x1024 .f32) (harg11 : arg11.IsWhole) (hc0 : ¬cond0_0 i) (hc1 : cond0_1 i)
    (x0 : Vec F S256x1024 .f32) (x1 : Vec F S256x1024 .f32) (x2 : Vec F S8x1024 .f32) (x3 : Vec F S22x256x256 .bf16) (x4 : Vec F S8x1024 .f32) (xs0 : Vec F S5632x1024 .bf16) (xs2 : Vec F S4x8x1024 .f32) (fh0 : HbBuf0 (F := F) c hbM0_0) :
    Σ' (L5 : List (View.Piece (Elt F) S256x1024 .f32)), Σ' (L6 : List (View.Piece (Elt F) S8x1024 .f32)), Σ' (LS0 : List (View.Piece (Elt F) S5632x1024 .bf16)), Σ' (LS2 : List (View.Piece (Elt F) S4x8x1024 .f32)), { LT1 : List (View.Piece (Elt F) S256x5632 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LT1) ∗ (arg11.view.loc (c : Thread nD τ) ↦[arg11.view.set]{fullShare} arg11.view.writes (Elt F) (harg11.unread xs2) LS2) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ (∃ W', owes (c : Thread nD τ) 0 W')) -∗ K ⟨⟩))
          ⊢ wp frame (wpE (defs₀ (F := F)) Variants.none c none) Set.univ (cc0_ffn_bwd_dx_0 i arg1 harg1 arg2 harg2 arg3 harg3 arg4 harg4 arg5 harg5 (Memref.whole main_v7) (Memref.isWhole_whole _) arg7 harg7 arg8 harg8 arg9 harg9 arg10 harg10 arg11 harg11 cc0_scratch3) K } := by
  refine ⟨?_, ?_, [], ?_, ?_, fun W K => ?run⟩
  case run =>
    simp only [cc0_ffn_bwd_dx_0_eq_skeleton]; unfold cc0_ffn_bwd_dx_0_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%fs2, %hfs2, HS2⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg9.read_unread _
      iexact HS0
    isplitl [HS1]; · iexists _; iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.DxIdeal.Gen

end
-- ==== Proof.Common.Owned.lean ====
/- A memref owned at what a list of writes that covers it leaves. -/
module

public import Idealize.ShloMosaic.Lib.Claim

@[expose] public section

noncomputable section

namespace Cert.Common

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig sig' : RefSig} {Val : EltTy → Type}
variable {Ix : Type} [DecidableEq Ix] {Name : Type} [DecidableEq Name] {U : Type} [URA U] {Lvl : Type}

local notation "𝕄" => MT nD τ sig Ix Val Name U Lvl

/-- Writes that cover a memref leave it owned at their contents, wherever these are read. -/
theorem owns_written {c : Thread nD τ} {sp sp' : Space} {sh : Shape} {e : EltTy} {m : Memref sig c.2.kind sp sh e} {q : PosShare TreeShare}
    {f : m.view.ty.Contents Val} {κ : Kind} {v : View sig' κ sp' sh e} {g : v.ty.Contents Val} {L : List (View.Piece Val sh e)}
    (h : ∀ y, ∃ p ∈ L, y ∈ p.1.set) :
    (m.view.loc c ↦[m.view.set]{q} m.view.writes Val f L : sProp 𝕄) ⊢ owns c m q (v.read Val (v.writes Val g L)) := by
  unfold owns
  iintro H
  iexists _
  isplitr
  swap; · iexact H
  ipureintro; exact View.read_writes_of_cover _ _ _ _ _ h

end Cert.Common

end
-- ==== Proof.Dx.Frame.lean ====
/- The frame of the program `Dx`, for any arithmetic: three cases of the grid point (the first, a middle one, the last), the
   contents each leaves, and the run of the launch. -/
module

public import proofs.«01_k».proof.Proof.Dx.RunA
public import proofs.«01_k».proof.Proof.Dx.RunB
public import proofs.«01_k».proof.Proof.Dx.RunC
public import proofs.«01_k».proof.Proof.Common.Owned
public import Idealize.ShloMosaic.Lib.Claim

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Common (owns_written)
open Idealize.ShloMosaic.Pipeline (Dat Cfg Window BodyObligation cellOf)

variable {F : FTy → Type} [FloatOps F]

local notation "𝕄" => MT nD τ sig Unit (Elt F) ℕ (Pipeline.UD sig nD τ) ℕ

/-- The contents carried from one point to the next: the outputs in window order, then the scratch. -/
abbrev Outs (F : FTy → Type) : Type := Vec F S256x1024 .f32 × Vec F S8x1024 .f32 × Vec F S5632x1024 .bf16 × Vec F S4x8x1024 .f32

variable (m : (ℓ : Loc nD τ sig) → Buf (Elt F) ℓ) (ρ : Dev nD → PrngReg)

/-- The case A run of the body at point `t`, at the memrefs and input blocks of that point. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v7)

/-- The case B run of the body at point `t`, at the memrefs and input blocks of that point. -/
abbrev runB (c : Dev nD) (t : Fin cfg0.N) (h0 : ¬t.val % 8 = 0) (h1 : ¬t.val % 8 = 7) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) p.2.2.1 p.2.2.2 (V m c main_v7)

/-- The case C run of the body at point `t`, at the memrefs and input blocks of that point. -/
abbrev runC (c : Dev nD) (t : Fin cfg0.N) (h0 : ¬t.val % 8 = 0) (h1 : t.val % 8 = 7) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) p.2.2.1 p.2.2.2 (V m c main_v7)

theorem coverA_5 (c : Dev nD) (t : Fin cfg0.N) (h0 : t.val % 8 = 0) (h1 : ¬t.val % 8 = 7) (y : S256x1024.Idx) :
    ∃ pc ∈ (runA m c t h0 h1).1, y ∈ pc.1.set :=
  View.cover_of_tiledL (runA m c t h0 h1).1 S256x1024.size (by sl_kernel_rfl) y

def outA_5 (c : Dev nD) (t : Fin cfg0.N) (h0 : t.val % 8 = 0) (h1 : ¬t.val % 8 = 7) : Vec F S256x1024 .f32 :=
  VO0_5.read (Elt F) (VO0_5.writes (Elt F) VO0_5.junk (runA m c t h0 h1).1)

def outA_6 (c : Dev nD) (t : Fin cfg0.N) (h0 : t.val % 8 = 0) (h1 : ¬t.val % 8 = 7) : Vec F S8x1024 .f32 :=
  VO0_6.read (Elt F) (VO0_6.writes (Elt F) VO0_6.junk (runA m c t h0 h1).2.1)

theorem scoverA_0 (c : Dev nD) (t : Fin cfg0.N) (h0 : t.val % 8 = 0) (h1 : ¬t.val % 8 = 7) (y : S5632x1024.Idx) :
    ∃ pc ∈ (runA m c t h0 h1).2.2.1, y ∈ pc.1.set :=
  View.cover_of_tiledL (runA m c t h0 h1).2.2.1 S704x1024.size (by sl_kernel_rfl) y

def soutA_0 (c : Dev nD) (t : Fin cfg0.N) (h0 : t.val % 8 = 0) (h1 : ¬t.val % 8 = 7) : Vec F S5632x1024 .bf16 :=
  VS0_0.read (Elt F) (VS0_0.writes (Elt F) VS0_0.junk (runA m c t h0 h1).2.2.1)

theorem scoverA_2 (c : Dev nD) (t : Fin cfg0.N) (h0 : t.val % 8 = 0) (h1 : ¬t.val % 8 = 7) (y : S4x8x1024.Idx) :
    ∃ pc ∈ (runA m c t h0 h1).2.2.2.1, y ∈ pc.1.set :=
  View.cover_of_wholeMem (runA m c t h0 h1).2.2.2.1 (by sl_whole_mem) y

def soutA_2 (c : Dev nD) (t : Fin cfg0.N) (h0 : t.val % 8 = 0) (h1 : ¬t.val % 8 = 7) : Vec F S4x8x1024 .f32 :=
  VS0_2.read (Elt F) (VS0_2.writes (Elt F) VS0_2.junk (runA m c t h0 h1).2.2.2.1)

theorem coverB_5 (c : Dev nD) (t : Fin cfg0.N) (h0 : ¬t.val % 8 = 0) (h1 : ¬t.val % 8 = 7) (p : Outs F) (y : S256x1024.Idx) :
    ∃ pc ∈ (runB m c t h0 h1 p).1, y ∈ pc.1.set :=
  View.cover_of_tiledL (runB m c t h0 h1 p).1 S256x1024.size (by sl_kernel_rfl) y

def outB_5 (c : Dev nD) (t : Fin cfg0.N) (h0 : ¬t.val % 8 = 0) (h1 : ¬t.val % 8 = 7) (p : Outs F) : Vec F S256x1024 .f32 :=
  VO0_5.read (Elt F) (VO0_5.writes (Elt F) VO0_5.junk (runB m c t h0 h1 p).1)

def outB_6 (c : Dev nD) (t : Fin cfg0.N) (h0 : ¬t.val % 8 = 0) (h1 : ¬t.val % 8 = 7) (p : Outs F) : Vec F S8x1024 .f32 :=
  VO0_6.read (Elt F) (VO0_6.writes (Elt F) VO0_6.junk (runB m c t h0 h1 p).2.1)

def soutB_0 (m : (ℓ : Loc nD τ sig) → Buf (Elt F) ℓ) (c : Dev nD) (t : Fin cfg0.N) (h0 : ¬t.val % 8 = 0) (h1 : ¬t.val % 8 = 7) (p : Outs F) : Vec F S5632x1024 .bf16 :=
  (p.2.2.1)

def soutB_2 (c : Dev nD) (t : Fin cfg0.N) (h0 : ¬t.val % 8 = 0) (h1 : ¬t.val % 8 = 7) (p : Outs F) : Vec F S4x8x1024 .f32 :=
  scM0_2.view.read (Elt F) (scM0_2.view.writes (Elt F) ((Memref.isWhole_whole _).unread (p.2.2.2)) (runB m c t h0 h1 p).2.2.2.1)

theorem coverC_5 (c : Dev nD) (t : Fin cfg0.N) (h0 : ¬t.val % 8 = 0) (h1 : t.val % 8 = 7) (p : Outs F) (y : S256x1024.Idx) :
    ∃ pc ∈ (runC m c t h0 h1 p).1, y ∈ pc.1.set :=
  View.cover_of_tiledL (runC m c t h0 h1 p).1 S256x1024.size (by sl_kernel_rfl) y

def outC_5 (c : Dev nD) (t : Fin cfg0.N) (h0 : ¬t.val % 8 = 0) (h1 : t.val % 8 = 7) (p : Outs F) : Vec F S256x1024 .f32 :=
  VO0_5.read (Elt F) (VO0_5.writes (Elt F) VO0_5.junk (runC m c t h0 h1 p).1)

theorem coverC_6 (c : Dev nD) (t : Fin cfg0.N) (h0 : ¬t.val % 8 = 0) (h1 : t.val % 8 = 7) (p : Outs F) (y : S8x1024.Idx) :
    ∃ pc ∈ (runC m c t h0 h1 p).2.1, y ∈ pc.1.set :=
  View.cover_of_tiledBy (runC m c t h0 h1 p).2.1 ![1, 1024] (by sl_kernel_rfl) y

def outC_6 (c : Dev nD) (t : Fin cfg0.N) (h0 : ¬t.val % 8 = 0) (h1 : t.val % 8 = 7) (p : Outs F) : Vec F S8x1024 .f32 :=
  VO0_6.read (Elt F) (VO0_6.writes (Elt F) VO0_6.junk (runC m c t h0 h1 p).2.1)

def soutC_0 (m : (ℓ : Loc nD τ sig) → Buf (Elt F) ℓ) (c : Dev nD) (t : Fin cfg0.N) (h0 : ¬t.val % 8 = 0) (h1 : t.val % 8 = 7) (p : Outs F) : Vec F S5632x1024 .bf16 :=
  (p.2.2.1)

def soutC_2 (c : Dev nD) (t : Fin cfg0.N) (h0 : ¬t.val % 8 = 0) (h1 : t.val % 8 = 7) (p : Outs F) : Vec F S4x8x1024 .f32 :=
  scM0_2.view.read (Elt F) (scM0_2.view.writes (Elt F) ((Memref.isWhole_whole _).unread (p.2.2.2)) (runC m c t h0 h1 p).2.2.2.1)

/-- What the outputs and the carried scratch hold after a point of case A. -/
def outsA (c : Dev nD) (t : Fin cfg0.N) (h0 : t.val % 8 = 0) (h1 : ¬t.val % 8 = 7) : Outs F :=
  (outA_5 m c t h0 h1, outA_6 m c t h0 h1, soutA_0 m c t h0 h1, soutA_2 m c t h0 h1)

/-- What the outputs and the carried scratch hold after a point of case B. -/
def outsB (c : Dev nD) (t : Fin cfg0.N) (h0 : ¬t.val % 8 = 0) (h1 : ¬t.val % 8 = 7) (p : Outs F) : Outs F :=
  (outB_5 m c t h0 h1 p, outB_6 m c t h0 h1 p, soutB_0 m c t h0 h1 p, soutB_2 m c t h0 h1 p)

/-- What the outputs and the carried scratch hold after a point of case C. -/
def outsC (c : Dev nD) (t : Fin cfg0.N) (h0 : ¬t.val % 8 = 0) (h1 : t.val % 8 = 7) (p : Outs F) : Outs F :=
  (outC_5 m c t h0 h1 p, outC_6 m c t h0 h1 p, soutC_0 m c t h0 h1 p, soutC_2 m c t h0 h1 p)

/-- What the outputs and the carried scratch hold after point `n`, each point over what the one before left. -/
def outsAt0 (c : Dev nD) : (n : ℕ) → n < cfg0.N → Outs F
  | 0, hn => outsA m c ⟨0, hn⟩ (Nat.zero_mod _) (fun h => by (try dsimp only at h); omega)
  | n + 1, hn =>
    if h0 : (n + 1) % 8 = 0 then
      False.elim (by have hN : n + 1 < 8 := lt_of_lt_of_eq hn (show cfg0.N = 8 from N_0); omega)
    else if h1 : (n + 1) % 8 = 7 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = outsA m c t h0 h1 := by
  obtain ⟨n, hn⟩ := t
  cases n with
  | zero => exact rfl
  | succ n => exfalso; have hN : n + 1 < 8 := lt_of_lt_of_eq hn (show cfg0.N = 8 from N_0); dsimp only at h0; omega

theorem outsAt0_B (c : Dev nD) (t : Fin cfg0.N) (h0 : ¬t.val % 8 = 0) (h1 : ¬t.val % 8 = 7) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The invariant after a point that left `p`: the carried scratch at `p`, the other scratch at anything, the register, the
    copies' semaphores at zero and the operand left in HBM. -/
def PhiP (c : Dev nD) (p : Outs F) : sProp 𝕄 :=
  iprop(iprop(owns (c : Thread nD τ) scM0_0 fullShare (p.2.2.1) ∗ (∃ d, owns (c : Thread nD τ) scM0_1 fullShare d) ∗ owns (c : Thread nD τ) scM0_2 fullShare (p.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v7)))

def PhiS (c : Dev nD) : (n : ℕ) → n ≤ cfg0.N → sProp 𝕄
  | 0, _ => Pipeline.ΦD osem0 spec0 H0 (V m) c
  | n + 1, hn => PhiP m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = PhiP m c (outsAt0 m c n hn) := rfl

theorem PhiS_pos (c : Dev nD) (n : ℕ) (h : n ≤ cfg0.N) (hz : n ≠ 0) :
    PhiS m c n h = PhiP m c (outsAt0 m c (n - 1) (by omega)) := by
  cases n with
  | zero => exact absurd rfl hz
  | succ n => rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: it is handed the input blocks and the carried scratch as the point before left it, and leaves this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ]
  unfold PhiP
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  have hN : t.val < 8 := lt_of_lt_of_eq t.isLt (show cfg0.N = 8 from N_0)
  by_cases h0 : t.val % 8 = 0
  · by_cases h1 : t.val % 8 = 7
    · exfalso; omega
    · rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold outsA outA_5 soutA_0 soutA_2; (try dsimp only)
        iintro ⟨⟨⟨HS0, HS1, HS2⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((runA m c t h0 h1).2.2.2.2.2 _ W _)
        iframe H0 H1 H2 H3 H4
        isplitl [H5]; · iexists _; iexact H5
        iframe H6 HS0 HS1 HS2 Hq0 Hq1 Hq2 Hq3 Hq4 Hq5 Hq6 Hq7 Hh0 HW
        iintro ⟨H0, H1, H2, H3, H4, ⟨%e5, H5⟩, H6, ⟨%es0, HS0⟩, ⟨%fT1, HS1⟩, ⟨%es2, HS2⟩, Hq0, Hq1, Hq2, Hq3, Hq4, Hq5, Hq6, Hq7, Hh0, ⟨%W', HW'⟩⟩
        isplitl [HS0 HS1 HS2 Hg Hq0 Hq1 Hq2 Hq3 Hq4 Hq5 Hq6 Hq7 Hh0]
        · isplitl [HS0 HS1 HS2]
          · isplitl [HS0]; · iapply owns_written (scoverA_0 m c t h0 h1); iexact HS0
            isplitl [HS1]
            · iexists _; unfold owns; iexists _; isplitr
              swap; · iexact HS1
              ipureintro; rfl
            iapply owns_written (scoverA_2 m c t h0 h1); iexact HS2
          isplitl [Hg]; · iexact Hg
          isplitl [Hq0 Hq1 Hq2 Hq3 Hq4 Hq5 Hq6 Hq7]
          · iframe Hq0 Hq1 Hq2 Hq3 Hq4 Hq5 Hq6 Hq7
          iexact Hh0
        isplitl [HW']
        · iexists W'; isplitr; · ipureintro; exact fun _ _ => Or.inl trivial
          iexact HW'
        iframe H0 H1 H2 H3 H4
        isplitl [H5]; · iapply owns_written (coverA_5 m c t h0 h1); iexact H5
        iexists _; iexact H6
      · exfalso; have hN : t.val < 8 := lt_of_lt_of_eq t.isLt (show cfg0.N = 8 from N_0); omega
  · by_cases h1 : t.val % 8 = 7
    · rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_C m c t h0 h1]
        unfold outsC outC_5 outC_6 soutC_0 soutC_2; (try dsimp only)
        iintro ⟨⟨⟨HS0, HS1, HS2⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((runC m c t h0 h1 _).2.2.2.2.2 W _)
        iframe H0 H1 H2 H3 H4
        isplitl [H5]; · iexists _; iexact H5
        isplitl [H6]; · iexists _; iexact H6
        iframe HS0 HS1 HS2 Hq0 Hq1 Hq2 Hq3 Hq4 Hq5 Hq6 Hq7 Hh0 HW
        iintro ⟨H0, H1, H2, H3, H4, ⟨%e5, H5⟩, ⟨%e6, H6⟩, HS0, ⟨%fT1, HS1⟩, HS2, Hq0, Hq1, Hq2, Hq3, Hq4, Hq5, Hq6, Hq7, Hh0, ⟨%W', HW'⟩⟩
        isplitl [HS0 HS1 HS2 Hg Hq0 Hq1 Hq2 Hq3 Hq4 Hq5 Hq6 Hq7 Hh0]
        · isplitl [HS0 HS1 HS2]
          · isplitl [HS0]; · iexact HS0
            isplitl [HS1]
            · iexists _; unfold owns; iexists _; isplitr
              swap; · iexact HS1
              ipureintro; rfl
            unfold owns; iexists _; isplitr
            swap; · iexact HS2
            ipureintro; rfl
          isplitl [Hg]; · iexact Hg
          isplitl [Hq0 Hq1 Hq2 Hq3 Hq4 Hq5 Hq6 Hq7]
          · iframe Hq0 Hq1 Hq2 Hq3 Hq4 Hq5 Hq6 Hq7
          iexact Hh0
        isplitl [HW']
        · iexists W'; isplitr; · ipureintro; exact fun _ _ => Or.inl trivial
          iexact HW'
        iframe H0 H1 H2 H3 H4
        isplitl [H5]; · iapply owns_written (coverC_5 m c t h0 h1 _); iexact H5
        iapply owns_written (coverC_6 m c t h0 h1 _); iexact H6
    · rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_B m c t h0 h1]
        unfold outsB outB_5 soutB_0 soutB_2; (try dsimp only)
        iintro ⟨⟨⟨HS0, HS1, HS2⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((runB m c t h0 h1 _).2.2.2.2.2 _ W _)
        iframe H0 H1 H2 H3 H4
        isplitl [H5]; · iexists _; iexact H5
        iframe H6 HS0 HS1 HS2 Hq0 Hq1 Hq2 Hq3 Hq4 Hq5 Hq6 Hq7 Hh0 HW
        iintro ⟨H0, H1, H2, H3, H4, ⟨%e5, H5⟩, H6, HS0, ⟨%fT1, HS1⟩, HS2, Hq0, Hq1, Hq2, Hq3, Hq4, Hq5, Hq6, Hq7, Hh0, ⟨%W', HW'⟩⟩
        isplitl [HS0 HS1 HS2 Hg Hq0 Hq1 Hq2 Hq3 Hq4 Hq5 Hq6 Hq7 Hh0]
        · isplitl [HS0 HS1 HS2]
          · isplitl [HS0]; · iexact HS0
            isplitl [HS1]
            · iexists _; unfold owns; iexists _; isplitr
              swap; · iexact HS1
              ipureintro; rfl
            unfold owns; iexists _; isplitr
            swap; · iexact HS2
            ipureintro; rfl
          isplitl [Hg]; · iexact Hg
          isplitl [Hq0 Hq1 Hq2 Hq3 Hq4 Hq5 Hq6 Hq7]
          · iframe Hq0 Hq1 Hq2 Hq3 Hq4 Hq5 Hq6 Hq7
          iexact Hh0
        isplitl [HW']
        · iexists W'; isplitr; · ipureintro; exact fun _ _ => Or.inl trivial
          iexact HW'
        iframe H0 H1 H2 H3 H4
        isplitl [H5]; · iapply owns_written (coverB_5 m c t h0 h1 _); iexact H5
        iexists _; iexact H6

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold PhiP
  iintro ⟨⟨HS0, HS1, HS2⟩, Hg, ⟨Hq0, Hq1, Hq2, Hq3, Hq4, Hq5, Hq6, Hq7⟩, Hh0⟩
  isplitl [HS0 HS1 HS2]
  · isplitl [HS0]; · iexists _; iexact HS0
    isplitl [HS1]; · iexact HS1
    iexists _; iexact HS2
  isplitl [Hg]; · iexact Hg
  isplitl [Hq0 Hq1 Hq2 Hq3 Hq4 Hq5 Hq6 Hq7]
  · iframe Hq0 Hq1 Hq2 Hq3 Hq4 Hq5 Hq6 Hq7
  iexact Hh0

theorem hout (c : Dev nD) : (dats m 0 c).Φ (Fin.last cfg0.N) ⊢ Pipeline.ΦD osem0 spec0 H0 (V m) c :=
  Phi_out m c _ (by rw [Fin.val_last]; have : cfg0.N = 8 := N_0; omega)

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every weakly fair execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every execution ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.DxIdeal.Gen

end
-- ==== Proof.Dx.Bits.lean ====
/- The frame of `Dx` as it is printed, over machine words. -/
module

public import proofs.«01_k».proof.Defs
public import proofs.«01_k».proof.Proof.Gen.Dx
public import proofs.«01_k».proof.Proof.Dx.Frame
public import Idealize.ShloMosaic.Lib.Tactic.ProgEq

@[expose] public section

set_option maxRecDepth 16384

namespace Cert.Dx.Gen
open Idealize.ShloMosaic Idealize.SL.Sem

/-- Every execution of the printed program ends, faults nowhere, leaves the arguments as they were and every semaphore at zero:
    the run of the idealized program, whose text is the same, read over machine words. -/
theorem frame : Cert.quiescent_Dx := by
  have h := fun m g (_ : True) => Cert.DxIdeal.Gen.frame (F := Bits) m g
  have e : type_of% h = Cert.quiescent_Dx := by sl_kernel_rfl
  exact e.mp h

end Cert.Dx.Gen
-- ==== Proof.Common.Canon.lean ====
/- Reading back a list of stored pieces when every piece agrees with one array. -/
module

public import Idealize.ShloMosaic.Lib.Pipeline.ValueKit
public import Idealize.ShloMosaic.Lib.Pointwise

@[expose] public section

noncomputable section

namespace Cert.Common

open Idealize.ShloMosaic

/-- If the pieces cover the array and each holds the values of `g` at its own places, the array read back is `g`. -/
theorem canon_agree {Elt : EltTy → Type} [∀ e, Nonempty (Elt e)] {S : Shape} {e : EltTy} (g : S.Idx → Elt e)
    (L : List (View.Piece Elt S e)) (hc : ∀ y, ∃ p ∈ L, y ∈ p.1.set)
    (h : ∀ p ∈ L, ∀ x, p.2 x = g (p.1.idx x)) : View.canon L = g := by
  funext y
  refine View.canon_eq_of_allAt L y (g y) (hc y) ?_
  intro p hp x hx
  rw [h p hp x]; exact congrArg g hx

/-- Loading the whole of a matrix reads the matrix. -/
theorem load_full2 {α : Type} {n0 n1 : Nat} (G : (⟨2, ![n0, n1]⟩ : Shape).Idx → α)
    (inb : ∀ a, (![0, 0] : Fin 2 → Nat) a + (![n0, n1] : Fin 2 → Nat) a ≤ (⟨2, ![n0, n1]⟩ : Shape).size a) :
    (fun j => G ((Rect.unit (s := ⟨2, ![n0, n1]⟩) ![0, 0] ![n0, n1] inb).toLoadRect.idx j)) = G := by
  funext j
  refine congrArg G (funext fun a => Fin.ext ?_)
  show (![0, 0] : Fin 2 → Nat) a + 1 * (j a).val = (j a).val
  have : (![0, 0] : Fin 2 → Nat) a = 0 := by
    match a with
    | ⟨0, _⟩ => rfl
    | ⟨1, _⟩ => rfl
  omega

/-- An entry of slab `k` lies in the rectangle of slab `k`. -/
theorem mem_slab {n0 n1 n2 k : Nat} {r : Fin n0} {s : Fin n1} {l : Fin n2} (h : r.val = k)
    (inb : ∀ a, (![k, 0, 0] : Fin 3 → Nat) a + (![1, n1, n2] : Fin 3 → Nat) a ≤ (⟨3, ![n0, n1, n2]⟩ : Shape).size a) :
    ix3 r s l ∈ (Rect.unit (s := ⟨3, ![n0, n1, n2]⟩) ![k, 0, 0] ![1, n1, n2] inb).set := by
  refine Rect.mem_set_unit.mpr fun a => ?_
  match a with
  | ⟨0, _⟩ => exact ⟨(show k ≤ r.val by omega), (show r.val < k + 1 by omega)⟩
  | ⟨1, _⟩ => exact ⟨Nat.zero_le _, (show s.val < 0 + n1 by omega)⟩
  | ⟨2, _⟩ => exact ⟨Nat.zero_le _, (show l.val < 0 + n2 by omega)⟩

/-- One row written over a whole matrix: that row is the new one, the others are the matrix's. -/
theorem canon_row_over {Elt : EltTy → Type} [∀ e, Nonempty (Elt e)] {e : EltTy} {n0 n1 k : Nat}
    (inb : ∀ a, (![k, 0] : Fin 2 → Nat) a + (![1, n1] : Fin 2 → Nat) a ≤ (⟨2, ![n0, n1]⟩ : Shape).size a)
    (a : (⟨2, ![1, n1]⟩ : Shape).Idx → Elt e) (P : View.Piece Elt ⟨2, ![n0, n1]⟩ e) (G : (⟨2, ![n0, n1]⟩ : Shape).Idx → Elt e)
    (hP : View.canon [P] = G) (r : Fin n0) (l : Fin n1) :
    View.canon [(⟨Rect.unit ![k, 0] ![1, n1] inb, a⟩ : View.Piece Elt ⟨2, ![n0, n1]⟩ e), P] (ix2 r l)
      = if r.val = k then a (ix2 (n0 := 1) 0 l) else G (ix2 r l) := by
  split
  · next h =>
    have he : (Rect.unit (s := ⟨2, ![n0, n1]⟩) ![k, 0] ![1, n1] inb).emb (ix2 (n0 := 1) 0 l) = ix2 r l := by
      funext b
      refine Fin.ext ?_
      match b with
      | ⟨0, _⟩ => show k + 1 * 0 = r.val; omega
      | ⟨1, _⟩ => show 0 + 1 * l.val = l.val; omega
    rw [← he]
    exact View.canon_cons_emb _ _ _ _
  · next h =>
    rw [View.canon_cons_of_not_mem, hP]
    intro hm
    have h2 := (Rect.mem_set_unit (inb := inb)).mp hm (0 : Fin 2)
    have h3 : k ≤ r.val ∧ r.val < k + 1 := h2
    omega

/-- Two index triples with the same numbers are the same. -/
theorem ix3_congr {n0 n1 n2 : Nat} {a a' : Fin n0} {b b' : Fin n1} {c c' : Fin n2} (ha : a.val = a'.val)
    (hb : b.val = b'.val) (hc : c.val = c'.val) : ix3 a b c = ix3 a' b' c' := by
  obtain rfl := Fin.ext ha
  obtain rfl := Fin.ext hb
  obtain rfl := Fin.ext hc
  rfl

end Cert.Common

end
-- ==== Proof.Dx.Chunks.lean ====
/- The whole arrays that one grid point of the kernel `Dx` works on: the chunks of `d(gate,up)` side by side as one matrix, the
   transposed weights, the tile of `dx` and the running sums of the statistics. -/
module

public import proofs.«01_k».proof.Proof.Dx.Frame
public import proofs.«01_k».proof.Proof.Common.Canon
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dx

open Cert.DxIdeal Cert.DxIdeal.Gen Cert.Common

/-- The 22 chunks of 256 columns, side by side as one matrix. -/
def DGU (B : Vec Ideal S22x256x256 .bf16) : Vec Ideal S256x5632 .bf16 :=
  fun j => B (ix3 (n0 := 22) (n1 := 256) (n2 := 256)
    ⟨(j 1 : Fin 5632).val / 256, by have h : (j 1 : Fin 5632).val < 5632 := (j 1).isLt; omega⟩ (j 0)
    ⟨(j 1 : Fin 5632).val % 256, Nat.mod_lt _ (by norm_num)⟩)

/-- The eight blocks of 704 rows, one under the other as one matrix. -/
def WT (A : Vec Ideal S8x704x1024 .bf16) : Vec Ideal S5632x1024 .bf16 :=
  fun j => A (ix3 (n0 := 8) (n1 := 704) (n2 := 1024)
    ⟨(j 0 : Fin 5632).val / 704, by have h : (j 0 : Fin 5632).val < 5632 := (j 0).isLt; omega⟩
    ⟨(j 0 : Fin 5632).val % 704, Nat.mod_lt _ (by norm_num)⟩ (j 1))

/-- One row of an eight row block. -/
abbrev scaleRow (P : Vec Ideal S8x1024 .f32) := k0_pay4 (View.ld P (Rect.unit ![1, 0] ![1, 1024] inb_S8x1024_S1x1024_1_0))
/-- One row of an eight row block. -/
abbrev gRow (P : Vec Ideal S8x1024 .f32) := k0_pay5 (View.ld P (Rect.unit ![3, 0] ![1, 1024] inb_S8x1024_S1x1024_3_0))

/-- The tile of `dx` at one grid point, from the blocks it is given. -/
def dxTile (U X : Vec Ideal S256x1024 .f32) (P : Vec Ideal S8x1024 .f32) (D : Vec Ideal S256x5632 .bf16)
    (W : Vec Ideal S5632x1024 .bf16) : Vec Ideal S256x1024 .f32 :=
  k0_pay40 (scaleRow P) (gRow P) (k0_pay30 D W) (k0_pay31 U) (k0_pay33 X) (k0_pay34 X)

/-- The running sums of the statistics after one more grid point, over the sums `q` before it. -/
def stats (X : Vec Ideal S256x1024 .f32) (P : Vec Ideal S8x1024 .f32) (D : Vec Ideal S256x5632 .bf16)
    (W : Vec Ideal S5632x1024 .bf16) (q : Vec Ideal S4x8x1024 .f32) : Vec Ideal S4x8x1024 .f32 := fun y =>
  if ((y 0 : Fin 4).val = 0) then
    k0_pay36 (k0_pay35 D W (View.ld q (Rect.unit ![0, 0, 0] ![1, 8, 1024] inb_S4x8x1024_S1x8x1024_0_0_0))) (ix3 (n0 := 1) (n1 := 8) (n2 := 1024) 0 (y 1) (y 2))
  else if ((y 0 : Fin 4).val = 1) then
    k0_pay37 (gRow P) (k0_pay30 D W) (k0_pay34 X) (View.ld q (Rect.unit ![1, 0, 0] ![1, 8, 1024] inb_S4x8x1024_S1x8x1024_1_0_0)) (ix3 (n0 := 1) (n1 := 8) (n2 := 1024) 0 (y 1) (y 2))
  else if ((y 0 : Fin 4).val = 3) then
    k0_pay39 (scaleRow P) (k0_pay30 D W) (k0_pay34 X) (View.ld q (Rect.unit ![3, 0, 0] ![1, 8, 1024] inb_S4x8x1024_S1x8x1024_3_0_0)) (ix3 (n0 := 1) (n1 := 8) (n2 := 1024) 0 (y 1) (y 2))
  else q y

theorem stats_0 (X : Vec Ideal S256x1024 .f32) (P : Vec Ideal S8x1024 .f32) (D : Vec Ideal S256x5632 .bf16)
    (W : Vec Ideal S5632x1024 .bf16) (q : Vec Ideal S4x8x1024 .f32) (y : S4x8x1024.Idx) (h : (y 0 : Fin 4).val = 0) :
    stats X P D W q y = k0_pay36 (k0_pay35 D W (View.ld q (Rect.unit ![0, 0, 0] ![1, 8, 1024] inb_S4x8x1024_S1x8x1024_0_0_0)))
      (ix3 (n0 := 1) (n1 := 8) (n2 := 1024) 0 (y 1) (y 2)) := if_pos h

theorem stats_1 (X : Vec Ideal S256x1024 .f32) (P : Vec Ideal S8x1024 .f32) (D : Vec Ideal S256x5632 .bf16)
    (W : Vec Ideal S5632x1024 .bf16) (q : Vec Ideal S4x8x1024 .f32) (y : S4x8x1024.Idx) (h : (y 0 : Fin 4).val = 1) :
    stats X P D W q y = k0_pay37 (gRow P) (k0_pay30 D W) (k0_pay34 X) (View.ld q (Rect.unit ![1, 0, 0] ![1, 8, 1024] inb_S4x8x1024_S1x8x1024_1_0_0))
      (ix3 (n0 := 1) (n1 := 8) (n2 := 1024) 0 (y 1) (y 2)) :=
  (if_neg (by omega)).trans (if_pos h)

theorem stats_3 (X : Vec Ideal S256x1024 .f32) (P : Vec Ideal S8x1024 .f32) (D : Vec Ideal S256x5632 .bf16)
    (W : Vec Ideal S5632x1024 .bf16) (q : Vec Ideal S4x8x1024 .f32) (y : S4x8x1024.Idx) (h : (y 0 : Fin 4).val = 3) :
    stats X P D W q y = k0_pay39 (scaleRow P) (k0_pay30 D W) (k0_pay34 X) (View.ld q (Rect.unit ![3, 0, 0] ![1, 8, 1024] inb_S4x8x1024_S1x8x1024_3_0_0))
      (ix3 (n0 := 1) (n1 := 8) (n2 := 1024) 0 (y 1) (y 2)) :=
  (if_neg (by omega)).trans ((if_neg (by omega)).trans (if_pos h))

/-- The index of an entry in its own slab. -/
theorem slab_idx (k : Nat) (inb : ∀ a, (![k, 0, 0] : Fin 3 → Nat) a + (![1, 8, 1024] : Fin 3 → Nat) a ≤ S4x8x1024.size a)
    (x0 : Fin 1) (x1 : Fin 8) (x2 : Fin 1024) :
    ix3 (n0 := 1) (n1 := 8) (n2 := 1024) x0 x1 x2
      = ix3 (n0 := 1) (n1 := 8) (n2 := 1024) 0 ((Rect.unit (s := S4x8x1024) ![k, 0, 0] ![1, 8, 1024] inb).emb (ix3 x0 x1 x2) 1)
          ((Rect.unit (s := S4x8x1024) ![k, 0, 0] ![1, 8, 1024] inb).emb (ix3 x0 x1 x2) 2) :=
  ix3_congr (by omega) (by show x1.val = 0 + 1 * x1.val; omega) (by show x2.val = 0 + 1 * x2.val; omega)

set_option maxHeartbeats 1000000 in
/-- The 22 copied chunks, read back, are the matrix. -/
theorem canon_chunks (B : Vec Ideal S22x256x256 .bf16) :
    View.canon (Val := Elt Ideal) (s := S256x5632) (e := .bf16) [⟨Rect.unit ![0, 5376] ![256, 256] inb_S256x5632_S256x256_0_5376, k0_pay29 (View.ld (B) (Rect.unit ![21, 0, 0] ![1, 256, 256] inb_S22x256x256_S1x256x256_21_0_0))⟩,
      ⟨Rect.unit ![0, 5120] ![256, 256] inb_S256x5632_S256x256_0_5120, k0_pay28 (k0_pay27 (View.ld (B) (Rect.unit ![20, 0, 0] ![1, 256, 256] inb_S22x256x256_S1x256x256_20_0_0)))⟩,
      ⟨Rect.unit ![0, 4864] ![256, 256] inb_S256x5632_S256x256_0_4864, k0_pay26 (View.ld (B) (Rect.unit ![19, 0, 0] ![1, 256, 256] inb_S22x256x256_S1x256x256_19_0_0))⟩,
      ⟨Rect.unit ![0, 4608] ![256, 256] inb_S256x5632_S256x256_0_4608, k0_pay25 (View.ld (B) (Rect.unit ![18, 0, 0] ![1, 256, 256] inb_S22x256x256_S1x256x256_18_0_0))⟩,
      ⟨Rect.unit ![0, 4352] ![256, 256] inb_S256x5632_S256x256_0_4352, k0_pay24 (View.ld (B) (Rect.unit ![17, 0, 0] ![1, 256, 256] inb_S22x256x256_S1x256x256_17_0_0))⟩,
      ⟨Rect.unit ![0, 4096] ![256, 256] inb_S256x5632_S256x256_0_4096, k0_pay23 (View.ld (B) (Rect.unit ![16, 0, 0] ![1, 256, 256] inb_S22x256x256_S1x256x256_16_0_0))⟩,
      ⟨Rect.unit ![0, 3840] ![256, 256] inb_S256x5632_S256x256_0_3840, k0_pay22 (View.ld (B) (Rect.unit ![15, 0, 0] ![1, 256, 256] inb_S22x256x256_S1x256x256_15_0_0))⟩,
      ⟨Rect.unit ![0, 3584] ![256, 256] inb_S256x5632_S256x256_0_3584, k0_pay21 (View.ld (B) (Rect.unit ![14, 0, 0] ![1, 256, 256] inb_S22x256x256_S1x256x256_14_0_0))⟩,
      ⟨Rect.unit ![0, 3328] ![256, 256] inb_S256x5632_S256x256_0_3328, k0_pay20 (View.ld (B) (Rect.unit ![13, 0, 0] ![1, 256, 256] inb_S22x256x256_S1x256x256_13_0_0))⟩,
      ⟨Rect.unit ![0, 3072] ![256, 256] inb_S256x5632_S256x256_0_3072, k0_pay19 (View.ld (B) (Rect.unit ![12, 0, 0] ![1, 256, 256] inb_S22x256x256_S1x256x256_12_0_0))⟩,
      ⟨Rect.unit ![0, 2816] ![256, 256] inb_S256x5632_S256x256_0_2816, k0_pay18 (View.ld (B) (Rect.unit ![11, 0, 0] ![1, 256, 256] inb_S22x256x256_S1x256x256_11_0_0))⟩,
      ⟨Rect.unit ![0, 2560] ![256, 256] inb_S256x5632_S256x256_0_2560, k0_pay17 (View.ld (B) (Rect.unit ![10, 0, 0] ![1, 256, 256] inb_S22x256x256_S1x256x256_10_0_0))⟩,
      ⟨Rect.unit ![0, 2304] ![256, 256] inb_S256x5632_S256x256_0_2304, k0_pay16 (k0_pay15 (View.ld (B) (Rect.unit ![9, 0, 0] ![1, 256, 256] inb_S22x256x256_S1x256x256_9_0_0)))⟩,
      ⟨Rect.unit ![0, 2048] ![256, 256] inb_S256x5632_S256x256_0_2048, k0_pay14 (View.ld (B) (Rect.unit ![8, 0, 0] ![1, 256, 256] inb_S22x256x256_S1x256x256_8_0_0))⟩,
      ⟨Rect.unit ![0, 1792] ![256, 256] inb_S256x5632_S256x256_0_1792, k0_pay13 (View.ld (B) (Rect.unit ![7, 0, 0] ![1, 256, 256] inb_S22x256x256_S1x256x256_7_0_0))⟩,
      ⟨Rect.unit ![0, 1536] ![256, 256] inb_S256x5632_S256x256_0_1536, k0_pay12 (View.ld (B) (Rect.unit ![6, 0, 0] ![1, 256, 256] inb_S22x256x256_S1x256x256_6_0_0))⟩,
      ⟨Rect.unit ![0, 1280] ![256, 256] inb_S256x5632_S256x256_0_1280, k0_pay11 (View.ld (B) (Rect.unit ![5, 0, 0] ![1, 256, 256] inb_S22x256x256_S1x256x256_5_0_0))⟩,
      ⟨Rect.unit ![0, 1024] ![256, 256] inb_S256x5632_S256x256_0_1024, k0_pay10 (View.ld (B) (Rect.unit ![4, 0, 0] ![1, 256, 256] inb_S22x256x256_S1x256x256_4_0_0))⟩,
      ⟨Rect.unit ![0, 768] ![256, 256] inb_S256x5632_S256x256_0_768, k0_pay9 (View.ld (B) (Rect.unit ![3, 0, 0] ![1, 256, 256] inb_S22x256x256_S1x256x256_3_0_0))⟩,
      ⟨Rect.unit ![0, 512] ![256, 256] inb_S256x5632_S256x256_0_512, k0_pay8 (View.ld (B) (Rect.unit ![2, 0, 0] ![1, 256, 256] inb_S22x256x256_S1x256x256_2_0_0))⟩,
      ⟨Rect.unit ![0, 256] ![256, 256] inb_S256x5632_S256x256_0_256, k0_pay7 (View.ld (B) (Rect.unit ![1, 0, 0] ![1, 256, 256] inb_S22x256x256_S1x256x256_1_0_0))⟩,
      ⟨Rect.unit ![0, 0] ![256, 256] inb_S256x5632_S256x256_0_0, k0_pay6 (View.ld (B) (Rect.unit ![0, 0, 0] ![1, 256, 256] inb_S22x256x256_S1x256x256_0_0_0))⟩] = DGU B := by
  refine canon_agree (DGU B) _ (fun y => View.cover_of_tiledL (s := S256x5632) _ ![256, 256] (by sl_kernel_rfl) y) ?_
  simp only [List.forall_mem_cons]
  refine ⟨fun x => ?_, fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_,
    fun x => ?_, fun x => ?_, fun x => ?_, fun x => ?_, fun x h => absurd h List.not_mem_nil⟩ <;>
  · idx_vars x
    pointwise [DGU, k0_pay6, k0_pay7, k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27, k0_pay28, k0_pay29]
    exact congrArg B (ix3_congr (by simp <;> omega) rfl (by simp <;> omega))

end Cert.Dx
end
-- ==== Proof.Dx.Cases.lean ====
/- What one grid point of the kernel `Dx` leaves, written with whole arrays. -/
module

public import proofs.«01_k».proof.Proof.Dx.Chunks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dx

open Cert.DxIdeal Cert.DxIdeal.Gen Cert.Common

variable (m : (ℓ : Loc nD τ sig) → Buf (Elt Ideal) ℓ)

/-- A middle point's tile of `dx`. -/
theorem outsB_1 (c : Dev nD) (t : Fin cfg0.N) (h0 : ¬t.val % 8 = 0) (h1 : ¬t.val % 8 = 7) (p : Outs Ideal) :
    (outsB m c t h0 h1 p).1 = dxTile (iblk m c 0 t) (iblk m c 1 t) (iblk m c 2 t) (DGU (iblk m c 3 t)) p.2.2.1 := by
  unfold outsB
  dsimp only
  unfold outB_5 runB
  funext y
  frame_open
  simp (disch := decide) only [↓ View.readCov_skip, ↓ View.readCov_cons_toLoadRect, ↓ View.readCov_fill]
  frame_out
  simp only [View.readCov_eq_canon', read_unread_whole, canon_chunks]
  rw [load_full2]
  rfl

/-- The last point's tile of `dx`. -/
theorem outsC_1 (c : Dev nD) (t : Fin cfg0.N) (h0 : ¬t.val % 8 = 0) (h1 : t.val % 8 = 7) (p : Outs Ideal) :
    (outsC m c t h0 h1 p).1 = dxTile (iblk m c 0 t) (iblk m c 1 t) (iblk m c 2 t) (DGU (iblk m c 3 t)) p.2.2.1 := by
  unfold outsC
  dsimp only
  unfold outC_5 runC
  funext y
  frame_open
  simp (disch := decide) only [↓ View.readCov_skip, ↓ View.readCov_cons_toLoadRect, ↓ View.readCov_fill]
  frame_out
  simp only [View.readCov_eq_canon', read_unread_whole, canon_chunks]
  rw [load_full2]
  rfl

/-- The block of 704 rows in one slab, read back. -/
theorem read_block (A : Vec Ideal S8x704x1024 .bf16) (k : Nat)
    (inb : ∀ a, (![k, 0, 0] : Fin 3 → Nat) a + (![1, 704, 1024] : Fin 3 → Nat) a ≤ S8x704x1024.size a) (h) (x0 : Fin 704) (x1 : Fin 1024) :
    View.read (Elt Ideal) (((View.whole main_v7).slice (Rect.unit ![k, 0, 0] ![1, 704, 1024] inb)).reshape S704x1024 h) A (ix2 x0 x1)
      = A (ix3 (n0 := 8) (n1 := 704) (n2 := 1024) ⟨k, by have h := inb 0; change k + 1 ≤ 8 at h; omega⟩ x0 x1) := by
  have e : ∀ (B : Vec Ideal S1x704x1024 .bf16) (h), shapeCast (s := S1x704x1024) S704x1024 B h (ix2 x0 x1) = B (ix3 (n0 := 1) (n1 := 704) (n2 := 1024) 0 x0 x1) := by
    intro B h
    pointwise []
  refine (e (fun j => A ((Rect.unit (s := S8x704x1024) ![k, 0, 0] ![1, 704, 1024] inb).emb j)) h).trans (congrArg A (funext fun a => Fin.ext ?_))
  match a with
  | ⟨0, _⟩ => show k + 1 * 0 = k; omega
  | ⟨1, _⟩ => show 0 + 1 * x0.val = x0.val; omega
  | ⟨2, _⟩ => show 0 + 1 * x1.val = x1.val; omega

/-- The first point fills the scratch with the weights. -/
theorem outsA_w (c : Dev nD) (t : Fin cfg0.N) (h0 : t.val % 8 = 0) (h1 : ¬t.val % 8 = 7) :
    (outsA m c t h0 h1).2.2.1 = WT (V m c main_v7) := by
  unfold outsA
  dsimp only
  unfold soutA_0 runA
  funext y
  frame_out
  generalize (V m c main_v7 : Vec Ideal S8x704x1024 .bf16) = A
  refine congrFun (canon_agree (WT A) _ ?_ ?_) y
  · exact fun y => View.cover_of_tiledL (s := S5632x1024) _ ![704, 1024] (by sl_kernel_rfl) y
  · simp only [List.forall_mem_cons]
    refine ⟨fun x => ?_, fun x => ?_, fun x => ?_, fun x => ?_, fun x => ?_, fun x => ?_, fun x => ?_, fun x => ?_, fun x h => absurd h List.not_mem_nil⟩ <;>
    · idx_vars x
      refine (read_block A _ _ _ x0 x1).trans ?_
      pointwise [WT]
      exact congrArg A (ix3_congr (by simp <;> omega) (by simp <;> omega) rfl)

/-- The statistics' running sums after a middle point. -/
theorem outsB_s (c : Dev nD) (t : Fin cfg0.N) (h0 : ¬t.val % 8 = 0) (h1 : ¬t.val % 8 = 7) (p : Outs Ideal)
    (r : Fin 4) (hr : r.val ≠ 2) (s : Fin 8) (l : Fin 1024) :
    (outsB m c t h0 h1 p).2.2.2 (ix3 (n0 := 4) (n1 := 8) (n2 := 1024) r s l)
      = stats (iblk m c 1 t) (iblk m c 2 t) (DGU (iblk m c 3 t)) p.2.2.1 p.2.2.2 (ix3 (n0 := 4) (n1 := 8) (n2 := 1024) r s l) := by
  unfold outsB
  dsimp only
  unfold soutB_2 runB
  frame_open
  simp (disch := decide) only [↓ View.readCov_skip, ↓ View.readCov_cons_toLoadRect, ↓ View.readCov_fill]
  frame_out
  simp only [View.readCov_eq_canon', read_unread_whole, canon_chunks]
  rw [load_full2]
  refine View.read_writes_apply_of_pieces _ _ (stats _ _ _ _ _) _ (View.PiecesOf.mem ?_) _ ?_
  · refine ⟨fun x => ?_, fun x => ?_, fun x => ?_, trivial⟩
    · idx_vars x
      rw [stats_3 _ _ _ _ _ _ (by show 3 + 1 * x0.val = 3; omega)]
      exact congrArg _ (slab_idx 3 inb_S4x8x1024_S1x8x1024_3_0_0 x0 x1 x2)
    · idx_vars x
      rw [stats_1 _ _ _ _ _ _ (by show 1 + 1 * x0.val = 1; omega)]
      exact congrArg _ (slab_idx 1 inb_S4x8x1024_S1x8x1024_1_0_0 x0 x1 x2)
    · idx_vars x
      rw [stats_0 _ _ _ _ _ _ (by show 0 + 1 * x0.val = 0; omega)]
      exact congrArg _ (slab_idx 0 inb_S4x8x1024_S1x8x1024_0_0_0 x0 x1 x2)
  · have h4 := r.isLt
    have hr3 : r.val = 0 ∨ r.val = 1 ∨ r.val = 3 := by omega
    rcases hr3 with h | h | h
    · exact ⟨_, .tail _ (.tail _ (.head _)), mem_slab h inb_S4x8x1024_S1x8x1024_0_0_0⟩
    · exact ⟨_, .tail _ (.head _), mem_slab h inb_S4x8x1024_S1x8x1024_1_0_0⟩
    · exact ⟨_, .head _, mem_slab h inb_S4x8x1024_S1x8x1024_3_0_0⟩

/-- The first point's tile of `dx`. -/
theorem outsA_1 (c : Dev nD) (t : Fin cfg0.N) (h0 : t.val % 8 = 0) (h1 : ¬t.val % 8 = 7) :
    (outsA m c t h0 h1).1 = dxTile (iblk m c 0 t) (iblk m c 1 t) (iblk m c 2 t) (DGU (iblk m c 3 t)) (WT (V m c main_v7)) := by
  have hw := outsA_w m c t h0 h1
  unfold outsA at hw
  dsimp only at hw
  unfold soutA_0 runA at hw
  frame_out at hw
  unfold outsA
  dsimp only
  unfold outA_5 runA
  funext y
  frame_open
  simp (disch := decide) only [↓ View.readCov_skip, ↓ View.readCov_cons_toLoadRect, ↓ View.readCov_fill]
  frame_out
  simp only [View.readCov_eq_canon', canon_chunks, hw]
  rw [load_full2, load_full2]
  rfl

/-- The statistics' running sums after the first point: over zeros. -/
theorem outsA_s (c : Dev nD) (t : Fin cfg0.N) (h0 : t.val % 8 = 0) (h1 : ¬t.val % 8 = 7)
    (r : Fin 4) (hr : r.val ≠ 2) (s : Fin 8) (l : Fin 1024) :
    (outsA m c t h0 h1).2.2.2 (ix3 (n0 := 4) (n1 := 8) (n2 := 1024) r s l)
      = stats (iblk m c 1 t) (iblk m c 2 t) (DGU (iblk m c 3 t)) (WT (V m c main_v7)) (k0_pay3 (F := Ideal)) (ix3 (n0 := 4) (n1 := 8) (n2 := 1024) r s l) := by
  have hw := outsA_w m c t h0 h1
  unfold outsA at hw
  dsimp only at hw
  unfold soutA_0 runA at hw
  frame_out at hw
  unfold outsA
  dsimp only
  unfold soutA_2 runA
  frame_open
  simp (disch := decide) only [↓ View.readCov_skip, ↓ View.readCov_cons_toLoadRect, ↓ View.readCov_fill]
  frame_out
  simp only [View.readCov_eq_canon', canon_chunks, hw]
  rw [load_full2, load_full2]
  refine View.canon_append_of_piecesOf (stats _ _ _ _ _) [_] [_, _, _] ?_ _ ?_
  · refine ⟨fun x => ?_, fun x => ?_, fun x => ?_, trivial⟩
    · idx_vars x
      rw [stats_3 _ _ _ _ _ _ (by show 3 + 1 * x0.val = 3; omega)]
      exact congrArg _ (slab_idx 3 inb_S4x8x1024_S1x8x1024_3_0_0 x0 x1 x2)
    · idx_vars x
      rw [stats_1 _ _ _ _ _ _ (by show 1 + 1 * x0.val = 1; omega)]
      exact congrArg _ (slab_idx 1 inb_S4x8x1024_S1x8x1024_1_0_0 x0 x1 x2)
    · idx_vars x
      rw [stats_0 _ _ _ _ _ _ (by show 0 + 1 * x0.val = 0; omega)]
      exact congrArg _ (slab_idx 0 inb_S4x8x1024_S1x8x1024_0_0_0 x0 x1 x2)
  · have h4 := r.isLt
    have hr3 : r.val = 0 ∨ r.val = 1 ∨ r.val = 3 := by omega
    rcases hr3 with h | h | h
    · exact ⟨_, .tail _ (.tail _ (.head _)), mem_slab h inb_S4x8x1024_S1x8x1024_0_0_0⟩
    · exact ⟨_, .tail _ (.head _), mem_slab h inb_S4x8x1024_S1x8x1024_1_0_0⟩
    · exact ⟨_, .head _, mem_slab h inb_S4x8x1024_S1x8x1024_3_0_0⟩

/-- The rows of sums, the gate's apart: the three sums over their 8 parts, then zeros. -/
theorem pay1_apply (a b d e : Vec Ideal S1x8x1024 .f32) (r : Fin 8) (hr : ¬r.val = 2) (l : Fin 1024) :
    k0_pay1 a b d e (ix2 (n0 := 8) (n1 := 1024) r l)
      = if r.val = 0 then ∑ s : Fin 8, a (ix3 (n0 := 1) (n1 := 8) (n2 := 1024) 0 s l)
        else if r.val = 1 then ∑ s : Fin 8, b (ix3 (n0 := 1) (n1 := 8) (n2 := 1024) 0 s l)
        else if r.val = 3 then ∑ s : Fin 8, e (ix3 (n0 := 1) (n1 := 8) (n2 := 1024) 0 s l) else 0 := by
  fin_vals r with h
  · obtain rfl : r = 0 := Fin.ext h; rw [if_pos h]; pointwise [k0_pay1]
  · obtain rfl : r = 1 := Fin.ext h; rw [if_neg (by omega), if_pos h]; pointwise [k0_pay1]
  · exact absurd h hr
  · obtain rfl : r = 3 := Fin.ext h; rw [if_neg (by omega), if_neg (by omega), if_pos h]; pointwise [k0_pay1]
  · obtain rfl : r = 4 := Fin.ext h; rw [if_neg (by omega), if_neg (by omega), if_neg (by omega)]; pointwise [k0_pay1]
  · obtain rfl : r = 5 := Fin.ext h; rw [if_neg (by omega), if_neg (by omega), if_neg (by omega)]; pointwise [k0_pay1]
  · obtain rfl : r = 6 := Fin.ext h; rw [if_neg (by omega), if_neg (by omega), if_neg (by omega)]; pointwise [k0_pay1]
  · obtain rfl : r = 7 := Fin.ext h; rw [if_neg (by omega), if_neg (by omega), if_neg (by omega)]; pointwise [k0_pay1]

/-- The loaded weight is carried as it is. -/
theorem outsB_w (c : Dev nD) (t : Fin cfg0.N) (h0 : ¬t.val % 8 = 0) (h1 : ¬t.val % 8 = 7) (p : Outs Ideal) :
    (outsB m c t h0 h1 p).2.2.1 = p.2.2.1 := by
  unfold outsB
  dsimp only
  unfold soutB_0
  rfl

/-- Row `r` of the carried sums, summed over its 8 parts; zero past the four rows. -/
def sumRow (S : Vec Ideal S4x8x1024 .f32) (r : Fin 8) (l : Fin 1024) : EReal :=
  if h : r.val < 4 then ∑ s : Fin 8, S (ix3 (n0 := 4) (n1 := 8) (n2 := 1024) ⟨r.val, h⟩ s l) else 0

/-- The rows of sums that leave are the carried ones, this tile's added, summed over their 8 parts. -/
theorem rows_leave (X : Vec Ideal S256x1024 .f32) (P : Vec Ideal S8x1024 .f32) (D : Vec Ideal S256x5632 .bf16)
    (W : Vec Ideal S5632x1024 .bf16) (q : Vec Ideal S4x8x1024 .f32) (r : Fin 8) (hr : ¬r.val = 2) (l : Fin 1024) :
    k0_pay1 (k0_pay36 (k0_pay35 D W (View.ld q (Rect.unit ![0, 0, 0] ![1, 8, 1024] inb_S4x8x1024_S1x8x1024_0_0_0))))
      (k0_pay37 (gRow P) (k0_pay30 D W) (k0_pay34 X) (View.ld q (Rect.unit ![1, 0, 0] ![1, 8, 1024] inb_S4x8x1024_S1x8x1024_1_0_0)))
      (View.ld q (Rect.unit ![2, 0, 0] ![1, 8, 1024] inb_S4x8x1024_S1x8x1024_2_0_0))
      (k0_pay39 (scaleRow P) (k0_pay30 D W) (k0_pay34 X) (View.ld q (Rect.unit ![3, 0, 0] ![1, 8, 1024] inb_S4x8x1024_S1x8x1024_3_0_0)))
      (ix2 (n0 := 8) (n1 := 1024) r l) = sumRow (stats X P D W q) r l := by
  rw [pay1_apply _ _ _ _ r hr]
  unfold sumRow
  split
  · next h4 =>
    rw [dif_pos (by omega)]
    exact Finset.sum_congr rfl fun s _ => (stats_0 X P D W q (ix3 ⟨r.val, by omega⟩ s l) h4).symm
  · split
    · next h4 =>
      rw [dif_pos (by omega)]
      exact Finset.sum_congr rfl fun s _ => (stats_1 X P D W q (ix3 ⟨r.val, by omega⟩ s l) h4).symm
    · split
      · next h4 =>
        rw [dif_pos (by omega)]
        exact Finset.sum_congr rfl fun s _ => (stats_3 X P D W q (ix3 ⟨r.val, by omega⟩ s l) h4).symm
      · rw [dif_neg (by omega)]

/-- At the last grid point the rows of sums leave: row 2 the gate's, the others the sums of the carried ones over their 8 parts. -/
theorem outsC_2 (c : Dev nD) (t : Fin cfg0.N) (h0 : ¬t.val % 8 = 0) (h1 : t.val % 8 = 7) (p : Outs Ideal) (r : Fin 8) (l : Fin 1024) :
    (outsC m c t h0 h1 p).2.1 (ix2 (n0 := 8) (n1 := 1024) r l)
      = if r.val = 2 then ((iblk m c 4 t : Vec Ideal S8x1024 .f32) (ix2 (n0 := 8) (n1 := 1024) 2 l) : EReal)
        else sumRow (stats (iblk m c 1 t) (iblk m c 2 t) (DGU (iblk m c 3 t)) p.2.2.1 p.2.2.2) r l := by
  unfold outsC
  dsimp only
  unfold outC_6 runC
  frame_open
  simp (disch := decide) only [↓ View.readCov_skip, ↓ View.readCov_cons_toLoadRect, ↓ View.readCov_fill]
  frame_out
  simp only [View.readCov_eq_canon', read_unread_whole, canon_chunks]
  rw [load_full2]
  refine (canon_row_over _ _ _ _ (View.canon_cons_unit_lit _ _ _ (by decide)) r l).trans ?_
  split
  · next h => pointwise [k0_pay2]
  · next h =>
    exact rows_leave _ _ _ _ _ r h l

end Cert.Dx

end
-- ==== Proof.Dx.Point.lean ====
/- What one grid point of the kernel `Dx` computes, entry by entry. -/
module

public import proofs.«01_k».proof.Proof.Dx.Cases

@[expose] public section

set_option maxRecDepth 16384

noncomputable section

open Idealize.ShloMosaic Idealize.ShloMosaic.TcCoe Idealize.SL.Sem
open Idealize.ShloMosaic.Pipeline (Dat)

namespace Cert.Dx

open Cert.DxIdeal Cert.DxIdeal.Gen Cert.Common

/-- The length of a row, as the program's constant. -/
def dN : EReal := Ideal.ofBits .f32 1149239296#32
/-- The constant added under the root. -/
def eps : EReal := Ideal.ofBits .f32 897988541#32

/-- One over the root mean square of a row. -/
def rs (x : Fin 1024 → EReal) : EReal := Ideal.rsqrt (Ideal.div (∑ j, x j * x j) dN + eps)

/-- The cotangent of the modulated row: a row of the outer cotangent times the weight's transpose. -/
def dh (gu : Fin 5632 → EReal) (w : Fin 1024 → Fin 5632 → EReal) (l : Fin 1024) : EReal := ∑ k, gu k * w l k

/-- An entry of `dx`. -/
def dxv (u x sc g : Fin 1024 → EReal) (gu : Fin 5632 → EReal) (w : Fin 1024 → Fin 5632 → EReal) (l : Fin 1024) : EReal :=
  u l + rs x * (dh gu w l * (1 + sc l) * g l
    - x l * rs x * Ideal.div (∑ j, dh gu w j * (1 + sc j) * g j * (x j * rs x)) dN)

/-- What a row of `x` adds to row `r` of the statistics. -/
def term (r : ℕ) (x sc g : Fin 1024 → EReal) (gu : Fin 5632 → EReal) (w : Fin 1024 → Fin 5632 → EReal) (l : Fin 1024) : EReal :=
  if r = 0 then dh gu w l else if r = 1 then dh gu w l * (x l * rs x * g l) else dh gu w l * (1 + sc l) * (x l * rs x)

/-- The tile of `dx`, entry by entry. -/
theorem dxTile_apply (U X : Vec Ideal S256x1024 .f32) (P : Vec Ideal S8x1024 .f32) (D : Vec Ideal S256x5632 .bf16)
    (W : Vec Ideal S5632x1024 .bf16) (i : Fin 256) (l : Fin 1024) :
    dxTile U X P D W (ix2 (n0 := 256) (n1 := 1024) i l)
      = dxv (fun j => U (ix2 i j)) (fun j => X (ix2 i j)) (fun j => P (ix2 1 j)) (fun j => P (ix2 3 j)) (fun k => D (ix2 i k))
          (fun j k => W (ix2 k j)) l := by
  unfold dxTile
  pointwise [k0_pay40, k0_pay30, k0_pay31, k0_pay32, k0_pay33, k0_pay34, k0_pay38, k0_pay4, k0_pay5]
  rfl

/-- The running sums after one more tile, entry by entry. -/
theorem stats_apply (X : Vec Ideal S256x1024 .f32) (P : Vec Ideal S8x1024 .f32) (D : Vec Ideal S256x5632 .bf16)
    (W : Vec Ideal S5632x1024 .bf16) (q : Vec Ideal S4x8x1024 .f32) (r : Fin 4) (hr : r.val ≠ 2) (s : Fin 8) (l : Fin 1024) :
    stats X P D W q (ix3 (n0 := 4) (n1 := 8) (n2 := 1024) r s l)
      = q (ix3 (n0 := 4) (n1 := 8) (n2 := 1024) r s l) + ∑ x : Fin 32, term r.val
          (fun j => X (ix2 ⟨x.val * 8 + s.val, by omega⟩ j)) (fun j => P (ix2 1 j)) (fun j => P (ix2 3 j))
          (fun k => D (ix2 ⟨x.val * 8 + s.val, by omega⟩ k)) (fun j k => W (ix2 k j)) l := by
  fin_vals r with h
  · obtain rfl : r = 0 := Fin.ext h
    rw [stats_0 _ _ _ _ _ _ rfl]
    pointwise [k0_pay36, k0_pay35, k0_pay30]
    rfl
  · obtain rfl : r = 1 := Fin.ext h
    rw [stats_1 _ _ _ _ _ _ rfl]
    pointwise [k0_pay37, k0_pay30, k0_pay32, k0_pay33, k0_pay34, k0_pay5]
    rfl
  · exact absurd h hr
  · obtain rfl : r = 3 := Fin.ext h
    rw [stats_3 _ _ _ _ _ _ rfl]
    pointwise [k0_pay39, k0_pay38, k0_pay30, k0_pay32, k0_pay33, k0_pay34, k0_pay4]
    rfl

/-- The running sums start at zero. -/
theorem zero_apply (r : Fin 4) (s : Fin 8) (l : Fin 1024) :
    k0_pay3 (F := Ideal) (ix3 (n0 := 4) (n1 := 8) (n2 := 1024) r s l) = 0 := by
  pointwise [k0_pay3]

end Cert.Dx

end
-- ==== Proof.Dx.Blocks.lean ====
/- The blocks of the kernel `Dx` at a grid point, as entries of the arguments. -/
module

public import proofs.«01_k».proof.Proof.Dx.Chunks

@[expose] public section

set_option maxRecDepth 16384

noncomputable section

open Idealize.ShloMosaic Idealize.ShloMosaic.TcCoe Idealize.SL.Sem
open Idealize.ShloMosaic.Pipeline (Dat)

namespace Cert.Dx

open Cert.DxIdeal Cert.DxIdeal.Gen Cert.Common

variable (m : (ℓ : Loc nD τ sig) → Buf (Elt Ideal) ℓ)

/-- The block each window takes at a grid point. -/
theorem idx : ∀ t : Fin cfg0.N, win0_0.index t = ![t.val, 0] ∧ win0_1.index t = ![t.val, 0] ∧ win0_2.index t = ![0, 0]
    ∧ win0_3.index t = ![0, t.val, 0] ∧ win0_4.index t = ![0, 0] ∧ win0_5.index t = ![t.val, 0] ∧ win0_6.index t = ![0, 0] :=
  (by decide +kernel : ∀ t : Fin grid0.N, _)

/-- Row `i` of the tile of grid point `t`. -/
def row (t : Fin cfg0.N) (i : Fin 256) : Fin 2048 :=
  ⟨t.val * 256 + i.val, by have h : t.val < 8 := lt_of_lt_of_eq t.isLt (show cfg0.N = 8 from N_0); omega⟩

theorem blk_u (c : Dev nD) (t : Fin cfg0.N) (i : Fin 256) (l : Fin 1024) :
    (iblk m c 0 t : Vec Ideal S256x1024 .f32) (ix2 i l)
      = (m ((c : Thread nD τ).loc main_arg4) : Vec Ideal S1x2048x1024 .f32) (ix3 (n0 := 1) (n1 := 2048) (n2 := 1024) 0 (row t i) l) := by
  unfold row
  blk_point [iblk, V, idx t]

theorem blk_x (c : Dev nD) (t : Fin cfg0.N) (i : Fin 256) (l : Fin 1024) :
    (iblk m c 1 t : Vec Ideal S256x1024 .f32) (ix2 i l)
      = (m ((c : Thread nD τ).loc main_arg0) : Vec Ideal S1x2048x1024 .f32) (ix3 (n0 := 1) (n1 := 2048) (n2 := 1024) 0 (row t i) l) := by
  unfold row
  blk_point [iblk, V, idx t]

/-- The small operands stacked: the three rows of `mod`, the row `g`, zeros. -/
theorem V_p (c : Dev nD) : (V m c main_v4 : Vec Ideal S8x1024 .f32) = concatenate S8x1024 0
    [⟨S3x1024, shapeCast (s := S1x3x1024) S3x1024 (shapeCast (s := S1x3072) S1x3x1024 (m ((c : Thread nD τ).loc main_arg1) : Vec Ideal S1x3072 .f32) shapeCasts_S1x3072_S1x3x1024) shapeCasts_S1x3x1024_S3x1024⟩,
     ⟨S1x1024, broadcastInDim S1x1024 ![1] bcast_S1024_S1x1024_1 (m ((c : Thread nD τ).loc main_arg2) : Vec Ideal S1024 .f32)⟩,
     ⟨S4x1024, broadcastInDim S4x1024 ![] bcast_S_S4x1024 (constant (F := Ideal) S_ .f32 0x00000000#32)⟩]
    concatenates_S3x1024_S1x1024_S4x1024_S8x1024_d0 := by
  unfold V
  after_results
  rfl

/-- The gate's row between zeros. -/
theorem V_gate (c : Dev nD) : (V m c main_v13 : Vec Ideal S8x1024 .f32) = concatenate S8x1024 0
    [⟨S2x1024, broadcastInDim S2x1024 ![] bcast_S_S2x1024 (constant (F := Ideal) S_ .f32 0x00000000#32)⟩,
     ⟨S1x1024, (m ((c : Thread nD τ).loc main_arg6) : Vec Ideal S1x1024 .f32)⟩,
     ⟨S5x1024, broadcastInDim S5x1024 ![] bcast_S_S5x1024 (constant (F := Ideal) S_ .f32 0x00000000#32)⟩]
    concatenates_S2x1024_S1x1024_S5x1024_S8x1024_d0 := by
  unfold V
  after_results
  rfl

theorem iblk_p (c : Dev nD) (t : Fin cfg0.N) (r : Fin 8) (l : Fin 1024) :
    (iblk m c 2 t : Vec Ideal S8x1024 .f32) (ix2 r l) = (V m c main_v4 : Vec Ideal S8x1024 .f32) (ix2 r l) := by
  refine congrArg (V m c main_v4) ?_
  blk_ext [idx t]

theorem iblk_gate (c : Dev nD) (t : Fin cfg0.N) (r : Fin 8) (l : Fin 1024) :
    (iblk m c 4 t : Vec Ideal S8x1024 .f32) (ix2 r l) = (V m c main_v13 : Vec Ideal S8x1024 .f32) (ix2 r l) := by
  refine congrArg (V m c main_v13) ?_
  blk_ext [idx t]

/-- The 22 tiles of the cotangent, side by side, are its rows. -/
theorem blk_dgu (c : Dev nD) (t : Fin cfg0.N) (i : Fin 256) (k : Fin 5632) :
    DGU (iblk m c 3 t) (ix2 i k)
      = (m ((c : Thread nD τ).loc main_arg5) : Vec Ideal S1x2048x5632 .bf16) (ix3 (n0 := 1) (n1 := 2048) (n2 := 5632) 0 (row t i) k) := by
  unfold row DGU
  blk_point [iblk, V, idx t]

/-- The 8 parts of the weight that the copies bring are its transpose. -/
theorem blk_w (c : Dev nD) (k : Fin 5632) (l : Fin 1024) :
    WT (V m c main_v7) (ix2 k l)
      = (m ((c : Thread nD τ).loc main_arg3) : Vec Ideal S1024x5632 .bf16) (ix2 (n0 := 1024) (n1 := 5632) l k) := by
  unfold WT
  blk_point [V]

theorem blk_scale (c : Dev nD) (t : Fin cfg0.N) (l : Fin 1024) :
    (iblk m c 2 t : Vec Ideal S8x1024 .f32) (ix2 1 l)
      = (m ((c : Thread nD τ).loc main_arg1) : Vec Ideal S1x3072 .f32) (ix2 (n0 := 1) (n1 := 3072) 0 ⟨1024 + l.val, by omega⟩) := by
  rw [iblk_p, V_p]
  pointwise []

theorem blk_g (c : Dev nD) (t : Fin cfg0.N) (l : Fin 1024) :
    (iblk m c 2 t : Vec Ideal S8x1024 .f32) (ix2 3 l)
      = (m ((c : Thread nD τ).loc main_arg2) : Vec Ideal S1024 .f32) (ix1 l) := by
  rw [iblk_p, V_p]
  pointwise []

theorem blk_gate (c : Dev nD) (t : Fin cfg0.N) (l : Fin 1024) :
    (iblk m c 4 t : Vec Ideal S8x1024 .f32) (ix2 2 l)
      = (m ((c : Thread nD τ).loc main_arg6) : Vec Ideal S1x1024 .f32) (ix2 (n0 := 1) (n1 := 1024) 0 l) := by
  rw [iblk_gate, V_gate]
  pointwise []

end Cert.Dx

end
-- ==== Proof.Common.Sums.lean ====
/- Sums over the rows of a matrix, taken tile by tile. -/
module

public import Idealize.ShloMosaic.PureOps.Ideal
public import Idealize.ShloMosaic.Lib.Pointwise.Sums

@[expose] public section

noncomputable section

open Idealize.ShloMosaic

namespace Cert.Common

/-- Sums of 8 residues over `J` tiles of `T` groups of 8 rows are the sum over all rows. -/
theorem sum_rows (J T N : ℕ) (hN : N = J * (T * 8)) (f : ℕ → EReal) :
    ∑ s : Fin 8, ∑ t ∈ Finset.range J, ∑ x : Fin T, f (t * (T * 8) + (x.val * 8 + s.val)) = ∑ n : Fin N, f n.val := by
  rw [Finset.sum_comm, Fin.sum_univ_tiles J (T * 8) hN.symm, Finset.sum_range]
  refine Finset.sum_congr rfl fun t _ => ?_
  rw [Fin.sum_univ_tiles T 8 rfl, Finset.sum_comm]

end Cert.Common

end
-- ==== Proof.Dx.Final.lean ====
/- What the kernel `Dx` leaves in its two results, entry by entry. -/
module

public import proofs.«01_k».proof.Proof.Dx.Point
public import proofs.«01_k».proof.Proof.Dx.Blocks
public import proofs.«01_k».proof.Proof.Common.Sums

@[expose] public section

set_option maxRecDepth 16384

noncomputable section

open Idealize.ShloMosaic Idealize.ShloMosaic.TcCoe Idealize.SL.Sem
open Idealize.ShloMosaic.Pipeline (Dat)

namespace Cert.Dx

open Cert.DxIdeal Cert.DxIdeal.Gen Cert.Common

/-- Entry `l` of row `n` of the first result, from the arguments. -/
def dxAt (x : Vec Ideal S1x2048x1024 .f32) (mod : Vec Ideal S1x3072 .f32) (g : Vec Ideal S1024 .f32) (w : Vec Ideal S1024x5632 .f32)
    (ct : Vec Ideal S1x2048x1024 .f32) (gu : Vec Ideal S1x2048x5632 .f32) (n : Fin 2048) (l : Fin 1024) : EReal :=
  dxv (fun j => ct (ix3 0 n j)) (fun j => x (ix3 0 n j)) (fun j => mod (ix2 0 ⟨1024 + j.val, by omega⟩)) (fun j => g (ix1 j))
    (fun k => gu (ix3 0 n k)) (fun j k => w (ix2 j k)) l

/-- What row `n` adds to row `r` of the statistics, from the arguments. -/
def termAt (x : Vec Ideal S1x2048x1024 .f32) (mod : Vec Ideal S1x3072 .f32) (g : Vec Ideal S1024 .f32) (w : Vec Ideal S1024x5632 .f32)
    (gu : Vec Ideal S1x2048x5632 .f32) (r : ℕ) (l : Fin 1024) (n : Fin 2048) : EReal :=
  term r (fun j => x (ix3 0 n j)) (fun j => mod (ix2 0 ⟨1024 + j.val, by omega⟩)) (fun j => g (ix1 j))
    (fun k => gu (ix3 0 n k)) (fun j k => w (ix2 j k)) l

/-- Row `r` of the second result, from the arguments. -/
def statAt (x : Vec Ideal S1x2048x1024 .f32) (mod : Vec Ideal S1x3072 .f32) (g : Vec Ideal S1024 .f32) (w : Vec Ideal S1024x5632 .f32)
    (gu : Vec Ideal S1x2048x5632 .f32) (gate : Vec Ideal S1x1024 .f32) (r : Fin 8) (l : Fin 1024) : EReal :=
  if r.val = 2 then gate (ix2 0 l) else if r.val < 4 then ∑ n : Fin 2048, termAt x mod g w gu r.val l n else 0

variable (m : (ℓ : Loc nD τ sig) → Buf (Elt Ideal) ℓ)

/-- The statistics' term of row `n` of this core's arguments, zero past the last row. -/
def termN (c : Dev nD) (r : ℕ) (l : Fin 1024) (n : ℕ) : EReal :=
  if h : n < 2048 then termAt (m ((c : Thread nD τ).loc main_arg0)) (m ((c : Thread nD τ).loc main_arg1)) (m ((c : Thread nD τ).loc main_arg2))
    (m ((c : Thread nD τ).loc main_arg3)) (m ((c : Thread nD τ).loc main_arg5)) r l ⟨n, h⟩ else 0

/-- The term of equal rows is equal. -/
theorem term_congr {r : ℕ} {x x' sc sc' g g' : Fin 1024 → EReal} {gu gu' : Fin 5632 → EReal} {w w' : Fin 1024 → Fin 5632 → EReal}
    {l : Fin 1024} (hx : x = x') (hsc : sc = sc') (hg : g = g') (hgu : gu = gu') (hw : w = w') :
    term r x sc g gu w l = term r x' sc' g' gu' w' l := by
  subst hx hsc hg hgu hw
  rfl

/-- The entry of `dx` of equal rows is equal. -/
theorem dxv_congr {u u' x x' sc sc' g g' : Fin 1024 → EReal} {gu gu' : Fin 5632 → EReal} {w w' : Fin 1024 → Fin 5632 → EReal}
    {l l' : Fin 1024} (hu : u = u') (hx : x = x') (hsc : sc = sc') (hg : g = g') (hgu : gu = gu') (hw : w = w') (hl : l = l') :
    dxv u x sc g gu w l = dxv u' x' sc' g' gu' w' l' := by
  subst hu hx hsc hg hgu hw hl
  rfl

/-- One tile's sums over the carried ones, as terms of the arguments' rows. -/
theorem stats_tile (c : Dev nD) (t : Fin cfg0.N) (q : Vec Ideal S4x8x1024 .f32) (r : Fin 4) (hr : r.val ≠ 2) (s : Fin 8) (l : Fin 1024) :
    stats (iblk m c 1 t) (iblk m c 2 t) (DGU (iblk m c 3 t)) (WT (V m c main_v7)) q (ix3 (n0 := 4) (n1 := 8) (n2 := 1024) r s l)
      = q (ix3 (n0 := 4) (n1 := 8) (n2 := 1024) r s l) + ∑ x : Fin 32, termN m c r.val l (t.val * (32 * 8) + (x.val * 8 + s.val)) := by
  rw [stats_apply _ _ _ _ _ r hr s l]
  refine congrArg (_ + ·) (Finset.sum_congr rfl fun x _ => ?_)
  have hn : t.val * (32 * 8) + (x.val * 8 + s.val) < 2048 := by
    have h : t.val < 8 := lt_of_lt_of_eq t.isLt (show cfg0.N = 8 from N_0); omega
  have hrow : (⟨t.val * (32 * 8) + (x.val * 8 + s.val), hn⟩ : Fin 2048) = row t ⟨x.val * 8 + s.val, by omega⟩ :=
    Fin.ext (by show t.val * (32 * 8) + (x.val * 8 + s.val) = t.val * 256 + (x.val * 8 + s.val); omega)
  unfold termN
  rw [dif_pos hn, hrow]
  unfold termAt
  exact term_congr (funext fun j => blk_x m c t _ j) (funext fun j => blk_scale m c t j) (funext fun j => blk_g m c t j)
    (funext fun k => blk_dgu m c t _ k) (funext fun j => funext fun k => blk_w m c k j)

/-- After point `n` the weight is loaded and the carried sums are those of the tiles so far. -/
theorem carried (c : Dev nD) (n : ℕ) : ∀ hn : n < cfg0.N, n < 7 →
    (outsAt0 m c n hn).2.2.1 = WT (V m c main_v7)
    ∧ ∀ r : Fin 4, r.val ≠ 2 → ∀ (s : Fin 8) (l : Fin 1024), ((outsAt0 m c n hn).2.2.2 : Vec Ideal S4x8x1024 .f32) (ix3 (n0 := 4) (n1 := 8) (n2 := 1024) r s l)
      = ∑ t ∈ Finset.range (n + 1), ∑ x : Fin 32, termN m c r.val l (t * (32 * 8) + (x.val * 8 + s.val)) := by
  induction n with
  | zero =>
    intro hn _
    have e := outsAt0_A m c ⟨0, hn⟩ (Nat.zero_mod _) (by show ¬0 % 8 = 7; omega)
    refine ⟨?_, fun r hr s l => ?_⟩
    · exact (congrArg (fun p : Outs Ideal => p.2.2.1) e).trans (outsA_w m c _ _ _)
    · refine (congrArg (fun p : Outs Ideal => p.2.2.2 (ix3 (n0 := 4) (n1 := 8) (n2 := 1024) r s l)) e).trans ?_
      rw [outsA_s m c _ _ _ r hr s l, stats_tile m c _ _ r hr s l, zero_apply, zero_add, Finset.sum_range_one]
  | succ n ih =>
    intro hn h7
    obtain ⟨hw, hs⟩ := ih (Nat.lt_of_succ_lt hn) (by omega)
    have e := outsAt0_B m c ⟨n + 1, hn⟩ (by show ¬(n + 1) % 8 = 0; omega) (by show ¬(n + 1) % 8 = 7; omega)
    have ep : outsAt0 m c ((⟨n + 1, hn⟩ : Fin cfg0.N).val - 1) (Nat.lt_of_le_of_lt (Nat.sub_le _ _) hn) = outsAt0 m c n (Nat.lt_of_succ_lt hn) := rfl
    rw [ep] at e
    generalize outsAt0 m c n (Nat.lt_of_succ_lt hn) = p at hw hs e
    have e' : outsAt0 m c (n + 1) hn = outsB m c ⟨n + 1, hn⟩ _ _ p := e
    rw [e']
    refine ⟨(outsB_w m c _ _ _ p).trans hw, fun r hr s l => ?_⟩
    refine (outsB_s m c _ _ _ p r hr s l).trans ?_
    rw [hw, stats_tile m c _ _ r hr s l, Finset.sum_range_succ _ (n + 1)]
    exact congrArg (· + _) (hs r hr s l)

/-- The tile of `dx` that any point leaves. -/
theorem tile_dx (c : Dev nD) (t : Fin cfg0.N) :
    (outsAt0 m c t.val t.isLt).1 = dxTile (iblk m c 0 t) (iblk m c 1 t) (iblk m c 2 t) (DGU (iblk m c 3 t)) (WT (V m c main_v7)) := by
  have h8 : t.val < 8 := lt_of_lt_of_eq t.isLt (show cfg0.N = 8 from N_0)
  by_cases h0 : t.val % 8 = 0
  · rw [outsAt0_A m c t h0 (by omega)]
    exact outsA_1 m c t h0 (by omega)
  · have hw := (carried m c (t.val - 1) (Nat.lt_of_le_of_lt (Nat.sub_le _ _) t.isLt) (by omega)).1
    by_cases h1 : t.val % 8 = 7
    · rw [outsAt0_C m c t h0 h1, outsC_1 m c t h0 h1, hw]
    · rw [outsAt0_B m c t h0 h1, outsB_1 m c t h0 h1, hw]

/-- A point's tile of `dx` is that of the arguments' rows. -/
theorem tile_at (c : Dev nD) (t : Fin cfg0.N) (i : Fin 256) (l : Fin 1024) :
    dxTile (iblk m c 0 t) (iblk m c 1 t) (iblk m c 2 t) (DGU (iblk m c 3 t)) (WT (V m c main_v7)) (ix2 (n0 := 256) (n1 := 1024) i l)
      = dxAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t i) l := by
  rw [dxTile_apply]
  unfold dxAt
  exact dxv_congr (funext fun j => blk_u m c t _ j) (funext fun j => blk_x m c t _ j) (funext fun j => blk_scale m c t j)
    (funext fun j => blk_g m c t j) (funext fun k => blk_dgu m c t _ k) (funext fun j => funext fun k => blk_w m c k j) rfl

/-- The first result. -/
def G5 (c : Dev nD) : S2048x1024.Idx → EReal := fun y =>
  dxAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1)

/-- The second result. -/
def G6 (c : Dev nD) : S8x1024.Idx → EReal := fun y =>
  statAt (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) (y 0) (y 1)

/-- The kernel leaves the first result. -/
theorem final5 (c : Dev nD) : (dats m 0 c).arrAt 5 (cfgs 0).N = G5 m c := by
  refine (dats m 0 c).arrAt_eq_of_covers 5 _ (by decide +kernel) fun t _ y => ?_
  blk_simp
  rw [after0_5, tile_dx]
  idx_vars y
  have h0 : ix2 (row t y0) y1 = (win0_5.blk t).view.emb (ix2 (n0 := 256) (n1 := 1024) y0 y1) := by
    unfold row; blk_ext [idx t]
  exact (tile_at m c t y0 y1).trans (congrArg (G5 m c) h0)

/-- The last point leaves the rows of sums. -/
theorem rows_at (c : Dev nD) (r : Fin 8) (l : Fin 1024) :
    ((outsAt0 m c t0_7.val t0_7.isLt).2.1 : Vec Ideal S8x1024 .f32) (ix2 (n0 := 8) (n1 := 1024) r l)
      = statAt (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6)) r l := by
  have e : outsAt0 m c t0_7.val t0_7.isLt = outsC m c t0_7 (by decide) (by decide) (outsAt0 m c 6 (by rw [show cfg0.N = 8 from N_0]; omega)) :=
    outsAt0_C m c t0_7 (by decide) (by decide)
  rw [e]
  have hc := carried m c 6 (by rw [show cfg0.N = 8 from N_0]; omega) (by omega)
  generalize outsAt0 m c 6 (by rw [show cfg0.N = 8 from N_0]; omega) = p at hc ⊢
  obtain ⟨hw, hs⟩ := hc
  refine (outsC_2 m c t0_7 _ _ p r l).trans ?_
  rw [hw]
  unfold statAt
  split
  · exact blk_gate m c t0_7 l
  · next h2 =>
    unfold sumRow
    split
    · next h4 =>
      have hsum : ∀ s : Fin 8, stats (iblk m c 1 t0_7) (iblk m c 2 t0_7) (DGU (iblk m c 3 t0_7)) (WT (V m c main_v7))
          p.2.2.2 (ix3 (n0 := 4) (n1 := 8) (n2 := 1024) ⟨r.val, h4⟩ s l)
          = ∑ t ∈ Finset.range 8, ∑ x : Fin 32, termN m c r.val l (t * (32 * 8) + (x.val * 8 + s.val)) := fun s => by
        rw [stats_tile m c t0_7 _ ⟨r.val, h4⟩ h2 s l, Finset.sum_range_succ _ 7]
        exact congrArg (· + _) (hs ⟨r.val, h4⟩ h2 s l)
      refine (Finset.sum_congr rfl fun s _ => hsum s).trans ?_
      rw [sum_rows 8 32 2048 (by norm_num) (termN m c r.val l)]
      refine Finset.sum_congr rfl fun n _ => ?_
      unfold termN
      rw [dif_pos n.isLt]
    · rfl

/-- The kernel leaves the second result. -/
theorem final6 (c : Dev nD) : (dats m 0 c).arrAt 6 (cfgs 0).N = G6 m c := by
  refine (dats m 0 c).arrAt_eq_of_after_last 6 t0_7 (by decide +kernel) _ fun y => ?_
  blk_simp
  rw [after0_6]
  idx_vars y
  exact rows_at m c y0 y1

end Cert.Dx

end
-- ==== Proof.Common.Reduce.lean ====
/- Host sums over axes of length one. -/
module

public import Idealize.ShloMosaic.Lib.Pointwise.Reduce
public import Idealize.ShloMosaic.Lib.IdealHost

@[expose] public section

noncomputable section

open Idealize.ShloMosaic

namespace Cert.Common

/-- A sum over the two leading axes, both of length one, has one term. -/
theorem sum_unit01 {n : ℕ} (h : (⟨3, ![1, 1, n]⟩ : Shape).ReducesTo [0, 1] ⟨1, ![n]⟩) (v : (⟨3, ![1, 1, n]⟩ : Shape).Idx → EReal)
    (init : EReal) (l : Fin n) : Ideal.hostReduceAdd h v init (ix1 l) = init + v (ix3 0 0 l) := by
  refine congrArg (init + ·) ?_
  refine (Finset.sum_eq_single (ix3 (0 : Fin 1) (0 : Fin 1) l) ?_ ?_)
  · intro i hi hne
    exfalso
    apply hne
    have e := (Finset.mem_filter.mp hi).2
    funext a; apply Fin.ext
    match a with
    | ⟨0, _⟩ => exact congrArg Fin.val (Fin.eq_zero (show Fin 1 from i 0))
    | ⟨1, _⟩ => exact congrArg Fin.val (Fin.eq_zero (show Fin 1 from i 1))
    | ⟨2, _⟩ => exact congrArg Fin.val (congrFun e (0 : Fin 1))
  · intro hn
    refine absurd (Finset.mem_filter.mpr ⟨Finset.mem_univ _, ?_⟩) hn
    funext b; apply Fin.ext
    match b with
    | ⟨0, _⟩ => rfl

/-- A sum over the first and the last axis, both of length one, has one term. -/
theorem sum_unit02 {n : ℕ} (h : (⟨3, ![1, n, 1]⟩ : Shape).ReducesTo [0, 2] ⟨1, ![n]⟩) (v : (⟨3, ![1, n, 1]⟩ : Shape).Idx → EReal)
    (init : EReal) (l : Fin n) : Ideal.hostReduceAdd h v init (ix1 l) = init + v (ix3 0 l 0) := by
  refine congrArg (init + ·) ?_
  refine (Finset.sum_eq_single (ix3 (0 : Fin 1) l (0 : Fin 1)) ?_ ?_)
  · intro i hi hne
    exfalso
    apply hne
    have e := (Finset.mem_filter.mp hi).2
    funext a; apply Fin.ext
    match a with
    | ⟨0, _⟩ => exact congrArg Fin.val (Fin.eq_zero (show Fin 1 from i 0))
    | ⟨1, _⟩ => exact congrArg Fin.val (congrFun e (0 : Fin 1))
    | ⟨2, _⟩ => exact congrArg Fin.val (Fin.eq_zero (show Fin 1 from i 2))
  · intro hn
    refine absurd (Finset.mem_filter.mpr ⟨Finset.mem_univ _, ?_⟩) hn
    funext b; apply Fin.ext
    match b with
    | ⟨0, _⟩ => rfl

end Cert.Common

end
-- ==== Proof.Common.Norm.lean ====
/- The gradient of a root mean square norm, in two spellings. -/
module

public import Idealize.ShloMosaic.PureOps.Ideal
public import Idealize.ShloMosaic.PureOps.Ideal.Laws
public import Idealize.ShloMosaic.Lib.IdealHost

@[expose] public section

noncomputable section

open Idealize.ShloMosaic

namespace Cert.Common

/-- The constant 1024. -/
theorem c1024 : Ideal.ofBits .f32 1149239296#32 = ((1024 : ℝ) : EReal) := by
  simp [Ideal.ofBits, Ideal.ieee, -EReal.coe_mul]; norm_num

/-- The constant minus one half. -/
theorem cmhalf : Ideal.ofBits .f32 3204448256#32 = ((-(1 / 2) : ℝ) : EReal) := by
  simp [Ideal.ofBits, Ideal.ieee, -EReal.coe_mul, -EReal.coe_neg]; norm_num

/-- The constant under the root is a positive real. -/
theorem ceps : ∃ e : ℝ, 0 < e ∧ Ideal.ofBits .f32 897988541#32 = (e : EReal) := by
  refine ⟨_, ?_, by simp [Ideal.ofBits, Ideal.ieee, -EReal.coe_mul]; rfl⟩
  norm_num

/-- A square is not negative. -/
theorem sq_nonneg' (a : EReal) : 0 ≤ a * a := by
  induction a with
  | bot => simp
  | top => simp
  | coe a => exact_mod_cast mul_self_nonneg a

/-- A factor that is a real not below zero goes over a sum. -/
theorem coe_mul_add {r : ℝ} (hr : 0 ≤ r) (a b : EReal) : (r : EReal) * (a + b) = r * a + r * b :=
  EReal.left_distrib_of_nonneg_of_ne_top (by exact_mod_cast hr) (EReal.coe_ne_top r) a b

/-- A factor that is a real not below zero goes over a finite sum. -/
theorem coe_mul_sum {ι : Type} (s : Finset ι) {r : ℝ} (hr : 0 ≤ r) (f : ι → EReal) :
    (r : EReal) * ∑ j ∈ s, f j = ∑ j ∈ s, (r : EReal) * f j := by
  classical
  induction s using Finset.induction_on with
  | empty => simp
  | insert a s ha ih => rw [Finset.sum_insert ha, Finset.sum_insert ha, coe_mul_add hr, ih]

/-- A factor that is a real not below zero goes over a difference. -/
theorem coe_mul_sub {r : ℝ} (hr : 0 ≤ r) (a b : EReal) : (r : EReal) * (a - b) = r * a - r * b := by
  rw [sub_eq_add_neg, coe_mul_add hr, mul_neg, ← sub_eq_add_neg]

/-- A multiple twice is twice the multiple. -/
theorem mul_coe_twice (a : EReal) (c : ℝ) : a * (c : EReal) + a * (c : EReal) = a * ((c + c : ℝ) : EReal) := by
  rcases lt_trichotomy c 0 with h | h | h
  · have h2 : c + c < 0 := by linarith
    induction a with
    | bot => rw [EReal.bot_mul_coe_of_neg h, EReal.bot_mul_coe_of_neg h2]; rfl
    | top => rw [EReal.top_mul_coe_of_neg h, EReal.top_mul_coe_of_neg h2]; rfl
    | coe a => rw [← EReal.coe_mul, ← EReal.coe_mul, ← EReal.coe_add, mul_add]
  · subst h; simp
  · have h2 : 0 < c + c := by linarith
    induction a with
    | bot => rw [EReal.bot_mul_coe_of_pos h, EReal.bot_mul_coe_of_pos h2]; rfl
    | top => rw [EReal.top_mul_coe_of_pos h, EReal.top_mul_coe_of_pos h2]; rfl
    | coe a => rw [← EReal.coe_mul, ← EReal.coe_mul, ← EReal.coe_add, mul_add]

/-- Division by a real that is not zero. -/
theorem div_coe' (a : EReal) {n : ℝ} (hn : n ≠ 0) : Ideal.div a (n : EReal) = a * ((n⁻¹ : ℝ) : EReal) := by
  unfold Ideal.div
  rw [if_neg (by exact_mod_cast hn), ← EReal.coe_inv]

/-- A sum of squares is infinite as soon as one entry is. -/
theorem sum_sq_top {K : ℕ} (x : Fin K → EReal) (j : Fin K) (hj : x j = ⊤ ∨ x j = ⊥) : ∑ k, x k * x k = ⊤ := by
  classical
  rw [← Finset.add_sum_erase _ _ (Finset.mem_univ j)]
  have h1 : x j * x j = ⊤ := by rcases hj with h | h <;> rw [h] <;> rfl
  have h2 : (0 : EReal) ≤ ∑ k ∈ Finset.univ.erase j, x k * x k := Finset.sum_nonneg fun k _ => sq_nonneg' (x k)
  rw [h1]
  exact EReal.top_add_of_ne_bot (fun h => by rw [h] at h2; exact absurd h2 (by simp))

/-- The sum of the reals is the real sum. -/
theorem sum_coe' {K : ℕ} (f : Fin K → ℝ) : ∑ k, ((f k : ℝ) : EReal) = ((∑ k, f k : ℝ) : EReal) := by
  classical
  have : ∀ s : Finset (Fin K), ∑ k ∈ s, ((f k : ℝ) : EReal) = ((∑ k ∈ s, f k : ℝ) : EReal) := fun s => by
    induction s using Finset.induction_on with
    | empty => simp
    | insert a s ha ih => rw [Finset.sum_insert ha, Finset.sum_insert ha, ih, EReal.coe_add]
  exact this _

/-- The gradient of `x · rsqrt (mean x² + e)` under the cotangent `D`, added to `u`: with the mean of `D · x · r` taken off,
    and as the sum of the two branches' cotangents, through the product and through the root. Every entry may be infinite. -/
theorem norm_bwd {K : ℕ} (n e : ℝ) (hn : 0 < n) (he : 0 < e) (u : EReal) (x D : Fin K → EReal) (l : Fin K) (V R : EReal)
    (hV : V = Ideal.div (∑ j, x j * x j) (n : EReal) + (e : EReal)) (hR : R = Ideal.rsqrt V) :
    u + R * (D l - x l * R * Ideal.div (∑ j, D j * (x j * R)) (n : EReal))
      = u + D l * R
        + x l * Ideal.div ((∑ j, x j * D j) * (((-(1 / 2) : ℝ) : EReal) * Ideal.div R V)) (n : EReal)
        + Ideal.div ((∑ j, x j * D j) * (((-(1 / 2) : ℝ) : EReal) * Ideal.div R V)) (n : EReal) * x l := by
  by_cases hx : ∃ j, x j = ⊤ ∨ x j = ⊥
  · obtain ⟨j, hj⟩ := hx
    have hV' : V = ⊤ := by
      rw [hV, sum_sq_top x j hj, div_coe' _ hn.ne', EReal.top_mul_coe_of_pos (inv_pos.mpr hn), EReal.top_add_coe]
    have hR' : R = 0 := by rw [hR, hV']; rfl
    have hd : Ideal.div (0 : EReal) ⊤ = 0 := by
      unfold Ideal.div
      rw [if_neg EReal.top_ne_zero, zero_mul]
    rw [hV', hR']
    simp only [hd, div_coe' _ hn.ne', mul_zero, zero_mul, add_zero]
  · have hr : ∀ j, ∃ a : ℝ, x j = (a : EReal) := fun j => by
      induction h : x j with
      | bot => exact absurd ⟨j, Or.inr h⟩ hx
      | top => exact absurd ⟨j, Or.inl h⟩ hx
      | coe a => exact ⟨a, rfl⟩
    choose X hX using hr
    obtain ⟨v, hv, hVv⟩ : ∃ v : ℝ, 0 < v ∧ V = (v : EReal) := by
      refine ⟨(∑ j, X j * X j) * n⁻¹ + e, ?_, ?_⟩
      · have : 0 ≤ (∑ j, X j * X j) * n⁻¹ := mul_nonneg (Finset.sum_nonneg fun j _ => mul_self_nonneg _) (inv_nonneg.mpr hn.le)
        linarith
      · rw [hV, div_coe' _ hn.ne', EReal.coe_add, EReal.coe_mul, ← sum_coe']
        simp only [hX, EReal.coe_mul]
    have hs : 0 < Real.sqrt v := Real.sqrt_pos.mpr hv
    obtain ⟨ρ, hρ, hRρ, hρ2⟩ : ∃ ρ : ℝ, 0 < ρ ∧ R = (ρ : EReal) ∧ ρ * ρ = v⁻¹ := by
      refine ⟨(Real.sqrt v)⁻¹, inv_pos.mpr hs, ?_, ?_⟩
      · rw [hR, hVv]
        show (if v < 0 then _ else if v = 0 then _ else _) = _
        rw [if_neg (by linarith), if_neg hv.ne']
      · rw [← mul_inv, Real.mul_self_sqrt hv.le]
    have hsum : ∑ j, D j * (x j * R) = (∑ j, x j * D j) * (ρ : EReal) := by
      rw [mul_comm, coe_mul_sum _ hρ.le]
      refine Finset.sum_congr rfl fun j _ => ?_
      rw [hRρ, mul_comm (D j), mul_comm (x j), mul_assoc]
    rw [hsum]
    generalize (∑ j, x j * D j) = S
    rw [hRρ, hVv, div_coe' _ hn.ne', div_coe' _ hn.ne', div_coe' _ hv.ne', coe_mul_sub hρ.le]
    have k1 : (ρ : EReal) * (x l * (ρ : EReal) * (S * (ρ : EReal) * ((n⁻¹ : ℝ) : EReal)))
        = x l * S * ((ρ * ρ * ρ * n⁻¹ : ℝ) : EReal) := by
      simp only [EReal.coe_mul]
      ac_rfl
    have k2 : x l * (S * (((-(1 / 2) : ℝ) : EReal) * ((ρ : EReal) * ((v⁻¹ : ℝ) : EReal))) * ((n⁻¹ : ℝ) : EReal))
        = x l * S * ((-(1 / 2) * (ρ * v⁻¹) * n⁻¹ : ℝ) : EReal) := by
      rw [EReal.coe_mul, EReal.coe_mul, EReal.coe_mul]
      ac_rfl
    rw [k1, mul_comm (S * _ * _) (x l), k2, add_assoc (u + _), mul_coe_twice, sub_eq_add_neg, add_assoc, mul_comm (ρ : EReal) (D l),
      ← mul_neg, ← EReal.coe_neg]
    congr 4
    rw [← hρ2]; ring

end Cert.Common

end
-- ==== Proof.Dx.RefPoint.lean ====
/- The two results of the reference of `Dx`, entry by entry. -/
module

public import proofs.«01_k».proof.Proof.Dx.Final
public import proofs.«01_k».proof.Proof.Gen.DxRefIdeal.Read
public import proofs.«01_k».proof.Proof.Common.Reduce
public import proofs.«01_k».proof.Proof.Common.Norm

@[expose] public section

set_option maxRecDepth 16384

noncomputable section

open Idealize.ShloMosaic Idealize.ShloMosaic.TcCoe Idealize.SL.Sem
open Idealize.ShloMosaic.Pipeline (Dat)

namespace Cert.Dx

open Cert.DxRefIdeal Cert.DxRefIdeal.Gen Cert.DxRefIdeal.Read Cert.Common

variable (x : Vec Ideal S1x2048x1024 .f32) (mod : Vec Ideal S1x3072 .f32) (g : Vec Ideal S1024 .f32) (w : Vec Ideal S1024x5632 .f32)
    (ct : Vec Ideal S1x2048x1024 .f32) (gu : Vec Ideal S1x2048x5632 .f32) (gate : Vec Ideal S1x1024 .f32)

/-- The mean square of row `n`, with the constant. -/
theorem ref_ms (n : Fin 2048) : val_main_v9 (F := Ideal) x (ix3 (n0 := 1) (n1 := 2048) (n2 := 1) 0 n 0)
    = Ideal.div (∑ j : Fin 1024, x (ix3 0 n j) * x (ix3 0 n j)) dN + eps := by
  pointwise [val_main_v3, val_main_cst, val_main_v4, val_main_v5, val_main_cst_0, val_main_v6, val_main_v7, val_main_cst_1, val_main_v8,
    val_main_v9]
  rfl

/-- One over its root. -/
theorem ref_rs (n : Fin 2048) : val_main_v10 (F := Ideal) x (ix3 (n0 := 1) (n1 := 2048) (n2 := 1) 0 n 0) = rs fun j => x (ix3 0 n j) := by
  pointwise [val_main_v10, ref_ms]
  rfl

/-- The cotangent of the modulated row `n`. -/
theorem ref_dh (n : Fin 2048) (l : Fin 1024) : val_main_v30 (F := Ideal) w gu (ix3 (n0 := 1) (n1 := 2048) (n2 := 1024) 0 n l)
    = dh (fun k => gu (ix3 0 n k)) (fun j k => w (ix2 j k)) l := by
  pointwise [val_main_v30]
  rfl

/-- The cotangent of the normalised row `n`. -/
theorem ref_dn (n : Fin 2048) (l : Fin 1024) : val_main_v48 (F := Ideal) mod g w gu (ix3 (n0 := 1) (n1 := 2048) (n2 := 1024) 0 n l)
    = dh (fun k => gu (ix3 0 n k)) (fun j k => w (ix2 j k)) l * (1 + mod (ix2 0 ⟨1024 + l.val, by omega⟩)) * g (ix1 l) := by
  pointwise [val_main_v1, val_main_v16, val_main_v19, val_main_cst_3, val_main_v20, val_main_v21, val_main_v40, val_main_v41, val_main_v47,
    val_main_v48, ref_dh]

/-- The first result of the reference is the one the kernel leaves. -/
theorem ref_dx (n : Fin 2048) (l : Fin 1024) : val_main_v67 (F := Ideal) x mod g w ct gu (ix2 (n0 := 2048) (n1 := 1024) n l)
    = dxAt x mod g w ct gu n l := by
  obtain ⟨e, he, hc⟩ := ceps
  have L := norm_bwd 1024 e (by norm_num) he (ct (ix3 0 n l)) (fun j => x (ix3 0 n j)) (fun j => dh (fun k => gu (ix3 0 n k)) (fun j k => w (ix2 j k)) j
    * (1 + mod (ix2 0 ⟨1024 + j.val, by omega⟩)) * g (ix1 j)) l _ _ rfl rfl
  rw [← c1024, ← cmhalf, ← hc] at L
  refine Eq.trans ?_ L.symm
  pointwise [val_main_v67, val_main_v65, val_main_v64, val_main_v63, val_main_v62, val_main_v61, val_main_v60, val_main_v59, val_main_cst_13,
    val_main_v58, val_main_v57, val_main_cst_12, val_main_v56, val_main_v55, val_main_v54, val_main_v53, val_main_v52, val_main_v51,
    val_main_cst_11, val_main_v50, val_main_v13, val_main_v12, val_main_cst_2, val_main_v11, ref_dn, ref_rs, ref_ms, sum_unit02]
  rfl

/-- The second result of the reference is the one the kernel leaves. -/
theorem ref_stats (r : Fin 8) (l : Fin 1024) : val_main_v71 (F := Ideal) x mod g w gu gate (ix2 (n0 := 8) (n1 := 1024) r l)
    = statAt x mod g w gu gate r l := by
  unfold statAt termAt term
  fin_vals r with h
  · obtain rfl : r = 0 := Fin.ext h
    pointwise [val_main_v71, val_main_v68, val_main_v66, val_main_v36, val_main_v35, val_main_cst_6, val_main_v34, val_main_v33, val_main_cst_5, ref_dh, sum_unit01]
  · obtain rfl : r = 1 := Fin.ext h
    pointwise [val_main_v71, val_main_v68, val_main_v66, val_main_v43, val_main_v42, val_main_cst_8, val_main_v39,
      val_main_v38, val_main_cst_7, val_main_v37, val_main_v14, val_main_v15, val_main_v16, val_main_v17, val_main_v18, ref_dh, ref_rs, sum_unit01]
    exact Finset.sum_congr rfl fun n _ => mul_comm _ _
  · obtain rfl : r = 2 := Fin.ext h
    pointwise [val_main_v71, val_main_v68, val_main_v66, val_main_v32, val_main_v31, val_main_cst_4, val_main_v29, sum_unit01]
    rw [dif_neg (by omega), dif_neg (by omega)]
    exact congrArg (fun k => gate (ix2 0 k)) (Fin.ext (by show 2048 + l.val - 1024 - 1024 = l.val; omega))
  · obtain rfl : r = 3 := Fin.ext h
    pointwise [val_main_v71, val_main_v69, val_main_v49, val_main_cst_10, val_main_v46, val_main_v45, val_main_cst_9,
      val_main_v44, val_main_v41, val_main_v40, val_main_v1, val_main_v14, val_main_v15, val_main_v19, val_main_cst_3, val_main_v20, val_main_v21, ref_dh,
      ref_rs, sum_unit01]
    exact Finset.sum_congr rfl fun n _ => mul_comm _ _
  · obtain rfl : r = 4 := Fin.ext h
    pointwise [val_main_v71, val_main_v70, val_main_cst_14]
  · obtain rfl : r = 5 := Fin.ext h
    pointwise [val_main_v71, val_main_v70, val_main_cst_14]
  · obtain rfl : r = 6 := Fin.ext h
    pointwise [val_main_v71, val_main_v70, val_main_cst_14]
  · obtain rfl : r = 7 := Fin.ext h
    pointwise [val_main_v71, val_main_v70, val_main_cst_14]

end Cert.Dx

end
-- ==== Proof.Dx.Claim.lean ====
/- The kernel `Dx` and its reference leave the same results. -/
module

public import proofs.«01_k».proof.Defs
public import proofs.«01_k».proof.Proof.Dx.RefPoint
public import proofs.«01_k».proof.Proof.Gen.DxRefIdeal.Run

@[expose] public section

set_option maxRecDepth 16384

noncomputable section

open Idealize.ShloMosaic Idealize.ShloMosaic.TcCoe Idealize.SL.Sem

namespace Cert.Dx.Claims

open Cert.Dx Cert.DxRefIdeal.Read

set_option maxHeartbeats 4000000 in
/-- From the same arguments the kernel and the reference end with equal results. -/
theorem algebraic : Cert.algebraic_DxIdeal_DxRefIdeal := by
  pair_intro
  · run_from Cert.DxIdeal.Gen.run_main m g
  · refine (θ_run _ _ _).mono (fun r h c => ?_) (Cert.DxRefIdeal.Value.run m' g')
    obtain ⟨h0, h1, hargs⟩ := h c
    obtain ⟨a0, a1, a2, a3, a4, a5, a6⟩ := hagree c
    refine ⟨h0.trans ((val_main_v67_eq m' c).trans (Eq.trans ?_ (final5 m c).symm)),
      h1.trans ((val_main_v71_eq _ _ _ _ _ _).trans (Eq.trans ?_ (final6 m c).symm)), hargs⟩
    · funext y
      idx_vars y
      refine (ref_dx _ _ _ _ _ _ y0 y1).trans ?_
      rw [a0, a1, a2, a3, a4, a5]
      rfl
    · funext y
      idx_vars y
      refine (ref_stats _ _ _ _ _ _ y0 y1).trans ?_
      rw [a0, a1, a2, a3, a5, a6]
      rfl

end Cert.Dx.Claims

end
-- ==== Proof.Dx.Ref.lean ====
/- The frame of the reference of `Dx`. -/
module

public import proofs.«01_k».proof.Defs
public import proofs.«01_k».proof.Proof.Gen.DxRefIdeal
public import Idealize.ShloMosaic.Lib.Claim

@[expose] public section

set_option maxRecDepth 16384

namespace Cert.DxRefIdeal.Gen
open Idealize.ShloMosaic Idealize.SL.Sem

set_option maxHeartbeats 8000000 in
/-- Every execution of the reference ends, faults nowhere and leaves the arguments as they were. -/
theorem frame : Cert.quiescent_DxRefIdeal := by
  intro m g _
  hlo_run
  · intro c
    simp only [and_self]
  · refine sem_eq_zero_of_no_sems ?_ _
    decide

end Cert.DxRefIdeal.Gen
-- ==== Proof.Acts.RunA.lean ====
/- The body of `Acts` at the first point of its grid. -/
module

public import proofs.«01_k».proof.Proof.Gen.ActsIdeal.Frame.Runs

@[expose] public section

set_option maxRecDepth 16384

noncomputable section

namespace Cert.ActsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in set_option sl_exec.rejoinHeartbeats 400000 in
/-- The body at a first point, run: the pieces it stores into each output and scratch. -/
noncomputable def kernelRun0_A (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S11x256x256 .bf16) (harg3 : arg3.IsWhole) (arg4 : Memref sig .tc .vmem S11x256x256 .bf16) (harg4 : arg4.IsWhole) (arg5 : Memref sig .tc .vmem S256x1024 .f32) (harg5 : arg5.IsWhole) (arg7 : Memref sig .tc .vmem S22x256x256 .bf16) (harg7 : arg7.IsWhole) (arg8 : Memref sig .tc .vmem S256x1024 .bf16) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S8x1024 .f32) (harg11 : arg11.IsWhole) (hc0 : cond0_0 i) (hc1 : ¬cond0_1 i)
    (x0 : Vec F S256x1024 .f32) (x1 : Vec F S8x1024 .f32) (x2 : Vec F S11x256x256 .bf16) (x3 : Vec F S11x256x256 .bf16) (x4 : Vec F S256x1024 .f32) (fh0 : HbBuf0 (F := F) c hbM0_0) :
    Σ' (L5 : List (View.Piece (Elt F) S22x256x256 .bf16)), Σ' (L6 : List (View.Piece (Elt F) S256x1024 .bf16)), Σ' (L7 : List (View.Piece (Elt F) S8x1024 .f32)), Σ' (LS0 : List (View.Piece (Elt F) S2816x1024 .bf16)), { LS1 : List (View.Piece (Elt F) S8x1024 .f32) //
      ∀ (xi7 : Vec F S8x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_bwd_acts_0 i arg1 harg1 arg2 harg2 arg3 harg3 arg4 harg4 arg5 harg5 (Memref.whole main_v6) (Memref.isWhole_whole _) arg7 harg7 arg8 harg8 arg9 harg9 arg10 harg10 arg11 harg11 cc0_scratch2) K } := by
  refine ⟨?_, ?_, [], ?_, ?_, fun xi7 W K => ?run⟩
  case run =>
    simp only [cc0_ffn_bwd_acts_0_eq_skeleton]; unfold cc0_ffn_bwd_acts_0_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg9.read_unread _
      iexact H7
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.ActsIdeal.Gen

end
-- ==== Proof.Acts.RunB.lean ====
/- The body of `Acts` at the middle point of its grid. -/
module

public import proofs.«01_k».proof.Proof.Gen.ActsIdeal.Frame.Runs

@[expose] public section

set_option maxRecDepth 16384

noncomputable section

namespace Cert.ActsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a middle point, run: the pieces it stores into each output and scratch. -/
noncomputable def kernelRun0_B (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S11x256x256 .bf16) (harg3 : arg3.IsWhole) (arg4 : Memref sig .tc .vmem S11x256x256 .bf16) (harg4 : arg4.IsWhole) (arg5 : Memref sig .tc .vmem S256x1024 .f32) (harg5 : arg5.IsWhole) (arg7 : Memref sig .tc .vmem S22x256x256 .bf16) (harg7 : arg7.IsWhole) (arg8 : Memref sig .tc .vmem S256x1024 .bf16) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S8x1024 .f32) (harg11 : arg11.IsWhole) (hc0 : ¬cond0_0 i) (hc1 : ¬cond0_1 i)
    (x0 : Vec F S256x1024 .f32) (x1 : Vec F S8x1024 .f32) (x2 : Vec F S11x256x256 .bf16) (x3 : Vec F S11x256x256 .bf16) (x4 : Vec F S256x1024 .f32) (xs0 : Vec F S2816x1024 .bf16) (xs1 : Vec F S8x1024 .f32) (fh0 : HbBuf0 (F := F) c hbM0_0) :
    Σ' (L5 : List (View.Piece (Elt F) S22x256x256 .bf16)), Σ' (L6 : List (View.Piece (Elt F) S256x1024 .bf16)), Σ' (L7 : List (View.Piece (Elt F) S8x1024 .f32)), Σ' (LS0 : List (View.Piece (Elt F) S2816x1024 .bf16)), { LS1 : List (View.Piece (Elt F) S8x1024 .f32) //
      ∀ (xi7 : Vec F S8x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0 ∗ owns (c : Thread nD τ) arg11 fullShare xs1 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xs0 ∗ (∃ f, arg11.view.loc (c : Thread nD τ) ↦[arg11.view.set]{fullShare} arg11.view.writes (Elt F) f LS1) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_bwd_acts_0 i arg1 harg1 arg2 harg2 arg3 harg3 arg4 harg4 arg5 harg5 (Memref.whole main_v6) (Memref.isWhole_whole _) arg7 harg7 arg8 harg8 arg9 harg9 arg10 harg10 arg11 harg11 cc0_scratch2) K } := by
  refine ⟨?_, ?_, [], [], ?_, fun xi7 W K => ?run⟩
  case run =>
    simp only [cc0_ffn_bwd_acts_0_eq_skeleton]; unfold cc0_ffn_bwd_acts_0_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf7; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.ActsIdeal.Gen

end
-- ==== Proof.Acts.RunC.lean ====
/- The body of `Acts` at the last point of its grid. -/
module

public import proofs.«01_k».proof.Proof.Gen.ActsIdeal.Frame.Runs

@[expose] public section

set_option maxRecDepth 16384

noncomputable section

namespace Cert.ActsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a last point, run: the pieces it stores into each output and scratch. -/
noncomputable def kernelRun0_C (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S11x256x256 .bf16) (harg3 : arg3.IsWhole) (arg4 : Memref sig .tc .vmem S11x256x256 .bf16) (harg4 : arg4.IsWhole) (arg5 : Memref sig .tc .vmem S256x1024 .f32) (harg5 : arg5.IsWhole) (arg7 : Memref sig .tc .vmem S22x256x256 .bf16) (harg7 : arg7.IsWhole) (arg8 : Memref sig .tc .vmem S256x1024 .bf16) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S8x1024 .f32) (harg11 : arg11.IsWhole) (hc0 : ¬cond0_0 i) (hc1 : cond0_1 i)
    (x0 : Vec F S256x1024 .f32) (x1 : Vec F S8x1024 .f32) (x2 : Vec F S11x256x256 .bf16) (x3 : Vec F S11x256x256 .bf16) (x4 : Vec F S256x1024 .f32) (xs0 : Vec F S2816x1024 .bf16) (xs1 : Vec F S8x1024 .f32) (fh0 : HbBuf0 (F := F) c hbM0_0) :
    Σ' (L5 : List (View.Piece (Elt F) S22x256x256 .bf16)), Σ' (L6 : List (View.Piece (Elt F) S256x1024 .bf16)), Σ' (L7 : List (View.Piece (Elt F) S8x1024 .f32)), Σ' (LS0 : List (View.Piece (Elt F) S2816x1024 .bf16)), { LS1 : List (View.Piece (Elt F) S8x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_bwd_acts_0 i arg1 harg1 arg2 harg2 arg3 harg3 arg4 harg4 arg5 harg5 (Memref.whole main_v6) (Memref.isWhole_whole _) arg7 harg7 arg8 harg8 arg9 harg9 arg10 harg10 arg11 harg11 cc0_scratch2) K } := by
  refine ⟨?_, ?_, ?_, [], ?_, fun W K => ?run⟩
  case run =>
    simp only [cc0_ffn_bwd_acts_0_eq_skeleton]; unfold cc0_ffn_bwd_acts_0_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.ActsIdeal.Gen

end
-- ==== Proof.Acts.Frame.lean ====
/- The frame of the program `Acts`, for any arithmetic: three cases of the grid point (the first, a middle one, the last), the
   contents each leaves, and the run of the launch. -/
module

public import proofs.«01_k».proof.Proof.Acts.RunA
public import proofs.«01_k».proof.Proof.Acts.RunB
public import proofs.«01_k».proof.Proof.Acts.RunC
public import proofs.«01_k».proof.Proof.Common.Owned
public import Idealize.ShloMosaic.Lib.Claim

@[expose] public section

set_option maxRecDepth 16384

noncomputable section

namespace Cert.ActsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Common (owns_written)
open Idealize.ShloMosaic.Pipeline (Dat Cfg Window BodyObligation cellOf)

variable {F : FTy → Type} [FloatOps F]

local notation "𝕄" => MT nD τ sig Unit (Elt F) ℕ (Pipeline.UD sig nD τ) ℕ

/-- The contents carried from one point to the next: the outputs in window order, then the scratch. -/
abbrev Outs (F : FTy → Type) : Type := Vec F S22x256x256 .bf16 × Vec F S256x1024 .bf16 × Vec F S8x1024 .f32 × Vec F S2816x1024 .bf16 × Vec F S8x1024 .f32

variable (m : (ℓ : Loc nD τ sig) → Buf (Elt F) ℓ) (ρ : Dev nD → PrngReg)

/-- The case A run of the body at point `t`, at the memrefs and input blocks of that point. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (V m c main_v6)

/-- The case B run of the body at point `t`, at the memrefs and input blocks of that point. -/
abbrev runB (c : Dev nD) (t : Fin cfg0.N) (h0 : ¬t.val % 8 = 0) (h1 : ¬t.val % 8 = 7) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) p.2.2.2.1 p.2.2.2.2 (V m c main_v6)

/-- The case C run of the body at point `t`, at the memrefs and input blocks of that point. -/
abbrev runC (c : Dev nD) (t : Fin cfg0.N) (h0 : ¬t.val % 8 = 0) (h1 : t.val % 8 = 7) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) p.2.2.2.1 p.2.2.2.2 (V m c main_v6)

theorem coverA_5 (c : Dev nD) (t : Fin cfg0.N) (h0 : t.val % 8 = 0) (h1 : ¬t.val % 8 = 7) (y : S22x256x256.Idx) :
    ∃ pc ∈ (runA m c t h0 h1).1, y ∈ pc.1.set :=
  View.cover_of_tiledL (runA m c t h0 h1).1 S1x256x256.size (by sl_kernel_rfl) y

def outA_5 (c : Dev nD) (t : Fin cfg0.N) (h0 : t.val % 8 = 0) (h1 : ¬t.val % 8 = 7) : Vec F S22x256x256 .bf16 :=
  VO0_5.read (Elt F) (VO0_5.writes (Elt F) VO0_5.junk (runA m c t h0 h1).1)

theorem coverA_6 (c : Dev nD) (t : Fin cfg0.N) (h0 : t.val % 8 = 0) (h1 : ¬t.val % 8 = 7) (y : S256x1024.Idx) :
    ∃ pc ∈ (runA m c t h0 h1).2.1, y ∈ pc.1.set :=
  View.cover_of_tiledL (runA m c t h0 h1).2.1 S256x1024.size (by sl_kernel_rfl) y

def outA_6 (c : Dev nD) (t : Fin cfg0.N) (h0 : t.val % 8 = 0) (h1 : ¬t.val % 8 = 7) : Vec F S256x1024 .bf16 :=
  VO0_6.read (Elt F) (VO0_6.writes (Elt F) VO0_6.junk (runA m c t h0 h1).2.1)

def outA_7 (c : Dev nD) (t : Fin cfg0.N) (h0 : t.val % 8 = 0) (h1 : ¬t.val % 8 = 7) : Vec F S8x1024 .f32 :=
  VO0_7.read (Elt F) (VO0_7.writes (Elt F) VO0_7.junk (runA m c t h0 h1).2.2.1)

theorem scoverA_0 (c : Dev nD) (t : Fin cfg0.N) (h0 : t.val % 8 = 0) (h1 : ¬t.val % 8 = 7) (y : S2816x1024.Idx) :
    ∃ pc ∈ (runA m c t h0 h1).2.2.2.1, y ∈ pc.1.set :=
  View.cover_of_tiledL (runA m c t h0 h1).2.2.2.1 S352x1024.size (by sl_kernel_rfl) y

def soutA_0 (c : Dev nD) (t : Fin cfg0.N) (h0 : t.val % 8 = 0) (h1 : ¬t.val % 8 = 7) : Vec F S2816x1024 .bf16 :=
  VS0_0.read (Elt F) (VS0_0.writes (Elt F) VS0_0.junk (runA m c t h0 h1).2.2.2.1)

theorem scoverA_1 (c : Dev nD) (t : Fin cfg0.N) (h0 : t.val % 8 = 0) (h1 : ¬t.val % 8 = 7) (y : S8x1024.Idx) :
    ∃ pc ∈ (runA m c t h0 h1).2.2.2.2.1, y ∈ pc.1.set :=
  View.cover_of_tiledL (runA m c t h0 h1).2.2.2.2.1 S8x1024.size (by sl_kernel_rfl) y

def soutA_1 (c : Dev nD) (t : Fin cfg0.N) (h0 : t.val % 8 = 0) (h1 : ¬t.val % 8 = 7) : Vec F S8x1024 .f32 :=
  VS0_1.read (Elt F) (VS0_1.writes (Elt F) VS0_1.junk (runA m c t h0 h1).2.2.2.2.1)

theorem coverB_5 (c : Dev nD) (t : Fin cfg0.N) (h0 : ¬t.val % 8 = 0) (h1 : ¬t.val % 8 = 7) (p : Outs F) (y : S22x256x256.Idx) :
    ∃ pc ∈ (runB m c t h0 h1 p).1, y ∈ pc.1.set :=
  View.cover_of_tiledL (runB m c t h0 h1 p).1 S1x256x256.size (by sl_kernel_rfl) y

def outB_5 (c : Dev nD) (t : Fin cfg0.N) (h0 : ¬t.val % 8 = 0) (h1 : ¬t.val % 8 = 7) (p : Outs F) : Vec F S22x256x256 .bf16 :=
  VO0_5.read (Elt F) (VO0_5.writes (Elt F) VO0_5.junk (runB m c t h0 h1 p).1)

theorem coverB_6 (c : Dev nD) (t : Fin cfg0.N) (h0 : ¬t.val % 8 = 0) (h1 : ¬t.val % 8 = 7) (p : Outs F) (y : S256x1024.Idx) :
    ∃ pc ∈ (runB m c t h0 h1 p).2.1, y ∈ pc.1.set :=
  View.cover_of_tiledL (runB m c t h0 h1 p).2.1 S256x1024.size (by sl_kernel_rfl) y

def outB_6 (c : Dev nD) (t : Fin cfg0.N) (h0 : ¬t.val % 8 = 0) (h1 : ¬t.val % 8 = 7) (p : Outs F) : Vec F S256x1024 .bf16 :=
  VO0_6.read (Elt F) (VO0_6.writes (Elt F) VO0_6.junk (runB m c t h0 h1 p).2.1)

def outB_7 (c : Dev nD) (t : Fin cfg0.N) (h0 : ¬t.val % 8 = 0) (h1 : ¬t.val % 8 = 7) (p : Outs F) : Vec F S8x1024 .f32 :=
  VO0_7.read (Elt F) (VO0_7.writes (Elt F) VO0_7.junk (runB m c t h0 h1 p).2.2.1)

def soutB_0 (m : (ℓ : Loc nD τ sig) → Buf (Elt F) ℓ) (c : Dev nD) (t : Fin cfg0.N) (h0 : ¬t.val % 8 = 0) (h1 : ¬t.val % 8 = 7) (p : Outs F) : Vec F S2816x1024 .bf16 :=
  (p.2.2.2.1)

theorem scoverB_1 (c : Dev nD) (t : Fin cfg0.N) (h0 : ¬t.val % 8 = 0) (h1 : ¬t.val % 8 = 7) (p : Outs F) (y : S8x1024.Idx) :
    ∃ pc ∈ (runB m c t h0 h1 p).2.2.2.2.1, y ∈ pc.1.set :=
  View.cover_of_tiledL (runB m c t h0 h1 p).2.2.2.2.1 S8x1024.size (by sl_kernel_rfl) y

def soutB_1 (c : Dev nD) (t : Fin cfg0.N) (h0 : ¬t.val % 8 = 0) (h1 : ¬t.val % 8 = 7) (p : Outs F) : Vec F S8x1024 .f32 :=
  VS0_1.read (Elt F) (VS0_1.writes (Elt F) VS0_1.junk (runB m c t h0 h1 p).2.2.2.2.1)

theorem coverC_5 (c : Dev nD) (t : Fin cfg0.N) (h0 : ¬t.val % 8 = 0) (h1 : t.val % 8 = 7) (p : Outs F) (y : S22x256x256.Idx) :
    ∃ pc ∈ (runC m c t h0 h1 p).1, y ∈ pc.1.set :=
  View.cover_of_tiledL (runC m c t h0 h1 p).1 S1x256x256.size (by sl_kernel_rfl) y

def outC_5 (c : Dev nD) (t : Fin cfg0.N) (h0 : ¬t.val % 8 = 0) (h1 : t.val % 8 = 7) (p : Outs F) : Vec F S22x256x256 .bf16 :=
  VO0_5.read (Elt F) (VO0_5.writes (Elt F) VO0_5.junk (runC m c t h0 h1 p).1)

theorem coverC_6 (c : Dev nD) (t : Fin cfg0.N) (h0 : ¬t.val % 8 = 0) (h1 : t.val % 8 = 7) (p : Outs F) (y : S256x1024.Idx) :
    ∃ pc ∈ (runC m c t h0 h1 p).2.1, y ∈ pc.1.set :=
  View.cover_of_tiledL (runC m c t h0 h1 p).2.1 S256x1024.size (by sl_kernel_rfl) y

def outC_6 (c : Dev nD) (t : Fin cfg0.N) (h0 : ¬t.val % 8 = 0) (h1 : t.val % 8 = 7) (p : Outs F) : Vec F S256x1024 .bf16 :=
  VO0_6.read (Elt F) (VO0_6.writes (Elt F) VO0_6.junk (runC m c t h0 h1 p).2.1)

theorem coverC_7 (c : Dev nD) (t : Fin cfg0.N) (h0 : ¬t.val % 8 = 0) (h1 : t.val % 8 = 7) (p : Outs F) (y : S8x1024.Idx) :
    ∃ pc ∈ (runC m c t h0 h1 p).2.2.1, y ∈ pc.1.set :=
  View.cover_of_tiledL (runC m c t h0 h1 p).2.2.1 S8x1024.size (by sl_kernel_rfl) y

def outC_7 (c : Dev nD) (t : Fin cfg0.N) (h0 : ¬t.val % 8 = 0) (h1 : t.val % 8 = 7) (p : Outs F) : Vec F S8x1024 .f32 :=
  VO0_7.read (Elt F) (VO0_7.writes (Elt F) VO0_7.junk (runC m c t h0 h1 p).2.2.1)

def soutC_0 (m : (ℓ : Loc nD τ sig) → Buf (Elt F) ℓ) (c : Dev nD) (t : Fin cfg0.N) (h0 : ¬t.val % 8 = 0) (h1 : t.val % 8 = 7) (p : Outs F) : Vec F S2816x1024 .bf16 :=
  (p.2.2.2.1)

theorem scoverC_1 (c : Dev nD) (t : Fin cfg0.N) (h0 : ¬t.val % 8 = 0) (h1 : t.val % 8 = 7) (p : Outs F) (y : S8x1024.Idx) :
    ∃ pc ∈ (runC m c t h0 h1 p).2.2.2.2.1, y ∈ pc.1.set :=
  View.cover_of_tiledL (runC m c t h0 h1 p).2.2.2.2.1 S8x1024.size (by sl_kernel_rfl) y

def soutC_1 (c : Dev nD) (t : Fin cfg0.N) (h0 : ¬t.val % 8 = 0) (h1 : t.val % 8 = 7) (p : Outs F) : Vec F S8x1024 .f32 :=
  VS0_1.read (Elt F) (VS0_1.writes (Elt F) VS0_1.junk (runC m c t h0 h1 p).2.2.2.2.1)

/-- What the outputs and the carried scratch hold after a point of case A. -/
def outsA (c : Dev nD) (t : Fin cfg0.N) (h0 : t.val % 8 = 0) (h1 : ¬t.val % 8 = 7) : Outs F :=
  (outA_5 m c t h0 h1, outA_6 m c t h0 h1, outA_7 m c t h0 h1, soutA_0 m c t h0 h1, soutA_1 m c t h0 h1)

/-- What the outputs and the carried scratch hold after a point of case B. -/
def outsB (c : Dev nD) (t : Fin cfg0.N) (h0 : ¬t.val % 8 = 0) (h1 : ¬t.val % 8 = 7) (p : Outs F) : Outs F :=
  (outB_5 m c t h0 h1 p, outB_6 m c t h0 h1 p, outB_7 m c t h0 h1 p, soutB_0 m c t h0 h1 p, soutB_1 m c t h0 h1 p)

/-- What the outputs and the carried scratch hold after a point of case C. -/
def outsC (c : Dev nD) (t : Fin cfg0.N) (h0 : ¬t.val % 8 = 0) (h1 : t.val % 8 = 7) (p : Outs F) : Outs F :=
  (outC_5 m c t h0 h1 p, outC_6 m c t h0 h1 p, outC_7 m c t h0 h1 p, soutC_0 m c t h0 h1 p, soutC_1 m c t h0 h1 p)

/-- What the outputs and the carried scratch hold after point `n`, each point over what the one before left. -/
def outsAt0 (c : Dev nD) : (n : ℕ) → n < cfg0.N → Outs F
  | 0, hn => outsA m c ⟨0, hn⟩ (Nat.zero_mod _) (fun h => by (try dsimp only at h); omega)
  | n + 1, hn =>
    if h0 : (n + 1) % 8 = 0 then
      False.elim (by have hN : n + 1 < 8 := lt_of_lt_of_eq hn (show cfg0.N = 8 from N_0); omega)
    else if h1 : (n + 1) % 8 = 7 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = outsA m c t h0 h1 := by
  obtain ⟨n, hn⟩ := t
  cases n with
  | zero => exact rfl
  | succ n => exfalso; have hN : n + 1 < 8 := lt_of_lt_of_eq hn (show cfg0.N = 8 from N_0); dsimp only at h0; omega

theorem outsAt0_B (c : Dev nD) (t : Fin cfg0.N) (h0 : ¬t.val % 8 = 0) (h1 : ¬t.val % 8 = 7) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The invariant after a point that left `p`: the carried scratch at `p`, the other scratch at anything, the register, the
    copies' semaphores at zero and the operand left in HBM. -/
def PhiP (c : Dev nD) (p : Outs F) : sProp 𝕄 :=
  iprop(iprop(owns (c : Thread nD τ) scM0_0 fullShare (p.2.2.2.1) ∗ owns (c : Thread nD τ) scM0_1 fullShare (p.2.2.2.2)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v6)))

def PhiS (c : Dev nD) : (n : ℕ) → n ≤ cfg0.N → sProp 𝕄
  | 0, _ => Pipeline.ΦD osem0 spec0 H0 (V m) c
  | n + 1, hn => PhiP m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = PhiP m c (outsAt0 m c n hn) := rfl

theorem PhiS_pos (c : Dev nD) (n : ℕ) (h : n ≤ cfg0.N) (hz : n ≠ 0) :
    PhiS m c n h = PhiP m c (outsAt0 m c (n - 1) (by omega)) := by
  cases n with
  | zero => exact absurd rfl hz
  | succ n => rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: it is handed the input blocks and the carried scratch as the point before left it, and leaves this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ]
  unfold PhiP
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  have hN : t.val < 8 := lt_of_lt_of_eq t.isLt (show cfg0.N = 8 from N_0)
  by_cases h0 : t.val % 8 = 0
  · by_cases h1 : t.val % 8 = 7
    · exfalso; omega
    · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold outsA outA_5 outA_6 soutA_0 soutA_1; (try dsimp only)
        iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runA m c t h0 h1).2.2.2.2.2 _ W _)
        iframe H0 H1 H2 H3 H4
        isplitl [H5]; · iexists _; iexact H5
        isplitl [H6]; · iexists _; iexact H6
        iframe H7 HS0 HS1 Hq0 Hq1 Hq2 Hq3 Hq4 Hq5 Hq6 Hq7 Hh0 HW
        iintro ⟨H0, H1, H2, H3, H4, ⟨%e5, H5⟩, ⟨%e6, H6⟩, H7, ⟨%es0, HS0⟩, ⟨%es1, HS1⟩, Hq0, Hq1, Hq2, Hq3, Hq4, Hq5, Hq6, Hq7, Hh0, ⟨%W', HW'⟩⟩
        isplitl [HS0 HS1 Hg Hq0 Hq1 Hq2 Hq3 Hq4 Hq5 Hq6 Hq7 Hh0]
        · isplitl [HS0 HS1]
          · isplitl [HS0]; · iapply owns_written (scoverA_0 m c t h0 h1); iexact HS0
            iapply owns_written (scoverA_1 m c t h0 h1); iexact HS1
          isplitl [Hg]; · iexact Hg
          isplitl [Hq0 Hq1 Hq2 Hq3 Hq4 Hq5 Hq6 Hq7]
          · iframe Hq0 Hq1 Hq2 Hq3 Hq4 Hq5 Hq6 Hq7
          iexact Hh0
        isplitl [HW']
        · iexists W'; isplitr; · ipureintro; exact fun _ _ => Or.inl trivial
          iexact HW'
        iframe H0 H1 H2 H3 H4
        isplitl [H5]; · iapply owns_written (coverA_5 m c t h0 h1); iexact H5
        isplitl [H6]; · iapply owns_written (coverA_6 m c t h0 h1); iexact H6
        iexists _; iexact H7
      · exfalso; have hN : t.val < 8 := lt_of_lt_of_eq t.isLt (show cfg0.N = 8 from N_0); omega
  · by_cases h1 : t.val % 8 = 7
    · rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_C m c t h0 h1]
        unfold outsC outC_5 outC_6 outC_7 soutC_0 soutC_1; (try dsimp only)
        iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runC m c t h0 h1 _).2.2.2.2.2 W _)
        iframe H0 H1 H2 H3 H4
        isplitl [H5]; · iexists _; iexact H5
        isplitl [H6]; · iexists _; iexact H6
        isplitl [H7]; · iexists _; iexact H7
        iframe HS0 HS1 Hq0 Hq1 Hq2 Hq3 Hq4 Hq5 Hq6 Hq7 Hh0 HW
        iintro ⟨H0, H1, H2, H3, H4, ⟨%e5, H5⟩, ⟨%e6, H6⟩, ⟨%e7, H7⟩, HS0, ⟨%es1, HS1⟩, Hq0, Hq1, Hq2, Hq3, Hq4, Hq5, Hq6, Hq7, Hh0, ⟨%W', HW'⟩⟩
        isplitl [HS0 HS1 Hg Hq0 Hq1 Hq2 Hq3 Hq4 Hq5 Hq6 Hq7 Hh0]
        · isplitl [HS0 HS1]
          · isplitl [HS0]; · iexact HS0
            iapply owns_written (scoverC_1 m c t h0 h1 _); iexact HS1
          isplitl [Hg]; · iexact Hg
          isplitl [Hq0 Hq1 Hq2 Hq3 Hq4 Hq5 Hq6 Hq7]
          · iframe Hq0 Hq1 Hq2 Hq3 Hq4 Hq5 Hq6 Hq7
          iexact Hh0
        isplitl [HW']
        · iexists W'; isplitr; · ipureintro; exact fun _ _ => Or.inl trivial
          iexact HW'
        iframe H0 H1 H2 H3 H4
        isplitl [H5]; · iapply owns_written (coverC_5 m c t h0 h1 _); iexact H5
        isplitl [H6]; · iapply owns_written (coverC_6 m c t h0 h1 _); iexact H6
        iapply owns_written (coverC_7 m c t h0 h1 _); iexact H7
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_B m c t h0 h1]
        unfold outsB outB_5 outB_6 soutB_0 soutB_1; (try dsimp only)
        iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((runB m c t h0 h1 _).2.2.2.2.2 _ W _)
        iframe H0 H1 H2 H3 H4
        isplitl [H5]; · iexists _; iexact H5
        isplitl [H6]; · iexists _; iexact H6
        iframe H7 HS0 HS1 Hq0 Hq1 Hq2 Hq3 Hq4 Hq5 Hq6 Hq7 Hh0 HW
        iintro ⟨H0, H1, H2, H3, H4, ⟨%e5, H5⟩, ⟨%e6, H6⟩, H7, HS0, ⟨%es1, HS1⟩, Hq0, Hq1, Hq2, Hq3, Hq4, Hq5, Hq6, Hq7, Hh0, ⟨%W', HW'⟩⟩
        isplitl [HS0 HS1 Hg Hq0 Hq1 Hq2 Hq3 Hq4 Hq5 Hq6 Hq7 Hh0]
        · isplitl [HS0 HS1]
          · isplitl [HS0]; · iexact HS0
            iapply owns_written (scoverB_1 m c t h0 h1 _); iexact HS1
          isplitl [Hg]; · iexact Hg
          isplitl [Hq0 Hq1 Hq2 Hq3 Hq4 Hq5 Hq6 Hq7]
          · iframe Hq0 Hq1 Hq2 Hq3 Hq4 Hq5 Hq6 Hq7
          iexact Hh0
        isplitl [HW']
        · iexists W'; isplitr; · ipureintro; exact fun _ _ => Or.inl trivial
          iexact HW'
        iframe H0 H1 H2 H3 H4
        isplitl [H5]; · iapply owns_written (coverB_5 m c t h0 h1 _); iexact H5
        isplitl [H6]; · iapply owns_written (coverB_6 m c t h0 h1 _); iexact H6
        iexists _; iexact H7

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold PhiP
  iintro ⟨⟨HS0, HS1⟩, Hg, ⟨Hq0, Hq1, Hq2, Hq3, Hq4, Hq5, Hq6, Hq7⟩, Hh0⟩
  isplitl [HS0 HS1]
  · isplitl [HS0]; · iexists _; iexact HS0
    iexists _; iexact HS1
  isplitl [Hg]; · iexact Hg
  isplitl [Hq0 Hq1 Hq2 Hq3 Hq4 Hq5 Hq6 Hq7]
  · iframe Hq0 Hq1 Hq2 Hq3 Hq4 Hq5 Hq6 Hq7
  iexact Hh0

theorem hout (c : Dev nD) : (dats m 0 c).Φ (Fin.last cfg0.N) ⊢ Pipeline.ΦD osem0 spec0 H0 (V m) c :=
  Phi_out m c _ (by rw [Fin.val_last]; have : cfg0.N = 8 := N_0; omega)

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every weakly fair execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every execution ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ActsIdeal.Gen

end
-- ==== Proof.Acts.Bits.lean ====
/- The frame of `Acts` as it is printed, over machine words. -/
module

public import proofs.«01_k».proof.Defs
public import proofs.«01_k».proof.Proof.Gen.Acts
public import proofs.«01_k».proof.Proof.Acts.Frame
public import Idealize.ShloMosaic.Lib.Tactic.ProgEq

@[expose] public section

set_option maxRecDepth 16384

namespace Cert.Acts.Gen
open Idealize.ShloMosaic Idealize.SL.Sem

/-- Every execution of the printed program ends, faults nowhere, leaves the arguments as they were and every semaphore at zero:
    the run of the idealized program, whose text is the same, read over machine words. -/
theorem frame : Cert.quiescent_Acts := by
  have h := fun m g (_ : True) => Cert.ActsIdeal.Gen.frame (F := Bits) m g
  have e : type_of% h = Cert.quiescent_Acts := by sl_kernel_rfl
  exact e.mp h

end Cert.Acts.Gen
-- ==== Proof.Common.Swiglu.lean ====
/- A row of the gated feed-forward layer after a modulated norm, and its gradient, entry by entry; and when these are real
   numbers. -/
module

public import proofs.«01_k».proof.Proof.Common.Norm

@[expose] public section

noncomputable section

open Idealize.ShloMosaic

namespace Cert.Common

/-- The length of a row, as the programs' constant. -/
def rowLen : EReal := Ideal.ofBits .f32 1149239296#32
/-- The constant added under the root. -/
def rowEps : EReal := Ideal.ofBits .f32 897988541#32
/-- The constant one half. -/
def half : EReal := Ideal.ofBits .f32 1056964608#32

/-- One over the root mean square of a row. -/
def rms (x : Fin 1024 → EReal) : EReal := Ideal.rsqrt (Ideal.div (∑ j, x j * x j) rowLen + rowEps)

/-- The modulated norm of a row. -/
def hrow (x sh sc g : Fin 1024 → EReal) (l : Fin 1024) : EReal := x l * rms x * g l * (1 + sc l) + sh l

/-- The two factors of a row before the gate is applied: entry `k` of the row times the weight. -/
def fac (x sh sc g : Fin 1024 → EReal) (w : Fin 1024 → Fin 5632 → EReal) (k : Fin 5632) : EReal :=
  ∑ j, hrow x sh sc g j * w j k

/-- The gate's function. -/
def silu (z : EReal) : EReal := z * Ideal.logistic z

/-- The layer's row: the gated product times the second weight. -/
def yrow (z u : Fin 2816 → EReal) (wo : Fin 2816 → Fin 1024 → EReal) (l : Fin 1024) : EReal := ∑ k, silu (z k) * u k * wo k l

/-- The cotangent of the gated product: the outer cotangent, half gated, times the second weight's transpose. -/
def da (gate ct : Fin 1024 → EReal) (wo : Fin 2816 → Fin 1024 → EReal) (k : Fin 2816) : EReal :=
  ∑ l, half * gate l * ct l * wo k l

/-- The cotangent of the gate's argument. -/
def dgate (a z u : EReal) : EReal := a * u * (Ideal.logistic z * (1 + z * (1 - Ideal.logistic z)))

/-- The cotangent of the other factor. -/
def dup (a z : EReal) : EReal := a * silu z

/-- The constant one half is the number. -/
theorem chalf : half = ((1 / 2 : ℝ) : EReal) := by
  unfold half
  simp [Ideal.ofBits, Ideal.ieee, -EReal.coe_mul]; norm_num

/-- Being a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.one : IsReal 1 := ⟨1, rfl⟩

theorem IsReal.half : IsReal half := ⟨_, chalf⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A normalised entry is real, whatever the row: an infinite row has the factor zero. -/
theorem rms_real (x : Fin 1024 → EReal) (l : Fin 1024) : IsReal (x l * rms x) := by
  obtain ⟨e, he, hc⟩ := ceps
  by_cases h : ∀ j, IsReal (x j)
  · obtain ⟨v, hv⟩ : IsReal (∑ j, x j * x j) := IsReal.sum _ fun j => (h j).mul (h j)
    have h0 : 0 ≤ v := by
      have : (0 : EReal) ≤ ∑ j, x j * x j := Finset.sum_nonneg fun j _ => sq_nonneg' _
      rw [hv] at this
      exact_mod_cast this
    refine (h l).mul ?_
    unfold rms rowLen rowEps
    rw [hv, c1024, hc, div_coe' _ (by norm_num), ← EReal.coe_mul, ← EReal.coe_add]
    have hp : 0 < v * (1024 : ℝ)⁻¹ + e := by positivity
    rw [Ideal.rsqrt_coe, if_neg (not_lt.mpr hp.le), if_neg hp.ne']
    exact ⟨_, rfl⟩
  · have : rms x = 0 := by
      push Not at h
      obtain ⟨j, hj⟩ := h
      have hj' : x j = ⊤ ∨ x j = ⊥ := by
        rcases hx : x j with _ | r
        · exact .inr rfl
        · rcases r with _ | r
          · exact .inl rfl
          · exact absurd ⟨r, hx⟩ hj
      unfold rms rowLen rowEps
      rw [sum_sq_top x j hj', c1024, hc, div_coe' _ (by norm_num), EReal.top_mul_coe_of_pos (by norm_num), EReal.top_add_coe]
      exact Ideal.rsqrt_top
    rw [this, mul_zero]
    exact ⟨0, rfl⟩

theorem hrow_real {x sh sc g : Fin 1024 → EReal} (hsh : ∀ l, IsReal (sh l)) (hsc : ∀ l, IsReal (sc l)) (hg : ∀ l, IsReal (g l))
    (l : Fin 1024) : IsReal (hrow x sh sc g l) :=
  (((rms_real x l).mul (hg l)).mul (IsReal.one.add (hsc l))).add (hsh l)

theorem fac_real {x sh sc g : Fin 1024 → EReal} {w : Fin 1024 → Fin 5632 → EReal} (hsh : ∀ l, IsReal (sh l)) (hsc : ∀ l, IsReal (sc l))
    (hg : ∀ l, IsReal (g l)) (hw : ∀ l k, IsReal (w l k)) (k : Fin 5632) : IsReal (fac x sh sc g w k) :=
  IsReal.sum _ fun j => (hrow_real hsh hsc hg j).mul (hw j k)

theorem da_real {gate ct : Fin 1024 → EReal} {wo : Fin 2816 → Fin 1024 → EReal} (hg : ∀ l, IsReal (gate l)) (hc : ∀ l, IsReal (ct l))
    (hw : ∀ k l, IsReal (wo k l)) (k : Fin 2816) : IsReal (da gate ct wo k) :=
  IsReal.sum _ fun l => ((IsReal.half.mul (hg l)).mul (hc l)).mul (hw k l)

/-- The gradient through the gate as a sum of its two parts is the product form, for real arguments. -/
theorem dgate_sum {a z u : EReal} (ha : IsReal a) (hz : IsReal z) (hu : IsReal u) :
    a * u * Ideal.logistic z + z * (a * u) * (Ideal.logistic z * (1 - Ideal.logistic z)) = dgate a z u := by
  obtain ⟨a, rfl⟩ := ha; obtain ⟨z, rfl⟩ := hz; obtain ⟨u, rfl⟩ := hu
  unfold dgate
  rw [Ideal.logistic_coe]
  generalize (1 + Real.exp (-z))⁻¹ = s
  rw [← EReal.coe_one]
  simp only [← EReal.coe_mul, ← EReal.coe_sub, ← EReal.coe_add]
  congr 1
  ring

end Cert.Common

end
-- ==== Proof.Acts.Chunks.lean ====
/- The whole arrays that one grid point of the kernel `Acts` works on: the weights as one matrix, the 22 chunks of
   `d(gate,up)` and the running sums for the gate. -/
module

public import proofs.«01_k».proof.Proof.Acts.Frame
public import proofs.«01_k».proof.Proof.Common.Canon
public import proofs.«01_k».proof.Proof.Common.Swiglu
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Acts

open Cert.ActsIdeal Cert.ActsIdeal.Gen Cert.Common

/-- The eight blocks of 352 rows, one under the other as one matrix. -/
def WT (A : Vec Ideal S8x352x1024 .bf16) : Vec Ideal S2816x1024 .bf16 :=
  fun j => A (ix3 (n0 := 8) (n1 := 352) (n2 := 1024)
    ⟨(j 0 : Fin 2816).val / 352, by have h : (j 0 : Fin 2816).val < 2816 := (j 0).isLt; omega⟩
    ⟨(j 0 : Fin 2816).val % 352, Nat.mod_lt _ (by norm_num)⟩ (j 1))

/-- The cotangent of the gated product at one entry of a tile. -/
def daT (D : Vec Ideal S256x1024 .f32) (P : Vec Ideal S8x1024 .f32) (W : Vec Ideal S2816x1024 .bf16) (i : Fin 256) (k : Fin 2816) : EReal :=
  da (fun l => P (ix2 2 l)) (fun l => D (ix2 i l)) (fun k l => W (ix2 k l)) k

/-- The 22 chunks of `d(gate,up)` at one grid point: eleven of the gate's, then eleven of the other factor's. -/
def dguTile (D : Vec Ideal S256x1024 .f32) (P : Vec Ideal S8x1024 .f32) (G U : Vec Ideal S11x256x256 .bf16)
    (W : Vec Ideal S2816x1024 .bf16) : Vec Ideal S22x256x256 .bf16 := fun y =>
  if h : (y 0 : Fin 22).val < 11 then
    dgate (daT D P W (y 1) ⟨(y 0 : Fin 22).val * 256 + (y 2 : Fin 256).val, by have h : (y 2 : Fin 256).val < 256 := (y 2).isLt; omega⟩)
      (G (ix3 (n0 := 11) (n1 := 256) (n2 := 256) ⟨(y 0 : Fin 22).val, h⟩ (y 1) (y 2)))
      (U (ix3 (n0 := 11) (n1 := 256) (n2 := 256) ⟨(y 0 : Fin 22).val, h⟩ (y 1) (y 2)))
  else
    dup (daT D P W (y 1) ⟨((y 0 : Fin 22).val - 11) * 256 + (y 2 : Fin 256).val, by
        have h : (y 2 : Fin 256).val < 256 := (y 2).isLt
        have h2 : (y 0 : Fin 22).val < 22 := (y 0).isLt
        omega⟩)
      (G (ix3 (n0 := 11) (n1 := 256) (n2 := 256) ⟨(y 0 : Fin 22).val - 11, by have h2 : (y 0 : Fin 22).val < 22 := (y 0).isLt; omega⟩ (y 1) (y 2)))

/-- An entry of a chunk of the gate's. -/
theorem dguTile_lo (D : Vec Ideal S256x1024 .f32) (P : Vec Ideal S8x1024 .f32) (G U : Vec Ideal S11x256x256 .bf16)
    (W : Vec Ideal S2816x1024 .bf16) (n : ℕ) (inb) (x0 : Fin 1) (i j : Fin 256) (h : n < 11) :
    dguTile D P G U W ((Rect.unit (s := S22x256x256) ![n, 0, 0] ![1, 256, 256] inb).idx (ix3 x0 i j))
      = dgate (daT D P W i ⟨n * 256 + j.val, by omega⟩)
          (G (ix3 (n0 := 11) (n1 := 256) (n2 := 256) ⟨n, h⟩ i j)) (U (ix3 (n0 := 11) (n1 := 256) (n2 := 256) ⟨n, h⟩ i j)) := by
  have e : (Rect.unit (s := S22x256x256) ![n, 0, 0] ![1, 256, 256] inb).idx (ix3 x0 i j) = ix3 (n0 := 22) (n1 := 256) (n2 := 256) ⟨n, by omega⟩ i j := by
    funext a
    refine Fin.ext ?_
    match a with
    | ⟨0, _⟩ => show n + 1 * x0.val = n; omega
    | ⟨1, _⟩ => show 0 + 1 * i.val = i.val; omega
    | ⟨2, _⟩ => show 0 + 1 * j.val = j.val; omega
  rw [e]
  exact dif_pos h

/-- An entry of a chunk of the other factor's. -/
theorem dguTile_hi (D : Vec Ideal S256x1024 .f32) (P : Vec Ideal S8x1024 .f32) (G U : Vec Ideal S11x256x256 .bf16)
    (W : Vec Ideal S2816x1024 .bf16) (n : ℕ) (inb) (x0 : Fin 1) (i j : Fin 256) (h : ¬n < 11) (h2 : n < 22) :
    dguTile D P G U W ((Rect.unit (s := S22x256x256) ![n, 0, 0] ![1, 256, 256] inb).idx (ix3 x0 i j))
      = dup (daT D P W i ⟨(n - 11) * 256 + j.val, by omega⟩) (G (ix3 (n0 := 11) (n1 := 256) (n2 := 256) ⟨n - 11, by omega⟩ i j)) := by
  have e : (Rect.unit (s := S22x256x256) ![n, 0, 0] ![1, 256, 256] inb).idx (ix3 x0 i j) = ix3 (n0 := 22) (n1 := 256) (n2 := 256) ⟨n, h2⟩ i j := by
    funext a
    refine Fin.ext ?_
    match a with
    | ⟨0, _⟩ => show n + 1 * x0.val = n; omega
    | ⟨1, _⟩ => show 0 + 1 * i.val = i.val; omega
    | ⟨2, _⟩ => show 0 + 1 * j.val = j.val; omega
  rw [e]
  exact dif_neg h

end Cert.Acts

end
-- ==== Proof.Acts.Cases.lean ====
/- What one grid point of the kernel `Acts` leaves, written with whole arrays. -/
module

public import proofs.«01_k».proof.Proof.Acts.Chunks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Acts

open Cert.ActsIdeal Cert.ActsIdeal.Gen Cert.Common

variable (m : (ℓ : Loc nD τ sig) → Buf (Elt Ideal) ℓ)

/-- The gate's row of the small operands. -/
abbrev gateRow (P : Vec Ideal S8x1024 .f32) := View.ld P (Rect.unit ![2, 0] ![1, 1024] inb_S8x1024_S1x1024_2_0)

/-- A middle point's chunks of `d(gate,up)`. -/
theorem outsB_1 (c : Dev nD) (t : Fin cfg0.N) (h0 : ¬t.val % 8 = 0) (h1 : ¬t.val % 8 = 7) (p : Outs Ideal) :
    (outsB m c t h0 h1 p).1 = dguTile (iblk m c 0 t) (iblk m c 1 t) (iblk m c 2 t) (iblk m c 3 t) p.2.2.2.1 := by
  unfold outsB
  dsimp only
  unfold outB_5 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = D
  generalize (iblk m c 1 t : Vec Ideal S8x1024 .f32) = P
  generalize (iblk m c 2 t : Vec Ideal S11x256x256 .bf16) = G
  generalize (iblk m c 3 t : Vec Ideal S11x256x256 .bf16) = U
  generalize (p.2.2.2.1 : Vec Ideal S2816x1024 .bf16) = W
  refine congrFun (canon_agree (dguTile D P G U W) _ ?_ ?_) y
  · exact fun y => View.cover_of_tiledL (s := S22x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguTile_lo D P G U W _ _ x0 x1 x2 (by omega)).symm
        | refine Eq.trans ?_ (dguTile_hi D P G U W _ _ x0 x1 x2 (by omega) (by omega)).symm
      unfold daT da
      first | unfold dgate | unfold dup silu
      pointwise [k0_pay1, k0_pay2, k0_pay5, k0_pay6, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51,
        k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69]
      rfl

/-- The last point's chunks of `d(gate,up)`. -/
theorem outsC_1 (c : Dev nD) (t : Fin cfg0.N) (h0 : ¬t.val % 8 = 0) (h1 : t.val % 8 = 7) (p : Outs Ideal) :
    (outsC m c t h0 h1 p).1 = dguTile (iblk m c 0 t) (iblk m c 1 t) (iblk m c 2 t) (iblk m c 3 t) p.2.2.2.1 := by
  unfold outsC
  dsimp only
  unfold outC_5 runC
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = D
  generalize (iblk m c 1 t : Vec Ideal S8x1024 .f32) = P
  generalize (iblk m c 2 t : Vec Ideal S11x256x256 .bf16) = G
  generalize (iblk m c 3 t : Vec Ideal S11x256x256 .bf16) = U
  generalize (p.2.2.2.1 : Vec Ideal S2816x1024 .bf16) = W
  refine congrFun (canon_agree (dguTile D P G U W) _ ?_ ?_) y
  · exact fun y => View.cover_of_tiledL (s := S22x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguTile_lo D P G U W _ _ x0 x1 x2 (by omega)).symm
        | refine Eq.trans ?_ (dguTile_hi D P G U W _ _ x0 x1 x2 (by omega) (by omega)).symm
      unfold daT da
      first | unfold dgate | unfold dup silu
      pointwise [k0_pay1, k0_pay2, k0_pay5, k0_pay6, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51,
        k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69]
      rfl

/-- The block of 352 rows in one slab, read back. -/
theorem read_block (A : Vec Ideal S8x352x1024 .bf16) (k : Nat)
    (inb : ∀ a, (![k, 0, 0] : Fin 3 → Nat) a + (![1, 352, 1024] : Fin 3 → Nat) a ≤ S8x352x1024.size a) (h) (x0 : Fin 352) (x1 : Fin 1024) :
    View.read (Elt Ideal) (((View.whole main_v6).slice (Rect.unit ![k, 0, 0] ![1, 352, 1024] inb)).reshape S352x1024 h) A (ix2 x0 x1)
      = A (ix3 (n0 := 8) (n1 := 352) (n2 := 1024) ⟨k, by have h := inb 0; change k + 1 ≤ 8 at h; omega⟩ x0 x1) := by
  have e : ∀ (B : Vec Ideal S1x352x1024 .bf16) (h), shapeCast (s := S1x352x1024) S352x1024 B h (ix2 x0 x1) = B (ix3 (n0 := 1) (n1 := 352) (n2 := 1024) 0 x0 x1) := by
    intro B h
    pointwise []
  refine (e (fun j => A ((Rect.unit (s := S8x352x1024) ![k, 0, 0] ![1, 352, 1024] inb).emb j)) h).trans (congrArg A (funext fun a => Fin.ext ?_))
  match a with
  | ⟨0, _⟩ => show k + 1 * 0 = k; omega
  | ⟨1, _⟩ => show 0 + 1 * x0.val = x0.val; omega
  | ⟨2, _⟩ => show 0 + 1 * x1.val = x1.val; omega

/-- One more block of the weight written under the ones before: every row below its end is the weight's. -/
theorem canon_w (A : Vec Ideal S8x352x1024 .bf16) (k o : Nat) (ho : o = k * 352)
    (inb : ∀ a, (![k, 0, 0] : Fin 3 → Nat) a + (![1, 352, 1024] : Fin 3 → Nat) a ≤ S8x352x1024.size a) (h)
    (inb2 : ∀ a, (![o, 0] : Fin 2 → Nat) a + (![352, 1024] : Fin 2 → Nat) a ≤ S2816x1024.size a)
    (L : List (View.Piece (Elt Ideal) S2816x1024 .bf16)) (r : Fin 2816) (l : Fin 1024) (hr : r.val < o + 352)
    (hL : r.val < o → View.canon L (ix2 r l) = WT A (ix2 r l)) :
    View.canon ((⟨Rect.unit ![o, 0] ![352, 1024] inb2, ReadAs.same.apply (View.read (Elt Ideal)
        (((View.whole main_v6).slice (Rect.unit ![k, 0, 0] ![1, 352, 1024] inb)).reshape S352x1024 h) A)⟩ : View.Piece (Elt Ideal) S2816x1024 .bf16) :: L) (ix2 r l)
      = WT A (ix2 r l) := by
  by_cases hc : r.val < o
  · rw [View.canon_cons_of_not_mem, hL hc]
    intro hm
    have h2 := (Rect.mem_set_unit (inb := inb2)).mp hm (0 : Fin 2)
    have h3 : o ≤ r.val ∧ r.val < o + 352 := h2
    omega
  · have he : (Rect.unit (s := S2816x1024) ![o, 0] ![352, 1024] inb2).emb (ix2 (n0 := 352) (n1 := 1024) ⟨r.val - o, by omega⟩ l) = ix2 r l := by
      funext b
      refine Fin.ext ?_
      match b with
      | ⟨0, _⟩ => show o + 1 * (r.val - o) = r.val; omega
      | ⟨1, _⟩ => show 0 + 1 * l.val = l.val; omega
    rw [← he]
    refine (View.canon_cons_emb _ _ _ _).trans ?_
    refine (read_block A k inb h _ l).trans ?_
    rw [he]
    exact congrArg A (ix3_congr (show k = r.val / 352 by omega) (show r.val - o = r.val % 352 by omega) rfl)

/-- The first point fills the scratch with the weights. -/
theorem outsA_w (c : Dev nD) (t : Fin cfg0.N) (h0 : t.val % 8 = 0) (h1 : ¬t.val % 8 = 7) :
    (outsA m c t h0 h1).2.2.2.1 = WT (V m c main_v6) := by
  unfold outsA
  dsimp only
  unfold soutA_0 runA
  funext y
  frame_out
  generalize (V m c main_v6 : Vec Ideal S8x352x1024 .bf16) = A
  refine congrFun (canon_agree (WT A) _ ?_ ?_) y
  · exact fun y => View.cover_of_tiledL (s := S2816x1024) _ ![352, 1024] (by sl_kernel_rfl) y
  · simp only [List.forall_mem_cons]
    refine ⟨fun x => ?_, fun x => ?_, fun x => ?_, fun x => ?_, fun x => ?_, fun x => ?_, fun x => ?_, fun x => ?_, fun x h => absurd h List.not_mem_nil⟩ <;>
    · idx_vars x
      refine (read_block A _ _ _ x0 x1).trans ?_
      pointwise [WT]
      exact congrArg A (ix3_congr (by simp <;> omega) (by simp <;> omega) rfl)

theorem mul_l {a b c : EReal} (h : a = b) : a * c = b * c := congrArg (· * c) h
theorem mul_r {a b c : EReal} (h : b = c) : a * b = a * c := congrArg (a * ·) h

set_option maxHeartbeats 2000000 in
/-- The first point's chunks of `d(gate,up)`. -/
theorem outsA_1 (c : Dev nD) (t : Fin cfg0.N) (h0 : t.val % 8 = 0) (h1 : ¬t.val % 8 = 7) :
    (outsA m c t h0 h1).1 = dguTile (iblk m c 0 t) (iblk m c 1 t) (iblk m c 2 t) (iblk m c 3 t) (WT (V m c main_v6)) := by
  have hw := outsA_w m c t h0 h1
  unfold outsA at hw
  dsimp only at hw
  unfold soutA_0 runA at hw
  frame_out at hw
  unfold outsA
  dsimp only
  unfold outA_5 runA
  funext y
  frame_open
  simp (disch := decide) only [↓ View.readCov_skip, ↓ View.readCov_cons_toLoadRect, ↓ View.readCov_fill]
  frame_out
  simp only [View.readCov_eq_canon', hw]
  clear hw
  generalize (iblk m c 0 t : Vec Ideal S256x1024 .f32) = D
  generalize (iblk m c 1 t : Vec Ideal S8x1024 .f32) = P
  generalize (iblk m c 2 t : Vec Ideal S11x256x256 .bf16) = G
  generalize (iblk m c 3 t : Vec Ideal S11x256x256 .bf16) = U
  generalize (V m c main_v6 : Vec Ideal S8x352x1024 .bf16) = A
  refine congrFun (canon_agree (dguTile D P G U (WT A)) _ ?_ ?_) y
  · exact fun y => View.cover_of_tiledL (s := S22x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguTile_lo D P G U (WT A) _ _ x0 x1 x2 (by omega)).symm
        | refine Eq.trans ?_ (dguTile_hi D P G U (WT A) _ _ x0 x1 x2 (by omega) (by omega)).symm
      unfold daT da half
      first | unfold dgate | unfold dup silu
      pointwise [k0_pay1, k0_pay2, k0_pay5, k0_pay6, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51,
        k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69]
      all_goals
        first
          | with_reducible refine mul_l (mul_l (Finset.sum_congr rfl fun x _ => mul_r ?_))
          | with_reducible refine mul_l (Finset.sum_congr rfl fun x _ => mul_r ?_)
        repeat
          first
            | exact absurd hlt (Nat.not_lt_zero _)
            | refine canon_w A _ _ (by norm_num) _ _ _ _ _ _ (by dsimp only; omega) (fun hlt => ?_)

/-- The first point's tile of `dy`. -/
theorem outsA_2 (c : Dev nD) (t : Fin cfg0.N) (h0 : t.val % 8 = 0) (h1 : ¬t.val % 8 = 7) :
    (outsA m c t h0 h1).2.1 = k0_pay6 (gateRow (iblk m c 1 t)) (iblk m c 0 t) := by
  unfold outsA
  dsimp only
  unfold outA_6 runA
  funext y
  frame_open
  frame_out

/-- The running sums after the first point: over zeros. -/
theorem outsA_s (c : Dev nD) (t : Fin cfg0.N) (h0 : t.val % 8 = 0) (h1 : ¬t.val % 8 = 7) :
    (outsA m c t h0 h1).2.2.2.2 = k0_pay7 (iblk m c 0 t) (k0_pay4 (F := Ideal)) (iblk m c 4 t) := by
  unfold outsA
  dsimp only
  unfold soutA_1 runA
  funext y
  frame_open
  simp (disch := decide) only [↓ View.readCov_skip, ↓ View.readCov_cons_toLoadRect, ↓ View.readCov_fill]
  frame_out

/-- The last point's tile of `dy`. -/
theorem outsC_2 (c : Dev nD) (t : Fin cfg0.N) (h0 : ¬t.val % 8 = 0) (h1 : t.val % 8 = 7) (p : Outs Ideal) :
    (outsC m c t h0 h1 p).2.1 = k0_pay6 (gateRow (iblk m c 1 t)) (iblk m c 0 t) := by
  unfold outsC
  dsimp only
  unfold outC_6 runC
  funext y
  frame_open
  frame_out

/-- The loaded weight is carried as it is. -/
theorem outsB_w (c : Dev nD) (t : Fin cfg0.N) (h0 : ¬t.val % 8 = 0) (h1 : ¬t.val % 8 = 7) (p : Outs Ideal) :
    (outsB m c t h0 h1 p).2.2.2.1 = p.2.2.2.1 := by
  unfold outsB
  dsimp only
  unfold soutB_0
  rfl

/-- A middle point's tile of `dy`. -/
theorem outsB_2 (c : Dev nD) (t : Fin cfg0.N) (h0 : ¬t.val % 8 = 0) (h1 : ¬t.val % 8 = 7) (p : Outs Ideal) :
    (outsB m c t h0 h1 p).2.1 = k0_pay6 (gateRow (iblk m c 1 t)) (iblk m c 0 t) := by
  unfold outsB
  dsimp only
  unfold outB_6 runB
  funext y
  frame_open
  frame_out

/-- The running sums after a middle point. -/
theorem outsB_s (c : Dev nD) (t : Fin cfg0.N) (h0 : ¬t.val % 8 = 0) (h1 : ¬t.val % 8 = 7) (p : Outs Ideal) :
    (outsB m c t h0 h1 p).2.2.2.2 = k0_pay7 (iblk m c 0 t) p.2.2.2.2 (iblk m c 4 t) := by
  unfold outsB
  dsimp only
  unfold soutB_1 runB
  funext y
  frame_open
  simp (disch := decide) only [↓ View.readCov_skip, ↓ View.readCov_cons_toLoadRect, ↓ View.readCov_fill]
  frame_out
  simp only [View.readCov_eq_canon', read_unread_whole]

/-- The rows of sums that leave at the last point. -/
theorem outsC_3 (c : Dev nD) (t : Fin cfg0.N) (h0 : ¬t.val % 8 = 0) (h1 : t.val % 8 = 7) (p : Outs Ideal) :
    (outsC m c t h0 h1 p).2.2.1 = k0_pay3 (k0_pay7 (iblk m c 0 t) p.2.2.2.2 (iblk m c 4 t)) := by
  unfold outsC
  dsimp only
  unfold outC_7 runC
  funext y
  frame_open
  simp (disch := decide) only [↓ View.readCov_skip, ↓ View.readCov_cons_toLoadRect, ↓ View.readCov_fill]
  frame_out
  simp only [View.readCov_eq_canon', read_unread_whole]

end Cert.Acts

end
-- ==== Proof.Acts.Blocks.lean ====
/- The blocks of the kernel `Acts` at a grid point, as entries of the arguments. -/
module

public import proofs.«01_k».proof.Proof.Acts.Chunks

@[expose] public section

set_option maxRecDepth 16384

noncomputable section

open Idealize.ShloMosaic Idealize.ShloMosaic.TcCoe Idealize.SL.Sem
open Idealize.ShloMosaic.Pipeline (Dat)

namespace Cert.Acts

open Cert.ActsIdeal Cert.ActsIdeal.Gen Cert.Common

variable (m : (ℓ : Loc nD τ sig) → Buf (Elt Ideal) ℓ)

/-- The block each window takes at a grid point. -/
theorem idx : ∀ t : Fin cfg0.N, win0_0.index t = ![t.val, 0] ∧ win0_1.index t = ![0, 0] ∧ win0_2.index t = ![0, t.val, 0]
    ∧ win0_3.index t = ![0, t.val, 0] ∧ win0_4.index t = ![t.val, 0] ∧ win0_5.index t = ![0, t.val, 0] ∧ win0_6.index t = ![t.val, 0]
    ∧ win0_7.index t = ![0, 0] :=
  (by decide +kernel : ∀ t : Fin grid0.N, _)

/-- Row `i` of the tile of grid point `t`. -/
def row (t : Fin cfg0.N) (i : Fin 256) : Fin 2048 :=
  ⟨t.val * 256 + i.val, by have h : t.val < 8 := lt_of_lt_of_eq t.isLt (show cfg0.N = 8 from N_0); omega⟩

/-- Row `n` of an argument. -/
abbrev xr (x : Vec Ideal S1x2048x1024 .f32) (n : Fin 2048) : Fin 1024 → EReal := fun j => x (ix3 0 n j)
/-- A third of the modulation. -/
def md (mod : Vec Ideal S1x3072 .f32) (k : Fin 3) : Fin 1024 → EReal := fun j => mod (ix2 0 ⟨k.val * 1024 + j.val, by omega⟩)

theorem md_zero (mod : Vec Ideal S1x3072 .f32) (j : Fin 1024) : md mod 0 j = mod (ix2 0 ⟨j.val, by omega⟩) :=
  congrArg mod (congrArg (ix2 0) (Fin.ext (show (0 : Fin 3).val * 1024 + j.val = j.val by simp)))

theorem md_one (mod : Vec Ideal S1x3072 .f32) (j : Fin 1024) : md mod 1 j = mod (ix2 0 ⟨1024 + j.val, by omega⟩) := rfl

/-- The two factors of row `n`, from the arguments. -/
def facAt (x : Vec Ideal S1x2048x1024 .f32) (mod : Vec Ideal S1x3072 .f32) (g : Vec Ideal S1024 .f32) (w : Vec Ideal S1024x5632 .f32)
    (n : Fin 2048) (k : Fin 5632) : EReal :=
  fac (xr x n) (md mod 0) (md mod 1) (fun j => g (ix1 j)) (fun j k => w (ix2 j k)) k

/-- Row `n` of the layer, from the arguments. -/
def yAt (x : Vec Ideal S1x2048x1024 .f32) (mod : Vec Ideal S1x3072 .f32) (g : Vec Ideal S1024 .f32) (w : Vec Ideal S1024x5632 .f32)
    (wo : Vec Ideal S2816x1024 .f32) (n : Fin 2048) (l : Fin 1024) : EReal :=
  yrow (fun k => facAt x mod g w n ⟨k.val, by omega⟩) (fun k => facAt x mod g w n ⟨2816 + k.val, by omega⟩) (fun k l => wo (ix2 k l)) l

/-- The small operands stacked: the three rows of `mod`, the row `g`, zeros. -/
theorem V_p (c : Dev nD) : (V m c main_v4 : Vec Ideal S8x1024 .f32) = concatenate S8x1024 0
    [⟨S3x1024, shapeCast (s := S1x3x1024) S3x1024 (shapeCast (s := S1x3072) S1x3x1024 (m ((c : Thread nD τ).loc main_arg1) : Vec Ideal S1x3072 .f32) shapeCasts_S1x3072_S1x3x1024) shapeCasts_S1x3x1024_S3x1024⟩,
     ⟨S1x1024, broadcastInDim S1x1024 ![1] bcast_S1024_S1x1024_1 (m ((c : Thread nD τ).loc main_arg2) : Vec Ideal S1024 .f32)⟩,
     ⟨S4x1024, broadcastInDim S4x1024 ![] bcast_S_S4x1024 (constant (F := Ideal) S_ .f32 0x00000000#32)⟩]
    concatenates_S3x1024_S1x1024_S4x1024_S8x1024_d0 := by
  unfold V
  simp only [hostOps0, hostOps0_1, hostOps0_2, List.flatten_cons, List.flatten_nil, List.append_nil, List.cons_append, List.nil_append]
  after_results
  rfl

theorem iblk_p (c : Dev nD) (t : Fin cfg0.N) (r : Fin 8) (l : Fin 1024) :
    (iblk m c 1 t : Vec Ideal S8x1024 .f32) (ix2 r l) = (V m c main_v4 : Vec Ideal S8x1024 .f32) (ix2 r l) := by
  refine congrArg (V m c main_v4) ?_
  blk_ext [idx t]

theorem blk_gate (c : Dev nD) (t : Fin cfg0.N) (l : Fin 1024) :
    (iblk m c 1 t : Vec Ideal S8x1024 .f32) (ix2 2 l)
      = md (m ((c : Thread nD τ).loc main_arg1) : Vec Ideal S1x3072 .f32) 2 l := by
  rw [iblk_p, V_p]
  pointwise []
  rfl

/-- The outer cotangent, as the host hands it over. -/
theorem V_ct (c : Dev nD) : (V m c main_v38 : Vec Ideal S2048x1024 .f32)
    = shapeCast (s := S1x2048x1024) S2048x1024 (m ((c : Thread nD τ).loc main_arg5) : Vec Ideal S1x2048x1024 .f32) shapeCasts_S1x2048x1024_S2048x1024 := by
  unfold V
  simp only [hostOps0, hostOps0_1, hostOps0_2, List.flatten_cons, List.flatten_nil, List.append_nil, List.cons_append, List.nil_append]
  after_results
  rfl

theorem blk_ct (c : Dev nD) (t : Fin cfg0.N) (i : Fin 256) (l : Fin 1024) :
    (iblk m c 0 t : Vec Ideal S256x1024 .f32) (ix2 i l) = xr (m ((c : Thread nD τ).loc main_arg5) : Vec Ideal S1x2048x1024 .f32) (row t i) l := by
  have e : (iblk m c 0 t : Vec Ideal S256x1024 .f32) (ix2 i l) = (V m c main_v38 : Vec Ideal S2048x1024 .f32) (ix2 (row t i) l) := by
    refine congrArg (V m c main_v38) ?_
    unfold row
    blk_ext [idx t]
  rw [e, V_ct]
  pointwise []

/-- The second weight, as the host hands it over. -/
theorem V_w (c : Dev nD) : (V m c main_v6 : Vec Ideal S8x352x1024 .bf16)
    = shapeCast (s := S2816x1024) S8x352x1024 (truncf (F := Ideal) .bf16 (m ((c : Thread nD τ).loc main_arg4) : Vec Ideal S2816x1024 .f32) bitsLt_bf16_f32) shapeCasts_S2816x1024_S8x352x1024 := by
  unfold V
  simp only [hostOps0, hostOps0_1, hostOps0_2, List.flatten_cons, List.flatten_nil, List.append_nil, List.cons_append, List.nil_append]
  after_results
  rfl

/-- The 8 parts of the weight that the copies bring are the weight. -/
theorem blk_w (c : Dev nD) (k : Fin 2816) (l : Fin 1024) :
    WT (V m c main_v6) (ix2 k l)
      = (m ((c : Thread nD τ).loc main_arg4) : Vec Ideal S2816x1024 .f32) (ix2 (n0 := 2816) (n1 := 1024) k l) := by
  rw [V_w]
  pointwise [WT]

/-- The gate's factor cut into eleven chunks, as the host hands it over. -/
theorem V_g (c : Dev nD) : ∃ v : Vec Ideal S11x2048x256 .bf16, (V m c main_v41 : Vec Ideal S11x2048x256 .bf16) = v ∧
    ∀ q n j, v (ix3 (n0 := 11) (n1 := 2048) (n2 := 256) q n j) = facAt (m ((c : Thread nD τ).loc main_arg0)) (m ((c : Thread nD τ).loc main_arg1)) (m ((c : Thread nD τ).loc main_arg2))
      (m ((c : Thread nD τ).loc main_arg3)) n ⟨q.val * 256 + j.val, by omega⟩ := by
  apply Exists.intro
  apply And.intro
  · unfold V
    simp only [hostOps0, hostOps0_1, hostOps0_2, List.flatten_cons, List.flatten_nil, List.append_nil, List.cons_append, List.nil_append]
    after_results
  · intro q n j
    unfold facAt fac hrow rms rowLen rowEps
    pointwise []
    simp only [md_zero, md_one]

/-- The other factor cut into eleven chunks, as the host hands it over. -/
theorem V_u (c : Dev nD) : ∃ v : Vec Ideal S11x2048x256 .bf16, (V m c main_v44 : Vec Ideal S11x2048x256 .bf16) = v ∧
    ∀ q n j, v (ix3 (n0 := 11) (n1 := 2048) (n2 := 256) q n j) = facAt (m ((c : Thread nD τ).loc main_arg0)) (m ((c : Thread nD τ).loc main_arg1)) (m ((c : Thread nD τ).loc main_arg2))
      (m ((c : Thread nD τ).loc main_arg3)) n ⟨2816 + (q.val * 256 + j.val), by omega⟩ := by
  apply Exists.intro
  apply And.intro
  · unfold V
    simp only [hostOps0, hostOps0_1, hostOps0_2, List.flatten_cons, List.flatten_nil, List.append_nil, List.cons_append, List.nil_append]
    after_results
  · intro q n j
    unfold facAt fac hrow rms rowLen rowEps
    pointwise []
    simp only [md_zero, md_one]

/-- The layer's rows, as the host hands them over. -/
theorem V_y (c : Dev nD) : ∃ v : Vec Ideal S2048x1024 .f32, (V m c main_v45 : Vec Ideal S2048x1024 .f32) = v ∧
    ∀ n l, v (ix2 (n0 := 2048) (n1 := 1024) n l) = yAt (m ((c : Thread nD τ).loc main_arg0)) (m ((c : Thread nD τ).loc main_arg1)) (m ((c : Thread nD τ).loc main_arg2))
      (m ((c : Thread nD τ).loc main_arg3)) (m ((c : Thread nD τ).loc main_arg4)) n l := by
  apply Exists.intro
  apply And.intro
  · unfold V
    simp only [hostOps0, hostOps0_1, hostOps0_2, List.flatten_cons, List.flatten_nil, List.append_nil, List.cons_append, List.nil_append]
    after_results
  · intro n l
    unfold yAt yrow silu facAt fac hrow rms rowLen rowEps
    simp -implicitDefEqProofs only [StableHlo.TRef.toBuf, StableHlo.TRef.ofBuf, cast_eq]
    pointwise []
    simp only [md_zero, md_one]
    rfl

theorem blk_g (c : Dev nD) (t : Fin cfg0.N) (q : Fin 11) (i j : Fin 256) :
    (iblk m c 2 t : Vec Ideal S11x256x256 .bf16) (ix3 q i j) = facAt (m ((c : Thread nD τ).loc main_arg0)) (m ((c : Thread nD τ).loc main_arg1)) (m ((c : Thread nD τ).loc main_arg2))
      (m ((c : Thread nD τ).loc main_arg3)) (row t i) ⟨q.val * 256 + j.val, by omega⟩ := by
  have e : (iblk m c 2 t : Vec Ideal S11x256x256 .bf16) (ix3 q i j) = (V m c main_v41 : Vec Ideal S11x2048x256 .bf16) (ix3 q (row t i) j) := by
    refine congrArg (V m c main_v41) ?_
    unfold row
    blk_ext [idx t]
  obtain ⟨v, hv, h⟩ := V_g m c
  rw [e, hv, h]

theorem blk_u (c : Dev nD) (t : Fin cfg0.N) (q : Fin 11) (i j : Fin 256) :
    (iblk m c 3 t : Vec Ideal S11x256x256 .bf16) (ix3 q i j) = facAt (m ((c : Thread nD τ).loc main_arg0)) (m ((c : Thread nD τ).loc main_arg1)) (m ((c : Thread nD τ).loc main_arg2))
      (m ((c : Thread nD τ).loc main_arg3)) (row t i) ⟨2816 + (q.val * 256 + j.val), by omega⟩ := by
  have e : (iblk m c 3 t : Vec Ideal S11x256x256 .bf16) (ix3 q i j) = (V m c main_v44 : Vec Ideal S11x2048x256 .bf16) (ix3 q (row t i) j) := by
    refine congrArg (V m c main_v44) ?_
    unfold row
    blk_ext [idx t]
  obtain ⟨v, hv, h⟩ := V_u m c
  rw [e, hv, h]

theorem blk_y (c : Dev nD) (t : Fin cfg0.N) (i : Fin 256) (l : Fin 1024) :
    (iblk m c 4 t : Vec Ideal S256x1024 .f32) (ix2 i l) = yAt (m ((c : Thread nD τ).loc main_arg0)) (m ((c : Thread nD τ).loc main_arg1)) (m ((c : Thread nD τ).loc main_arg2))
      (m ((c : Thread nD τ).loc main_arg3)) (m ((c : Thread nD τ).loc main_arg4)) (row t i) l := by
  have e : (iblk m c 4 t : Vec Ideal S256x1024 .f32) (ix2 i l) = (V m c main_v45 : Vec Ideal S2048x1024 .f32) (ix2 (row t i) l) := by
    refine congrArg (V m c main_v45) ?_
    unfold row
    blk_ext [idx t]
  obtain ⟨v, hv, h⟩ := V_y m c
  rw [e, hv, h]

end Cert.Acts

end
-- ==== Proof.Acts.Final.lean ====
/- What the kernel `Acts` leaves in its three results, entry by entry. -/
module

public import proofs.«01_k».proof.Proof.Acts.Cases
public import proofs.«01_k».proof.Proof.Acts.Blocks
public import proofs.«01_k».proof.Proof.Common.Sums

@[expose] public section

set_option maxRecDepth 16384

noncomputable section

open Idealize.ShloMosaic Idealize.ShloMosaic.TcCoe Idealize.SL.Sem
open Idealize.ShloMosaic.Pipeline (Dat)

namespace Cert.Acts

open Cert.ActsIdeal Cert.ActsIdeal.Gen Cert.Common

/-- The cotangent of the gated product at entry `k` of row `n`, from the arguments. -/
def daAt (mod : Vec Ideal S1x3072 .f32) (wo : Vec Ideal S2816x1024 .f32) (ct : Vec Ideal S1x2048x1024 .f32) (n : Fin 2048) (k : Fin 2816) : EReal :=
  da (md mod 2) (xr ct n) (fun k l => wo (ix2 k l)) k

/-- An entry of the chunks of `d(gate,up)`, from the arguments: eleven chunks of the gate's, then eleven of the other factor's. -/
def dguAt (x : Vec Ideal S1x2048x1024 .f32) (mod : Vec Ideal S1x3072 .f32) (g : Vec Ideal S1024 .f32) (w : Vec Ideal S1024x5632 .f32)
    (wo : Vec Ideal S2816x1024 .f32) (ct : Vec Ideal S1x2048x1024 .f32) (q : Fin 22) (n : Fin 2048) (j : Fin 256) : EReal :=
  if h : q.val < 11 then
    dgate (daAt mod wo ct n ⟨q.val * 256 + j.val, by omega⟩) (facAt x mod g w n ⟨q.val * 256 + j.val, by omega⟩)
      (facAt x mod g w n ⟨2816 + (q.val * 256 + j.val), by omega⟩)
  else dup (daAt mod wo ct n ⟨(q.val - 11) * 256 + j.val, by omega⟩) (facAt x mod g w n ⟨(q.val - 11) * 256 + j.val, by omega⟩)

/-- An entry of `dy`, from the arguments. -/
def dyAt (mod : Vec Ideal S1x3072 .f32) (ct : Vec Ideal S1x2048x1024 .f32) (n : Fin 2048) (l : Fin 1024) : EReal :=
  half * md mod 2 l * xr ct n l

/-- What row `n` adds to the gate's gradient, from the arguments. -/
def gateTerm (x : Vec Ideal S1x2048x1024 .f32) (mod : Vec Ideal S1x3072 .f32) (g : Vec Ideal S1024 .f32) (w : Vec Ideal S1024x5632 .f32)
    (wo : Vec Ideal S2816x1024 .f32) (ct : Vec Ideal S1x2048x1024 .f32) (l : Fin 1024) (n : Fin 2048) : EReal :=
  half * xr ct n l * yAt x mod g w wo n l

/-- Row `r` of the third result, from the arguments. -/
def statAt (x : Vec Ideal S1x2048x1024 .f32) (mod : Vec Ideal S1x3072 .f32) (g : Vec Ideal S1024 .f32) (w : Vec Ideal S1024x5632 .f32)
    (wo : Vec Ideal S2816x1024 .f32) (ct : Vec Ideal S1x2048x1024 .f32) (r : Fin 8) (l : Fin 1024) : EReal :=
  if r.val = 2 then ∑ n : Fin 2048, gateTerm x mod g w wo ct l n else 0

/-- The running sums after one more tile. -/
theorem stats_apply (D : Vec Ideal S256x1024 .f32) (q : Vec Ideal S8x1024 .f32) (Y : Vec Ideal S256x1024 .f32) (s : Fin 8) (l : Fin 1024) :
    k0_pay7 D q Y (ix2 (n0 := 8) (n1 := 1024) s l) = q (ix2 s l) + ∑ x : Fin 32, half * D (ix2 ⟨x.val * 8 + s.val, by omega⟩ l) * Y (ix2 ⟨x.val * 8 + s.val, by omega⟩ l) := by
  unfold half
  pointwise [k0_pay7, k0_pay5]

/-- The running sums start at zero. -/
theorem zero_apply (s : Fin 8) (l : Fin 1024) : k0_pay4 (F := Ideal) (ix2 (n0 := 8) (n1 := 1024) s l) = 0 := by
  pointwise [k0_pay4]

/-- The rows that leave: the sums in row 2, zeros elsewhere. -/
theorem rows_apply (q : Vec Ideal S8x1024 .f32) (r : Fin 8) (l : Fin 1024) :
    k0_pay3 q (ix2 (n0 := 8) (n1 := 1024) r l) = if r.val = 2 then ∑ s : Fin 8, q (ix2 s l) else 0 := by
  fin_vals r with h
  · obtain rfl : r = 0 := Fin.ext h
    pointwise [k0_pay3]
  · obtain rfl : r = 1 := Fin.ext h
    pointwise [k0_pay3]
  · obtain rfl : r = 2 := Fin.ext h
    pointwise [k0_pay3]
  · obtain rfl : r = 3 := Fin.ext h
    pointwise [k0_pay3]
  · obtain rfl : r = 4 := Fin.ext h
    pointwise [k0_pay3]
  · obtain rfl : r = 5 := Fin.ext h
    pointwise [k0_pay3]
  · obtain rfl : r = 6 := Fin.ext h
    pointwise [k0_pay3]
  · obtain rfl : r = 7 := Fin.ext h
    pointwise [k0_pay3]

/-- The tile of `dy`. -/
theorem dy_apply (P : Vec Ideal S8x1024 .f32) (D : Vec Ideal S256x1024 .f32) (i : Fin 256) (l : Fin 1024) :
    k0_pay6 (gateRow P) D (ix2 (n0 := 256) (n1 := 1024) i l) = half * P (ix2 2 l) * D (ix2 i l) := by
  unfold half
  pointwise [k0_pay6, k0_pay5, gateRow]

variable (m : (ℓ : Loc nD τ sig) → Buf (Elt Ideal) ℓ)

/-- The gate's term of row `n` of this core's arguments, zero past the last row. -/
def termN (c : Dev nD) (l : Fin 1024) (n : ℕ) : EReal :=
  if h : n < 2048 then gateTerm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) l ⟨n, h⟩ else 0

/-- One tile's sums over the carried ones, as terms of the arguments' rows. -/
theorem stats_tile (c : Dev nD) (t : Fin cfg0.N) (q : Vec Ideal S8x1024 .f32) (s : Fin 8) (l : Fin 1024) :
    k0_pay7 (iblk m c 0 t) q (iblk m c 4 t) (ix2 (n0 := 8) (n1 := 1024) s l)
      = q (ix2 s l) + ∑ x : Fin 32, termN m c l (t.val * (32 * 8) + (x.val * 8 + s.val)) := by
  rw [stats_apply]
  refine congrArg (_ + ·) (Finset.sum_congr rfl fun x _ => ?_)
  have hn : t.val * (32 * 8) + (x.val * 8 + s.val) < 2048 := by
    have h : t.val < 8 := lt_of_lt_of_eq t.isLt (show cfg0.N = 8 from N_0); omega
  have hrow : (⟨t.val * (32 * 8) + (x.val * 8 + s.val), hn⟩ : Fin 2048) = row t ⟨x.val * 8 + s.val, by omega⟩ :=
    Fin.ext (by show t.val * (32 * 8) + (x.val * 8 + s.val) = t.val * 256 + (x.val * 8 + s.val); omega)
  unfold termN
  rw [dif_pos hn, hrow, blk_ct, blk_y]
  rfl

/-- After point `n` the weight is loaded and the carried sums are those of the tiles so far. -/
theorem carried (c : Dev nD) (n : ℕ) : ∀ hn : n < cfg0.N, n < 7 →
    (outsAt0 m c n hn).2.2.2.1 = WT (V m c main_v6)
    ∧ ∀ (s : Fin 8) (l : Fin 1024), ((outsAt0 m c n hn).2.2.2.2 : Vec Ideal S8x1024 .f32) (ix2 (n0 := 8) (n1 := 1024) s l)
      = ∑ t ∈ Finset.range (n + 1), ∑ x : Fin 32, termN m c l (t * (32 * 8) + (x.val * 8 + s.val)) := by
  induction n with
  | zero =>
    intro hn _
    have e := outsAt0_A m c ⟨0, hn⟩ (Nat.zero_mod _) (by show ¬0 % 8 = 7; omega)
    refine ⟨?_, fun s l => ?_⟩
    · exact (congrArg (fun p : Outs Ideal => p.2.2.2.1) e).trans (outsA_w m c _ _ _)
    · refine (congrArg (fun p : Outs Ideal => p.2.2.2.2 (ix2 (n0 := 8) (n1 := 1024) s l)) e).trans ?_
      rw [outsA_s m c _ _ _, stats_tile m c _ _ s l, zero_apply, zero_add, Finset.sum_range_one]
  | succ n ih =>
    intro hn h7
    obtain ⟨hw, hs⟩ := ih (Nat.lt_of_succ_lt hn) (by omega)
    have e := outsAt0_B m c ⟨n + 1, hn⟩ (by show ¬(n + 1) % 8 = 0; omega) (by show ¬(n + 1) % 8 = 7; omega)
    have ep : outsAt0 m c ((⟨n + 1, hn⟩ : Fin cfg0.N).val - 1) (Nat.lt_of_le_of_lt (Nat.sub_le _ _) hn) = outsAt0 m c n (Nat.lt_of_succ_lt hn) := rfl
    rw [ep] at e
    generalize outsAt0 m c n (Nat.lt_of_succ_lt hn) = p at hw hs e
    have e' : outsAt0 m c (n + 1) hn = outsB m c ⟨n + 1, hn⟩ _ _ p := e
    rw [e']
    refine ⟨(outsB_w m c _ _ _ p).trans hw, fun s l => ?_⟩
    rw [outsB_s m c _ _ _ p, stats_tile m c _ _ s l, Finset.sum_range_succ _ (n + 1)]
    exact congrArg (· + _) (hs s l)

/-- The chunks of `d(gate,up)` that any point leaves. -/
theorem tile_dgu (c : Dev nD) (t : Fin cfg0.N) :
    (outsAt0 m c t.val t.isLt).1 = dguTile (iblk m c 0 t) (iblk m c 1 t) (iblk m c 2 t) (iblk m c 3 t) (WT (V m c main_v6)) := by
  have h8 : t.val < 8 := lt_of_lt_of_eq t.isLt (show cfg0.N = 8 from N_0)
  by_cases h0 : t.val % 8 = 0
  · rw [outsAt0_A m c t h0 (by omega)]
    exact outsA_1 m c t h0 (by omega)
  · have hw := (carried m c (t.val - 1) (Nat.lt_of_le_of_lt (Nat.sub_le _ _) t.isLt) (by omega)).1
    by_cases h1 : t.val % 8 = 7
    · rw [outsAt0_C m c t h0 h1, outsC_1 m c t h0 h1, hw]
    · rw [outsAt0_B m c t h0 h1, outsB_1 m c t h0 h1, hw]

/-- The tile of `dy` that any point leaves. -/
theorem tile_dy (c : Dev nD) (t : Fin cfg0.N) :
    (outsAt0 m c t.val t.isLt).2.1 = k0_pay6 (gateRow (iblk m c 1 t)) (iblk m c 0 t) := by
  by_cases h0 : t.val % 8 = 0
  · rw [outsAt0_A m c t h0 (by omega)]
    exact outsA_2 m c t h0 (by omega)
  · by_cases h1 : t.val % 8 = 7
    · rw [outsAt0_C m c t h0 h1, outsC_2 m c t h0 h1]
    · rw [outsAt0_B m c t h0 h1, outsB_2 m c t h0 h1]

theorem da_congr {a a' c c' : Fin 1024 → EReal} {w w' : Fin 2816 → Fin 1024 → EReal} {k : Fin 2816} (ha : a = a') (hc : c = c') (hw : w = w') :
    da a c w k = da a' c' w' k := by
  subst ha hc hw
  rfl

/-- The cotangent of the gated product in a tile is that of the arguments' rows. -/
theorem da_at (c : Dev nD) (t : Fin cfg0.N) (i : Fin 256) (k : Fin 2816) :
    daT (iblk m c 0 t) (iblk m c 1 t) (WT (V m c main_v6)) i k
      = daAt (m ((c : Thread nD τ).loc main_arg1)) (m ((c : Thread nD τ).loc main_arg4)) (m ((c : Thread nD τ).loc main_arg5)) (row t i) k :=
  da_congr (funext fun l => blk_gate m c t l) (funext fun l => blk_ct m c t i l) (funext fun k => funext fun l => blk_w m c k l)

/-- A point's chunks are those of the arguments' rows. -/
theorem tile_at (c : Dev nD) (t : Fin cfg0.N) (q : Fin 22) (i j : Fin 256) :
    dguTile (iblk m c 0 t) (iblk m c 1 t) (iblk m c 2 t) (iblk m c 3 t) (WT (V m c main_v6)) (ix3 (n0 := 22) (n1 := 256) (n2 := 256) q i j)
      = dguAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) q (row t i) j := by
  unfold dguAt
  by_cases h : q.val < 11
  · rw [dif_pos h]
    refine (dif_pos h).trans ?_
    exact congr (congr (congrArg dgate (da_at m c t i _)) (blk_g m c t ⟨q.val, h⟩ i j)) (blk_u m c t ⟨q.val, h⟩ i j)
  · rw [dif_neg h]
    refine (dif_neg h).trans ?_
    exact congr (congrArg dup (da_at m c t i _)) (blk_g m c t ⟨q.val - 11, by omega⟩ i j)

/-- The first result. -/
def G5 (c : Dev nD) : S22x2048x256.Idx → EReal := fun y =>
  dguAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1) (y 2)

/-- The second result. -/
def G6 (c : Dev nD) : S2048x1024.Idx → EReal := fun y =>
  dyAt (m ((c : Thread nD τ).loc main_arg1)) (m ((c : Thread nD τ).loc main_arg5)) (y 0) (y 1)

/-- The third result. -/
def G7 (c : Dev nD) : S8x1024.Idx → EReal := fun y =>
  statAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1)

/-- The kernel leaves the first result. -/
theorem final5 (c : Dev nD) : (dats m 0 c).arrAt 5 (cfgs 0).N = G5 m c := by
  refine (dats m 0 c).arrAt_eq_of_covers 5 _ (by decide +kernel) fun t _ y => ?_
  blk_simp
  rw [after0_5, tile_dgu]
  idx_vars y
  have h0 : ix3 y0 (row t y1) y2 = (win0_5.blk t).view.emb (ix3 (n0 := 22) (n1 := 256) (n2 := 256) y0 y1 y2) := by
    unfold row; blk_ext [idx t]
  exact (tile_at m c t y0 y1 y2).trans (congrArg (G5 m c) h0)

/-- The kernel leaves the second result. -/
theorem final6 (c : Dev nD) : (dats m 0 c).arrAt 6 (cfgs 0).N = G6 m c := by
  refine (dats m 0 c).arrAt_eq_of_covers 6 _ (by decide +kernel) fun t _ y => ?_
  blk_simp
  rw [after0_6, tile_dy]
  idx_vars y
  have h0 : ix2 (row t y0) y1 = (win0_6.blk t).view.emb (ix2 (n0 := 256) (n1 := 1024) y0 y1) := by
    unfold row; blk_ext [idx t]
  refine Eq.trans ?_ (congrArg (G6 m c) h0)
  refine (dy_apply _ _ y0 y1).trans ?_
  rw [blk_gate, blk_ct]
  rfl

/-- The last point leaves the rows of sums. -/
theorem rows_at (c : Dev nD) (r : Fin 8) (l : Fin 1024) :
    ((outsAt0 m c t0_7.val t0_7.isLt).2.2.1 : Vec Ideal S8x1024 .f32) (ix2 (n0 := 8) (n1 := 1024) r l)
      = statAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r l := by
  have e : outsAt0 m c t0_7.val t0_7.isLt = outsC m c t0_7 (by decide) (by decide) (outsAt0 m c 6 (by rw [show cfg0.N = 8 from N_0]; omega)) :=
    outsAt0_C m c t0_7 (by decide) (by decide)
  rw [e]
  have hc := carried m c 6 (by rw [show cfg0.N = 8 from N_0]; omega) (by omega)
  generalize outsAt0 m c 6 (by rw [show cfg0.N = 8 from N_0]; omega) = p at hc ⊢
  obtain ⟨hw, hs⟩ := hc
  rw [outsC_3 m c t0_7 _ _ p, rows_apply]
  unfold statAt
  split
  · have hsum : ∀ s : Fin 8, k0_pay7 (iblk m c 0 t0_7) p.2.2.2.2 (iblk m c 4 t0_7) (ix2 (n0 := 8) (n1 := 1024) s l)
        = ∑ t ∈ Finset.range 8, ∑ x : Fin 32, termN m c l (t * (32 * 8) + (x.val * 8 + s.val)) := fun s => by
      rw [stats_tile m c t0_7 _ s l, Finset.sum_range_succ _ 7]
      exact congrArg (· + _) (hs s l)
    refine (Finset.sum_congr rfl fun s _ => hsum s).trans ?_
    rw [sum_rows 8 32 2048 (by norm_num) (termN m c l)]
    refine Finset.sum_congr rfl fun n _ => ?_
    unfold termN
    rw [dif_pos n.isLt]
  · rfl

/-- The kernel leaves the third result. -/
theorem final7 (c : Dev nD) : (dats m 0 c).arrAt 7 (cfgs 0).N = G7 m c := by
  refine (dats m 0 c).arrAt_eq_of_after_last 7 t0_7 (by decide +kernel) _ fun y => ?_
  blk_simp
  rw [after0_7]
  idx_vars y
  exact rows_at m c y0 y1

end Cert.Acts

end
-- ==== Proof.Acts.RefPoint.lean ====
/- The reference of the kernel `Acts`, entry by entry. -/
module

public import proofs.«01_k».proof.Proof.Acts.Final
public import proofs.«01_k».proof.Proof.Common.Reduce
public import proofs.«01_k».proof.Proof.Common.Norm
public import proofs.«01_k».proof.Proof.Gen.ActsRefIdeal.Read

@[expose] public section

set_option maxRecDepth 16384

noncomputable section

open Idealize.ShloMosaic Idealize.ShloMosaic.TcCoe Idealize.SL.Sem
open Idealize.ShloMosaic.Pipeline (Dat)

namespace Cert.Acts

open Cert.ActsRefIdeal Cert.ActsRefIdeal.Gen Cert.ActsRefIdeal.Read Cert.Common

variable (x : Vec Ideal S1x2048x1024 .f32) (mod : Vec Ideal S1x3072 .f32) (g : Vec Ideal S1024 .f32) (w : Vec Ideal S1024x5632 .f32)
    (wo : Vec Ideal S2816x1024 .f32) (ct : Vec Ideal S1x2048x1024 .f32)

/-- The product with the first weight. -/
theorem ref_fac (n : Fin 2048) (k : Fin 5632) : val_main_v29 (F := Ideal) x mod g w (ix3 (n0 := 1) (n1 := 2048) (n2 := 5632) 0 n k)
    = facAt x mod g w n k := by
  unfold facAt fac hrow rms rowLen rowEps
  pointwise [val_main_cst, val_main_v0, val_main_v2, val_main_v3, val_main_v4, val_main_v5, val_main_v6, val_main_cst_1, val_main_v7, val_main_v8,
    val_main_cst_2, val_main_v9, val_main_v10, val_main_cst_3, val_main_v11, val_main_v12, val_main_v13, val_main_v14, val_main_v15, val_main_v16,
    val_main_v17, val_main_v18, val_main_v19, val_main_cst_4, val_main_v20, val_main_v21, val_main_v22, val_main_v23, val_main_v24, val_main_v25,
    val_main_v26, val_main_v28, val_main_v29]
  simp only [md_zero, md_one]

/-- The gate's factor. -/
theorem ref_z (n : Fin 2048) (k : Fin 2816) : val_main_v30 (F := Ideal) x mod g w (ix3 (n0 := 1) (n1 := 2048) (n2 := 2816) 0 n k)
    = facAt x mod g w n ⟨k.val, by omega⟩ := by
  pointwise [val_main_v30, ref_fac]

/-- The other factor. -/
theorem ref_u (n : Fin 2048) (k : Fin 2816) : val_main_v31 (F := Ideal) x mod g w (ix3 (n0 := 1) (n1 := 2048) (n2 := 2816) 0 n k)
    = facAt x mod g w n ⟨2816 + k.val, by omega⟩ := by
  pointwise [val_main_v31, ref_fac]

/-- The logistic of the gate's factor. -/
theorem ref_s (n : Fin 2048) (k : Fin 2816) : val_main_v35_2 (F := Ideal) x mod g w (ix3 (n0 := 1) (n1 := 2048) (n2 := 2816) 0 n k)
    = Ideal.logistic (facAt x mod g w n ⟨k.val, by omega⟩) := by
  pointwise [val_main_v35_2, val_main_call0_v4, val_main_call0_cst_0, val_main_call0_v3, val_main_call0_v2, val_main_call0_cst, val_main_call0_v1,
    val_main_call0_v0, ref_z]
  rfl

/-- The layer's row. -/
theorem ref_y (n : Fin 2048) (l : Fin 1024) : val_main_v38 (F := Ideal) x mod g w wo (ix3 (n0 := 1) (n1 := 2048) (n2 := 1024) 0 n l)
    = yAt x mod g w wo n l := by
  unfold yAt yrow silu
  pointwise [val_main_v38, val_main_v1, val_main_cst_0, val_main_v37, val_main_v36, val_main_v35_0, ref_s, ref_z, ref_u]

/-- The cotangent of the gated product. -/
theorem ref_da (n : Fin 2048) (k : Fin 2816) : val_main_v47 (F := Ideal) mod wo ct (ix3 (n0 := 1) (n1 := 2048) (n2 := 2816) 0 n k)
    = daAt mod wo ct n k := by
  unfold daAt da half
  pointwise [val_main_v47, val_main_v43, val_main_v42, val_main_v34, val_main_v33, val_main_cst_5, val_main_v32, val_main_v27, val_main_v3, val_main_v2]
  rfl

/-- The second result of the reference is the one the kernel leaves. -/
theorem ref_dy (n : Fin 2048) (l : Fin 1024) : val_main_v63 (F := Ideal) mod ct (ix2 (n0 := 2048) (n1 := 1024) n l) = dyAt mod ct n l := by
  unfold dyAt half
  pointwise [val_main_v63, val_main_v62, val_main_v43, val_main_v42, val_main_v34, val_main_v33, val_main_cst_5, val_main_v32, val_main_v27, val_main_v3, val_main_v2]
  rfl

/-- The cotangent of the other factor. -/
theorem ref_du (n : Fin 2048) (k : Fin 2816) : val_main_v48 (F := Ideal) x mod g w wo ct (ix3 (n0 := 1) (n1 := 2048) (n2 := 2816) 0 n k)
    = dup (daAt mod wo ct n k) (facAt x mod g w n ⟨k.val, by omega⟩) := by
  unfold dup silu
  pointwise [val_main_v48, val_main_v35_0, ref_s, ref_z, ref_da]
  exact mul_comm _ _

/-- The cotangent of the gate's factor, where the three numbers it is made of are real. -/
theorem ref_dg (n : Fin 2048) (k : Fin 2816) (ha : IsReal (daAt mod wo ct n k)) (hz : IsReal (facAt x mod g w n ⟨k.val, by omega⟩))
    (hu : IsReal (facAt x mod g w n ⟨2816 + k.val, by omega⟩)) :
    val_main_v50 (F := Ideal) x mod g w wo ct (ix3 (n0 := 1) (n1 := 2048) (n2 := 2816) 0 n k)
    = dgate (daAt mod wo ct n k) (facAt x mod g w n ⟨k.val, by omega⟩) (facAt x mod g w n ⟨2816 + k.val, by omega⟩) := by
  rw [← dgate_sum ha hz hu]
  pointwise [val_main_v50, val_main_call1_v2, val_main_call1_v1, val_main_call1_v0, val_main_v49, val_main_v35_1, val_main_call0_v7,
    val_main_call0_v6, val_main_call0_cst_1, ref_s, ref_z, ref_u, ref_da]

/-- The third result of the reference is the one the kernel leaves. -/
theorem ref_stats (r : Fin 8) (l : Fin 1024) : val_main_v58 (F := Ideal) x mod g w wo ct (ix2 (n0 := 8) (n1 := 1024) r l)
    = statAt x mod g w wo ct r l := by
  unfold statAt gateTerm
  fin_vals r with h
  · obtain rfl : r = 0 := Fin.ext h
    pointwise [val_main_v58, val_main_v56, val_main_v57, val_main_cst_9, val_main_cst_10]
  · obtain rfl : r = 1 := Fin.ext h
    pointwise [val_main_v58, val_main_v56, val_main_v57, val_main_cst_9, val_main_cst_10]
  · obtain rfl : r = 2 := Fin.ext h
    pointwise [val_main_v58, val_main_v54, val_main_v53, val_main_cst_8, val_main_v52, val_main_cst_7, val_main_v51, val_main_v46, val_main_v45, val_main_cst_6, val_main_v44, ref_y, sum_unit01]
    have e : Ideal.ofBits FTy.f32 1056964608#32 = ((1 / 2 : ℝ) : EReal) := chalf
    rw [chalf, e, coe_mul_sum _ (by norm_num)]
    exact Finset.sum_congr rfl fun n _ => (mul_assoc _ _ _).symm
  · obtain rfl : r = 3 := Fin.ext h
    pointwise [val_main_v58, val_main_v56, val_main_v57, val_main_cst_9, val_main_cst_10]
  · obtain rfl : r = 4 := Fin.ext h
    pointwise [val_main_v58, val_main_v56, val_main_v57, val_main_cst_9, val_main_cst_10]
  · obtain rfl : r = 5 := Fin.ext h
    pointwise [val_main_v58, val_main_v56, val_main_v57, val_main_cst_9, val_main_cst_10]
  · obtain rfl : r = 6 := Fin.ext h
    pointwise [val_main_v58, val_main_v56, val_main_v57, val_main_cst_9, val_main_cst_10]
  · obtain rfl : r = 7 := Fin.ext h
    pointwise [val_main_v58, val_main_v56, val_main_v57, val_main_cst_9, val_main_cst_10]

/-- The first result of the reference is the one the kernel leaves, where the factors and the cotangent are real. -/
theorem ref_dgu (ha : ∀ n k, IsReal (daAt mod wo ct n k)) (hf : ∀ n k, IsReal (facAt x mod g w n k)) (q : Fin 22) (n : Fin 2048) (j : Fin 256) :
    val_main_v61 (F := Ideal) x mod g w wo ct (ix3 (n0 := 22) (n1 := 2048) (n2 := 256) q n j) = dguAt x mod g w wo ct q n j := by
  unfold dguAt
  split
  · next h =>
    refine Eq.trans ?_ (ref_dg x mod g w wo ct n ⟨q.val * 256 + j.val, by omega⟩ (ha _ _) (hf _ _) (hf _ _))
    pointwise [val_main_v61, val_main_v60, val_main_v59, val_main_v55]
    rw [dif_pos (by omega)]
  · next h =>
    refine Eq.trans ?_ (ref_du x mod g w wo ct n ⟨(q.val - 11) * 256 + j.val, by omega⟩)
    pointwise [val_main_v61, val_main_v60, val_main_v59, val_main_v55]
    rw [dif_neg (by omega)]
    exact congrArg (fun k => val_main_v48 (F := Ideal) x mod g w wo ct (ix3 (n0 := 1) (n1 := 2048) (n2 := 2816) 0 n k))
      (Fin.ext (by show q.val * 256 + j.val - 2816 = (q.val - 11) * 256 + j.val; omega))

end Cert.Acts

end
-- ==== Proof.Common.Finite.lean ====
/- What the tests "every entry of this array is a finite number" say, entry by entry. -/
module

public import proofs.«01_k».proof.Proof.Common.Swiglu
public import Idealize.ShloMosaic.Lib.ReduceAll
public import Idealize.ShloMosaic.Lib.StableHlo.Predicate

@[expose] public section

noncomputable section

open Idealize.ShloMosaic

namespace Cert.Common

/-- The array with one entry. -/
abbrev Unit0 : Shape := ⟨0, ![]⟩

/-- Both conjuncts of a test that holds hold. -/
theorem andi_one {a b : IVec Unit0 1} {j : Unit0.Idx} (h : andi a b j = 1#1) : a j = 1#1 ∧ b j = 1#1 := by
  have e : ∀ p q : BitVec 1, p &&& q = 1#1 → p = 1#1 ∧ q = 1#1 := by decide
  exact e _ _ h

/-- A number whose difference with itself is zero is real. -/
theorem isReal_of_sub {a : EReal} (h : a - a = 0) : IsReal a := by
  rcases a with _ | r
  · exact absurd h (by decide)
  · rcases r with _ | r
    · exact absurd h (by decide)
    · exact ⟨r, rfl⟩

/-- If every entry's difference with itself equals zero then every entry is real. -/
theorem isReal_of_all {S : Shape} {axes : List (Fin S.rank)} (v : FVec Ideal S .f32) (hb : Unit0.BroadcastsInDim S (![] : Fin 0 → Fin S.rank))
    (h : S.ReducesTo axes Unit0) (hu : 0 < Unit0.numel) (j : Unit0.Idx)
    (e : Host.reduce IntOp.andi (cmpf .oeq (subf v v) (broadcastInDim S ![] hb (constant (F := Ideal) Unit0 .f32 0x00000000#32)))
      (constantI Unit0 1 1#1) h hu j = 1#1) (i : S.Idx) : IsReal (v i) := by
  have e2 : BitVec.ofBool (decide (v i - v i = Ideal.ofBits .f32 0x00000000#32)) = 1#1 := Host.reduce_andi_all _ _ h hu j e i
  rw [Ideal.ofBits_zero_f32] at e2
  refine isReal_of_sub ?_
  by_contra hn
  rw [decide_eq_false hn] at e2
  exact absurd e2 (by decide)

end Cert.Common

end
-- ==== Proof.Acts.Claim.lean ====
/- The claim that the kernel `Acts` and its reference end with equal results. -/
module

public import proofs.«01_k».proof.Defs
public import proofs.«01_k».proof.Proof.Acts.RefPoint
public import proofs.«01_k».proof.Proof.Common.Finite
public import proofs.«01_k».proof.Proof.Gen.ActsRefIdeal.Run

@[expose] public section

set_option maxRecDepth 16384

noncomputable section

open Idealize.ShloMosaic Idealize.ShloMosaic.TcCoe Idealize.SL.Sem

namespace Cert.Acts.Claims

open Cert.Acts Cert.Common Cert.ActsRefIdeal.Read

/-- The side conditions of the operations the precondition is made of. -/
instance preFacts : Cert.Pre_finite_acts.Facts where
  bcast_S_S1x3072 := by decide
  reducesTo_S1x3072_S_d0_1 := by decide
  h_S_ := by decide
  bcast_S_S1024 := by decide
  reducesTo_S1024_S_d0 := by decide
  bcast_S_S1024x5632 := by decide
  reducesTo_S1024x5632_S_d0_1 := by decide
  bcast_S_S2816x1024 := by decide
  reducesTo_S2816x1024_S_d0_1 := by decide
  bcast_S_S1x2048x1024 := by decide
  reducesTo_S1x2048x1024_S_d0_1_2 := by decide

/-- What the precondition says: the entries of the five arguments it names are real numbers. -/
theorem real_args [Cert.Pre_finite_acts.Facts] (x : FVec Ideal Cert.ActsIdeal.S1x2048x1024 .f32) (mod : FVec Ideal Cert.ActsIdeal.S1x3072 .f32)
    (g : FVec Ideal Cert.ActsIdeal.S1024 .f32) (w : FVec Ideal Cert.ActsIdeal.S1024x5632 .f32) (wo : FVec Ideal Cert.ActsIdeal.S2816x1024 .f32)
    (ct : FVec Ideal Cert.ActsIdeal.S1x2048x1024 .f32) (h : Cert.Pre_finite_acts.fn (F := Ideal) x mod g w wo ct = fun _ => 1#1) :
    (∀ i, IsReal (mod i)) ∧ (∀ i, IsReal (g i)) ∧ (∀ i, IsReal (w i)) ∧ (∀ i, IsReal (wo i)) ∧ ∀ i, IsReal (ct i) := by
  have e := congrFun h (fun a : Fin 0 => a.elim0)
  dsimp only [Cert.Pre_finite_acts.fn, Cert.Pre_finite_acts.fn_part1] at e
  obtain ⟨e, h5⟩ := andi_one e
  obtain ⟨e, h4⟩ := andi_one e
  obtain ⟨e, h3⟩ := andi_one e
  obtain ⟨h1, h2⟩ := andi_one e
  exact ⟨isReal_of_all mod _ _ _ _ h1, isReal_of_all g _ _ _ _ h2, isReal_of_all w _ _ _ _ h3, isReal_of_all wo _ _ _ _ h4,
    isReal_of_all ct _ _ _ _ h5⟩

set_option maxHeartbeats 4000000 in
/-- From the same arguments, the five named ones real, the kernel and the reference end with equal results. -/
theorem algebraic : Cert.algebraic_ActsIdeal_ActsRefIdeal_pre_finite_acts := by
  pair_intro
  · run_from Cert.ActsIdeal.Gen.run_main m g
    all_goals
      simp only [Cert.ActsIdeal.Gen.hostOps0, Cert.ActsIdeal.Gen.hostOps0_1, Cert.ActsIdeal.Gen.hostOps0_2, List.flatten_cons, List.flatten_nil,
        List.append_nil, List.cons_append, List.nil_append]
      after_results
  · refine (θ_run _ _ _).mono (fun r h c => ?_) (Cert.ActsRefIdeal.Value.run m' g')
    obtain ⟨h0, h1, h2, hargs⟩ := h c
    obtain ⟨a0, a1, a2, a3, a4, a5⟩ := hagree c
    obtain ⟨rmod, rg, rw', rwo, rct⟩ := real_args _ _ _ _ _ _ (hpre c)
    refine ⟨h0.trans ((val_main_v61_eq m' c).trans (Eq.trans ?_ (final5 m c).symm)),
      h1.trans ((val_main_v63_eq _ _).trans (Eq.trans ?_ (final6 m c).symm)),
      h2.trans ((val_main_v58_eq m' c).trans (Eq.trans ?_ (final7 m c).symm)), hargs⟩
    · funext y
      idx_vars y
      rw [a0, a1, a2, a3, a4, a5]
      refine (ref_dgu _ _ _ _ _ _ (fun n k => ?_) (fun n k => ?_) y0 y1 y2).trans ?_
      · exact da_real (fun l => rmod _) (fun l => rct _) (fun k l => rwo _) k
      · exact fac_real (fun l => rmod _) (fun l => rmod _) (fun l => rg _) (fun l k => rw' _) k
      · rfl
    · funext y
      idx_vars y
      refine (ref_dy _ _ y0 y1).trans ?_
      rw [a1, a5]
      rfl
    · funext y
      idx_vars y
      refine (ref_stats _ _ _ _ _ _ y0 y1).trans ?_
      rw [a0, a1, a2, a3, a4, a5]
      rfl

end Cert.Acts.Claims

end
-- ==== Proof.Acts.Ref.lean ====
/- The frame of the reference of `Acts`. -/
module

public import proofs.«01_k».proof.Defs
public import proofs.«01_k».proof.Proof.Gen.ActsRefIdeal
public import Idealize.ShloMosaic.Lib.Claim

@[expose] public section

set_option maxRecDepth 16384

namespace Cert.ActsRefIdeal.Gen
open Idealize.ShloMosaic Idealize.SL.Sem

set_option maxHeartbeats 8000000 in
/-- Every execution of the reference ends, faults nowhere and leaves the arguments as they were. -/
theorem frame : Cert.quiescent_ActsRefIdeal := by
  intro m g _
  hlo_run
  · intro c
    simp only [and_self]
  · refine sem_eq_zero_of_no_sems ?_ _
    decide

end Cert.ActsRefIdeal.Gen
-- ==== Proof.Ffn.RunA.lean ====
/- The body of `Ffn` at the first point of its grid. -/
module

public import proofs.«01_k».proof.Proof.Gen.FfnIdeal.Frame.Runs

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in set_option sl_exec.rejoinHeartbeats 400000 in
/-- The body at a first point, run: the pieces it stores into each output and scratch. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S11x256x256 .bf16) (harg4 : arg4.IsWhole) (arg5 : Memref sig .tc .vmem S11x256x256 .bf16) (harg5 : arg5.IsWhole) (arg6 : Memref sig .tc .vmem S256x1024 .f32) (harg6 : arg6.IsWhole) (arg9 : Memref sig .tc .vmem S256x1024 .f32) (harg9 : arg9.IsWhole) (arg10 : Memref sig .tc .vmem S22x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S5632x1024 .bf16) (harg13 : arg13.IsWhole) (arg14 : Memref sig .tc .vmem S2816x1024 .bf16) (harg14 : arg14.IsWhole) (arg15 : Memref sig .tc .vmem S256x5632 .bf16) (harg15 : arg15.IsWhole) (arg16 : Memref sig .tc .vmem S4x8x1024 .f32) (harg16 : arg16.IsWhole) (hc0 : cond0_0 i) (hc1 : ¬cond0_1 i)
    (x0 : Vec F S256x1024 .f32) (x1 : Vec F S256x1024 .f32) (x2 : Vec F S8x1024 .f32) (x3 : Vec F S11x256x256 .bf16) (x4 : Vec F S11x256x256 .bf16) (x5 : Vec F S256x1024 .f32) (fh0 : HbBuf0 (F := F) c hbM0_0) (fh1 : HbBuf0 (F := F) c hbM0_1) :
    Σ' (L6 : List (View.Piece (Elt F) S256x1024 .f32)), Σ' (L7 : List (View.Piece (Elt F) S22x256x256 .bf16)), Σ' (L8 : List (View.Piece (Elt F) S256x1024 .bf16)), Σ' (L9 : List (View.Piece (Elt F) S8x1024 .f32)), Σ' (LS0 : List (View.Piece (Elt F) S5632x1024 .bf16)), Σ' (LS1 : List (View.Piece (Elt F) S2816x1024 .bf16)), Σ' (LS3 : List (View.Piece (Elt F) S4x8x1024 .f32)), { LT2 : List (View.Piece (Elt F) S256x5632 .bf16) //
      ∀ (xi9 : Vec F S8x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ owns (c : Thread nD τ) arg12 fullShare xi9 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd_3 i arg1 harg1 arg2 harg2 arg3 harg3 arg4 harg4 arg5 harg5 arg6 harg6 (Memref.whole main_v7) (Memref.isWhole_whole _) (Memref.whole main_v9) (Memref.isWhole_whole _) arg9 harg9 arg10 harg10 arg11 harg11 arg12 harg12 arg13 harg13 arg14 harg14 arg15 harg15 arg16 harg16 cc0_scratch4) K } := by
  refine ⟨?_, ?_, ?_, [], ?_, ?_, ?_, ?_, fun xi9 W K => ?run⟩
  case run =>
    simp only [cc0_ffn_bwd_3_eq_skeleton]; unfold cc0_ffn_bwd_3_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _; isplitr; · ipureintro; exact harg12.read_unread _
      iexact H9
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.FfnIdeal.Gen

end
-- ==== Proof.Ffn.RunB.lean ====
/- The body of `Ffn` at the middle point of its grid. -/
module

public import proofs.«01_k».proof.Proof.Gen.FfnIdeal.Frame.Runs

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a middle point, run: the pieces it stores into each output and scratch. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S11x256x256 .bf16) (harg4 : arg4.IsWhole) (arg5 : Memref sig .tc .vmem S11x256x256 .bf16) (harg5 : arg5.IsWhole) (arg6 : Memref sig .tc .vmem S256x1024 .f32) (harg6 : arg6.IsWhole) (arg9 : Memref sig .tc .vmem S256x1024 .f32) (harg9 : arg9.IsWhole) (arg10 : Memref sig .tc .vmem S22x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S5632x1024 .bf16) (harg13 : arg13.IsWhole) (arg14 : Memref sig .tc .vmem S2816x1024 .bf16) (harg14 : arg14.IsWhole) (arg15 : Memref sig .tc .vmem S256x5632 .bf16) (harg15 : arg15.IsWhole) (arg16 : Memref sig .tc .vmem S4x8x1024 .f32) (harg16 : arg16.IsWhole) (hc0 : ¬cond0_0 i) (hc1 : ¬cond0_1 i)
    (x0 : Vec F S256x1024 .f32) (x1 : Vec F S256x1024 .f32) (x2 : Vec F S8x1024 .f32) (x3 : Vec F S11x256x256 .bf16) (x4 : Vec F S11x256x256 .bf16) (x5 : Vec F S256x1024 .f32) (xs0 : Vec F S5632x1024 .bf16) (xs1 : Vec F S2816x1024 .bf16) (xs3 : Vec F S4x8x1024 .f32) (fh0 : HbBuf0 (F := F) c hbM0_0) (fh1 : HbBuf0 (F := F) c hbM0_1) :
    Σ' (L6 : List (View.Piece (Elt F) S256x1024 .f32)), Σ' (L7 : List (View.Piece (Elt F) S22x256x256 .bf16)), Σ' (L8 : List (View.Piece (Elt F) S256x1024 .bf16)), Σ' (L9 : List (View.Piece (Elt F) S8x1024 .f32)), Σ' (LS0 : List (View.Piece (Elt F) S5632x1024 .bf16)), Σ' (LS1 : List (View.Piece (Elt F) S2816x1024 .bf16)), Σ' (LS3 : List (View.Piece (Elt F) S4x8x1024 .f32)), { LT2 : List (View.Piece (Elt F) S256x5632 .bf16) //
      ∀ (xi9 : Vec F S8x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi9 ∗ owns (c : Thread nD τ) arg13 fullShare xs0 ∗ owns (c : Thread nD τ) arg14 fullShare xs1 ∗ (∃ d, owns (c : Thread nD τ) arg15 fullShare d) ∗ owns (c : Thread nD τ) arg16 fullShare xs3 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ owns (c : Thread nD τ) arg12 fullShare xi9 ∗ owns (c : Thread nD τ) arg13 fullShare xs0 ∗ owns (c : Thread nD τ) arg14 fullShare xs1 ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd_3 i arg1 harg1 arg2 harg2 arg3 harg3 arg4 harg4 arg5 harg5 arg6 harg6 (Memref.whole main_v7) (Memref.isWhole_whole _) (Memref.whole main_v9) (Memref.isWhole_whole _) arg9 harg9 arg10 harg10 arg11 harg11 arg12 harg12 arg13 harg13 arg14 harg14 arg15 harg15 arg16 harg16 cc0_scratch4) K } := by
  refine ⟨?_, ?_, ?_, [], [], [], ?_, ?_, fun xi9 W K => ?run⟩
  case run =>
    simp only [cc0_ffn_bwd_3_eq_skeleton]; unfold cc0_ffn_bwd_3_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%fs0, %hfs0, HS0⟩, ⟨%fs1, %hfs1, HS1⟩, ⟨%ds2, %fs2, -, HS2⟩, ⟨%fs3, %hfs3, HS3⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hf9; obtain rfl := harg13.eq_unread hfs0; obtain rfl := harg14.eq_unread hfs1; obtain rfl := harg16.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _; isplitr; · ipureintro; exact harg12.read_unread _
      iexact H9
    isplitl [HS0]
    · iexists _; isplitr; · ipureintro; exact harg13.read_unread _
      iexact HS0
    isplitl [HS1]
    · iexists _; isplitr; · ipureintro; exact harg14.read_unread _
      iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.FfnIdeal.Gen

end
-- ==== Proof.Ffn.RunC.lean ====
/- The body of `Ffn` at the last point of its grid. -/
module

public import proofs.«01_k».proof.Proof.Gen.FfnIdeal.Frame.Runs

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a last point, run: the pieces it stores into each output and scratch. -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S11x256x256 .bf16) (harg4 : arg4.IsWhole) (arg5 : Memref sig .tc .vmem S11x256x256 .bf16) (harg5 : arg5.IsWhole) (arg6 : Memref sig .tc .vmem S256x1024 .f32) (harg6 : arg6.IsWhole) (arg9 : Memref sig .tc .vmem S256x1024 .f32) (harg9 : arg9.IsWhole) (arg10 : Memref sig .tc .vmem S22x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S5632x1024 .bf16) (harg13 : arg13.IsWhole) (arg14 : Memref sig .tc .vmem S2816x1024 .bf16) (harg14 : arg14.IsWhole) (arg15 : Memref sig .tc .vmem S256x5632 .bf16) (harg15 : arg15.IsWhole) (arg16 : Memref sig .tc .vmem S4x8x1024 .f32) (harg16 : arg16.IsWhole) (hc0 : ¬cond0_0 i) (hc1 : cond0_1 i)
    (x0 : Vec F S256x1024 .f32) (x1 : Vec F S256x1024 .f32) (x2 : Vec F S8x1024 .f32) (x3 : Vec F S11x256x256 .bf16) (x4 : Vec F S11x256x256 .bf16) (x5 : Vec F S256x1024 .f32) (xs0 : Vec F S5632x1024 .bf16) (xs1 : Vec F S2816x1024 .bf16) (xs3 : Vec F S4x8x1024 .f32) (fh0 : HbBuf0 (F := F) c hbM0_0) (fh1 : HbBuf0 (F := F) c hbM0_1) :
    Σ' (L6 : List (View.Piece (Elt F) S256x1024 .f32)), Σ' (L7 : List (View.Piece (Elt F) S22x256x256 .bf16)), Σ' (L8 : List (View.Piece (Elt F) S256x1024 .bf16)), Σ' (L9 : List (View.Piece (Elt F) S8x1024 .f32)), Σ' (LS0 : List (View.Piece (Elt F) S5632x1024 .bf16)), Σ' (LS1 : List (View.Piece (Elt F) S2816x1024 .bf16)), Σ' (LS3 : List (View.Piece (Elt F) S4x8x1024 .f32)), { LT2 : List (View.Piece (Elt F) S256x5632 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ owns (c : Thread nD τ) arg16 fullShare xs3 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd_3 i arg1 harg1 arg2 harg2 arg3 harg3 arg4 harg4 arg5 harg5 arg6 harg6 (Memref.whole main_v7) (Memref.isWhole_whole _) (Memref.whole main_v9) (Memref.isWhole_whole _) arg9 harg9 arg10 harg10 arg11 harg11 arg12 harg12 arg13 harg13 arg14 harg14 arg15 harg15 arg16 harg16 cc0_scratch4) K } := by
  refine ⟨?_, ?_, ?_, ?_, [], [], ?_, ?_, fun W K => ?run⟩
  case run =>
    simp only [cc0_ffn_bwd_3_eq_skeleton]; unfold cc0_ffn_bwd_3_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%ds2, %fs2, -, HS2⟩, ⟨%fs3, %hfs3, HS3⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg13.eq_unread hfs0; obtain rfl := harg14.eq_unread hfs1; obtain rfl := harg16.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg13.read_unread _
      iexact HS0
    isplitl [HS1]
    · iexists _; isplitr; · ipureintro; exact harg14.read_unread _
      iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.FfnIdeal.Gen

end
-- ==== Proof.Ffn.Frame.lean ====
/- The frame of the program `Ffn`, for any arithmetic: three cases of the grid point (the first, a middle one, the last), the
   contents each leaves, and the run of the launch. -/
module

public import proofs.«01_k».proof.Proof.Ffn.RunA
public import proofs.«01_k».proof.Proof.Ffn.RunB
public import proofs.«01_k».proof.Proof.Ffn.RunC
public import proofs.«01_k».proof.Proof.Common.Owned
public import Idealize.ShloMosaic.Lib.Claim

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Common (owns_written)
open Idealize.ShloMosaic.Pipeline (Dat Cfg Window BodyObligation cellOf)

variable {F : FTy → Type} [FloatOps F]

local notation "𝕄" => MT nD τ sig Unit (Elt F) ℕ (Pipeline.UD sig nD τ) ℕ

/-- The contents carried from one point to the next: the outputs in window order, then the scratch. -/
abbrev Outs (F : FTy → Type) : Type := Vec F S256x1024 .f32 × Vec F S22x256x256 .bf16 × Vec F S256x1024 .bf16 × Vec F S8x1024 .f32 × Vec F S5632x1024 .bf16 × Vec F S2816x1024 .bf16 × Vec F S4x8x1024 .f32

variable (m : (ℓ : Loc nD τ sig) → Buf (Elt F) ℓ) (ρ : Dev nD → PrngReg)

/-- The case A run of the body at point `t`, at the memrefs and input blocks of that point. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v7) (V m c main_v9)

/-- The case B run of the body at point `t`, at the memrefs and input blocks of that point. -/
abbrev runB (c : Dev nD) (t : Fin cfg0.N) (h0 : ¬t.val % 8 = 0) (h1 : ¬t.val % 8 = 7) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.1 p.2.2.2.2.2.1 p.2.2.2.2.2.2 (V m c main_v7) (V m c main_v9)

/-- The case C run of the body at point `t`, at the memrefs and input blocks of that point. -/
abbrev runC (c : Dev nD) (t : Fin cfg0.N) (h0 : ¬t.val % 8 = 0) (h1 : t.val % 8 = 7) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2 (V m c main_v7) (V m c main_v9)

theorem coverA_6 (c : Dev nD) (t : Fin cfg0.N) (h0 : t.val % 8 = 0) (h1 : ¬t.val % 8 = 7) (y : S256x1024.Idx) :
    ∃ pc ∈ (runA m c t h0 h1).1, y ∈ pc.1.set :=
  View.cover_of_tiledL (runA m c t h0 h1).1 S256x1024.size (by sl_kernel_rfl) y

def outA_6 (c : Dev nD) (t : Fin cfg0.N) (h0 : t.val % 8 = 0) (h1 : ¬t.val % 8 = 7) : Vec F S256x1024 .f32 :=
  VO0_6.read (Elt F) (VO0_6.writes (Elt F) VO0_6.junk (runA m c t h0 h1).1)

theorem coverA_7 (c : Dev nD) (t : Fin cfg0.N) (h0 : t.val % 8 = 0) (h1 : ¬t.val % 8 = 7) (y : S22x256x256.Idx) :
    ∃ pc ∈ (runA m c t h0 h1).2.1, y ∈ pc.1.set :=
  View.cover_of_tiledL (runA m c t h0 h1).2.1 S1x256x256.size (by sl_kernel_rfl) y

def outA_7 (c : Dev nD) (t : Fin cfg0.N) (h0 : t.val % 8 = 0) (h1 : ¬t.val % 8 = 7) : Vec F S22x256x256 .bf16 :=
  VO0_7.read (Elt F) (VO0_7.writes (Elt F) VO0_7.junk (runA m c t h0 h1).2.1)

theorem coverA_8 (c : Dev nD) (t : Fin cfg0.N) (h0 : t.val % 8 = 0) (h1 : ¬t.val % 8 = 7) (y : S256x1024.Idx) :
    ∃ pc ∈ (runA m c t h0 h1).2.2.1, y ∈ pc.1.set :=
  View.cover_of_tiledL (runA m c t h0 h1).2.2.1 S256x1024.size (by sl_kernel_rfl) y

def outA_8 (c : Dev nD) (t : Fin cfg0.N) (h0 : t.val % 8 = 0) (h1 : ¬t.val % 8 = 7) : Vec F S256x1024 .bf16 :=
  VO0_8.read (Elt F) (VO0_8.writes (Elt F) VO0_8.junk (runA m c t h0 h1).2.2.1)

def outA_9 (c : Dev nD) (t : Fin cfg0.N) (h0 : t.val % 8 = 0) (h1 : ¬t.val % 8 = 7) : Vec F S8x1024 .f32 :=
  VO0_9.read (Elt F) (VO0_9.writes (Elt F) VO0_9.junk (runA m c t h0 h1).2.2.2.1)

theorem scoverA_0 (c : Dev nD) (t : Fin cfg0.N) (h0 : t.val % 8 = 0) (h1 : ¬t.val % 8 = 7) (y : S5632x1024.Idx) :
    ∃ pc ∈ (runA m c t h0 h1).2.2.2.2.1, y ∈ pc.1.set :=
  View.cover_of_tiledL (runA m c t h0 h1).2.2.2.2.1 S704x1024.size (by sl_kernel_rfl) y

def soutA_0 (c : Dev nD) (t : Fin cfg0.N) (h0 : t.val % 8 = 0) (h1 : ¬t.val % 8 = 7) : Vec F S5632x1024 .bf16 :=
  VS0_0.read (Elt F) (VS0_0.writes (Elt F) VS0_0.junk (runA m c t h0 h1).2.2.2.2.1)

theorem scoverA_1 (c : Dev nD) (t : Fin cfg0.N) (h0 : t.val % 8 = 0) (h1 : ¬t.val % 8 = 7) (y : S2816x1024.Idx) :
    ∃ pc ∈ (runA m c t h0 h1).2.2.2.2.2.1, y ∈ pc.1.set :=
  View.cover_of_tiledL (runA m c t h0 h1).2.2.2.2.2.1 S352x1024.size (by sl_kernel_rfl) y

def soutA_1 (c : Dev nD) (t : Fin cfg0.N) (h0 : t.val % 8 = 0) (h1 : ¬t.val % 8 = 7) : Vec F S2816x1024 .bf16 :=
  VS0_1.read (Elt F) (VS0_1.writes (Elt F) VS0_1.junk (runA m c t h0 h1).2.2.2.2.2.1)

theorem scoverA_3 (c : Dev nD) (t : Fin cfg0.N) (h0 : t.val % 8 = 0) (h1 : ¬t.val % 8 = 7) (y : S4x8x1024.Idx) :
    ∃ pc ∈ (runA m c t h0 h1).2.2.2.2.2.2.1, y ∈ pc.1.set :=
  View.cover_of_wholeMem (runA m c t h0 h1).2.2.2.2.2.2.1 (by sl_whole_mem) y

def soutA_3 (c : Dev nD) (t : Fin cfg0.N) (h0 : t.val % 8 = 0) (h1 : ¬t.val % 8 = 7) : Vec F S4x8x1024 .f32 :=
  VS0_3.read (Elt F) (VS0_3.writes (Elt F) VS0_3.junk (runA m c t h0 h1).2.2.2.2.2.2.1)

theorem coverB_6 (c : Dev nD) (t : Fin cfg0.N) (h0 : ¬t.val % 8 = 0) (h1 : ¬t.val % 8 = 7) (p : Outs F) (y : S256x1024.Idx) :
    ∃ pc ∈ (runB m c t h0 h1 p).1, y ∈ pc.1.set :=
  View.cover_of_tiledL (runB m c t h0 h1 p).1 S256x1024.size (by sl_kernel_rfl) y

def outB_6 (c : Dev nD) (t : Fin cfg0.N) (h0 : ¬t.val % 8 = 0) (h1 : ¬t.val % 8 = 7) (p : Outs F) : Vec F S256x1024 .f32 :=
  VO0_6.read (Elt F) (VO0_6.writes (Elt F) VO0_6.junk (runB m c t h0 h1 p).1)

theorem coverB_7 (c : Dev nD) (t : Fin cfg0.N) (h0 : ¬t.val % 8 = 0) (h1 : ¬t.val % 8 = 7) (p : Outs F) (y : S22x256x256.Idx) :
    ∃ pc ∈ (runB m c t h0 h1 p).2.1, y ∈ pc.1.set :=
  View.cover_of_tiledL (runB m c t h0 h1 p).2.1 S1x256x256.size (by sl_kernel_rfl) y

def outB_7 (c : Dev nD) (t : Fin cfg0.N) (h0 : ¬t.val % 8 = 0) (h1 : ¬t.val % 8 = 7) (p : Outs F) : Vec F S22x256x256 .bf16 :=
  VO0_7.read (Elt F) (VO0_7.writes (Elt F) VO0_7.junk (runB m c t h0 h1 p).2.1)

theorem coverB_8 (c : Dev nD) (t : Fin cfg0.N) (h0 : ¬t.val % 8 = 0) (h1 : ¬t.val % 8 = 7) (p : Outs F) (y : S256x1024.Idx) :
    ∃ pc ∈ (runB m c t h0 h1 p).2.2.1, y ∈ pc.1.set :=
  View.cover_of_tiledL (runB m c t h0 h1 p).2.2.1 S256x1024.size (by sl_kernel_rfl) y

def outB_8 (c : Dev nD) (t : Fin cfg0.N) (h0 : ¬t.val % 8 = 0) (h1 : ¬t.val % 8 = 7) (p : Outs F) : Vec F S256x1024 .bf16 :=
  VO0_8.read (Elt F) (VO0_8.writes (Elt F) VO0_8.junk (runB m c t h0 h1 p).2.2.1)

def outB_9 (c : Dev nD) (t : Fin cfg0.N) (h0 : ¬t.val % 8 = 0) (h1 : ¬t.val % 8 = 7) (p : Outs F) : Vec F S8x1024 .f32 :=
  VO0_9.read (Elt F) (VO0_9.writes (Elt F) VO0_9.junk (runB m c t h0 h1 p).2.2.2.1)

def soutB_0 (m : (ℓ : Loc nD τ sig) → Buf (Elt F) ℓ) (c : Dev nD) (t : Fin cfg0.N) (h0 : ¬t.val % 8 = 0) (h1 : ¬t.val % 8 = 7) (p : Outs F) : Vec F S5632x1024 .bf16 :=
  (p.2.2.2.2.1)

def soutB_1 (m : (ℓ : Loc nD τ sig) → Buf (Elt F) ℓ) (c : Dev nD) (t : Fin cfg0.N) (h0 : ¬t.val % 8 = 0) (h1 : ¬t.val % 8 = 7) (p : Outs F) : Vec F S2816x1024 .bf16 :=
  (p.2.2.2.2.2.1)

theorem scoverB_3 (c : Dev nD) (t : Fin cfg0.N) (h0 : ¬t.val % 8 = 0) (h1 : ¬t.val % 8 = 7) (p : Outs F) (y : S4x8x1024.Idx) :
    ∃ pc ∈ (runB m c t h0 h1 p).2.2.2.2.2.2.1, y ∈ pc.1.set :=
  View.cover_of_tiledL (runB m c t h0 h1 p).2.2.2.2.2.2.1 S1x8x1024.size (by sl_kernel_rfl) y

def soutB_3 (c : Dev nD) (t : Fin cfg0.N) (h0 : ¬t.val % 8 = 0) (h1 : ¬t.val % 8 = 7) (p : Outs F) : Vec F S4x8x1024 .f32 :=
  VS0_3.read (Elt F) (VS0_3.writes (Elt F) VS0_3.junk (runB m c t h0 h1 p).2.2.2.2.2.2.1)

theorem coverC_6 (c : Dev nD) (t : Fin cfg0.N) (h0 : ¬t.val % 8 = 0) (h1 : t.val % 8 = 7) (p : Outs F) (y : S256x1024.Idx) :
    ∃ pc ∈ (runC m c t h0 h1 p).1, y ∈ pc.1.set :=
  View.cover_of_tiledL (runC m c t h0 h1 p).1 S256x1024.size (by sl_kernel_rfl) y

def outC_6 (c : Dev nD) (t : Fin cfg0.N) (h0 : ¬t.val % 8 = 0) (h1 : t.val % 8 = 7) (p : Outs F) : Vec F S256x1024 .f32 :=
  VO0_6.read (Elt F) (VO0_6.writes (Elt F) VO0_6.junk (runC m c t h0 h1 p).1)

theorem coverC_7 (c : Dev nD) (t : Fin cfg0.N) (h0 : ¬t.val % 8 = 0) (h1 : t.val % 8 = 7) (p : Outs F) (y : S22x256x256.Idx) :
    ∃ pc ∈ (runC m c t h0 h1 p).2.1, y ∈ pc.1.set :=
  View.cover_of_tiledL (runC m c t h0 h1 p).2.1 S1x256x256.size (by sl_kernel_rfl) y

def outC_7 (c : Dev nD) (t : Fin cfg0.N) (h0 : ¬t.val % 8 = 0) (h1 : t.val % 8 = 7) (p : Outs F) : Vec F S22x256x256 .bf16 :=
  VO0_7.read (Elt F) (VO0_7.writes (Elt F) VO0_7.junk (runC m c t h0 h1 p).2.1)

theorem coverC_8 (c : Dev nD) (t : Fin cfg0.N) (h0 : ¬t.val % 8 = 0) (h1 : t.val % 8 = 7) (p : Outs F) (y : S256x1024.Idx) :
    ∃ pc ∈ (runC m c t h0 h1 p).2.2.1, y ∈ pc.1.set :=
  View.cover_of_tiledL (runC m c t h0 h1 p).2.2.1 S256x1024.size (by sl_kernel_rfl) y

def outC_8 (c : Dev nD) (t : Fin cfg0.N) (h0 : ¬t.val % 8 = 0) (h1 : t.val % 8 = 7) (p : Outs F) : Vec F S256x1024 .bf16 :=
  VO0_8.read (Elt F) (VO0_8.writes (Elt F) VO0_8.junk (runC m c t h0 h1 p).2.2.1)

theorem coverC_9 (c : Dev nD) (t : Fin cfg0.N) (h0 : ¬t.val % 8 = 0) (h1 : t.val % 8 = 7) (p : Outs F) (y : S8x1024.Idx) :
    ∃ pc ∈ (runC m c t h0 h1 p).2.2.2.1, y ∈ pc.1.set :=
  View.cover_of_tiledL (runC m c t h0 h1 p).2.2.2.1 S8x1024.size (by sl_kernel_rfl) y

def outC_9 (c : Dev nD) (t : Fin cfg0.N) (h0 : ¬t.val % 8 = 0) (h1 : t.val % 8 = 7) (p : Outs F) : Vec F S8x1024 .f32 :=
  VO0_9.read (Elt F) (VO0_9.writes (Elt F) VO0_9.junk (runC m c t h0 h1 p).2.2.2.1)

def soutC_0 (m : (ℓ : Loc nD τ sig) → Buf (Elt F) ℓ) (c : Dev nD) (t : Fin cfg0.N) (h0 : ¬t.val % 8 = 0) (h1 : t.val % 8 = 7) (p : Outs F) : Vec F S5632x1024 .bf16 :=
  (p.2.2.2.2.1)

def soutC_1 (m : (ℓ : Loc nD τ sig) → Buf (Elt F) ℓ) (c : Dev nD) (t : Fin cfg0.N) (h0 : ¬t.val % 8 = 0) (h1 : t.val % 8 = 7) (p : Outs F) : Vec F S2816x1024 .bf16 :=
  (p.2.2.2.2.2.1)

theorem scoverC_3 (c : Dev nD) (t : Fin cfg0.N) (h0 : ¬t.val % 8 = 0) (h1 : t.val % 8 = 7) (p : Outs F) (y : S4x8x1024.Idx) :
    ∃ pc ∈ (runC m c t h0 h1 p).2.2.2.2.2.2.1, y ∈ pc.1.set :=
  View.cover_of_tiledL (runC m c t h0 h1 p).2.2.2.2.2.2.1 S1x8x1024.size (by sl_kernel_rfl) y

def soutC_3 (c : Dev nD) (t : Fin cfg0.N) (h0 : ¬t.val % 8 = 0) (h1 : t.val % 8 = 7) (p : Outs F) : Vec F S4x8x1024 .f32 :=
  VS0_3.read (Elt F) (VS0_3.writes (Elt F) VS0_3.junk (runC m c t h0 h1 p).2.2.2.2.2.2.1)

/-- What the outputs and the carried scratch hold after a point of case A. -/
def outsA (c : Dev nD) (t : Fin cfg0.N) (h0 : t.val % 8 = 0) (h1 : ¬t.val % 8 = 7) : Outs F :=
  (outA_6 m c t h0 h1, outA_7 m c t h0 h1, outA_8 m c t h0 h1, outA_9 m c t h0 h1, soutA_0 m c t h0 h1, soutA_1 m c t h0 h1, soutA_3 m c t h0 h1)

/-- What the outputs and the carried scratch hold after a point of case B. -/
def outsB (c : Dev nD) (t : Fin cfg0.N) (h0 : ¬t.val % 8 = 0) (h1 : ¬t.val % 8 = 7) (p : Outs F) : Outs F :=
  (outB_6 m c t h0 h1 p, outB_7 m c t h0 h1 p, outB_8 m c t h0 h1 p, outB_9 m c t h0 h1 p, soutB_0 m c t h0 h1 p, soutB_1 m c t h0 h1 p, soutB_3 m c t h0 h1 p)

/-- What the outputs and the carried scratch hold after a point of case C. -/
def outsC (c : Dev nD) (t : Fin cfg0.N) (h0 : ¬t.val % 8 = 0) (h1 : t.val % 8 = 7) (p : Outs F) : Outs F :=
  (outC_6 m c t h0 h1 p, outC_7 m c t h0 h1 p, outC_8 m c t h0 h1 p, outC_9 m c t h0 h1 p, soutC_0 m c t h0 h1 p, soutC_1 m c t h0 h1 p, soutC_3 m c t h0 h1 p)

/-- What the outputs and the carried scratch hold after point `n`, each point over what the one before left. -/
def outsAt0 (c : Dev nD) : (n : ℕ) → n < cfg0.N → Outs F
  | 0, hn => outsA m c ⟨0, hn⟩ (Nat.zero_mod _) (fun h => by (try dsimp only at h); omega)
  | n + 1, hn =>
    if h0 : (n + 1) % 8 = 0 then
      False.elim (by have hN : n + 1 < 8 := lt_of_lt_of_eq hn (show cfg0.N = 8 from N_0); omega)
    else if h1 : (n + 1) % 8 = 7 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = outsA m c t h0 h1 := by
  obtain ⟨n, hn⟩ := t
  cases n with
  | zero => exact rfl
  | succ n => exfalso; have hN : n + 1 < 8 := lt_of_lt_of_eq hn (show cfg0.N = 8 from N_0); dsimp only at h0; omega

theorem outsAt0_B (c : Dev nD) (t : Fin cfg0.N) (h0 : ¬t.val % 8 = 0) (h1 : ¬t.val % 8 = 7) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The invariant after a point that left `p`: the carried scratch at `p`, the other scratch at anything, the register, the
    copies' semaphores at zero and the operand left in HBM. -/
def PhiP (c : Dev nD) (p : Outs F) : sProp 𝕄 :=
  iprop(iprop(owns (c : Thread nD τ) scM0_0 fullShare (p.2.2.2.2.1) ∗ owns (c : Thread nD τ) scM0_1 fullShare (p.2.2.2.2.2.1) ∗ (∃ d, owns (c : Thread nD τ) scM0_2 fullShare d) ∗ owns (c : Thread nD τ) scM0_3 fullShare (p.2.2.2.2.2.2)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v9)))

def PhiS (c : Dev nD) : (n : ℕ) → n ≤ cfg0.N → sProp 𝕄
  | 0, _ => Pipeline.ΦD osem0 spec0 H0 (V m) c
  | n + 1, hn => PhiP m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = PhiP m c (outsAt0 m c n hn) := rfl

theorem PhiS_pos (c : Dev nD) (n : ℕ) (h : n ≤ cfg0.N) (hz : n ≠ 0) :
    PhiS m c n h = PhiP m c (outsAt0 m c (n - 1) (by omega)) := by
  cases n with
  | zero => exact absurd rfl hz
  | succ n => rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: it is handed the input blocks and the carried scratch as the point before left it, and leaves this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ]
  unfold PhiP
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  have hN : t.val < 8 := lt_of_lt_of_eq t.isLt (show cfg0.N = 8 from N_0)
  by_cases h0 : t.val % 8 = 0
  · by_cases h1 : t.val % 8 = 7
    · exfalso; omega
    · rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold outsA outA_6 outA_7 outA_8 soutA_0 soutA_1 soutA_3; (try dsimp only)
        iintro ⟨⟨⟨HS0, HS1, HS2, HS3⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runA m c t h0 h1).2.2.2.2.2.2.2.2 _ W _)
        iframe H0 H1 H2 H3 H4 H5
        isplitl [H6]; · iexists _; iexact H6
        isplitl [H7]; · iexists _; iexact H7
        isplitl [H8]; · iexists _; iexact H8
        iframe H9 HS0 HS1 HS2 HS3 Hq0 Hq1 Hq2 Hq3 Hq4 Hq5 Hq6 Hq7 Hq8 Hq9 Hq10 Hq11 Hq12 Hq13 Hq14 Hq15 Hh0 Hh1 HW
        iintro ⟨H0, H1, H2, H3, H4, H5, ⟨%e6, H6⟩, ⟨%e7, H7⟩, ⟨%e8, H8⟩, H9, ⟨%es0, HS0⟩, ⟨%es1, HS1⟩, ⟨%fT2, HS2⟩, ⟨%es3, HS3⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 Hg Hq0 Hq1 Hq2 Hq3 Hq4 Hq5 Hq6 Hq7 Hq8 Hq9 Hq10 Hq11 Hq12 Hq13 Hq14 Hq15 Hh0 Hh1]
        · isplitl [HS0 HS1 HS2 HS3]
          · isplitl [HS0]; · iapply owns_written (scoverA_0 m c t h0 h1); iexact HS0
            isplitl [HS1]; · iapply owns_written (scoverA_1 m c t h0 h1); iexact HS1
            isplitl [HS2]
            · iexists _; unfold owns; iexists _; isplitr
              swap; · iexact HS2
              ipureintro; rfl
            iapply owns_written (scoverA_3 m c t h0 h1); iexact HS3
          isplitl [Hg]; · iexact Hg
          isplitl [Hq0 Hq1 Hq2 Hq3 Hq4 Hq5 Hq6 Hq7 Hq8 Hq9 Hq10 Hq11 Hq12 Hq13 Hq14 Hq15]
          · iframe Hq0 Hq1 Hq2 Hq3 Hq4 Hq5 Hq6 Hq7 Hq8 Hq9 Hq10 Hq11 Hq12 Hq13 Hq14 Hq15
          iframe Hh0 Hh1
        isplitl [HW']
        · iexists W'; isplitr; · ipureintro; exact fun _ _ => Or.inl trivial
          iexact HW'
        iframe H0 H1 H2 H3 H4 H5
        isplitl [H6]; · iapply owns_written (coverA_6 m c t h0 h1); iexact H6
        isplitl [H7]; · iapply owns_written (coverA_7 m c t h0 h1); iexact H7
        isplitl [H8]; · iapply owns_written (coverA_8 m c t h0 h1); iexact H8
        iexists _; iexact H9
      · exfalso; have hN : t.val < 8 := lt_of_lt_of_eq t.isLt (show cfg0.N = 8 from N_0); omega
  · by_cases h1 : t.val % 8 = 7
    · rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_C m c t h0 h1]
        unfold outsC outC_6 outC_7 outC_8 outC_9 soutC_0 soutC_1 soutC_3; (try dsimp only)
        iintro ⟨⟨⟨HS0, HS1, HS2, HS3⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runC m c t h0 h1 _).2.2.2.2.2.2.2.2 W _)
        iframe H0 H1 H2 H3 H4 H5
        isplitl [H6]; · iexists _; iexact H6
        isplitl [H7]; · iexists _; iexact H7
        isplitl [H8]; · iexists _; iexact H8
        isplitl [H9]; · iexists _; iexact H9
        iframe HS0 HS1 HS2 HS3 Hq0 Hq1 Hq2 Hq3 Hq4 Hq5 Hq6 Hq7 Hq8 Hq9 Hq10 Hq11 Hq12 Hq13 Hq14 Hq15 Hh0 Hh1 HW
        iintro ⟨H0, H1, H2, H3, H4, H5, ⟨%e6, H6⟩, ⟨%e7, H7⟩, ⟨%e8, H8⟩, ⟨%e9, H9⟩, HS0, HS1, ⟨%fT2, HS2⟩, ⟨%es3, HS3⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 Hg Hq0 Hq1 Hq2 Hq3 Hq4 Hq5 Hq6 Hq7 Hq8 Hq9 Hq10 Hq11 Hq12 Hq13 Hq14 Hq15 Hh0 Hh1]
        · isplitl [HS0 HS1 HS2 HS3]
          · iframe HS0 HS1
            isplitl [HS2]
            · iexists _; unfold owns; iexists _; isplitr
              swap; · iexact HS2
              ipureintro; rfl
            iapply owns_written (scoverC_3 m c t h0 h1 _); iexact HS3
          isplitl [Hg]; · iexact Hg
          isplitl [Hq0 Hq1 Hq2 Hq3 Hq4 Hq5 Hq6 Hq7 Hq8 Hq9 Hq10 Hq11 Hq12 Hq13 Hq14 Hq15]
          · iframe Hq0 Hq1 Hq2 Hq3 Hq4 Hq5 Hq6 Hq7 Hq8 Hq9 Hq10 Hq11 Hq12 Hq13 Hq14 Hq15
          iframe Hh0 Hh1
        isplitl [HW']
        · iexists W'; isplitr; · ipureintro; exact fun _ _ => Or.inl trivial
          iexact HW'
        iframe H0 H1 H2 H3 H4 H5
        isplitl [H6]; · iapply owns_written (coverC_6 m c t h0 h1 _); iexact H6
        isplitl [H7]; · iapply owns_written (coverC_7 m c t h0 h1 _); iexact H7
        isplitl [H8]; · iapply owns_written (coverC_8 m c t h0 h1 _); iexact H8
        iapply owns_written (coverC_9 m c t h0 h1 _); iexact H9
    · rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_B m c t h0 h1]
        unfold outsB outB_6 outB_7 outB_8 soutB_0 soutB_1 soutB_3; (try dsimp only)
        iintro ⟨⟨⟨HS0, HS1, HS2, HS3⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runB m c t h0 h1 _).2.2.2.2.2.2.2.2 _ W _)
        iframe H0 H1 H2 H3 H4 H5
        isplitl [H6]; · iexists _; iexact H6
        isplitl [H7]; · iexists _; iexact H7
        isplitl [H8]; · iexists _; iexact H8
        iframe H9 HS0 HS1 HS2 HS3 Hq0 Hq1 Hq2 Hq3 Hq4 Hq5 Hq6 Hq7 Hq8 Hq9 Hq10 Hq11 Hq12 Hq13 Hq14 Hq15 Hh0 Hh1 HW
        iintro ⟨H0, H1, H2, H3, H4, H5, ⟨%e6, H6⟩, ⟨%e7, H7⟩, ⟨%e8, H8⟩, H9, HS0, HS1, ⟨%fT2, HS2⟩, ⟨%es3, HS3⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 Hg Hq0 Hq1 Hq2 Hq3 Hq4 Hq5 Hq6 Hq7 Hq8 Hq9 Hq10 Hq11 Hq12 Hq13 Hq14 Hq15 Hh0 Hh1]
        · isplitl [HS0 HS1 HS2 HS3]
          · iframe HS0 HS1
            isplitl [HS2]
            · iexists _; unfold owns; iexists _; isplitr
              swap; · iexact HS2
              ipureintro; rfl
            iapply owns_written (scoverB_3 m c t h0 h1 _); iexact HS3
          isplitl [Hg]; · iexact Hg
          isplitl [Hq0 Hq1 Hq2 Hq3 Hq4 Hq5 Hq6 Hq7 Hq8 Hq9 Hq10 Hq11 Hq12 Hq13 Hq14 Hq15]
          · iframe Hq0 Hq1 Hq2 Hq3 Hq4 Hq5 Hq6 Hq7 Hq8 Hq9 Hq10 Hq11 Hq12 Hq13 Hq14 Hq15
          iframe Hh0 Hh1
        isplitl [HW']
        · iexists W'; isplitr; · ipureintro; exact fun _ _ => Or.inl trivial
          iexact HW'
        iframe H0 H1 H2 H3 H4 H5
        isplitl [H6]; · iapply owns_written (coverB_6 m c t h0 h1 _); iexact H6
        isplitl [H7]; · iapply owns_written (coverB_7 m c t h0 h1 _); iexact H7
        isplitl [H8]; · iapply owns_written (coverB_8 m c t h0 h1 _); iexact H8
        iexists _; iexact H9

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold PhiP
  iintro ⟨⟨HS0, HS1, HS2, HS3⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1 HS2 HS3]
  · isplitl [HS0]; · iexists _; iexact HS0
    isplitl [HS1]; · iexists _; iexact HS1
    isplitl [HS2]; · iexact HS2
    iexists _; iexact HS3
  isplitl [Hg]; · iexact Hg
  isplitl [Hq0 Hq1 Hq2 Hq3 Hq4 Hq5 Hq6 Hq7 Hq8 Hq9 Hq10 Hq11 Hq12 Hq13 Hq14 Hq15]
  · iframe Hq0 Hq1 Hq2 Hq3 Hq4 Hq5 Hq6 Hq7 Hq8 Hq9 Hq10 Hq11 Hq12 Hq13 Hq14 Hq15
  iframe Hh0 Hh1

theorem hout (c : Dev nD) : (dats m 0 c).Φ (Fin.last cfg0.N) ⊢ Pipeline.ΦD osem0 spec0 H0 (V m) c :=
  Phi_out m c _ (by rw [Fin.val_last]; have : cfg0.N = 8 := N_0; omega)

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every weakly fair execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every execution ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Gen

end
-- ==== Proof.Ffn.Bits.lean ====
/- The frame of `Ffn` as it is printed, over machine words. -/
module

public import proofs.«01_k».proof.Defs
public import proofs.«01_k».proof.Proof.Gen.Ffn
public import proofs.«01_k».proof.Proof.Ffn.Frame
public import Idealize.ShloMosaic.Lib.Tactic.ProgEq

@[expose] public section

set_option maxRecDepth 16384

namespace Cert.Ffn.Gen
open Idealize.ShloMosaic Idealize.SL.Sem

/-- Every execution of the printed program ends, faults nowhere, leaves the arguments as they were and every semaphore at zero:
    the run of the idealized program, whose text is the same, read over machine words. -/
theorem frame : Cert.quiescent_Ffn := by
  have h := fun m g (_ : True) => Cert.FfnIdeal.Gen.frame (F := Bits) m g
  have e : type_of% h = Cert.quiescent_Ffn := by sl_kernel_rfl
  exact e.mp h

end Cert.Ffn.Gen
-- ==== Proof.Ffn.Chunks.lean ====
/- The whole arrays that one grid point of the kernel `Ffn` works on: the chunks of `d(gate,up)` as one matrix, the tile of `dx` and
   the running sums of the statistics. -/
module

public import proofs.«01_k».proof.Proof.Ffn.Frame
public import proofs.«01_k».proof.Proof.Acts.Final
public import proofs.«01_k».proof.Proof.Dx.Point

@[expose] public section

set_option maxRecDepth 16384

noncomputable section

open Idealize.ShloMosaic Idealize.ShloMosaic.TcCoe Idealize.SL.Sem
open Idealize.ShloMosaic.Pipeline (Dat)

namespace Cert.Ffn

open Cert.FfnIdeal Cert.FfnIdeal.Gen Cert.Common
open Cert.Acts (daT dguTile)

/-- The chunks of `d(gate,up)` of a grid point, side by side as one matrix. -/
abbrev dguMat (D : Vec Ideal S256x1024 .f32) (P : Vec Ideal S8x1024 .f32) (G U : Vec Ideal S11x256x256 .bf16)
    (W : Vec Ideal S2816x1024 .bf16) : Vec Ideal S256x5632 .bf16 := Cert.Dx.DGU (dguTile D P G U W)

/-- A column of the matrix in a chunk of the gate's. -/
theorem dguMat_lo (D : Vec Ideal S256x1024 .f32) (P : Vec Ideal S8x1024 .f32) (G U : Vec Ideal S11x256x256 .bf16)
    (W : Vec Ideal S2816x1024 .bf16) (o : ℕ) (inb) (i j : Fin 256) (ho : o % 256 = 0) (h : o < 2816) :
    dguMat D P G U W ((Rect.unit (s := S256x5632) ![0, o] ![256, 256] inb).idx (ix2 i j))
      = dgate (daT D P W i ⟨o + j.val, by omega⟩) (G (ix3 (n0 := 11) (n1 := 256) (n2 := 256) ⟨o / 256, by omega⟩ i j))
          (U (ix3 (n0 := 11) (n1 := 256) (n2 := 256) ⟨o / 256, by omega⟩ i j)) := by
  have e : ix3 (n0 := 22) (n1 := 256) (n2 := 256) ⟨(o + 1 * j.val) / 256, by omega⟩ ⟨0 + 1 * i.val, by omega⟩ ⟨(o + 1 * j.val) % 256, by omega⟩
      = ix3 (n0 := 22) (n1 := 256) (n2 := 256) ⟨o / 256, by omega⟩ i j := ix3_congr (by dsimp only; omega) (by dsimp only; omega) (by dsimp only; omega)
  refine (congrArg (dguTile D P G U W) e).trans ((dif_pos (show o / 256 < 11 by omega)).trans ?_)
  refine congrArg (fun k => dgate (daT D P W i k) (G (ix3 (n0 := 11) (n1 := 256) (n2 := 256) ⟨o / 256, by omega⟩ i j))
          (U (ix3 (n0 := 11) (n1 := 256) (n2 := 256) ⟨o / 256, by omega⟩ i j))) (Fin.ext ?_)
  show o / 256 * 256 + j.val = o + j.val
  omega

/-- A column of the matrix in a chunk of the other factor's. -/
theorem dguMat_hi (D : Vec Ideal S256x1024 .f32) (P : Vec Ideal S8x1024 .f32) (G U : Vec Ideal S11x256x256 .bf16)
    (W : Vec Ideal S2816x1024 .bf16) (o : ℕ) (inb) (i j : Fin 256) (ho : o % 256 = 0) (h : ¬o < 2816) (h2 : o < 5632) :
    dguMat D P G U W ((Rect.unit (s := S256x5632) ![0, o] ![256, 256] inb).idx (ix2 i j))
      = dup (daT D P W i ⟨o - 2816 + j.val, by omega⟩) (G (ix3 (n0 := 11) (n1 := 256) (n2 := 256) ⟨o / 256 - 11, by omega⟩ i j)) := by
  have e : ix3 (n0 := 22) (n1 := 256) (n2 := 256) ⟨(o + 1 * j.val) / 256, by omega⟩ ⟨0 + 1 * i.val, by omega⟩ ⟨(o + 1 * j.val) % 256, by omega⟩
      = ix3 (n0 := 22) (n1 := 256) (n2 := 256) ⟨o / 256, by omega⟩ i j := ix3_congr (by dsimp only; omega) (by dsimp only; omega) (by dsimp only; omega)
  refine (congrArg (dguTile D P G U W) e).trans ((dif_neg (show ¬o / 256 < 11 by omega)).trans ?_)
  refine congrArg (fun k => dup (daT D P W i k) (G (ix3 (n0 := 11) (n1 := 256) (n2 := 256) ⟨o / 256 - 11, by omega⟩ i j))) (Fin.ext ?_)
  show (o / 256 - 11) * 256 + j.val = o - 2816 + j.val
  omega

/-- One row of the small operands. -/
abbrev scaleRow (P : Vec Ideal S8x1024 .f32) := k0_pay4 (View.ld P (Rect.unit ![1, 0] ![1, 1024] inb_S8x1024_S1x1024_1_0))
/-- One row of the small operands. -/
abbrev gRow (P : Vec Ideal S8x1024 .f32) := k0_pay5 (View.ld P (Rect.unit ![3, 0] ![1, 1024] inb_S8x1024_S1x1024_3_0))
/-- The gate's row of the small operands. -/
abbrev gateRow (P : Vec Ideal S8x1024 .f32) := View.ld P (Rect.unit ![2, 0] ![1, 1024] inb_S8x1024_S1x1024_2_0)

/-- The tile of `dx` at one grid point, from the blocks it is given. -/
def dxTile (U X : Vec Ideal S256x1024 .f32) (P : Vec Ideal S8x1024 .f32) (D : Vec Ideal S256x5632 .bf16)
    (W : Vec Ideal S5632x1024 .bf16) : Vec Ideal S256x1024 .f32 :=
  k0_pay1 (k0_pay7 U) (k0_pay112 (k0_pay6 X)) (k0_pay113 (k0_pay6 X)) (k0_pay118 (scaleRow P) (gRow P) (k0_pay111 D W))
    (k0_pay119 (scaleRow P) (gRow P) (k0_pay111 D W) (k0_pay113 (k0_pay6 X)))

/-- The four running sums of the statistics after one more grid point, over the sums `q` before it. -/
def stat0 (D : Vec Ideal S256x5632 .bf16) (W : Vec Ideal S5632x1024 .bf16) (q : Vec Ideal S4x8x1024 .f32) : Vec Ideal S1x8x1024 .f32 :=
  k0_pay114 (k0_pay111 D W) (View.ld q (Rect.unit ![0, 0, 0] ![1, 8, 1024] inb_S4x8x1024_S1x8x1024_0_0_0))
/-- The second of them. -/
def stat1 (X : Vec Ideal S256x1024 .f32) (P : Vec Ideal S8x1024 .f32) (D : Vec Ideal S256x5632 .bf16) (W : Vec Ideal S5632x1024 .bf16)
    (q : Vec Ideal S4x8x1024 .f32) : Vec Ideal S1x8x1024 .f32 :=
  k0_pay115 (gRow P) (k0_pay111 D W) (k0_pay113 (k0_pay6 X)) (View.ld q (Rect.unit ![1, 0, 0] ![1, 8, 1024] inb_S4x8x1024_S1x8x1024_1_0_0))
/-- The third of them. -/
def stat2 (U Y : Vec Ideal S256x1024 .f32) (q : Vec Ideal S4x8x1024 .f32) : Vec Ideal S1x8x1024 .f32 :=
  k0_pay9 U (View.ld q (Rect.unit ![2, 0, 0] ![1, 8, 1024] inb_S4x8x1024_S1x8x1024_2_0_0)) Y
/-- The fourth of them. -/
def stat3 (X : Vec Ideal S256x1024 .f32) (P : Vec Ideal S8x1024 .f32) (D : Vec Ideal S256x5632 .bf16) (W : Vec Ideal S5632x1024 .bf16)
    (q : Vec Ideal S4x8x1024 .f32) : Vec Ideal S1x8x1024 .f32 :=
  k0_pay117 (scaleRow P) (k0_pay111 D W) (k0_pay113 (k0_pay6 X)) (View.ld q (Rect.unit ![3, 0, 0] ![1, 8, 1024] inb_S4x8x1024_S1x8x1024_3_0_0))

/-- The four together. -/
def stats (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) : Vec Ideal S4x8x1024 .f32 := fun y =>
  (if (y 0 : Fin 4).val = 0 then stat0 D W q else if (y 0 : Fin 4).val = 1 then stat1 X P D W q
    else if (y 0 : Fin 4).val = 2 then stat2 U Y q else stat3 X P D W q) (ix3 (n0 := 1) (n1 := 8) (n2 := 1024) 0 (y 1) (y 2))

/-- The rows of sums that leave after the last grid point. -/
def rowsOut (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) : Vec Ideal S8x1024 .f32 :=
  k0_pay2 (stat0 D W q) (stat1 X P D W q) (stat2 U Y q) (stat3 X P D W q)

theorem stats_0 (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (y : S4x8x1024.Idx) (h : (y 0 : Fin 4).val = 0) :
    stats U X P Y D W q y = stat0 D W q (ix3 (n0 := 1) (n1 := 8) (n2 := 1024) 0 (y 1) (y 2)) := by
  unfold stats
  rw [if_pos h]

theorem stats_1 (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (y : S4x8x1024.Idx) (h : (y 0 : Fin 4).val = 1) :
    stats U X P Y D W q y = stat1 X P D W q (ix3 (n0 := 1) (n1 := 8) (n2 := 1024) 0 (y 1) (y 2)) := by
  unfold stats
  rw [if_neg (by omega), if_pos h]

theorem stats_2 (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (y : S4x8x1024.Idx) (h : (y 0 : Fin 4).val = 2) :
    stats U X P Y D W q y = stat2 U Y q (ix3 (n0 := 1) (n1 := 8) (n2 := 1024) 0 (y 1) (y 2)) := by
  unfold stats
  rw [if_neg (by omega), if_neg (by omega), if_pos h]

theorem stats_3 (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (y : S4x8x1024.Idx) (h : (y 0 : Fin 4).val = 3) :
    stats U X P Y D W q y = stat3 X P D W q (ix3 (n0 := 1) (n1 := 8) (n2 := 1024) 0 (y 1) (y 2)) := by
  unfold stats
  rw [if_neg (by omega), if_neg (by omega), if_neg (by omega)]

/-- The four sums' slabs, in the order they are written, whatever lies below them: the sums together. -/
theorem canon_stats (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (L : List (View.Piece (Elt Ideal) S4x8x1024 .f32)) (y : S4x8x1024.Idx) :
    View.canon ((⟨Rect.unit ![3, 0, 0] ![1, 8, 1024] inb_S4x8x1024_S1x8x1024_3_0_0, stat3 X P D W q⟩ : View.Piece (Elt Ideal) S4x8x1024 .f32)
      :: ⟨Rect.unit ![1, 0, 0] ![1, 8, 1024] inb_S4x8x1024_S1x8x1024_1_0_0, stat1 X P D W q⟩
      :: ⟨Rect.unit ![0, 0, 0] ![1, 8, 1024] inb_S4x8x1024_S1x8x1024_0_0_0, stat0 D W q⟩
      :: ⟨Rect.unit ![2, 0, 0] ![1, 8, 1024] inb_S4x8x1024_S1x8x1024_2_0_0, stat2 U Y q⟩ :: L) y = stats U X P Y D W q y := by
  refine View.canon_append_of_piecesOf (stats U X P Y D W q) L [_, _, _, _] ?_ y ?_
  · refine ⟨fun x => ?_, fun x => ?_, fun x => ?_, fun x => ?_, trivial⟩
    · idx_vars x
      rw [stats_3 _ _ _ _ _ _ _ _ (by show 3 + 1 * x0.val = 3; omega)]
      exact congrArg _ (Cert.Dx.slab_idx 3 inb_S4x8x1024_S1x8x1024_3_0_0 x0 x1 x2)
    · idx_vars x
      rw [stats_1 _ _ _ _ _ _ _ _ (by show 1 + 1 * x0.val = 1; omega)]
      exact congrArg _ (Cert.Dx.slab_idx 1 inb_S4x8x1024_S1x8x1024_1_0_0 x0 x1 x2)
    · idx_vars x
      rw [stats_0 _ _ _ _ _ _ _ _ (by show 0 + 1 * x0.val = 0; omega)]
      exact congrArg _ (Cert.Dx.slab_idx 0 inb_S4x8x1024_S1x8x1024_0_0_0 x0 x1 x2)
    · idx_vars x
      rw [stats_2 _ _ _ _ _ _ _ _ (by show 2 + 1 * x0.val = 2; omega)]
      exact congrArg _ (Cert.Dx.slab_idx 2 inb_S4x8x1024_S1x8x1024_2_0_0 x0 x1 x2)
  · idx_vars y
    have h4 := y0.isLt
    have hr3 : y0.val = 0 ∨ y0.val = 1 ∨ y0.val = 2 ∨ y0.val = 3 := by omega
    rcases hr3 with h | h | h | h
    · exact ⟨_, .tail _ (.tail _ (.head _)), mem_slab h inb_S4x8x1024_S1x8x1024_0_0_0⟩
    · exact ⟨_, .tail _ (.head _), mem_slab h inb_S4x8x1024_S1x8x1024_1_0_0⟩
    · exact ⟨_, .tail _ (.tail _ (.tail _ (.head _))), mem_slab h inb_S4x8x1024_S1x8x1024_2_0_0⟩
    · exact ⟨_, .head _, mem_slab h inb_S4x8x1024_S1x8x1024_3_0_0⟩

end Cert.Ffn

end
-- ==== Proof.Ffn.First.lean ====
/- What the first grid point of the kernel `Ffn` leaves, written with whole arrays. -/
module

public import proofs.«01_k».proof.Proof.Ffn.Chunks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn

open Cert.FfnIdeal Cert.FfnIdeal.Gen Cert.Common
open Cert.Acts (daT dguTile dguTile_lo dguTile_hi mul_l mul_r)

variable (m : (ℓ : Loc nD τ sig) → Buf (Elt Ideal) ℓ)

/-- The block of 704 rows in one slab, read back. -/
theorem read_block704 (A : Vec Ideal S8x704x1024 .bf16) (k : Nat)
    (inb : ∀ a, (![k, 0, 0] : Fin 3 → Nat) a + (![1, 704, 1024] : Fin 3 → Nat) a ≤ S8x704x1024.size a) (h) (x0 : Fin 704) (x1 : Fin 1024) :
    View.read (Elt Ideal) (((View.whole main_v7).slice (Rect.unit ![k, 0, 0] ![1, 704, 1024] inb)).reshape S704x1024 h) A (ix2 x0 x1)
      = A (ix3 (n0 := 8) (n1 := 704) (n2 := 1024) ⟨k, by have h := inb 0; change k + 1 ≤ 8 at h; omega⟩ x0 x1) := by
  exact Cert.Dx.read_block A k inb h x0 x1

/-- One more block of the second weight written under the ones before: every row below its end is the weight's. -/
theorem canon_w (A : Vec Ideal S8x352x1024 .bf16) (k o : Nat) (ho : o = k * 352)
    (inb : ∀ a, (![k, 0, 0] : Fin 3 → Nat) a + (![1, 352, 1024] : Fin 3 → Nat) a ≤ S8x352x1024.size a) (h)
    (inb2 : ∀ a, (![o, 0] : Fin 2 → Nat) a + (![352, 1024] : Fin 2 → Nat) a ≤ S2816x1024.size a)
    (L : List (View.Piece (Elt Ideal) S2816x1024 .bf16)) (r : Fin 2816) (l : Fin 1024) (hr : r.val < o + 352)
    (hL : r.val < o → View.canon L (ix2 r l) = Cert.Acts.WT A (ix2 r l)) :
    View.canon ((⟨Rect.unit ![o, 0] ![352, 1024] inb2, ReadAs.same.apply (View.read (Elt Ideal)
        (((View.whole main_v9).slice (Rect.unit ![k, 0, 0] ![1, 352, 1024] inb)).reshape S352x1024 h) A)⟩ : View.Piece (Elt Ideal) S2816x1024 .bf16) :: L) (ix2 r l)
      = Cert.Acts.WT A (ix2 r l) := by
  exact Cert.Acts.canon_w A k o ho inb h inb2 L r l hr hL

/-- The first point fills one scratch with the first weight's transpose. -/
theorem outsA_wi (c : Dev nD) (t : Fin cfg0.N) (h0 : t.val % 8 = 0) (h1 : ¬t.val % 8 = 7) :
    (outsA m c t h0 h1).2.2.2.2.1 = Cert.Dx.WT (V m c main_v7) := by
  unfold outsA
  dsimp only
  unfold soutA_0 runA
  funext y
  frame_out
  generalize (V m c main_v7 : Vec Ideal S8x704x1024 .bf16) = A
  refine congrFun (canon_agree (Cert.Dx.WT A) _ ?_ ?_) y
  · exact fun y => View.cover_of_tiledL (s := S5632x1024) _ ![704, 1024] (by sl_kernel_rfl) y
  · simp only [List.forall_mem_cons]
    refine ⟨fun x => ?_, fun x => ?_, fun x => ?_, fun x => ?_, fun x => ?_, fun x => ?_, fun x => ?_, fun x => ?_, fun x h => absurd h List.not_mem_nil⟩ <;>
    · idx_vars x
      refine (read_block704 A _ _ _ x0 x1).trans ?_
      pointwise [Cert.Dx.WT]
      exact congrArg A (ix3_congr (by simp <;> omega) (by simp <;> omega) rfl)

/-- The first point fills the other scratch with the second weight. -/
theorem outsA_wo (c : Dev nD) (t : Fin cfg0.N) (h0 : t.val % 8 = 0) (h1 : ¬t.val % 8 = 7) :
    (outsA m c t h0 h1).2.2.2.2.2.1 = Cert.Acts.WT (V m c main_v9) := by
  unfold outsA
  dsimp only
  unfold soutA_1 runA
  funext y
  frame_out
  idx_vars y
  have hy := y0.isLt
  generalize (V m c main_v9 : Vec Ideal S8x352x1024 .bf16) = A
  repeat
    first
      | exact absurd hlt (Nat.not_lt_zero _)
      | refine canon_w A _ _ (by norm_num) _ _ _ _ _ _ (by omega) (fun hlt => ?_)

set_option maxHeartbeats 2000000 in
/-- The first point's chunks, copied side by side into one matrix. -/
theorem matA (c : Dev nD) (t : Fin cfg0.N) (h0 : t.val % 8 = 0) (h1 : ¬t.val % 8 = 7) :
    View.canon (runA m c t h0 h1).2.2.2.2.2.2.2.1 = dguMat (iblk m c 0 t) (iblk m c 2 t) (iblk m c 3 t) (iblk m c 4 t) (Cert.Acts.WT (V m c main_v9)) := by
  unfold runA
  frame_open
  simp (disch := decide) only [↓ View.readCov_skip, ↓ View.readCov_cons_toLoadRect, ↓ View.readCov_fill]
  frame_out
  simp only [View.readCov_eq_canon']
  generalize (iblk m c 0 t : Vec Ideal S256x1024 .f32) = D
  generalize (iblk m c 2 t : Vec Ideal S8x1024 .f32) = P
  generalize (iblk m c 3 t : Vec Ideal S11x256x256 .bf16) = G
  generalize (iblk m c 4 t : Vec Ideal S11x256x256 .bf16) = U
  generalize (V m c main_v9 : Vec Ideal S8x352x1024 .bf16) = A
  refine (canon_agree (dguMat D P G U (Cert.Acts.WT A)) _ ?_ ?_)
  · exact fun y => View.cover_of_tiledL (s := S256x5632) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguMat_lo D P G U (Cert.Acts.WT A) _ _ x0 x1 rfl (by omega)).symm
        | refine Eq.trans ?_ (dguMat_hi D P G U (Cert.Acts.WT A) _ _ x0 x1 rfl (by omega) (by omega)).symm
      unfold daT da half
      first | unfold dgate | unfold dup silu
      pointwise [k0_pay7, k0_pay8, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109,
        k0_pay110]
      all_goals
        first
          | with_reducible refine mul_l (mul_l (Finset.sum_congr rfl fun x _ => mul_r ?_))
          | with_reducible refine mul_l (Finset.sum_congr rfl fun x _ => mul_r ?_)
        repeat
          first
            | exact absurd hlt (Nat.not_lt_zero _)
            | refine canon_w A _ _ (by norm_num) _ _ _ _ _ _ (by dsimp only; omega) (fun hlt => ?_)

set_option maxHeartbeats 2000000 in
/-- The first point's chunks of `d(gate,up)`. -/
theorem outsA_2 (c : Dev nD) (t : Fin cfg0.N) (h0 : t.val % 8 = 0) (h1 : ¬t.val % 8 = 7) :
    (outsA m c t h0 h1).2.1 = dguTile (iblk m c 0 t) (iblk m c 2 t) (iblk m c 3 t) (iblk m c 4 t) (Cert.Acts.WT (V m c main_v9)) := by
  unfold outsA
  dsimp only
  unfold outA_7 runA
  funext y
  frame_open
  simp (disch := decide) only [↓ View.readCov_skip, ↓ View.readCov_cons_toLoadRect, ↓ View.readCov_fill]
  frame_out
  simp only [View.readCov_eq_canon']
  generalize (iblk m c 0 t : Vec Ideal S256x1024 .f32) = D
  generalize (iblk m c 2 t : Vec Ideal S8x1024 .f32) = P
  generalize (iblk m c 3 t : Vec Ideal S11x256x256 .bf16) = G
  generalize (iblk m c 4 t : Vec Ideal S11x256x256 .bf16) = U
  generalize (V m c main_v9 : Vec Ideal S8x352x1024 .bf16) = A
  refine congrFun (canon_agree (dguTile D P G U (Cert.Acts.WT A)) _ ?_ ?_) y
  · exact fun y => View.cover_of_tiledL (s := S22x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguTile_lo D P G U (Cert.Acts.WT A) _ _ x0 x1 x2 (by omega)).symm
        | refine Eq.trans ?_ (dguTile_hi D P G U (Cert.Acts.WT A) _ _ x0 x1 x2 (by omega) (by omega)).symm
      unfold daT da half
      first | unfold dgate | unfold dup silu
      pointwise [k0_pay7, k0_pay8, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109,
        k0_pay110]
      all_goals
        first
          | with_reducible refine mul_l (mul_l (Finset.sum_congr rfl fun x _ => mul_r ?_))
          | with_reducible refine mul_l (Finset.sum_congr rfl fun x _ => mul_r ?_)
        repeat
          first
            | exact absurd hlt (Nat.not_lt_zero _)
            | refine canon_w A _ _ (by norm_num) _ _ _ _ _ _ (by dsimp only; omega) (fun hlt => ?_)

/-- The first point's tile of `dx`. -/
theorem outsA_1 (c : Dev nD) (t : Fin cfg0.N) (h0 : t.val % 8 = 0) (h1 : ¬t.val % 8 = 7) :
    (outsA m c t h0 h1).1 = dxTile (iblk m c 0 t) (iblk m c 1 t) (iblk m c 2 t) (dguMat (iblk m c 0 t) (iblk m c 2 t) (iblk m c 3 t) (iblk m c 4 t) (Cert.Acts.WT (V m c main_v9))) (Cert.Dx.WT (V m c main_v7)) := by
  have hD := matA m c t h0 h1
  unfold runA at hD
  frame_open at hD
  simp (disch := decide) only [↓ View.readCov_skip, ↓ View.readCov_cons_toLoadRect, ↓ View.readCov_fill] at hD
  frame_out at hD
  simp only [View.readCov_eq_canon'] at hD
  have hw := outsA_wi m c t h0 h1
  unfold outsA at hw
  dsimp only at hw
  unfold soutA_0 runA at hw
  frame_out at hw
  unfold outsA
  dsimp only
  unfold outA_6 runA
  funext y
  frame_open
  simp (disch := decide) only [↓ View.readCov_skip, ↓ View.readCov_cons_toLoadRect, ↓ View.readCov_fill]
  frame_out
  simp only [View.readCov_eq_canon', hD, hw]
  rw [load_full2, load_full2]
  rfl

/-- The first point's tile of `dy`. -/
theorem outsA_3 (c : Dev nD) (t : Fin cfg0.N) (h0 : t.val % 8 = 0) (h1 : ¬t.val % 8 = 7) :
    (outsA m c t h0 h1).2.2.1 = k0_pay8 (gateRow (iblk m c 2 t)) (iblk m c 0 t) := by
  unfold outsA
  dsimp only
  unfold outA_8 runA
  funext y
  frame_open
  frame_out

/-- The statistics' running sums after the first point: over zeros. -/
theorem outsA_s (c : Dev nD) (t : Fin cfg0.N) (h0 : t.val % 8 = 0) (h1 : ¬t.val % 8 = 7) :
    (outsA m c t h0 h1).2.2.2.2.2.2 = stats (iblk m c 0 t) (iblk m c 1 t) (iblk m c 2 t) (iblk m c 5 t) (dguMat (iblk m c 0 t) (iblk m c 2 t) (iblk m c 3 t) (iblk m c 4 t) (Cert.Acts.WT (V m c main_v9))) (Cert.Dx.WT (V m c main_v7)) (k0_pay3 (F := Ideal)) := by
  have hD := matA m c t h0 h1
  unfold runA at hD
  frame_open at hD
  simp (disch := decide) only [↓ View.readCov_skip, ↓ View.readCov_cons_toLoadRect, ↓ View.readCov_fill] at hD
  frame_out at hD
  simp only [View.readCov_eq_canon'] at hD
  have hw := outsA_wi m c t h0 h1
  unfold outsA at hw
  dsimp only at hw
  unfold soutA_0 runA at hw
  frame_out at hw
  unfold outsA
  dsimp only
  unfold soutA_3 runA
  funext y
  frame_open
  simp (disch := decide) only [↓ View.readCov_skip, ↓ View.readCov_cons_toLoadRect, ↓ View.readCov_fill]
  frame_out
  simp only [View.readCov_eq_canon', hD, hw]
  rw [load_full2, load_full2]
  exact canon_stats _ _ _ _ _ _ _ _ y

end Cert.Ffn

end
-- ==== Proof.Ffn.Cases.lean ====
/- What a grid point of the kernel `Ffn` after the first leaves, written with whole arrays. -/
module

public import proofs.«01_k».proof.Proof.Ffn.Chunks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn

open Cert.FfnIdeal Cert.FfnIdeal.Gen Cert.Common
open Cert.Acts (daT dguTile dguTile_lo dguTile_hi mul_l mul_r)

variable (m : (ℓ : Loc nD τ sig) → Buf (Elt Ideal) ℓ)

set_option maxHeartbeats 2000000 in
/-- A middle point's chunks, copied side by side into one matrix. -/
theorem matB (c : Dev nD) (t : Fin cfg0.N) (h0 : ¬t.val % 8 = 0) (h1 : ¬t.val % 8 = 7) (p : Outs Ideal) :
    View.canon (runB m c t h0 h1 p).2.2.2.2.2.2.2.1 = dguMat (iblk m c 0 t) (iblk m c 2 t) (iblk m c 3 t) (iblk m c 4 t) p.2.2.2.2.2.1 := by
  unfold runB
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = D
  generalize (iblk m c 2 t : Vec Ideal S8x1024 .f32) = P
  generalize (iblk m c 3 t : Vec Ideal S11x256x256 .bf16) = G
  generalize (iblk m c 4 t : Vec Ideal S11x256x256 .bf16) = U
  generalize (p.2.2.2.2.2.1 : Vec Ideal S2816x1024 .bf16) = W
  refine (canon_agree (dguMat D P G U W) _ ?_ ?_)
  · exact fun y => View.cover_of_tiledL (s := S256x5632) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguMat_lo D P G U W _ _ x0 x1 rfl (by omega)).symm
        | refine Eq.trans ?_ (dguMat_hi D P G U W _ _ x0 x1 rfl (by omega) (by omega)).symm
      unfold daT da half
      first | unfold dgate | unfold dup silu
      pointwise [k0_pay7, k0_pay8, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109,
        k0_pay110]

set_option maxHeartbeats 2000000 in
/-- A middle point's chunks of `d(gate,up)`. -/
theorem outsB_2 (c : Dev nD) (t : Fin cfg0.N) (h0 : ¬t.val % 8 = 0) (h1 : ¬t.val % 8 = 7) (p : Outs Ideal) :
    (outsB m c t h0 h1 p).2.1 = dguTile (iblk m c 0 t) (iblk m c 2 t) (iblk m c 3 t) (iblk m c 4 t) p.2.2.2.2.2.1 := by
  unfold outsB
  dsimp only
  unfold outB_7 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = D
  generalize (iblk m c 2 t : Vec Ideal S8x1024 .f32) = P
  generalize (iblk m c 3 t : Vec Ideal S11x256x256 .bf16) = G
  generalize (iblk m c 4 t : Vec Ideal S11x256x256 .bf16) = U
  generalize (p.2.2.2.2.2.1 : Vec Ideal S2816x1024 .bf16) = W
  refine congrFun (canon_agree (dguTile D P G U W) _ ?_ ?_) y
  · exact fun y => View.cover_of_tiledL (s := S22x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguTile_lo D P G U W _ _ x0 x1 x2 (by omega)).symm
        | refine Eq.trans ?_ (dguTile_hi D P G U W _ _ x0 x1 x2 (by omega) (by omega)).symm
      unfold daT da half
      first | unfold dgate | unfold dup silu
      pointwise [k0_pay7, k0_pay8, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109,
        k0_pay110]

/-- A middle point's tile of `dx`. -/
theorem outsB_1 (c : Dev nD) (t : Fin cfg0.N) (h0 : ¬t.val % 8 = 0) (h1 : ¬t.val % 8 = 7) (p : Outs Ideal) :
    (outsB m c t h0 h1 p).1 = dxTile (iblk m c 0 t) (iblk m c 1 t) (iblk m c 2 t) (dguMat (iblk m c 0 t) (iblk m c 2 t) (iblk m c 3 t) (iblk m c 4 t) p.2.2.2.2.2.1) p.2.2.2.2.1 := by
  have hD := matB m c t h0 h1 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold outB_6 runB
  funext y
  frame_open
  simp (disch := decide) only [↓ View.readCov_skip, ↓ View.readCov_cons_toLoadRect, ↓ View.readCov_fill]
  frame_out
  simp only [View.readCov_eq_canon', read_unread_whole, hD]
  rw [load_full2]
  rfl

/-- A middle point's tile of `dy`. -/
theorem outsB_3 (c : Dev nD) (t : Fin cfg0.N) (h0 : ¬t.val % 8 = 0) (h1 : ¬t.val % 8 = 7) (p : Outs Ideal) :
    (outsB m c t h0 h1 p).2.2.1 = k0_pay8 (gateRow (iblk m c 2 t)) (iblk m c 0 t) := by
  unfold outsB
  dsimp only
  unfold outB_8 runB
  funext y
  frame_open
  frame_out

/-- The loaded weight is carried as it is. -/
theorem outsB_wi (c : Dev nD) (t : Fin cfg0.N) (h0 : ¬t.val % 8 = 0) (h1 : ¬t.val % 8 = 7) (p : Outs Ideal) :
    (outsB m c t h0 h1 p).2.2.2.2.1 = p.2.2.2.2.1 := by
  unfold outsB
  dsimp only
  unfold soutB_0
  rfl

/-- The loaded weight is carried as it is. -/
theorem outsB_wo (c : Dev nD) (t : Fin cfg0.N) (h0 : ¬t.val % 8 = 0) (h1 : ¬t.val % 8 = 7) (p : Outs Ideal) :
    (outsB m c t h0 h1 p).2.2.2.2.2.1 = p.2.2.2.2.2.1 := by
  unfold outsB
  dsimp only
  unfold soutB_1
  rfl

/-- The statistics' running sums after a middle point. -/
theorem outsB_s (c : Dev nD) (t : Fin cfg0.N) (h0 : ¬t.val % 8 = 0) (h1 : ¬t.val % 8 = 7) (p : Outs Ideal) :
    (outsB m c t h0 h1 p).2.2.2.2.2.2 = stats (iblk m c 0 t) (iblk m c 1 t) (iblk m c 2 t) (iblk m c 5 t) (dguMat (iblk m c 0 t) (iblk m c 2 t) (iblk m c 3 t) (iblk m c 4 t) p.2.2.2.2.2.1) p.2.2.2.2.1 p.2.2.2.2.2.2 := by
  have hD := matB m c t h0 h1 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold soutB_3 runB
  funext y
  frame_open
  simp (disch := decide) only [↓ View.readCov_skip, ↓ View.readCov_cons_toLoadRect, ↓ View.readCov_fill]
  frame_out
  simp only [View.readCov_eq_canon', read_unread_whole, hD]
  rw [load_full2]
  exact canon_stats _ _ _ _ _ _ _ _ y

set_option maxHeartbeats 2000000 in
/-- The last point's chunks, copied side by side into one matrix. -/
theorem matC (c : Dev nD) (t : Fin cfg0.N) (h0 : ¬t.val % 8 = 0) (h1 : t.val % 8 = 7) (p : Outs Ideal) :
    View.canon (runC m c t h0 h1 p).2.2.2.2.2.2.2.1 = dguMat (iblk m c 0 t) (iblk m c 2 t) (iblk m c 3 t) (iblk m c 4 t) p.2.2.2.2.2.1 := by
  unfold runC
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = D
  generalize (iblk m c 2 t : Vec Ideal S8x1024 .f32) = P
  generalize (iblk m c 3 t : Vec Ideal S11x256x256 .bf16) = G
  generalize (iblk m c 4 t : Vec Ideal S11x256x256 .bf16) = U
  generalize (p.2.2.2.2.2.1 : Vec Ideal S2816x1024 .bf16) = W
  refine (canon_agree (dguMat D P G U W) _ ?_ ?_)
  · exact fun y => View.cover_of_tiledL (s := S256x5632) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguMat_lo D P G U W _ _ x0 x1 rfl (by omega)).symm
        | refine Eq.trans ?_ (dguMat_hi D P G U W _ _ x0 x1 rfl (by omega) (by omega)).symm
      unfold daT da half
      first | unfold dgate | unfold dup silu
      pointwise [k0_pay7, k0_pay8, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109,
        k0_pay110]

set_option maxHeartbeats 2000000 in
/-- The last point's chunks of `d(gate,up)`. -/
theorem outsC_2 (c : Dev nD) (t : Fin cfg0.N) (h0 : ¬t.val % 8 = 0) (h1 : t.val % 8 = 7) (p : Outs Ideal) :
    (outsC m c t h0 h1 p).2.1 = dguTile (iblk m c 0 t) (iblk m c 2 t) (iblk m c 3 t) (iblk m c 4 t) p.2.2.2.2.2.1 := by
  unfold outsC
  dsimp only
  unfold outC_7 runC
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = D
  generalize (iblk m c 2 t : Vec Ideal S8x1024 .f32) = P
  generalize (iblk m c 3 t : Vec Ideal S11x256x256 .bf16) = G
  generalize (iblk m c 4 t : Vec Ideal S11x256x256 .bf16) = U
  generalize (p.2.2.2.2.2.1 : Vec Ideal S2816x1024 .bf16) = W
  refine congrFun (canon_agree (dguTile D P G U W) _ ?_ ?_) y
  · exact fun y => View.cover_of_tiledL (s := S22x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      fun x => ?_, fun x => ?_, fun x => ?_, fun x => ?_, fun x h => absurd h List.not_mem_nil⟩ <;>
    · idx_vars x
      first
        | refine Eq.trans ?_ (dguTile_lo D P G U W _ _ x0 x1 x2 (by omega)).symm
        | refine Eq.trans ?_ (dguTile_hi D P G U W _ _ x0 x1 x2 (by omega) (by omega)).symm
      unfold daT da half
      first | unfold dgate | unfold dup silu
      pointwise [k0_pay7, k0_pay8, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109,
        k0_pay110]

/-- The last point's tile of `dx`. -/
theorem outsC_1 (c : Dev nD) (t : Fin cfg0.N) (h0 : ¬t.val % 8 = 0) (h1 : t.val % 8 = 7) (p : Outs Ideal) :
    (outsC m c t h0 h1 p).1 = dxTile (iblk m c 0 t) (iblk m c 1 t) (iblk m c 2 t) (dguMat (iblk m c 0 t) (iblk m c 2 t) (iblk m c 3 t) (iblk m c 4 t) p.2.2.2.2.2.1) p.2.2.2.2.1 := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold outC_6 runC
  funext y
  frame_open
  simp (disch := decide) only [↓ View.readCov_skip, ↓ View.readCov_cons_toLoadRect, ↓ View.readCov_fill]
  frame_out
  simp only [View.readCov_eq_canon', read_unread_whole, hD]
  rw [load_full2]
  rfl

/-- The last point's tile of `dy`. -/
theorem outsC_3 (c : Dev nD) (t : Fin cfg0.N) (h0 : ¬t.val % 8 = 0) (h1 : t.val % 8 = 7) (p : Outs Ideal) :
    (outsC m c t h0 h1 p).2.2.1 = k0_pay8 (gateRow (iblk m c 2 t)) (iblk m c 0 t) := by
  unfold outsC
  dsimp only
  unfold outC_8 runC
  funext y
  frame_open
  frame_out

/-- The rows of sums that leave at the last point. -/
theorem outsC_4 (c : Dev nD) (t : Fin cfg0.N) (h0 : ¬t.val % 8 = 0) (h1 : t.val % 8 = 7) (p : Outs Ideal) :
    (outsC m c t h0 h1 p).2.2.2.1 = rowsOut (iblk m c 0 t) (iblk m c 1 t) (iblk m c 2 t) (iblk m c 5 t) (dguMat (iblk m c 0 t) (iblk m c 2 t) (iblk m c 3 t) (iblk m c 4 t) p.2.2.2.2.2.1) p.2.2.2.2.1 p.2.2.2.2.2.2 := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold outC_9 runC
  funext y
  frame_open
  simp (disch := decide) only [↓ View.readCov_skip, ↓ View.readCov_cons_toLoadRect, ↓ View.readCov_fill]
  frame_out
  simp only [View.readCov_eq_canon', read_unread_whole, hD]
  rw [load_full2]
  rfl

end Cert.Ffn

end
-- ==== Proof.Ffn.Blocks.lean ====
/- The blocks each grid point of the kernel `Ffn` takes, as entries of the arguments. -/
module

public import proofs.«01_k».proof.Proof.Ffn.First
public import proofs.«01_k».proof.Proof.Ffn.Cases

@[expose] public section

set_option maxRecDepth 16384

noncomputable section

open Idealize.ShloMosaic Idealize.ShloMosaic.TcCoe Idealize.SL.Sem
open Idealize.ShloMosaic.Pipeline (Dat)

namespace Cert.Ffn

open Cert.FfnIdeal Cert.FfnIdeal.Gen Cert.Common
open Cert.Acts (facAt yAt xr md md_zero md_one)

variable (m : (ℓ : Loc nD τ sig) → Buf (Elt Ideal) ℓ)

/-- The block each window takes at a grid point. -/
theorem idx : ∀ t : Fin cfg0.N, win0_0.index t = ![t.val, 0] ∧ win0_1.index t = ![t.val, 0] ∧ win0_2.index t = ![0, 0]
    ∧ win0_3.index t = ![0, t.val, 0] ∧ win0_4.index t = ![0, t.val, 0] ∧ win0_5.index t = ![t.val, 0] ∧ win0_6.index t = ![t.val, 0]
    ∧ win0_7.index t = ![0, t.val, 0] ∧ win0_8.index t = ![t.val, 0] ∧ win0_9.index t = ![0, 0] :=
  (by decide +kernel : ∀ t : Fin grid0.N, _)

/-- Row `i` of the tile of grid point `t`. -/
def row (t : Fin cfg0.N) (i : Fin 256) : Fin 2048 :=
  ⟨t.val * 256 + i.val, by have h : t.val < 8 := lt_of_lt_of_eq t.isLt (show cfg0.N = 8 from N_0); omega⟩

/-- The small operands stacked: the three rows of `mod`, the row `g`, zeros. -/
theorem V_p (c : Dev nD) : (V m c main_v4 : Vec Ideal S8x1024 .f32) = concatenate S8x1024 0
    [⟨S3x1024, shapeCast (s := S1x3x1024) S3x1024 (shapeCast (s := S1x3072) S1x3x1024 (m ((c : Thread nD τ).loc main_arg1) : Vec Ideal S1x3072 .f32) shapeCasts_S1x3072_S1x3x1024) shapeCasts_S1x3x1024_S3x1024⟩,
     ⟨S1x1024, broadcastInDim S1x1024 ![1] bcast_S1024_S1x1024_1 (m ((c : Thread nD τ).loc main_arg2) : Vec Ideal S1024 .f32)⟩,
     ⟨S4x1024, broadcastInDim S4x1024 ![] bcast_S_S4x1024 (constant (F := Ideal) S_ .f32 0x00000000#32)⟩]
    concatenates_S3x1024_S1x1024_S4x1024_S8x1024_d0 := by
  unfold V
  simp only [hostOps0, hostOps0_1, hostOps0_2, List.flatten_cons, List.flatten_nil, List.append_nil, List.cons_append, List.nil_append]
  after_results
  rfl

theorem iblk_p (c : Dev nD) (t : Fin cfg0.N) (r : Fin 8) (l : Fin 1024) :
    (iblk m c 2 t : Vec Ideal S8x1024 .f32) (ix2 r l) = (V m c main_v4 : Vec Ideal S8x1024 .f32) (ix2 r l) := by
  refine congrArg (V m c main_v4) ?_
  blk_ext [idx t]

theorem blk_scale (c : Dev nD) (t : Fin cfg0.N) (l : Fin 1024) :
    (iblk m c 2 t : Vec Ideal S8x1024 .f32) (ix2 1 l)
      = (m ((c : Thread nD τ).loc main_arg1) : Vec Ideal S1x3072 .f32) (ix2 (n0 := 1) (n1 := 3072) 0 ⟨1024 + l.val, by omega⟩) := by
  rw [iblk_p, V_p]
  pointwise []

theorem blk_gate (c : Dev nD) (t : Fin cfg0.N) (l : Fin 1024) :
    (iblk m c 2 t : Vec Ideal S8x1024 .f32) (ix2 2 l) = md (m ((c : Thread nD τ).loc main_arg1) : Vec Ideal S1x3072 .f32) 2 l := by
  rw [iblk_p, V_p]
  pointwise []
  rfl

theorem blk_g (c : Dev nD) (t : Fin cfg0.N) (l : Fin 1024) :
    (iblk m c 2 t : Vec Ideal S8x1024 .f32) (ix2 3 l) = (m ((c : Thread nD τ).loc main_arg2) : Vec Ideal S1024 .f32) (ix1 l) := by
  rw [iblk_p, V_p]
  pointwise []

/-- The outer cotangent, as the host hands it over. -/
theorem V_ct (c : Dev nD) : (V m c main_v41 : Vec Ideal S2048x1024 .f32)
    = shapeCast (s := S1x2048x1024) S2048x1024 (m ((c : Thread nD τ).loc main_arg5) : Vec Ideal S1x2048x1024 .f32) shapeCasts_S1x2048x1024_S2048x1024 := by
  unfold V
  simp only [hostOps0, hostOps0_1, hostOps0_2, List.flatten_cons, List.flatten_nil, List.append_nil, List.cons_append, List.nil_append]
  after_results
  rfl

theorem blk_ct (c : Dev nD) (t : Fin cfg0.N) (i : Fin 256) (l : Fin 1024) :
    (iblk m c 0 t : Vec Ideal S256x1024 .f32) (ix2 i l) = xr (m ((c : Thread nD τ).loc main_arg5) : Vec Ideal S1x2048x1024 .f32) (row t i) l := by
  have e : (iblk m c 0 t : Vec Ideal S256x1024 .f32) (ix2 i l) = (V m c main_v41 : Vec Ideal S2048x1024 .f32) (ix2 (row t i) l) := by
    refine congrArg (V m c main_v41) ?_
    unfold row
    blk_ext [idx t]
  rw [e, V_ct]
  pointwise []

/-- The layer's argument, as the host hands it over. -/
theorem V_x (c : Dev nD) : (V m c main_v42 : Vec Ideal S2048x1024 .f32)
    = shapeCast (s := S1x2048x1024) S2048x1024 (m ((c : Thread nD τ).loc main_arg0) : Vec Ideal S1x2048x1024 .f32) shapeCasts_S1x2048x1024_S2048x1024 := by
  unfold V
  simp only [hostOps0, hostOps0_1, hostOps0_2, List.flatten_cons, List.flatten_nil, List.append_nil, List.cons_append, List.nil_append]
  after_results
  rfl

theorem blk_x (c : Dev nD) (t : Fin cfg0.N) (i : Fin 256) (l : Fin 1024) :
    (iblk m c 1 t : Vec Ideal S256x1024 .f32) (ix2 i l) = xr (m ((c : Thread nD τ).loc main_arg0) : Vec Ideal S1x2048x1024 .f32) (row t i) l := by
  have e : (iblk m c 1 t : Vec Ideal S256x1024 .f32) (ix2 i l) = (V m c main_v42 : Vec Ideal S2048x1024 .f32) (ix2 (row t i) l) := by
    refine congrArg (V m c main_v42) ?_
    unfold row
    blk_ext [idx t]
  rw [e, V_x]
  pointwise []

/-- The 8 parts of the first weight that the copies bring are its transpose. -/
theorem blk_wi (c : Dev nD) (k : Fin 5632) (l : Fin 1024) :
    Cert.Dx.WT (V m c main_v7) (ix2 k l)
      = (m ((c : Thread nD τ).loc main_arg3) : Vec Ideal S1024x5632 .f32) (ix2 (n0 := 1024) (n1 := 5632) l k) := by
  have e : ∃ v : Vec Ideal S8x704x1024 .bf16, (V m c main_v7 : Vec Ideal S8x704x1024 .bf16) = v ∧ ∀ (k : Fin 5632) (l : Fin 1024),
      Cert.Dx.WT v (ix2 k l) = (m ((c : Thread nD τ).loc main_arg3) : Vec Ideal S1024x5632 .f32) (ix2 (n0 := 1024) (n1 := 5632) l k) := by
    apply Exists.intro
    apply And.intro
    · unfold V
      simp only [hostOps0, hostOps0_1, hostOps0_2, List.flatten_cons, List.flatten_nil, List.append_nil, List.cons_append, List.nil_append]
      after_results
    · intro k l
      pointwise [Cert.Dx.WT]
  obtain ⟨v, hv, h⟩ := e
  rw [hv, h]

/-- The 8 parts of the second weight that the copies bring are the weight. -/
theorem blk_wo (c : Dev nD) (k : Fin 2816) (l : Fin 1024) :
    Cert.Acts.WT (V m c main_v9) (ix2 k l)
      = (m ((c : Thread nD τ).loc main_arg4) : Vec Ideal S2816x1024 .f32) (ix2 (n0 := 2816) (n1 := 1024) k l) := by
  have e : ∃ v : Vec Ideal S8x352x1024 .bf16, (V m c main_v9 : Vec Ideal S8x352x1024 .bf16) = v ∧ ∀ (k : Fin 2816) (l : Fin 1024),
      Cert.Acts.WT v (ix2 k l) = (m ((c : Thread nD τ).loc main_arg4) : Vec Ideal S2816x1024 .f32) (ix2 (n0 := 2816) (n1 := 1024) k l) := by
    apply Exists.intro
    apply And.intro
    · unfold V
      simp only [hostOps0, hostOps0_1, hostOps0_2, List.flatten_cons, List.flatten_nil, List.append_nil, List.cons_append, List.nil_append]
      after_results
    · intro k l
      pointwise [Cert.Acts.WT]
  obtain ⟨v, hv, h⟩ := e
  rw [hv, h]

/-- The gate's factor cut into eleven chunks, as the host hands it over. -/
theorem V_z (c : Dev nD) : ∃ v : Vec Ideal S11x2048x256 .bf16, (V m c main_v45 : Vec Ideal S11x2048x256 .bf16) = v ∧
    ∀ q n j, v (ix3 (n0 := 11) (n1 := 2048) (n2 := 256) q n j) = facAt (m ((c : Thread nD τ).loc main_arg0)) (m ((c : Thread nD τ).loc main_arg1)) (m ((c : Thread nD τ).loc main_arg2))
      (m ((c : Thread nD τ).loc main_arg3)) n ⟨q.val * 256 + j.val, by omega⟩ := by
  apply Exists.intro
  apply And.intro
  · unfold V
    simp only [hostOps0, hostOps0_1, hostOps0_2, List.flatten_cons, List.flatten_nil, List.append_nil, List.cons_append, List.nil_append]
    after_results
  · intro q n j
    unfold facAt fac hrow rms rowLen rowEps
    pointwise []
    simp only [md_zero, md_one]

theorem blk_z (c : Dev nD) (t : Fin cfg0.N) (q : Fin 11) (i j : Fin 256) :
    (iblk m c 3 t : Vec Ideal S11x256x256 .bf16) (ix3 q i j) = facAt (m ((c : Thread nD τ).loc main_arg0)) (m ((c : Thread nD τ).loc main_arg1)) (m ((c : Thread nD τ).loc main_arg2))
      (m ((c : Thread nD τ).loc main_arg3)) (row t i) ⟨q.val * 256 + j.val, by omega⟩ := by
  have e : (iblk m c 3 t : Vec Ideal S11x256x256 .bf16) (ix3 q i j) = (V m c main_v45 : Vec Ideal S11x2048x256 .bf16) (ix3 q (row t i) j) := by
    refine congrArg (V m c main_v45) ?_
    unfold row
    blk_ext [idx t]
  obtain ⟨v, hv, h⟩ := V_z m c
  rw [e, hv, h]

/-- The other factor cut into eleven chunks, as the host hands it over. -/
theorem V_u (c : Dev nD) : ∃ v : Vec Ideal S11x2048x256 .bf16, (V m c main_v48 : Vec Ideal S11x2048x256 .bf16) = v ∧
    ∀ q n j, v (ix3 (n0 := 11) (n1 := 2048) (n2 := 256) q n j) = facAt (m ((c : Thread nD τ).loc main_arg0)) (m ((c : Thread nD τ).loc main_arg1)) (m ((c : Thread nD τ).loc main_arg2))
      (m ((c : Thread nD τ).loc main_arg3)) n ⟨2816 + (q.val * 256 + j.val), by omega⟩ := by
  apply Exists.intro
  apply And.intro
  · unfold V
    simp only [hostOps0, hostOps0_1, hostOps0_2, List.flatten_cons, List.flatten_nil, List.append_nil, List.cons_append, List.nil_append]
    after_results
  · intro q n j
    unfold facAt fac hrow rms rowLen rowEps
    pointwise []
    simp only [md_zero, md_one]

theorem blk_u (c : Dev nD) (t : Fin cfg0.N) (q : Fin 11) (i j : Fin 256) :
    (iblk m c 4 t : Vec Ideal S11x256x256 .bf16) (ix3 q i j) = facAt (m ((c : Thread nD τ).loc main_arg0)) (m ((c : Thread nD τ).loc main_arg1)) (m ((c : Thread nD τ).loc main_arg2))
      (m ((c : Thread nD τ).loc main_arg3)) (row t i) ⟨2816 + (q.val * 256 + j.val), by omega⟩ := by
  have e : (iblk m c 4 t : Vec Ideal S11x256x256 .bf16) (ix3 q i j) = (V m c main_v48 : Vec Ideal S11x2048x256 .bf16) (ix3 q (row t i) j) := by
    refine congrArg (V m c main_v48) ?_
    unfold row
    blk_ext [idx t]
  obtain ⟨v, hv, h⟩ := V_u m c
  rw [e, hv, h]

/-- The layer's rows, as the host hands them over. -/
theorem V_y (c : Dev nD) : ∃ v : Vec Ideal S2048x1024 .f32, (V m c main_v49 : Vec Ideal S2048x1024 .f32) = v ∧
    ∀ n l, v (ix2 (n0 := 2048) (n1 := 1024) n l) = yAt (m ((c : Thread nD τ).loc main_arg0)) (m ((c : Thread nD τ).loc main_arg1)) (m ((c : Thread nD τ).loc main_arg2))
      (m ((c : Thread nD τ).loc main_arg3)) (m ((c : Thread nD τ).loc main_arg4)) n l := by
  apply Exists.intro
  apply And.intro
  · unfold V
    simp only [hostOps0, hostOps0_1, hostOps0_2, List.flatten_cons, List.flatten_nil, List.append_nil, List.cons_append, List.nil_append]
    after_results
  · intro n l
    unfold yAt yrow silu facAt fac hrow rms rowLen rowEps
    simp -implicitDefEqProofs only [StableHlo.TRef.toBuf, StableHlo.TRef.ofBuf, cast_eq]
    pointwise []
    simp only [md_zero, md_one]
    rfl

theorem blk_y (c : Dev nD) (t : Fin cfg0.N) (i : Fin 256) (l : Fin 1024) :
    (iblk m c 5 t : Vec Ideal S256x1024 .f32) (ix2 i l) = yAt (m ((c : Thread nD τ).loc main_arg0)) (m ((c : Thread nD τ).loc main_arg1)) (m ((c : Thread nD τ).loc main_arg2))
      (m ((c : Thread nD τ).loc main_arg3)) (m ((c : Thread nD τ).loc main_arg4)) (row t i) l := by
  have e : (iblk m c 5 t : Vec Ideal S256x1024 .f32) (ix2 i l) = (V m c main_v49 : Vec Ideal S2048x1024 .f32) (ix2 (row t i) l) := by
    refine congrArg (V m c main_v49) ?_
    unfold row
    blk_ext [idx t]
  obtain ⟨v, hv, h⟩ := V_y m c
  rw [e, hv, h]

end Cert.Ffn

end
-- ==== Proof.Ffn.Final.lean ====
/- The results of the kernel `Ffn` as functions of its arguments, row by row. -/
module

public import proofs.«01_k».proof.Proof.Ffn.Blocks
public import proofs.«01_k».proof.Proof.Dx.Final

@[expose] public section

set_option maxRecDepth 16384

noncomputable section

open Idealize.ShloMosaic Idealize.ShloMosaic.TcCoe Idealize.SL.Sem
open Idealize.ShloMosaic.Pipeline (Dat)

namespace Cert.Ffn

open Cert.FfnIdeal Cert.FfnIdeal.Gen Cert.Common
open Cert.Acts (daT dguTile daAt dguAt dyAt gateTerm da_congr facAt yAt xr md)
open Cert.Dx (dxv term dxv_congr term_congr)

/-- The tile of `dx`, entry by entry. -/
theorem dxTile_apply (U X : Vec Ideal S256x1024 .f32) (P : Vec Ideal S8x1024 .f32) (D : Vec Ideal S256x5632 .bf16)
    (W : Vec Ideal S5632x1024 .bf16) (i : Fin 256) (l : Fin 1024) :
    dxTile U X P D W (ix2 (n0 := 256) (n1 := 1024) i l)
      = dxv (fun j => U (ix2 i j)) (fun j => X (ix2 i j)) (fun j => P (ix2 1 j)) (fun j => P (ix2 3 j)) (fun k => D (ix2 i k))
          (fun j k => W (ix2 k j)) l := by
  unfold dxTile
  pointwise [k0_pay1, k0_pay4, k0_pay5, k0_pay6, k0_pay7, k0_pay111, k0_pay112, k0_pay113, k0_pay116, k0_pay118, k0_pay119]
  rfl

/-- What a row adds to row `r` of the statistics; `gt` is its entry of the gate's row. -/
def rowTerm (r : ℕ) (gt : EReal) (x sc g : Fin 1024 → EReal) (gu : Fin 5632 → EReal) (w : Fin 1024 → Fin 5632 → EReal) (l : Fin 1024) : EReal :=
  if r = 2 then gt else term r x sc g gu w l

/-- The running sums after one more tile, entry by entry. -/
theorem stats_apply (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (r : Fin 4) (s : Fin 8) (l : Fin 1024) :
    stats U X P Y D W q (ix3 (n0 := 4) (n1 := 8) (n2 := 1024) r s l)
      = q (ix3 (n0 := 4) (n1 := 8) (n2 := 1024) r s l) + ∑ x : Fin 32, rowTerm r.val
          (half * U (ix2 ⟨x.val * 8 + s.val, by omega⟩ l) * Y (ix2 ⟨x.val * 8 + s.val, by omega⟩ l))
          (fun j => X (ix2 ⟨x.val * 8 + s.val, by omega⟩ j)) (fun j => P (ix2 1 j)) (fun j => P (ix2 3 j))
          (fun k => D (ix2 ⟨x.val * 8 + s.val, by omega⟩ k)) (fun j k => W (ix2 k j)) l := by
  fin_vals r with h
  · obtain rfl : r = 0 := Fin.ext h
    rw [stats_0 _ _ _ _ _ _ _ _ rfl]
    pointwise [stat0, k0_pay114, k0_pay111]
    rfl
  · obtain rfl : r = 1 := Fin.ext h
    rw [stats_1 _ _ _ _ _ _ _ _ rfl]
    pointwise [stat1, k0_pay115, k0_pay111, k0_pay112, k0_pay113, k0_pay6, k0_pay5]
    rfl
  · obtain rfl : r = 2 := Fin.ext h
    rw [stats_2 _ _ _ _ _ _ _ _ rfl]
    pointwise [stat2, k0_pay9, k0_pay7]
    rfl
  · obtain rfl : r = 3 := Fin.ext h
    rw [stats_3 _ _ _ _ _ _ _ _ rfl]
    pointwise [stat3, k0_pay117, k0_pay116, k0_pay111, k0_pay112, k0_pay113, k0_pay6, k0_pay4]
    rfl

/-- The running sums start at zero. -/
theorem zero_apply (r : Fin 4) (s : Fin 8) (l : Fin 1024) :
    k0_pay3 (F := Ideal) (ix3 (n0 := 4) (n1 := 8) (n2 := 1024) r s l) = 0 := by
  pointwise [k0_pay3]

/-- The tile of `dy`. -/
theorem dy_apply (P : Vec Ideal S8x1024 .f32) (D : Vec Ideal S256x1024 .f32) (i : Fin 256) (l : Fin 1024) :
    k0_pay8 (gateRow P) D (ix2 (n0 := 256) (n1 := 1024) i l) = half * P (ix2 2 l) * D (ix2 i l) := by
  unfold half
  pointwise [k0_pay8, k0_pay7, gateRow]

/-- The rows that leave: the four sums over their 8 parts, then zeros. -/
theorem rows_apply (U X : Vec Ideal S256x1024 .f32) (P : Vec Ideal S8x1024 .f32) (Y : Vec Ideal S256x1024 .f32) (D : Vec Ideal S256x5632 .bf16)
    (W : Vec Ideal S5632x1024 .bf16) (q : Vec Ideal S4x8x1024 .f32) (r : Fin 8) (l : Fin 1024) :
    rowsOut U X P Y D W q (ix2 (n0 := 8) (n1 := 1024) r l)
      = if h : r.val < 4 then ∑ s : Fin 8, stats U X P Y D W q (ix3 (n0 := 4) (n1 := 8) (n2 := 1024) ⟨r.val, h⟩ s l) else 0 := by
  unfold rowsOut
  fin_vals r with h
  · obtain rfl : r = 0 := Fin.ext h
    rw [dif_pos (by omega)]
    refine Eq.trans ?_ (Finset.sum_congr rfl fun s _ => (stats_0 U X P Y D W q (ix3 (n0 := 4) (n1 := 8) (n2 := 1024) 0 s l) rfl).symm)
    pointwise [k0_pay2]
  · obtain rfl : r = 1 := Fin.ext h
    rw [dif_pos (by omega)]
    refine Eq.trans ?_ (Finset.sum_congr rfl fun s _ => (stats_1 U X P Y D W q (ix3 (n0 := 4) (n1 := 8) (n2 := 1024) 1 s l) rfl).symm)
    pointwise [k0_pay2]
  · obtain rfl : r = 2 := Fin.ext h
    rw [dif_pos (by omega)]
    refine Eq.trans ?_ (Finset.sum_congr rfl fun s _ => (stats_2 U X P Y D W q (ix3 (n0 := 4) (n1 := 8) (n2 := 1024) 2 s l) rfl).symm)
    pointwise [k0_pay2]
  · obtain rfl : r = 3 := Fin.ext h
    rw [dif_pos (by omega)]
    refine Eq.trans ?_ (Finset.sum_congr rfl fun s _ => (stats_3 U X P Y D W q (ix3 (n0 := 4) (n1 := 8) (n2 := 1024) 3 s l) rfl).symm)
    pointwise [k0_pay2]
  · obtain rfl : r = 4 := Fin.ext h
    rw [dif_neg (by omega)]; pointwise [k0_pay2]
  · obtain rfl : r = 5 := Fin.ext h
    rw [dif_neg (by omega)]; pointwise [k0_pay2]
  · obtain rfl : r = 6 := Fin.ext h
    rw [dif_neg (by omega)]; pointwise [k0_pay2]
  · obtain rfl : r = 7 := Fin.ext h
    rw [dif_neg (by omega)]; pointwise [k0_pay2]

section Args

variable (x : Vec Ideal S1x2048x1024 .f32) (mod : Vec Ideal S1x3072 .f32) (g : Vec Ideal S1024 .f32) (w : Vec Ideal S1024x5632 .f32)
    (wo : Vec Ideal S2816x1024 .f32) (ct : Vec Ideal S1x2048x1024 .f32)

/-- Row `n` of `d(gate,up)`, from the arguments. -/
def guRow (n : Fin 2048) (k : Fin 5632) : EReal :=
  dguAt x mod g w wo ct ⟨k.val / 256, by omega⟩ n ⟨k.val % 256, Nat.mod_lt _ (by norm_num)⟩

/-- Entry `l` of row `n` of the first result, from the arguments. -/
def dxAt (n : Fin 2048) (l : Fin 1024) : EReal :=
  dxv (xr ct n) (xr x n) (md mod 1) (fun j => g (ix1 j)) (guRow x mod g w wo ct n) (fun j k => w (ix2 j k)) l

/-- What row `n` adds to row `r` of the statistics, from the arguments. -/
def termAt (r : ℕ) (l : Fin 1024) (n : Fin 2048) : EReal :=
  rowTerm r (gateTerm x mod g w wo ct l n) (xr x n) (md mod 1) (fun j => g (ix1 j)) (guRow x mod g w wo ct n) (fun j k => w (ix2 j k)) l

/-- Row `r` of the statistics, from the arguments. -/
def statAt (r : Fin 8) (l : Fin 1024) : EReal := if r.val < 4 then ∑ n : Fin 2048, termAt x mod g w wo ct r.val l n else 0

end Args

theorem rowTerm_congr {r : ℕ} {a a' : EReal} {x x' sc sc' g g' : Fin 1024 → EReal} {gu gu' : Fin 5632 → EReal} {w w' : Fin 1024 → Fin 5632 → EReal}
    {l : Fin 1024} (ha : a = a') (hx : x = x') (hsc : sc = sc') (hg : g = g') (hgu : gu = gu') (hw : w = w') :
    rowTerm r a x sc g gu w l = rowTerm r a' x' sc' g' gu' w' l := by
  subst ha hx hsc hg hgu hw
  rfl

variable (m : (ℓ : Loc nD τ sig) → Buf (Elt Ideal) ℓ)

/-- The chunks that point `t` computes, side by side. -/
abbrev matAt (c : Dev nD) (t : Fin cfg0.N) : Vec Ideal S256x5632 .bf16 :=
  dguMat (iblk m c 0 t) (iblk m c 2 t) (iblk m c 3 t) (iblk m c 4 t) (Cert.Acts.WT (V m c main_v9))

/-- The cotangent of the gated product in a tile is that of the arguments' rows. -/
theorem da_at (c : Dev nD) (t : Fin cfg0.N) (i : Fin 256) (k : Fin 2816) :
    daT (iblk m c 0 t) (iblk m c 2 t) (Cert.Acts.WT (V m c main_v9)) i k
      = daAt (m ((c : Thread nD τ).loc main_arg1)) (m ((c : Thread nD τ).loc main_arg4)) (m ((c : Thread nD τ).loc main_arg5)) (row t i) k :=
  da_congr (funext fun l => blk_gate m c t l) (funext fun l => blk_ct m c t i l) (funext fun k => funext fun l => blk_wo m c k l)

/-- A point's chunks are those of the arguments' rows. -/
theorem chunks_at (c : Dev nD) (t : Fin cfg0.N) (q : Fin 22) (i j : Fin 256) :
    dguTile (iblk m c 0 t) (iblk m c 2 t) (iblk m c 3 t) (iblk m c 4 t) (Cert.Acts.WT (V m c main_v9)) (ix3 (n0 := 22) (n1 := 256) (n2 := 256) q i j)
      = dguAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) q (row t i) j := by
  unfold dguAt
  by_cases h : q.val < 11
  · rw [dif_pos h]
    refine (dif_pos h).trans ?_
    exact congr (congr (congrArg dgate (da_at m c t i _)) (blk_z m c t ⟨q.val, h⟩ i j)) (blk_u m c t ⟨q.val, h⟩ i j)
  · rw [dif_neg h]
    refine (dif_neg h).trans ?_
    exact congr (congrArg dup (da_at m c t i _)) (blk_z m c t ⟨q.val - 11, by omega⟩ i j)

/-- The matrix of a point's chunks is made of the arguments' rows. -/
theorem mat_at (c : Dev nD) (t : Fin cfg0.N) (i : Fin 256) (k : Fin 5632) :
    matAt m c t (ix2 i k) = guRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t i) k :=
  chunks_at m c t ⟨k.val / 256, by omega⟩ i ⟨k.val % 256, Nat.mod_lt _ (by norm_num)⟩

/-- The statistics' term of row `n` of this core's arguments, zero past the last row. -/
def termN (c : Dev nD) (r : ℕ) (l : Fin 1024) (n : ℕ) : EReal :=
  if h : n < 2048 then termAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r l ⟨n, h⟩ else 0

/-- The running sums that point `t` leaves over the carried ones `q`. -/
abbrev statsAt (c : Dev nD) (t : Fin cfg0.N) (q : Vec Ideal S4x8x1024 .f32) : Vec Ideal S4x8x1024 .f32 :=
  stats (iblk m c 0 t) (iblk m c 1 t) (iblk m c 2 t) (iblk m c 5 t) (matAt m c t) (Cert.Dx.WT (V m c main_v7)) q

/-- One tile's sums over the carried ones, as terms of the arguments' rows. -/
theorem stats_tile (c : Dev nD) (t : Fin cfg0.N) (q : Vec Ideal S4x8x1024 .f32) (r : Fin 4) (s : Fin 8) (l : Fin 1024) :
    statsAt m c t q (ix3 (n0 := 4) (n1 := 8) (n2 := 1024) r s l)
      = q (ix3 (n0 := 4) (n1 := 8) (n2 := 1024) r s l) + ∑ x : Fin 32, termN m c r.val l (t.val * (32 * 8) + (x.val * 8 + s.val)) := by
  refine (stats_apply _ _ _ _ _ _ _ r s l).trans ?_
  refine congrArg (_ + ·) (Finset.sum_congr rfl fun x _ => ?_)
  have hn : t.val * (32 * 8) + (x.val * 8 + s.val) < 2048 := by
    have h : t.val < 8 := lt_of_lt_of_eq t.isLt (show cfg0.N = 8 from N_0); omega
  have hrow : (⟨t.val * (32 * 8) + (x.val * 8 + s.val), hn⟩ : Fin 2048) = row t ⟨x.val * 8 + s.val, by omega⟩ :=
    Fin.ext (by show t.val * (32 * 8) + (x.val * 8 + s.val) = t.val * 256 + (x.val * 8 + s.val); omega)
  unfold termN
  rw [dif_pos hn, hrow]
  unfold termAt
  refine rowTerm_congr ?_ (funext fun j => blk_x m c t _ j) (funext fun j => blk_scale m c t j) (funext fun j => blk_g m c t j)
    (funext fun k => mat_at m c t _ k) (funext fun j => funext fun k => blk_wi m c k j)
  rw [blk_ct, blk_y]
  rfl

/-- After point `n` the weights are loaded and the carried sums are those of the tiles so far. -/
theorem carried (c : Dev nD) (n : ℕ) : ∀ hn : n < cfg0.N, n < 7 →
    (outsAt0 m c n hn).2.2.2.2.1 = Cert.Dx.WT (V m c main_v7) ∧ (outsAt0 m c n hn).2.2.2.2.2.1 = Cert.Acts.WT (V m c main_v9)
    ∧ ∀ (r : Fin 4) (s : Fin 8) (l : Fin 1024), ((outsAt0 m c n hn).2.2.2.2.2.2 : Vec Ideal S4x8x1024 .f32) (ix3 (n0 := 4) (n1 := 8) (n2 := 1024) r s l)
      = ∑ t ∈ Finset.range (n + 1), ∑ x : Fin 32, termN m c r.val l (t * (32 * 8) + (x.val * 8 + s.val)) := by
  induction n with
  | zero =>
    intro hn _
    have e := outsAt0_A m c ⟨0, hn⟩ (Nat.zero_mod _) (by show ¬0 % 8 = 7; omega)
    refine ⟨?_, ?_, fun r s l => ?_⟩
    · exact (congrArg (fun p : Outs Ideal => p.2.2.2.2.1) e).trans (outsA_wi m c _ _ _)
    · exact (congrArg (fun p : Outs Ideal => p.2.2.2.2.2.1) e).trans (outsA_wo m c _ _ _)
    · refine (congrArg (fun p : Outs Ideal => p.2.2.2.2.2.2 (ix3 (n0 := 4) (n1 := 8) (n2 := 1024) r s l)) e).trans ?_
      rw [outsA_s m c _ _ _]
      refine (stats_tile m c _ _ r s l).trans ?_
      rw [zero_apply, zero_add, Finset.sum_range_one]
  | succ n ih =>
    intro hn h7
    obtain ⟨hwi, hwo, hs⟩ := ih (Nat.lt_of_succ_lt hn) (by omega)
    have e := outsAt0_B m c ⟨n + 1, hn⟩ (by show ¬(n + 1) % 8 = 0; omega) (by show ¬(n + 1) % 8 = 7; omega)
    have ep : outsAt0 m c ((⟨n + 1, hn⟩ : Fin cfg0.N).val - 1) (Nat.lt_of_le_of_lt (Nat.sub_le _ _) hn) = outsAt0 m c n (Nat.lt_of_succ_lt hn) := rfl
    rw [ep] at e
    generalize outsAt0 m c n (Nat.lt_of_succ_lt hn) = p at hwi hwo hs e
    have e' : outsAt0 m c (n + 1) hn = outsB m c ⟨n + 1, hn⟩ _ _ p := e
    rw [e']
    refine ⟨(outsB_wi m c _ _ _ p).trans hwi, (outsB_wo m c _ _ _ p).trans hwo, fun r s l => ?_⟩
    rw [outsB_s m c _ _ _ p, hwi, hwo]
    refine (stats_tile m c _ _ r s l).trans ?_
    rw [Finset.sum_range_succ _ (n + 1)]
    exact congrArg (· + _) (hs r s l)

/-- What any point leaves: the tile of `dx`, the chunks of `d(gate,up)` and the tile of `dy`. -/
theorem tiles (c : Dev nD) (t : Fin cfg0.N) :
    (outsAt0 m c t.val t.isLt).1 = dxTile (iblk m c 0 t) (iblk m c 1 t) (iblk m c 2 t) (matAt m c t) (Cert.Dx.WT (V m c main_v7))
    ∧ (outsAt0 m c t.val t.isLt).2.1 = dguTile (iblk m c 0 t) (iblk m c 2 t) (iblk m c 3 t) (iblk m c 4 t) (Cert.Acts.WT (V m c main_v9))
    ∧ (outsAt0 m c t.val t.isLt).2.2.1 = k0_pay8 (gateRow (iblk m c 2 t)) (iblk m c 0 t) := by
  have h8 : t.val < 8 := lt_of_lt_of_eq t.isLt (show cfg0.N = 8 from N_0)
  by_cases h0 : t.val % 8 = 0
  · rw [outsAt0_A m c t h0 (by omega)]
    exact ⟨outsA_1 m c t h0 (by omega), outsA_2 m c t h0 (by omega), outsA_3 m c t h0 (by omega)⟩
  · obtain ⟨hwi, hwo, _⟩ := carried m c (t.val - 1) (Nat.lt_of_le_of_lt (Nat.sub_le _ _) t.isLt) (by omega)
    by_cases h1 : t.val % 8 = 7
    · rw [outsAt0_C m c t h0 h1, outsC_1 m c t h0 h1, outsC_2 m c t h0 h1, outsC_3 m c t h0 h1, hwi, hwo]
      exact ⟨rfl, rfl, rfl⟩
    · rw [outsAt0_B m c t h0 h1, outsB_1 m c t h0 h1, outsB_2 m c t h0 h1, outsB_3 m c t h0 h1, hwi, hwo]
      exact ⟨rfl, rfl, rfl⟩

/-- A point's tile of `dx` is that of the arguments' rows. -/
theorem tile_at (c : Dev nD) (t : Fin cfg0.N) (i : Fin 256) (l : Fin 1024) :
    dxTile (iblk m c 0 t) (iblk m c 1 t) (iblk m c 2 t) (matAt m c t) (Cert.Dx.WT (V m c main_v7)) (ix2 (n0 := 256) (n1 := 1024) i l)
      = dxAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t i) l := by
  refine (dxTile_apply _ _ _ _ _ i l).trans ?_
  unfold dxAt
  exact dxv_congr (funext fun j => blk_ct m c t _ j) (funext fun j => blk_x m c t _ j) (funext fun j => blk_scale m c t j)
    (funext fun j => blk_g m c t j) (funext fun k => mat_at m c t _ k) (funext fun j => funext fun k => blk_wi m c k j) rfl

/-- The first result. -/
def G6 (c : Dev nD) : S2048x1024.Idx → EReal := fun y =>
  dxAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1)

/-- The second result. -/
def G7 (c : Dev nD) : S22x2048x256.Idx → EReal := fun y =>
  dguAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1) (y 2)

/-- The third result. -/
def G8 (c : Dev nD) : S2048x1024.Idx → EReal := fun y =>
  dyAt (m ((c : Thread nD τ).loc main_arg1)) (m ((c : Thread nD τ).loc main_arg5)) (y 0) (y 1)

/-- The fourth result. -/
def G9 (c : Dev nD) : S8x1024.Idx → EReal := fun y =>
  statAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1)

/-- The kernel leaves the first result. -/
theorem final6 (c : Dev nD) : (dats m 0 c).arrAt 6 (cfgs 0).N = G6 m c := by
  refine (dats m 0 c).arrAt_eq_of_covers 6 _ (by decide +kernel) fun t _ y => ?_
  blk_simp
  rw [after0_6, (tiles m c t).1]
  idx_vars y
  have h0 : ix2 (row t y0) y1 = (win0_6.blk t).view.emb (ix2 (n0 := 256) (n1 := 1024) y0 y1) := by
    unfold row; blk_ext [idx t]
  exact (tile_at m c t y0 y1).trans (congrArg (G6 m c) h0)

/-- The kernel leaves the second result. -/
theorem final7 (c : Dev nD) : (dats m 0 c).arrAt 7 (cfgs 0).N = G7 m c := by
  refine (dats m 0 c).arrAt_eq_of_covers 7 _ (by decide +kernel) fun t _ y => ?_
  blk_simp
  rw [after0_7, (tiles m c t).2.1]
  idx_vars y
  have h0 : ix3 y0 (row t y1) y2 = (win0_7.blk t).view.emb (ix3 (n0 := 22) (n1 := 256) (n2 := 256) y0 y1 y2) := by
    unfold row; blk_ext [idx t]
  exact (chunks_at m c t y0 y1 y2).trans (congrArg (G7 m c) h0)

/-- The kernel leaves the third result. -/
theorem final8 (c : Dev nD) : (dats m 0 c).arrAt 8 (cfgs 0).N = G8 m c := by
  refine (dats m 0 c).arrAt_eq_of_covers 8 _ (by decide +kernel) fun t _ y => ?_
  blk_simp
  rw [after0_8, (tiles m c t).2.2]
  idx_vars y
  have h0 : ix2 (row t y0) y1 = (win0_8.blk t).view.emb (ix2 (n0 := 256) (n1 := 1024) y0 y1) := by
    unfold row; blk_ext [idx t]
  refine Eq.trans ?_ (congrArg (G8 m c) h0)
  refine (dy_apply _ _ y0 y1).trans ?_
  rw [blk_gate, blk_ct]
  rfl

/-- The last point leaves the rows of sums. -/
theorem rows_at (c : Dev nD) (r : Fin 8) (l : Fin 1024) :
    ((outsAt0 m c t0_7.val t0_7.isLt).2.2.2.1 : Vec Ideal S8x1024 .f32) (ix2 (n0 := 8) (n1 := 1024) r l)
      = statAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r l := by
  have e : outsAt0 m c t0_7.val t0_7.isLt = outsC m c t0_7 (by decide) (by decide) (outsAt0 m c 6 (by rw [show cfg0.N = 8 from N_0]; omega)) :=
    outsAt0_C m c t0_7 (by decide) (by decide)
  rw [e]
  have hc := carried m c 6 (by rw [show cfg0.N = 8 from N_0]; omega) (by omega)
  generalize outsAt0 m c 6 (by rw [show cfg0.N = 8 from N_0]; omega) = p at hc ⊢
  obtain ⟨hwi, hwo, hs⟩ := hc
  rw [outsC_4 m c t0_7 _ _ p, hwi, hwo, rows_apply]
  unfold statAt
  split
  · next h4 =>
    have hsum : ∀ s : Fin 8, statsAt m c t0_7 p.2.2.2.2.2.2 (ix3 (n0 := 4) (n1 := 8) (n2 := 1024) ⟨r.val, h4⟩ s l)
        = ∑ t ∈ Finset.range 8, ∑ x : Fin 32, termN m c r.val l (t * (32 * 8) + (x.val * 8 + s.val)) := fun s => by
      refine (stats_tile m c t0_7 _ ⟨r.val, h4⟩ s l).trans ?_
      rw [Finset.sum_range_succ _ 7]
      exact congrArg (· + _) (hs ⟨r.val, h4⟩ s l)
    refine (Finset.sum_congr rfl fun s _ => hsum s).trans ?_
    rw [sum_rows 8 32 2048 (by norm_num) (termN m c r.val l)]
    refine Finset.sum_congr rfl fun n _ => ?_
    unfold termN
    rw [dif_pos n.isLt]
  · rfl

/-- The kernel leaves the fourth result. -/
theorem final9 (c : Dev nD) : (dats m 0 c).arrAt 9 (cfgs 0).N = G9 m c := by
  refine (dats m 0 c).arrAt_eq_of_after_last 9 t0_7 (by decide +kernel) _ fun y => ?_
  blk_simp
  rw [after0_9]
  idx_vars y
  exact rows_at m c y0 y1

end Cert.Ffn

end
-- ==== Proof.Ffn.RefPoint.lean ====
/- The results of the reference `FfnRef`, entry by entry, are the ones the kernel leaves. -/
module

public import proofs.«01_k».proof.Proof.Ffn.Final
public import proofs.«01_k».proof.Proof.Gen.FfnRefIdeal.Read
public import proofs.«01_k».proof.Proof.Common.Reduce
public import proofs.«01_k».proof.Proof.Common.Norm
public import proofs.«01_k».proof.Proof.Common.Finite

@[expose] public section

set_option maxRecDepth 16384

noncomputable section

open Idealize.ShloMosaic Idealize.ShloMosaic.TcCoe Idealize.SL.Sem

namespace Cert.Ffn

open Cert.FfnRefIdeal Cert.FfnRefIdeal.Gen Cert.FfnRefIdeal.Read Cert.Common
open Cert.Acts (daAt dguAt dyAt gateTerm facAt yAt xr md md_zero md_one)
open Cert.Dx (dh rs dN eps term)

variable (x : Vec Ideal S1x2048x1024 .f32) (mod : Vec Ideal S1x3072 .f32) (g : Vec Ideal S1024 .f32) (w : Vec Ideal S1024x5632 .f32)
    (wo : Vec Ideal S2816x1024 .f32) (ct : Vec Ideal S1x2048x1024 .f32)

/-- The mean square of row `n`, with the constant. -/
theorem ref_ms (n : Fin 2048) : val_main_v11 (F := Ideal) x (ix3 (n0 := 1) (n1 := 2048) (n2 := 1) 0 n 0)
    = Ideal.div (∑ j : Fin 1024, xr x n j * xr x n j) dN + eps := by
  pointwise [val_main_v5, val_main_cst_1, val_main_v6, val_main_v7, val_main_cst_2, val_main_v8, val_main_v9, val_main_cst_3, val_main_v10,
    val_main_v11]
  rfl

/-- One over its root. -/
theorem ref_rs (n : Fin 2048) : val_main_v12 (F := Ideal) x (ix3 (n0 := 1) (n1 := 2048) (n2 := 1) 0 n 0) = rs (xr x n) := by
  pointwise [val_main_v12, ref_ms]
  rfl

/-- The product with the first weight. -/
theorem ref_fac (n : Fin 2048) (k : Fin 5632) : val_main_v31 (F := Ideal) x mod g w (ix3 (n0 := 1) (n1 := 2048) (n2 := 5632) 0 n k)
    = facAt x mod g w n k := by
  unfold facAt fac hrow rms rowLen rowEps
  pointwise [val_main_cst, val_main_v0, val_main_v2, val_main_v3, val_main_v4, val_main_v5, val_main_v6, val_main_cst_1, val_main_v7, val_main_v8,
    val_main_cst_2, val_main_v9, val_main_v10, val_main_cst_3, val_main_v11, val_main_v12, val_main_v16, val_main_v17, val_main_v18, val_main_v19,
    val_main_v20, val_main_v21, val_main_cst_5, val_main_v22, val_main_v23, val_main_v24, val_main_v25, val_main_v26, val_main_v27, val_main_v28,
    val_main_v30, val_main_v31]
  simp only [md_zero, md_one]

/-- The gate's factor. -/
theorem ref_z (n : Fin 2048) (k : Fin 2816) : val_main_v32 (F := Ideal) x mod g w (ix3 (n0 := 1) (n1 := 2048) (n2 := 2816) 0 n k)
    = facAt x mod g w n ⟨k.val, by omega⟩ := by
  pointwise [val_main_v32, ref_fac]

/-- The other factor. -/
theorem ref_u (n : Fin 2048) (k : Fin 2816) : val_main_v33 (F := Ideal) x mod g w (ix3 (n0 := 1) (n1 := 2048) (n2 := 2816) 0 n k)
    = facAt x mod g w n ⟨2816 + k.val, by omega⟩ := by
  pointwise [val_main_v33, ref_fac]

/-- The logistic of the gate's factor. -/
theorem ref_s (n : Fin 2048) (k : Fin 2816) : val_main_v36_2 (F := Ideal) x mod g w (ix3 (n0 := 1) (n1 := 2048) (n2 := 2816) 0 n k)
    = Ideal.logistic (facAt x mod g w n ⟨k.val, by omega⟩) := by
  pointwise [val_main_v36_2, val_main_call0_v4, val_main_call0_cst_0, val_main_call0_v3, val_main_call0_v2, val_main_call0_cst, val_main_call0_v1,
    val_main_call0_v0, ref_z]
  rfl

/-- The layer's row. -/
theorem ref_y (n : Fin 2048) (l : Fin 1024) : val_main_v39 (F := Ideal) x mod g w wo (ix3 (n0 := 1) (n1 := 2048) (n2 := 1024) 0 n l)
    = yAt x mod g w wo n l := by
  unfold yAt yrow silu
  pointwise [val_main_v39, val_main_v1, val_main_cst_0, val_main_v38, val_main_v37, val_main_v36_0, ref_s, ref_z, ref_u]

/-- The cotangent of the gated product. -/
theorem ref_da (n : Fin 2048) (k : Fin 2816) : val_main_v49 (F := Ideal) mod wo ct (ix3 (n0 := 1) (n1 := 2048) (n2 := 2816) 0 n k)
    = daAt mod wo ct n k := by
  unfold daAt da half
  pointwise [val_main_v49, val_main_v45, val_main_v44, val_main_v43, val_main_v35, val_main_v34, val_main_cst_6, val_main_v29, val_main_v4, val_main_v2]
  rfl

/-- The third result of the reference is the one the kernel leaves. -/
theorem ref_dy (n : Fin 2048) (l : Fin 1024) : val_main_v102 (F := Ideal) mod ct (ix2 (n0 := 2048) (n1 := 1024) n l) = dyAt mod ct n l := by
  unfold dyAt half
  pointwise [val_main_v102, val_main_v101, val_main_v45, val_main_v44, val_main_v43, val_main_v35, val_main_v34, val_main_cst_6, val_main_v29, val_main_v4, val_main_v2]
  rfl

/-- The cotangent of the other factor. -/
theorem ref_du (n : Fin 2048) (k : Fin 2816) : val_main_v50 (F := Ideal) x mod g w wo ct (ix3 (n0 := 1) (n1 := 2048) (n2 := 2816) 0 n k)
    = dup (daAt mod wo ct n k) (facAt x mod g w n ⟨k.val, by omega⟩) := by
  unfold dup silu
  pointwise [val_main_v50, val_main_v36_0, ref_s, ref_z, ref_da]
  exact mul_comm _ _

/-- The cotangent of the gate's factor, where the three numbers it is made of are real. -/
theorem ref_dgate (n : Fin 2048) (k : Fin 2816) (ha : IsReal (daAt mod wo ct n k)) (hz : IsReal (facAt x mod g w n ⟨k.val, by omega⟩))
    (hu : IsReal (facAt x mod g w n ⟨2816 + k.val, by omega⟩)) :
    val_main_v52 (F := Ideal) x mod g w wo ct (ix3 (n0 := 1) (n1 := 2048) (n2 := 2816) 0 n k)
    = dgate (daAt mod wo ct n k) (facAt x mod g w n ⟨k.val, by omega⟩) (facAt x mod g w n ⟨2816 + k.val, by omega⟩) := by
  rw [← dgate_sum ha hz hu]
  pointwise [val_main_v52, val_main_call1_v2, val_main_call1_v1, val_main_call1_v0, val_main_v51, val_main_v36_1, val_main_call0_v7,
    val_main_call0_v6, val_main_call0_cst_1, ref_s, ref_z, ref_u, ref_da]

/-- The factors and the cotangent of the gated product are real. -/
def RealFactors : Prop := (∀ n k, IsReal (daAt mod wo ct n k)) ∧ ∀ n k, IsReal (facAt x mod g w n k)

/-- Row `n` of `d(gate,up)`, where the factors and the cotangent are real. -/
theorem ref_gu (hr : RealFactors x mod g w wo ct) (n : Fin 2048) (k : Fin 5632) :
    val_main_v55 (F := Ideal) x mod g w wo ct (ix3 (n0 := 1) (n1 := 2048) (n2 := 5632) 0 n k) = guRow x mod g w wo ct n k := by
  unfold guRow dguAt
  by_cases h : k.val / 256 < 11
  · rw [dif_pos h]
    have e : k.val / 256 * 256 + k.val % 256 = k.val := by omega
    simp only [e]
    refine Eq.trans ?_ (ref_dgate x mod g w wo ct n ⟨k.val, by omega⟩ (hr.1 _ _) (hr.2 _ _) (hr.2 _ _))
    pointwise [val_main_v55]
    rw [dif_pos (by omega)]
  · rw [dif_neg h]
    have e : (k.val / 256 - 11) * 256 + k.val % 256 = k.val - 2816 := by omega
    simp only [e]
    refine Eq.trans ?_ (ref_du x mod g w wo ct n ⟨k.val - 2816, by omega⟩)
    pointwise [val_main_v55]
    rw [dif_neg (by omega)]

/-- The second result of the reference is the one the kernel leaves, where the factors and the cotangent are real. -/
theorem ref_dgu (hr : RealFactors x mod g w wo ct) (q : Fin 22) (n : Fin 2048) (j : Fin 256) :
    val_main_v100 (F := Ideal) x mod g w wo ct (ix3 (n0 := 22) (n1 := 2048) (n2 := 256) q n j) = dguAt x mod g w wo ct q n j := by
  have e : guRow x mod g w wo ct n ⟨q.val * 256 + j.val, by omega⟩ = dguAt x mod g w wo ct q n j := by
    unfold guRow
    exact congr (congrArg (fun a b => dguAt x mod g w wo ct a n b) (Fin.ext (by show (q.val * 256 + j.val) / 256 = q.val; omega)))
      (Fin.ext (by show (q.val * 256 + j.val) % 256 = j.val; omega))
  rw [← e, ← ref_gu x mod g w wo ct hr]
  pointwise [val_main_v100, val_main_v98, val_main_v97]

/-- The cotangent of the modulated row `n`. -/
theorem ref_dh (hr : RealFactors x mod g w wo ct) (n : Fin 2048) (l : Fin 1024) :
    val_main_v56 (F := Ideal) x mod g w wo ct (ix3 (n0 := 1) (n1 := 2048) (n2 := 1024) 0 n l)
    = dh (guRow x mod g w wo ct n) (fun j k => w (ix2 j k)) l := by
  pointwise [val_main_v56, ref_gu x mod g w wo ct hr]
  rfl

/-- The cotangent of the normalised row `n`. -/
theorem ref_dn (hr : RealFactors x mod g w wo ct) (n : Fin 2048) (l : Fin 1024) :
    val_main_v74 (F := Ideal) x mod g w wo ct (ix3 (n0 := 1) (n1 := 2048) (n2 := 1024) 0 n l)
    = dh (guRow x mod g w wo ct n) (fun j k => w (ix2 j k)) l * (1 + mod (ix2 0 ⟨1024 + l.val, by omega⟩)) * g (ix1 l) := by
  pointwise [val_main_v3, val_main_v18, val_main_v21, val_main_cst_5, val_main_v22, val_main_v23, val_main_v66, val_main_v67, val_main_v73,
    val_main_v74, ref_dh x mod g w wo ct hr]

/-- The first result of the reference is the one the kernel leaves. -/
theorem ref_dx (hr : RealFactors x mod g w wo ct) (n : Fin 2048) (l : Fin 1024) :
    val_main_v99 (F := Ideal) x mod g w wo ct (ix2 (n0 := 2048) (n1 := 1024) n l) = dxAt x mod g w wo ct n l := by
  obtain ⟨e, he, hc⟩ := ceps
  have L := norm_bwd 1024 e (by norm_num) he (ct (ix3 0 n l)) (xr x n) (fun j => dh (guRow x mod g w wo ct n) (fun j k => w (ix2 j k)) j
    * (1 + mod (ix2 0 ⟨1024 + j.val, by omega⟩)) * g (ix1 j)) l _ _ rfl rfl
  rw [← c1024, ← cmhalf, ← hc] at L
  refine Eq.trans ?_ L.symm
  pointwise [val_main_v99, val_main_v91, val_main_v90, val_main_v89, val_main_v88, val_main_v87, val_main_v86, val_main_v85, val_main_cst_18,
    val_main_v84, val_main_v83, val_main_cst_17, val_main_v82, val_main_v81, val_main_v80, val_main_v79, val_main_v78, val_main_v77,
    val_main_cst_16, val_main_v76, val_main_v15, val_main_v14, val_main_cst_4, val_main_v13, ref_dn x mod g w wo ct hr, ref_rs, ref_ms, sum_unit02]
  rfl

/-- The fourth result of the reference is the one the kernel leaves. -/
theorem ref_stats (hr : RealFactors x mod g w wo ct) (r : Fin 8) (l : Fin 1024) :
    val_main_v96 (F := Ideal) x mod g w wo ct (ix2 (n0 := 8) (n1 := 1024) r l) = statAt x mod g w wo ct r l := by
  unfold statAt termAt rowTerm term gateTerm
  have H := ref_dh x mod g w wo ct hr
  fin_vals r with h
  · obtain rfl : r = 0 := Fin.ext h
    pointwise [val_main_v96, val_main_v93, val_main_v92, val_main_v62, val_main_v61, val_main_cst_11, val_main_v60, val_main_v59, val_main_cst_10, H, sum_unit01]
  · obtain rfl : r = 1 := Fin.ext h
    pointwise [val_main_v96, val_main_v93, val_main_v92, val_main_v69, val_main_v68, val_main_cst_13, val_main_v65,
      val_main_v64, val_main_cst_12, val_main_v63, val_main_v16, val_main_v17, val_main_v18, val_main_v19, val_main_v20, H, ref_rs, sum_unit01]
    exact Finset.sum_congr rfl fun n _ => mul_comm _ _
  · obtain rfl : r = 2 := Fin.ext h
    pointwise [val_main_v96, val_main_v93, val_main_v92, val_main_v58, val_main_v57, val_main_cst_9, val_main_v54, val_main_v53, val_main_cst_8,
      val_main_v48, val_main_v47, val_main_cst_7, val_main_v46, val_main_v43, ref_y, sum_unit01]
    have k1 : ¬ 2048 + l.val < 1024 := by omega
    have k2 : ¬ 2048 + l.val - 1024 < 1024 := by omega
    have k3 : 2048 + l.val - 1024 - 1024 = l.val := by omega
    rw [dif_neg k1, dif_neg k2]
    simp only [k3]
    have e : Ideal.ofBits FTy.f32 1056964608#32 = ((1 / 2 : ℝ) : EReal) := chalf
    rw [chalf, e, coe_mul_sum _ (by norm_num)]
    exact Finset.sum_congr rfl fun n _ => (mul_assoc _ _ _).symm
  · obtain rfl : r = 3 := Fin.ext h
    pointwise [val_main_v96, val_main_v94, val_main_v75, val_main_cst_15, val_main_v72, val_main_v71, val_main_cst_14,
      val_main_v70, val_main_v67, val_main_v66, val_main_v3, val_main_v16, val_main_v17, val_main_v21, val_main_cst_5, val_main_v22, val_main_v23, H,
      ref_rs, sum_unit01]
    exact Finset.sum_congr rfl fun n _ => mul_comm _ _
  · obtain rfl : r = 4 := Fin.ext h
    pointwise [val_main_v96, val_main_v95, val_main_cst_19]
  · obtain rfl : r = 5 := Fin.ext h
    pointwise [val_main_v96, val_main_v95, val_main_cst_19]
  · obtain rfl : r = 6 := Fin.ext h
    pointwise [val_main_v96, val_main_v95, val_main_cst_19]
  · obtain rfl : r = 7 := Fin.ext h
    pointwise [val_main_v96, val_main_v95, val_main_cst_19]

end Cert.Ffn

end
-- ==== Proof.Ffn.Claim.lean ====
/- The claim that the kernel `Ffn` and its reference end with equal results. -/
module

public import proofs.«01_k».proof.Defs
public import proofs.«01_k».proof.Proof.Ffn.RefPoint
public import proofs.«01_k».proof.Proof.Common.Finite
public import proofs.«01_k».proof.Proof.Gen.FfnRefIdeal.Run

@[expose] public section

set_option maxRecDepth 16384

noncomputable section

open Idealize.ShloMosaic Idealize.ShloMosaic.TcCoe Idealize.SL.Sem

namespace Cert.Ffn.Claims

open Cert.Ffn Cert.Common Cert.FfnRefIdeal.Read

/-- The side conditions of the operations the precondition is made of. -/
instance preFacts : Cert.Pre_finite_ffn.Facts where
  bcast_S_S1x3072 := by decide
  reducesTo_S1x3072_S_d0_1 := by decide
  h_S_ := by decide
  bcast_S_S1024 := by decide
  reducesTo_S1024_S_d0 := by decide
  bcast_S_S1024x5632 := by decide
  reducesTo_S1024x5632_S_d0_1 := by decide
  bcast_S_S2816x1024 := by decide
  reducesTo_S2816x1024_S_d0_1 := by decide
  bcast_S_S1x2048x1024 := by decide
  reducesTo_S1x2048x1024_S_d0_1_2 := by decide

/-- What the precondition says: the entries of the five arguments it names are real numbers. -/
theorem real_args [Cert.Pre_finite_ffn.Facts] (x : FVec Ideal Cert.FfnIdeal.S1x2048x1024 .f32) (mod : FVec Ideal Cert.FfnIdeal.S1x3072 .f32)
    (g : FVec Ideal Cert.FfnIdeal.S1024 .f32) (w : FVec Ideal Cert.FfnIdeal.S1024x5632 .f32) (wo : FVec Ideal Cert.FfnIdeal.S2816x1024 .f32)
    (ct : FVec Ideal Cert.FfnIdeal.S1x2048x1024 .f32) (h : Cert.Pre_finite_ffn.fn (F := Ideal) x mod g w wo ct = fun _ => 1#1) :
    (∀ i, IsReal (mod i)) ∧ (∀ i, IsReal (g i)) ∧ (∀ i, IsReal (w i)) ∧ (∀ i, IsReal (wo i)) ∧ ∀ i, IsReal (ct i) := by
  have e := congrFun h (fun a : Fin 0 => a.elim0)
  dsimp only [Cert.Pre_finite_ffn.fn, Cert.Pre_finite_ffn.fn_part1] at e
  obtain ⟨e, h5⟩ := andi_one e
  obtain ⟨e, h4⟩ := andi_one e
  obtain ⟨e, h3⟩ := andi_one e
  obtain ⟨h1, h2⟩ := andi_one e
  exact ⟨isReal_of_all mod _ _ _ _ h1, isReal_of_all g _ _ _ _ h2, isReal_of_all w _ _ _ _ h3, isReal_of_all wo _ _ _ _ h4,
    isReal_of_all ct _ _ _ _ h5⟩

/-- So the factors and the cotangent of the gated product are real. -/
theorem real_factors [Cert.Pre_finite_ffn.Facts] (x : FVec Ideal Cert.FfnIdeal.S1x2048x1024 .f32) (mod : FVec Ideal Cert.FfnIdeal.S1x3072 .f32)
    (g : FVec Ideal Cert.FfnIdeal.S1024 .f32) (w : FVec Ideal Cert.FfnIdeal.S1024x5632 .f32) (wo : FVec Ideal Cert.FfnIdeal.S2816x1024 .f32)
    (ct : FVec Ideal Cert.FfnIdeal.S1x2048x1024 .f32) (h : Cert.Pre_finite_ffn.fn (F := Ideal) x mod g w wo ct = fun _ => 1#1) :
    RealFactors x mod g w wo ct := by
  obtain ⟨rmod, rg, rw', rwo, rct⟩ := real_args x mod g w wo ct h
  exact ⟨fun n k => da_real (fun l => rmod _) (fun l => rct _) (fun k l => rwo _) k,
    fun n k => fac_real (fun l => rmod _) (fun l => rmod _) (fun l => rg _) (fun l k => rw' _) k⟩

set_option maxHeartbeats 4000000 in
/-- From the same arguments, the five named ones real, the kernel and the reference end with equal results. -/
theorem algebraic : Cert.algebraic_FfnIdeal_FfnRefIdeal_pre_finite_ffn := by
  pair_intro
  · run_from Cert.FfnIdeal.Gen.run_main m g
    all_goals
      simp only [Cert.FfnIdeal.Gen.hostOps0, Cert.FfnIdeal.Gen.hostOps0_1, Cert.FfnIdeal.Gen.hostOps0_2, List.flatten_cons, List.flatten_nil,
        List.append_nil, List.cons_append, List.nil_append]
      after_results
  · refine (θ_run _ _ _).mono (fun r h c => ?_) (Cert.FfnRefIdeal.Value.run m' g')
    obtain ⟨h0, h1, h2, h3, hargs⟩ := h c
    obtain ⟨a0, a1, a2, a3, a4, a5⟩ := hagree c
    have hr := real_factors _ _ _ _ _ _ (hpre c)
    refine ⟨h0.trans ((val_main_v99_eq m' c).trans (Eq.trans ?_ (final6 m c).symm)),
      h1.trans ((val_main_v100_eq m' c).trans (Eq.trans ?_ (final7 m c).symm)),
      h2.trans ((val_main_v102_eq _ _).trans (Eq.trans ?_ (final8 m c).symm)),
      h3.trans ((val_main_v96_eq m' c).trans (Eq.trans ?_ (final9 m c).symm)), hargs⟩
    · funext y
      idx_vars y
      rw [a0, a1, a2, a3, a4, a5]
      refine (ref_dx _ _ _ _ _ _ hr y0 y1).trans ?_
      rfl
    · funext y
      idx_vars y
      rw [a0, a1, a2, a3, a4, a5]
      refine (ref_dgu _ _ _ _ _ _ hr y0 y1 y2).trans ?_
      rfl
    · funext y
      idx_vars y
      refine (ref_dy _ _ y0 y1).trans ?_
      rw [a1, a5]
      rfl
    · funext y
      idx_vars y
      rw [a0, a1, a2, a3, a4, a5]
      refine (ref_stats _ _ _ _ _ _ hr y0 y1).trans ?_
      rfl

end Cert.Ffn.Claims

end
-- ==== Proof.Ffn.Ref.lean ====
/- The frame of the reference of `Ffn`. -/
module

public import proofs.«01_k».proof.Defs
public import proofs.«01_k».proof.Proof.Gen.FfnRefIdeal
public import Idealize.ShloMosaic.Lib.Claim

@[expose] public section

set_option maxRecDepth 16384

namespace Cert.FfnRefIdeal.Gen
open Idealize.ShloMosaic Idealize.SL.Sem

set_option maxHeartbeats 8000000 in
/-- Every execution of the reference ends, faults nowhere and leaves the arguments as they were. -/
theorem frame : Cert.quiescent_FfnRefIdeal := by
  intro m g _
  hlo_run
  · intro c
    simp only [and_self]
  · refine sem_eq_zero_of_no_sems ?_ _
    decide

end Cert.FfnRefIdeal.Gen
-- ==== Proof.Head.RunA.lean ====
/- The body of `Head` at the first point of its grid. -/
module

public import proofs.«01_k».proof.Proof.Gen.HeadIdeal.Frame.Runs

@[expose] public section

set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body at a first point, run: the pieces it stores into each output and scratch. -/
noncomputable def kernelRun0_A (c : Dev nD) (i : grid0.Coords) (arg1 : Memref sig .tc .vmem S256x1024 .f32) (harg1 : arg1.IsWhole) (arg2 : Memref sig .tc .vmem S8x1024 .f32) (harg2 : arg2.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .f32) (harg11 : arg11.IsWhole) (arg12 : Memref sig .tc .vmem S11x256x256 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S256x2816 .bf16) (harg17 : arg17.IsWhole) (arg19 : Memref sig .tc .vmem S8x1024 .f32) (harg19 : arg19.IsWhole) (arg20 : Memref sig .tc .vmem S8x1024 .f32) (harg20 : arg20.IsWhole) (hc0 : cond0_0 i) (hc1 : ¬cond0_1 i)
    (x0 : Vec F S256x1024 .f32) (x1 : Vec F S8x1024 .f32) (x2 : Vec F S1x1024 .f32) (x3 : Vec F S256x1024 .f32) (fh0 : HbBuf0 (F := F) c hbM0_0) (fh1 : HbBuf0 (F := F) c hbM0_1) :
    Σ' (L4 : List (View.Piece (Elt F) S256x1024 .f32)), Σ' (L5 : List (View.Piece (Elt F) S256x1024 .bf16)), Σ' (L6 : List (View.Piece (Elt F) S11x256x256 .bf16)), Σ' (L7 : List (View.Piece (Elt F) S11x256x256 .bf16)), Σ' (L8 : List (View.Piece (Elt F) S256x1024 .f32)), Σ' (L9 : List (View.Piece (Elt F) S11x256x256 .bf16)), Σ' (L10 : List (View.Piece (Elt F) S8x128 .f32)), Σ' (L11 : List (View.Piece (Elt F) S8x1024 .f32)), Σ' (LS0 : List (View.Piece (Elt F) S5632x1024 .bf16)), Σ' (LS1 : List (View.Piece (Elt F) S2816x1024 .bf16)), Σ' (LS3 : List (View.Piece (Elt F) S8x1024 .f32)), Σ' (LS4 : List (View.Piece (Elt F) S8x1024 .f32)), { LT2 : List (View.Piece (Elt F) S256x2816 .bf16) //
      ∀ (xi10 : Vec F S8x128 .f32) (xi11 : Vec F S8x1024 .f32) (W : Waits sig Unit) (K : PUnit → sProp 𝕄),
        iprop(owns (c : Thread nD τ) arg1 fullShare x0 ∗ owns (c : Thread nD τ) arg2 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xi10 ∗ owns (c : Thread nD τ) arg14 fullShare xi11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d) ∗ (∃ d, owns (c : Thread nD τ) arg20 fullShare d) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_3 i arg1 harg1 arg2 harg2 (Memref.whole main_v7) (Memref.isWhole_whole _) (Memref.whole main_v9) (Memref.isWhole_whole _) arg5 harg5 arg6 harg6 arg7 harg7 arg8 harg8 arg9 harg9 arg10 harg10 arg11 harg11 arg12 harg12 arg13 harg13 arg14 harg14 arg15 harg15 arg16 harg16 arg17 harg17 cc0_scratch3 arg19 harg19 arg20 harg20) K } := by
  refine ⟨?_, ?_, ?_, ?_, ?_, ?_, [], [], ?_, ?_, ?_, ?_, ?_, fun xi10 xi11 W K => ?run⟩
  case run =>
    simp only [cc0_ffn_fwd_3_eq_skeleton]; unfold cc0_ffn_fwd_3_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg5.eq_unread hf2; obtain rfl := harg6.eq_unread hf3; obtain rfl := harg13.eq_unread hf10; obtain rfl := harg14.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.HeadIdeal.Gen

end
-- ==== Proof.Head.RunB.lean ====
/- The body of `Head` at the middle point of its grid. -/
module

public import proofs.«01_k».proof.Proof.Gen.HeadIdeal.Frame.Runs

@[expose] public section

set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a middle point, run: the pieces it stores into each output and scratch. -/
noncomputable def kernelRun0_B (c : Dev nD) (i : grid0.Coords) (arg1 : Memref sig .tc .vmem S256x1024 .f32) (harg1 : arg1.IsWhole) (arg2 : Memref sig .tc .vmem S8x1024 .f32) (harg2 : arg2.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .f32) (harg11 : arg11.IsWhole) (arg12 : Memref sig .tc .vmem S11x256x256 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S256x2816 .bf16) (harg17 : arg17.IsWhole) (arg19 : Memref sig .tc .vmem S8x1024 .f32) (harg19 : arg19.IsWhole) (arg20 : Memref sig .tc .vmem S8x1024 .f32) (harg20 : arg20.IsWhole) (hc0 : ¬cond0_0 i) (hc1 : ¬cond0_1 i)
    (x0 : Vec F S256x1024 .f32) (x1 : Vec F S8x1024 .f32) (x2 : Vec F S1x1024 .f32) (x3 : Vec F S256x1024 .f32) (xs0 : Vec F S5632x1024 .bf16) (xs1 : Vec F S2816x1024 .bf16) (xs3 : Vec F S8x1024 .f32) (xs4 : Vec F S8x1024 .f32) (fh0 : HbBuf0 (F := F) c hbM0_0) (fh1 : HbBuf0 (F := F) c hbM0_1) :
    Σ' (L4 : List (View.Piece (Elt F) S256x1024 .f32)), Σ' (L5 : List (View.Piece (Elt F) S256x1024 .bf16)), Σ' (L6 : List (View.Piece (Elt F) S11x256x256 .bf16)), Σ' (L7 : List (View.Piece (Elt F) S11x256x256 .bf16)), Σ' (L8 : List (View.Piece (Elt F) S256x1024 .f32)), Σ' (L9 : List (View.Piece (Elt F) S11x256x256 .bf16)), Σ' (L10 : List (View.Piece (Elt F) S8x128 .f32)), Σ' (L11 : List (View.Piece (Elt F) S8x1024 .f32)), Σ' (LS0 : List (View.Piece (Elt F) S5632x1024 .bf16)), Σ' (LS1 : List (View.Piece (Elt F) S2816x1024 .bf16)), Σ' (LS3 : List (View.Piece (Elt F) S8x1024 .f32)), Σ' (LS4 : List (View.Piece (Elt F) S8x1024 .f32)), { LT2 : List (View.Piece (Elt F) S256x2816 .bf16) //
      ∀ (xi10 : Vec F S8x128 .f32) (xi11 : Vec F S8x1024 .f32) (W : Waits sig Unit) (K : PUnit → sProp 𝕄),
        iprop(owns (c : Thread nD τ) arg1 fullShare x0 ∗ owns (c : Thread nD τ) arg2 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xi10 ∗ owns (c : Thread nD τ) arg14 fullShare xi11 ∗ owns (c : Thread nD τ) arg15 fullShare xs0 ∗ owns (c : Thread nD τ) arg16 fullShare xs1 ∗ (∃ d, owns (c : Thread nD τ) arg17 fullShare d) ∗ owns (c : Thread nD τ) arg19 fullShare xs3 ∗ owns (c : Thread nD τ) arg20 fullShare xs4 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xi10 ∗ owns (c : Thread nD τ) arg14 fullShare xi11 ∗ owns (c : Thread nD τ) arg15 fullShare xs0 ∗ owns (c : Thread nD τ) arg16 fullShare xs1 ∗ (∃ f, arg17.view.loc (c : Thread nD τ) ↦[arg17.view.set]{fullShare} arg17.view.writes (Elt F) f LT2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_3 i arg1 harg1 arg2 harg2 (Memref.whole main_v7) (Memref.isWhole_whole _) (Memref.whole main_v9) (Memref.isWhole_whole _) arg5 harg5 arg6 harg6 arg7 harg7 arg8 harg8 arg9 harg9 arg10 harg10 arg11 harg11 arg12 harg12 arg13 harg13 arg14 harg14 arg15 harg15 arg16 harg16 arg17 harg17 cc0_scratch3 arg19 harg19 arg20 harg20) K } := by
  refine ⟨?_, ?_, ?_, ?_, ?_, ?_, [], [], [], [], ?_, ?_, ?_, fun xi10 xi11 W K => ?run⟩
  case run =>
    simp only [cc0_ffn_fwd_3_eq_skeleton]; unfold cc0_ffn_fwd_3_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%fs0, %hfs0, HS0⟩, ⟨%fs1, %hfs1, HS1⟩, ⟨%ds2, %fs2, -, HS2⟩, ⟨%fs3, %hfs3, HS3⟩, ⟨%fs4, %hfs4, HS4⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg5.eq_unread hf2; obtain rfl := harg6.eq_unread hf3; obtain rfl := harg13.eq_unread hf10; obtain rfl := harg14.eq_unread hf11; obtain rfl := harg15.eq_unread hfs0; obtain rfl := harg16.eq_unread hfs1; obtain rfl := harg19.eq_unread hfs3; obtain rfl := harg20.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg13.read_unread _
      iexact H10
    isplitl [H11]
    · iexists _; isplitr; · ipureintro; exact harg14.read_unread _
      iexact H11
    isplitl [HS0]
    · iexists _; isplitr; · ipureintro; exact harg15.read_unread _
      iexact HS0
    isplitl [HS1]
    · iexists _; isplitr; · ipureintro; exact harg16.read_unread _
      iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.HeadIdeal.Gen

end
-- ==== Proof.Head.RunC.lean ====
/- The body of `Head` at the last point of its grid. -/
module

public import proofs.«01_k».proof.Proof.Gen.HeadIdeal.Frame.Runs

@[expose] public section

set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a last point, run: the pieces it stores into each output and scratch. -/
noncomputable def kernelRun0_C (c : Dev nD) (i : grid0.Coords) (arg1 : Memref sig .tc .vmem S256x1024 .f32) (harg1 : arg1.IsWhole) (arg2 : Memref sig .tc .vmem S8x1024 .f32) (harg2 : arg2.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .f32) (harg11 : arg11.IsWhole) (arg12 : Memref sig .tc .vmem S11x256x256 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S256x2816 .bf16) (harg17 : arg17.IsWhole) (arg19 : Memref sig .tc .vmem S8x1024 .f32) (harg19 : arg19.IsWhole) (arg20 : Memref sig .tc .vmem S8x1024 .f32) (harg20 : arg20.IsWhole) (hc0 : ¬cond0_0 i) (hc1 : cond0_1 i)
    (x0 : Vec F S256x1024 .f32) (x1 : Vec F S8x1024 .f32) (x2 : Vec F S1x1024 .f32) (x3 : Vec F S256x1024 .f32) (xs0 : Vec F S5632x1024 .bf16) (xs1 : Vec F S2816x1024 .bf16) (xs3 : Vec F S8x1024 .f32) (xs4 : Vec F S8x1024 .f32) (fh0 : HbBuf0 (F := F) c hbM0_0) (fh1 : HbBuf0 (F := F) c hbM0_1) :
    Σ' (L4 : List (View.Piece (Elt F) S256x1024 .f32)), Σ' (L5 : List (View.Piece (Elt F) S256x1024 .bf16)), Σ' (L6 : List (View.Piece (Elt F) S11x256x256 .bf16)), Σ' (L7 : List (View.Piece (Elt F) S11x256x256 .bf16)), Σ' (L8 : List (View.Piece (Elt F) S256x1024 .f32)), Σ' (L9 : List (View.Piece (Elt F) S11x256x256 .bf16)), Σ' (L10 : List (View.Piece (Elt F) S8x128 .f32)), Σ' (L11 : List (View.Piece (Elt F) S8x1024 .f32)), Σ' (LS0 : List (View.Piece (Elt F) S5632x1024 .bf16)), Σ' (LS1 : List (View.Piece (Elt F) S2816x1024 .bf16)), Σ' (LS3 : List (View.Piece (Elt F) S8x1024 .f32)), Σ' (LS4 : List (View.Piece (Elt F) S8x1024 .f32)), { LT2 : List (View.Piece (Elt F) S256x2816 .bf16) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ (∃ d, owns (c : Thread nD τ) arg17 fullShare d) ∗ owns (c : Thread nD τ) arg19 fullShare xs3 ∗ owns (c : Thread nD τ) arg20 fullShare xs4 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ owns (c : Thread nD τ) arg16 fullShare xs1 ∗ (∃ f, arg17.view.loc (c : Thread nD τ) ↦[arg17.view.set]{fullShare} arg17.view.writes (Elt F) f LT2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_3 i arg1 harg1 arg2 harg2 (Memref.whole main_v7) (Memref.isWhole_whole _) (Memref.whole main_v9) (Memref.isWhole_whole _) arg5 harg5 arg6 harg6 arg7 harg7 arg8 harg8 arg9 harg9 arg10 harg10 arg11 harg11 arg12 harg12 arg13 harg13 arg14 harg14 arg15 harg15 arg16 harg16 arg17 harg17 cc0_scratch3 arg19 harg19 arg20 harg20) K } := by
  refine ⟨?_, ?_, ?_, ?_, ?_, ?_, ?_, ?_, [], [], ?_, ?_, ?_, fun W K => ?run⟩
  case run =>
    simp only [cc0_ffn_fwd_3_eq_skeleton]; unfold cc0_ffn_fwd_3_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%ds2, %fs2, -, HS2⟩, ⟨%fs3, %hfs3, HS3⟩, ⟨%fs4, %hfs4, HS4⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg5.eq_unread hf2; obtain rfl := harg6.eq_unread hf3; obtain rfl := harg15.eq_unread hfs0; obtain rfl := harg16.eq_unread hfs1; obtain rfl := harg19.eq_unread hfs3; obtain rfl := harg20.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]
    · iexists _; isplitr; · ipureintro; exact harg15.read_unread _
      iexact HS0
    isplitl [HS1]
    · iexists _; isplitr; · ipureintro; exact harg16.read_unread _
      iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.HeadIdeal.Gen

end
-- ==== Proof.Head.Frame.lean ====
/- The frame of the program `Head`, for any arithmetic: three cases of the grid point (the first, a middle one, the last), the
   contents each leaves, and the run of the launch. -/
module

public import proofs.«01_k».proof.Proof.Head.RunA
public import proofs.«01_k».proof.Proof.Head.RunB
public import proofs.«01_k».proof.Proof.Head.RunC
public import proofs.«01_k».proof.Proof.Common.Owned
public import Idealize.ShloMosaic.Lib.Claim

@[expose] public section

set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Common (owns_written)
open Idealize.ShloMosaic.Pipeline (Dat Cfg Window BodyObligation cellOf)

variable {F : FTy → Type} [FloatOps F]

local notation "𝕄" => MT nD τ sig Unit (Elt F) ℕ (Pipeline.UD sig nD τ) ℕ

/-- The contents carried from one point to the next: the outputs in window order, then the scratch. -/
abbrev Outs (F : FTy → Type) : Type := Vec F S256x1024 .f32 × Vec F S256x1024 .bf16 × Vec F S11x256x256 .bf16 × Vec F S11x256x256 .bf16 × Vec F S256x1024 .f32 × Vec F S11x256x256 .bf16 × Vec F S8x128 .f32 × Vec F S8x1024 .f32 × Vec F S5632x1024 .bf16 × Vec F S2816x1024 .bf16 × Vec F S8x1024 .f32 × Vec F S8x1024 .f32

variable (m : (ℓ : Loc nD τ sig) → Buf (Elt F) ℓ) (ρ : Dev nD → PrngReg)

/-- The case A run of the body at point `t`, at the memrefs and input blocks of that point. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (V m c main_v7) (V m c main_v9)

/-- The case B run of the body at point `t`, at the memrefs and input blocks of that point. -/
abbrev runB (c : Dev nD) (t : Fin cfg0.N) (h0 : ¬t.val % 8 = 0) (h1 : ¬t.val % 8 = 7) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) p.2.2.2.2.2.2.2.2.1 p.2.2.2.2.2.2.2.2.2.1 p.2.2.2.2.2.2.2.2.2.2.1 p.2.2.2.2.2.2.2.2.2.2.2 (V m c main_v7) (V m c main_v9)

/-- The case C run of the body at point `t`, at the memrefs and input blocks of that point. -/
abbrev runC (c : Dev nD) (t : Fin cfg0.N) (h0 : ¬t.val % 8 = 0) (h1 : t.val % 8 = 7) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) p.2.2.2.2.2.2.2.2.1 p.2.2.2.2.2.2.2.2.2.1 p.2.2.2.2.2.2.2.2.2.2.1 p.2.2.2.2.2.2.2.2.2.2.2 (V m c main_v7) (V m c main_v9)

theorem coverA_4 (c : Dev nD) (t : Fin cfg0.N) (h0 : t.val % 8 = 0) (h1 : ¬t.val % 8 = 7) (y : S256x1024.Idx) :
    ∃ pc ∈ (runA m c t h0 h1).1, y ∈ pc.1.set :=
  View.cover_of_tiledL (runA m c t h0 h1).1 S256x1024.size (by sl_kernel_rfl) y

def outA_4 (c : Dev nD) (t : Fin cfg0.N) (h0 : t.val % 8 = 0) (h1 : ¬t.val % 8 = 7) : Vec F S256x1024 .f32 :=
  VO0_4.read (Elt F) (VO0_4.writes (Elt F) VO0_4.junk (runA m c t h0 h1).1)

theorem coverA_5 (c : Dev nD) (t : Fin cfg0.N) (h0 : t.val % 8 = 0) (h1 : ¬t.val % 8 = 7) (y : S256x1024.Idx) :
    ∃ pc ∈ (runA m c t h0 h1).2.1, y ∈ pc.1.set :=
  View.cover_of_tiledL (runA m c t h0 h1).2.1 S256x1024.size (by sl_kernel_rfl) y

def outA_5 (c : Dev nD) (t : Fin cfg0.N) (h0 : t.val % 8 = 0) (h1 : ¬t.val % 8 = 7) : Vec F S256x1024 .bf16 :=
  VO0_5.read (Elt F) (VO0_5.writes (Elt F) VO0_5.junk (runA m c t h0 h1).2.1)

theorem coverA_6 (c : Dev nD) (t : Fin cfg0.N) (h0 : t.val % 8 = 0) (h1 : ¬t.val % 8 = 7) (y : S11x256x256.Idx) :
    ∃ pc ∈ (runA m c t h0 h1).2.2.1, y ∈ pc.1.set :=
  View.cover_of_tiledL (runA m c t h0 h1).2.2.1 S1x256x256.size (by sl_kernel_rfl) y

def outA_6 (c : Dev nD) (t : Fin cfg0.N) (h0 : t.val % 8 = 0) (h1 : ¬t.val % 8 = 7) : Vec F S11x256x256 .bf16 :=
  VO0_6.read (Elt F) (VO0_6.writes (Elt F) VO0_6.junk (runA m c t h0 h1).2.2.1)

theorem coverA_7 (c : Dev nD) (t : Fin cfg0.N) (h0 : t.val % 8 = 0) (h1 : ¬t.val % 8 = 7) (y : S11x256x256.Idx) :
    ∃ pc ∈ (runA m c t h0 h1).2.2.2.1, y ∈ pc.1.set :=
  View.cover_of_tiledL (runA m c t h0 h1).2.2.2.1 S1x256x256.size (by sl_kernel_rfl) y

def outA_7 (c : Dev nD) (t : Fin cfg0.N) (h0 : t.val % 8 = 0) (h1 : ¬t.val % 8 = 7) : Vec F S11x256x256 .bf16 :=
  VO0_7.read (Elt F) (VO0_7.writes (Elt F) VO0_7.junk (runA m c t h0 h1).2.2.2.1)

theorem coverA_8 (c : Dev nD) (t : Fin cfg0.N) (h0 : t.val % 8 = 0) (h1 : ¬t.val % 8 = 7) (y : S256x1024.Idx) :
    ∃ pc ∈ (runA m c t h0 h1).2.2.2.2.1, y ∈ pc.1.set :=
  View.cover_of_tiledL (runA m c t h0 h1).2.2.2.2.1 S256x1024.size (by sl_kernel_rfl) y

def outA_8 (c : Dev nD) (t : Fin cfg0.N) (h0 : t.val % 8 = 0) (h1 : ¬t.val % 8 = 7) : Vec F S256x1024 .f32 :=
  VO0_8.read (Elt F) (VO0_8.writes (Elt F) VO0_8.junk (runA m c t h0 h1).2.2.2.2.1)

theorem coverA_9 (c : Dev nD) (t : Fin cfg0.N) (h0 : t.val % 8 = 0) (h1 : ¬t.val % 8 = 7) (y : S11x256x256.Idx) :
    ∃ pc ∈ (runA m c t h0 h1).2.2.2.2.2.1, y ∈ pc.1.set :=
  View.cover_of_tiledL (runA m c t h0 h1).2.2.2.2.2.1 S1x256x256.size (by sl_kernel_rfl) y

def outA_9 (c : Dev nD) (t : Fin cfg0.N) (h0 : t.val % 8 = 0) (h1 : ¬t.val % 8 = 7) : Vec F S11x256x256 .bf16 :=
  VO0_9.read (Elt F) (VO0_9.writes (Elt F) VO0_9.junk (runA m c t h0 h1).2.2.2.2.2.1)

def outA_10 (c : Dev nD) (t : Fin cfg0.N) (h0 : t.val % 8 = 0) (h1 : ¬t.val % 8 = 7) : Vec F S8x128 .f32 :=
  VO0_10.read (Elt F) (VO0_10.writes (Elt F) VO0_10.junk (runA m c t h0 h1).2.2.2.2.2.2.1)

def outA_11 (c : Dev nD) (t : Fin cfg0.N) (h0 : t.val % 8 = 0) (h1 : ¬t.val % 8 = 7) : Vec F S8x1024 .f32 :=
  VO0_11.read (Elt F) (VO0_11.writes (Elt F) VO0_11.junk (runA m c t h0 h1).2.2.2.2.2.2.2.1)

theorem scoverA_0 (c : Dev nD) (t : Fin cfg0.N) (h0 : t.val % 8 = 0) (h1 : ¬t.val % 8 = 7) (y : S5632x1024.Idx) :
    ∃ pc ∈ (runA m c t h0 h1).2.2.2.2.2.2.2.2.1, y ∈ pc.1.set :=
  View.cover_of_tiledL (runA m c t h0 h1).2.2.2.2.2.2.2.2.1 S704x1024.size (by sl_kernel_rfl) y

def soutA_0 (c : Dev nD) (t : Fin cfg0.N) (h0 : t.val % 8 = 0) (h1 : ¬t.val % 8 = 7) : Vec F S5632x1024 .bf16 :=
  VS0_0.read (Elt F) (VS0_0.writes (Elt F) VS0_0.junk (runA m c t h0 h1).2.2.2.2.2.2.2.2.1)

theorem scoverA_1 (c : Dev nD) (t : Fin cfg0.N) (h0 : t.val % 8 = 0) (h1 : ¬t.val % 8 = 7) (y : S2816x1024.Idx) :
    ∃ pc ∈ (runA m c t h0 h1).2.2.2.2.2.2.2.2.2.1, y ∈ pc.1.set :=
  View.cover_of_tiledL (runA m c t h0 h1).2.2.2.2.2.2.2.2.2.1 S352x1024.size (by sl_kernel_rfl) y

def soutA_1 (c : Dev nD) (t : Fin cfg0.N) (h0 : t.val % 8 = 0) (h1 : ¬t.val % 8 = 7) : Vec F S2816x1024 .bf16 :=
  VS0_1.read (Elt F) (VS0_1.writes (Elt F) VS0_1.junk (runA m c t h0 h1).2.2.2.2.2.2.2.2.2.1)

theorem scoverA_3 (c : Dev nD) (t : Fin cfg0.N) (h0 : t.val % 8 = 0) (h1 : ¬t.val % 8 = 7) (y : S8x1024.Idx) :
    ∃ pc ∈ (runA m c t h0 h1).2.2.2.2.2.2.2.2.2.2.1, y ∈ pc.1.set :=
  View.cover_of_tiledL (runA m c t h0 h1).2.2.2.2.2.2.2.2.2.2.1 S8x1024.size (by sl_kernel_rfl) y

def soutA_3 (c : Dev nD) (t : Fin cfg0.N) (h0 : t.val % 8 = 0) (h1 : ¬t.val % 8 = 7) : Vec F S8x1024 .f32 :=
  VS0_3.read (Elt F) (VS0_3.writes (Elt F) VS0_3.junk (runA m c t h0 h1).2.2.2.2.2.2.2.2.2.2.1)

theorem scoverA_4 (c : Dev nD) (t : Fin cfg0.N) (h0 : t.val % 8 = 0) (h1 : ¬t.val % 8 = 7) (y : S8x1024.Idx) :
    ∃ pc ∈ (runA m c t h0 h1).2.2.2.2.2.2.2.2.2.2.2.1, y ∈ pc.1.set :=
  View.cover_of_tiledL (runA m c t h0 h1).2.2.2.2.2.2.2.2.2.2.2.1 S8x1024.size (by sl_kernel_rfl) y

def soutA_4 (c : Dev nD) (t : Fin cfg0.N) (h0 : t.val % 8 = 0) (h1 : ¬t.val % 8 = 7) : Vec F S8x1024 .f32 :=
  VS0_4.read (Elt F) (VS0_4.writes (Elt F) VS0_4.junk (runA m c t h0 h1).2.2.2.2.2.2.2.2.2.2.2.1)

theorem coverB_4 (c : Dev nD) (t : Fin cfg0.N) (h0 : ¬t.val % 8 = 0) (h1 : ¬t.val % 8 = 7) (p : Outs F) (y : S256x1024.Idx) :
    ∃ pc ∈ (runB m c t h0 h1 p).1, y ∈ pc.1.set :=
  View.cover_of_tiledL (runB m c t h0 h1 p).1 S256x1024.size (by sl_kernel_rfl) y

def outB_4 (c : Dev nD) (t : Fin cfg0.N) (h0 : ¬t.val % 8 = 0) (h1 : ¬t.val % 8 = 7) (p : Outs F) : Vec F S256x1024 .f32 :=
  VO0_4.read (Elt F) (VO0_4.writes (Elt F) VO0_4.junk (runB m c t h0 h1 p).1)

theorem coverB_5 (c : Dev nD) (t : Fin cfg0.N) (h0 : ¬t.val % 8 = 0) (h1 : ¬t.val % 8 = 7) (p : Outs F) (y : S256x1024.Idx) :
    ∃ pc ∈ (runB m c t h0 h1 p).2.1, y ∈ pc.1.set :=
  View.cover_of_tiledL (runB m c t h0 h1 p).2.1 S256x1024.size (by sl_kernel_rfl) y

def outB_5 (c : Dev nD) (t : Fin cfg0.N) (h0 : ¬t.val % 8 = 0) (h1 : ¬t.val % 8 = 7) (p : Outs F) : Vec F S256x1024 .bf16 :=
  VO0_5.read (Elt F) (VO0_5.writes (Elt F) VO0_5.junk (runB m c t h0 h1 p).2.1)

theorem coverB_6 (c : Dev nD) (t : Fin cfg0.N) (h0 : ¬t.val % 8 = 0) (h1 : ¬t.val % 8 = 7) (p : Outs F) (y : S11x256x256.Idx) :
    ∃ pc ∈ (runB m c t h0 h1 p).2.2.1, y ∈ pc.1.set :=
  View.cover_of_tiledL (runB m c t h0 h1 p).2.2.1 S1x256x256.size (by sl_kernel_rfl) y

def outB_6 (c : Dev nD) (t : Fin cfg0.N) (h0 : ¬t.val % 8 = 0) (h1 : ¬t.val % 8 = 7) (p : Outs F) : Vec F S11x256x256 .bf16 :=
  VO0_6.read (Elt F) (VO0_6.writes (Elt F) VO0_6.junk (runB m c t h0 h1 p).2.2.1)

theorem coverB_7 (c : Dev nD) (t : Fin cfg0.N) (h0 : ¬t.val % 8 = 0) (h1 : ¬t.val % 8 = 7) (p : Outs F) (y : S11x256x256.Idx) :
    ∃ pc ∈ (runB m c t h0 h1 p).2.2.2.1, y ∈ pc.1.set :=
  View.cover_of_tiledL (runB m c t h0 h1 p).2.2.2.1 S1x256x256.size (by sl_kernel_rfl) y

def outB_7 (c : Dev nD) (t : Fin cfg0.N) (h0 : ¬t.val % 8 = 0) (h1 : ¬t.val % 8 = 7) (p : Outs F) : Vec F S11x256x256 .bf16 :=
  VO0_7.read (Elt F) (VO0_7.writes (Elt F) VO0_7.junk (runB m c t h0 h1 p).2.2.2.1)

theorem coverB_8 (c : Dev nD) (t : Fin cfg0.N) (h0 : ¬t.val % 8 = 0) (h1 : ¬t.val % 8 = 7) (p : Outs F) (y : S256x1024.Idx) :
    ∃ pc ∈ (runB m c t h0 h1 p).2.2.2.2.1, y ∈ pc.1.set :=
  View.cover_of_tiledL (runB m c t h0 h1 p).2.2.2.2.1 S256x1024.size (by sl_kernel_rfl) y

def outB_8 (c : Dev nD) (t : Fin cfg0.N) (h0 : ¬t.val % 8 = 0) (h1 : ¬t.val % 8 = 7) (p : Outs F) : Vec F S256x1024 .f32 :=
  VO0_8.read (Elt F) (VO0_8.writes (Elt F) VO0_8.junk (runB m c t h0 h1 p).2.2.2.2.1)

theorem coverB_9 (c : Dev nD) (t : Fin cfg0.N) (h0 : ¬t.val % 8 = 0) (h1 : ¬t.val % 8 = 7) (p : Outs F) (y : S11x256x256.Idx) :
    ∃ pc ∈ (runB m c t h0 h1 p).2.2.2.2.2.1, y ∈ pc.1.set :=
  View.cover_of_tiledL (runB m c t h0 h1 p).2.2.2.2.2.1 S1x256x256.size (by sl_kernel_rfl) y

def outB_9 (c : Dev nD) (t : Fin cfg0.N) (h0 : ¬t.val % 8 = 0) (h1 : ¬t.val % 8 = 7) (p : Outs F) : Vec F S11x256x256 .bf16 :=
  VO0_9.read (Elt F) (VO0_9.writes (Elt F) VO0_9.junk (runB m c t h0 h1 p).2.2.2.2.2.1)

def outB_10 (c : Dev nD) (t : Fin cfg0.N) (h0 : ¬t.val % 8 = 0) (h1 : ¬t.val % 8 = 7) (p : Outs F) : Vec F S8x128 .f32 :=
  VO0_10.read (Elt F) (VO0_10.writes (Elt F) VO0_10.junk (runB m c t h0 h1 p).2.2.2.2.2.2.1)

def outB_11 (c : Dev nD) (t : Fin cfg0.N) (h0 : ¬t.val % 8 = 0) (h1 : ¬t.val % 8 = 7) (p : Outs F) : Vec F S8x1024 .f32 :=
  VO0_11.read (Elt F) (VO0_11.writes (Elt F) VO0_11.junk (runB m c t h0 h1 p).2.2.2.2.2.2.2.1)

def soutB_0 (m : (ℓ : Loc nD τ sig) → Buf (Elt F) ℓ) (c : Dev nD) (t : Fin cfg0.N) (h0 : ¬t.val % 8 = 0) (h1 : ¬t.val % 8 = 7) (p : Outs F) : Vec F S5632x1024 .bf16 :=
  (p.2.2.2.2.2.2.2.2.1)

def soutB_1 (m : (ℓ : Loc nD τ sig) → Buf (Elt F) ℓ) (c : Dev nD) (t : Fin cfg0.N) (h0 : ¬t.val % 8 = 0) (h1 : ¬t.val % 8 = 7) (p : Outs F) : Vec F S2816x1024 .bf16 :=
  (p.2.2.2.2.2.2.2.2.2.1)

theorem scoverB_3 (c : Dev nD) (t : Fin cfg0.N) (h0 : ¬t.val % 8 = 0) (h1 : ¬t.val % 8 = 7) (p : Outs F) (y : S8x1024.Idx) :
    ∃ pc ∈ (runB m c t h0 h1 p).2.2.2.2.2.2.2.2.2.2.1, y ∈ pc.1.set :=
  View.cover_of_tiledL (runB m c t h0 h1 p).2.2.2.2.2.2.2.2.2.2.1 S8x1024.size (by sl_kernel_rfl) y

def soutB_3 (c : Dev nD) (t : Fin cfg0.N) (h0 : ¬t.val % 8 = 0) (h1 : ¬t.val % 8 = 7) (p : Outs F) : Vec F S8x1024 .f32 :=
  VS0_3.read (Elt F) (VS0_3.writes (Elt F) VS0_3.junk (runB m c t h0 h1 p).2.2.2.2.2.2.2.2.2.2.1)

theorem scoverB_4 (c : Dev nD) (t : Fin cfg0.N) (h0 : ¬t.val % 8 = 0) (h1 : ¬t.val % 8 = 7) (p : Outs F) (y : S8x1024.Idx) :
    ∃ pc ∈ (runB m c t h0 h1 p).2.2.2.2.2.2.2.2.2.2.2.1, y ∈ pc.1.set :=
  View.cover_of_tiledL (runB m c t h0 h1 p).2.2.2.2.2.2.2.2.2.2.2.1 S8x1024.size (by sl_kernel_rfl) y

def soutB_4 (c : Dev nD) (t : Fin cfg0.N) (h0 : ¬t.val % 8 = 0) (h1 : ¬t.val % 8 = 7) (p : Outs F) : Vec F S8x1024 .f32 :=
  VS0_4.read (Elt F) (VS0_4.writes (Elt F) VS0_4.junk (runB m c t h0 h1 p).2.2.2.2.2.2.2.2.2.2.2.1)

theorem coverC_4 (c : Dev nD) (t : Fin cfg0.N) (h0 : ¬t.val % 8 = 0) (h1 : t.val % 8 = 7) (p : Outs F) (y : S256x1024.Idx) :
    ∃ pc ∈ (runC m c t h0 h1 p).1, y ∈ pc.1.set :=
  View.cover_of_tiledL (runC m c t h0 h1 p).1 S256x1024.size (by sl_kernel_rfl) y

def outC_4 (c : Dev nD) (t : Fin cfg0.N) (h0 : ¬t.val % 8 = 0) (h1 : t.val % 8 = 7) (p : Outs F) : Vec F S256x1024 .f32 :=
  VO0_4.read (Elt F) (VO0_4.writes (Elt F) VO0_4.junk (runC m c t h0 h1 p).1)

theorem coverC_5 (c : Dev nD) (t : Fin cfg0.N) (h0 : ¬t.val % 8 = 0) (h1 : t.val % 8 = 7) (p : Outs F) (y : S256x1024.Idx) :
    ∃ pc ∈ (runC m c t h0 h1 p).2.1, y ∈ pc.1.set :=
  View.cover_of_tiledL (runC m c t h0 h1 p).2.1 S256x1024.size (by sl_kernel_rfl) y

def outC_5 (c : Dev nD) (t : Fin cfg0.N) (h0 : ¬t.val % 8 = 0) (h1 : t.val % 8 = 7) (p : Outs F) : Vec F S256x1024 .bf16 :=
  VO0_5.read (Elt F) (VO0_5.writes (Elt F) VO0_5.junk (runC m c t h0 h1 p).2.1)

theorem coverC_6 (c : Dev nD) (t : Fin cfg0.N) (h0 : ¬t.val % 8 = 0) (h1 : t.val % 8 = 7) (p : Outs F) (y : S11x256x256.Idx) :
    ∃ pc ∈ (runC m c t h0 h1 p).2.2.1, y ∈ pc.1.set :=
  View.cover_of_tiledL (runC m c t h0 h1 p).2.2.1 S1x256x256.size (by sl_kernel_rfl) y

def outC_6 (c : Dev nD) (t : Fin cfg0.N) (h0 : ¬t.val % 8 = 0) (h1 : t.val % 8 = 7) (p : Outs F) : Vec F S11x256x256 .bf16 :=
  VO0_6.read (Elt F) (VO0_6.writes (Elt F) VO0_6.junk (runC m c t h0 h1 p).2.2.1)

theorem coverC_7 (c : Dev nD) (t : Fin cfg0.N) (h0 : ¬t.val % 8 = 0) (h1 : t.val % 8 = 7) (p : Outs F) (y : S11x256x256.Idx) :
    ∃ pc ∈ (runC m c t h0 h1 p).2.2.2.1, y ∈ pc.1.set :=
  View.cover_of_tiledL (runC m c t h0 h1 p).2.2.2.1 S1x256x256.size (by sl_kernel_rfl) y

def outC_7 (c : Dev nD) (t : Fin cfg0.N) (h0 : ¬t.val % 8 = 0) (h1 : t.val % 8 = 7) (p : Outs F) : Vec F S11x256x256 .bf16 :=
  VO0_7.read (Elt F) (VO0_7.writes (Elt F) VO0_7.junk (runC m c t h0 h1 p).2.2.2.1)

theorem coverC_8 (c : Dev nD) (t : Fin cfg0.N) (h0 : ¬t.val % 8 = 0) (h1 : t.val % 8 = 7) (p : Outs F) (y : S256x1024.Idx) :
    ∃ pc ∈ (runC m c t h0 h1 p).2.2.2.2.1, y ∈ pc.1.set :=
  View.cover_of_tiledL (runC m c t h0 h1 p).2.2.2.2.1 S256x1024.size (by sl_kernel_rfl) y

def outC_8 (c : Dev nD) (t : Fin cfg0.N) (h0 : ¬t.val % 8 = 0) (h1 : t.val % 8 = 7) (p : Outs F) : Vec F S256x1024 .f32 :=
  VO0_8.read (Elt F) (VO0_8.writes (Elt F) VO0_8.junk (runC m c t h0 h1 p).2.2.2.2.1)

theorem coverC_9 (c : Dev nD) (t : Fin cfg0.N) (h0 : ¬t.val % 8 = 0) (h1 : t.val % 8 = 7) (p : Outs F) (y : S11x256x256.Idx) :
    ∃ pc ∈ (runC m c t h0 h1 p).2.2.2.2.2.1, y ∈ pc.1.set :=
  View.cover_of_tiledL (runC m c t h0 h1 p).2.2.2.2.2.1 S1x256x256.size (by sl_kernel_rfl) y

def outC_9 (c : Dev nD) (t : Fin cfg0.N) (h0 : ¬t.val % 8 = 0) (h1 : t.val % 8 = 7) (p : Outs F) : Vec F S11x256x256 .bf16 :=
  VO0_9.read (Elt F) (VO0_9.writes (Elt F) VO0_9.junk (runC m c t h0 h1 p).2.2.2.2.2.1)

theorem coverC_10 (c : Dev nD) (t : Fin cfg0.N) (h0 : ¬t.val % 8 = 0) (h1 : t.val % 8 = 7) (p : Outs F) (y : S8x128.Idx) :
    ∃ pc ∈ (runC m c t h0 h1 p).2.2.2.2.2.2.1, y ∈ pc.1.set :=
  View.cover_of_tiledL (runC m c t h0 h1 p).2.2.2.2.2.2.1 S8x128.size (by sl_kernel_rfl) y

def outC_10 (c : Dev nD) (t : Fin cfg0.N) (h0 : ¬t.val % 8 = 0) (h1 : t.val % 8 = 7) (p : Outs F) : Vec F S8x128 .f32 :=
  VO0_10.read (Elt F) (VO0_10.writes (Elt F) VO0_10.junk (runC m c t h0 h1 p).2.2.2.2.2.2.1)

theorem coverC_11 (c : Dev nD) (t : Fin cfg0.N) (h0 : ¬t.val % 8 = 0) (h1 : t.val % 8 = 7) (p : Outs F) (y : S8x1024.Idx) :
    ∃ pc ∈ (runC m c t h0 h1 p).2.2.2.2.2.2.2.1, y ∈ pc.1.set :=
  View.cover_of_tiledL (runC m c t h0 h1 p).2.2.2.2.2.2.2.1 S8x1024.size (by sl_kernel_rfl) y

def outC_11 (c : Dev nD) (t : Fin cfg0.N) (h0 : ¬t.val % 8 = 0) (h1 : t.val % 8 = 7) (p : Outs F) : Vec F S8x1024 .f32 :=
  VO0_11.read (Elt F) (VO0_11.writes (Elt F) VO0_11.junk (runC m c t h0 h1 p).2.2.2.2.2.2.2.1)

def soutC_0 (m : (ℓ : Loc nD τ sig) → Buf (Elt F) ℓ) (c : Dev nD) (t : Fin cfg0.N) (h0 : ¬t.val % 8 = 0) (h1 : t.val % 8 = 7) (p : Outs F) : Vec F S5632x1024 .bf16 :=
  (p.2.2.2.2.2.2.2.2.1)

def soutC_1 (m : (ℓ : Loc nD τ sig) → Buf (Elt F) ℓ) (c : Dev nD) (t : Fin cfg0.N) (h0 : ¬t.val % 8 = 0) (h1 : t.val % 8 = 7) (p : Outs F) : Vec F S2816x1024 .bf16 :=
  (p.2.2.2.2.2.2.2.2.2.1)

theorem scoverC_3 (c : Dev nD) (t : Fin cfg0.N) (h0 : ¬t.val % 8 = 0) (h1 : t.val % 8 = 7) (p : Outs F) (y : S8x1024.Idx) :
    ∃ pc ∈ (runC m c t h0 h1 p).2.2.2.2.2.2.2.2.2.2.1, y ∈ pc.1.set :=
  View.cover_of_tiledL (runC m c t h0 h1 p).2.2.2.2.2.2.2.2.2.2.1 S8x1024.size (by sl_kernel_rfl) y

def soutC_3 (c : Dev nD) (t : Fin cfg0.N) (h0 : ¬t.val % 8 = 0) (h1 : t.val % 8 = 7) (p : Outs F) : Vec F S8x1024 .f32 :=
  VS0_3.read (Elt F) (VS0_3.writes (Elt F) VS0_3.junk (runC m c t h0 h1 p).2.2.2.2.2.2.2.2.2.2.1)

theorem scoverC_4 (c : Dev nD) (t : Fin cfg0.N) (h0 : ¬t.val % 8 = 0) (h1 : t.val % 8 = 7) (p : Outs F) (y : S8x1024.Idx) :
    ∃ pc ∈ (runC m c t h0 h1 p).2.2.2.2.2.2.2.2.2.2.2.1, y ∈ pc.1.set :=
  View.cover_of_tiledL (runC m c t h0 h1 p).2.2.2.2.2.2.2.2.2.2.2.1 S8x1024.size (by sl_kernel_rfl) y

def soutC_4 (c : Dev nD) (t : Fin cfg0.N) (h0 : ¬t.val % 8 = 0) (h1 : t.val % 8 = 7) (p : Outs F) : Vec F S8x1024 .f32 :=
  VS0_4.read (Elt F) (VS0_4.writes (Elt F) VS0_4.junk (runC m c t h0 h1 p).2.2.2.2.2.2.2.2.2.2.2.1)

/-- What the outputs and the carried scratch hold after a point of case A. -/
def outsA (c : Dev nD) (t : Fin cfg0.N) (h0 : t.val % 8 = 0) (h1 : ¬t.val % 8 = 7) : Outs F :=
  (outA_4 m c t h0 h1, outA_5 m c t h0 h1, outA_6 m c t h0 h1, outA_7 m c t h0 h1, outA_8 m c t h0 h1, outA_9 m c t h0 h1, outA_10 m c t h0 h1, outA_11 m c t h0 h1, soutA_0 m c t h0 h1, soutA_1 m c t h0 h1, soutA_3 m c t h0 h1, soutA_4 m c t h0 h1)

/-- What the outputs and the carried scratch hold after a point of case B. -/
def outsB (c : Dev nD) (t : Fin cfg0.N) (h0 : ¬t.val % 8 = 0) (h1 : ¬t.val % 8 = 7) (p : Outs F) : Outs F :=
  (outB_4 m c t h0 h1 p, outB_5 m c t h0 h1 p, outB_6 m c t h0 h1 p, outB_7 m c t h0 h1 p, outB_8 m c t h0 h1 p, outB_9 m c t h0 h1 p, outB_10 m c t h0 h1 p, outB_11 m c t h0 h1 p, soutB_0 m c t h0 h1 p, soutB_1 m c t h0 h1 p, soutB_3 m c t h0 h1 p, soutB_4 m c t h0 h1 p)

/-- What the outputs and the carried scratch hold after a point of case C. -/
def outsC (c : Dev nD) (t : Fin cfg0.N) (h0 : ¬t.val % 8 = 0) (h1 : t.val % 8 = 7) (p : Outs F) : Outs F :=
  (outC_4 m c t h0 h1 p, outC_5 m c t h0 h1 p, outC_6 m c t h0 h1 p, outC_7 m c t h0 h1 p, outC_8 m c t h0 h1 p, outC_9 m c t h0 h1 p, outC_10 m c t h0 h1 p, outC_11 m c t h0 h1 p, soutC_0 m c t h0 h1 p, soutC_1 m c t h0 h1 p, soutC_3 m c t h0 h1 p, soutC_4 m c t h0 h1 p)

/-- What the outputs and the carried scratch hold after point `n`, each point over what the one before left. -/
def outsAt0 (c : Dev nD) : (n : ℕ) → n < cfg0.N → Outs F
  | 0, hn => outsA m c ⟨0, hn⟩ (Nat.zero_mod _) (fun h => by (try dsimp only at h); omega)
  | n + 1, hn =>
    if h0 : (n + 1) % 8 = 0 then
      False.elim (by have hN : n + 1 < 8 := lt_of_lt_of_eq hn (show cfg0.N = 8 from N_0); omega)
    else if h1 : (n + 1) % 8 = 7 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = outsA m c t h0 h1 := by
  obtain ⟨n, hn⟩ := t
  cases n with
  | zero => exact rfl
  | succ n => exfalso; have hN : n + 1 < 8 := lt_of_lt_of_eq hn (show cfg0.N = 8 from N_0); dsimp only at h0; omega

theorem outsAt0_B (c : Dev nD) (t : Fin cfg0.N) (h0 : ¬t.val % 8 = 0) (h1 : ¬t.val % 8 = 7) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The invariant after a point that left `p`: the carried scratch at `p`, the other scratch at anything, the register, the
    copies' semaphores at zero and the operand left in HBM. -/
def PhiP (c : Dev nD) (p : Outs F) : sProp 𝕄 :=
  iprop(iprop(owns (c : Thread nD τ) scM0_0 fullShare (p.2.2.2.2.2.2.2.2.1) ∗ owns (c : Thread nD τ) scM0_1 fullShare (p.2.2.2.2.2.2.2.2.2.1) ∗ (∃ d, owns (c : Thread nD τ) scM0_2 fullShare d) ∗ owns (c : Thread nD τ) scM0_3 fullShare (p.2.2.2.2.2.2.2.2.2.2.1) ∗ owns (c : Thread nD τ) scM0_4 fullShare (p.2.2.2.2.2.2.2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) ∗ iprop(hbPt0 c hbM0_0 (V m c main_v7) ∗ hbPt0 c hbM0_1 (V m c main_v9)))

def PhiS (c : Dev nD) : (n : ℕ) → n ≤ cfg0.N → sProp 𝕄
  | 0, _ => Pipeline.ΦD osem0 spec0 H0 (V m) c
  | n + 1, hn => PhiP m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = PhiP m c (outsAt0 m c n hn) := rfl

theorem PhiS_pos (c : Dev nD) (n : ℕ) (h : n ≤ cfg0.N) (hz : n ≠ 0) :
    PhiS m c n h = PhiP m c (outsAt0 m c (n - 1) (by omega)) := by
  cases n with
  | zero => exact absurd rfl hz
  | succ n => rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
    | ⟨10, _⟩ => (outsAt0 m c t.val t.isLt).2.2.2.2.2.2.1
    | ⟨11, _⟩ => (outsAt0 m c t.val t.isLt).2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]
theorem after0_10 (c : Dev nD) (t : Fin cfg0.N) : (dats m 0 c).after 10 t = (outsAt0 m c t.val t.isLt).2.2.2.2.2.2.1 := by dsimp only [dats]
theorem after0_11 (c : Dev nD) (t : Fin cfg0.N) : (dats m 0 c).after 11 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 19200000 in
/-- The body at any point: it is handed the input blocks and the carried scratch as the point before left it, and leaves this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ]
  unfold PhiP
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  have hN : t.val < 8 := lt_of_lt_of_eq t.isLt (show cfg0.N = 8 from N_0)
  by_cases h0 : t.val % 8 = 0
  · by_cases h1 : t.val % 8 = 7
    · exfalso; omega
    · rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold outsA outA_4 outA_5 outA_6 outA_7 outA_8 outA_9 soutA_0 soutA_1 soutA_3 soutA_4; (try dsimp only)
        iintro ⟨⟨⟨HS0, HS1, HS2, HS3, HS4⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA m c t h0 h1).2.2.2.2.2.2.2.2.2.2.2.2.2 _ _ W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%e8, H8⟩, ⟨%e9, H9⟩, H10, H11, ⟨%es0, HS0⟩, ⟨%es1, HS1⟩, ⟨%fT2, HS2⟩, ⟨%es3, HS3⟩, ⟨%es4, HS4⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 HS4 Hg Hq0 Hq1 Hq2 Hq3 Hq4 Hq5 Hq6 Hq7 Hq8 Hq9 Hq10 Hq11 Hq12 Hq13 Hq14 Hq15 Hh0 Hh1]
        · isplitl [HS0 HS1 HS2 HS3 HS4]
          · isplitl [HS0]; · iapply owns_written (scoverA_0 m c t h0 h1); iexact HS0
            isplitl [HS1]; · iapply owns_written (scoverA_1 m c t h0 h1); iexact HS1
            isplitl [HS2]
            · iexists _; unfold owns; iexists _; isplitr
              swap; · iexact HS2
              ipureintro; rfl
            isplitl [HS3]; · iapply owns_written (scoverA_3 m c t h0 h1); iexact HS3
            iapply owns_written (scoverA_4 m c t h0 h1); iexact HS4
          isplitl [Hg]; · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iapply owns_written (coverA_4 m c t h0 h1); iexact H4
        isplitl [H5]; · iapply owns_written (coverA_5 m c t h0 h1); iexact H5
        isplitl [H6]; · iapply owns_written (coverA_6 m c t h0 h1); iexact H6
        isplitl [H7]; · iapply owns_written (coverA_7 m c t h0 h1); iexact H7
        isplitl [H8]; · iapply owns_written (coverA_8 m c t h0 h1); iexact H8
        isplitl [H9]; · iapply owns_written (coverA_9 m c t h0 h1); iexact H9
        isplitl [H10]; · iexists _; iexact H10
        iexists _; iexact H11
      · exfalso; have hN : t.val < 8 := lt_of_lt_of_eq t.isLt (show cfg0.N = 8 from N_0); omega
  · by_cases h1 : t.val % 8 = 7
    · rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [liveAt0_11_C t (fun h => h0 ((hcond0_0 t).mp h)) ((hcond0_1 t).mpr h1)], after0_11]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_C m c t h0 h1]
        unfold outsC outC_4 outC_5 outC_6 outC_7 outC_8 outC_9 outC_10 outC_11 soutC_0 soutC_1 soutC_3 soutC_4; (try dsimp only)
        iintro ⟨⟨⟨HS0, HS1, HS2, HS3, HS4⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runC m c t h0 h1 _).2.2.2.2.2.2.2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, HS0, HS1, ⟨%fT2, HS2⟩, ⟨%es3, HS3⟩, ⟨%es4, HS4⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 HS4 Hg Hq0 Hq1 Hq2 Hq3 Hq4 Hq5 Hq6 Hq7 Hq8 Hq9 Hq10 Hq11 Hq12 Hq13 Hq14 Hq15 Hh0 Hh1]
        · isplitl [HS0 HS1 HS2 HS3 HS4]
          · isplitl [HS0]; · iexact HS0
            isplitl [HS1]; · iexact HS1
            isplitl [HS2]
            · iexists _; unfold owns; iexists _; isplitr
              swap; · iexact HS2
              ipureintro; rfl
            isplitl [HS3]; · iapply owns_written (scoverC_3 m c t h0 h1 _); iexact HS3
            iapply owns_written (scoverC_4 m c t h0 h1 _); iexact HS4
          isplitl [Hg]; · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iapply owns_written (coverC_4 m c t h0 h1 _); iexact H4
        isplitl [H5]; · iapply owns_written (coverC_5 m c t h0 h1 _); iexact H5
        isplitl [H6]; · iapply owns_written (coverC_6 m c t h0 h1 _); iexact H6
        isplitl [H7]; · iapply owns_written (coverC_7 m c t h0 h1 _); iexact H7
        isplitl [H8]; · iapply owns_written (coverC_8 m c t h0 h1 _); iexact H8
        isplitl [H9]; · iapply owns_written (coverC_9 m c t h0 h1 _); iexact H9
        isplitl [H10]; · iapply owns_written (coverC_10 m c t h0 h1 _); iexact H10
        iapply owns_written (coverC_11 m c t h0 h1 _); iexact H11
    · rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_B m c t h0 h1]
        unfold outsB outB_4 outB_5 outB_6 outB_7 outB_8 outB_9 soutB_0 soutB_1 soutB_3 soutB_4; (try dsimp only)
        iintro ⟨⟨⟨HS0, HS1, HS2, HS3, HS4⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runB m c t h0 h1 _).2.2.2.2.2.2.2.2.2.2.2.2.2 _ _ W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%e8, H8⟩, ⟨%e9, H9⟩, H10, H11, HS0, HS1, ⟨%fT2, HS2⟩, ⟨%es3, HS3⟩, ⟨%es4, HS4⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 HS4 Hg Hq0 Hq1 Hq2 Hq3 Hq4 Hq5 Hq6 Hq7 Hq8 Hq9 Hq10 Hq11 Hq12 Hq13 Hq14 Hq15 Hh0 Hh1]
        · isplitl [HS0 HS1 HS2 HS3 HS4]
          · isplitl [HS0]; · iexact HS0
            isplitl [HS1]; · iexact HS1
            isplitl [HS2]
            · iexists _; unfold owns; iexists _; isplitr
              swap; · iexact HS2
              ipureintro; rfl
            isplitl [HS3]; · iapply owns_written (scoverB_3 m c t h0 h1 _); iexact HS3
            iapply owns_written (scoverB_4 m c t h0 h1 _); iexact HS4
          isplitl [Hg]; · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iapply owns_written (coverB_4 m c t h0 h1 _); iexact H4
        isplitl [H5]; · iapply owns_written (coverB_5 m c t h0 h1 _); iexact H5
        isplitl [H6]; · iapply owns_written (coverB_6 m c t h0 h1 _); iexact H6
        isplitl [H7]; · iapply owns_written (coverB_7 m c t h0 h1 _); iexact H7
        isplitl [H8]; · iapply owns_written (coverB_8 m c t h0 h1 _); iexact H8
        isplitl [H9]; · iapply owns_written (coverB_9 m c t h0 h1 _); iexact H9
        isplitl [H10]; · iexists _; iexact H10
        iexists _; iexact H11

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold PhiP
  iintro ⟨⟨HS0, HS1, HS2, HS3, HS4⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1 HS2 HS3 HS4]
  · isplitl [HS0]; · iexists _; iexact HS0
    isplitl [HS1]; · iexists _; iexact HS1
    isplitl [HS2]; · iexact HS2
    isplitl [HS3]; · iexists _; iexact HS3
    iexists _; iexact HS4
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 8 := N_0; omega)

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every weakly fair execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every execution ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.HeadIdeal.Gen

end
-- ==== Proof.Head.Bits.lean ====
/- The frame of `Head` as it is printed, over machine words. -/
module

public import proofs.«01_k».proof.Defs
public import proofs.«01_k».proof.Proof.Gen.Head
public import proofs.«01_k».proof.Proof.Head.Frame
public import Idealize.ShloMosaic.Lib.Tactic.ProgEq

@[expose] public section

set_option maxRecDepth 16384

namespace Cert.Head.Gen
open Idealize.ShloMosaic Idealize.SL.Sem

/-- Every execution of the printed program ends, faults nowhere, leaves the arguments as they were and every semaphore at zero:
    the run of the idealized program, whose text is the same, read over machine words. -/
theorem frame : Cert.quiescent_Head := by
  have h := fun m g (_ : True) => Cert.HeadIdeal.Gen.frame (F := Bits) m g
  have e : type_of% h = Cert.quiescent_Head := by sl_kernel_rfl
  exact e.mp h

end Cert.Head.Gen
-- ==== Proof.Head.Chunks.lean ====
/- The whole arrays that one grid point of the kernel `Head` works on: the chunks of the two projections and of their gated product,
   that product as one matrix, the tile of `dx` and the running sums of the loss and of the last norm's gradient. -/
module

public import proofs.«01_k».proof.Proof.Head.Frame
public import proofs.«01_k».proof.Proof.Ffn.First

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common

/-- One row of the small operands. -/
abbrev row0 (P : Vec Ideal S8x1024 .f32) := View.ld P (Rect.unit ![0, 0] ![1, 1024] inb_S8x1024_S1x1024_0_0)
/-- One row of the small operands. -/
abbrev row1 (P : Vec Ideal S8x1024 .f32) := View.ld P (Rect.unit ![1, 0] ![1, 1024] inb_S8x1024_S1x1024_1_0)
/-- The gate's row of the small operands. -/
abbrev row2 (P : Vec Ideal S8x1024 .f32) := View.ld P (Rect.unit ![2, 0] ![1, 1024] inb_S8x1024_S1x1024_2_0)
/-- One row of the small operands. -/
abbrev row3 (P : Vec Ideal S8x1024 .f32) := View.ld P (Rect.unit ![3, 0] ![1, 1024] inb_S8x1024_S1x1024_3_0)

/-- The tile of the normed and modulated input. -/
abbrev hTile (X : Vec Ideal S256x1024 .f32) (P : Vec Ideal S8x1024 .f32) : Vec Ideal S256x1024 .bf16 :=
  k0_pay8 (row0 P) (row1 P) (row3 P) X

/-- An entry of the gate's projection of a tile. -/
def gp (H : Vec Ideal S256x1024 .bf16) (W : Vec Ideal S5632x1024 .bf16) (i : Fin 256) (k : Fin 2816) : EReal :=
  ∑ l : Fin 1024, H (ix2 i l) * W (ix2 (n0 := 5632) (n1 := 1024) ⟨k.val, by omega⟩ l)

/-- An entry of the other factor's projection of a tile. -/
def up (H : Vec Ideal S256x1024 .bf16) (W : Vec Ideal S5632x1024 .bf16) (i : Fin 256) (k : Fin 2816) : EReal :=
  ∑ l : Fin 1024, H (ix2 i l) * W (ix2 (n0 := 5632) (n1 := 1024) ⟨2816 + k.val, by omega⟩ l)

/-- An entry of the gated product. -/
def ap (H : Vec Ideal S256x1024 .bf16) (W : Vec Ideal S5632x1024 .bf16) (i : Fin 256) (k : Fin 2816) : EReal :=
  silu (gp H W i k) * up H W i k

/-- Eleven chunks of 256 columns of a table with 2816 columns. -/
def chunks (f : Fin 256 → Fin 2816 → EReal) : Vec Ideal S11x256x256 .bf16 := fun y =>
  f (y 1) ⟨(y 0 : Fin 11).val * 256 + (y 2 : Fin 256).val, by
    have h : (y 0 : Fin 11).val < 11 := (y 0).isLt
    have h2 : (y 2 : Fin 256).val < 256 := (y 2).isLt
    omega⟩

/-- A table with 2816 columns as one matrix. -/
def whole (f : Fin 256 → Fin 2816 → EReal) : Vec Ideal S256x2816 .bf16 := fun y => f (y 0) (y 1)

/-- An entry of one chunk. -/
theorem chunks_at (f : Fin 256 → Fin 2816 → EReal) (n : ℕ) (inb) (x0 : Fin 1) (i j : Fin 256) (h : n < 11) :
    chunks f ((Rect.unit (s := S11x256x256) ![n, 0, 0] ![1, 256, 256] inb).idx (ix3 x0 i j)) = f i ⟨n * 256 + j.val, by omega⟩ := by
  have e : (Rect.unit (s := S11x256x256) ![n, 0, 0] ![1, 256, 256] inb).idx (ix3 x0 i j) = ix3 (n0 := 11) (n1 := 256) (n2 := 256) ⟨n, h⟩ i j := by
    funext a
    refine Fin.ext ?_
    match a with
    | ⟨0, _⟩ => show n + 1 * x0.val = n; omega
    | ⟨1, _⟩ => show 0 + 1 * i.val = i.val; omega
    | ⟨2, _⟩ => show 0 + 1 * j.val = j.val; omega
  rw [e]
  rfl

/-- An entry of 256 columns of the matrix. -/
theorem whole_at (f : Fin 256 → Fin 2816 → EReal) (o : ℕ) (inb) (i j : Fin 256) (h : o + 256 ≤ 2816) :
    whole f ((Rect.unit (s := S256x2816) ![0, o] ![256, 256] inb).idx (ix2 i j)) = f i ⟨o + j.val, by omega⟩ := by
  have e : (Rect.unit (s := S256x2816) ![0, o] ![256, 256] inb).idx (ix2 i j) = ix2 (n0 := 256) (n1 := 2816) i ⟨o + j.val, by omega⟩ := by
    funext a
    refine Fin.ext ?_
    match a with
    | ⟨0, _⟩ => show 0 + 1 * i.val = i.val; omega
    | ⟨1, _⟩ => show o + 1 * j.val = o + j.val; omega
  rw [e]
  rfl

/-- The tile of the layer's second product. -/
def yTile (X : Vec Ideal S256x1024 .f32) (P : Vec Ideal S8x1024 .f32) (Wi : Vec Ideal S5632x1024 .bf16) (Wo : Vec Ideal S2816x1024 .bf16) :
    Vec Ideal S256x1024 .f32 := k0_pay89 (whole (ap (hTile X P) Wi)) Wo

/-- One half, as the kernel writes it. -/
abbrev cHalf : Ideal .f32 := Scalar.ofBits .f32 0x3F000000#32

/-- The tile of `dx` at one grid point, from the layer's second product. -/
def dxTile (X : Vec Ideal S256x1024 .f32) (P : Vec Ideal S8x1024 .f32) (G : Vec Ideal S1x1024 .f32) (T Y : Vec Ideal S256x1024 .f32) :
    Vec Ideal S256x1024 .f32 :=
  k0_pay1 (k0_pay91 G) (k0_pay92 (k0_pay6 (row2 P)) (k0_pay7 X) Y cHalf) (k0_pay93 (k0_pay6 (row2 P)) (k0_pay7 X) Y cHalf)
    (k0_pay96 (k0_pay6 (row2 P)) (k0_pay7 X) Y cHalf G T)

/-- The running sums of the squared errors after one more grid point. -/
def sqSum (X : Vec Ideal S256x1024 .f32) (P : Vec Ideal S8x1024 .f32) (G : Vec Ideal S1x1024 .f32) (T Y : Vec Ideal S256x1024 .f32)
    (q : Vec Ideal S8x1024 .f32) : Vec Ideal S8x1024 .f32 := k0_pay95 (k0_pay6 (row2 P)) (k0_pay7 X) Y cHalf G T q

/-- The running sums of the last norm's gradient after one more grid point. -/
def dgSum (X : Vec Ideal S256x1024 .f32) (P : Vec Ideal S8x1024 .f32) (G : Vec Ideal S1x1024 .f32) (T Y : Vec Ideal S256x1024 .f32)
    (q : Vec Ideal S8x1024 .f32) : Vec Ideal S8x1024 .f32 := k0_pay97 (k0_pay6 (row2 P)) (k0_pay7 X) Y cHalf G T q

end Cert.Head

end
-- ==== Proof.Ab.Point.lean ====
/- The numbers one grid point of the kernel `Ab` works with: the gelu, the layer norm, the gating of a chunk of 128 tokens and the
   short convolution, entry by entry. -/
module

public import proofs.«01_k».proof.Proof.Gen.AbIdeal.Skeleton
public import proofs.«01_k».proof.Proof.Common.Canon
public import Idealize.ShloMosaic.Lib.Pointwise

@[expose] public section

set_option maxRecDepth 16384

noncomputable section

open Idealize.ShloMosaic Idealize.ShloMosaic.TcCoe Idealize.SL.Sem

namespace Cert.Ab

open Cert.AbIdeal Cert.AbIdeal.Gen Cert.Common

/-- The gelu of a number, by its tanh formula. -/
def gelu (z : EReal) : EReal :=
  Ideal.ofBits .f32 1056964608#32 * z * (1 + Ideal.tanh (Ideal.ofBits .f32 1061962282#32 * (z + Ideal.ofBits .f32 1027024659#32 * z * z * z)))

/-- A row's gelu with the row's mean taken off. -/
def cen (v : Fin 512 → EReal) (j : Fin 512) : EReal := gelu (v j) - Ideal.div (∑ k, gelu (v k)) (Ideal.ofBits .f32 1140850688#32)

/-- The layer norm of a row's gelu, before its weight. -/
def vhat (v : Fin 512 → EReal) (j : Fin 512) : EReal :=
  cen v j * Ideal.rsqrt (Ideal.div (∑ k, cen v k * cen v k) (Ideal.ofBits .f32 1140850688#32) + Ideal.ofBits .f32 897988541#32)

theorem gu_apply (PR : Vec Ideal S256x2560 .f32) (i : Fin 256) (j : Fin 512) :
    k0_pay36 PR (ix2 (n0 := 256) (n1 := 512) i j) = gelu (PR (ix2 i ⟨j.val, by omega⟩)) := by
  unfold gelu
  pointwise [k0_pay36, k0_pay34, k0_pay31]

theorem cen_apply (PR : Vec Ideal S256x2560 .f32) (i : Fin 256) (j : Fin 512) :
    k0_pay37 PR (ix2 (n0 := 256) (n1 := 512) i j) = cen (fun k => PR (ix2 i ⟨512 + k.val, by omega⟩)) j := by
  unfold cen gelu
  pointwise [k0_pay37, k0_pay35, k0_pay31]

theorem vhat_apply (PR : Vec Ideal S256x2560 .f32) (i : Fin 256) (j : Fin 512) :
    k0_pay39 (k0_pay37 PR) (ix2 (n0 := 256) (n1 := 512) i j) = vhat (fun k => PR (ix2 i ⟨512 + k.val, by omega⟩)) j := by
  unfold vhat
  simp only [← cen_apply]
  pointwise [k0_pay39, k0_pay38]

theorem vn_apply (PR : Vec Ideal S256x2560 .f32) (NV : Vec Ideal S1x512 .f32) (i : Fin 256) (j : Fin 512) :
    k0_pay44 (k0_pay32 NV) (k0_pay37 PR) (ix2 (n0 := 256) (n1 := 512) i j)
      = vhat (fun k => PR (ix2 i ⟨512 + k.val, by omega⟩)) j * NV (ix2 0 j) := by
  simp only [← vhat_apply]
  pointwise [k0_pay44, k0_pay32]

/-- A head's weight with everything after the diagonal cut off. -/
def wmask (w : Fin 128 → Fin 128 → EReal) (t s : Fin 128) : EReal := if s.val ≤ t.val then w t s else 0

/-- The mask's comparison word. -/
theorem sge_word : ∀ t s : Fin 128, IntOp.cmpi CmpIPredicate.sge (BitVec.ofNat 32 t.val) (BitVec.ofNat 32 s.val) = if s.val ≤ t.val then 1#1 else 0#1 := by
  decide +kernel

theorem sel_sge (t s : Fin 128) (a b : EReal) :
    Scalar.select (IntOp.cmpi CmpIPredicate.sge (BitVec.ofNat 32 t.val) (BitVec.ofNat 32 s.val)) a b = if s.val ≤ t.val then a else b := by
  rw [sge_word]
  split <;> rfl

theorem wm0_apply (w : Vec Ideal S1x128x128 .f32) (t s : Fin 128) :
    k0_pay40 w (ix2 (n0 := 128) (n1 := 128) t s) = wmask (fun t s => w (ix3 0 t s)) t s := by
  unfold wmask
  pointwise [k0_pay40]
  exact sel_sge t s _ _

/-- The cotangent entering the two halves, a row at a time. -/
def dcat (gate ct : Fin 1024 → EReal) (wo : Fin 1024 → Fin 1024 → EReal) (j : Fin 1024) : EReal := ∑ l, gate l * ct l * wo j l

theorem dya_apply (D : Vec Ideal S256x1024 .f32) (g : Vec Ideal S1x1024 .f32) (W : Vec Ideal S1024x1024 .bf16) (i : Fin 256) (j : Fin 512) :
    k0_pay29 (k0_pay26 g D) W (ix2 (n0 := 256) (n1 := 512) i j)
      = dcat (fun l => g (ix2 0 l)) (fun l => D (ix2 i l)) (fun k l => W (ix2 k l)) ⟨j.val, by omega⟩ := by
  unfold dcat
  pointwise [k0_pay29, k0_pay28, k0_pay26, k0_pay25]

theorem dyb_apply (D : Vec Ideal S256x1024 .f32) (g : Vec Ideal S1x1024 .f32) (W : Vec Ideal S1024x1024 .bf16) (i : Fin 256) (j : Fin 512) :
    k0_pay30 (k0_pay26 g D) W (ix2 (n0 := 256) (n1 := 512) i j)
      = dcat (fun l => g (ix2 0 l)) (fun l => D (ix2 i l)) (fun k l => W (ix2 k l)) ⟨512 + j.val, by omega⟩ := by
  unfold dcat
  pointwise [k0_pay30, k0_pay28, k0_pay26, k0_pay25]

theorem dy_apply (D : Vec Ideal S256x1024 .f32) (g : Vec Ideal S1x1024 .f32) (i : Fin 256) (l : Fin 1024) :
    k0_pay26 g D (ix2 (n0 := 256) (n1 := 1024) i l) = g (ix2 0 l) * D (ix2 i l) := by
  pointwise [k0_pay26, k0_pay25]

theorem dws_apply (v z : Vec Ideal S256x512 .bf16) (q : Vec Ideal S1x128x128 .f32) (t s : Fin 128) :
    k0_pay69 v z q (ix3 (n0 := 1) (n1 := 128) (n2 := 128) 0 t s)
      = q (ix3 0 t s) + ∑ d : Fin 128, z (ix2 ⟨128 + t.val, by omega⟩ ⟨128 + d.val, by omega⟩) * v (ix2 ⟨128 + s.val, by omega⟩ ⟨128 + d.val, by omega⟩) := by
  pointwise [k0_pay69]

/-- The same weight row, the same tokens and the same column give the same sum and bias. -/
theorem zsum_congr (w : Fin 4 → Vec Ideal S128x128 .bf16) (v : Vec Ideal S256x512 .bf16) (B : Vec Ideal S128x4 .f32) {h h' b b' : Fin 4} {q q' : Fin 128}
    {t t' : Fin 128 → Fin 128} {r r' : Fin 128 → Fin 256} {k k' : Fin 128 → Fin 512} (hh : h.val = h'.val) (hb : b.val = b'.val) (hq : q.val = q'.val)
    (ht : ∀ s, (t s).val = (t' s).val) (hr : ∀ s, (r s).val = (r' s).val) (hk : ∀ s, (k s).val = (k' s).val) :
    (∑ s, w h (ix2 (t s) s) * v (ix2 (r s) (k s))) + B (ix2 q b) = (∑ s, w h' (ix2 (t' s) s) * v (ix2 (r' s) (k' s))) + B (ix2 q' b') := by
  obtain rfl := Fin.ext hh
  obtain rfl := Fin.ext hb
  obtain rfl := Fin.ext hq
  obtain rfl : t = t' := funext fun s => Fin.ext (ht s)
  obtain rfl : k = k' := funext fun s => Fin.ext (hk s)
  obtain rfl : r = r' := funext fun s => Fin.ext (hr s)
  rfl

/-- The same weight column, the same tokens and the same column give the same sum. -/
theorem dsum_congr (w : Fin 4 → Vec Ideal S128x128 .bf16) (z : Vec Ideal S256x512 .bf16) {h h' : Fin 4} {t t' : Fin 128 → Fin 128}
    {r r' : Fin 128 → Fin 256} {k k' : Fin 128 → Fin 512} (hh : h.val = h'.val) (ht : ∀ s, (t s).val = (t' s).val) (hr : ∀ s, (r s).val = (r' s).val)
    (hk : ∀ s, (k s).val = (k' s).val) :
    (∑ s, w h (ix2 s (t s)) * z (ix2 (r s) (k s))) = ∑ s, w h' (ix2 s (t' s)) * z (ix2 (r' s) (k' s)) := by
  obtain rfl := Fin.ext hh
  obtain rfl : t = t' := funext fun s => Fin.ext (ht s)
  obtain rfl : k = k' := funext fun s => Fin.ext (hk s)
  obtain rfl : r = r' := funext fun s => Fin.ext (hr s)
  rfl

/-- An entry of the mixed tokens: a head's masked weight over a chunk's rows, and its bias. -/
theorem z_apply (B : Vec Ideal S128x4 .f32) (w : Fin 4 → Vec Ideal S128x128 .bf16) (v : Vec Ideal S256x512 .bf16) (u : Vec Ideal S128x128 .bf16)
    (hu : ∀ t d : Fin 128, u (ix2 t d) = v (ix2 ⟨t.val, by omega⟩ ⟨d.val, by omega⟩)) (i : Fin 256) (j : Fin 512) :
    k0_pay46 B (w 0) (w 1) (w 2) (w 3) v u (constant (F := Ideal) S128x128 .f32 0x00000000#32) (ix2 (n0 := 256) (n1 := 512) i j)
      = (∑ s : Fin 128, w ⟨j.val / 128, by omega⟩ (ix2 ⟨i.val % 128, by omega⟩ s) * v (ix2 ⟨i.val / 128 * 128 + s.val, by omega⟩ j))
          + B (ix2 ⟨i.val % 128, by omega⟩ ⟨j.val / 128, by omega⟩) := by
  pointwise [k0_pay46]
  simp only [hu]
  split_ifs
  all_goals
    with_reducible refine zsum_congr w v B ?_ ?_ ?_ (fun s => ?_) (fun s => ?_) (fun s => ?_) <;> first | omega | (dsimp only <;> omega)

/-- An entry of the cotangent of the normalised tokens: the mixing read the other way. -/
theorem dvn_apply (w : Fin 4 → Vec Ideal S128x128 .bf16) (z : Vec Ideal S256x512 .bf16) (i : Fin 256) (j : Fin 512) :
    k0_pay77 (w 3) z (k0_pay64 (w 3) z (k0_pay53 (w 0) z) (k0_pay57 (w 1) (k0_pay56 z) (constant (F := Ideal) S128x128 .f32 0x00000000#32)) (k0_pay60 (w 2) z))
      (k0_pay67 (w 0) z) (k0_pay70 (w 1) z) (k0_pay73 (w 2) z) (ix2 (n0 := 256) (n1 := 512) i j)
      = (∑ t : Fin 128, w ⟨j.val / 128, by omega⟩ (ix2 t ⟨i.val % 128, by omega⟩) * z (ix2 ⟨i.val / 128 * 128 + t.val, by omega⟩ j)) := by
  pointwise [k0_pay77, k0_pay64, k0_pay53, k0_pay57, k0_pay56, k0_pay60, k0_pay67, k0_pay70, k0_pay73]
  split_ifs
  all_goals
    with_reducible refine dsum_congr w z ?_ (fun s => ?_) (fun s => ?_) (fun s => ?_) <;> first | omega | (dsimp only <;> omega)

end Cert.Ab

end
-- ==== Proof.Ab.Sums.lean ====
/- The running sums the kernel `Ab` keeps: the weight, bias and norm gradients after one more grid point. -/
module

public import proofs.«01_k».proof.Proof.Ab.Point
public import Idealize.ShloMosaic.Lib.Pipeline.ReadBack

@[expose] public section

set_option maxRecDepth 16384

noncomputable section

open Idealize.ShloMosaic Idealize.ShloMosaic.TcCoe Idealize.SL.Sem

namespace Cert.Ab

open Cert.AbIdeal Cert.AbIdeal.Gen Cert.Common

/-- Slab `k`'s entry in its own rectangle. -/
theorem slab_at {α : Type} (k : Nat) (G : S4x128x128.Idx → α) (inb : ∀ a, (![k, 0, 0] : Fin 3 → Nat) a + (![1, 128, 128] : Fin 3 → Nat) a ≤ S4x128x128.size a)
    (h : k < 4) (x : S1x128x128.Idx) :
    G ((Rect.unit (s := S4x128x128) ![k, 0, 0] ![1, 128, 128] inb).idx x) = G (ix3 (n0 := 4) (n1 := 128) (n2 := 128) ⟨k, h⟩ (x 1) (x 2)) := by
  idx_vars x
  refine congrArg G (funext fun a => Fin.ext ?_)
  match a with
  | ⟨0, _⟩ => show k + 1 * x0.val = k; omega
  | ⟨1, _⟩ => show 0 + 1 * x1.val = x1.val; omega
  | ⟨2, _⟩ => show 0 + 1 * x2.val = x2.val; omega

/-- Four slabs written over anything: the array whose slabs they are. -/
theorem canon_slabs (G : S4x128x128.Idx → EReal) (a b c d : Vec Ideal S1x128x128 .f32) (L : List (View.Piece (Elt Ideal) S4x128x128 .f32))
    (ha : ∀ t s : Fin 128, a (ix3 0 t s) = G (ix3 0 t s)) (hb : ∀ t s : Fin 128, b (ix3 0 t s) = G (ix3 1 t s))
    (hc : ∀ t s : Fin 128, c (ix3 0 t s) = G (ix3 2 t s)) (hd : ∀ t s : Fin 128, d (ix3 0 t s) = G (ix3 3 t s)) (y : S4x128x128.Idx) :
    View.canon ((⟨Rect.unit ![3, 0, 0] ![1, 128, 128] inb_S4x128x128_S1x128x128_3_0_0, d⟩ : View.Piece (Elt Ideal) S4x128x128 .f32)
      :: ⟨Rect.unit ![2, 0, 0] ![1, 128, 128] inb_S4x128x128_S1x128x128_2_0_0, c⟩
      :: ⟨Rect.unit ![1, 0, 0] ![1, 128, 128] inb_S4x128x128_S1x128x128_1_0_0, b⟩
      :: ⟨Rect.unit ![0, 0, 0] ![1, 128, 128] inb_S4x128x128_S1x128x128_0_0_0, a⟩ :: L) y = G y := by
  refine View.canon_append_of_piecesOf G L [_, _, _, _] ?_ y ?_
  · refine ⟨fun x => ?_, fun x => ?_, fun x => ?_, fun x => ?_, trivial⟩
    · refine Eq.trans ?_ (slab_at 3 G inb_S4x128x128_S1x128x128_3_0_0 (by omega) x).symm
      idx_vars x
      obtain rfl := Subsingleton.elim x0 0
      exact hd x1 x2
    · refine Eq.trans ?_ (slab_at 2 G inb_S4x128x128_S1x128x128_2_0_0 (by omega) x).symm
      idx_vars x
      obtain rfl := Subsingleton.elim x0 0
      exact hc x1 x2
    · refine Eq.trans ?_ (slab_at 1 G inb_S4x128x128_S1x128x128_1_0_0 (by omega) x).symm
      idx_vars x
      obtain rfl := Subsingleton.elim x0 0
      exact hb x1 x2
    · refine Eq.trans ?_ (slab_at 0 G inb_S4x128x128_S1x128x128_0_0_0 (by omega) x).symm
      idx_vars x
      obtain rfl := Subsingleton.elim x0 0
      exact ha x1 x2
  · idx_vars y
    have h4 := y0.isLt
    have hr3 : y0.val = 0 ∨ y0.val = 1 ∨ y0.val = 2 ∨ y0.val = 3 := by omega
    rcases hr3 with h | h | h | h
    · exact ⟨_, .tail _ (.tail _ (.tail _ (.head _))), mem_slab h inb_S4x128x128_S1x128x128_0_0_0⟩
    · exact ⟨_, .tail _ (.tail _ (.head _)), mem_slab h inb_S4x128x128_S1x128x128_1_0_0⟩
    · exact ⟨_, .tail _ (.head _), mem_slab h inb_S4x128x128_S1x128x128_2_0_0⟩
    · exact ⟨_, .head _, mem_slab h inb_S4x128x128_S1x128x128_3_0_0⟩

/-- One chunk's part of a head's weight gradient. -/
def dwsChunk (v z : Vec Ideal S256x512 .bf16) (n : Fin 2) (h : Fin 4) (t s : Fin 128) : EReal :=
  ∑ d : Fin 128, z (ix2 ⟨n.val * 128 + t.val, by omega⟩ ⟨h.val * 128 + d.val, by omega⟩) * v (ix2 ⟨n.val * 128 + s.val, by omega⟩ ⟨h.val * 128 + d.val, by omega⟩)

/-- The weight gradients after one more grid point: its two chunks added. -/
def dwsNext (v z : Vec Ideal S256x512 .bf16) (q : Vec Ideal S4x128x128 .f32) : Vec Ideal S4x128x128 .f32 := fun y =>
  q y + dwsChunk v z 0 (y 0) (y 1) (y 2) + dwsChunk v z 1 (y 0) (y 1) (y 2)

/-- One chunk's part of a head's bias gradient, a column at a time. -/
def dbsChunk (z : Vec Ideal S256x512 .f32) (n : Fin 2) (h : Fin 4) (t d : Fin 128) : EReal :=
  z (ix2 ⟨n.val * 128 + t.val, by omega⟩ ⟨h.val * 128 + d.val, by omega⟩)

/-- The bias gradients after one more grid point, before their sum over a head's columns. -/
def dbsNext (z : Vec Ideal S256x512 .f32) (q : Vec Ideal S4x128x128 .f32) : Vec Ideal S4x128x128 .f32 := fun y =>
  q y + dbsChunk z 0 (y 0) (y 1) (y 2) + dbsChunk z 1 (y 0) (y 1) (y 2)

theorem dwsNext_at (v z : Vec Ideal S256x512 .bf16) (q : Vec Ideal S4x128x128 .f32) (h : Fin 4) (t s : Fin 128) :
    dwsNext v z q (ix3 h t s) = q (ix3 h t s) + dwsChunk v z 0 h t s + dwsChunk v z 1 h t s := rfl

theorem dbsNext_at (z : Vec Ideal S256x512 .f32) (q : Vec Ideal S4x128x128 .f32) (h : Fin 4) (t s : Fin 128) :
    dbsNext z q (ix3 h t s) = q (ix3 h t s) + dbsChunk z 0 h t s + dbsChunk z 1 h t s := rfl

/-- The two chunks of a head's weight gradient, as the kernel adds them. -/
theorem canon_dws (v z : Vec Ideal S256x512 .bf16) (q : Vec Ideal S4x128x128 .f32) (L : List (View.Piece (Elt Ideal) S4x128x128 .f32)) (y : S4x128x128.Idx) :
    View.canon ((⟨Rect.unit ![3, 0, 0] ![1, 128, 128] inb_S4x128x128_S1x128x128_3_0_0,
          k0_pay76 v z (k0_pay63 (k0_pay62 v z (View.ld q (Rect.unit ![3, 0, 0] ![1, 128, 128] inb_S4x128x128_S1x128x128_3_0_0))))⟩ : View.Piece (Elt Ideal) S4x128x128 .f32)
      :: ⟨Rect.unit ![2, 0, 0] ![1, 128, 128] inb_S4x128x128_S1x128x128_2_0_0,
          k0_pay72 v z (k0_pay59 v z (View.ld q (Rect.unit ![2, 0, 0] ![1, 128, 128] inb_S4x128x128_S1x128x128_2_0_0)))⟩
      :: ⟨Rect.unit ![1, 0, 0] ![1, 128, 128] inb_S4x128x128_S1x128x128_1_0_0,
          k0_pay69 v z (k0_pay55 v z (View.ld q (Rect.unit ![1, 0, 0] ![1, 128, 128] inb_S4x128x128_S1x128x128_1_0_0)))⟩
      :: ⟨Rect.unit ![0, 0, 0] ![1, 128, 128] inb_S4x128x128_S1x128x128_0_0_0,
          k0_pay66 v z (k0_pay52 v z (View.ld q (Rect.unit ![0, 0, 0] ![1, 128, 128] inb_S4x128x128_S1x128x128_0_0_0)))⟩ :: L) y = dwsNext v z q y := by
  refine canon_slabs _ _ _ _ _ L (fun t s => ?_) (fun t s => ?_) (fun t s => ?_) (fun t s => ?_) y <;>
  · rw [dwsNext_at]
    unfold dwsChunk
    pointwise [k0_pay76, k0_pay63, k0_pay62, k0_pay72, k0_pay59, k0_pay69, k0_pay55, k0_pay66, k0_pay52]

/-- The two chunks of a head's bias gradient, as the kernel adds them. -/
theorem canon_dbs (e f : Vec Ideal S256x512 .f32) (q : Vec Ideal S4x128x128 .f32) (L : List (View.Piece (Elt Ideal) S4x128x128 .f32)) (y : S4x128x128.Idx) :
    View.canon ((⟨Rect.unit ![3, 0, 0] ![1, 128, 128] inb_S4x128x128_S1x128x128_3_0_0,
          k0_pay75 (k0_pay74 (k0_pay49 e f) (k0_pay61 (k0_pay49 e f) (View.ld q (Rect.unit ![3, 0, 0] ![1, 128, 128] inb_S4x128x128_S1x128x128_3_0_0))))⟩ : View.Piece (Elt Ideal) S4x128x128 .f32)
      :: ⟨Rect.unit ![2, 0, 0] ![1, 128, 128] inb_S4x128x128_S1x128x128_2_0_0,
          k0_pay71 (k0_pay49 e f) (k0_pay58 (k0_pay49 e f) (View.ld q (Rect.unit ![2, 0, 0] ![1, 128, 128] inb_S4x128x128_S1x128x128_2_0_0)))⟩
      :: ⟨Rect.unit ![1, 0, 0] ![1, 128, 128] inb_S4x128x128_S1x128x128_1_0_0,
          k0_pay68 (k0_pay49 e f) (k0_pay54 (k0_pay49 e f) (View.ld q (Rect.unit ![1, 0, 0] ![1, 128, 128] inb_S4x128x128_S1x128x128_1_0_0)))⟩
      :: ⟨Rect.unit ![0, 0, 0] ![1, 128, 128] inb_S4x128x128_S1x128x128_0_0_0,
          k0_pay65 (k0_pay49 e f) (k0_pay51 (k0_pay50 e f (View.ld q (Rect.unit ![0, 0, 0] ![1, 128, 128] inb_S4x128x128_S1x128x128_0_0_0))))⟩ :: L) y
      = dbsNext (k0_pay49 (F := Ideal) e f) q y := by
  refine canon_slabs _ _ _ _ _ L (fun t s => ?_) (fun t s => ?_) (fun t s => ?_) (fun t s => ?_) y <;>
  · rw [dbsNext_at]
    unfold dbsChunk
    pointwise [k0_pay75, k0_pay74, k0_pay61, k0_pay71, k0_pay58, k0_pay68, k0_pay54, k0_pay65, k0_pay51, k0_pay50, k0_pay49]

/-- The rows of `dnorm_v` after one more grid point: 32 rows folded onto each of 8. -/
theorem dnv_apply (vh : Vec Ideal S256x512 .f32) (w3 : Vec Ideal S128x128 .bf16) (z : Vec Ideal S256x512 .bf16) (a : Vec Ideal S128x512 .f32) (b c d : Vec Ideal S128x128 .f32)
    (q : Vec Ideal S8x512 .f32) (r : Fin 8) (j : Fin 512) :
    k0_pay78 vh w3 z a b c d q (ix2 (n0 := 8) (n1 := 512) r j)
      = q (ix2 r j) + ∑ k : Fin 32, k0_pay77 (F := Ideal) w3 z a b c d (ix2 ⟨k.val * 8 + r.val, by omega⟩ j) * vh (ix2 ⟨k.val * 8 + r.val, by omega⟩ j) := by
  pointwise [k0_pay78]

/-- The row of `dnorm_v` that leaves: the 8 rows' sum, then zeros. -/
theorem dnvOut_apply (q : Vec Ideal S8x512 .f32) (r : Fin 8) (j : Fin 512) :
    k0_pay11 q (ix2 (n0 := 8) (n1 := 512) r j) = if r.val = 0 then ∑ s : Fin 8, q (ix2 s j) else 0 := by
  pointwise [k0_pay11]
  split <;> split <;> first | rfl | omega

end Cert.Ab

end
-- ==== Proof.Ab.Conv.lean ====
/- The short convolution of the kernel `Ab`: its input one and two rows earlier, its output and the gradient of its weight. -/
module

public import proofs.«01_k».proof.Proof.Ab.Point

@[expose] public section

set_option maxRecDepth 16384

noncomputable section

open Idealize.ShloMosaic Idealize.ShloMosaic.TcCoe Idealize.SL.Sem

namespace Cert.Ab

open Cert.AbIdeal Cert.AbIdeal.Gen Cert.Common

/-- The gated short convolution's input. -/
def xp (p : Fin 2560 → EReal) (j : Fin 512) : EReal := p ⟨1536 + j.val, by omega⟩ * p ⟨2048 + j.val, by omega⟩

/-- The word of a row's test against one of the first two rows. -/
theorem row_word (n : Fin 2) : ∀ i : Fin 256, IntOp.cmpi CmpIPredicate.eq (BitVec.ofNat 32 i.val) (BitVec.ofNat 32 n.val) = if i.val = n.val then 1#1 else 0#1 := by
  revert n
  decide +kernel

theorem sel_row (n : Nat) (hn : n < 2) (i : Fin 256) (a b : EReal) :
    Scalar.select (IntOp.cmpi CmpIPredicate.eq (BitVec.ofNat 32 i.val) (BitVec.ofNat 32 n)) a b = if i.val = n then a else b := by
  rw [show IntOp.cmpi CmpIPredicate.eq (BitVec.ofNat 32 i.val) (BitVec.ofNat 32 n) = if i.val = n then 1#1 else 0#1 from row_word ⟨n, hn⟩ i]
  split <;> rfl

/-- The input a row earlier, the first row from the rows before the tile. -/
theorem x1_apply (v0 : BitVec 32) (PR : Vec Ideal S256x2560 .f32) (H : Vec Ideal S8x2560 .f32) (i : Fin 256) (j : Fin 512) :
    k0_pay94 v0 PR H (ix2 (n0 := 256) (n1 := 512) i j)
      = if h : i.val = 0 then k0_pay88 v0 H (ix2 7 j) else xp (fun k => PR (ix2 ⟨i.val - 1, by omega⟩ k)) j := by
  unfold xp
  pointwise [k0_pay94, k0_pay93, k0_pay92, k0_pay91]
  refine (sel_row 0 (by omega) i _ _).trans ?_
  by_cases h : i.val = 0
  · refine (if_pos h).trans ?_
    symm
    exact dif_pos h
  · refine (if_neg h).trans (Eq.trans ?_ (dif_neg h).symm)
    have e : (⟨(i.val + 256 - 1) % 256, by omega⟩ : Fin 256) = ⟨i.val - 1, by omega⟩ := Fin.ext (by dsimp only; omega)
    exact congrArg (fun n : Fin 256 => PR (ix2 n ⟨1536 + j.val, by omega⟩) * PR (ix2 n ⟨2048 + j.val, by omega⟩)) e

/-- The input two rows earlier, the first two rows from the rows before the tile. -/
theorem x2_apply (v0 : BitVec 32) (PR : Vec Ideal S256x2560 .f32) (H : Vec Ideal S8x2560 .f32) (i : Fin 256) (j : Fin 512) :
    k0_pay97 (k0_pay88 v0 H) (iota .tc S256x512 32 [0] iota_S256x512_d0_w32) (k0_pay95 v0 PR H) k0_pay96 (ix2 (n0 := 256) (n1 := 512) i j)
      = if h : i.val = 0 then k0_pay88 v0 H (ix2 6 j) else if h : i.val = 1 then k0_pay88 v0 H (ix2 7 j)
        else xp (fun k => PR (ix2 ⟨i.val - 2, by omega⟩ k)) j := by
  unfold xp
  pointwise [k0_pay97, k0_pay96, k0_pay95, k0_pay93, k0_pay92, k0_pay91]
  refine (sel_row 1 (by omega) i _ _).trans ?_
  by_cases h : i.val = 1
  · refine (if_pos h).trans ?_
    symm
    rw [dif_neg (by omega)]
    exact dif_pos h
  · refine (if_neg h).trans ?_
    refine (sel_row 0 (by omega) i _ _).trans ?_
    by_cases h' : i.val = 0
    · refine (if_pos h').trans ?_
      symm
      exact dif_pos h'
    · refine (if_neg h').trans (Eq.trans ?_ ((dif_neg h').trans (dif_neg h)).symm)
      have e : (⟨(i.val + 256 - 2) % 256, by omega⟩ : Fin 256) = ⟨i.val - 2, by omega⟩ := Fin.ext (by dsimp only; omega)
      exact congrArg (fun n : Fin 256 => PR (ix2 n ⟨1536 + j.val, by omega⟩) * PR (ix2 n ⟨2048 + j.val, by omega⟩)) e

/-- The rows before the tile, where there are any. -/
theorem prev_on (v0 : BitVec 32) (hv : Scalar.cmpi CmpIPredicate.sgt v0 0#32 = 1#1) (H : Vec Ideal S8x2560 .f32) (i : Fin 8) (j : Fin 512) :
    k0_pay88 v0 H (ix2 (n0 := 8) (n1 := 512) i j) = xp (fun k => H (ix2 i k)) j := by
  unfold xp
  pointwise [k0_pay88]
  rw [hv]
  rfl

/-- The rows before the first tile are zeros. -/
theorem prev_off (v0 : BitVec 32) (hv : Scalar.cmpi CmpIPredicate.sgt v0 0#32 = 0#1) (H : Vec Ideal S8x2560 .f32) (i : Fin 8) (j : Fin 512) :
    k0_pay88 v0 H (ix2 (n0 := 8) (n1 := 512) i j) = 0 := by
  pointwise [k0_pay88]
  rw [hv]
  rfl

/-- The short convolution. -/
theorem conv_apply (prev cw : Vec Ideal S8x512 .f32) (x0 x1 x2' : Vec Ideal S256x512 .f32) (a b : IVec S256x512 32) (i : Fin 256) (j : Fin 512) :
    k0_pay98 (F := Ideal) prev cw x0 x1 a x2' b (ix2 (n0 := 256) (n1 := 512) i j)
      = cw (ix2 0 j) * k0_pay97 (F := Ideal) prev a x2' b (ix2 i j) + cw (ix2 1 j) * x1 (ix2 i j) + cw (ix2 2 j) * x0 (ix2 i j) := by
  pointwise [k0_pay98]

/-- A tile's rows summed, 32 to each of 8 first. -/
def fold (f : Fin 256 → EReal) : EReal := ∑ s : Fin 8, ∑ k : Fin 32, f ⟨k.val * 8 + s.val, by omega⟩

/-- The rows of `dconv_w` after one more grid point. -/
theorem dcw_apply (e f : Vec Ideal S256x512 .f32) (prev q : Vec Ideal S8x512 .f32) (x0 x1 x2' : Vec Ideal S256x512 .f32) (a b : IVec S256x512 32) (r : Fin 8) (j : Fin 512) :
    k0_pay101 (F := Ideal) e prev f x0 x1 a x2' b q (ix2 (n0 := 8) (n1 := 512) r j)
      = q (ix2 r j) + if r.val = 0 then fold fun i => e (ix2 i j) * f (ix2 i j) * k0_pay97 (F := Ideal) prev a x2' b (ix2 i j)
          else if r.val = 1 then fold fun i => e (ix2 i j) * f (ix2 i j) * x1 (ix2 i j)
          else if r.val = 2 then fold fun i => e (ix2 i j) * f (ix2 i j) * x0 (ix2 i j) else 0 := by
  unfold fold
  pointwise [k0_pay101, k0_pay100]
  refine congrArg _ ?_
  split_ifs <;> first | rfl | omega

end Cert.Ab

end
-- ==== Proof.Ab.Step.lean ====
/- One grid point of the kernel `Ab` as functions of its blocks, and how the pieces of each result fit together. -/
module

public import proofs.«01_k».proof.Proof.Ab.Sums
public import proofs.«01_k».proof.Proof.Ab.Conv
public import proofs.«01_k».proof.Proof.Gen.AbIdeal.Frame.Runs

@[expose] public section

set_option maxRecDepth 16384

noncomputable section

open Idealize.ShloMosaic Idealize.ShloMosaic.TcCoe Idealize.SL.Sem

namespace Cert.Ab

open Cert.AbIdeal Cert.AbIdeal.Gen Cert.Common

/-- The gate's row of the small operands. -/
abbrev gateRow (P : Vec Ideal S8x1024 .f32) := View.ld P (Rect.unit ![2, 0] ![1, 1024] inb_S8x1024_S1x1024_2_0)

/-- A tile of the cotangent of the product with the last weight. -/
abbrev dyT (D : Vec Ideal S256x1024 .f32) (P : Vec Ideal S8x1024 .f32) := k0_pay26 (gateRow P) D

/-- A tile of the mixed half's cotangent. -/
abbrev duT (D : Vec Ideal S256x1024 .f32) (P : Vec Ideal S8x1024 .f32) (W : Vec Ideal S1024x1024 .bf16) := k0_pay29 (dyT D P) W

/-- A tile of the mixed tokens' cotangent. -/
abbrev dzT (D : Vec Ideal S256x1024 .f32) (P : Vec Ideal S8x1024 .f32) (PR : Vec Ideal S256x2560 .f32) (W : Vec Ideal S1024x1024 .bf16) :=
  k0_pay48 (duT D P W) (k0_pay36 PR)

/-- A tile of the layer norm. -/
abbrev vnT (PR : Vec Ideal S256x2560 .f32) (NV : Vec Ideal S1x512 .f32) := k0_pay44 (k0_pay32 NV) (k0_pay37 PR)

/-- The four heads' weights, cut off after the diagonal. -/
def wT (WS : Vec Ideal S4x128x128 .f32) : Fin 4 → Vec Ideal S128x128 .bf16
  | 0 => k0_pay40 (View.ld WS (Rect.unit ![0, 0, 0] ![1, 128, 128] inb_S4x128x128_S1x128x128_0_0_0))
  | 1 => k0_pay41 (View.ld WS (Rect.unit ![1, 0, 0] ![1, 128, 128] inb_S4x128x128_S1x128x128_1_0_0))
  | 2 => k0_pay42 (View.ld WS (Rect.unit ![2, 0, 0] ![1, 128, 128] inb_S4x128x128_S1x128x128_2_0_0))
  | 3 => k0_pay43 (View.ld WS (Rect.unit ![3, 0, 0] ![1, 128, 128] inb_S4x128x128_S1x128x128_3_0_0))

theorem wT_apply (WS : Vec Ideal S4x128x128 .f32) (h : Fin 4) (t s : Fin 128) : wT WS h (ix2 t s) = wmask (fun t s => WS (ix3 h t s)) t s := by
  unfold wmask
  fin_vals h with e
  · obtain rfl : h = 0 := Fin.ext e
    unfold wT
    pointwise [k0_pay40]
    exact sel_sge t s _ _
  · obtain rfl : h = 1 := Fin.ext e
    unfold wT
    pointwise [k0_pay41]
    exact sel_sge t s _ _
  · obtain rfl : h = 2 := Fin.ext e
    unfold wT
    pointwise [k0_pay42]
    exact sel_sge t s _ _
  · obtain rfl : h = 3 := Fin.ext e
    unfold wT
    pointwise [k0_pay43]
    exact sel_sge t s _ _

/-- A tile of the mixed tokens. -/
def zT (PR : Vec Ideal S256x2560 .f32) (NV : Vec Ideal S1x512 .f32) (WS : Vec Ideal S4x128x128 .f32) (BS : Vec Ideal S128x4 .f32) : Vec Ideal S256x512 .f32 :=
  k0_pay46 (k0_pay33 BS) (wT WS 0) (wT WS 1) (wT WS 2) (wT WS 3) (vnT PR NV) (k0_pay45 (k0_pay32 NV) (k0_pay37 PR)) (constant (F := Ideal) S128x128 .f32 0x00000000#32)

/-- The input of the short convolution two rows earlier. -/
abbrev x2T (v : BitVec 32) (PR : Vec Ideal S256x2560 .f32) (H : Vec Ideal S8x2560 .f32) :=
  k0_pay97 (k0_pay88 v H) (iota .tc S256x512 32 [0] iota_S256x512_d0_w32) (k0_pay95 v PR H) k0_pay96

/-- A tile of the short convolution. -/
def convT (v : BitVec 32) (PR : Vec Ideal S256x2560 .f32) (H : Vec Ideal S8x2560 .f32) (CW : Vec Ideal S8x512 .f32) : Vec Ideal S256x512 .f32 :=
  k0_pay98 (k0_pay88 v H) (k0_pay89 CW) (k0_pay93 (k0_pay31 PR)) (k0_pay94 v (k0_pay31 PR) H) (iota .tc S256x512 32 [0] iota_S256x512_d0_w32)
    (k0_pay95 v (k0_pay31 PR) H) k0_pay96

/-- The rows of `dnorm_v` after one more grid point. -/
def dnvNext (D : Vec Ideal S256x1024 .f32) (P : Vec Ideal S8x1024 .f32) (PR : Vec Ideal S256x2560 .f32) (WS : Vec Ideal S4x128x128 .f32)
    (W : Vec Ideal S1024x1024 .bf16) (q : Vec Ideal S8x512 .f32) : Vec Ideal S8x512 .f32 :=
  k0_pay78 (k0_pay39 (k0_pay37 PR)) (wT WS 3) (dzT D P PR W)
    (k0_pay64 (wT WS 3) (dzT D P PR W) (k0_pay53 (wT WS 0) (dzT D P PR W))
      (k0_pay57 (wT WS 1) (k0_pay56 (dzT D P PR W)) (constant (F := Ideal) S128x128 .f32 0x00000000#32)) (k0_pay60 (wT WS 2) (dzT D P PR W)))
    (k0_pay67 (wT WS 0) (dzT D P PR W)) (k0_pay70 (wT WS 1) (dzT D P PR W)) (k0_pay73 (wT WS 2) (dzT D P PR W)) q

/-- The rows of `dconv_w` after one more grid point. -/
def dcwNext (v : BitVec 32) (D : Vec Ideal S256x1024 .f32) (P : Vec Ideal S8x1024 .f32) (PR : Vec Ideal S256x2560 .f32) (H : Vec Ideal S8x2560 .f32)
    (W : Vec Ideal S1024x1024 .bf16) (q : Vec Ideal S8x512 .f32) : Vec Ideal S8x512 .f32 :=
  k0_pay101 (k0_pay30 (dyT D P) W) (k0_pay88 v H) (k0_pay90 (k0_pay31 PR)) (k0_pay93 (k0_pay31 PR)) (k0_pay94 v (k0_pay31 PR) H)
    (iota .tc S256x512 32 [0] iota_S256x512_d0_w32) (k0_pay95 v (k0_pay31 PR) H) k0_pay96 q

/-- Four chunks of columns, one under the other. -/
def chunks (f : Vec Ideal S256x1024 .bf16) : Vec Ideal S4x256x256 .bf16 := fun y =>
  f (ix2 (y 1) ⟨(y 0).val * 256 + (y 2).val, by have h : (y 0).val < 4 := (y 0).isLt; have h' : (y 2).val < 256 := (y 2).isLt; omega⟩)

/-- The chunks a point writes are those of the two halves side by side. -/
theorem canon_cat (u z b v : Vec Ideal S256x512 .f32) (y : S4x256x256.Idx) :
    View.canon ([(⟨Rect.unit ![3, 0, 0] ![1, 256, 256] inb_S4x256x256_S1x256x256_3_0_0, k0_pay121 (F := Ideal) u z b v⟩ : View.Piece (Elt Ideal) S4x256x256 .bf16),
      ⟨Rect.unit ![2, 0, 0] ![1, 256, 256] inb_S4x256x256_S1x256x256_2_0_0, k0_pay120 (F := Ideal) u z b v⟩,
      ⟨Rect.unit ![1, 0, 0] ![1, 256, 256] inb_S4x256x256_S1x256x256_1_0_0, k0_pay119 (F := Ideal) u z b v⟩,
      ⟨Rect.unit ![0, 0, 0] ![1, 256, 256] inb_S4x256x256_S1x256x256_0_0_0, k0_pay118 (F := Ideal) u z b v⟩]) y = chunks (k0_pay117 (F := Ideal) u z b v) y := by
  refine congrFun (canon_agree (chunks (k0_pay117 (F := Ideal) u z b v)) _ ?_ ?_) y
  · exact fun y => View.cover_of_tiledL (s := S4x256x256) _ ![1, 256, 256] (by sl_kernel_rfl) y
  · simp only [List.forall_mem_cons]
    refine ⟨fun x => ?_, fun x => ?_, fun x => ?_, fun x => ?_, fun x h => absurd h List.not_mem_nil⟩ <;>
    · unfold chunks
      generalize hf : (k0_pay117 (F := Ideal) u z b v) = f
      idx_vars x
      first | unfold k0_pay121 | unfold k0_pay120 | unfold k0_pay119 | unfold k0_pay118
      rw [hf]
      pointwise []
      try exact congrArg f (funext fun a => Fin.ext (by match a with | ⟨0, _⟩ => simp <;> omega | ⟨1, _⟩ => simp <;> omega))

/-- An entry of the two halves side by side. -/
theorem cat_apply (u z b v : Vec Ideal S256x512 .f32) (i : Fin 256) (k : Fin 1024) :
    k0_pay117 (F := Ideal) u z b v (ix2 (n0 := 256) (n1 := 1024) i k)
      = if h : k.val < 512 then u (ix2 i ⟨k.val, h⟩) * z (ix2 i ⟨k.val, h⟩) else b (ix2 i ⟨k.val - 512, by omega⟩) * v (ix2 i ⟨k.val - 512, by omega⟩) := by
  pointwise [k0_pay117]

/-- A head's weight gradient cut off after the diagonal. -/
def cut (q : Vec Ideal S4x128x128 .f32) : Vec Ideal S4x128x128 .f32 := fun y => if (y 2).val ≤ (y 1).val then q y else 0

theorem cut_at (q : Vec Ideal S4x128x128 .f32) (h : Fin 4) (t s : Fin 128) : cut q (ix3 h t s) = if s.val ≤ t.val then q (ix3 h t s) else 0 := rfl

/-- The weight gradient that leaves, cut off after the diagonal. -/
theorem canon_dwsOut (v z : Vec Ideal S256x512 .bf16) (q : Vec Ideal S4x128x128 .f32) (y : S4x128x128.Idx) :
    View.canon [(⟨Rect.unit ![3, 0, 0] ![1, 128, 128] inb_S4x128x128_S1x128x128_3_0_0,
          k0_pay20 (iota .tc S128x128 32 [0] iota_S128x128_d0_w32) (iota .tc S128x128 32 [1] iota_S128x128_d1_w32)
            (k0_pay76 v z (k0_pay63 (k0_pay62 v z (View.ld q (Rect.unit ![3, 0, 0] ![1, 128, 128] inb_S4x128x128_S1x128x128_3_0_0)))))⟩ : View.Piece (Elt Ideal) S4x128x128 .f32),
      ⟨Rect.unit ![2, 0, 0] ![1, 128, 128] inb_S4x128x128_S1x128x128_2_0_0,
          k0_pay18 (iota .tc S128x128 32 [0] iota_S128x128_d0_w32) (iota .tc S128x128 32 [1] iota_S128x128_d1_w32)
            (k0_pay72 v z (k0_pay59 v z (View.ld q (Rect.unit ![2, 0, 0] ![1, 128, 128] inb_S4x128x128_S1x128x128_2_0_0))))⟩,
      ⟨Rect.unit ![1, 0, 0] ![1, 128, 128] inb_S4x128x128_S1x128x128_1_0_0,
          k0_pay16 (iota .tc S128x128 32 [0] iota_S128x128_d0_w32) (iota .tc S128x128 32 [1] iota_S128x128_d1_w32)
            (k0_pay69 v z (k0_pay55 v z (View.ld q (Rect.unit ![1, 0, 0] ![1, 128, 128] inb_S4x128x128_S1x128x128_1_0_0))))⟩,
      ⟨Rect.unit ![0, 0, 0] ![1, 128, 128] inb_S4x128x128_S1x128x128_0_0_0,
          k0_pay14 k0_pay12 (k0_pay13 (k0_pay66 v z (k0_pay52 v z (View.ld q (Rect.unit ![0, 0, 0] ![1, 128, 128] inb_S4x128x128_S1x128x128_0_0_0)))))⟩] y
      = cut (dwsNext v z q) y := by
  refine canon_slabs (cut (dwsNext v z q)) _ _ _ _ [] (fun t s => ?_) (fun t s => ?_) (fun t s => ?_) (fun t s => ?_) y <;>
  · rw [cut_at, dwsNext_at]
    unfold dwsChunk
    pointwise [k0_pay20, k0_pay18, k0_pay16, k0_pay14, k0_pay13, k0_pay12, k0_pay76, k0_pay63, k0_pay62, k0_pay72, k0_pay59, k0_pay69, k0_pay55, k0_pay66, k0_pay52]
    exact sel_sge t s _ _

/-- A head's columns summed, the sum in every column. -/
def colSum (q : Vec Ideal S4x128x128 .f32) : Vec Ideal S4x128x128 .f32 := fun y => ∑ d : Fin 128, q (ix3 (y 0) (y 1) d)

theorem colSum_at (q : Vec Ideal S4x128x128 .f32) (h : Fin 4) (t s : Fin 128) : colSum q (ix3 h t s) = ∑ d : Fin 128, q (ix3 h t d) := rfl

/-- The bias gradient that leaves: a head's columns summed, the sum in every column. -/
theorem canon_dbsOut (e f : Vec Ideal S256x512 .f32) (q : Vec Ideal S4x128x128 .f32) (y : S4x128x128.Idx) :
    View.canon [(⟨Rect.unit ![3, 0, 0] ![1, 128, 128] inb_S4x128x128_S1x128x128_3_0_0,
          k0_pay2 (k0_pay21 (k0_pay75 (k0_pay74 (k0_pay49 e f) (k0_pay61 (k0_pay49 e f) (View.ld q (Rect.unit ![3, 0, 0] ![1, 128, 128] inb_S4x128x128_S1x128x128_3_0_0))))))⟩ : View.Piece (Elt Ideal) S4x128x128 .f32),
      ⟨Rect.unit ![2, 0, 0] ![1, 128, 128] inb_S4x128x128_S1x128x128_2_0_0,
          k0_pay19 (k0_pay71 (k0_pay49 e f) (k0_pay58 (k0_pay49 e f) (View.ld q (Rect.unit ![2, 0, 0] ![1, 128, 128] inb_S4x128x128_S1x128x128_2_0_0))))⟩,
      ⟨Rect.unit ![1, 0, 0] ![1, 128, 128] inb_S4x128x128_S1x128x128_1_0_0,
          k0_pay17 (k0_pay68 (k0_pay49 e f) (k0_pay54 (k0_pay49 e f) (View.ld q (Rect.unit ![1, 0, 0] ![1, 128, 128] inb_S4x128x128_S1x128x128_1_0_0))))⟩,
      ⟨Rect.unit ![0, 0, 0] ![1, 128, 128] inb_S4x128x128_S1x128x128_0_0_0,
          k0_pay15 (k0_pay65 (k0_pay49 e f) (k0_pay51 (k0_pay50 e f (View.ld q (Rect.unit ![0, 0, 0] ![1, 128, 128] inb_S4x128x128_S1x128x128_0_0_0)))))⟩] y
      = colSum (dbsNext (k0_pay49 (F := Ideal) e f) q) y := by
  refine canon_slabs (colSum (dbsNext (k0_pay49 (F := Ideal) e f) q)) _ _ _ _ [] (fun t s => ?_) (fun t s => ?_) (fun t s => ?_) (fun t s => ?_) y <;>
  · rw [colSum_at]
    simp only [dbsNext_at]
    unfold dbsChunk
    pointwise [k0_pay2, k0_pay21, k0_pay19, k0_pay17, k0_pay15, k0_pay75, k0_pay74, k0_pay61, k0_pay71, k0_pay58, k0_pay68, k0_pay54, k0_pay65, k0_pay51, k0_pay50, k0_pay49]

end Cert.Ab

end
-- ==== Proof.Ab.Rows.lean ====
/- The numbers the kernel `Ab` works with over all the rows, from the arguments: the two halves' cotangents, the gelu, the layer norm, the
   mixed tokens, the short convolution and the gradients of the small weights. -/
module

public import proofs.«01_k».proof.Proof.Ab.Conv
public import proofs.«01_k».proof.Proof.Common.Swiglu

@[expose] public section

set_option maxRecDepth 16384

noncomputable section

open Idealize.ShloMosaic Idealize.ShloMosaic.TcCoe Idealize.SL.Sem

namespace Cert.Ab

open Cert.AbIdeal Cert.AbIdeal.Gen Cert.Common

/-- The arguments. -/
structure Args where
  /-- The layer's input. -/
  x : Vec Ideal S1x2048x1024 .f32
  /-- Its modulation. -/
  mod : Vec Ideal S1x3072 .f32
  /-- The norm's weight. -/
  g : Vec Ideal S1024 .f32
  /-- The first weight. -/
  w : Vec Ideal S1024x2560 .f32
  /-- The layer norm's weight. -/
  nv : Vec Ideal S512 .f32
  /-- The weights over the tokens. -/
  ws : Vec Ideal S4x128x128 .f32
  /-- Their biases. -/
  bs : Vec Ideal S4x128 .f32
  /-- The short convolution's weight. -/
  cw : Vec Ideal S3x512 .f32
  /-- The last weight. -/
  wo : Vec Ideal S1024x1024 .f32
  /-- The cotangent. -/
  ct : Vec Ideal S1x2048x1024 .f32

variable (A : Args)

/-- Row `n` of the product with the first weight. -/
def projAt (n : Fin 2048) (k : Fin 2560) : EReal :=
  ∑ l, hrow (fun j => A.x (ix3 0 n j)) (fun j => A.mod (ix2 0 ⟨j.val, by omega⟩)) (fun j => A.mod (ix2 0 ⟨1024 + j.val, by omega⟩)) (fun j => A.g (ix1 j)) l * A.w (ix2 l k)

/-- The gate's entries. -/
def gateAt (l : Fin 1024) : EReal := A.mod (ix2 0 ⟨2048 + l.val, by omega⟩)

/-- The cotangent of the product with the last weight. -/
def dyAt (n : Fin 2048) (l : Fin 1024) : EReal := gateAt A l * A.ct (ix3 0 n l)

/-- The cotangent of the two halves. -/
def dcatAt (n : Fin 2048) (j : Fin 1024) : EReal := dcat (gateAt A) (fun l => A.ct (ix3 0 n l)) (fun k l => A.wo (ix2 k l)) j

/-- The gelu that gates the mixed tokens. -/
def guAt (n : Fin 2048) (j : Fin 512) : EReal := gelu (projAt A n ⟨j.val, by omega⟩)

/-- The layer norm before its weight. -/
def vhAt (n : Fin 2048) (j : Fin 512) : EReal := vhat (fun k => projAt A n ⟨512 + k.val, by omega⟩) j

/-- The layer norm. -/
def vnAt (n : Fin 2048) (j : Fin 512) : EReal := vhAt A n j * A.nv (ix1 j)

/-- A head's weight over the tokens, cut off after the diagonal. -/
def wsAt (h : Fin 4) (t s : Fin 128) : EReal := wmask (fun t s => A.ws (ix3 h t s)) t s

/-- The mixed tokens. -/
def zAt (n : Fin 2048) (j : Fin 512) : EReal :=
  (∑ s : Fin 128, wsAt A ⟨j.val / 128, by omega⟩ ⟨n.val % 128, by omega⟩ s * vnAt A ⟨n.val / 128 * 128 + s.val, by omega⟩ j)
    + A.bs (ix2 ⟨j.val / 128, by omega⟩ ⟨n.val % 128, by omega⟩)

/-- The cotangent of the mixed tokens. -/
def dzAt (n : Fin 2048) (j : Fin 512) : EReal := dcatAt A n ⟨j.val, by omega⟩ * guAt A n j

/-- The gradient of the biases. -/
def dbsAt (h : Fin 4) (t : Fin 128) : EReal := ∑ c : Fin 16, ∑ d : Fin 128, dzAt A ⟨c.val * 128 + t.val, by omega⟩ ⟨h.val * 128 + d.val, by omega⟩

/-- The gradient of the weights over the tokens, before it is cut off. -/
def dwsAt (h : Fin 4) (t s : Fin 128) : EReal :=
  ∑ c : Fin 16, ∑ d : Fin 128, dzAt A ⟨c.val * 128 + t.val, by omega⟩ ⟨h.val * 128 + d.val, by omega⟩ * vnAt A ⟨c.val * 128 + s.val, by omega⟩ ⟨h.val * 128 + d.val, by omega⟩

/-- The cotangent of the layer norm. -/
def dvnAt (n : Fin 2048) (j : Fin 512) : EReal :=
  ∑ t : Fin 128, wsAt A ⟨j.val / 128, by omega⟩ t ⟨n.val % 128, by omega⟩ * dzAt A ⟨n.val / 128 * 128 + t.val, by omega⟩ j

/-- The gradient of the layer norm's weight. -/
def dnvAt (j : Fin 512) : EReal := ∑ n : Fin 2048, dvnAt A n j * vhAt A n j

/-- The short convolution's input, `k` rows earlier. -/
def xbAt (k : ℕ) (n : Fin 2048) (j : Fin 512) : EReal := if h : n.val < k then 0 else xp (projAt A ⟨n.val - k, by omega⟩) j

/-- The short convolution. -/
def convAt (n : Fin 2048) (j : Fin 512) : EReal := A.cw (ix2 0 j) * xbAt A 2 n j + A.cw (ix2 1 j) * xbAt A 1 n j + A.cw (ix2 2 j) * xbAt A 0 n j

/-- The two halves side by side. -/
def catAt (n : Fin 2048) (k : Fin 1024) : EReal :=
  if h : k.val < 512 then guAt A n ⟨k.val, h⟩ * zAt A n ⟨k.val, h⟩
  else projAt A n ⟨1024 + (k.val - 512), by omega⟩ * convAt A n ⟨k.val - 512, by omega⟩

/-- The gradient of one row of the short convolution's weight: the row that meets its input `k` rows earlier. -/
def dcwAt (k : ℕ) (j : Fin 512) : EReal := ∑ n : Fin 2048, dcatAt A n ⟨512 + j.val, by omega⟩ * projAt A n ⟨1024 + j.val, by omega⟩ * xbAt A k n j

end Cert.Ab

end
-- ==== Proof.Ab.Blocks.lean ====
/- The blocks of the kernel `Ab` at a grid point, as entries of the arguments. -/
module

public import proofs.«01_k».proof.Proof.Gen.AbIdeal.Frame.Runs
public import proofs.«01_k».proof.Proof.Ab.Rows
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ab

open Cert.AbIdeal Cert.AbIdeal.Gen Cert.Common

variable (m : (ℓ : Loc nD τ sig) → Buf (Elt Ideal) ℓ)

/-- The arguments as they stand in memory. -/
def args (c : Dev nD) : Args where
  x := m ((c : Thread nD τ).loc main_arg0)
  mod := m ((c : Thread nD τ).loc main_arg1)
  g := m ((c : Thread nD τ).loc main_arg2)
  w := m ((c : Thread nD τ).loc main_arg3)
  nv := m ((c : Thread nD τ).loc main_arg4)
  ws := m ((c : Thread nD τ).loc main_arg5)
  bs := m ((c : Thread nD τ).loc main_arg6)
  cw := m ((c : Thread nD τ).loc main_arg7)
  wo := m ((c : Thread nD τ).loc main_arg8)
  ct := m ((c : Thread nD τ).loc main_arg9)

/-- The block each window takes at a grid point. -/
theorem idx : ∀ t : Fin cfg0.N, win0_0.index t = ![7 - t.val, 0] ∧ win0_2.index t = ![0, 0] ∧ win0_3.index t = ![7 - t.val, 0]
    ∧ win0_4.index t = ![(7 - t.val) * 32 - 1, 0] ∧ win0_6.index t = ![0, 0] ∧ win0_7.index t = ![0, 0, 0] ∧ win0_8.index t = ![0, 0]
    ∧ win0_9.index t = ![0, 0] ∧ win0_12.index t = ![0, 7 - t.val, 0] ∧ win0_13.index t = ![7 - t.val, 0] ∧ win0_15.index t = ![0, 0]
    ∧ win0_16.index t = ![0, 0, 0] ∧ win0_17.index t = ![0, 0, 0] ∧ win0_18.index t = ![0, 0] :=
  (by decide +kernel : ∀ t : Fin grid0.N, _)

theorem lt8 (t : Fin cfg0.N) : t.val < 8 := lt_of_lt_of_eq t.isLt (show cfg0.N = 8 from N_0)

/-- Row `i` of the tile of grid point `t`: the tiles are taken from the last to the first. -/
def row (t : Fin cfg0.N) (i : Fin 256) : Fin 2048 := ⟨(7 - t.val) * 256 + i.val, by have h := lt8 t; omega⟩

/-- The small operands stacked: the three rows of `mod`, the row `g`, zeros. -/
theorem V_p (c : Dev nD) : (V m c main_v4 : Vec Ideal S8x1024 .f32) = concatenate S8x1024 0
    [⟨S3x1024, shapeCast (s := S1x3x1024) S3x1024 (shapeCast (s := S1x3072) S1x3x1024 (args m c).mod shapeCasts_S1x3072_S1x3x1024) shapeCasts_S1x3x1024_S3x1024⟩,
     ⟨S1x1024, broadcastInDim S1x1024 ![1] bcast_S1024_S1x1024_1 (args m c).g⟩,
     ⟨S4x1024, broadcastInDim S4x1024 ![] bcast_S_S4x1024 (constant (F := Ideal) S_ .f32 0x00000000#32)⟩]
    concatenates_S3x1024_S1x1024_S4x1024_S8x1024_d0 := by
  unfold V
  simp only [hostOps0, hostOps0_1, hostOps0_2, List.flatten_cons, List.flatten_nil, List.append_nil, List.cons_append, List.nil_append]
  after_results
  rfl

theorem blk_gate (c : Dev nD) (t : Fin cfg0.N) (l : Fin 1024) : (iblk m c 2 t : Vec Ideal S8x1024 .f32) (ix2 2 l) = gateAt (args m c) l := by
  have e : (iblk m c 2 t : Vec Ideal S8x1024 .f32) (ix2 2 l) = (V m c main_v4 : Vec Ideal S8x1024 .f32) (ix2 2 l) := by
    refine congrArg (V m c main_v4) ?_
    blk_ext [idx t]
  rw [e, V_p]
  unfold gateAt
  pointwise []

/-- The outer cotangent, as the host hands it over. -/
theorem V_ct (c : Dev nD) : (V m c main_v130 : Vec Ideal S2048x1024 .f32)
    = shapeCast (s := S1x2048x1024) S2048x1024 (args m c).ct shapeCasts_S1x2048x1024_S2048x1024 := by
  unfold V
  simp only [hostOps0, hostOps0_1, hostOps0_2, List.flatten_cons, List.flatten_nil, List.append_nil, List.cons_append, List.nil_append]
  after_results
  rfl

theorem blk_ct (c : Dev nD) (t : Fin cfg0.N) (i : Fin 256) (l : Fin 1024) :
    (iblk m c 0 t : Vec Ideal S256x1024 .f32) (ix2 i l) = (args m c).ct (ix3 0 (row t i) l) := by
  have e : (iblk m c 0 t : Vec Ideal S256x1024 .f32) (ix2 i l) = (V m c main_v130 : Vec Ideal S2048x1024 .f32) (ix2 (row t i) l) := by
    refine congrArg (V m c main_v130) ?_
    unfold row
    blk_ext [idx t]
  rw [e, V_ct]
  pointwise []

/-- The product with the first weight, as the host hands it over. -/
theorem V_proj (c : Dev nD) : ∃ v : Vec Ideal S2048x2560 .f32, (V m c main_v132 : Vec Ideal S2048x2560 .f32) = v ∧
    ∀ n k, v (ix2 (n0 := 2048) (n1 := 2560) n k) = projAt (args m c) n k := by
  apply Exists.intro
  apply And.intro
  · unfold V
    simp only [hostOps0, hostOps0_1, hostOps0_2, List.flatten_cons, List.flatten_nil, List.append_nil, List.cons_append, List.nil_append]
    after_results
  · intro n k
    unfold projAt hrow rms rowLen rowEps args
    pointwise []

theorem blk_proj (c : Dev nD) (t : Fin cfg0.N) (i : Fin 256) (k : Fin 2560) :
    (iblk m c 3 t : Vec Ideal S256x2560 .f32) (ix2 i k) = projAt (args m c) (row t i) k := by
  have e : (iblk m c 3 t : Vec Ideal S256x2560 .f32) (ix2 i k) = (V m c main_v132 : Vec Ideal S2048x2560 .f32) (ix2 (row t i) k) := by
    refine congrArg (V m c main_v132) ?_
    unfold row
    blk_ext [idx t]
  obtain ⟨v, hv, h⟩ := V_proj m c
  rw [e, hv, h]

/-- The eight rows before a tile that is not the first. -/
theorem blk_halo (c : Dev nD) (t : Fin cfg0.N) (ht : t.val < 7) (i : Fin 8) (k : Fin 2560) :
    (iblk m c 4 t : Vec Ideal S8x2560 .f32) (ix2 i k) = projAt (args m c) ⟨(7 - t.val) * 256 - 8 + i.val, by omega⟩ k := by
  have e : (iblk m c 4 t : Vec Ideal S8x2560 .f32) (ix2 i k) = (V m c main_v132 : Vec Ideal S2048x2560 .f32) (ix2 ⟨(7 - t.val) * 256 - 8 + i.val, by omega⟩ k) := by
    refine congrArg (V m c main_v132) ?_
    blk_ext [idx t]
  obtain ⟨v, hv, h⟩ := V_proj m c
  rw [e, hv, h]

/-- The layer norm's weight, as the host hands it over. -/
theorem V_nv (c : Dev nD) : (V m c main_v134 : Vec Ideal S1x512 .f32) = shapeCast (s := S512) S1x512 (args m c).nv shapeCasts_S512_S1x512 := by
  unfold V
  simp only [hostOps0, hostOps0_1, hostOps0_2, List.flatten_cons, List.flatten_nil, List.append_nil, List.cons_append, List.nil_append]
  after_results
  rfl

theorem blk_nv (c : Dev nD) (t : Fin cfg0.N) (j : Fin 512) : (iblk m c 6 t : Vec Ideal S1x512 .f32) (ix2 0 j) = (args m c).nv (ix1 j) := by
  have e : (iblk m c 6 t : Vec Ideal S1x512 .f32) (ix2 0 j) = (V m c main_v134 : Vec Ideal S1x512 .f32) (ix2 0 j) := by
    refine congrArg (V m c main_v134) ?_
    blk_ext [idx t]
  rw [e, V_nv]
  pointwise []

theorem blk_ws (c : Dev nD) (t : Fin cfg0.N) (h : Fin 4) (a b : Fin 128) :
    (iblk m c 7 t : Vec Ideal S4x128x128 .f32) (ix3 h a b) = (args m c).ws (ix3 h a b) := by
  have e : (iblk m c 7 t : Vec Ideal S4x128x128 .f32) (ix3 h a b) = (V m c main_arg5 : Vec Ideal S4x128x128 .f32) (ix3 h a b) := by
    refine congrArg (V m c main_arg5) ?_
    blk_ext [idx t]
  rw [e, V_main_arg5]
  rfl

/-- The biases transposed, as the host hands them over. -/
theorem V_bs (c : Dev nD) : (V m c main_v135 : Vec Ideal S128x4 .f32) = transpose S128x4 [1, 0] (args m c).bs transposes_S4x128_S128x4_1_0 := by
  unfold V
  simp only [hostOps0, hostOps0_1, hostOps0_2, List.flatten_cons, List.flatten_nil, List.append_nil, List.cons_append, List.nil_append]
  after_results
  rfl

theorem blk_bs (c : Dev nD) (t : Fin cfg0.N) (a : Fin 128) (h : Fin 4) : (iblk m c 8 t : Vec Ideal S128x4 .f32) (ix2 a h) = (args m c).bs (ix2 h a) := by
  have e : (iblk m c 8 t : Vec Ideal S128x4 .f32) (ix2 a h) = (V m c main_v135 : Vec Ideal S128x4 .f32) (ix2 a h) := by
    refine congrArg (V m c main_v135) ?_
    blk_ext [idx t]
  rw [e, V_bs]
  pointwise []

/-- The short convolution's weight over rows of zeros, as the host hands it over. -/
theorem V_cw (c : Dev nD) : (V m c main_v11 : Vec Ideal S8x512 .f32) = concatenate S8x512 0 [⟨S3x512, (args m c).cw⟩,
     ⟨S5x512, broadcastInDim S5x512 ![] bcast_S_S5x512 (constant (F := Ideal) S_ .f32 0x00000000#32)⟩] concatenates_S3x512_S5x512_S8x512_d0 := by
  unfold V
  simp only [hostOps0, hostOps0_1, hostOps0_2, List.flatten_cons, List.flatten_nil, List.append_nil, List.cons_append, List.nil_append]
  after_results
  rfl

theorem blk_cw (c : Dev nD) (t : Fin cfg0.N) (r : Fin 3) (j : Fin 512) :
    (iblk m c 9 t : Vec Ideal S8x512 .f32) (ix2 ⟨r.val, by omega⟩ j) = (args m c).cw (ix2 r j) := by
  have e : (iblk m c 9 t : Vec Ideal S8x512 .f32) (ix2 ⟨r.val, by omega⟩ j) = (V m c main_v11 : Vec Ideal S8x512 .f32) (ix2 ⟨r.val, by omega⟩ j) := by
    refine congrArg (V m c main_v11) ?_
    blk_ext [idx t]
  rw [e, V_cw]
  pointwise []

/-- The eight parts of the last weight put together. -/
def WT (a : Vec Ideal S8x128x1024 .bf16) : Vec Ideal S1024x1024 .bf16 := fun i => a (ix3 ⟨(i 0).val / 128, by have h : (i 0).val < 1024 := (i 0).isLt; omega⟩ ⟨(i 0).val % 128, by omega⟩ (i 1))

/-- The last weight, as the host hands it over. -/
theorem V_w (c : Dev nD) : (V m c main_v9 : Vec Ideal S8x128x1024 .bf16)
    = shapeCast (s := S1024x1024) S8x128x1024 (truncf (F := Ideal) .bf16 (args m c).wo bitsLt_bf16_f32) shapeCasts_S1024x1024_S8x128x1024 := by
  unfold V
  simp only [hostOps0, hostOps0_1, hostOps0_2, List.flatten_cons, List.flatten_nil, List.append_nil, List.cons_append, List.nil_append]
  after_results
  rfl

theorem blk_w (c : Dev nD) (k l : Fin 1024) : WT (V m c main_v9) (ix2 k l) = (args m c).wo (ix2 (n0 := 1024) (n1 := 1024) k l) := by
  rw [V_w]
  pointwise [WT]

end Cert.Ab

end
-- ==== Proof.Ab.Tile.lean ====
/- The numbers one grid point of the kernel `Ab` works with are those of the arguments' rows. -/
module

public import proofs.«01_k».proof.Proof.Ab.Step
public import proofs.«01_k».proof.Proof.Ab.Blocks

@[expose] public section

set_option maxRecDepth 16384

noncomputable section

open Idealize.ShloMosaic Idealize.ShloMosaic.TcCoe Idealize.SL.Sem
open Idealize.ShloMosaic.Pipeline (Dat)

namespace Cert.Ab

open Cert.AbIdeal Cert.AbIdeal.Gen Cert.Common

/-- The number of a point's tile, as a word. -/
abbrev tileWord (t : Fin cfg0.N) : BitVec 32 := Scalar.subi (7#32) (BitVec.ofNat 32 (grid0.coords t 0).val)

/-- Every tile but the first has rows before it. -/
theorem word_pos : ∀ t : Fin cfg0.N, Scalar.cmpi CmpIPredicate.sgt (tileWord t) 0#32 = if t.val < 7 then 1#1 else 0#1 :=
  (by decide +kernel : ∀ t : Fin grid0.N, _)

/-- The four small re-readings of a block change nothing. -/
theorem pay31_eq (PR : Vec Ideal S256x2560 .f32) : k0_pay31 PR = PR := by
  funext y
  idx_vars y
  pointwise [k0_pay31]

theorem pay33_at (BS : Vec Ideal S128x4 .f32) (a : Fin 128) (b : Fin 4) : k0_pay33 BS (ix2 (n0 := 128) (n1 := 4) a b) = BS (ix2 a b) := by
  pointwise [k0_pay33]

theorem pay89_at (CW : Vec Ideal S8x512 .f32) (r : Fin 8) (j : Fin 512) : k0_pay89 CW (ix2 (n0 := 8) (n1 := 512) r j) = CW (ix2 r j) := by
  pointwise [k0_pay89]

theorem pay90_at (PR : Vec Ideal S256x2560 .f32) (i : Fin 256) (j : Fin 512) : k0_pay90 (F := Ideal) PR (ix2 (n0 := 256) (n1 := 512) i j) = PR (ix2 i ⟨1024 + j.val, by omega⟩) := by
  pointwise [k0_pay90]

theorem x0_apply (PR : Vec Ideal S256x2560 .f32) (i : Fin 256) (j : Fin 512) : k0_pay93 (F := Ideal) PR (ix2 (n0 := 256) (n1 := 512) i j) = xp (fun k => PR (ix2 i k)) j := by
  unfold xp
  pointwise [k0_pay93, k0_pay92, k0_pay91]

theorem dz_apply (d : Vec Ideal S256x512 .f32) (u : Vec Ideal S256x512 .f32) (i : Fin 256) (j : Fin 512) :
    k0_pay48 (F := Ideal) d u (ix2 (n0 := 256) (n1 := 512) i j) = d (ix2 i j) * u (ix2 i j) := by
  pointwise [k0_pay48, k0_pay47]

theorem dzf_apply (d : Vec Ideal S256x512 .f32) (u : Vec Ideal S256x512 .f32) (i : Fin 256) (j : Fin 512) :
    k0_pay49 (F := Ideal) d u (ix2 (n0 := 256) (n1 := 512) i j) = d (ix2 i j) * u (ix2 i j) := by
  pointwise [k0_pay49, k0_pay47]

theorem gateRow_at (P : Vec Ideal S8x1024 .f32) (l : Fin 1024) : gateRow P (ix2 (n0 := 1) (n1 := 1024) 0 l) = P (ix2 2 l) := by
  pointwise [gateRow]

theorem mul2 {a a' b b' : EReal} (h : a = a') (h' : b = b') : a * b = a' * b' := by
  subst h h'
  rfl

theorem add2 {a a' b b' : EReal} (h : a = a') (h' : b = b') : a + b = a' + b' := by
  subst h h'
  rfl

variable (m : (ℓ : Loc nD τ sig) → Buf (Elt Ideal) ℓ)

/-- The gate's entries, from the block of small operands. -/
theorem gate_at (c : Dev nD) (t : Fin cfg0.N) (l : Fin 1024) : gateRow (iblk m c 2 t) (ix2 (n0 := 1) (n1 := 1024) 0 l) = gateAt (args m c) l :=
  (gateRow_at _ l).trans (blk_gate m c t l)

theorem dcat_congr {g g' c c' : Fin 1024 → EReal} {w w' : Fin 1024 → Fin 1024 → EReal} {j j' : Fin 1024} (hg : g = g') (hc : c = c') (hw : w = w') (hj : j = j') :
    dcat g c w j = dcat g' c' w' j' := by
  subst hg hc hw hj
  rfl

theorem vhat_congr {v v' : Fin 512 → EReal} {j : Fin 512} (h : v = v') : vhat v j = vhat v' j := by
  subst h
  rfl

theorem xp_congr {p p' : Fin 2560 → EReal} {j : Fin 512} (h : p = p') : xp p j = xp p' j := by
  subst h
  rfl

theorem wmask_congr {w w' : Fin 128 → Fin 128 → EReal} {t s : Fin 128} (h : w = w') : wmask w t s = wmask w' t s := by
  subst h
  rfl

theorem dy_at (c : Dev nD) (t : Fin cfg0.N) (i : Fin 256) (l : Fin 1024) :
    dyT (iblk m c 0 t) (iblk m c 2 t) (ix2 (n0 := 256) (n1 := 1024) i l) = dyAt (args m c) (row t i) l := by
  refine (dy_apply _ _ i l).trans ?_
  exact mul2 (gate_at m c t l) (blk_ct m c t i l)

theorem du_at (c : Dev nD) (t : Fin cfg0.N) (i : Fin 256) (j : Fin 512) :
    duT (iblk m c 0 t) (iblk m c 2 t) (WT (V m c main_v9)) (ix2 (n0 := 256) (n1 := 512) i j) = dcatAt (args m c) (row t i) ⟨j.val, by omega⟩ := by
  refine (dya_apply _ _ _ i j).trans ?_
  exact dcat_congr (funext fun l => gate_at m c t l) (funext fun l => blk_ct m c t i l) (funext fun k => funext fun l => blk_w m c k l) rfl

theorem db_at (c : Dev nD) (t : Fin cfg0.N) (i : Fin 256) (j : Fin 512) :
    k0_pay30 (dyT (iblk m c 0 t) (iblk m c 2 t)) (WT (V m c main_v9)) (ix2 (n0 := 256) (n1 := 512) i j) = dcatAt (args m c) (row t i) ⟨512 + j.val, by omega⟩ := by
  refine (dyb_apply _ _ _ i j).trans ?_
  exact dcat_congr (funext fun l => gate_at m c t l) (funext fun l => blk_ct m c t i l) (funext fun k => funext fun l => blk_w m c k l) rfl

theorem gu_at (c : Dev nD) (t : Fin cfg0.N) (i : Fin 256) (j : Fin 512) :
    k0_pay36 (iblk m c 3 t) (ix2 (n0 := 256) (n1 := 512) i j) = guAt (args m c) (row t i) j :=
  (gu_apply _ i j).trans (congrArg gelu (blk_proj m c t i _))

theorem vh_at (c : Dev nD) (t : Fin cfg0.N) (i : Fin 256) (j : Fin 512) :
    k0_pay39 (k0_pay37 (iblk m c 3 t)) (ix2 (n0 := 256) (n1 := 512) i j) = vhAt (args m c) (row t i) j :=
  (vhat_apply _ i j).trans (vhat_congr (funext fun k => blk_proj m c t i _))

theorem vn_at (c : Dev nD) (t : Fin cfg0.N) (i : Fin 256) (j : Fin 512) :
    vnT (iblk m c 3 t) (iblk m c 6 t) (ix2 (n0 := 256) (n1 := 512) i j) = vnAt (args m c) (row t i) j := by
  refine (vn_apply _ _ i j).trans ?_
  exact mul2 (vhat_congr (funext fun k => blk_proj m c t i _)) (blk_nv m c t j)

theorem w_at (c : Dev nD) (t : Fin cfg0.N) (h : Fin 4) (a b : Fin 128) : wT (iblk m c 7 t) h (ix2 a b) = wsAt (args m c) h a b :=
  (wT_apply _ h a b).trans (wmask_congr (funext fun a => funext fun b => blk_ws m c t h a b))

theorem dz_at (c : Dev nD) (t : Fin cfg0.N) (i : Fin 256) (j : Fin 512) :
    dzT (iblk m c 0 t) (iblk m c 2 t) (iblk m c 3 t) (WT (V m c main_v9)) (ix2 (n0 := 256) (n1 := 512) i j) = dzAt (args m c) (row t i) j :=
  (dz_apply _ _ i j).trans (mul2 (du_at m c t i j) (gu_at m c t i j))

theorem dzf_at (c : Dev nD) (t : Fin cfg0.N) (i : Fin 256) (j : Fin 512) :
    k0_pay49 (F := Ideal) (duT (iblk m c 0 t) (iblk m c 2 t) (WT (V m c main_v9))) (k0_pay36 (iblk m c 3 t)) (ix2 (n0 := 256) (n1 := 512) i j)
      = dzAt (args m c) (row t i) j :=
  (dzf_apply _ _ i j).trans (mul2 (du_at m c t i j) (gu_at m c t i j))

/-- A row's place in its chunk, and the chunk's other rows. -/
theorem row_mod (t : Fin cfg0.N) (i : Fin 256) : (row t i).val % 128 = i.val % 128 := by
  show ((7 - t.val) * 256 + i.val) % 128 = _
  omega

theorem row_chunk (t : Fin cfg0.N) (i : Fin 256) (s : Fin 128) (h) (h') : row t ⟨i.val / 128 * 128 + s.val, h⟩ = ⟨(row t i).val / 128 * 128 + s.val, h'⟩ := by
  refine Fin.ext ?_
  show (7 - t.val) * 256 + (i.val / 128 * 128 + s.val) = ((7 - t.val) * 256 + i.val) / 128 * 128 + s.val
  omega

theorem z_at (c : Dev nD) (t : Fin cfg0.N) (i : Fin 256) (j : Fin 512) :
    zT (iblk m c 3 t) (iblk m c 6 t) (iblk m c 7 t) (iblk m c 8 t) (ix2 (n0 := 256) (n1 := 512) i j) = zAt (args m c) (row t i) j := by
  unfold zT
  refine (z_apply _ (wT (iblk m c 7 t)) _ _ (fun a b => ?_) i j).trans ?_
  · pointwise [k0_pay45]
  · rw [pay33_at, blk_bs]
    unfold zAt
    have hm : (⟨i.val % 128, by omega⟩ : Fin 128) = ⟨(row t i).val % 128, by omega⟩ := Fin.ext (row_mod t i).symm
    rw [← hm]
    refine congrArg (· + _) (Finset.sum_congr rfl fun s _ => ?_)
    rw [w_at, vn_at, row_chunk]

theorem dvn_at (c : Dev nD) (t : Fin cfg0.N) (w3 : Vec Ideal S128x128 .bf16) (i : Fin 256) (j : Fin 512) (z : Vec Ideal S256x512 .bf16)
    (hz : ∀ i j, z (ix2 (n0 := 256) (n1 := 512) i j) = dzAt (args m c) (row t i) j) :
    (∑ a : Fin 128, wT (iblk m c 7 t) ⟨j.val / 128, by omega⟩ (ix2 a ⟨i.val % 128, by omega⟩) * z (ix2 ⟨i.val / 128 * 128 + a.val, by omega⟩ j))
      = dvnAt (args m c) (row t i) j := by
  unfold dvnAt
  have hm : (⟨i.val % 128, by omega⟩ : Fin 128) = ⟨(row t i).val % 128, by omega⟩ := Fin.ext (row_mod t i).symm
  rw [← hm]
  refine Finset.sum_congr rfl fun s _ => ?_
  rw [w_at, hz, row_chunk]

/-- The rows of `dnorm_v` after a point: the tile's rows added, 32 to each of 8. -/
theorem dnv_at (c : Dev nD) (t : Fin cfg0.N) (q : Vec Ideal S8x512 .f32) (r : Fin 8) (j : Fin 512) :
    dnvNext (iblk m c 0 t) (iblk m c 2 t) (iblk m c 3 t) (iblk m c 7 t) (WT (V m c main_v9)) q (ix2 (n0 := 8) (n1 := 512) r j)
      = q (ix2 r j) + ∑ k : Fin 32, dvnAt (args m c) (row t ⟨k.val * 8 + r.val, by omega⟩) j * vhAt (args m c) (row t ⟨k.val * 8 + r.val, by omega⟩) j := by
  unfold dnvNext
  refine (dnv_apply _ _ _ _ _ _ _ q r j).trans ?_
  refine congrArg (_ + ·) (Finset.sum_congr rfl fun k _ => ?_)
  refine mul2 ?_ (vh_at m c t _ j)
  refine (dvn_apply (wT (iblk m c 7 t)) _ _ j).trans ?_
  exact dvn_at m c t (wT (iblk m c 7 t) 3) _ j _ (dz_at m c t)

/-- The rows before a tile. -/
theorem prev_at (c : Dev nD) (t : Fin cfg0.N) (i : Fin 8) (j : Fin 512) :
    k0_pay88 (tileWord t) (iblk m c 4 t) (ix2 (n0 := 8) (n1 := 512) i j)
      = if h : t.val < 7 then xp (projAt (args m c) ⟨(7 - t.val) * 256 - 8 + i.val, by omega⟩) j else 0 := by
  have hw := word_pos t
  by_cases h : t.val < 7
  · rw [if_pos h] at hw
    rw [dif_pos h, prev_on _ hw]
    exact xp_congr (funext fun k => blk_halo m c t h i k)
  · rw [if_neg h] at hw
    rw [dif_neg h, prev_off _ hw]

theorem x0_at (c : Dev nD) (t : Fin cfg0.N) (i : Fin 256) (j : Fin 512) :
    k0_pay93 (k0_pay31 (iblk m c 3 t)) (ix2 (n0 := 256) (n1 := 512) i j) = xbAt (args m c) 0 (row t i) j := by
  rw [pay31_eq, x0_apply]
  unfold xbAt
  rw [dif_neg (Nat.not_lt_zero _)]
  exact xp_congr (funext fun k => blk_proj m c t i k)

theorem xp_row (c : Dev nD) {n n' : Fin 2048} (j : Fin 512) (h : n.val = n'.val) : xp (projAt (args m c) n) j = xp (projAt (args m c) n') j := by
  obtain rfl := Fin.ext h
  rfl

theorem x1_at (c : Dev nD) (t : Fin cfg0.N) (i : Fin 256) (j : Fin 512) :
    k0_pay94 (tileWord t) (k0_pay31 (iblk m c 3 t)) (iblk m c 4 t) (ix2 (n0 := 256) (n1 := 512) i j) = xbAt (args m c) 1 (row t i) j := by
  have h8 := lt8 t
  have hr : (row t i).val = (7 - t.val) * 256 + i.val := rfl
  rw [pay31_eq, x1_apply]
  unfold xbAt
  by_cases h : i.val = 0
  · rw [dif_pos h, prev_at]
    by_cases ht : t.val < 7
    · rw [dif_pos ht, dif_neg (by omega)]
      exact xp_row m c j (by show (7 - t.val) * 256 - 8 + 7 = (row t i).val - 1; omega)
    · rw [dif_neg ht, dif_pos (by omega)]
  · rw [dif_neg h, dif_neg (by omega)]
    refine (xp_congr (funext fun k => blk_proj m c t _ k)).trans ?_
    exact xp_row m c j (by show (7 - t.val) * 256 + (i.val - 1) = (row t i).val - 1; omega)

theorem x2_at (c : Dev nD) (t : Fin cfg0.N) (i : Fin 256) (j : Fin 512) :
    x2T (tileWord t) (k0_pay31 (iblk m c 3 t)) (iblk m c 4 t) (ix2 (n0 := 256) (n1 := 512) i j) = xbAt (args m c) 2 (row t i) j := by
  have h8 := lt8 t
  have hr : (row t i).val = (7 - t.val) * 256 + i.val := rfl
  rw [pay31_eq]
  refine (x2_apply _ _ _ i j).trans ?_
  unfold xbAt
  by_cases h : i.val = 0
  · rw [dif_pos h, prev_at]
    by_cases ht : t.val < 7
    · rw [dif_pos ht, dif_neg (by omega)]
      exact xp_row m c j (by show (7 - t.val) * 256 - 8 + 6 = (row t i).val - 2; omega)
    · rw [dif_neg ht, dif_pos (by omega)]
  · rw [dif_neg h]
    by_cases h' : i.val = 1
    · rw [dif_pos h', prev_at]
      by_cases ht : t.val < 7
      · rw [dif_pos ht, dif_neg (by omega)]
        exact xp_row m c j (by show (7 - t.val) * 256 - 8 + 7 = (row t i).val - 2; omega)
      · rw [dif_neg ht, dif_pos (by omega)]
    · rw [dif_neg h', dif_neg (by omega)]
      refine (xp_congr (funext fun k => blk_proj m c t _ k)).trans ?_
      exact xp_row m c j (by show (7 - t.val) * 256 + (i.val - 2) = (row t i).val - 2; omega)

theorem conv_at (c : Dev nD) (t : Fin cfg0.N) (i : Fin 256) (j : Fin 512) :
    convT (tileWord t) (iblk m c 3 t) (iblk m c 4 t) (iblk m c 9 t) (ix2 (n0 := 256) (n1 := 512) i j) = convAt (args m c) (row t i) j := by
  unfold convT convAt
  refine (conv_apply _ _ _ _ _ _ _ i j).trans ?_
  rw [pay89_at, pay89_at, pay89_at, x0_at, x1_at]
  have hx2 := x2_at m c t i j
  have h0 := blk_cw m c t 0 j
  have h1 := blk_cw m c t 1 j
  have h2 := blk_cw m c t 2 j
  exact add2 (add2 (mul2 h0 hx2) (mul2 h1 rfl)) (mul2 h2 rfl)

/-- The chunks a point writes are those of the arguments' rows. -/
theorem cat_at (c : Dev nD) (t : Fin cfg0.N) (a : Fin 4) (i k : Fin 256) :
    chunks (k0_pay117 (F := Ideal) (k0_pay36 (iblk m c 3 t)) (zT (iblk m c 3 t) (iblk m c 6 t) (iblk m c 7 t) (iblk m c 8 t)) (k0_pay90 (k0_pay31 (iblk m c 3 t)))
        (convT (tileWord t) (iblk m c 3 t) (iblk m c 4 t) (iblk m c 9 t))) (ix3 (n0 := 4) (n1 := 256) (n2 := 256) a i k)
      = catAt (args m c) (row t i) ⟨a.val * 256 + k.val, by omega⟩ := by
  refine (cat_apply _ _ _ _ i ⟨a.val * 256 + k.val, by omega⟩).trans ?_
  unfold catAt
  by_cases h : a.val * 256 + k.val < 512
  · refine (dif_pos h).trans (Eq.trans ?_ (dif_pos h).symm)
    rw [gu_at, z_at]
  · refine (dif_neg h).trans (Eq.trans ?_ (dif_neg h).symm)
    rw [pay90_at, pay31_eq, conv_at, blk_proj]

/-- What a tile adds to a row of `dconv_w`. -/
def dcwTile (c : Dev nD) (t : Fin cfg0.N) (k : ℕ) (j : Fin 512) : EReal :=
  fold fun i => dcatAt (args m c) (row t i) ⟨512 + j.val, by omega⟩ * projAt (args m c) (row t i) ⟨1024 + j.val, by omega⟩ * xbAt (args m c) k (row t i) j

theorem fold_congr {f g : Fin 256 → EReal} (h : ∀ i, f i = g i) : fold f = fold g := congrArg fold (funext h)

/-- The rows of `dconv_w` after a point. -/
theorem dcw_at (c : Dev nD) (t : Fin cfg0.N) (q : Vec Ideal S8x512 .f32) (r : Fin 8) (j : Fin 512) :
    dcwNext (tileWord t) (iblk m c 0 t) (iblk m c 2 t) (iblk m c 3 t) (iblk m c 4 t) (WT (V m c main_v9)) q (ix2 (n0 := 8) (n1 := 512) r j)
      = q (ix2 r j) + if r.val = 0 then dcwTile m c t 2 j else if r.val = 1 then dcwTile m c t 1 j else if r.val = 2 then dcwTile m c t 0 j else 0 := by
  unfold dcwNext
  refine (dcw_apply _ _ _ _ _ _ _ _ _ r j).trans ?_
  have hb : ∀ i : Fin 256, k0_pay90 (k0_pay31 (iblk m c 3 t)) (ix2 (n0 := 256) (n1 := 512) i j) = projAt (args m c) (row t i) ⟨1024 + j.val, by omega⟩ := fun i => by
    rw [pay90_at, pay31_eq, blk_proj]
  unfold dcwTile
  refine congrArg (_ + ·) ?_
  split
  · exact fold_congr fun i => mul2 (mul2 (db_at m c t i j) (hb i)) (x2_at m c t i j)
  · split
    · exact fold_congr fun i => mul2 (mul2 (db_at m c t i j) (hb i)) (x1_at m c t i j)
    · split
      · exact fold_congr fun i => mul2 (mul2 (db_at m c t i j) (hb i)) (x0_at m c t i j)
      · rfl

/-- Chunk `n` of a tile, counted over all the rows. -/
def chunk (t : Fin cfg0.N) (n : Fin 2) : Fin 16 := ⟨(7 - t.val) * 2 + n.val, by have h := lt8 t; omega⟩

theorem row_of_chunk (t : Fin cfg0.N) (n : Fin 2) (s : Fin 128) (h) (h') : row t ⟨n.val * 128 + s.val, h⟩ = ⟨(chunk t n).val * 128 + s.val, h'⟩ := by
  refine Fin.ext ?_
  show (7 - t.val) * 256 + (n.val * 128 + s.val) = ((7 - t.val) * 2 + n.val) * 128 + s.val
  omega

theorem dwsChunk_at (c : Dev nD) (t : Fin cfg0.N) (n : Fin 2) (h : Fin 4) (a b : Fin 128) :
    dwsChunk (vnT (iblk m c 3 t) (iblk m c 6 t)) (dzT (iblk m c 0 t) (iblk m c 2 t) (iblk m c 3 t) (WT (V m c main_v9))) n h a b
      = ∑ d : Fin 128, dzAt (args m c) ⟨(chunk t n).val * 128 + a.val, by omega⟩ ⟨h.val * 128 + d.val, by omega⟩
          * vnAt (args m c) ⟨(chunk t n).val * 128 + b.val, by omega⟩ ⟨h.val * 128 + d.val, by omega⟩ := by
  unfold dwsChunk
  refine Finset.sum_congr rfl fun d _ => ?_
  rw [dz_at, vn_at, row_of_chunk, row_of_chunk]

theorem dbsChunk_at (c : Dev nD) (t : Fin cfg0.N) (n : Fin 2) (h : Fin 4) (a d : Fin 128) :
    dbsChunk (k0_pay49 (F := Ideal) (duT (iblk m c 0 t) (iblk m c 2 t) (WT (V m c main_v9))) (k0_pay36 (iblk m c 3 t))) n h a d
      = dzAt (args m c) ⟨(chunk t n).val * 128 + a.val, by omega⟩ ⟨h.val * 128 + d.val, by omega⟩ := by
  unfold dbsChunk
  rw [dzf_at, row_of_chunk]

end Cert.Ab

end
-- ==== Proof.Head.Tile.lean ====
/- One grid point of the kernel `Head`, entry by entry: the rows' modulated norm, their two projections, the layer's row, and the last
   norm's error, loss and gradients. -/
module

public import proofs.«01_k».proof.Proof.Head.Chunks
public import proofs.«01_k».proof.Proof.Ab.Tile

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common
open Cert.Ab (mul2)

/-- The constant `1 / 1024` of the kernel. -/
def cInv : EReal := Ideal.ofBits .f32 981467136#32

/-- The constant `1 / 2048` of the kernel. -/
def cLoss : EReal := Ideal.ofBits .f32 973078528#32

/-- The error of an entry: the normed row times the scale, less the target. -/
def errv (z g t : Fin 1024 → EReal) (l : Fin 1024) : EReal := z l * rms z * g l - t l

/-- The cotangent of the scaled norm of a row. -/
def dyv (z g t : Fin 1024 → EReal) (l : Fin 1024) : EReal := errv z g t l * cInv

/-- The cotangent of the row. -/
def dxo (z g t : Fin 1024 → EReal) (l : Fin 1024) : EReal :=
  rms z * (dyv z g t l * g l - z l * rms z * Ideal.div (∑ j, dyv z g t j * g j * (z j * rms z)) rowLen)

/-- What a row adds to the gradient of the scale. -/
def dgv (z g t : Fin 1024 → EReal) (l : Fin 1024) : EReal := dyv z g t l * (z l * rms z)

/-- What a row adds to the sum of squares. -/
def sqv (z g t : Fin 1024 → EReal) (l : Fin 1024) : EReal := errv z g t l * errv z g t l

/-- The row of the residual stream after the layer. -/
def xov (x gate y : Fin 1024 → EReal) (l : Fin 1024) : EReal := x l + half * gate l * y l

/-- The tile of the modulated input, entry by entry. -/
theorem hTile_apply (X : Vec Ideal S256x1024 .f32) (P : Vec Ideal S8x1024 .f32) (i : Fin 256) (l : Fin 1024) :
    hTile X P (ix2 (n0 := 256) (n1 := 1024) i l)
      = hrow (fun j => X (ix2 i j)) (fun j => P (ix2 0 j)) (fun j => P (ix2 1 j)) (fun j => P (ix2 3 j)) l := by
  unfold hrow rms rowLen rowEps
  pointwise [k0_pay8, k0_pay7, row0, row1, row3]

/-- The tile of the layer's second product, entry by entry. -/
theorem yTile_apply (X : Vec Ideal S256x1024 .f32) (P : Vec Ideal S8x1024 .f32) (Wi : Vec Ideal S5632x1024 .bf16)
    (Wo : Vec Ideal S2816x1024 .bf16) (i : Fin 256) (l : Fin 1024) :
    yTile X P Wi Wo (ix2 (n0 := 256) (n1 := 1024) i l)
      = yrow (gp (hTile X P) Wi i) (up (hTile X P) Wi i) (fun k l => Wo (ix2 k l)) l := by
  unfold yTile yrow
  generalize hTile X P = H
  generalize hM : whole (ap H Wi) = M
  pointwise [k0_pay89]
  subst hM
  rfl

/-- The residual stream's tile. -/
theorem xo_apply (X : Vec Ideal S256x1024 .f32) (P : Vec Ideal S8x1024 .f32) (Y : Vec Ideal S256x1024 .f32) (i : Fin 256) (l : Fin 1024) :
    k0_pay90 (k0_pay6 (row2 P)) (k0_pay7 X) Y cHalf (ix2 (n0 := 256) (n1 := 1024) i l)
      = xov (fun j => X (ix2 i j)) (fun j => P (ix2 2 j)) (fun j => Y (ix2 i j)) l := by
  unfold xov half
  pointwise [k0_pay90, k0_pay6, k0_pay7, row2]

section Tail

variable (X : Vec Ideal S256x1024 .f32) (P : Vec Ideal S8x1024 .f32) (G : Vec Ideal S1x1024 .f32) (T Y : Vec Ideal S256x1024 .f32)

/-- Row `i` of the residual stream's tile. -/
def xoRow (i : Fin 256) : Fin 1024 → EReal := xov (fun j => X (ix2 i j)) (fun j => P (ix2 2 j)) (fun j => Y (ix2 i j))

/-- One over the root mean square of a row of it. -/
theorem r_apply (i : Fin 256) : k0_pay92 (k0_pay6 (row2 P)) (k0_pay7 X) Y cHalf (ix2 (n0 := 256) (n1 := 1) i 0) = rms (xoRow X P Y i) := by
  unfold rms xoRow rowLen rowEps
  have hO := xo_apply X P Y
  generalize k0_pay6 (row2 P) = r at hO ⊢
  generalize k0_pay7 X = x' at hO ⊢
  generalize cHalf = h at hO ⊢
  pointwise [k0_pay92]
  simp only [hO]

/-- The normed row. -/
theorem xn_apply (i : Fin 256) (l : Fin 1024) : k0_pay93 (k0_pay6 (row2 P)) (k0_pay7 X) Y cHalf (ix2 (n0 := 256) (n1 := 1024) i l)
    = xoRow X P Y i l * rms (xoRow X P Y i) := by
  rw [← r_apply]
  unfold xoRow
  rw [← xo_apply]
  generalize k0_pay6 (row2 P) = r
  generalize k0_pay7 X = x'
  pointwise [k0_pay93]

/-- The error. -/
theorem err_apply (i : Fin 256) (l : Fin 1024) : k0_pay94 (k0_pay6 (row2 P)) (k0_pay7 X) Y cHalf G T (ix2 (n0 := 256) (n1 := 1024) i l)
    = errv (xoRow X P Y i) (fun j => G (ix2 0 j)) (fun j => T (ix2 i j)) l := by
  unfold errv
  rw [← xn_apply]
  generalize k0_pay6 (row2 P) = r
  generalize k0_pay7 X = x'
  pointwise [k0_pay94, k0_pay91]

/-- The cotangent of the scaled norm. -/
theorem dyv_apply (i : Fin 256) (l : Fin 1024) : k0_pay96 (k0_pay6 (row2 P)) (k0_pay7 X) Y cHalf G T (ix2 (n0 := 256) (n1 := 1024) i l)
    = dyv (xoRow X P Y i) (fun j => G (ix2 0 j)) (fun j => T (ix2 i j)) l := by
  unfold dyv cInv
  rw [← err_apply]
  generalize k0_pay6 (row2 P) = r
  generalize k0_pay7 X = x'
  pointwise [k0_pay96]

/-- The tile of `dx`, entry by entry. -/
theorem dxTile_apply (i : Fin 256) (l : Fin 1024) : dxTile X P G T Y (ix2 (n0 := 256) (n1 := 1024) i l)
    = dxo (xoRow X P Y i) (fun j => G (ix2 0 j)) (fun j => T (ix2 i j)) l := by
  unfold dxTile dxo rowLen
  have hR := r_apply X P Y
  have hN := xn_apply X P Y
  have hD := dyv_apply X P G T Y
  generalize k0_pay92 (k0_pay6 (row2 P)) (k0_pay7 X) Y cHalf = R at hR ⊢
  generalize k0_pay93 (k0_pay6 (row2 P)) (k0_pay7 X) Y cHalf = N at hN ⊢
  generalize k0_pay96 (k0_pay6 (row2 P)) (k0_pay7 X) Y cHalf G T = D at hD ⊢
  pointwise [k0_pay1, k0_pay91]
  simp only [hR, hN, hD]

/-- The running sums of the squared errors after one more tile. -/
theorem sqSum_apply (q : Vec Ideal S8x1024 .f32) (s : Fin 8) (l : Fin 1024) : sqSum X P G T Y q (ix2 (n0 := 8) (n1 := 1024) s l)
    = q (ix2 s l) + ∑ x : Fin 32, sqv (xoRow X P Y ⟨x.val * 8 + s.val, by omega⟩) (fun j => G (ix2 0 j)) (fun j => T (ix2 ⟨x.val * 8 + s.val, by omega⟩ j)) l := by
  unfold sqSum sqv
  have hE := err_apply X P G T Y
  generalize k0_pay6 (row2 P) = r at hE ⊢
  generalize k0_pay7 X = x' at hE ⊢
  generalize cHalf = h at hE ⊢
  pointwise [k0_pay95]
  exact congrArg (_ + ·) (Finset.sum_congr rfl fun x _ => mul2 (hE _ _) (hE _ _))

/-- The running sums of the scale's gradient after one more tile. -/
theorem dgSum_apply (q : Vec Ideal S8x1024 .f32) (s : Fin 8) (l : Fin 1024) : dgSum X P G T Y q (ix2 (n0 := 8) (n1 := 1024) s l)
    = q (ix2 s l) + ∑ x : Fin 32, dgv (xoRow X P Y ⟨x.val * 8 + s.val, by omega⟩) (fun j => G (ix2 0 j)) (fun j => T (ix2 ⟨x.val * 8 + s.val, by omega⟩ j)) l := by
  unfold dgSum dgv
  have hN := xn_apply X P Y
  have hD := dyv_apply X P G T Y
  generalize k0_pay6 (row2 P) = r at hN hD ⊢
  generalize k0_pay7 X = x' at hN hD ⊢
  generalize cHalf = h at hN hD ⊢
  pointwise [k0_pay97]
  exact congrArg (_ + ·) (Finset.sum_congr rfl fun x _ => mul2 (hD _ _) (hN _ _))

end Tail

/-- The mean loss, in every entry of its block. -/
theorem loss_apply (q : Vec Ideal S8x1024 .f32) (a : Fin 8) (b : Fin 128) :
    k0_pay2 q (ix2 (n0 := 8) (n1 := 128) a b) = (∑ l : Fin 1024, ∑ s : Fin 8, q (ix2 s l)) * cLoss := by
  unfold cLoss
  pointwise [k0_pay2]

/-- The scale's gradient: its sums over their 8 parts, then zeros. -/
theorem grad_apply (q : Vec Ideal S8x1024 .f32) (r : Fin 8) (l : Fin 1024) :
    k0_pay3 q (ix2 (n0 := 8) (n1 := 1024) r l) = if r.val < 1 then ∑ s : Fin 8, q (ix2 s l) else 0 := by
  by_cases h : r.val < 1
  · rw [if_pos h]
    obtain rfl : r = 0 := Fin.ext (by show r.val = 0; omega)
    pointwise [k0_pay3]
  · rw [if_neg h]
    pointwise [k0_pay3]
    rw [dif_neg h]

/-- The running sums of the squared errors start at zero. -/
theorem zero4_apply (s : Fin 8) (l : Fin 1024) : k0_pay4 (F := Ideal) (ix2 (n0 := 8) (n1 := 1024) s l) = 0 := by
  pointwise [k0_pay4]

/-- The running sums of the scale's gradient start at zero. -/
theorem zero5_apply (s : Fin 8) (l : Fin 1024) : k0_pay5 (F := Ideal) (ix2 (n0 := 8) (n1 := 1024) s l) = 0 := by
  pointwise [k0_pay5]

end Cert.Head

end
-- ==== Proof.Head.Blocks.lean ====
/- The blocks each grid point of the kernel `Head` takes, as entries of the arguments, and what it computes of them. -/
module

public import proofs.«01_k».proof.Proof.Head.Tile
public import proofs.«01_k».proof.Proof.Acts.Blocks

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common
open Cert.Acts (facAt yAt xr md md_zero md_one mul_l mul_r)
open Cert.Ab (mul2)

/-- The column that part `k` of 256 columns holds at `j`. -/
def col (k : Fin 11) (j : Fin 256) : Fin 2816 := ⟨k.val * 256 + j.val, by omega⟩

section Args

variable (x : Vec Ideal S1x2048x1024 .f32) (mod : Vec Ideal S1x3072 .f32) (g : Vec Ideal S1024 .f32) (w : Vec Ideal S1024x5632 .f32)
    (wo : Vec Ideal S2816x1024 .f32) (fg : Vec Ideal S1024 .f32) (tg : Vec Ideal S1x2048x1024 .f32)

/-- Row `n` of the modulated input. -/
def hAt (n : Fin 2048) (l : Fin 1024) : EReal := hrow (xr x n) (md mod 0) (md mod 1) (fun j => g (ix1 j)) l

/-- Row `n` of the gated product. -/
def aAt (n : Fin 2048) (k : Fin 2816) : EReal := silu (facAt x mod g w n ⟨k.val, by omega⟩) * facAt x mod g w n ⟨2816 + k.val, by omega⟩

/-- Row `n` of the residual stream after the layer. -/
def xoAt (n : Fin 2048) : Fin 1024 → EReal := xov (xr x n) (md mod 2) (yAt x mod g w wo n)

/-- Row `n` of the first result. -/
def dxAt (n : Fin 2048) (l : Fin 1024) : EReal := dxo (xoAt x mod g w wo n) (fun j => fg (ix1 j)) (xr tg n) l

/-- What row `n` adds to the loss. -/
def sqAt (l : Fin 1024) (n : Fin 2048) : EReal := sqv (xoAt x mod g w wo n) (fun j => fg (ix1 j)) (xr tg n) l

/-- What row `n` adds to the gradient of the last norm's scale. -/
def dgAt (l : Fin 1024) (n : Fin 2048) : EReal := dgv (xoAt x mod g w wo n) (fun j => fg (ix1 j)) (xr tg n) l

/-- The mean loss. -/
def lossAt : EReal := (∑ l : Fin 1024, ∑ n : Fin 2048, sqAt x mod g w wo fg tg l n) * cLoss

/-- The rows of the last result: the gradient of the scale, then zeros. -/
def gradAt (r : Fin 8) (l : Fin 1024) : EReal := if r.val < 1 then ∑ n : Fin 2048, dgAt x mod g w wo fg tg l n else 0

end Args

variable (m : (ℓ : Loc nD τ sig) → Buf (Elt Ideal) ℓ)

/-- The arguments of one core. -/
abbrev a0 (c : Dev nD) : Vec Ideal S1x2048x1024 .f32 := m ((c : Thread nD τ).loc main_arg0)
abbrev a1 (c : Dev nD) : Vec Ideal S1x3072 .f32 := m ((c : Thread nD τ).loc main_arg1)
abbrev a2 (c : Dev nD) : Vec Ideal S1024 .f32 := m ((c : Thread nD τ).loc main_arg2)
abbrev a3 (c : Dev nD) : Vec Ideal S1024x5632 .f32 := m ((c : Thread nD τ).loc main_arg3)
abbrev a4 (c : Dev nD) : Vec Ideal S2816x1024 .f32 := m ((c : Thread nD τ).loc main_arg4)
abbrev a5 (c : Dev nD) : Vec Ideal S1024 .f32 := m ((c : Thread nD τ).loc main_arg5)
abbrev a6 (c : Dev nD) : Vec Ideal S1x2048x1024 .f32 := m ((c : Thread nD τ).loc main_arg6)

/-- The block each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, t.val, 0]
    ∧ win0_7.index t = ![0, t.val, 0] ∧ win0_8.index t = ![t.val, 0] ∧ win0_9.index t = ![0, t.val, 0] ∧ win0_10.index t = ![0, 0]
    ∧ win0_11.index t = ![0, 0] :=
  (by decide +kernel : ∀ t : Fin grid0.N, _)

/-- Row `i` of the tile of grid point `t`. -/
def row (t : Fin cfg0.N) (i : Fin 256) : Fin 2048 :=
  ⟨t.val * 256 + i.val, by have h : t.val < 8 := lt_of_lt_of_eq t.isLt (show cfg0.N = 8 from N_0); omega⟩

/-- The small operands stacked: the three rows of `mod`, the row `g`, zeros. -/
theorem V_p (c : Dev nD) : (V m c main_v4 : Vec Ideal S8x1024 .f32) = concatenate S8x1024 0
    [⟨S3x1024, shapeCast (s := S1x3x1024) S3x1024 (shapeCast (s := S1x3072) S1x3x1024 (a1 m c) shapeCasts_S1x3072_S1x3x1024) shapeCasts_S1x3x1024_S3x1024⟩,
     ⟨S1x1024, broadcastInDim S1x1024 ![1] bcast_S1024_S1x1024_1 (a2 m c)⟩,
     ⟨S4x1024, broadcastInDim S4x1024 ![] bcast_S_S4x1024 (constant (F := Ideal) S_ .f32 0x00000000#32)⟩]
    concatenates_S3x1024_S1x1024_S4x1024_S8x1024_d0 := by
  unfold V
  simp only [hostOps0, List.flatten_cons, List.flatten_nil, List.append_nil, List.cons_append, List.nil_append]
  after_results
  rfl

theorem iblk_p (c : Dev nD) (t : Fin cfg0.N) (r : Fin 8) (l : Fin 1024) :
    (iblk m c 1 t : Vec Ideal S8x1024 .f32) (ix2 r l) = (V m c main_v4 : Vec Ideal S8x1024 .f32) (ix2 r l) := by
  refine congrArg (V m c main_v4) ?_
  blk_ext [idx t]

theorem blk_shift (c : Dev nD) (t : Fin cfg0.N) (l : Fin 1024) : (iblk m c 1 t : Vec Ideal S8x1024 .f32) (ix2 0 l) = md (a1 m c) 0 l := by
  rw [iblk_p, V_p, md_zero]
  pointwise []

theorem blk_scale (c : Dev nD) (t : Fin cfg0.N) (l : Fin 1024) : (iblk m c 1 t : Vec Ideal S8x1024 .f32) (ix2 1 l) = md (a1 m c) 1 l := by
  rw [iblk_p, V_p, md_one]
  pointwise []

theorem blk_gate (c : Dev nD) (t : Fin cfg0.N) (l : Fin 1024) : (iblk m c 1 t : Vec Ideal S8x1024 .f32) (ix2 2 l) = md (a1 m c) 2 l := by
  rw [iblk_p, V_p]
  pointwise []
  rfl

theorem blk_g (c : Dev nD) (t : Fin cfg0.N) (l : Fin 1024) : (iblk m c 1 t : Vec Ideal S8x1024 .f32) (ix2 3 l) = a2 m c (ix1 l) := by
  rw [iblk_p, V_p]
  pointwise []

/-- The layer's argument, as the host hands it over. -/
theorem V_x (c : Dev nD) : (V m c main_v10 : Vec Ideal S2048x1024 .f32)
    = shapeCast (s := S1x2048x1024) S2048x1024 (a0 m c) shapeCasts_S1x2048x1024_S2048x1024 := by
  unfold V
  simp only [hostOps0, List.flatten_cons, List.flatten_nil, List.append_nil, List.cons_append, List.nil_append]
  after_results
  rfl

theorem blk_x (c : Dev nD) (t : Fin cfg0.N) (i : Fin 256) (l : Fin 1024) :
    (iblk m c 0 t : Vec Ideal S256x1024 .f32) (ix2 i l) = xr (a0 m c) (row t i) l := by
  have e : (iblk m c 0 t : Vec Ideal S256x1024 .f32) (ix2 i l) = (V m c main_v10 : Vec Ideal S2048x1024 .f32) (ix2 (row t i) l) := by
    refine congrArg (V m c main_v10) ?_
    unfold row
    blk_ext [idx t]
  rw [e, V_x]
  pointwise []

/-- The last norm's scale, as the host hands it over. -/
theorem V_fg (c : Dev nD) : (V m c main_v11 : Vec Ideal S1x1024 .f32)
    = shapeCast (s := S1024) S1x1024 (a5 m c) shapeCasts_S1024_S1x1024 := by
  unfold V
  simp only [hostOps0, List.flatten_cons, List.flatten_nil, List.append_nil, List.cons_append, List.nil_append]
  after_results
  rfl

theorem blk_fg (c : Dev nD) (t : Fin cfg0.N) (l : Fin 1024) :
    (iblk m c 2 t : Vec Ideal S1x1024 .f32) (ix2 0 l) = a5 m c (ix1 l) := by
  have e : (iblk m c 2 t : Vec Ideal S1x1024 .f32) (ix2 0 l) = (V m c main_v11 : Vec Ideal S1x1024 .f32) (ix2 0 l) := by
    refine congrArg (V m c main_v11) ?_
    blk_ext [idx t]
  rw [e, V_fg]
  pointwise []

/-- The target, as the host hands it over. -/
theorem V_tg (c : Dev nD) : (V m c main_v12 : Vec Ideal S2048x1024 .f32)
    = shapeCast (s := S1x2048x1024) S2048x1024 (a6 m c) shapeCasts_S1x2048x1024_S2048x1024 := by
  unfold V
  simp only [hostOps0, List.flatten_cons, List.flatten_nil, List.append_nil, List.cons_append, List.nil_append]
  after_results
  rfl

theorem blk_tg (c : Dev nD) (t : Fin cfg0.N) (i : Fin 256) (l : Fin 1024) :
    (iblk m c 3 t : Vec Ideal S256x1024 .f32) (ix2 i l) = xr (a6 m c) (row t i) l := by
  have e : (iblk m c 3 t : Vec Ideal S256x1024 .f32) (ix2 i l) = (V m c main_v12 : Vec Ideal S2048x1024 .f32) (ix2 (row t i) l) := by
    refine congrArg (V m c main_v12) ?_
    unfold row
    blk_ext [idx t]
  rw [e, V_tg]
  pointwise []

/-- The 8 parts of the first weight that the copies bring are its transpose. -/
theorem blk_wi (c : Dev nD) (k : Fin 5632) (l : Fin 1024) :
    Cert.Dx.WT (V m c main_v7) (ix2 k l) = a3 m c (ix2 (n0 := 1024) (n1 := 5632) l k) := by
  have e : ∃ v : Vec Ideal S8x704x1024 .bf16, (V m c main_v7 : Vec Ideal S8x704x1024 .bf16) = v ∧ ∀ (k : Fin 5632) (l : Fin 1024),
      Cert.Dx.WT v (ix2 k l) = a3 m c (ix2 (n0 := 1024) (n1 := 5632) l k) := by
    apply Exists.intro
    apply And.intro
    · unfold V
      simp only [hostOps0, List.flatten_cons, List.flatten_nil, List.append_nil, List.cons_append, List.nil_append]
      after_results
    · intro k l
      pointwise [Cert.Dx.WT]
  obtain ⟨v, hv, h⟩ := e
  rw [hv, h]

/-- The 8 parts of the second weight that the copies bring are the weight. -/
theorem blk_wo (c : Dev nD) (k : Fin 2816) (l : Fin 1024) :
    Cert.Acts.WT (V m c main_v9) (ix2 k l) = a4 m c (ix2 (n0 := 2816) (n1 := 1024) k l) := by
  have e : ∃ v : Vec Ideal S8x352x1024 .bf16, (V m c main_v9 : Vec Ideal S8x352x1024 .bf16) = v ∧ ∀ (k : Fin 2816) (l : Fin 1024),
      Cert.Acts.WT v (ix2 k l) = a4 m c (ix2 (n0 := 2816) (n1 := 1024) k l) := by
    apply Exists.intro
    apply And.intro
    · unfold V
      simp only [hostOps0, List.flatten_cons, List.flatten_nil, List.append_nil, List.cons_append, List.nil_append]
      after_results
    · intro k l
      pointwise [Cert.Acts.WT]
  obtain ⟨v, hv, h⟩ := e
  rw [hv, h]

/-- The tile of the modulated input that point `t` computes. -/
abbrev hT (c : Dev nD) (t : Fin cfg0.N) : Vec Ideal S256x1024 .bf16 := hTile (iblk m c 0 t) (iblk m c 1 t)

/-- The tile of the layer's second product that point `t` computes. -/
abbrev yT (c : Dev nD) (t : Fin cfg0.N) : Vec Ideal S256x1024 .f32 :=
  yTile (iblk m c 0 t) (iblk m c 1 t) (Cert.Dx.WT (V m c main_v7)) (Cert.Acts.WT (V m c main_v9))

/-- A tile of the modulated input is made of the arguments' rows. -/
theorem h_at (c : Dev nD) (t : Fin cfg0.N) (i : Fin 256) (l : Fin 1024) :
    hT m c t (ix2 (n0 := 256) (n1 := 1024) i l) = hAt (a0 m c) (a1 m c) (a2 m c) (row t i) l := by
  refine (hTile_apply _ _ i l).trans ?_
  unfold hAt
  simp only [blk_x, blk_shift, blk_scale, blk_g]

/-- An entry of the gate's projection. -/
theorem gp_at (c : Dev nD) (t : Fin cfg0.N) (i : Fin 256) (k : Fin 2816) :
    gp (hT m c t) (Cert.Dx.WT (V m c main_v7)) i k = facAt (a0 m c) (a1 m c) (a2 m c) (a3 m c) (row t i) ⟨k.val, by omega⟩ := by
  unfold gp facAt fac
  exact Finset.sum_congr rfl fun l _ => mul2 (h_at m c t i l) (blk_wi m c _ l)

/-- An entry of the other factor's projection. -/
theorem up_at (c : Dev nD) (t : Fin cfg0.N) (i : Fin 256) (k : Fin 2816) :
    up (hT m c t) (Cert.Dx.WT (V m c main_v7)) i k = facAt (a0 m c) (a1 m c) (a2 m c) (a3 m c) (row t i) ⟨2816 + k.val, by omega⟩ := by
  unfold up facAt fac
  exact Finset.sum_congr rfl fun l _ => mul2 (h_at m c t i l) (blk_wi m c _ l)

/-- An entry of the gated product. -/
theorem ap_at (c : Dev nD) (t : Fin cfg0.N) (i : Fin 256) (k : Fin 2816) :
    ap (hT m c t) (Cert.Dx.WT (V m c main_v7)) i k = aAt (a0 m c) (a1 m c) (a2 m c) (a3 m c) (row t i) k := by
  unfold ap aAt
  rw [gp_at, up_at]

/-- A tile of the layer's second product is made of the arguments' rows. -/
theorem y_at (c : Dev nD) (t : Fin cfg0.N) (i : Fin 256) (l : Fin 1024) :
    yT m c t (ix2 (n0 := 256) (n1 := 1024) i l) = yAt (a0 m c) (a1 m c) (a2 m c) (a3 m c) (a4 m c) (row t i) l := by
  refine (yTile_apply _ _ _ _ i l).trans ?_
  unfold yAt yrow
  exact Finset.sum_congr rfl fun k _ => mul2 (ap_at m c t i k) (blk_wo m c k l)

/-- A row of the residual stream's tile. -/
theorem xo_at (c : Dev nD) (t : Fin cfg0.N) (i : Fin 256) :
    xoRow (iblk m c 0 t) (iblk m c 1 t) (yT m c t) i = xoAt (a0 m c) (a1 m c) (a2 m c) (a3 m c) (a4 m c) (row t i) := by
  funext l
  unfold xoRow xoAt xov
  beta_reduce
  rw [blk_x, blk_gate, y_at]

/-- The scale's row of a point's blocks. -/
theorem fg_at (c : Dev nD) (t : Fin cfg0.N) : (fun j : Fin 1024 => (iblk m c 2 t : Vec Ideal S1x1024 .f32) (ix2 0 j)) = fun j => a5 m c (ix1 j) :=
  funext fun j => blk_fg m c t j

/-- A target's row of a point's blocks. -/
theorem tg_at (c : Dev nD) (t : Fin cfg0.N) (i : Fin 256) :
    (fun j : Fin 1024 => (iblk m c 3 t : Vec Ideal S256x1024 .f32) (ix2 i j)) = xr (a6 m c) (row t i) :=
  funext fun j => blk_tg m c t i j

/-- A tile of `dx` is made of the arguments' rows. -/
theorem dx_at (c : Dev nD) (t : Fin cfg0.N) (i : Fin 256) (l : Fin 1024) :
    dxTile (iblk m c 0 t) (iblk m c 1 t) (iblk m c 2 t) (iblk m c 3 t) (yT m c t) (ix2 (n0 := 256) (n1 := 1024) i l)
      = dxAt (a0 m c) (a1 m c) (a2 m c) (a3 m c) (a4 m c) (a5 m c) (a6 m c) (row t i) l := by
  refine (dxTile_apply _ _ _ _ _ i l).trans ?_
  unfold dxAt
  rw [xo_at, fg_at, tg_at]

/-- The sum of squares' term of row `n` of this core's arguments, zero past the last row. -/
def sqN (c : Dev nD) (l : Fin 1024) (n : ℕ) : EReal :=
  if h : n < 2048 then sqAt (a0 m c) (a1 m c) (a2 m c) (a3 m c) (a4 m c) (a5 m c) (a6 m c) l ⟨n, h⟩ else 0

/-- The scale's gradient's term of row `n` of this core's arguments, zero past the last row. -/
def dgN (c : Dev nD) (l : Fin 1024) (n : ℕ) : EReal :=
  if h : n < 2048 then dgAt (a0 m c) (a1 m c) (a2 m c) (a3 m c) (a4 m c) (a5 m c) (a6 m c) l ⟨n, h⟩ else 0

/-- Row `x * 8 + s` of point `t`'s tile among all rows. -/
theorem row_eq (t : Fin cfg0.N) (x : Fin 32) (s : Fin 8) (hn : t.val * (32 * 8) + (x.val * 8 + s.val) < 2048) :
    (⟨t.val * (32 * 8) + (x.val * 8 + s.val), hn⟩ : Fin 2048) = row t ⟨x.val * 8 + s.val, by omega⟩ :=
  Fin.ext (by show t.val * (32 * 8) + (x.val * 8 + s.val) = t.val * 256 + (x.val * 8 + s.val); omega)

theorem row_lt (t : Fin cfg0.N) (x : Fin 32) (s : Fin 8) : t.val * (32 * 8) + (x.val * 8 + s.val) < 2048 := by
  have h : t.val < 8 := lt_of_lt_of_eq t.isLt (show cfg0.N = 8 from N_0)
  omega

/-- One tile's squared errors over the carried sums. -/
theorem sq_at (c : Dev nD) (t : Fin cfg0.N) (q : Vec Ideal S8x1024 .f32) (s : Fin 8) (l : Fin 1024) :
    sqSum (iblk m c 0 t) (iblk m c 1 t) (iblk m c 2 t) (iblk m c 3 t) (yT m c t) q (ix2 (n0 := 8) (n1 := 1024) s l)
      = q (ix2 s l) + ∑ x : Fin 32, sqN m c l (t.val * (32 * 8) + (x.val * 8 + s.val)) := by
  refine (sqSum_apply _ _ _ _ _ q s l).trans ?_
  refine congrArg (_ + ·) (Finset.sum_congr rfl fun x _ => ?_)
  unfold sqN sqAt
  rw [dif_pos (row_lt t x s), row_eq, xo_at, fg_at, tg_at]

/-- One tile's terms of the scale's gradient over the carried sums. -/
theorem dg_at (c : Dev nD) (t : Fin cfg0.N) (q : Vec Ideal S8x1024 .f32) (s : Fin 8) (l : Fin 1024) :
    dgSum (iblk m c 0 t) (iblk m c 1 t) (iblk m c 2 t) (iblk m c 3 t) (yT m c t) q (ix2 (n0 := 8) (n1 := 1024) s l)
      = q (ix2 s l) + ∑ x : Fin 32, dgN m c l (t.val * (32 * 8) + (x.val * 8 + s.val)) := by
  refine (dgSum_apply _ _ _ _ _ q s l).trans ?_
  refine congrArg (_ + ·) (Finset.sum_congr rfl fun x _ => ?_)
  unfold dgN dgAt
  rw [dif_pos (row_lt t x s), row_eq, xo_at, fg_at, tg_at]

end Cert.Head

end
-- ==== Proof.Head.First.lean ====
/- What the kernel `Head` leaves at the first grid point, as whole arrays of the blocks it is given. -/
module

public import proofs.«01_k».proof.Proof.Head.Chunks

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common

variable (m : (ℓ : Loc nD τ sig) → Buf (Elt Ideal) ℓ)

/-- The block of 704 rows in one slab, read back. -/
theorem read_block704 (A : Vec Ideal S8x704x1024 .bf16) (k : Nat)
    (inb : ∀ a, (![k, 0, 0] : Fin 3 → Nat) a + (![1, 704, 1024] : Fin 3 → Nat) a ≤ S8x704x1024.size a) (h) (x0 : Fin 704) (x1 : Fin 1024) :
    View.read (Elt Ideal) (((View.whole main_v7).slice (Rect.unit ![k, 0, 0] ![1, 704, 1024] inb)).reshape S704x1024 h) A (ix2 x0 x1)
      = A (ix3 (n0 := 8) (n1 := 704) (n2 := 1024) ⟨k, by have h := inb 0; change k + 1 ≤ 8 at h; omega⟩ x0 x1) := by
  exact Cert.Dx.read_block A k inb h x0 x1

/-- One more block of the second weight written under the ones before: every row below its end is the weight's. -/
theorem canon_w (A : Vec Ideal S8x352x1024 .bf16) (k o : Nat) (ho : o = k * 352)
    (inb : ∀ a, (![k, 0, 0] : Fin 3 → Nat) a + (![1, 352, 1024] : Fin 3 → Nat) a ≤ S8x352x1024.size a) (h)
    (inb2 : ∀ a, (![o, 0] : Fin 2 → Nat) a + (![352, 1024] : Fin 2 → Nat) a ≤ S2816x1024.size a)
    (L : List (View.Piece (Elt Ideal) S2816x1024 .bf16)) (r : Fin 2816) (l : Fin 1024) (hr : r.val < o + 352)
    (hL : r.val < o → View.canon L (ix2 r l) = Cert.Acts.WT A (ix2 r l)) :
    View.canon ((⟨Rect.unit ![o, 0] ![352, 1024] inb2, ReadAs.same.apply (View.read (Elt Ideal)
        (((View.whole main_v9).slice (Rect.unit ![k, 0, 0] ![1, 352, 1024] inb)).reshape S352x1024 h) A)⟩ : View.Piece (Elt Ideal) S2816x1024 .bf16) :: L) (ix2 r l)
      = Cert.Acts.WT A (ix2 r l) := by
  exact Cert.Acts.canon_w A k o ho inb h inb2 L r l hr hL

/-- The first point fills one scratch with the first weight's transpose. -/
theorem outsA_wi (c : Dev nD) (t : Fin cfg0.N) (h0 : t.val % 8 = 0) (h1 : ¬t.val % 8 = 7) :
    (outsA m c t h0 h1).2.2.2.2.2.2.2.2.1 = Cert.Dx.WT (V m c main_v7) := by
  unfold outsA
  dsimp only
  unfold soutA_0 runA
  funext y
  frame_out
  generalize (V m c main_v7 : Vec Ideal S8x704x1024 .bf16) = A
  refine congrFun (canon_agree (Cert.Dx.WT A) _ ?_ ?_) y
  · exact fun y => View.cover_of_tiledL (s := S5632x1024) _ ![704, 1024] (by sl_kernel_rfl) y
  · simp only [List.forall_mem_cons]
    refine ⟨fun x => ?_, fun x => ?_, fun x => ?_, fun x => ?_, fun x => ?_, fun x => ?_, fun x => ?_, fun x => ?_, fun x h => absurd h List.not_mem_nil⟩ <;>
    · idx_vars x
      refine (read_block704 A _ _ _ x0 x1).trans ?_
      pointwise [Cert.Dx.WT]
      exact congrArg A (ix3_congr (by simp <;> omega) (by simp <;> omega) rfl)

/-- The first point fills the other scratch with the second weight. -/
theorem outsA_wo (c : Dev nD) (t : Fin cfg0.N) (h0 : t.val % 8 = 0) (h1 : ¬t.val % 8 = 7) :
    (outsA m c t h0 h1).2.2.2.2.2.2.2.2.2.1 = Cert.Acts.WT (V m c main_v9) := by
  unfold outsA
  dsimp only
  unfold soutA_1 runA
  funext y
  frame_out
  idx_vars y
  have hy := y0.isLt
  generalize (V m c main_v9 : Vec Ideal S8x352x1024 .bf16) = A
  repeat
    first
      | exact absurd hlt (Nat.not_lt_zero _)
      | refine canon_w A _ _ (by norm_num) _ _ _ _ _ _ (by omega) (fun hlt => ?_)

set_option maxHeartbeats 1000000 in
/-- The first point's gated product, its chunks copied side by side into one matrix. -/
theorem matA (c : Dev nD) (t : Fin cfg0.N) (h0 : t.val % 8 = 0) (h1 : ¬t.val % 8 = 7) :
    View.canon (runA m c t h0 h1).2.2.2.2.2.2.2.2.2.2.2.2.1 = whole (ap (hTile (iblk m c 0 t) (iblk m c 1 t)) (Cert.Dx.WT (V m c main_v7))) := by
  have hw := outsA_wi m c t h0 h1
  unfold outsA at hw
  dsimp only at hw
  unfold soutA_0 runA at hw
  frame_out at hw
  unfold runA
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine canon_agree (whole (ap (hTile X P) W)) _ ?_ ?_
  · exact fun y => View.cover_of_tiledL (s := S256x2816) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (whole_at (ap (hTile X P) W) _ _ x0 x1 (by omega)).symm
      unfold ap silu gp up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

/-- The first point's tile of the modulated input. -/
theorem outsA_5 (c : Dev nD) (t : Fin cfg0.N) (h0 : t.val % 8 = 0) (h1 : ¬t.val % 8 = 7) :
    (outsA m c t h0 h1).2.1 = (hTile (iblk m c 0 t) (iblk m c 1 t)) := by
  unfold outsA
  dsimp only
  unfold outA_5 runA
  funext y
  frame_open
  frame_out

set_option maxHeartbeats 1000000 in
/-- The first point's chunks of the gate's projection. -/
theorem outsA_6 (c : Dev nD) (t : Fin cfg0.N) (h0 : t.val % 8 = 0) (h1 : ¬t.val % 8 = 7) :
    (outsA m c t h0 h1).2.2.1 = chunks (gp (hTile (iblk m c 0 t) (iblk m c 1 t)) (Cert.Dx.WT (V m c main_v7))) := by
  have hw := outsA_wi m c t h0 h1
  unfold outsA at hw
  dsimp only at hw
  unfold soutA_0 runA at hw
  frame_out at hw
  unfold outsA
  dsimp only
  unfold outA_6 runA
  funext y
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine congrFun (canon_agree (chunks (gp (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (gp (hTile X P) W) _ _ x0 x1 x2 (by omega)).symm
      unfold gp
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

set_option maxHeartbeats 1000000 in
/-- The first point's chunks of the other factor's projection. -/
theorem outsA_7 (c : Dev nD) (t : Fin cfg0.N) (h0 : t.val % 8 = 0) (h1 : ¬t.val % 8 = 7) :
    (outsA m c t h0 h1).2.2.2.1 = chunks (up (hTile (iblk m c 0 t) (iblk m c 1 t)) (Cert.Dx.WT (V m c main_v7))) := by
  have hw := outsA_wi m c t h0 h1
  unfold outsA at hw
  dsimp only at hw
  unfold soutA_0 runA at hw
  frame_out at hw
  unfold outsA
  dsimp only
  unfold outA_7 runA
  funext y
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine congrFun (canon_agree (chunks (up (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (up (hTile X P) W) _ _ x0 x1 x2 (by omega)).symm
      unfold up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

set_option maxHeartbeats 1000000 in
/-- The first point's chunks of the gated product. -/
theorem outsA_9 (c : Dev nD) (t : Fin cfg0.N) (h0 : t.val % 8 = 0) (h1 : ¬t.val % 8 = 7) :
    (outsA m c t h0 h1).2.2.2.2.2.1 = chunks (ap (hTile (iblk m c 0 t) (iblk m c 1 t)) (Cert.Dx.WT (V m c main_v7))) := by
  have hw := outsA_wi m c t h0 h1
  unfold outsA at hw
  dsimp only at hw
  unfold soutA_0 runA at hw
  frame_out at hw
  unfold outsA
  dsimp only
  unfold outA_9 runA
  funext y
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine congrFun (canon_agree (chunks (ap (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (ap (hTile X P) W) _ _ x0 x1 x2 (by omega)).symm
      unfold ap silu gp up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

/-- The first point's tile of the layer's second product. -/
theorem outsA_8 (c : Dev nD) (t : Fin cfg0.N) (h0 : t.val % 8 = 0) (h1 : ¬t.val % 8 = 7) :
    (outsA m c t h0 h1).2.2.2.2.1 = (yTile (iblk m c 0 t) (iblk m c 1 t) (Cert.Dx.WT (V m c main_v7)) (Cert.Acts.WT (V m c main_v9))) := by
  have hD := matA m c t h0 h1
  unfold runA at hD
  frame_open at hD
  simp (disch := decide) only [↓ View.readCov_cons_toLoadRect] at hD
  frame_out at hD
  simp only [View.readCov_eq_canon'] at hD
  have hv := outsA_wo m c t h0 h1
  unfold outsA at hv
  dsimp only at hv
  unfold soutA_1 runA at hv
  frame_out at hv
  unfold outsA
  dsimp only
  unfold outA_8 runA
  funext y
  frame_open
  simp (disch := decide) only [↓ View.readCov_cons_toLoadRect]
  frame_out
  simp only [View.readCov_eq_canon', hD, hv]
  rw [load_full2, load_full2]
  rfl

/-- The first point's tile of `dx`. -/
theorem outsA_4 (c : Dev nD) (t : Fin cfg0.N) (h0 : t.val % 8 = 0) (h1 : ¬t.val % 8 = 7) :
    (outsA m c t h0 h1).1 = dxTile (iblk m c 0 t) (iblk m c 1 t) (iblk m c 2 t) (iblk m c 3 t) (yTile (iblk m c 0 t) (iblk m c 1 t) (Cert.Dx.WT (V m c main_v7)) (Cert.Acts.WT (V m c main_v9))) := by
  have hD := matA m c t h0 h1
  unfold runA at hD
  frame_open at hD
  simp (disch := decide) only [↓ View.readCov_cons_toLoadRect] at hD
  frame_out at hD
  simp only [View.readCov_eq_canon'] at hD
  have hv := outsA_wo m c t h0 h1
  unfold outsA at hv
  dsimp only at hv
  unfold soutA_1 runA at hv
  frame_out at hv
  unfold outsA
  dsimp only
  unfold outA_4 runA
  funext y
  frame_open
  simp (disch := decide) only [↓ View.readCov_cons_toLoadRect]
  frame_out
  simp only [View.readCov_eq_canon', hD, hv]
  rw [load_full2, load_full2]
  rfl

/-- The first point's running sums of the squared errors. -/
theorem outsA_s3 (c : Dev nD) (t : Fin cfg0.N) (h0 : t.val % 8 = 0) (h1 : ¬t.val % 8 = 7) :
    (outsA m c t h0 h1).2.2.2.2.2.2.2.2.2.2.1 = sqSum (iblk m c 0 t) (iblk m c 1 t) (iblk m c 2 t) (iblk m c 3 t) (yTile (iblk m c 0 t) (iblk m c 1 t) (Cert.Dx.WT (V m c main_v7)) (Cert.Acts.WT (V m c main_v9))) (k0_pay4 (F := Ideal)) := by
  have hD := matA m c t h0 h1
  unfold runA at hD
  frame_open at hD
  simp (disch := decide) only [↓ View.readCov_cons_toLoadRect] at hD
  frame_out at hD
  simp only [View.readCov_eq_canon'] at hD
  have hv := outsA_wo m c t h0 h1
  unfold outsA at hv
  dsimp only at hv
  unfold soutA_1 runA at hv
  frame_out at hv
  unfold outsA
  dsimp only
  unfold soutA_3 runA
  funext y
  frame_open
  simp (disch := decide) only [↓ View.readCov_cons_toLoadRect]
  frame_out
  simp only [View.readCov_eq_canon', hD, hv]
  rw [load_full2, load_full2]
  rfl

/-- The first point's running sums of the last norm's gradient. -/
theorem outsA_s4 (c : Dev nD) (t : Fin cfg0.N) (h0 : t.val % 8 = 0) (h1 : ¬t.val % 8 = 7) :
    (outsA m c t h0 h1).2.2.2.2.2.2.2.2.2.2.2 = dgSum (iblk m c 0 t) (iblk m c 1 t) (iblk m c 2 t) (iblk m c 3 t) (yTile (iblk m c 0 t) (iblk m c 1 t) (Cert.Dx.WT (V m c main_v7)) (Cert.Acts.WT (V m c main_v9))) (k0_pay5 (F := Ideal)) := by
  have hD := matA m c t h0 h1
  unfold runA at hD
  frame_open at hD
  simp (disch := decide) only [↓ View.readCov_cons_toLoadRect] at hD
  frame_out at hD
  simp only [View.readCov_eq_canon'] at hD
  have hv := outsA_wo m c t h0 h1
  unfold outsA at hv
  dsimp only at hv
  unfold soutA_1 runA at hv
  frame_out at hv
  unfold outsA
  dsimp only
  unfold soutA_4 runA
  funext y
  frame_open
  simp (disch := decide) only [↓ View.readCov_cons_toLoadRect]
  frame_out
  simp only [View.readCov_eq_canon', hD, hv]
  rw [load_full2, load_full2]
  rfl

end Cert.Head

end
-- ==== Proof.Head.Middle.lean ====
/- What the kernel `Head` leaves at a middle grid point, as whole arrays of the blocks it is given. -/
module

public import proofs.«01_k».proof.Proof.Head.Chunks

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common

variable (m : (ℓ : Loc nD τ sig) → Buf (Elt Ideal) ℓ)

set_option maxHeartbeats 2000000 in
/-- A middle point's gated product, its chunks copied side by side into one matrix. -/
theorem matB (c : Dev nD) (t : Fin cfg0.N) (h0 : ¬t.val % 8 = 0) (h1 : ¬t.val % 8 = 7) (p : Outs Ideal) :
    View.canon (runB m c t h0 h1 p).2.2.2.2.2.2.2.2.2.2.2.2.1 = whole (ap (hTile (iblk m c 0 t) (iblk m c 1 t)) p.2.2.2.2.2.2.2.2.1) := by
  unfold runB
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine canon_agree (whole (ap (hTile X P) W)) _ ?_ ?_
  · exact fun y => View.cover_of_tiledL (s := S256x2816) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (whole_at (ap (hTile X P) W) _ _ x0 x1 (by omega)).symm
      unfold ap silu gp up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

/-- A middle point's tile of the modulated input. -/
theorem outsB_5 (c : Dev nD) (t : Fin cfg0.N) (h0 : ¬t.val % 8 = 0) (h1 : ¬t.val % 8 = 7) (p : Outs Ideal) :
    (outsB m c t h0 h1 p).2.1 = (hTile (iblk m c 0 t) (iblk m c 1 t)) := by
  unfold outsB
  dsimp only
  unfold outB_5 runB
  funext y
  frame_open
  frame_out

set_option maxHeartbeats 2000000 in
/-- A middle point's chunks of the gate's projection. -/
theorem outsB_6 (c : Dev nD) (t : Fin cfg0.N) (h0 : ¬t.val % 8 = 0) (h1 : ¬t.val % 8 = 7) (p : Outs Ideal) :
    (outsB m c t h0 h1 p).2.2.1 = chunks (gp (hTile (iblk m c 0 t) (iblk m c 1 t)) p.2.2.2.2.2.2.2.2.1) := by
  unfold outsB
  dsimp only
  unfold outB_6 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine congrFun (canon_agree (chunks (gp (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (gp (hTile X P) W) _ _ x0 x1 x2 (by omega)).symm
      unfold gp
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

set_option maxHeartbeats 2000000 in
/-- A middle point's chunks of the other factor's projection. -/
theorem outsB_7 (c : Dev nD) (t : Fin cfg0.N) (h0 : ¬t.val % 8 = 0) (h1 : ¬t.val % 8 = 7) (p : Outs Ideal) :
    (outsB m c t h0 h1 p).2.2.2.1 = chunks (up (hTile (iblk m c 0 t) (iblk m c 1 t)) p.2.2.2.2.2.2.2.2.1) := by
  unfold outsB
  dsimp only
  unfold outB_7 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine congrFun (canon_agree (chunks (up (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (up (hTile X P) W) _ _ x0 x1 x2 (by omega)).symm
      unfold up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

set_option maxHeartbeats 2000000 in
/-- A middle point's chunks of the gated product. -/
theorem outsB_9 (c : Dev nD) (t : Fin cfg0.N) (h0 : ¬t.val % 8 = 0) (h1 : ¬t.val % 8 = 7) (p : Outs Ideal) :
    (outsB m c t h0 h1 p).2.2.2.2.2.1 = chunks (ap (hTile (iblk m c 0 t) (iblk m c 1 t)) p.2.2.2.2.2.2.2.2.1) := by
  unfold outsB
  dsimp only
  unfold outB_9 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine congrFun (canon_agree (chunks (ap (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (ap (hTile X P) W) _ _ x0 x1 x2 (by omega)).symm
      unfold ap silu gp up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

/-- A middle point's tile of the layer's second product. -/
theorem outsB_8 (c : Dev nD) (t : Fin cfg0.N) (h0 : ¬t.val % 8 = 0) (h1 : ¬t.val % 8 = 7) (p : Outs Ideal) :
    (outsB m c t h0 h1 p).2.2.2.2.1 = (yTile (iblk m c 0 t) (iblk m c 1 t) p.2.2.2.2.2.2.2.2.1 p.2.2.2.2.2.2.2.2.2.1) := by
  have hD := matB m c t h0 h1 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold outB_8 runB
  funext y
  frame_open
  simp (disch := decide) only [↓ View.readCov_skip, ↓ View.readCov_cons_toLoadRect, ↓ View.readCov_fill]
  frame_out
  simp only [View.readCov_eq_canon', read_unread_whole, hD]
  rw [load_full2]
  rfl

/-- A middle point's tile of `dx`. -/
theorem outsB_4 (c : Dev nD) (t : Fin cfg0.N) (h0 : ¬t.val % 8 = 0) (h1 : ¬t.val % 8 = 7) (p : Outs Ideal) :
    (outsB m c t h0 h1 p).1 = dxTile (iblk m c 0 t) (iblk m c 1 t) (iblk m c 2 t) (iblk m c 3 t) (yTile (iblk m c 0 t) (iblk m c 1 t) p.2.2.2.2.2.2.2.2.1 p.2.2.2.2.2.2.2.2.2.1) := by
  have hD := matB m c t h0 h1 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold outB_4 runB
  funext y
  frame_open
  simp (disch := decide) only [↓ View.readCov_skip, ↓ View.readCov_cons_toLoadRect, ↓ View.readCov_fill]
  frame_out
  simp only [View.readCov_eq_canon', read_unread_whole, hD]
  rw [load_full2]
  rfl

/-- A middle point's running sums of the squared errors. -/
theorem outsB_s3 (c : Dev nD) (t : Fin cfg0.N) (h0 : ¬t.val % 8 = 0) (h1 : ¬t.val % 8 = 7) (p : Outs Ideal) :
    (outsB m c t h0 h1 p).2.2.2.2.2.2.2.2.2.2.1 = sqSum (iblk m c 0 t) (iblk m c 1 t) (iblk m c 2 t) (iblk m c 3 t) (yTile (iblk m c 0 t) (iblk m c 1 t) p.2.2.2.2.2.2.2.2.1 p.2.2.2.2.2.2.2.2.2.1) p.2.2.2.2.2.2.2.2.2.2.1 := by
  have hD := matB m c t h0 h1 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold soutB_3 runB
  funext y
  frame_open
  simp (disch := decide) only [↓ View.readCov_skip, ↓ View.readCov_cons_toLoadRect, ↓ View.readCov_fill]
  frame_out
  simp only [View.readCov_eq_canon', read_unread_whole, hD]
  rw [load_full2]
  rfl

/-- A middle point's running sums of the last norm's gradient. -/
theorem outsB_s4 (c : Dev nD) (t : Fin cfg0.N) (h0 : ¬t.val % 8 = 0) (h1 : ¬t.val % 8 = 7) (p : Outs Ideal) :
    (outsB m c t h0 h1 p).2.2.2.2.2.2.2.2.2.2.2 = dgSum (iblk m c 0 t) (iblk m c 1 t) (iblk m c 2 t) (iblk m c 3 t) (yTile (iblk m c 0 t) (iblk m c 1 t) p.2.2.2.2.2.2.2.2.1 p.2.2.2.2.2.2.2.2.2.1) p.2.2.2.2.2.2.2.2.2.2.2 := by
  have hD := matB m c t h0 h1 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold soutB_4 runB
  funext y
  frame_open
  simp (disch := decide) only [↓ View.readCov_skip, ↓ View.readCov_cons_toLoadRect, ↓ View.readCov_fill]
  frame_out
  simp only [View.readCov_eq_canon', read_unread_whole, hD]
  rw [load_full2]
  rfl

end Cert.Head

end
-- ==== Proof.Head.Last.lean ====
/- What the kernel `Head` leaves at the last grid point, as whole arrays of the blocks it is given. -/
module

public import proofs.«01_k».proof.Proof.Head.Chunks

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common

variable (m : (ℓ : Loc nD τ sig) → Buf (Elt Ideal) ℓ)

set_option maxHeartbeats 2000000 in
/-- The last point's gated product, its chunks copied side by side into one matrix. -/
theorem matC (c : Dev nD) (t : Fin cfg0.N) (h0 : ¬t.val % 8 = 0) (h1 : t.val % 8 = 7) (p : Outs Ideal) :
    View.canon (runC m c t h0 h1 p).2.2.2.2.2.2.2.2.2.2.2.2.1 = whole (ap (hTile (iblk m c 0 t) (iblk m c 1 t)) p.2.2.2.2.2.2.2.2.1) := by
  unfold runC
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine canon_agree (whole (ap (hTile X P) W)) _ ?_ ?_
  · exact fun y => View.cover_of_tiledL (s := S256x2816) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (whole_at (ap (hTile X P) W) _ _ x0 x1 (by omega)).symm
      unfold ap silu gp up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

/-- The last point's tile of the modulated input. -/
theorem outsC_5 (c : Dev nD) (t : Fin cfg0.N) (h0 : ¬t.val % 8 = 0) (h1 : t.val % 8 = 7) (p : Outs Ideal) :
    (outsC m c t h0 h1 p).2.1 = (hTile (iblk m c 0 t) (iblk m c 1 t)) := by
  unfold outsC
  dsimp only
  unfold outC_5 runC
  funext y
  frame_open
  frame_out

set_option maxHeartbeats 2000000 in
/-- The last point's chunks of the gate's projection. -/
theorem outsC_6 (c : Dev nD) (t : Fin cfg0.N) (h0 : ¬t.val % 8 = 0) (h1 : t.val % 8 = 7) (p : Outs Ideal) :
    (outsC m c t h0 h1 p).2.2.1 = chunks (gp (hTile (iblk m c 0 t) (iblk m c 1 t)) p.2.2.2.2.2.2.2.2.1) := by
  unfold outsC
  dsimp only
  unfold outC_6 runC
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine congrFun (canon_agree (chunks (gp (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (gp (hTile X P) W) _ _ x0 x1 x2 (by omega)).symm
      unfold gp
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

set_option maxHeartbeats 2000000 in
/-- The last point's chunks of the other factor's projection. -/
theorem outsC_7 (c : Dev nD) (t : Fin cfg0.N) (h0 : ¬t.val % 8 = 0) (h1 : t.val % 8 = 7) (p : Outs Ideal) :
    (outsC m c t h0 h1 p).2.2.2.1 = chunks (up (hTile (iblk m c 0 t) (iblk m c 1 t)) p.2.2.2.2.2.2.2.2.1) := by
  unfold outsC
  dsimp only
  unfold outC_7 runC
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine congrFun (canon_agree (chunks (up (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (up (hTile X P) W) _ _ x0 x1 x2 (by omega)).symm
      unfold up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

set_option maxHeartbeats 2000000 in
/-- The last point's chunks of the gated product. -/
theorem outsC_9 (c : Dev nD) (t : Fin cfg0.N) (h0 : ¬t.val % 8 = 0) (h1 : t.val % 8 = 7) (p : Outs Ideal) :
    (outsC m c t h0 h1 p).2.2.2.2.2.1 = chunks (ap (hTile (iblk m c 0 t) (iblk m c 1 t)) p.2.2.2.2.2.2.2.2.1) := by
  unfold outsC
  dsimp only
  unfold outC_9 runC
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.2.2.1 : Vec Ideal S5632x1024 .bf16) = W
  refine congrFun (canon_agree (chunks (ap (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (ap (hTile X P) W) _ _ x0 x1 x2 (by omega)).symm
      unfold ap silu gp up
      pointwise [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72,
        k0_pay73, k0_pay74, k0_pay75, k0_pay76, k0_pay77, k0_pay78, k0_pay79, k0_pay80, k0_pay81, k0_pay82, k0_pay83, k0_pay84, k0_pay85,
        k0_pay86, k0_pay87, k0_pay88]
      all_goals (try simp only [← Nat.add_assoc, Nat.reduceAdd])
      all_goals rfl

/-- The last point's tile of the layer's second product. -/
theorem outsC_8 (c : Dev nD) (t : Fin cfg0.N) (h0 : ¬t.val % 8 = 0) (h1 : t.val % 8 = 7) (p : Outs Ideal) :
    (outsC m c t h0 h1 p).2.2.2.2.1 = (yTile (iblk m c 0 t) (iblk m c 1 t) p.2.2.2.2.2.2.2.2.1 p.2.2.2.2.2.2.2.2.2.1) := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold outC_8 runC
  funext y
  frame_open
  simp (disch := decide) only [↓ View.readCov_skip, ↓ View.readCov_cons_toLoadRect, ↓ View.readCov_fill]
  frame_out
  simp only [View.readCov_eq_canon', read_unread_whole, hD]
  rw [load_full2]
  rfl

/-- The last point's tile of `dx`. -/
theorem outsC_4 (c : Dev nD) (t : Fin cfg0.N) (h0 : ¬t.val % 8 = 0) (h1 : t.val % 8 = 7) (p : Outs Ideal) :
    (outsC m c t h0 h1 p).1 = dxTile (iblk m c 0 t) (iblk m c 1 t) (iblk m c 2 t) (iblk m c 3 t) (yTile (iblk m c 0 t) (iblk m c 1 t) p.2.2.2.2.2.2.2.2.1 p.2.2.2.2.2.2.2.2.2.1) := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold outC_4 runC
  funext y
  frame_open
  simp (disch := decide) only [↓ View.readCov_skip, ↓ View.readCov_cons_toLoadRect, ↓ View.readCov_fill]
  frame_out
  simp only [View.readCov_eq_canon', read_unread_whole, hD]
  rw [load_full2]
  rfl

/-- The last point's running sums of the squared errors. -/
theorem outsC_s3 (c : Dev nD) (t : Fin cfg0.N) (h0 : ¬t.val % 8 = 0) (h1 : t.val % 8 = 7) (p : Outs Ideal) :
    (outsC m c t h0 h1 p).2.2.2.2.2.2.2.2.2.2.1 = sqSum (iblk m c 0 t) (iblk m c 1 t) (iblk m c 2 t) (iblk m c 3 t) (yTile (iblk m c 0 t) (iblk m c 1 t) p.2.2.2.2.2.2.2.2.1 p.2.2.2.2.2.2.2.2.2.1) p.2.2.2.2.2.2.2.2.2.2.1 := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold soutC_3 runC
  funext y
  frame_open
  simp (disch := decide) only [↓ View.readCov_skip, ↓ View.readCov_cons_toLoadRect, ↓ View.readCov_fill]
  frame_out
  simp only [View.readCov_eq_canon', read_unread_whole, hD]
  rw [load_full2]
  rfl

/-- The last point's running sums of the last norm's gradient. -/
theorem outsC_s4 (c : Dev nD) (t : Fin cfg0.N) (h0 : ¬t.val % 8 = 0) (h1 : t.val % 8 = 7) (p : Outs Ideal) :
    (outsC m c t h0 h1 p).2.2.2.2.2.2.2.2.2.2.2 = dgSum (iblk m c 0 t) (iblk m c 1 t) (iblk m c 2 t) (iblk m c 3 t) (yTile (iblk m c 0 t) (iblk m c 1 t) p.2.2.2.2.2.2.2.2.1 p.2.2.2.2.2.2.2.2.2.1) p.2.2.2.2.2.2.2.2.2.2.2 := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold soutC_4 runC
  funext y
  frame_open
  simp (disch := decide) only [↓ View.readCov_skip, ↓ View.readCov_cons_toLoadRect, ↓ View.readCov_fill]
  frame_out
  simp only [View.readCov_eq_canon', read_unread_whole, hD]
  rw [load_full2]
  rfl

/-- The last point's mean loss. -/
theorem outsC_10 (c : Dev nD) (t : Fin cfg0.N) (h0 : ¬t.val % 8 = 0) (h1 : t.val % 8 = 7) (p : Outs Ideal) :
    (outsC m c t h0 h1 p).2.2.2.2.2.2.1 = k0_pay2 (sqSum (iblk m c 0 t) (iblk m c 1 t) (iblk m c 2 t) (iblk m c 3 t) (yTile (iblk m c 0 t) (iblk m c 1 t) p.2.2.2.2.2.2.2.2.1 p.2.2.2.2.2.2.2.2.2.1) p.2.2.2.2.2.2.2.2.2.2.1) := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold outC_10 runC
  funext y
  frame_open
  simp (disch := decide) only [↓ View.readCov_skip, ↓ View.readCov_cons_toLoadRect, ↓ View.readCov_fill]
  frame_out
  simp only [View.readCov_eq_canon', read_unread_whole, hD]
  rw [load_full2]
  rfl

/-- The last point's rows of the last norm's gradient. -/
theorem outsC_11 (c : Dev nD) (t : Fin cfg0.N) (h0 : ¬t.val % 8 = 0) (h1 : t.val % 8 = 7) (p : Outs Ideal) :
    (outsC m c t h0 h1 p).2.2.2.2.2.2.2.1 = k0_pay3 (dgSum (iblk m c 0 t) (iblk m c 1 t) (iblk m c 2 t) (iblk m c 3 t) (yTile (iblk m c 0 t) (iblk m c 1 t) p.2.2.2.2.2.2.2.2.1 p.2.2.2.2.2.2.2.2.2.1) p.2.2.2.2.2.2.2.2.2.2.2) := by
  have hD := matC m c t h0 h1 p
  unfold runC at hD
  frame_open at hD
  simp (disch := decide) only [↓ View.readCov_skip, ↓ View.readCov_cons_toLoadRect, ↓ View.readCov_fill] at hD
  frame_out at hD
  simp only [View.readCov_eq_canon', read_unread_whole] at hD
  unfold outsC
  dsimp only
  unfold outC_11 runC
  funext y
  frame_open
  simp (disch := decide) only [↓ View.readCov_skip, ↓ View.readCov_cons_toLoadRect, ↓ View.readCov_fill]
  frame_out
  simp only [View.readCov_eq_canon', read_unread_whole, hD]
  rw [load_full2]
  rfl

end Cert.Head

end
-- ==== Proof.Head.Final.lean ====
/- The results of the kernel `Head` as functions of its arguments, row by row. -/
module

public import proofs.«01_k».proof.Proof.Head.Blocks
public import proofs.«01_k».proof.Proof.Head.First
public import proofs.«01_k».proof.Proof.Head.Middle
public import proofs.«01_k».proof.Proof.Head.Last

@[expose] public section

set_option maxRecDepth 16384

noncomputable section

open Idealize.ShloMosaic Idealize.ShloMosaic.TcCoe Idealize.SL.Sem
open Idealize.ShloMosaic.Pipeline (Dat)

namespace Cert.Head

open Cert.HeadIdeal Cert.HeadIdeal.Gen Cert.Common
open Cert.Acts (facAt yAt xr md)

variable (m : (ℓ : Loc nD τ sig) → Buf (Elt Ideal) ℓ)

/-- A middle point keeps the first weight. -/
theorem outsB_wi (c : Dev nD) (t : Fin cfg0.N) (h0 : ¬t.val % 8 = 0) (h1 : ¬t.val % 8 = 7) (p : Outs Ideal) :
    (outsB m c t h0 h1 p).2.2.2.2.2.2.2.2.1 = p.2.2.2.2.2.2.2.2.1 := by
  unfold outsB
  dsimp only
  unfold soutB_0
  rfl

/-- A middle point keeps the second weight. -/
theorem outsB_wo (c : Dev nD) (t : Fin cfg0.N) (h0 : ¬t.val % 8 = 0) (h1 : ¬t.val % 8 = 7) (p : Outs Ideal) :
    (outsB m c t h0 h1 p).2.2.2.2.2.2.2.2.2.1 = p.2.2.2.2.2.2.2.2.2.1 := by
  unfold outsB
  dsimp only
  unfold soutB_1
  rfl

/-- The sum of a function of the rows over the tiles up to point `n`, for the rows congruent to `s` modulo 8. -/
def upTo (f : ℕ → EReal) (n : ℕ) (s : Fin 8) : EReal := ∑ t ∈ Finset.range (n + 1), ∑ x : Fin 32, f (t * (32 * 8) + (x.val * 8 + s.val))

/-- After point `n` the weights are loaded and the carried sums are those of the tiles so far. -/
def Carried (c : Dev nD) (n : ℕ) (p : Outs Ideal) : Prop :=
  p.2.2.2.2.2.2.2.2.1 = Cert.Dx.WT (V m c main_v7) ∧ p.2.2.2.2.2.2.2.2.2.1 = Cert.Acts.WT (V m c main_v9)
  ∧ (∀ (s : Fin 8) (l : Fin 1024), (p.2.2.2.2.2.2.2.2.2.2.1 : Vec Ideal S8x1024 .f32) (ix2 (n0 := 8) (n1 := 1024) s l) = upTo (sqN m c l) n s)
  ∧ ∀ (s : Fin 8) (l : Fin 1024), (p.2.2.2.2.2.2.2.2.2.2.2 : Vec Ideal S8x1024 .f32) (ix2 (n0 := 8) (n1 := 1024) s l) = upTo (dgN m c l) n s

/-- The points before the last carry the weights and the sums. -/
theorem carried (c : Dev nD) (n : ℕ) : ∀ hn : n < cfg0.N, n < 7 → Carried m c n (outsAt0 m c n hn) := by
  induction n with
  | zero =>
    intro hn _
    rw [show outsAt0 m c 0 hn = outsA m c ⟨0, hn⟩ _ _ from outsAt0_A m c ⟨0, hn⟩ (Nat.zero_mod _) (by show ¬0 % 8 = 7; omega)]
    refine ⟨outsA_wi m c _ _ _, outsA_wo m c _ _ _, fun s l => ?_, fun s l => ?_⟩
    · rw [outsA_s3 m c _ _ _]
      refine (sq_at m c _ _ s l).trans ?_
      unfold upTo
      rw [zero4_apply, zero_add, Finset.sum_range_one]
    · rw [outsA_s4 m c _ _ _]
      refine (dg_at m c _ _ s l).trans ?_
      unfold upTo
      rw [zero5_apply, zero_add, Finset.sum_range_one]
  | succ n ih =>
    intro hn h7
    have hc := ih (Nat.lt_of_succ_lt hn) (by omega)
    have e := outsAt0_B m c ⟨n + 1, hn⟩ (by show ¬(n + 1) % 8 = 0; omega) (by show ¬(n + 1) % 8 = 7; omega)
    have ep : outsAt0 m c ((⟨n + 1, hn⟩ : Fin cfg0.N).val - 1) (Nat.lt_of_le_of_lt (Nat.sub_le _ _) hn) = outsAt0 m c n (Nat.lt_of_succ_lt hn) := rfl
    rw [ep] at e
    generalize outsAt0 m c n (Nat.lt_of_succ_lt hn) = p at hc e
    obtain ⟨hwi, hwo, hs, hd⟩ := hc
    have e' : outsAt0 m c (n + 1) hn = outsB m c ⟨n + 1, hn⟩ _ _ p := e
    rw [e']
    refine ⟨(outsB_wi m c _ _ _ p).trans hwi, (outsB_wo m c _ _ _ p).trans hwo, fun s l => ?_, fun s l => ?_⟩
    · rw [outsB_s3 m c _ _ _ p, hwi, hwo]
      refine (sq_at m c _ _ s l).trans ?_
      unfold upTo
      rw [Finset.sum_range_succ _ (n + 1)]
      exact congrArg (· + _) (hs s l)
    · rw [outsB_s4 m c _ _ _ p, hwi, hwo]
      refine (dg_at m c _ _ s l).trans ?_
      unfold upTo
      rw [Finset.sum_range_succ _ (n + 1)]
      exact congrArg (· + _) (hd s l)

/-- What a point leaves in its tiles, from the blocks it takes. -/
def Tiles (c : Dev nD) (t : Fin cfg0.N) (p : Outs Ideal) : Prop :=
  p.1 = dxTile (iblk m c 0 t) (iblk m c 1 t) (iblk m c 2 t) (iblk m c 3 t) (yT m c t) ∧ p.2.1 = hT m c t
  ∧ p.2.2.1 = chunks (gp (hT m c t) (Cert.Dx.WT (V m c main_v7))) ∧ p.2.2.2.1 = chunks (up (hT m c t) (Cert.Dx.WT (V m c main_v7)))
  ∧ p.2.2.2.2.1 = yT m c t ∧ p.2.2.2.2.2.1 = chunks (ap (hT m c t) (Cert.Dx.WT (V m c main_v7)))

/-- Any point leaves these tiles. -/
theorem tiles (c : Dev nD) (t : Fin cfg0.N) : Tiles m c t (outsAt0 m c t.val t.isLt) := by
  have h8 : t.val < 8 := lt_of_lt_of_eq t.isLt (show cfg0.N = 8 from N_0)
  by_cases h0 : t.val % 8 = 0
  · have h1 : ¬t.val % 8 = 7 := by omega
    rw [outsAt0_A m c t h0 h1]
    exact ⟨outsA_4 m c t h0 h1, outsA_5 m c t h0 h1, outsA_6 m c t h0 h1, outsA_7 m c t h0 h1, outsA_8 m c t h0 h1, outsA_9 m c t h0 h1⟩
  · obtain ⟨hwi, hwo, _⟩ := carried m c (t.val - 1) (Nat.lt_of_le_of_lt (Nat.sub_le _ _) t.isLt) (by omega)
    unfold Tiles
    by_cases h1 : t.val % 8 = 7
    · rw [outsAt0_C m c t h0 h1, outsC_4 m c t h0 h1, outsC_5 m c t h0 h1, outsC_6 m c t h0 h1, outsC_7 m c t h0 h1, outsC_8 m c t h0 h1,
        outsC_9 m c t h0 h1, hwi, hwo]
      exact ⟨rfl, rfl, rfl, rfl, rfl, rfl⟩
    · rw [outsAt0_B m c t h0 h1, outsB_4 m c t h0 h1, outsB_5 m c t h0 h1, outsB_6 m c t h0 h1, outsB_7 m c t h0 h1, outsB_8 m c t h0 h1,
        outsB_9 m c t h0 h1, hwi, hwo]
      exact ⟨rfl, rfl, rfl, rfl, rfl, rfl⟩

/-- The chunks of a tile, entry by entry. -/
theorem chunks_col (f : Fin 256 → Fin 2816 → EReal) (k : Fin 11) (i j : Fin 256) :
    chunks f (ix3 (n0 := 11) (n1 := 256) (n2 := 256) k i j) = f i (col k j) := rfl

/-- The eight results. -/
def G4 (c : Dev nD) : S2048x1024.Idx → EReal := fun y => dxAt (a0 m c) (a1 m c) (a2 m c) (a3 m c) (a4 m c) (a5 m c) (a6 m c) (y 0) (y 1)
def G5 (c : Dev nD) : S2048x1024.Idx → EReal := fun y => hAt (a0 m c) (a1 m c) (a2 m c) (y 0) (y 1)
def G6 (c : Dev nD) : S11x2048x256.Idx → EReal := fun y =>
  facAt (a0 m c) (a1 m c) (a2 m c) (a3 m c) (y 1) (⟨(col (y 0) (y 2)).val, by omega⟩)
def G7 (c : Dev nD) : S11x2048x256.Idx → EReal := fun y =>
  facAt (a0 m c) (a1 m c) (a2 m c) (a3 m c) (y 1) (⟨2816 + (col (y 0) (y 2)).val, by omega⟩)
def G8 (c : Dev nD) : S2048x1024.Idx → EReal := fun y => yAt (a0 m c) (a1 m c) (a2 m c) (a3 m c) (a4 m c) (y 0) (y 1)
def G9 (c : Dev nD) : S11x2048x256.Idx → EReal := fun y =>
  aAt (a0 m c) (a1 m c) (a2 m c) (a3 m c) (y 1) (col (y 0) (y 2))
def G10 (c : Dev nD) : S8x128.Idx → EReal := fun y => lossAt (a0 m c) (a1 m c) (a2 m c) (a3 m c) (a4 m c) (a5 m c) (a6 m c)
def G11 (c : Dev nD) : S8x1024.Idx → EReal := fun y => gradAt (a0 m c) (a1 m c) (a2 m c) (a3 m c) (a4 m c) (a5 m c) (a6 m c) (y 0) (y 1)

/-- A point's tile of the first result, entry by entry. -/
theorem tile4 (c : Dev nD) (t : Fin cfg0.N) (i : Fin 256) (l : Fin 1024) :
    ((outsAt0 m c t.val t.isLt).1 : Vec Ideal S256x1024 .f32) (ix2 (n0 := 256) (n1 := 1024) i l) = G4 m c (ix2 (row t i) l) :=
  (congrFun (tiles m c t).1 _).trans (dx_at m c t i l)

/-- The kernel leaves the first result. -/
theorem final4 (c : Dev nD) : (dats m 0 c).arrAt 4 (cfgs 0).N = G4 m c := by
  refine (dats m 0 c).arrAt_eq_of_covers 4 _ (by decide +kernel) fun t _ y => ?_
  blk_simp
  rw [after0_4]
  idx_vars y
  have h0 : ix2 (row t y0) y1 = (win0_4.blk t).view.emb (ix2 (n0 := 256) (n1 := 1024) y0 y1) := by
    unfold row; blk_ext [idx t]
  exact (tile4 m c t y0 y1).trans (congrArg (G4 m c) h0)

/-- A point's tile of the second result, entry by entry. -/
theorem tile5 (c : Dev nD) (t : Fin cfg0.N) (i : Fin 256) (l : Fin 1024) :
    ((outsAt0 m c t.val t.isLt).2.1 : Vec Ideal S256x1024 .bf16) (ix2 (n0 := 256) (n1 := 1024) i l) = G5 m c (ix2 (row t i) l) :=
  (congrFun (tiles m c t).2.1 _).trans (h_at m c t i l)

/-- The kernel leaves the second result. -/
theorem final5 (c : Dev nD) : (dats m 0 c).arrAt 5 (cfgs 0).N = G5 m c := by
  refine (dats m 0 c).arrAt_eq_of_covers 5 _ (by decide +kernel) fun t _ y => ?_
  blk_simp
  rw [after0_5]
  idx_vars y
  have h0 : ix2 (row t y0) y1 = (win0_5.blk t).view.emb (ix2 (n0 := 256) (n1 := 1024) y0 y1) := by
    unfold row; blk_ext [idx t]
  exact (tile5 m c t y0 y1).trans (congrArg (G5 m c) h0)

/-- A point's tile of the third result, entry by entry. -/
theorem tile6 (c : Dev nD) (t : Fin cfg0.N) (k : Fin 11) (i j : Fin 256) :
    ((outsAt0 m c t.val t.isLt).2.2.1 : Vec Ideal S11x256x256 .bf16) (ix3 (n0 := 11) (n1 := 256) (n2 := 256) k i j)
      = G6 m c (ix3 k (row t i) j) :=
  (congrFun (tiles m c t).2.2.1 _).trans ((chunks_col _ k i j).trans (gp_at m c t i (col k j)))

/-- The kernel leaves the third result. -/
theorem final6 (c : Dev nD) : (dats m 0 c).arrAt 6 (cfgs 0).N = G6 m c := by
  refine (dats m 0 c).arrAt_eq_of_covers 6 _ (by decide +kernel) fun t _ y => ?_
  blk_simp
  rw [after0_6]
  idx_vars y
  have h0 : ix3 y0 (row t y1) y2 = (win0_6.blk t).view.emb (ix3 (n0 := 11) (n1 := 256) (n2 := 256) y0 y1 y2) := by
    unfold row; blk_ext [idx t]
  exact (tile6 m c t y0 y1 y2).trans (congrArg (G6 m c) h0)

/-- A point's tile of the fourth result, entry by entry. -/
theorem tile7 (c : Dev nD) (t : Fin cfg0.N) (k : Fin 11) (i j : Fin 256) :
    ((outsAt0 m c t.val t.isLt).2.2.2.1 : Vec Ideal S11x256x256 .bf16) (ix3 (n0 := 11) (n1 := 256) (n2 := 256) k i j)
      = G7 m c (ix3 k (row t i) j) :=
  (congrFun (tiles m c t).2.2.2.1 _).trans ((chunks_col _ k i j).trans (up_at m c t i (col k j)))

/-- The kernel leaves the fourth result. -/
theorem final7 (c : Dev nD) : (dats m 0 c).arrAt 7 (cfgs 0).N = G7 m c := by
  refine (dats m 0 c).arrAt_eq_of_covers 7 _ (by decide +kernel) fun t _ y => ?_
  blk_simp
  rw [after0_7]
  idx_vars y
  have h0 : ix3 y0 (row t y1) y2 = (win0_7.blk t).view.emb (ix3 (n0 := 11) (n1 := 256) (n2 := 256) y0 y1 y2) := by
    unfold row; blk_ext [idx t]
  exact (tile7 m c t y0 y1 y2).trans (congrArg (G7 m c) h0)

/-- A point's tile of the fifth result, entry by entry. -/
theorem tile8 (c : Dev nD) (t : Fin cfg0.N) (i : Fin 256) (l : Fin 1024) :
    ((outsAt0 m c t.val t.isLt).2.2.2.2.1 : Vec Ideal S256x1024 .f32) (ix2 (n0 := 256) (n1 := 1024) i l) = G8 m c (ix2 (row t i) l) :=
  (congrFun (tiles m c t).2.2.2.2.1 _).trans (y_at m c t i l)

/-- The kernel leaves the fifth result. -/
theorem final8 (c : Dev nD) : (dats m 0 c).arrAt 8 (cfgs 0).N = G8 m c := by
  refine (dats m 0 c).arrAt_eq_of_covers 8 _ (by decide +kernel) fun t _ y => ?_
  blk_simp
  rw [after0_8]
  idx_vars y
  have h0 : ix2 (row t y0) y1 = (win0_8.blk t).view.emb (ix2 (n0 := 256) (n1 := 1024) y0 y1) := by
    unfold row; blk_ext [idx t]
  exact (tile8 m c t y0 y1).trans (congrArg (G8 m c) h0)

/-- A point's tile of the sixth result, entry by entry. -/
theorem tile9 (c : Dev nD) (t : Fin cfg0.N) (k : Fin 11) (i j : Fin 256) :
    ((outsAt0 m c t.val t.isLt).2.2.2.2.2.1 : Vec Ideal S11x256x256 .bf16) (ix3 (n0 := 11) (n1 := 256) (n2 := 256) k i j)
      = G9 m c (ix3 k (row t i) j) :=
  (congrFun (tiles m c t).2.2.2.2.2 _).trans ((chunks_col _ k i j).trans (ap_at m c t i (col k j)))

/-- The kernel leaves the sixth result. -/
theorem final9 (c : Dev nD) : (dats m 0 c).arrAt 9 (cfgs 0).N = G9 m c := by
  refine (dats m 0 c).arrAt_eq_of_covers 9 _ (by decide +kernel) fun t _ y => ?_
  blk_simp
  rw [after0_9]
  idx_vars y
  have h0 : ix3 y0 (row t y1) y2 = (win0_9.blk t).view.emb (ix3 (n0 := 11) (n1 := 256) (n2 := 256) y0 y1 y2) := by
    unfold row; blk_ext [idx t]
  exact (tile9 m c t y0 y1 y2).trans (congrArg (G9 m c) h0)

/-- The last point's sums over the residues, of carried sums that with its tile make up all tiles, are the sums over all rows. -/
theorem all_rows (f : ℕ → EReal) (q : Fin 8 → EReal) (h : ∀ s, q s = upTo f 7 s) : ∑ s : Fin 8, q s = ∑ n : Fin 2048, f n.val := by
  refine (Finset.sum_congr rfl fun s _ => h s).trans ?_
  unfold upTo
  exact sum_rows 8 32 2048 (by norm_num) f

/-- The last point leaves the loss and the rows of the scale's gradient. -/
theorem last_at (c : Dev nD) (r : Fin 8) : (∀ k : Fin 128, ((outsAt0 m c t0_7.val t0_7.isLt).2.2.2.2.2.2.1 : Vec Ideal S8x128 .f32) (ix2 (n0 := 8) (n1 := 128) r k)
      = lossAt (a0 m c) (a1 m c) (a2 m c) (a3 m c) (a4 m c) (a5 m c) (a6 m c))
    ∧ ∀ l : Fin 1024, ((outsAt0 m c t0_7.val t0_7.isLt).2.2.2.2.2.2.2.1 : Vec Ideal S8x1024 .f32) (ix2 (n0 := 8) (n1 := 1024) r l)
      = gradAt (a0 m c) (a1 m c) (a2 m c) (a3 m c) (a4 m c) (a5 m c) (a6 m c) r l := by
  have e : outsAt0 m c t0_7.val t0_7.isLt = outsC m c t0_7 (by decide) (by decide) (outsAt0 m c 6 (by rw [show cfg0.N = 8 from N_0]; omega)) :=
    outsAt0_C m c t0_7 (by decide) (by decide)
  rw [e]
  have hc := carried m c 6 (by rw [show cfg0.N = 8 from N_0]; omega) (by omega)
  generalize outsAt0 m c 6 (by rw [show cfg0.N = 8 from N_0]; omega) = p at hc ⊢
  obtain ⟨hwi, hwo, hs, hd⟩ := hc
  refine ⟨fun k => ?_, fun l => ?_⟩
  · rw [outsC_10 m c t0_7 _ _ p, hwi, hwo, loss_apply]
    unfold lossAt
    refine congrArg (· * cLoss) (Finset.sum_congr rfl fun l _ => ?_)
    refine (all_rows (sqN m c l) _ fun s => ?_).trans (Finset.sum_congr rfl fun n _ => dif_pos n.isLt)
    refine (sq_at m c t0_7 _ s l).trans ?_
    unfold upTo
    rw [Finset.sum_range_succ _ 7]
    exact congrArg (· + _) (hs s l)
  · rw [outsC_11 m c t0_7 _ _ p, hwi, hwo, grad_apply]
    unfold gradAt
    split
    · refine (all_rows (dgN m c l) _ fun s => ?_).trans (Finset.sum_congr rfl fun n _ => dif_pos n.isLt)
      refine (dg_at m c t0_7 _ s l).trans ?_
      unfold upTo
      rw [Finset.sum_range_succ _ 7]
      exact congrArg (· + _) (hd s l)
    · rfl

/-- The kernel leaves the seventh result. -/
theorem final10 (c : Dev nD) : (dats m 0 c).arrAt 10 (cfgs 0).N = G10 m c := by
  refine (dats m 0 c).arrAt_eq_of_after_last 10 t0_7 (by decide +kernel) _ fun y => ?_
  blk_simp
  rw [after0_10]
  idx_vars y
  exact (last_at m c y0).1 y1

/-- The kernel leaves the eighth result. -/
theorem final11 (c : Dev nD) : (dats m 0 c).arrAt 11 (cfgs 0).N = G11 m c := by
  refine (dats m 0 c).arrAt_eq_of_after_last 11 t0_7 (by decide +kernel) _ fun y => ?_
  blk_simp
  rw [after0_11]
  idx_vars y
  exact (last_at m c y0).2 y1

end Cert.Head

end
-- ==== Proof.Head.RefPoint.lean ====
/- The results of the reference `HeadRef`, entry by entry, are the ones the kernel leaves. -/
module

public import proofs.«01_k».proof.Proof.Head.Blocks
public import proofs.«01_k».proof.Proof.Gen.HeadRefIdeal.Read
public import proofs.«01_k».proof.Proof.Common.Reduce
public import proofs.«01_k».proof.Proof.Common.Norm

@[expose] public section

set_option maxRecDepth 16384

noncomputable section

open Idealize.ShloMosaic Idealize.ShloMosaic.TcCoe Idealize.SL.Sem
open Idealize.ShloMosaic.Pipeline (Dat)

namespace Cert.Head

open Cert.HeadRefIdeal Cert.HeadRefIdeal.Gen Cert.HeadRefIdeal.Read Cert.Common
open Cert.Acts (facAt yAt xr md md_zero md_one)

variable (x : Vec Ideal S1x2048x1024 .f32) (mod : Vec Ideal S1x3072 .f32) (g : Vec Ideal S1024 .f32) (w : Vec Ideal S1024x5632 .f32)
    (wo : Vec Ideal S2816x1024 .f32) (fg : Vec Ideal S1024 .f32) (tg : Vec Ideal S1x2048x1024 .f32)

/-- Row `n` of the modulated input. -/
theorem ref_h (n : Fin 2048) (l : Fin 1024) : val_main_v23 (F := Ideal) x mod g (ix3 (n0 := 1) (n1 := 2048) (n2 := 1024) 0 n l)
    = hAt x mod g n l := by
  unfold hAt hrow rms rowLen rowEps
  pointwise [val_main_v0, val_main_v1, val_main_v3, val_main_cst, val_main_v4, val_main_v5, val_main_cst_0, val_main_v6, val_main_v7, val_main_cst_1,
    val_main_v8, val_main_v9, val_main_v10, val_main_v11, val_main_v12, val_main_v13, val_main_v14, val_main_v15, val_main_v16, val_main_cst_2,
    val_main_v17, val_main_v18, val_main_v19, val_main_v20, val_main_v21, val_main_v22, val_main_v23]
  simp only [md_zero, md_one]

/-- The product with the first weight. -/
theorem ref_fac (n : Fin 2048) (k : Fin 5632) : val_main_v25 (F := Ideal) x mod g w (ix3 (n0 := 1) (n1 := 2048) (n2 := 5632) 0 n k)
    = facAt x mod g w n k := by
  unfold facAt fac
  pointwise [val_main_v25, ref_h]
  rfl

/-- The gate's factor. -/
theorem ref_z (n : Fin 2048) (k : Fin 2816) : val_main_v26 (F := Ideal) x mod g w (ix3 (n0 := 1) (n1 := 2048) (n2 := 2816) 0 n k)
    = facAt x mod g w n ⟨k.val, by omega⟩ := by
  pointwise [val_main_v26, ref_fac]

/-- The other factor. -/
theorem ref_u (n : Fin 2048) (k : Fin 2816) : val_main_v27 (F := Ideal) x mod g w (ix3 (n0 := 1) (n1 := 2048) (n2 := 2816) 0 n k)
    = facAt x mod g w n ⟨2816 + k.val, by omega⟩ := by
  pointwise [val_main_v27, ref_fac]

/-- The logistic of the gate's factor. -/
theorem ref_s (n : Fin 2048) (k : Fin 2816) : val_main_call0_v5 (F := Ideal) x mod g w (ix3 (n0 := 1) (n1 := 2048) (n2 := 2816) 0 n k)
    = Ideal.logistic (facAt x mod g w n ⟨k.val, by omega⟩) := by
  pointwise [val_main_call0_v5, val_main_call0_v4, val_main_call0_cst_0, val_main_call0_v3, val_main_call0_v2, val_main_call0_cst, val_main_call0_v1,
    val_main_call0_v0, ref_z]
  rfl

/-- The gated product. -/
theorem ref_a (n : Fin 2048) (k : Fin 2816) : val_main_v29 (F := Ideal) x mod g w (ix3 (n0 := 1) (n1 := 2048) (n2 := 2816) 0 n k)
    = aAt x mod g w n k := by
  unfold aAt silu
  pointwise [val_main_v29, val_main_v28, ref_s, ref_z, ref_u]

/-- The layer's second product. -/
theorem ref_y (n : Fin 2048) (l : Fin 1024) : val_main_v30 (F := Ideal) x mod g w wo (ix3 (n0 := 1) (n1 := 2048) (n2 := 1024) 0 n l)
    = yAt x mod g w wo n l := by
  unfold yAt yrow
  pointwise [val_main_v30, ref_a]
  rfl

/-- The residual stream after the layer. -/
theorem ref_xo (n : Fin 2048) (l : Fin 1024) : val_main_v35 (F := Ideal) x mod g w wo (ix3 (n0 := 1) (n1 := 2048) (n2 := 1024) 0 n l)
    = xoAt x mod g w wo n l := by
  unfold xoAt xov half
  pointwise [val_main_v35, val_main_v34, val_main_v33, val_main_v32, val_main_v31, val_main_cst_3, val_main_v24, val_main_v2, ref_y]
  rfl

/-- Its mean square, with the constant. -/
theorem ref_ms (n : Fin 2048) : val_main_v42 (F := Ideal) x mod g w wo (ix3 (n0 := 1) (n1 := 2048) (n2 := 1) 0 n 0)
    = Ideal.div (∑ j : Fin 1024, xoAt x mod g w wo n j * xoAt x mod g w wo n j) rowLen + rowEps := by
  pointwise [val_main_v42, val_main_v41, val_main_cst_6, val_main_v40, val_main_v39, val_main_cst_5, val_main_v38, val_main_v37, val_main_cst_4,
    val_main_v36, ref_xo]
  rfl

/-- One over its root. -/
theorem ref_rs (n : Fin 2048) : val_main_v43 (F := Ideal) x mod g w wo (ix3 (n0 := 1) (n1 := 2048) (n2 := 1) 0 n 0) = rms (xoAt x mod g w wo n) := by
  pointwise [val_main_v43, ref_ms]
  rfl

/-- The error. -/
theorem ref_err (n : Fin 2048) (l : Fin 1024) : val_main_v52 (F := Ideal) x mod g w wo fg tg (ix3 (n0 := 1) (n1 := 2048) (n2 := 1024) 0 n l)
    = errv (xoAt x mod g w wo n) (fun j => fg (ix1 j)) (xr tg n) l := by
  unfold errv
  pointwise [val_main_v52, val_main_v51, val_main_v50, val_main_v49, val_main_v48, val_main_v47, ref_xo, ref_rs]

/-- The constant 2. -/
theorem ctwo : Ideal.ofBits .f32 1073741824#32 = ((2 : ℝ) : EReal) := by
  simp [Ideal.ofBits, Ideal.ieee, -EReal.coe_mul]; norm_num

/-- The constant `1 / 1024`. -/
theorem cinv : cInv = ((1 / 1024 : ℝ) : EReal) := by
  unfold cInv
  simp [Ideal.ofBits, Ideal.ieee, -EReal.coe_mul]; norm_num

/-- The constant `1 / 2048`. -/
theorem closs : cLoss = ((1 / 2048 : ℝ) : EReal) := by
  unfold cLoss
  simp [Ideal.ofBits, Ideal.ieee, -EReal.coe_mul]; norm_num

/-- Half of one over 1024, times twice a number, is the number times `1 / 1024`. -/
theorem scale_err (e : EReal) : Ideal.div half rowLen * (Ideal.ofBits .f32 1073741824#32 * e) = e * cInv := by
  have h1 : rowLen = ((1024 : ℝ) : EReal) := c1024
  rw [h1, ctwo, cinv, chalf, div_coe' _ (by norm_num), ← mul_assoc, ← EReal.coe_mul, ← EReal.coe_mul, mul_comm]
  norm_num

/-- The cotangent of the scaled norm. -/
theorem ref_dy (n : Fin 2048) (l : Fin 1024) : val_main_v66 (F := Ideal) x mod g w wo fg tg (ix3 (n0 := 1) (n1 := 2048) (n2 := 1024) 0 n l)
    = dyv (xoAt x mod g w wo n) (fun j => fg (ix1 j)) (xr tg n) l := by
  unfold dyv
  rw [← scale_err]
  pointwise [val_main_v66, val_main_v65, val_main_v64, val_main_v63, val_main_cst_15, val_main_v62, val_main_v61, val_main_cst_14, val_main_cst_13,
    val_main_v55, val_main_v54, val_main_cst_8, ref_err]
  rfl

/-- The cotangent of the norm. -/
theorem ref_dn (n : Fin 2048) (l : Fin 1024) : val_main_v71 (F := Ideal) x mod g w wo fg tg (ix3 (n0 := 1) (n1 := 2048) (n2 := 1024) 0 n l)
    = dyv (xoAt x mod g w wo n) (fun j => fg (ix1 j)) (xr tg n) l * fg (ix1 l) := by
  pointwise [val_main_v71, val_main_v70, val_main_v49, ref_dy]

/-- The first result of the reference is the one the kernel leaves. -/
theorem ref_dx (n : Fin 2048) (l : Fin 1024) : val_main_v88 (F := Ideal) x mod g w wo fg tg (ix2 (n0 := 2048) (n1 := 1024) n l)
    = dxAt x mod g w wo fg tg n l := by
  obtain ⟨e, he, hc⟩ := ceps
  have L := norm_bwd 1024 e (by norm_num) he 0 (xoAt x mod g w wo n)
    (fun j => dyv (xoAt x mod g w wo n) (fun j => fg (ix1 j)) (xr tg n) j * fg (ix1 j)) l _ _ rfl rfl
  rw [← c1024, ← cmhalf, ← hc, zero_add, zero_add] at L
  refine Eq.trans ?_ L.symm
  pointwise [val_main_v88, val_main_v87, val_main_v86, val_main_v85, val_main_v84, val_main_v83, val_main_v82, val_main_v81, val_main_cst_20,
    val_main_v80, val_main_v79, val_main_cst_19, val_main_v78, val_main_v77, val_main_v76, val_main_v75, val_main_v74, val_main_cst_18,
    val_main_v73, val_main_v46, val_main_v45, val_main_cst_7, val_main_v44, ref_xo, ref_dn, ref_rs, ref_ms, sum_unit02]
  rfl

/-- The second result of the reference is the one the kernel leaves. -/
theorem ref_hout (n : Fin 2048) (l : Fin 1024) : val_main_v90 (F := Ideal) x mod g (ix2 (n0 := 2048) (n1 := 1024) n l) = hAt x mod g n l := by
  pointwise [val_main_v90, val_main_v89, ref_h]

/-- The third result of the reference is the one the kernel leaves. -/
theorem ref_zout (k : Fin 11) (n : Fin 2048) (j : Fin 256) : val_main_v93 (F := Ideal) x mod g w (ix3 (n0 := 11) (n1 := 2048) (n2 := 256) k n j)
    = facAt x mod g w n ⟨(col k j).val, by omega⟩ := by
  unfold col
  pointwise [val_main_v93, val_main_v92, val_main_v91, ref_z]

/-- The fourth result of the reference is the one the kernel leaves. -/
theorem ref_uout (k : Fin 11) (n : Fin 2048) (j : Fin 256) : val_main_v96 (F := Ideal) x mod g w (ix3 (n0 := 11) (n1 := 2048) (n2 := 256) k n j)
    = facAt x mod g w n ⟨2816 + (col k j).val, by omega⟩ := by
  unfold col
  pointwise [val_main_v96, val_main_v95, val_main_v94, ref_u]

/-- The fifth result of the reference is the one the kernel leaves. -/
theorem ref_yout (n : Fin 2048) (l : Fin 1024) : val_main_v97 (F := Ideal) x mod g w wo (ix2 (n0 := 2048) (n1 := 1024) n l)
    = yAt x mod g w wo n l := by
  pointwise [val_main_v97, ref_y]

/-- The sixth result of the reference is the one the kernel leaves. -/
theorem ref_aout (k : Fin 11) (n : Fin 2048) (j : Fin 256) : val_main_v100 (F := Ideal) x mod g w (ix3 (n0 := 11) (n1 := 2048) (n2 := 256) k n j)
    = aAt x mod g w n (col k j) := by
  unfold col
  pointwise [val_main_v100, val_main_v99, val_main_v98, ref_a]

/-- The mean over a row of the squared error. -/
theorem ref_mean (n : Fin 2048) : val_main_v58 (F := Ideal) x mod g w wo fg tg (ix2 (n0 := 1) (n1 := 2048) 0 n)
    = Ideal.div (∑ l : Fin 1024, sqAt x mod g w wo fg tg l n) rowLen := by
  unfold sqAt sqv
  pointwise [val_main_v58, val_main_v57, val_main_cst_10, val_main_v56, val_main_cst_9, val_main_v53, ref_err]
  rfl

/-- A sum over the entries of one row. -/
theorem sum_row1 (f : S1x2048.Idx → EReal) : ∑ j : S1x2048.Idx, f j = ∑ n : Fin 2048, f (ix2 (n0 := 1) (n1 := 2048) 0 n) := by
  refine (Function.Bijective.sum_comp (e := fun n : Fin 2048 => (ix2 (n0 := 1) (n1 := 2048) 0 n : S1x2048.Idx)) ⟨?_, ?_⟩ f).symm
  · intro a b h
    exact congrFun h 1
  · intro y
    idx_vars y
    exact ⟨y1, by rw [Subsingleton.elim y0 0]⟩

/-- Half of the sum over the rows of the means is the sum of all entries times `1 / 2048`. -/
theorem loss_eq (s : Fin 1024 → Fin 2048 → EReal) :
    half * ∑ n : Fin 2048, Ideal.div (∑ l : Fin 1024, s l n) rowLen = (∑ l : Fin 1024, ∑ n : Fin 2048, s l n) * cLoss := by
  have h1 : rowLen = ((1024 : ℝ) : EReal) := c1024
  have h2 : ∀ n : Fin 2048, Ideal.div (∑ l : Fin 1024, s l n) rowLen = ((1024⁻¹ : ℝ) : EReal) * ∑ l : Fin 1024, s l n := fun n => by
    rw [h1, div_coe' _ (by norm_num), mul_comm]
  rw [Finset.sum_congr rfl fun n _ => h2 n, ← coe_mul_sum _ (by norm_num), Finset.sum_comm, closs, chalf, ← mul_assoc, ← EReal.coe_mul, mul_comm]
  norm_num

/-- The seventh result of the reference is the one the kernel leaves. -/
theorem ref_loss (r : Fin 8) (k : Fin 128) : val_main_v101 (F := Ideal) x mod g w wo fg tg (ix2 (n0 := 8) (n1 := 128) r k)
    = lossAt x mod g w wo fg tg := by
  unfold lossAt
  rw [← loss_eq]
  simp only [← ref_mean]
  rw [val_main_v101_apply, val_main_v60_apply, val_main_v59_apply, sum_row1]
  refine congrArg (half * ·) ?_
  refine (congrArg (· + _) ?_).trans (zero_add _)
  pointwise [val_main_cst_11]

/-- The last result of the reference is the one the kernel leaves. -/
theorem ref_grad (r : Fin 8) (l : Fin 1024) : val_main_v104 (F := Ideal) x mod g w wo fg tg (ix2 (n0 := 8) (n1 := 1024) r l)
    = gradAt x mod g w wo fg tg r l := by
  unfold gradAt dgAt dgv
  split
  · next h =>
    obtain rfl : r = 0 := Fin.ext (by show r.val = 0; omega)
    pointwise [val_main_v104, val_main_v102, val_main_v72, val_main_cst_17, val_main_v69, val_main_v68, val_main_cst_16, val_main_v67, val_main_v48,
      val_main_v47, ref_xo, ref_rs, ref_dy, sum_unit01]
    exact Finset.sum_congr rfl fun n _ => mul_comm _ _
  · next h =>
    pointwise [val_main_v104, val_main_v103, val_main_cst_21]
    rw [dif_neg h]

end Cert.Head

end
-- ==== Proof.Head.Claim.lean ====
/- The claim that the kernel `Head` and its reference end with equal results. -/
module

public import proofs.«01_k».proof.Defs
public import proofs.«01_k».proof.Proof.Head.Final
public import proofs.«01_k».proof.Proof.Head.RefPoint
public import proofs.«01_k».proof.Proof.Gen.HeadRefIdeal.Run

@[expose] public section

set_option maxRecDepth 16384

noncomputable section

open Idealize.ShloMosaic Idealize.ShloMosaic.TcCoe Idealize.SL.Sem

namespace Cert.Head.Claims

open Cert.Head Cert.Common Cert.HeadRefIdeal.Read

set_option maxHeartbeats 4000000 in
/-- From the same arguments, whatever they are, the kernel and the reference end with equal results. -/
theorem algebraic : Cert.algebraic_HeadIdeal_HeadRefIdeal := by
  pair_intro
  · run_from Cert.HeadIdeal.Gen.run_main m g
    all_goals
      simp only [Cert.HeadIdeal.Gen.hostOps0, List.flatten_cons, List.flatten_nil, List.append_nil, List.cons_append, List.nil_append]
      after_results
  · refine (θ_run _ _ _).mono (fun r h c => ?_) (Cert.HeadRefIdeal.Value.run m' g')
    obtain ⟨h0, h1, h2, h3, h4, h5, h6, h7, hargs⟩ := h c
    obtain ⟨e0, e1, e2, e3, e4, e5, e6⟩ := hagree c
    have b0 : StableHlo.launchContents m' c (Proc.devRef .tc Cert.HeadRefIdeal.main_arg0) = a0 m c := e0
    have b1 : StableHlo.launchContents m' c (Proc.devRef .tc Cert.HeadRefIdeal.main_arg1) = a1 m c := e1
    have b2 : StableHlo.launchContents m' c (Proc.devRef .tc Cert.HeadRefIdeal.main_arg2) = a2 m c := e2
    have b3 : StableHlo.launchContents m' c (Proc.devRef .tc Cert.HeadRefIdeal.main_arg3) = a3 m c := e3
    have b4 : StableHlo.launchContents m' c (Proc.devRef .tc Cert.HeadRefIdeal.main_arg4) = a4 m c := e4
    have b5 : StableHlo.launchContents m' c (Proc.devRef .tc Cert.HeadRefIdeal.main_arg5) = a5 m c := e5
    have b6 : StableHlo.launchContents m' c (Proc.devRef .tc Cert.HeadRefIdeal.main_arg6) = a6 m c := e6
    refine ⟨h0.trans ((val_main_v88_eq _).trans (Eq.trans ?_ (final4 m c).symm)),
      h1.trans ((val_main_v90_eq _).trans (Eq.trans ?_ (final5 m c).symm)),
      h2.trans ((val_main_v93_eq _).trans (Eq.trans ?_ (final6 m c).symm)),
      h3.trans ((val_main_v96_eq _).trans (Eq.trans ?_ (final7 m c).symm)),
      h4.trans ((val_main_v97_eq _).trans (Eq.trans ?_ (final8 m c).symm)),
      h5.trans ((val_main_v100_eq _).trans (Eq.trans ?_ (final9 m c).symm)),
      h6.trans ((val_main_v101_eq _).trans (Eq.trans ?_ (final10 m c).symm)),
      h7.trans ((val_main_v104_eq _).trans (Eq.trans ?_ (final11 m c).symm)), hargs⟩
    · funext y
      idx_vars y
      refine Eq.trans ?_ (ref_dx (a0 m c) (a1 m c) (a2 m c) (a3 m c) (a4 m c) (a5 m c) (a6 m c) y0 y1)
      rw [b0, b1, b2, b3, b4, b5, b6]
    · funext y
      idx_vars y
      refine Eq.trans ?_ (ref_hout (a0 m c) (a1 m c) (a2 m c) y0 y1)
      rw [b0, b1, b2]
    · funext y
      idx_vars y
      refine Eq.trans ?_ (ref_zout (a0 m c) (a1 m c) (a2 m c) (a3 m c) y0 y1 y2)
      rw [b0, b1, b2, b3]
    · funext y
      idx_vars y
      refine Eq.trans ?_ (ref_uout (a0 m c) (a1 m c) (a2 m c) (a3 m c) y0 y1 y2)
      rw [b0, b1, b2, b3]
    · funext y
      idx_vars y
      refine Eq.trans ?_ (ref_yout (a0 m c) (a1 m c) (a2 m c) (a3 m c) (a4 m c) y0 y1)
      rw [b0, b1, b2, b3, b4]
    · funext y
      idx_vars y
      refine Eq.trans ?_ (ref_aout (a0 m c) (a1 m c) (a2 m c) (a3 m c) y0 y1 y2)
      rw [b0, b1, b2, b3]
    · funext y
      idx_vars y
      refine Eq.trans ?_ (ref_loss (a0 m c) (a1 m c) (a2 m c) (a3 m c) (a4 m c) (a5 m c) (a6 m c) y0 y1)
      rw [b0, b1, b2, b3, b4, b5, b6]
    · funext y
      idx_vars y
      refine Eq.trans ?_ (ref_grad (a0 m c) (a1 m c) (a2 m c) (a3 m c) (a4 m c) (a5 m c) (a6 m c) y0 y1)
      rw [b0, b1, b2, b3, b4, b5, b6]

end Cert.Head.Claims

end
-- ==== Proof.Head.Ref.lean ====
/- The frame of the reference of `Head`. -/
module

public import proofs.«01_k».proof.Defs
public import proofs.«01_k».proof.Proof.Gen.HeadRefIdeal
public import Idealize.ShloMosaic.Lib.Claim

@[expose] public section

set_option maxRecDepth 16384

namespace Cert.HeadRefIdeal.Gen
open Idealize.ShloMosaic Idealize.SL.Sem

set_option maxHeartbeats 8000000 in
/-- Every execution of the reference ends, faults nowhere and leaves the arguments as they were. -/
theorem frame : Cert.quiescent_HeadRefIdeal := by
  intro m g _
  hlo_run
  · intro c
    simp only [and_self]
  · refine sem_eq_zero_of_no_sems ?_ _
    decide

end Cert.HeadRefIdeal.Gen
-- ==== Proof.Ab.RunA.lean ====
/- The body of `Ab` at the first point of its grid. -/
module

public import proofs.«01_k».proof.Proof.Gen.AbIdeal.Frame.Runs

@[expose] public section

set_option maxRecDepth 16384

noncomputable section

namespace Cert.AbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body at a first point, run: the pieces it stores into each output and scratch. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S256x2560 .f32) (harg4 : arg4.IsWhole) (arg5 : Memref sig .tc .vmem S8x2560 .f32) (harg5 : arg5.IsWhole) (arg6 : Memref sig .tc .vmem S256x1024 .f32) (harg6 : arg6.IsWhole) (arg9 : Memref sig .tc .vmem S1x512 .f32) (harg9 : arg9.IsWhole) (arg10 : Memref sig .tc .vmem S4x128x128 .f32) (harg10 : arg10.IsWhole) (arg11 : Memref sig .tc .vmem S128x4 .f32) (harg11 : arg11.IsWhole) (arg12 : Memref sig .tc .vmem S8x512 .f32) (harg12 : arg12.IsWhole) (arg13 : Memref sig .tc .vmem S256x1024 .f32) (harg13 : arg13.IsWhole) (arg14 : Memref sig .tc .vmem S10x256x256 .bf16) (harg14 : arg14.IsWhole) (arg15 : Memref sig .tc .vmem S4x256x256 .bf16) (harg15 : arg15.IsWhole) (arg16 : Memref sig .tc .vmem S256x1024 .bf16) (harg16 : arg16.IsWhole) (arg17 : Memref sig .tc .vmem S8x1024 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S4x128x128 .f32) (harg20 : arg20.IsWhole) (arg21 : Memref sig .tc .vmem S8x512 .f32) (harg21 : arg21.IsWhole) (arg22 : Memref sig .tc .vmem S2560x1024 .bf16) (harg22 : arg22.IsWhole) (arg23 : Memref sig .tc .vmem S1024x1024 .bf16) (harg23 : arg23.IsWhole) (arg24 : Memref sig .tc .vmem S8x512 .f32) (harg24 : arg24.IsWhole) (arg25 : Memref sig .tc .vmem S4x8x1024 .f32) (harg25 : arg25.IsWhole) (arg26 : Memref sig .tc .vmem S8x512 .f32) (harg26 : arg26.IsWhole) (arg27 : Memref sig .tc .vmem S4x128x128 .f32) (harg27 : arg27.IsWhole) (arg28 : Memref sig .tc .vmem S4x128x128 .f32) (harg28 : arg28.IsWhole) (arg29 : Memref sig .tc .vmem S8x512 .f32) (harg29 : arg29.IsWhole) (hc0 : cond0_0 i) (hc1 : ¬cond0_1 i)
    (x0 : Vec F S256x1024 .f32) (x1 : Vec F S256x1024 .f32) (x2 : Vec F S8x1024 .f32) (x3 : Vec F S256x2560 .f32) (x4 : Vec F S8x2560 .f32) (x5 : Vec F S256x1024 .f32) (x6 : Vec F S1x512 .f32) (x7 : Vec F S4x128x128 .f32) (x8 : Vec F S128x4 .f32) (x9 : Vec F S8x512 .f32) (fh0 : HbBuf0 (F := F) c hbM0_0) (fh1 : HbBuf0 (F := F) c hbM0_1) :
    Σ' (L10 : List (View.Piece (Elt F) S256x1024 .f32)), Σ' (L11 : List (View.Piece (Elt F) S10x256x256 .bf16)), Σ' (L12 : List (View.Piece (Elt F) S4x256x256 .bf16)), Σ' (L13 : List (View.Piece (Elt F) S256x1024 .bf16)), Σ' (L14 : List (View.Piece (Elt F) S8x1024 .f32)), Σ' (L15 : List (View.Piece (Elt F) S8x512 .f32)), Σ' (L16 : List (View.Piece (Elt F) S4x128x128 .f32)), Σ' (L17 : List (View.Piece (Elt F) S4x128x128 .f32)), Σ' (L18 : List (View.Piece (Elt F) S8x512 .f32)), Σ' (LS0 : List (View.Piece (Elt F) S2560x1024 .bf16)), Σ' (LS1 : List (View.Piece (Elt F) S1024x1024 .bf16)), Σ' (LS2 : List (View.Piece (Elt F) S8x512 .f32)), Σ' (LS3 : List (View.Piece (Elt F) S4x8x1024 .f32)), Σ' (LS4 : List (View.Piece (Elt F) S8x512 .f32)), Σ' (LS5 : List (View.Piece (Elt F) S4x128x128 .f32)), Σ' (LS6 : List (View.Piece (Elt F) S4x128x128 .f32)), { LS7 : List (View.Piece (Elt F) S8x512 .f32) //
      ∀ (xi14 : Vec F S8x1024 .f32) (xi15 : Vec F S8x512 .f32) (xi16 : Vec F S4x128x128 .f32) (xi17 : Vec F S4x128x128 .f32) (xi18 : Vec F S8x512 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi14 ∗ owns (c : Thread nD τ) arg18 fullShare xi15 ∗ owns (c : Thread nD τ) arg19 fullShare xi16 ∗ owns (c : Thread nD τ) arg20 fullShare xi17 ∗ owns (c : Thread nD τ) arg21 fullShare xi18 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ owns (c : Thread nD τ) arg17 fullShare xi14 ∗ owns (c : Thread nD τ) arg18 fullShare xi15 ∗ owns (c : Thread nD τ) arg19 fullShare xi16 ∗ owns (c : Thread nD τ) arg20 fullShare xi17 ∗ owns (c : Thread nD τ) arg21 fullShare xi18 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6) ∗ (∃ f, arg29.view.loc (c : Thread nD τ) ↦[arg29.view.set]{fullShare} arg29.view.writes (Elt F) f LS7) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ab_bwd i arg1 harg1 arg2 harg2 arg3 harg3 arg4 harg4 arg5 harg5 arg6 harg6 (Memref.whole main_v7) (Memref.isWhole_whole _) (Memref.whole main_v9) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 cc0_scratch8) K } := by
  refine ⟨?_, ?_, ?_, ?_, [], [], [], [], [], ?_, ?_, ?_, ?_, ?_, ?_, ?_, ?_, fun xi14 xi15 xi16 xi17 xi18 W K => ?run⟩
  case run =>
    simp only [cc0_ab_bwd_eq_skeleton]; unfold cc0_ab_bwd_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf6; obtain rfl := harg10.eq_unread hf7; obtain rfl := harg11.eq_unread hf8; obtain rfl := harg12.eq_unread hf9; obtain rfl := harg17.eq_unread hf14; obtain rfl := harg18.eq_unread hf15; obtain rfl := harg19.eq_unread hf16; obtain rfl := harg20.eq_unread hf17; obtain rfl := harg21.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.AbIdeal.Gen

end
-- ==== Proof.Ab.RunB.lean ====
/- The body of `Ab` at the middle point of its grid. -/
module

public import proofs.«01_k».proof.Proof.Gen.AbIdeal.Frame.Runs

@[expose] public section

set_option maxRecDepth 16384

noncomputable section

namespace Cert.AbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a middle point, run: the pieces it stores into each output and scratch. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S256x2560 .f32) (harg4 : arg4.IsWhole) (arg5 : Memref sig .tc .vmem S8x2560 .f32) (harg5 : arg5.IsWhole) (arg6 : Memref sig .tc .vmem S256x1024 .f32) (harg6 : arg6.IsWhole) (arg9 : Memref sig .tc .vmem S1x512 .f32) (harg9 : arg9.IsWhole) (arg10 : Memref sig .tc .vmem S4x128x128 .f32) (harg10 : arg10.IsWhole) (arg11 : Memref sig .tc .vmem S128x4 .f32) (harg11 : arg11.IsWhole) (arg12 : Memref sig .tc .vmem S8x512 .f32) (harg12 : arg12.IsWhole) (arg13 : Memref sig .tc .vmem S256x1024 .f32) (harg13 : arg13.IsWhole) (arg14 : Memref sig .tc .vmem S10x256x256 .bf16) (harg14 : arg14.IsWhole) (arg15 : Memref sig .tc .vmem S4x256x256 .bf16) (harg15 : arg15.IsWhole) (arg16 : Memref sig .tc .vmem S256x1024 .bf16) (harg16 : arg16.IsWhole) (arg17 : Memref sig .tc .vmem S8x1024 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S4x128x128 .f32) (harg20 : arg20.IsWhole) (arg21 : Memref sig .tc .vmem S8x512 .f32) (harg21 : arg21.IsWhole) (arg22 : Memref sig .tc .vmem S2560x1024 .bf16) (harg22 : arg22.IsWhole) (arg23 : Memref sig .tc .vmem S1024x1024 .bf16) (harg23 : arg23.IsWhole) (arg24 : Memref sig .tc .vmem S8x512 .f32) (harg24 : arg24.IsWhole) (arg25 : Memref sig .tc .vmem S4x8x1024 .f32) (harg25 : arg25.IsWhole) (arg26 : Memref sig .tc .vmem S8x512 .f32) (harg26 : arg26.IsWhole) (arg27 : Memref sig .tc .vmem S4x128x128 .f32) (harg27 : arg27.IsWhole) (arg28 : Memref sig .tc .vmem S4x128x128 .f32) (harg28 : arg28.IsWhole) (arg29 : Memref sig .tc .vmem S8x512 .f32) (harg29 : arg29.IsWhole) (hc0 : ¬cond0_0 i) (hc1 : ¬cond0_1 i)
    (x0 : Vec F S256x1024 .f32) (x1 : Vec F S256x1024 .f32) (x2 : Vec F S8x1024 .f32) (x3 : Vec F S256x2560 .f32) (x4 : Vec F S8x2560 .f32) (x5 : Vec F S256x1024 .f32) (x6 : Vec F S1x512 .f32) (x7 : Vec F S4x128x128 .f32) (x8 : Vec F S128x4 .f32) (x9 : Vec F S8x512 .f32) (xs0 : Vec F S2560x1024 .bf16) (xs1 : Vec F S1024x1024 .bf16) (xs2 : Vec F S8x512 .f32) (xs3 : Vec F S4x8x1024 .f32) (xs4 : Vec F S8x512 .f32) (xs5 : Vec F S4x128x128 .f32) (xs6 : Vec F S4x128x128 .f32) (xs7 : Vec F S8x512 .f32) (fh0 : HbBuf0 (F := F) c hbM0_0) (fh1 : HbBuf0 (F := F) c hbM0_1) :
    Σ' (L10 : List (View.Piece (Elt F) S256x1024 .f32)), Σ' (L11 : List (View.Piece (Elt F) S10x256x256 .bf16)), Σ' (L12 : List (View.Piece (Elt F) S4x256x256 .bf16)), Σ' (L13 : List (View.Piece (Elt F) S256x1024 .bf16)), Σ' (L14 : List (View.Piece (Elt F) S8x1024 .f32)), Σ' (L15 : List (View.Piece (Elt F) S8x512 .f32)), Σ' (L16 : List (View.Piece (Elt F) S4x128x128 .f32)), Σ' (L17 : List (View.Piece (Elt F) S4x128x128 .f32)), Σ' (L18 : List (View.Piece (Elt F) S8x512 .f32)), Σ' (LS0 : List (View.Piece (Elt F) S2560x1024 .bf16)), Σ' (LS1 : List (View.Piece (Elt F) S1024x1024 .bf16)), Σ' (LS2 : List (View.Piece (Elt F) S8x512 .f32)), Σ' (LS3 : List (View.Piece (Elt F) S4x8x1024 .f32)), Σ' (LS4 : List (View.Piece (Elt F) S8x512 .f32)), Σ' (LS5 : List (View.Piece (Elt F) S4x128x128 .f32)), Σ' (LS6 : List (View.Piece (Elt F) S4x128x128 .f32)), { LS7 : List (View.Piece (Elt F) S8x512 .f32) //
      ∀ (xi14 : Vec F S8x1024 .f32) (xi15 : Vec F S8x512 .f32) (xi16 : Vec F S4x128x128 .f32) (xi17 : Vec F S4x128x128 .f32) (xi18 : Vec F S8x512 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi14 ∗ owns (c : Thread nD τ) arg18 fullShare xi15 ∗ owns (c : Thread nD τ) arg19 fullShare xi16 ∗ owns (c : Thread nD τ) arg20 fullShare xi17 ∗ owns (c : Thread nD τ) arg21 fullShare xi18 ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5 ∗ owns (c : Thread nD τ) arg28 fullShare xs6 ∗ owns (c : Thread nD τ) arg29 fullShare xs7 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ owns (c : Thread nD τ) arg17 fullShare xi14 ∗ owns (c : Thread nD τ) arg18 fullShare xi15 ∗ owns (c : Thread nD τ) arg19 fullShare xi16 ∗ owns (c : Thread nD τ) arg20 fullShare xi17 ∗ owns (c : Thread nD τ) arg21 fullShare xi18 ∗ owns (c : Thread nD τ) arg22 fullShare xs0 ∗ owns (c : Thread nD τ) arg23 fullShare xs1 ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6) ∗ (∃ f, arg29.view.loc (c : Thread nD τ) ↦[arg29.view.set]{fullShare} arg29.view.writes (Elt F) f LS7) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ab_bwd i arg1 harg1 arg2 harg2 arg3 harg3 arg4 harg4 arg5 harg5 arg6 harg6 (Memref.whole main_v7) (Memref.isWhole_whole _) (Memref.whole main_v9) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 cc0_scratch8) K } := by
  refine ⟨?_, ?_, ?_, ?_, [], [], [], [], [], [], [], ?_, ?_, ?_, ?_, ?_, ?_, fun xi14 xi15 xi16 xi17 xi18 W K => ?run⟩
  case run =>
    simp only [cc0_ab_bwd_eq_skeleton]; unfold cc0_ab_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf6; obtain rfl := harg10.eq_unread hf7; obtain rfl := harg11.eq_unread hf8; obtain rfl := harg12.eq_unread hf9; obtain rfl := harg17.eq_unread hf14; obtain rfl := harg18.eq_unread hf15; obtain rfl := harg19.eq_unread hf16; obtain rfl := harg20.eq_unread hf17; obtain rfl := harg21.eq_unread hf18; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5; obtain rfl := harg28.eq_unread hfs6; obtain rfl := harg29.eq_unread hfs7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [HS0]
    · iexists _; isplitr; · ipureintro; exact harg22.read_unread _
      iexact HS0
    isplitl [HS1]
    · iexists _; isplitr; · ipureintro; exact harg23.read_unread _
      iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.AbIdeal.Gen

end
-- ==== Proof.Ab.RunC.lean ====
/- The body of `Ab` at the last point of its grid. -/
module

public import proofs.«01_k».proof.Proof.Gen.AbIdeal.Frame.Runs

@[expose] public section

set_option maxRecDepth 16384

noncomputable section

namespace Cert.AbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a last point, run: the pieces it stores into each output and scratch. -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S256x2560 .f32) (harg4 : arg4.IsWhole) (arg5 : Memref sig .tc .vmem S8x2560 .f32) (harg5 : arg5.IsWhole) (arg6 : Memref sig .tc .vmem S256x1024 .f32) (harg6 : arg6.IsWhole) (arg9 : Memref sig .tc .vmem S1x512 .f32) (harg9 : arg9.IsWhole) (arg10 : Memref sig .tc .vmem S4x128x128 .f32) (harg10 : arg10.IsWhole) (arg11 : Memref sig .tc .vmem S128x4 .f32) (harg11 : arg11.IsWhole) (arg12 : Memref sig .tc .vmem S8x512 .f32) (harg12 : arg12.IsWhole) (arg13 : Memref sig .tc .vmem S256x1024 .f32) (harg13 : arg13.IsWhole) (arg14 : Memref sig .tc .vmem S10x256x256 .bf16) (harg14 : arg14.IsWhole) (arg15 : Memref sig .tc .vmem S4x256x256 .bf16) (harg15 : arg15.IsWhole) (arg16 : Memref sig .tc .vmem S256x1024 .bf16) (harg16 : arg16.IsWhole) (arg17 : Memref sig .tc .vmem S8x1024 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S4x128x128 .f32) (harg20 : arg20.IsWhole) (arg21 : Memref sig .tc .vmem S8x512 .f32) (harg21 : arg21.IsWhole) (arg22 : Memref sig .tc .vmem S2560x1024 .bf16) (harg22 : arg22.IsWhole) (arg23 : Memref sig .tc .vmem S1024x1024 .bf16) (harg23 : arg23.IsWhole) (arg24 : Memref sig .tc .vmem S8x512 .f32) (harg24 : arg24.IsWhole) (arg25 : Memref sig .tc .vmem S4x8x1024 .f32) (harg25 : arg25.IsWhole) (arg26 : Memref sig .tc .vmem S8x512 .f32) (harg26 : arg26.IsWhole) (arg27 : Memref sig .tc .vmem S4x128x128 .f32) (harg27 : arg27.IsWhole) (arg28 : Memref sig .tc .vmem S4x128x128 .f32) (harg28 : arg28.IsWhole) (arg29 : Memref sig .tc .vmem S8x512 .f32) (harg29 : arg29.IsWhole) (hc0 : ¬cond0_0 i) (hc1 : cond0_1 i)
    (x0 : Vec F S256x1024 .f32) (x1 : Vec F S256x1024 .f32) (x2 : Vec F S8x1024 .f32) (x3 : Vec F S256x2560 .f32) (x4 : Vec F S8x2560 .f32) (x5 : Vec F S256x1024 .f32) (x6 : Vec F S1x512 .f32) (x7 : Vec F S4x128x128 .f32) (x8 : Vec F S128x4 .f32) (x9 : Vec F S8x512 .f32) (xs0 : Vec F S2560x1024 .bf16) (xs1 : Vec F S1024x1024 .bf16) (xs2 : Vec F S8x512 .f32) (xs3 : Vec F S4x8x1024 .f32) (xs4 : Vec F S8x512 .f32) (xs5 : Vec F S4x128x128 .f32) (xs6 : Vec F S4x128x128 .f32) (xs7 : Vec F S8x512 .f32) (fh0 : HbBuf0 (F := F) c hbM0_0) (fh1 : HbBuf0 (F := F) c hbM0_1) :
    Σ' (L10 : List (View.Piece (Elt F) S256x1024 .f32)), Σ' (L11 : List (View.Piece (Elt F) S10x256x256 .bf16)), Σ' (L12 : List (View.Piece (Elt F) S4x256x256 .bf16)), Σ' (L13 : List (View.Piece (Elt F) S256x1024 .bf16)), Σ' (L14 : List (View.Piece (Elt F) S8x1024 .f32)), Σ' (L15 : List (View.Piece (Elt F) S8x512 .f32)), Σ' (L16 : List (View.Piece (Elt F) S4x128x128 .f32)), Σ' (L17 : List (View.Piece (Elt F) S4x128x128 .f32)), Σ' (L18 : List (View.Piece (Elt F) S8x512 .f32)), Σ' (LS0 : List (View.Piece (Elt F) S2560x1024 .bf16)), Σ' (LS1 : List (View.Piece (Elt F) S1024x1024 .bf16)), Σ' (LS2 : List (View.Piece (Elt F) S8x512 .f32)), Σ' (LS3 : List (View.Piece (Elt F) S4x8x1024 .f32)), Σ' (LS4 : List (View.Piece (Elt F) S8x512 .f32)), Σ' (LS5 : List (View.Piece (Elt F) S4x128x128 .f32)), Σ' (LS6 : List (View.Piece (Elt F) S4x128x128 .f32)), { LS7 : List (View.Piece (Elt F) S8x512 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5 ∗ owns (c : Thread nD τ) arg28 fullShare xs6 ∗ owns (c : Thread nD τ) arg29 fullShare xs7 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ owns (c : Thread nD τ) arg22 fullShare xs0 ∗ owns (c : Thread nD τ) arg23 fullShare xs1 ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6) ∗ (∃ f, arg29.view.loc (c : Thread nD τ) ↦[arg29.view.set]{fullShare} arg29.view.writes (Elt F) f LS7) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ab_bwd i arg1 harg1 arg2 harg2 arg3 harg3 arg4 harg4 arg5 harg5 arg6 harg6 (Memref.whole main_v7) (Memref.isWhole_whole _) (Memref.whole main_v9) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 cc0_scratch8) K } := by
  refine ⟨?_, ?_, ?_, ?_, ?_, ?_, ?_, ?_, ?_, [], [], ?_, ?_, ?_, ?_, ?_, ?_, fun W K => ?run⟩
  case run =>
    simp only [cc0_ab_bwd_eq_skeleton]; unfold cc0_ab_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf6; obtain rfl := harg10.eq_unread hf7; obtain rfl := harg11.eq_unread hf8; obtain rfl := harg12.eq_unread hf9; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5; obtain rfl := harg28.eq_unread hfs6; obtain rfl := harg29.eq_unread hfs7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _; isplitr; · ipureintro; exact harg22.read_unread _
      iexact HS0
    isplitl [HS1]
    · iexists _; isplitr; · ipureintro; exact harg23.read_unread _
      iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.AbIdeal.Gen

end
-- ==== Proof.Ab.Frame.lean ====
/- The frame of the program `Ab`, for any arithmetic: three cases of the grid point (the first, a middle one, the last), the
   contents each leaves, and the run of the launch. -/
module

public import proofs.«01_k».proof.Proof.Ab.RunA
public import proofs.«01_k».proof.Proof.Ab.RunB
public import proofs.«01_k».proof.Proof.Ab.RunC
public import Idealize.ShloMosaic.Lib.Claim

@[expose] public section

set_option maxRecDepth 16384

noncomputable section

namespace Cert.AbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The contents carried from one point to the next: the outputs in window order, then the scratch. -/
abbrev Outs (F : FTy → Type) : Type := Vec F S256x1024 .f32 × Vec F S10x256x256 .bf16 × Vec F S4x256x256 .bf16 × Vec F S256x1024 .bf16 × Vec F S8x1024 .f32 × Vec F S8x512 .f32 × Vec F S4x128x128 .f32 × Vec F S4x128x128 .f32 × Vec F S8x512 .f32 × Vec F S2560x1024 .bf16 × Vec F S1024x1024 .bf16 × Vec F S8x512 .f32 × Vec F S4x8x1024 .f32 × Vec F S8x512 .f32 × Vec F S4x128x128 .f32 × Vec F S4x128x128 .f32 × Vec F S8x512 .f32

variable (m : (ℓ : Loc nD τ sig) → Buf (Elt F) ℓ) (ρ : Dev nD → PrngReg)

/-- The case A run of the body at point `t`, at the memrefs and input blocks of that point. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v7) (V m c main_v9)

/-- The case B run of the body at point `t`, at the memrefs and input blocks of that point. -/
abbrev runB (c : Dev nD) (t : Fin cfg0.N) (h0 : ¬t.val % 8 = 0) (h1 : ¬t.val % 8 = 7) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2.1 p.2.2.2.2.2.2.2.2.2.2.2.2.2.2.2.2 (V m c main_v7) (V m c main_v9)

/-- The case C run of the body at point `t`, at the memrefs and input blocks of that point. -/
abbrev runC (c : Dev nD) (t : Fin cfg0.N) (h0 : ¬t.val % 8 = 0) (h1 : t.val % 8 = 7) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2.1 p.2.2.2.2.2.2.2.2.2.2.2.2.2.2.2.2 (V m c main_v7) (V m c main_v9)

theorem coverA_10 (c : Dev nD) (t : Fin cfg0.N) (h0 : t.val % 8 = 0) (h1 : ¬t.val % 8 = 7) (y : S256x1024.Idx) :
    ∃ pc ∈ (runA m c t h0 h1).1, y ∈ pc.1.set :=
  View.cover_of_tiledL (runA m c t h0 h1).1 S256x1024.size (by sl_kernel_rfl) y

def outA_10 (c : Dev nD) (t : Fin cfg0.N) (h0 : t.val % 8 = 0) (h1 : ¬t.val % 8 = 7) : Vec F S256x1024 .f32 :=
  VO0_10.read (Elt F) (VO0_10.writes (Elt F) VO0_10.junk (runA m c t h0 h1).1)

theorem coverA_11 (c : Dev nD) (t : Fin cfg0.N) (h0 : t.val % 8 = 0) (h1 : ¬t.val % 8 = 7) (y : S10x256x256.Idx) :
    ∃ pc ∈ (runA m c t h0 h1).2.1, y ∈ pc.1.set :=
  View.cover_of_tiledL (runA m c t h0 h1).2.1 S1x256x256.size (by sl_kernel_rfl) y

def outA_11 (c : Dev nD) (t : Fin cfg0.N) (h0 : t.val % 8 = 0) (h1 : ¬t.val % 8 = 7) : Vec F S10x256x256 .bf16 :=
  VO0_11.read (Elt F) (VO0_11.writes (Elt F) VO0_11.junk (runA m c t h0 h1).2.1)

theorem coverA_12 (c : Dev nD) (t : Fin cfg0.N) (h0 : t.val % 8 = 0) (h1 : ¬t.val % 8 = 7) (y : S4x256x256.Idx) :
    ∃ pc ∈ (runA m c t h0 h1).2.2.1, y ∈ pc.1.set :=
  View.cover_of_tiledL (runA m c t h0 h1).2.2.1 S1x256x256.size (by sl_kernel_rfl) y

def outA_12 (c : Dev nD) (t : Fin cfg0.N) (h0 : t.val % 8 = 0) (h1 : ¬t.val % 8 = 7) : Vec F S4x256x256 .bf16 :=
  VO0_12.read (Elt F) (VO0_12.writes (Elt F) VO0_12.junk (runA m c t h0 h1).2.2.1)

theorem coverA_13 (c : Dev nD) (t : Fin cfg0.N) (h0 : t.val % 8 = 0) (h1 : ¬t.val % 8 = 7) (y : S256x1024.Idx) :
    ∃ pc ∈ (runA m c t h0 h1).2.2.2.1, y ∈ pc.1.set :=
  View.cover_of_tiledL (runA m c t h0 h1).2.2.2.1 S256x1024.size (by sl_kernel_rfl) y

def outA_13 (c : Dev nD) (t : Fin cfg0.N) (h0 : t.val % 8 = 0) (h1 : ¬t.val % 8 = 7) : Vec F S256x1024 .bf16 :=
  VO0_13.read (Elt F) (VO0_13.writes (Elt F) VO0_13.junk (runA m c t h0 h1).2.2.2.1)

def outA_14 (c : Dev nD) (t : Fin cfg0.N) (h0 : t.val % 8 = 0) (h1 : ¬t.val % 8 = 7) : Vec F S8x1024 .f32 :=
  VO0_14.read (Elt F) (VO0_14.writes (Elt F) VO0_14.junk (runA m c t h0 h1).2.2.2.2.1)

def outA_15 (c : Dev nD) (t : Fin cfg0.N) (h0 : t.val % 8 = 0) (h1 : ¬t.val % 8 = 7) : Vec F S8x512 .f32 :=
  VO0_15.read (Elt F) (VO0_15.writes (Elt F) VO0_15.junk (runA m c t h0 h1).2.2.2.2.2.1)

def outA_16 (c : Dev nD) (t : Fin cfg0.N) (h0 : t.val % 8 = 0) (h1 : ¬t.val % 8 = 7) : Vec F S4x128x128 .f32 :=
  VO0_16.read (Elt F) (VO0_16.writes (Elt F) VO0_16.junk (runA m c t h0 h1).2.2.2.2.2.2.1)

def outA_17 (c : Dev nD) (t : Fin cfg0.N) (h0 : t.val % 8 = 0) (h1 : ¬t.val % 8 = 7) : Vec F S4x128x128 .f32 :=
  VO0_17.read (Elt F) (VO0_17.writes (Elt F) VO0_17.junk (runA m c t h0 h1).2.2.2.2.2.2.2.1)

def outA_18 (c : Dev nD) (t : Fin cfg0.N) (h0 : t.val % 8 = 0) (h1 : ¬t.val % 8 = 7) : Vec F S8x512 .f32 :=
  VO0_18.read (Elt F) (VO0_18.writes (Elt F) VO0_18.junk (runA m c t h0 h1).2.2.2.2.2.2.2.2.1)

theorem scoverA_0 (c : Dev nD) (t : Fin cfg0.N) (h0 : t.val % 8 = 0) (h1 : ¬t.val % 8 = 7) (y : S2560x1024.Idx) :
    ∃ pc ∈ (runA m c t h0 h1).2.2.2.2.2.2.2.2.2.1, y ∈ pc.1.set :=
  View.cover_of_tiledL (runA m c t h0 h1).2.2.2.2.2.2.2.2.2.1 S320x1024.size (by sl_kernel_rfl) y

def soutA_0 (c : Dev nD) (t : Fin cfg0.N) (h0 : t.val % 8 = 0) (h1 : ¬t.val % 8 = 7) : Vec F S2560x1024 .bf16 :=
  VS0_0.read (Elt F) (VS0_0.writes (Elt F) VS0_0.junk (runA m c t h0 h1).2.2.2.2.2.2.2.2.2.1)

theorem scoverA_1 (c : Dev nD) (t : Fin cfg0.N) (h0 : t.val % 8 = 0) (h1 : ¬t.val % 8 = 7) (y : S1024x1024.Idx) :
    ∃ pc ∈ (runA m c t h0 h1).2.2.2.2.2.2.2.2.2.2.1, y ∈ pc.1.set :=
  View.cover_of_tiledL (runA m c t h0 h1).2.2.2.2.2.2.2.2.2.2.1 S128x1024.size (by sl_kernel_rfl) y

def soutA_1 (c : Dev nD) (t : Fin cfg0.N) (h0 : t.val % 8 = 0) (h1 : ¬t.val % 8 = 7) : Vec F S1024x1024 .bf16 :=
  VS0_1.read (Elt F) (VS0_1.writes (Elt F) VS0_1.junk (runA m c t h0 h1).2.2.2.2.2.2.2.2.2.2.1)

theorem scoverA_2 (c : Dev nD) (t : Fin cfg0.N) (h0 : t.val % 8 = 0) (h1 : ¬t.val % 8 = 7) (y : S8x512.Idx) :
    ∃ pc ∈ (runA m c t h0 h1).2.2.2.2.2.2.2.2.2.2.2.1, y ∈ pc.1.set :=
  View.cover_of_tiledL (runA m c t h0 h1).2.2.2.2.2.2.2.2.2.2.2.1 S8x512.size (by sl_kernel_rfl) y

def soutA_2 (c : Dev nD) (t : Fin cfg0.N) (h0 : t.val % 8 = 0) (h1 : ¬t.val % 8 = 7) : Vec F S8x512 .f32 :=
  VS0_2.read (Elt F) (VS0_2.writes (Elt F) VS0_2.junk (runA m c t h0 h1).2.2.2.2.2.2.2.2.2.2.2.1)

theorem scoverA_3 (c : Dev nD) (t : Fin cfg0.N) (h0 : t.val % 8 = 0) (h1 : ¬t.val % 8 = 7) (y : S4x8x1024.Idx) :
    ∃ pc ∈ (runA m c t h0 h1).2.2.2.2.2.2.2.2.2.2.2.2.1, y ∈ pc.1.set :=
  View.cover_of_wholeMem (runA m c t h0 h1).2.2.2.2.2.2.2.2.2.2.2.2.1 (by sl_whole_mem) y

def soutA_3 (c : Dev nD) (t : Fin cfg0.N) (h0 : t.val % 8 = 0) (h1 : ¬t.val % 8 = 7) : Vec F S4x8x1024 .f32 :=
  VS0_3.read (Elt F) (VS0_3.writes (Elt F) VS0_3.junk (runA m c t h0 h1).2.2.2.2.2.2.2.2.2.2.2.2.1)

theorem scoverA_4 (c : Dev nD) (t : Fin cfg0.N) (h0 : t.val % 8 = 0) (h1 : ¬t.val % 8 = 7) (y : S8x512.Idx) :
    ∃ pc ∈ (runA m c t h0 h1).2.2.2.2.2.2.2.2.2.2.2.2.2.1, y ∈ pc.1.set :=
  View.cover_of_tiledL (runA m c t h0 h1).2.2.2.2.2.2.2.2.2.2.2.2.2.1 S8x512.size (by sl_kernel_rfl) y

def soutA_4 (c : Dev nD) (t : Fin cfg0.N) (h0 : t.val % 8 = 0) (h1 : ¬t.val % 8 = 7) : Vec F S8x512 .f32 :=
  VS0_4.read (Elt F) (VS0_4.writes (Elt F) VS0_4.junk (runA m c t h0 h1).2.2.2.2.2.2.2.2.2.2.2.2.2.1)

theorem scoverA_5 (c : Dev nD) (t : Fin cfg0.N) (h0 : t.val % 8 = 0) (h1 : ¬t.val % 8 = 7) (y : S4x128x128.Idx) :
    ∃ pc ∈ (runA m c t h0 h1).2.2.2.2.2.2.2.2.2.2.2.2.2.2.1, y ∈ pc.1.set :=
  View.cover_of_wholeMem (runA m c t h0 h1).2.2.2.2.2.2.2.2.2.2.2.2.2.2.1 (by sl_whole_mem) y

def soutA_5 (c : Dev nD) (t : Fin cfg0.N) (h0 : t.val % 8 = 0) (h1 : ¬t.val % 8 = 7) : Vec F S4x128x128 .f32 :=
  VS0_5.read (Elt F) (VS0_5.writes (Elt F) VS0_5.junk (runA m c t h0 h1).2.2.2.2.2.2.2.2.2.2.2.2.2.2.1)

theorem scoverA_6 (c : Dev nD) (t : Fin cfg0.N) (h0 : t.val % 8 = 0) (h1 : ¬t.val % 8 = 7) (y : S4x128x128.Idx) :
    ∃ pc ∈ (runA m c t h0 h1).2.2.2.2.2.2.2.2.2.2.2.2.2.2.2.1, y ∈ pc.1.set :=
  View.cover_of_wholeMem (runA m c t h0 h1).2.2.2.2.2.2.2.2.2.2.2.2.2.2.2.1 (by sl_whole_mem) y

def soutA_6 (c : Dev nD) (t : Fin cfg0.N) (h0 : t.val % 8 = 0) (h1 : ¬t.val % 8 = 7) : Vec F S4x128x128 .f32 :=
  VS0_6.read (Elt F) (VS0_6.writes (Elt F) VS0_6.junk (runA m c t h0 h1).2.2.2.2.2.2.2.2.2.2.2.2.2.2.2.1)

theorem scoverA_7 (c : Dev nD) (t : Fin cfg0.N) (h0 : t.val % 8 = 0) (h1 : ¬t.val % 8 = 7) (y : S8x512.Idx) :
    ∃ pc ∈ (runA m c t h0 h1).2.2.2.2.2.2.2.2.2.2.2.2.2.2.2.2.1, y ∈ pc.1.set :=
  View.cover_of_tiledL (runA m c t h0 h1).2.2.2.2.2.2.2.2.2.2.2.2.2.2.2.2.1 S8x512.size (by sl_kernel_rfl) y

def soutA_7 (c : Dev nD) (t : Fin cfg0.N) (h0 : t.val % 8 = 0) (h1 : ¬t.val % 8 = 7) : Vec F S8x512 .f32 :=
  VS0_7.read (Elt F) (VS0_7.writes (Elt F) VS0_7.junk (runA m c t h0 h1).2.2.2.2.2.2.2.2.2.2.2.2.2.2.2.2.1)

theorem coverB_10 (c : Dev nD) (t : Fin cfg0.N) (h0 : ¬t.val % 8 = 0) (h1 : ¬t.val % 8 = 7) (p : Outs F) (y : S256x1024.Idx) :
    ∃ pc ∈ (runB m c t h0 h1 p).1, y ∈ pc.1.set :=
  View.cover_of_tiledL (runB m c t h0 h1 p).1 S256x1024.size (by sl_kernel_rfl) y

def outB_10 (c : Dev nD) (t : Fin cfg0.N) (h0 : ¬t.val % 8 = 0) (h1 : ¬t.val % 8 = 7) (p : Outs F) : Vec F S256x1024 .f32 :=
  VO0_10.read (Elt F) (VO0_10.writes (Elt F) VO0_10.junk (runB m c t h0 h1 p).1)

theorem coverB_11 (c : Dev nD) (t : Fin cfg0.N) (h0 : ¬t.val % 8 = 0) (h1 : ¬t.val % 8 = 7) (p : Outs F) (y : S10x256x256.Idx) :
    ∃ pc ∈ (runB m c t h0 h1 p).2.1, y ∈ pc.1.set :=
  View.cover_of_tiledL (runB m c t h0 h1 p).2.1 S1x256x256.size (by sl_kernel_rfl) y

def outB_11 (c : Dev nD) (t : Fin cfg0.N) (h0 : ¬t.val % 8 = 0) (h1 : ¬t.val % 8 = 7) (p : Outs F) : Vec F S10x256x256 .bf16 :=
  VO0_11.read (Elt F) (VO0_11.writes (Elt F) VO0_11.junk (runB m c t h0 h1 p).2.1)

theorem coverB_12 (c : Dev nD) (t : Fin cfg0.N) (h0 : ¬t.val % 8 = 0) (h1 : ¬t.val % 8 = 7) (p : Outs F) (y : S4x256x256.Idx) :
    ∃ pc ∈ (runB m c t h0 h1 p).2.2.1, y ∈ pc.1.set :=
  View.cover_of_tiledL (runB m c t h0 h1 p).2.2.1 S1x256x256.size (by sl_kernel_rfl) y

def outB_12 (c : Dev nD) (t : Fin cfg0.N) (h0 : ¬t.val % 8 = 0) (h1 : ¬t.val % 8 = 7) (p : Outs F) : Vec F S4x256x256 .bf16 :=
  VO0_12.read (Elt F) (VO0_12.writes (Elt F) VO0_12.junk (runB m c t h0 h1 p).2.2.1)

theorem coverB_13 (c : Dev nD) (t : Fin cfg0.N) (h0 : ¬t.val % 8 = 0) (h1 : ¬t.val % 8 = 7) (p : Outs F) (y : S256x1024.Idx) :
    ∃ pc ∈ (runB m c t h0 h1 p).2.2.2.1, y ∈ pc.1.set :=
  View.cover_of_tiledL (runB m c t h0 h1 p).2.2.2.1 S256x1024.size (by sl_kernel_rfl) y

def outB_13 (c : Dev nD) (t : Fin cfg0.N) (h0 : ¬t.val % 8 = 0) (h1 : ¬t.val % 8 = 7) (p : Outs F) : Vec F S256x1024 .bf16 :=
  VO0_13.read (Elt F) (VO0_13.writes (Elt F) VO0_13.junk (runB m c t h0 h1 p).2.2.2.1)

def outB_14 (c : Dev nD) (t : Fin cfg0.N) (h0 : ¬t.val % 8 = 0) (h1 : ¬t.val % 8 = 7) (p : Outs F) : Vec F S8x1024 .f32 :=
  VO0_14.read (Elt F) (VO0_14.writes (Elt F) VO0_14.junk (runB m c t h0 h1 p).2.2.2.2.1)

def outB_15 (c : Dev nD) (t : Fin cfg0.N) (h0 : ¬t.val % 8 = 0) (h1 : ¬t.val % 8 = 7) (p : Outs F) : Vec F S8x512 .f32 :=
  VO0_15.read (Elt F) (VO0_15.writes (Elt F) VO0_15.junk (runB m c t h0 h1 p).2.2.2.2.2.1)

def outB_16 (c : Dev nD) (t : Fin cfg0.N) (h0 : ¬t.val % 8 = 0) (h1 : ¬t.val % 8 = 7) (p : Outs F) : Vec F S4x128x128 .f32 :=
  VO0_16.read (Elt F) (VO0_16.writes (Elt F) VO0_16.junk (runB m c t h0 h1 p).2.2.2.2.2.2.1)

def outB_17 (c : Dev nD) (t : Fin cfg0.N) (h0 : ¬t.val % 8 = 0) (h1 : ¬t.val % 8 = 7) (p : Outs F) : Vec F S4x128x128 .f32 :=
  VO0_17.read (Elt F) (VO0_17.writes (Elt F) VO0_17.junk (runB m c t h0 h1 p).2.2.2.2.2.2.2.1)

def outB_18 (c : Dev nD) (t : Fin cfg0.N) (h0 : ¬t.val % 8 = 0) (h1 : ¬t.val % 8 = 7) (p : Outs F) : Vec F S8x512 .f32 :=
  VO0_18.read (Elt F) (VO0_18.writes (Elt F) VO0_18.junk (runB m c t h0 h1 p).2.2.2.2.2.2.2.2.1)

def soutB_0 (m : (ℓ : Loc nD τ sig) → Buf (Elt F) ℓ) (c : Dev nD) (t : Fin cfg0.N) (h0 : ¬t.val % 8 = 0) (h1 : ¬t.val % 8 = 7) (p : Outs F) : Vec F S2560x1024 .bf16 :=
  (p.2.2.2.2.2.2.2.2.2.1)

def soutB_1 (m : (ℓ : Loc nD τ sig) → Buf (Elt F) ℓ) (c : Dev nD) (t : Fin cfg0.N) (h0 : ¬t.val % 8 = 0) (h1 : ¬t.val % 8 = 7) (p : Outs F) : Vec F S1024x1024 .bf16 :=
  (p.2.2.2.2.2.2.2.2.2.2.1)

theorem scoverB_2 (c : Dev nD) (t : Fin cfg0.N) (h0 : ¬t.val % 8 = 0) (h1 : ¬t.val % 8 = 7) (p : Outs F) (y : S8x512.Idx) :
    ∃ pc ∈ (runB m c t h0 h1 p).2.2.2.2.2.2.2.2.2.2.2.1, y ∈ pc.1.set :=
  View.cover_of_tiledL (runB m c t h0 h1 p).2.2.2.2.2.2.2.2.2.2.2.1 S8x512.size (by sl_kernel_rfl) y

def soutB_2 (c : Dev nD) (t : Fin cfg0.N) (h0 : ¬t.val % 8 = 0) (h1 : ¬t.val % 8 = 7) (p : Outs F) : Vec F S8x512 .f32 :=
  VS0_2.read (Elt F) (VS0_2.writes (Elt F) VS0_2.junk (runB m c t h0 h1 p).2.2.2.2.2.2.2.2.2.2.2.1)

theorem scoverB_3 (c : Dev nD) (t : Fin cfg0.N) (h0 : ¬t.val % 8 = 0) (h1 : ¬t.val % 8 = 7) (p : Outs F) (y : S4x8x1024.Idx) :
    ∃ pc ∈ (runB m c t h0 h1 p).2.2.2.2.2.2.2.2.2.2.2.2.1, y ∈ pc.1.set :=
  View.cover_of_tiledL (runB m c t h0 h1 p).2.2.2.2.2.2.2.2.2.2.2.2.1 S1x8x1024.size (by sl_kernel_rfl) y

def soutB_3 (c : Dev nD) (t : Fin cfg0.N) (h0 : ¬t.val % 8 = 0) (h1 : ¬t.val % 8 = 7) (p : Outs F) : Vec F S4x8x1024 .f32 :=
  VS0_3.read (Elt F) (VS0_3.writes (Elt F) VS0_3.junk (runB m c t h0 h1 p).2.2.2.2.2.2.2.2.2.2.2.2.1)

theorem scoverB_4 (c : Dev nD) (t : Fin cfg0.N) (h0 : ¬t.val % 8 = 0) (h1 : ¬t.val % 8 = 7) (p : Outs F) (y : S8x512.Idx) :
    ∃ pc ∈ (runB m c t h0 h1 p).2.2.2.2.2.2.2.2.2.2.2.2.2.1, y ∈ pc.1.set :=
  View.cover_of_tiledL (runB m c t h0 h1 p).2.2.2.2.2.2.2.2.2.2.2.2.2.1 S8x512.size (by sl_kernel_rfl) y

def soutB_4 (c : Dev nD) (t : Fin cfg0.N) (h0 : ¬t.val % 8 = 0) (h1 : ¬t.val % 8 = 7) (p : Outs F) : Vec F S8x512 .f32 :=
  VS0_4.read (Elt F) (VS0_4.writes (Elt F) VS0_4.junk (runB m c t h0 h1 p).2.2.2.2.2.2.2.2.2.2.2.2.2.1)

theorem scoverB_5 (c : Dev nD) (t : Fin cfg0.N) (h0 : ¬t.val % 8 = 0) (h1 : ¬t.val % 8 = 7) (p : Outs F) (y : S4x128x128.Idx) :
    ∃ pc ∈ (runB m c t h0 h1 p).2.2.2.2.2.2.2.2.2.2.2.2.2.2.1, y ∈ pc.1.set :=
  View.cover_of_tiledL (runB m c t h0 h1 p).2.2.2.2.2.2.2.2.2.2.2.2.2.2.1 S1x128x128.size (by sl_kernel_rfl) y

def soutB_5 (c : Dev nD) (t : Fin cfg0.N) (h0 : ¬t.val % 8 = 0) (h1 : ¬t.val % 8 = 7) (p : Outs F) : Vec F S4x128x128 .f32 :=
  VS0_5.read (Elt F) (VS0_5.writes (Elt F) VS0_5.junk (runB m c t h0 h1 p).2.2.2.2.2.2.2.2.2.2.2.2.2.2.1)

theorem scoverB_6 (c : Dev nD) (t : Fin cfg0.N) (h0 : ¬t.val % 8 = 0) (h1 : ¬t.val % 8 = 7) (p : Outs F) (y : S4x128x128.Idx) :
    ∃ pc ∈ (runB m c t h0 h1 p).2.2.2.2.2.2.2.2.2.2.2.2.2.2.2.1, y ∈ pc.1.set :=
  View.cover_of_tiledL (runB m c t h0 h1 p).2.2.2.2.2.2.2.2.2.2.2.2.2.2.2.1 S1x128x128.size (by sl_kernel_rfl) y

def soutB_6 (c : Dev nD) (t : Fin cfg0.N) (h0 : ¬t.val % 8 = 0) (h1 : ¬t.val % 8 = 7) (p : Outs F) : Vec F S4x128x128 .f32 :=
  VS0_6.read (Elt F) (VS0_6.writes (Elt F) VS0_6.junk (runB m c t h0 h1 p).2.2.2.2.2.2.2.2.2.2.2.2.2.2.2.1)

theorem scoverB_7 (c : Dev nD) (t : Fin cfg0.N) (h0 : ¬t.val % 8 = 0) (h1 : ¬t.val % 8 = 7) (p : Outs F) (y : S8x512.Idx) :
    ∃ pc ∈ (runB m c t h0 h1 p).2.2.2.2.2.2.2.2.2.2.2.2.2.2.2.2.1, y ∈ pc.1.set :=
  View.cover_of_tiledL (runB m c t h0 h1 p).2.2.2.2.2.2.2.2.2.2.2.2.2.2.2.2.1 S8x512.size (by sl_kernel_rfl) y

def soutB_7 (c : Dev nD) (t : Fin cfg0.N) (h0 : ¬t.val % 8 = 0) (h1 : ¬t.val % 8 = 7) (p : Outs F) : Vec F S8x512 .f32 :=
  VS0_7.read (Elt F) (VS0_7.writes (Elt F) VS0_7.junk (runB m c t h0 h1 p).2.2.2.2.2.2.2.2.2.2.2.2.2.2.2.2.1)

theorem coverC_10 (c : Dev nD) (t : Fin cfg0.N) (h0 : ¬t.val % 8 = 0) (h1 : t.val % 8 = 7) (p : Outs F) (y : S256x1024.Idx) :
    ∃ pc ∈ (runC m c t h0 h1 p).1, y ∈ pc.1.set :=
  View.cover_of_tiledL (runC m c t h0 h1 p).1 S256x1024.size (by sl_kernel_rfl) y

def outC_10 (c : Dev nD) (t : Fin cfg0.N) (h0 : ¬t.val % 8 = 0) (h1 : t.val % 8 = 7) (p : Outs F) : Vec F S256x1024 .f32 :=
  VO0_10.read (Elt F) (VO0_10.writes (Elt F) VO0_10.junk (runC m c t h0 h1 p).1)

theorem coverC_11 (c : Dev nD) (t : Fin cfg0.N) (h0 : ¬t.val % 8 = 0) (h1 : t.val % 8 = 7) (p : Outs F) (y : S10x256x256.Idx) :
    ∃ pc ∈ (runC m c t h0 h1 p).2.1, y ∈ pc.1.set :=
  View.cover_of_tiledL (runC m c t h0 h1 p).2.1 S1x256x256.size (by sl_kernel_rfl) y

def outC_11 (c : Dev nD) (t : Fin cfg0.N) (h0 : ¬t.val % 8 = 0) (h1 : t.val % 8 = 7) (p : Outs F) : Vec F S10x256x256 .bf16 :=
  VO0_11.read (Elt F) (VO0_11.writes (Elt F) VO0_11.junk (runC m c t h0 h1 p).2.1)

theorem coverC_12 (c : Dev nD) (t : Fin cfg0.N) (h0 : ¬t.val % 8 = 0) (h1 : t.val % 8 = 7) (p : Outs F) (y : S4x256x256.Idx) :
    ∃ pc ∈ (runC m c t h0 h1 p).2.2.1, y ∈ pc.1.set :=
  View.cover_of_tiledL (runC m c t h0 h1 p).2.2.1 S1x256x256.size (by sl_kernel_rfl) y

def outC_12 (c : Dev nD) (t : Fin cfg0.N) (h0 : ¬t.val % 8 = 0) (h1 : t.val % 8 = 7) (p : Outs F) : Vec F S4x256x256 .bf16 :=
  VO0_12.read (Elt F) (VO0_12.writes (Elt F) VO0_12.junk (runC m c t h0 h1 p).2.2.1)

theorem coverC_13 (c : Dev nD) (t : Fin cfg0.N) (h0 : ¬t.val % 8 = 0) (h1 : t.val % 8 = 7) (p : Outs F) (y : S256x1024.Idx) :
    ∃ pc ∈ (runC m c t h0 h1 p).2.2.2.1, y ∈ pc.1.set :=
  View.cover_of_tiledL (runC m c t h0 h1 p).2.2.2.1 S256x1024.size (by sl_kernel_rfl) y

def outC_13 (c : Dev nD) (t : Fin cfg0.N) (h0 : ¬t.val % 8 = 0) (h1 : t.val % 8 = 7) (p : Outs F) : Vec F S256x1024 .bf16 :=
  VO0_13.read (Elt F) (VO0_13.writes (Elt F) VO0_13.junk (runC m c t h0 h1 p).2.2.2.1)

theorem coverC_14 (c : Dev nD) (t : Fin cfg0.N) (h0 : ¬t.val % 8 = 0) (h1 : t.val % 8 = 7) (p : Outs F) (y : S8x1024.Idx) :
    ∃ pc ∈ (runC m c t h0 h1 p).2.2.2.2.1, y ∈ pc.1.set :=
  View.cover_of_tiledL (runC m c t h0 h1 p).2.2.2.2.1 S8x1024.size (by sl_kernel_rfl) y

def outC_14 (c : Dev nD) (t : Fin cfg0.N) (h0 : ¬t.val % 8 = 0) (h1 : t.val % 8 = 7) (p : Outs F) : Vec F S8x1024 .f32 :=
  VO0_14.read (Elt F) (VO0_14.writes (Elt F) VO0_14.junk (runC m c t h0 h1 p).2.2.2.2.1)

theorem coverC_15 (c : Dev nD) (t : Fin cfg0.N) (h0 : ¬t.val % 8 = 0) (h1 : t.val % 8 = 7) (p : Outs F) (y : S8x512.Idx) :
    ∃ pc ∈ (runC m c t h0 h1 p).2.2.2.2.2.1, y ∈ pc.1.set :=
  View.cover_of_tiledL (runC m c t h0 h1 p).2.2.2.2.2.1 S8x512.size (by sl_kernel_rfl) y

def outC_15 (c : Dev nD) (t : Fin cfg0.N) (h0 : ¬t.val % 8 = 0) (h1 : t.val % 8 = 7) (p : Outs F) : Vec F S8x512 .f32 :=
  VO0_15.read (Elt F) (VO0_15.writes (Elt F) VO0_15.junk (runC m c t h0 h1 p).2.2.2.2.2.1)

theorem coverC_16 (c : Dev nD) (t : Fin cfg0.N) (h0 : ¬t.val % 8 = 0) (h1 : t.val % 8 = 7) (p : Outs F) (y : S4x128x128.Idx) :
    ∃ pc ∈ (runC m c t h0 h1 p).2.2.2.2.2.2.1, y ∈ pc.1.set :=
  View.cover_of_tiledL (runC m c t h0 h1 p).2.2.2.2.2.2.1 S1x128x128.size (by sl_kernel_rfl) y

def outC_16 (c : Dev nD) (t : Fin cfg0.N) (h0 : ¬t.val % 8 = 0) (h1 : t.val % 8 = 7) (p : Outs F) : Vec F S4x128x128 .f32 :=
  VO0_16.read (Elt F) (VO0_16.writes (Elt F) VO0_16.junk (runC m c t h0 h1 p).2.2.2.2.2.2.1)

theorem coverC_17 (c : Dev nD) (t : Fin cfg0.N) (h0 : ¬t.val % 8 = 0) (h1 : t.val % 8 = 7) (p : Outs F) (y : S4x128x128.Idx) :
    ∃ pc ∈ (runC m c t h0 h1 p).2.2.2.2.2.2.2.1, y ∈ pc.1.set :=
  View.cover_of_tiledL (runC m c t h0 h1 p).2.2.2.2.2.2.2.1 S1x128x128.size (by sl_kernel_rfl) y

def outC_17 (c : Dev nD) (t : Fin cfg0.N) (h0 : ¬t.val % 8 = 0) (h1 : t.val % 8 = 7) (p : Outs F) : Vec F S4x128x128 .f32 :=
  VO0_17.read (Elt F) (VO0_17.writes (Elt F) VO0_17.junk (runC m c t h0 h1 p).2.2.2.2.2.2.2.1)

theorem coverC_18 (c : Dev nD) (t : Fin cfg0.N) (h0 : ¬t.val % 8 = 0) (h1 : t.val % 8 = 7) (p : Outs F) (y : S8x512.Idx) :
    ∃ pc ∈ (runC m c t h0 h1 p).2.2.2.2.2.2.2.2.1, y ∈ pc.1.set :=
  View.cover_of_tiledL (runC m c t h0 h1 p).2.2.2.2.2.2.2.2.1 S8x512.size (by sl_kernel_rfl) y

def outC_18 (c : Dev nD) (t : Fin cfg0.N) (h0 : ¬t.val % 8 = 0) (h1 : t.val % 8 = 7) (p : Outs F) : Vec F S8x512 .f32 :=
  VO0_18.read (Elt F) (VO0_18.writes (Elt F) VO0_18.junk (runC m c t h0 h1 p).2.2.2.2.2.2.2.2.1)

def soutC_0 (m : (ℓ : Loc nD τ sig) → Buf (Elt F) ℓ) (c : Dev nD) (t : Fin cfg0.N) (h0 : ¬t.val % 8 = 0) (h1 : t.val % 8 = 7) (p : Outs F) : Vec F S2560x1024 .bf16 :=
  (p.2.2.2.2.2.2.2.2.2.1)

def soutC_1 (m : (ℓ : Loc nD τ sig) → Buf (Elt F) ℓ) (c : Dev nD) (t : Fin cfg0.N) (h0 : ¬t.val % 8 = 0) (h1 : t.val % 8 = 7) (p : Outs F) : Vec F S1024x1024 .bf16 :=
  (p.2.2.2.2.2.2.2.2.2.2.1)

theorem scoverC_2 (c : Dev nD) (t : Fin cfg0.N) (h0 : ¬t.val % 8 = 0) (h1 : t.val % 8 = 7) (p : Outs F) (y : S8x512.Idx) :
    ∃ pc ∈ (runC m c t h0 h1 p).2.2.2.2.2.2.2.2.2.2.2.1, y ∈ pc.1.set :=
  View.cover_of_tiledL (runC m c t h0 h1 p).2.2.2.2.2.2.2.2.2.2.2.1 S8x512.size (by sl_kernel_rfl) y

def soutC_2 (c : Dev nD) (t : Fin cfg0.N) (h0 : ¬t.val % 8 = 0) (h1 : t.val % 8 = 7) (p : Outs F) : Vec F S8x512 .f32 :=
  VS0_2.read (Elt F) (VS0_2.writes (Elt F) VS0_2.junk (runC m c t h0 h1 p).2.2.2.2.2.2.2.2.2.2.2.1)

theorem scoverC_3 (c : Dev nD) (t : Fin cfg0.N) (h0 : ¬t.val % 8 = 0) (h1 : t.val % 8 = 7) (p : Outs F) (y : S4x8x1024.Idx) :
    ∃ pc ∈ (runC m c t h0 h1 p).2.2.2.2.2.2.2.2.2.2.2.2.1, y ∈ pc.1.set :=
  View.cover_of_tiledL (runC m c t h0 h1 p).2.2.2.2.2.2.2.2.2.2.2.2.1 S1x8x1024.size (by sl_kernel_rfl) y

def soutC_3 (c : Dev nD) (t : Fin cfg0.N) (h0 : ¬t.val % 8 = 0) (h1 : t.val % 8 = 7) (p : Outs F) : Vec F S4x8x1024 .f32 :=
  VS0_3.read (Elt F) (VS0_3.writes (Elt F) VS0_3.junk (runC m c t h0 h1 p).2.2.2.2.2.2.2.2.2.2.2.2.1)

theorem scoverC_4 (c : Dev nD) (t : Fin cfg0.N) (h0 : ¬t.val % 8 = 0) (h1 : t.val % 8 = 7) (p : Outs F) (y : S8x512.Idx) :
    ∃ pc ∈ (runC m c t h0 h1 p).2.2.2.2.2.2.2.2.2.2.2.2.2.1, y ∈ pc.1.set :=
  View.cover_of_tiledL (runC m c t h0 h1 p).2.2.2.2.2.2.2.2.2.2.2.2.2.1 S8x512.size (by sl_kernel_rfl) y

def soutC_4 (c : Dev nD) (t : Fin cfg0.N) (h0 : ¬t.val % 8 = 0) (h1 : t.val % 8 = 7) (p : Outs F) : Vec F S8x512 .f32 :=
  VS0_4.read (Elt F) (VS0_4.writes (Elt F) VS0_4.junk (runC m c t h0 h1 p).2.2.2.2.2.2.2.2.2.2.2.2.2.1)

theorem scoverC_5 (c : Dev nD) (t : Fin cfg0.N) (h0 : ¬t.val % 8 = 0) (h1 : t.val % 8 = 7) (p : Outs F) (y : S4x128x128.Idx) :
    ∃ pc ∈ (runC m c t h0 h1 p).2.2.2.2.2.2.2.2.2.2.2.2.2.2.1, y ∈ pc.1.set :=
  View.cover_of_tiledL (runC m c t h0 h1 p).2.2.2.2.2.2.2.2.2.2.2.2.2.2.1 S1x128x128.size (by sl_kernel_rfl) y

def soutC_5 (c : Dev nD) (t : Fin cfg0.N) (h0 : ¬t.val % 8 = 0) (h1 : t.val % 8 = 7) (p : Outs F) : Vec F S4x128x128 .f32 :=
  VS0_5.read (Elt F) (VS0_5.writes (Elt F) VS0_5.junk (runC m c t h0 h1 p).2.2.2.2.2.2.2.2.2.2.2.2.2.2.1)

theorem scoverC_6 (c : Dev nD) (t : Fin cfg0.N) (h0 : ¬t.val % 8 = 0) (h1 : t.val % 8 = 7) (p : Outs F) (y : S4x128x128.Idx) :
    ∃ pc ∈ (runC m c t h0 h1 p).2.2.2.2.2.2.2.2.2.2.2.2.2.2.2.1, y ∈ pc.1.set :=
  View.cover_of_tiledL (runC m c t h0 h1 p).2.2.2.2.2.2.2.2.2.2.2.2.2.2.2.1 S1x128x128.size (by sl_kernel_rfl) y

def soutC_6 (c : Dev nD) (t : Fin cfg0.N) (h0 : ¬t.val % 8 = 0) (h1 : t.val % 8 = 7) (p : Outs F) : Vec F S4x128x128 .f32 :=
  VS0_6.read (Elt F) (VS0_6.writes (Elt F) VS0_6.junk (runC m c t h0 h1 p).2.2.2.2.2.2.2.2.2.2.2.2.2.2.2.1)

theorem scoverC_7 (c : Dev nD) (t : Fin cfg0.N) (h0 : ¬t.val % 8 = 0) (h1 : t.val % 8 = 7) (p : Outs F) (y : S8x512.Idx) :
    ∃ pc ∈ (runC m c t h0 h1 p).2.2.2.2.2.2.2.2.2.2.2.2.2.2.2.2.1, y ∈ pc.1.set :=
  View.cover_of_tiledL (runC m c t h0 h1 p).2.2.2.2.2.2.2.2.2.2.2.2.2.2.2.2.1 S8x512.size (by sl_kernel_rfl) y

def soutC_7 (c : Dev nD) (t : Fin cfg0.N) (h0 : ¬t.val % 8 = 0) (h1 : t.val % 8 = 7) (p : Outs F) : Vec F S8x512 .f32 :=
  VS0_7.read (Elt F) (VS0_7.writes (Elt F) VS0_7.junk (runC m c t h0 h1 p).2.2.2.2.2.2.2.2.2.2.2.2.2.2.2.2.1)

/-- What the outputs and the carried scratch hold after a point of case A. -/
def outsA (c : Dev nD) (t : Fin cfg0.N) (h0 : t.val % 8 = 0) (h1 : ¬t.val % 8 = 7) : Outs F :=
  (outA_10 m c t h0 h1, outA_11 m c t h0 h1, outA_12 m c t h0 h1, outA_13 m c t h0 h1, outA_14 m c t h0 h1, outA_15 m c t h0 h1, outA_16 m c t h0 h1, outA_17 m c t h0 h1, outA_18 m c t h0 h1, soutA_0 m c t h0 h1, soutA_1 m c t h0 h1, soutA_2 m c t h0 h1, soutA_3 m c t h0 h1, soutA_4 m c t h0 h1, soutA_5 m c t h0 h1, soutA_6 m c t h0 h1, soutA_7 m c t h0 h1)

/-- What the outputs and the carried scratch hold after a point of case B. -/
def outsB (c : Dev nD) (t : Fin cfg0.N) (h0 : ¬t.val % 8 = 0) (h1 : ¬t.val % 8 = 7) (p : Outs F) : Outs F :=
  (outB_10 m c t h0 h1 p, outB_11 m c t h0 h1 p, outB_12 m c t h0 h1 p, outB_13 m c t h0 h1 p, outB_14 m c t h0 h1 p, outB_15 m c t h0 h1 p, outB_16 m c t h0 h1 p, outB_17 m c t h0 h1 p, outB_18 m c t h0 h1 p, soutB_0 m c t h0 h1 p, soutB_1 m c t h0 h1 p, soutB_2 m c t h0 h1 p, soutB_3 m c t h0 h1 p, soutB_4 m c t h0 h1 p, soutB_5 m c t h0 h1 p, soutB_6 m c t h0 h1 p, soutB_7 m c t h0 h1 p)

/-- What the outputs and the carried scratch hold after a point of case C. -/
def outsC (c : Dev nD) (t : Fin cfg0.N) (h0 : ¬t.val % 8 = 0) (h1 : t.val % 8 = 7) (p : Outs F) : Outs F :=
  (outC_10 m c t h0 h1 p, outC_11 m c t h0 h1 p, outC_12 m c t h0 h1 p, outC_13 m c t h0 h1 p, outC_14 m c t h0 h1 p, outC_15 m c t h0 h1 p, outC_16 m c t h0 h1 p, outC_17 m c t h0 h1 p, outC_18 m c t h0 h1 p, soutC_0 m c t h0 h1 p, soutC_1 m c t h0 h1 p, soutC_2 m c t h0 h1 p, soutC_3 m c t h0 h1 p, soutC_4 m c t h0 h1 p, soutC_5 m c t h0 h1 p, soutC_6 m c t h0 h1 p, soutC_7 m c t h0 h1 p)

/-- What the outputs and the carried scratch hold after point `n`, each point over what the one before left. -/
def outsAt0 (c : Dev nD) : (n : ℕ) → n < cfg0.N → Outs F
  | 0, hn => outsA m c ⟨0, hn⟩ (Nat.zero_mod _) (fun h => by (try dsimp only at h); omega)
  | n + 1, hn =>
    if h0 : (n + 1) % 8 = 0 then
      False.elim (by have hN : n + 1 < 8 := lt_of_lt_of_eq hn (show cfg0.N = 8 from N_0); omega)
    else if h1 : (n + 1) % 8 = 7 then outsC m c ⟨n + 1, hn⟩ h0 h1 (outsAt0 c n (Nat.lt_of_succ_lt hn))
    else outsB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = outsA m c t h0 h1 := by
  obtain ⟨n, hn⟩ := t
  cases n with
  | zero => exact rfl
  | succ n => exfalso; have hN : n + 1 < 8 := lt_of_lt_of_eq hn (show cfg0.N = 8 from N_0); dsimp only at h0; omega

theorem outsAt0_B (c : Dev nD) (t : Fin cfg0.N) (h0 : ¬t.val % 8 = 0) (h1 : ¬t.val % 8 = 7) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The invariant after a point that left `p`: the carried scratch at `p`, the other scratch at anything, the register, the
    copies' semaphores at zero and the operand left in HBM. -/
def PhiP (c : Dev nD) (p : Outs F) : sProp 𝕄 :=
  iprop(iprop(owns (c : Thread nD τ) scM0_0 fullShare (p.2.2.2.2.2.2.2.2.2.1) ∗ owns (c : Thread nD τ) scM0_1 fullShare (p.2.2.2.2.2.2.2.2.2.2.1) ∗ owns (c : Thread nD τ) scM0_2 fullShare (p.2.2.2.2.2.2.2.2.2.2.2.1) ∗ owns (c : Thread nD τ) scM0_3 fullShare (p.2.2.2.2.2.2.2.2.2.2.2.2.1) ∗ owns (c : Thread nD τ) scM0_4 fullShare (p.2.2.2.2.2.2.2.2.2.2.2.2.2.1) ∗ owns (c : Thread nD τ) scM0_5 fullShare (p.2.2.2.2.2.2.2.2.2.2.2.2.2.2.1) ∗ owns (c : Thread nD τ) scM0_6 fullShare (p.2.2.2.2.2.2.2.2.2.2.2.2.2.2.2.1) ∗ owns (c : Thread nD τ) scM0_7 fullShare (p.2.2.2.2.2.2.2.2.2.2.2.2.2.2.2.2)) ∗ (∃ r, prngReg c r) ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(hbPt0 c hbM0_0 (V m c main_v7) ∗ hbPt0 c hbM0_1 (V m c main_v9)))

def PhiS (c : Dev nD) : (n : ℕ) → n ≤ cfg0.N → sProp 𝕄
  | 0, _ => Pipeline.ΦD osem0 spec0 H0 (V m) c
  | n + 1, hn => PhiP m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = PhiP m c (outsAt0 m c n hn) := rfl

theorem PhiS_pos (c : Dev nD) (n : ℕ) (h : n ≤ cfg0.N) (hz : n ≠ 0) :
    PhiS m c n h = PhiP m c (outsAt0 m c (n - 1) (by omega)) := by
  cases n with
  | zero => exact absurd rfl hz
  | succ n => rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨17, _⟩ => (outsAt0 m c t.val t.isLt).2.2.2.2.2.2.2.1
    | ⟨18, _⟩ => (outsAt0 m c t.val t.isLt).2.2.2.2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]
theorem after0_17 (c : Dev nD) (t : Fin cfg0.N) : (dats m 0 c).after 17 t = (outsAt0 m c t.val t.isLt).2.2.2.2.2.2.2.1 := by dsimp only [dats]
theorem after0_18 (c : Dev nD) (t : Fin cfg0.N) : (dats m 0 c).after 18 t = (outsAt0 m c t.val t.isLt).2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 28800000 in
/-- The body at any point: it is handed the input blocks and the carried scratch as the point before left it, and leaves this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) t.isLt from rfl, PhiS_succ]
  unfold PhiP
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  have hN : t.val < 8 := lt_of_lt_of_eq t.isLt (show cfg0.N = 8 from N_0)
  by_cases h0 : t.val % 8 = 0
  · by_cases h1 : t.val % 8 = 7
    · exfalso; omega
    · rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h)))]
      rw [Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h)))]
      rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
      rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold outsA outA_10 outA_11 outA_12 outA_13 soutA_0 soutA_1 soutA_2 soutA_3 soutA_4 soutA_5 soutA_6 soutA_7; (try dsimp only)
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((runA m c t h0 h1).2.2.2.2.2.2.2.2.2.2.2.2.2.2.2.2.2 _ _ _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, H2, H3, H4, H5, H6, H7, H8, H9, ⟨%e10, H10⟩, ⟨%e11, H11⟩, ⟨%e12, H12⟩, ⟨%e13, H13⟩, H14, H15, H16, H17, H18, ⟨%es0, HS0⟩, ⟨%es1, HS1⟩, ⟨%es2, HS2⟩, ⟨%es3, HS3⟩, ⟨%es4, HS4⟩, ⟨%es5, HS5⟩, ⟨%es6, HS6⟩, ⟨%es7, HS7⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hh0 Hh1]
        · isplitl [HS0 HS1 HS2 HS3 HS4 HS5 HS6 HS7]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            isplitl [HS3]
            · unfold owns; iexists _; isplitr
              swap; · iexact HS3
              ipureintro; exact View.read_writes_of_cover _ _ _ _ _ (scoverA_3 m c t h0 h1)
            isplitl [HS4]
            · unfold owns; iexists _; isplitr
              swap; · iexact HS4
              ipureintro; exact View.read_writes_of_cover _ _ _ _ _ (scoverA_4 m c t h0 h1)
            isplitl [HS5]
            · unfold owns; iexists _; isplitr
              swap; · iexact HS5
              ipureintro; exact View.read_writes_of_cover _ _ _ _ _ (scoverA_5 m c t h0 h1)
            isplitl [HS6]
            · unfold owns; iexists _; isplitr
              swap; · iexact HS6
              ipureintro; exact View.read_writes_of_cover _ _ _ _ _ (scoverA_6 m c t h0 h1)
            unfold owns; iexists _; isplitr
            swap; · iexact HS7
            ipureintro; exact View.read_writes_of_cover _ _ _ _ _ (scoverA_7 m c t h0 h1)
          isplitl [Hg]
          · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (coverA_10 m c t h0 h1)
        isplitl [H11]
        · unfold owns; iexists _; isplitr
          swap; · iexact H11
          ipureintro; exact View.read_writes_of_cover _ _ _ _ _ (coverA_11 m c t h0 h1)
        isplitl [H12]
        · unfold owns; iexists _; isplitr
          swap; · iexact H12
          ipureintro; exact View.read_writes_of_cover _ _ _ _ _ (coverA_12 m c t h0 h1)
        isplitl [H13]
        · unfold owns; iexists _; isplitr
          swap; · iexact H13
          ipureintro; exact View.read_writes_of_cover _ _ _ _ _ (coverA_13 m c t h0 h1)
        isplitl [H14]; · iexists _; iexact H14
        isplitl [H15]; · iexists _; iexact H15
        isplitl [H16]; · iexists _; iexact H16
        isplitl [H17]; · iexists _; iexact H17
        iexists _; iexact H18
      · exfalso; have hN : t.val < 8 := lt_of_lt_of_eq t.isLt (show cfg0.N = 8 from N_0); omega
  · by_cases h1 : t.val % 8 = 7
    · rw [show (dats m 0 c).leavesExact 14 t = owns (c : Thread nD τ) (ms0_14 t) fullShare ((dats m 0 c).after 14 t) from by
      unfold Dat.leavesExact; rw [liveAt0_14_C t (fun h => h0 ((hcond0_0 t).mp h)) ((hcond0_1 t).mpr h1)], after0_14]
      rw [show (dats m 0 c).leavesExact 15 t = owns (c : Thread nD τ) (ms0_15 t) fullShare ((dats m 0 c).after 15 t) from by
      unfold Dat.leavesExact; rw [liveAt0_15_C t (fun h => h0 ((hcond0_0 t).mp h)) ((hcond0_1 t).mpr h1)], after0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17_C t (fun h => h0 ((hcond0_0 t).mp h)) ((hcond0_1 t).mpr h1)], after0_17]
      rw [show (dats m 0 c).leavesExact 18 t = owns (c : Thread nD τ) (ms0_18 t) fullShare ((dats m 0 c).after 18 t) from by
      unfold Dat.leavesExact; rw [liveAt0_18_C t (fun h => h0 ((hcond0_0 t).mp h)) ((hcond0_1 t).mpr h1)], after0_18]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_C m c t h0 h1]
        unfold outsC outC_10 outC_11 outC_12 outC_13 outC_14 outC_15 outC_16 outC_17 outC_18 soutC_0 soutC_1 soutC_2 soutC_3 soutC_4 soutC_5 soutC_6 soutC_7; (try dsimp only)
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((runC m c t h0 h1 _).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, HS0, HS1, ⟨%es2, HS2⟩, ⟨%es3, HS3⟩, ⟨%es4, HS4⟩, ⟨%es5, HS5⟩, ⟨%es6, HS6⟩, ⟨%es7, HS7⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hh0 Hh1]
        · isplitl [HS0 HS1 HS2 HS3 HS4 HS5 HS6 HS7]
          · isplitl [HS0]; · iexact HS0
            isplitl [HS1]; · iexact HS1
            isplitl [HS2]
            · unfold owns; iexists _; isplitr
              swap; · iexact HS2
              ipureintro; exact View.read_writes_of_cover _ _ _ _ _ (scoverC_2 m c t h0 h1 _)
            isplitl [HS3]
            · unfold owns; iexists _; isplitr
              swap; · iexact HS3
              ipureintro; exact View.read_writes_of_cover _ _ _ _ _ (scoverC_3 m c t h0 h1 _)
            isplitl [HS4]
            · unfold owns; iexists _; isplitr
              swap; · iexact HS4
              ipureintro; exact View.read_writes_of_cover _ _ _ _ _ (scoverC_4 m c t h0 h1 _)
            isplitl [HS5]
            · unfold owns; iexists _; isplitr
              swap; · iexact HS5
              ipureintro; exact View.read_writes_of_cover _ _ _ _ _ (scoverC_5 m c t h0 h1 _)
            isplitl [HS6]
            · unfold owns; iexists _; isplitr
              swap; · iexact HS6
              ipureintro; exact View.read_writes_of_cover _ _ _ _ _ (scoverC_6 m c t h0 h1 _)
            unfold owns; iexists _; isplitr
            swap; · iexact HS7
            ipureintro; exact View.read_writes_of_cover _ _ _ _ _ (scoverC_7 m c t h0 h1 _)
          isplitl [Hg]
          · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (coverC_10 m c t h0 h1 _)
        isplitl [H11]
        · unfold owns; iexists _; isplitr
          swap; · iexact H11
          ipureintro; exact View.read_writes_of_cover _ _ _ _ _ (coverC_11 m c t h0 h1 _)
        isplitl [H12]
        · unfold owns; iexists _; isplitr
          swap; · iexact H12
          ipureintro; exact View.read_writes_of_cover _ _ _ _ _ (coverC_12 m c t h0 h1 _)
        isplitl [H13]
        · unfold owns; iexists _; isplitr
          swap; · iexact H13
          ipureintro; exact View.read_writes_of_cover _ _ _ _ _ (coverC_13 m c t h0 h1 _)
        isplitl [H14]
        · unfold owns; iexists _; isplitr
          swap; · iexact H14
          ipureintro; exact View.read_writes_of_cover _ _ _ _ _ (coverC_14 m c t h0 h1 _)
        isplitl [H15]
        · unfold owns; iexists _; isplitr
          swap; · iexact H15
          ipureintro; exact View.read_writes_of_cover _ _ _ _ _ (coverC_15 m c t h0 h1 _)
        isplitl [H16]
        · unfold owns; iexists _; isplitr
          swap; · iexact H16
          ipureintro; exact View.read_writes_of_cover _ _ _ _ _ (coverC_16 m c t h0 h1 _)
        isplitl [H17]
        · unfold owns; iexists _; isplitr
          swap; · iexact H17
          ipureintro; exact View.read_writes_of_cover _ _ _ _ _ (coverC_17 m c t h0 h1 _)
        unfold owns; iexists _; isplitr
        swap; · iexact H18
        ipureintro; exact View.read_writes_of_cover _ _ _ _ _ (coverC_18 m c t h0 h1 _)
    · rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
      rw [Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
      rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        unfold PhiP
        rw [outsAt0_B m c t h0 h1]
        unfold outsB outB_10 outB_11 outB_12 outB_13 soutB_0 soutB_1 soutB_2 soutB_3 soutB_4 soutB_5 soutB_6 soutB_7; (try dsimp only)
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((runB m c t h0 h1 _).2.2.2.2.2.2.2.2.2.2.2.2.2.2.2.2.2 _ _ _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, H2, H3, H4, H5, H6, H7, H8, H9, ⟨%e10, H10⟩, ⟨%e11, H11⟩, ⟨%e12, H12⟩, ⟨%e13, H13⟩, H14, H15, H16, H17, H18, HS0, HS1, ⟨%es2, HS2⟩, ⟨%es3, HS3⟩, ⟨%es4, HS4⟩, ⟨%es5, HS5⟩, ⟨%es6, HS6⟩, ⟨%es7, HS7⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hh0 Hh1]
        · isplitl [HS0 HS1 HS2 HS3 HS4 HS5 HS6 HS7]
          · isplitl [HS0]; · iexact HS0
            isplitl [HS1]; · iexact HS1
            isplitl [HS2]
            · unfold owns; iexists _; isplitr
              swap; · iexact HS2
              ipureintro; exact View.read_writes_of_cover _ _ _ _ _ (scoverB_2 m c t h0 h1 _)
            isplitl [HS3]
            · unfold owns; iexists _; isplitr
              swap; · iexact HS3
              ipureintro; exact View.read_writes_of_cover _ _ _ _ _ (scoverB_3 m c t h0 h1 _)
            isplitl [HS4]
            · unfold owns; iexists _; isplitr
              swap; · iexact HS4
              ipureintro; exact View.read_writes_of_cover _ _ _ _ _ (scoverB_4 m c t h0 h1 _)
            isplitl [HS5]
            · unfold owns; iexists _; isplitr
              swap; · iexact HS5
              ipureintro; exact View.read_writes_of_cover _ _ _ _ _ (scoverB_5 m c t h0 h1 _)
            isplitl [HS6]
            · unfold owns; iexists _; isplitr
              swap; · iexact HS6
              ipureintro; exact View.read_writes_of_cover _ _ _ _ _ (scoverB_6 m c t h0 h1 _)
            unfold owns; iexists _; isplitr
            swap; · iexact HS7
            ipureintro; exact View.read_writes_of_cover _ _ _ _ _ (scoverB_7 m c t h0 h1 _)
          isplitl [Hg]
          · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (coverB_10 m c t h0 h1 _)
        isplitl [H11]
        · unfold owns; iexists _; isplitr
          swap; · iexact H11
          ipureintro; exact View.read_writes_of_cover _ _ _ _ _ (coverB_11 m c t h0 h1 _)
        isplitl [H12]
        · unfold owns; iexists _; isplitr
          swap; · iexact H12
          ipureintro; exact View.read_writes_of_cover _ _ _ _ _ (coverB_12 m c t h0 h1 _)
        isplitl [H13]
        · unfold owns; iexists _; isplitr
          swap; · iexact H13
          ipureintro; exact View.read_writes_of_cover _ _ _ _ _ (coverB_13 m c t h0 h1 _)
        isplitl [H14]; · iexists _; iexact H14
        isplitl [H15]; · iexists _; iexact H15
        isplitl [H16]; · iexists _; iexact H16
        isplitl [H17]; · iexists _; iexact H17
        iexists _; iexact H18

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold PhiP
  iintro ⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    iexists _; iexact HS7
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 8 := N_0; omega)

-- `θ_run_frame_dma_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- Every weakly fair execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every execution ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.AbIdeal.Gen

end
-- ==== Proof.Ab.Bits.lean ====
/- The frame of `Ab` as it is printed, over machine words. -/
module

public import proofs.«01_k».proof.Defs
public import proofs.«01_k».proof.Proof.Gen.Ab
public import proofs.«01_k».proof.Proof.Ab.Frame
public import Idealize.ShloMosaic.Lib.Tactic.ProgEq

@[expose] public section

set_option maxRecDepth 16384

namespace Cert.Ab.Gen
open Idealize.ShloMosaic Idealize.SL.Sem

/-- Every execution of the printed program ends, faults nowhere, leaves the arguments as they were and every semaphore at zero:
    the run of the idealized program, whose text is the same, read over machine words. -/
theorem frame : Cert.quiescent_Ab := by
  have h := fun m g (_ : True) => Cert.AbIdeal.Gen.frame (F := Bits) m g
  have e : type_of% h = Cert.quiescent_Ab := by sl_kernel_rfl
  exact e.mp h

end Cert.Ab.Gen
-- ==== Proof.Ab.Cases.lean ====
/- What one grid point of the kernel `Ab` leaves in the results of the gating and of the short convolution, written with whole arrays. -/
module

public import proofs.«01_k».proof.Proof.Ab.Frame
public import proofs.«01_k».proof.Proof.Ab.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ab

open Cert.AbIdeal Cert.AbIdeal.Gen Cert.Common

variable (m : (ℓ : Loc nD τ sig) → Buf (Elt Ideal) ℓ)

/-- The block of 128 rows in one slab, read back. -/
theorem read_block (A : Vec Ideal S8x128x1024 .bf16) (k : Nat)
    (inb : ∀ a, (![k, 0, 0] : Fin 3 → Nat) a + (![1, 128, 1024] : Fin 3 → Nat) a ≤ S8x128x1024.size a) (h) (x0 : Fin 128) (x1 : Fin 1024) :
    View.read (Elt Ideal) (((View.whole main_v9).slice (Rect.unit ![k, 0, 0] ![1, 128, 1024] inb)).reshape S128x1024 h) A (ix2 x0 x1)
      = A (ix3 (n0 := 8) (n1 := 128) (n2 := 1024) ⟨k, by have h := inb 0; change k + 1 ≤ 8 at h; omega⟩ x0 x1) := by
  have e : ∀ (B : Vec Ideal S1x128x1024 .bf16) (h), shapeCast (s := S1x128x1024) S128x1024 B h (ix2 x0 x1) = B (ix3 (n0 := 1) (n1 := 128) (n2 := 1024) 0 x0 x1) := by
    intro B h
    pointwise []
  refine (e (fun j => A ((Rect.unit (s := S8x128x1024) ![k, 0, 0] ![1, 128, 1024] inb).emb j)) h).trans (congrArg A (funext fun a => Fin.ext ?_))
  match a with
  | ⟨0, _⟩ => show k + 1 * 0 = k; omega
  | ⟨1, _⟩ => show 0 + 1 * x0.val = x0.val; omega
  | ⟨2, _⟩ => show 0 + 1 * x1.val = x1.val; omega

/-- The first point fills the scratch with the last weight. -/
theorem outsA_w (c : Dev nD) (t : Fin cfg0.N) (h0 : t.val % 8 = 0) (h1 : ¬t.val % 8 = 7) :
    (outsA m c t h0 h1).2.2.2.2.2.2.2.2.2.2.1 = WT (V m c main_v9) := by
  unfold outsA
  dsimp only
  unfold soutA_1 runA
  funext y
  frame_out
  generalize (V m c main_v9 : Vec Ideal S8x128x1024 .bf16) = A
  refine congrFun (canon_agree (WT A) _ ?_ ?_) y
  · exact fun y => View.cover_of_tiledL (s := S1024x1024) _ ![128, 1024] (by sl_kernel_rfl) y
  · simp only [List.forall_mem_cons]
    refine ⟨fun x => ?_, fun x => ?_, fun x => ?_, fun x => ?_, fun x => ?_, fun x => ?_, fun x => ?_, fun x => ?_, fun x h => absurd h List.not_mem_nil⟩ <;>
    · idx_vars x
      refine (read_block A _ _ _ x0 x1).trans ?_
      pointwise [WT]
      exact congrArg A (ix3_congr (by simp <;> omega) (by simp <;> omega) rfl)

/-- The loaded weight is carried as it is. -/
theorem outsB_w (c : Dev nD) (t : Fin cfg0.N) (h0 : ¬t.val % 8 = 0) (h1 : ¬t.val % 8 = 7) (p : Outs Ideal) :
    (outsB m c t h0 h1 p).2.2.2.2.2.2.2.2.2.2.1 = p.2.2.2.2.2.2.2.2.2.2.1 := by
  unfold outsB
  dsimp only
  unfold soutB_1
  rfl

/-- The first point's tile of the cotangent of the last product. -/
theorem outsA_dy (c : Dev nD) (t : Fin cfg0.N) (h0 : t.val % 8 = 0) (h1 : ¬t.val % 8 = 7) :
    (outsA m c t h0 h1).2.2.2.1 = dyT (iblk m c 0 t) (iblk m c 2 t) := by
  unfold outsA
  dsimp only
  unfold outA_13 runA
  funext y
  frame_open
  frame_out

/-- The first point's chunks of the two halves side by side. -/
theorem outsA_cat (c : Dev nD) (t : Fin cfg0.N) (h0 : t.val % 8 = 0) (h1 : ¬t.val % 8 = 7) :
    (outsA m c t h0 h1).2.2.1 = chunks (k0_pay117 (F := Ideal) (k0_pay36 (iblk m c 3 t)) (zT (iblk m c 3 t) (iblk m c 6 t) (iblk m c 7 t) (iblk m c 8 t)) (k0_pay90 (k0_pay31 (iblk m c 3 t))) (convT (tileWord t) (iblk m c 3 t) (iblk m c 4 t) (iblk m c 9 t))) := by
  unfold outsA
  dsimp only
  unfold outA_12 runA
  funext y
  frame_open
  frame_out
  exact canon_cat _ _ _ _ y

/-- The rows of `dnorm_v` after the first point. -/
theorem outsA_dnv (c : Dev nD) (t : Fin cfg0.N) (h0 : t.val % 8 = 0) (h1 : ¬t.val % 8 = 7) :
    (outsA m c t h0 h1).2.2.2.2.2.2.2.2.2.2.2.2.2.1 = dnvNext (iblk m c 0 t) (iblk m c 2 t) (iblk m c 3 t) (iblk m c 7 t) (WT (V m c main_v9)) (k0_pay5 (F := Ideal)) := by
  have hw := outsA_w m c t h0 h1
  unfold outsA at hw
  dsimp only at hw
  unfold soutA_1 runA at hw
  frame_out at hw
  unfold outsA
  dsimp only
  unfold soutA_4 runA
  funext y
  frame_open
  simp (disch := decide) only [↓ View.readCov_skip, ↓ View.readCov_cons_toLoadRect, ↓ View.readCov_fill]
  frame_out
  simp only [View.readCov_eq_canon', hw]
  clear hw
  try rw [load_full2]
  rfl

/-- The weight gradients after the first point. -/
theorem outsA_dws (c : Dev nD) (t : Fin cfg0.N) (h0 : t.val % 8 = 0) (h1 : ¬t.val % 8 = 7) :
    (outsA m c t h0 h1).2.2.2.2.2.2.2.2.2.2.2.2.2.2.1 = dwsNext (vnT (iblk m c 3 t) (iblk m c 6 t)) (dzT (iblk m c 0 t) (iblk m c 2 t) (iblk m c 3 t) (WT (V m c main_v9))) (k0_pay6 (F := Ideal)) := by
  have hw := outsA_w m c t h0 h1
  unfold outsA at hw
  dsimp only at hw
  unfold soutA_1 runA at hw
  frame_out at hw
  unfold outsA
  dsimp only
  unfold soutA_5 runA
  funext y
  frame_open
  simp (disch := decide) only [↓ View.readCov_skip, ↓ View.readCov_cons_toLoadRect, ↓ View.readCov_fill]
  frame_out
  simp only [View.readCov_eq_canon', hw]
  clear hw
  try rw [load_full2]
  exact canon_dws _ _ _ _ y

/-- The bias gradients after the first point. -/
theorem outsA_dbs (c : Dev nD) (t : Fin cfg0.N) (h0 : t.val % 8 = 0) (h1 : ¬t.val % 8 = 7) :
    (outsA m c t h0 h1).2.2.2.2.2.2.2.2.2.2.2.2.2.2.2.1 = dbsNext (k0_pay49 (F := Ideal) (duT (iblk m c 0 t) (iblk m c 2 t) (WT (V m c main_v9))) (k0_pay36 (iblk m c 3 t))) (k0_pay7 (F := Ideal)) := by
  have hw := outsA_w m c t h0 h1
  unfold outsA at hw
  dsimp only at hw
  unfold soutA_1 runA at hw
  frame_out at hw
  unfold outsA
  dsimp only
  unfold soutA_6 runA
  funext y
  frame_open
  simp (disch := decide) only [↓ View.readCov_skip, ↓ View.readCov_cons_toLoadRect, ↓ View.readCov_fill]
  frame_out
  simp only [View.readCov_eq_canon', hw]
  clear hw
  try rw [load_full2]
  exact canon_dbs _ _ _ _ y

/-- The rows of `dconv_w` after the first point. -/
theorem outsA_dcw (c : Dev nD) (t : Fin cfg0.N) (h0 : t.val % 8 = 0) (h1 : ¬t.val % 8 = 7) :
    (outsA m c t h0 h1).2.2.2.2.2.2.2.2.2.2.2.2.2.2.2.2 = dcwNext (tileWord t) (iblk m c 0 t) (iblk m c 2 t) (iblk m c 3 t) (iblk m c 4 t) (WT (V m c main_v9)) (k0_pay8 (F := Ideal)) := by
  have hw := outsA_w m c t h0 h1
  unfold outsA at hw
  dsimp only at hw
  unfold soutA_1 runA at hw
  frame_out at hw
  unfold outsA
  dsimp only
  unfold soutA_7 runA
  funext y
  frame_open
  simp (disch := decide) only [↓ View.readCov_skip, ↓ View.readCov_cons_toLoadRect, ↓ View.readCov_fill]
  frame_out
  simp only [View.readCov_eq_canon', hw]
  clear hw
  try rw [load_full2]
  rfl

/-- A middle point's tile of the cotangent of the last product. -/
theorem outsB_dy (c : Dev nD) (t : Fin cfg0.N) (h0 : ¬t.val % 8 = 0) (h1 : ¬t.val % 8 = 7) (p : Outs Ideal) :
    (outsB m c t h0 h1 p).2.2.2.1 = dyT (iblk m c 0 t) (iblk m c 2 t) := by
  unfold outsB
  dsimp only
  unfold outB_13 runB
  funext y
  frame_open
  frame_out

/-- A middle point's chunks of the two halves side by side. -/
theorem outsB_cat (c : Dev nD) (t : Fin cfg0.N) (h0 : ¬t.val % 8 = 0) (h1 : ¬t.val % 8 = 7) (p : Outs Ideal) :
    (outsB m c t h0 h1 p).2.2.1 = chunks (k0_pay117 (F := Ideal) (k0_pay36 (iblk m c 3 t)) (zT (iblk m c 3 t) (iblk m c 6 t) (iblk m c 7 t) (iblk m c 8 t)) (k0_pay90 (k0_pay31 (iblk m c 3 t))) (convT (tileWord t) (iblk m c 3 t) (iblk m c 4 t) (iblk m c 9 t))) := by
  unfold outsB
  dsimp only
  unfold outB_12 runB
  funext y
  frame_open
  frame_out
  exact canon_cat _ _ _ _ y

/-- The rows of `dnorm_v` after a middle point. -/
theorem outsB_dnv (c : Dev nD) (t : Fin cfg0.N) (h0 : ¬t.val % 8 = 0) (h1 : ¬t.val % 8 = 7) (p : Outs Ideal) :
    (outsB m c t h0 h1 p).2.2.2.2.2.2.2.2.2.2.2.2.2.1 = dnvNext (iblk m c 0 t) (iblk m c 2 t) (iblk m c 3 t) (iblk m c 7 t) p.2.2.2.2.2.2.2.2.2.2.1 p.2.2.2.2.2.2.2.2.2.2.2.2.2.1 := by
  unfold outsB
  dsimp only
  unfold soutB_4 runB
  funext y
  frame_open
  simp (disch := decide) only [↓ View.readCov_skip, ↓ View.readCov_cons_toLoadRect, ↓ View.readCov_fill]
  frame_out
  simp only [View.readCov_eq_canon', read_unread_whole]
  rfl

/-- The weight gradients after a middle point. -/
theorem outsB_dws (c : Dev nD) (t : Fin cfg0.N) (h0 : ¬t.val % 8 = 0) (h1 : ¬t.val % 8 = 7) (p : Outs Ideal) :
    (outsB m c t h0 h1 p).2.2.2.2.2.2.2.2.2.2.2.2.2.2.1 = dwsNext (vnT (iblk m c 3 t) (iblk m c 6 t)) (dzT (iblk m c 0 t) (iblk m c 2 t) (iblk m c 3 t) p.2.2.2.2.2.2.2.2.2.2.1) p.2.2.2.2.2.2.2.2.2.2.2.2.2.2.1 := by
  unfold outsB
  dsimp only
  unfold soutB_5 runB
  funext y
  frame_open
  simp (disch := decide) only [↓ View.readCov_skip, ↓ View.readCov_cons_toLoadRect, ↓ View.readCov_fill]
  frame_out
  simp only [View.readCov_eq_canon', read_unread_whole]
  exact canon_dws _ _ _ _ y

/-- The bias gradients after a middle point. -/
theorem outsB_dbs (c : Dev nD) (t : Fin cfg0.N) (h0 : ¬t.val % 8 = 0) (h1 : ¬t.val % 8 = 7) (p : Outs Ideal) :
    (outsB m c t h0 h1 p).2.2.2.2.2.2.2.2.2.2.2.2.2.2.2.1 = dbsNext (k0_pay49 (F := Ideal) (duT (iblk m c 0 t) (iblk m c 2 t) p.2.2.2.2.2.2.2.2.2.2.1) (k0_pay36 (iblk m c 3 t))) p.2.2.2.2.2.2.2.2.2.2.2.2.2.2.2.1 := by
  unfold outsB
  dsimp only
  unfold soutB_6 runB
  funext y
  frame_open
  simp (disch := decide) only [↓ View.readCov_skip, ↓ View.readCov_cons_toLoadRect, ↓ View.readCov_fill]
  frame_out
  simp only [View.readCov_eq_canon', read_unread_whole]
  exact canon_dbs _ _ _ _ y

/-- The rows of `dconv_w` after a middle point. -/
theorem outsB_dcw (c : Dev nD) (t : Fin cfg0.N) (h0 : ¬t.val % 8 = 0) (h1 : ¬t.val % 8 = 7) (p : Outs Ideal) :
    (outsB m c t h0 h1 p).2.2.2.2.2.2.2.2.2.2.2.2.2.2.2.2 = dcwNext (tileWord t) (iblk m c 0 t) (iblk m c 2 t) (iblk m c 3 t) (iblk m c 4 t) p.2.2.2.2.2.2.2.2.2.2.1 p.2.2.2.2.2.2.2.2.2.2.2.2.2.2.2.2 := by
  unfold outsB
  dsimp only
  unfold soutB_7 runB
  funext y
  frame_open
  simp (disch := decide) only [↓ View.readCov_skip, ↓ View.readCov_cons_toLoadRect, ↓ View.readCov_fill]
  frame_out
  simp only [View.readCov_eq_canon', read_unread_whole]
  rfl

/-- The last point's tile of the cotangent of the last product. -/
theorem outsC_dy (c : Dev nD) (t : Fin cfg0.N) (h0 : ¬t.val % 8 = 0) (h1 : t.val % 8 = 7) (p : Outs Ideal) :
    (outsC m c t h0 h1 p).2.2.2.1 = dyT (iblk m c 0 t) (iblk m c 2 t) := by
  unfold outsC
  dsimp only
  unfold outC_13 runC
  funext y
  frame_open
  frame_out

/-- The last point's chunks of the two halves side by side. -/
theorem outsC_cat (c : Dev nD) (t : Fin cfg0.N) (h0 : ¬t.val % 8 = 0) (h1 : t.val % 8 = 7) (p : Outs Ideal) :
    (outsC m c t h0 h1 p).2.2.1 = chunks (k0_pay117 (F := Ideal) (k0_pay36 (iblk m c 3 t)) (zT (iblk m c 3 t) (iblk m c 6 t) (iblk m c 7 t) (iblk m c 8 t)) (k0_pay90 (k0_pay31 (iblk m c 3 t))) (convT (tileWord t) (iblk m c 3 t) (iblk m c 4 t) (iblk m c 9 t))) := by
  unfold outsC
  dsimp only
  unfold outC_12 runC
  funext y
  frame_open
  frame_out
  exact canon_cat _ _ _ _ y

/-- The rows of `dnorm_v` that leave. -/
theorem outsC_15 (c : Dev nD) (t : Fin cfg0.N) (h0 : ¬t.val % 8 = 0) (h1 : t.val % 8 = 7) (p : Outs Ideal) :
    (outsC m c t h0 h1 p).2.2.2.2.2.1 = k0_pay11 (dnvNext (iblk m c 0 t) (iblk m c 2 t) (iblk m c 3 t) (iblk m c 7 t) p.2.2.2.2.2.2.2.2.2.2.1 p.2.2.2.2.2.2.2.2.2.2.2.2.2.1) := by
  unfold outsC
  dsimp only
  unfold outC_15 runC
  funext y
  frame_open
  simp (disch := decide) only [↓ View.readCov_skip, ↓ View.readCov_cons_toLoadRect, ↓ View.readCov_fill]
  frame_out
  simp only [View.readCov_eq_canon', read_unread_whole]
  rfl

/-- The weight gradients that leave. -/
theorem outsC_16 (c : Dev nD) (t : Fin cfg0.N) (h0 : ¬t.val % 8 = 0) (h1 : t.val % 8 = 7) (p : Outs Ideal) :
    (outsC m c t h0 h1 p).2.2.2.2.2.2.1 = cut (dwsNext (vnT (iblk m c 3 t) (iblk m c 6 t)) (dzT (iblk m c 0 t) (iblk m c 2 t) (iblk m c 3 t) p.2.2.2.2.2.2.2.2.2.2.1) p.2.2.2.2.2.2.2.2.2.2.2.2.2.2.1) := by
  unfold outsC
  dsimp only
  unfold outC_16 runC
  funext y
  frame_open
  simp (disch := decide) only [↓ View.readCov_skip, ↓ View.readCov_cons_toLoadRect, ↓ View.readCov_fill]
  frame_out
  simp only [View.readCov_eq_canon', read_unread_whole]
  exact canon_dwsOut _ _ _ y

/-- The bias gradients that leave. -/
theorem outsC_17 (c : Dev nD) (t : Fin cfg0.N) (h0 : ¬t.val % 8 = 0) (h1 : t.val % 8 = 7) (p : Outs Ideal) :
    (outsC m c t h0 h1 p).2.2.2.2.2.2.2.1 = colSum (dbsNext (k0_pay49 (F := Ideal) (duT (iblk m c 0 t) (iblk m c 2 t) p.2.2.2.2.2.2.2.2.2.2.1) (k0_pay36 (iblk m c 3 t))) p.2.2.2.2.2.2.2.2.2.2.2.2.2.2.2.1) := by
  unfold outsC
  dsimp only
  unfold outC_17 runC
  funext y
  frame_open
  simp (disch := decide) only [↓ View.readCov_skip, ↓ View.readCov_cons_toLoadRect, ↓ View.readCov_fill]
  frame_out
  simp only [View.readCov_eq_canon', read_unread_whole]
  exact canon_dbsOut _ _ _ y

/-- The rows of `dconv_w` that leave. -/
theorem outsC_18 (c : Dev nD) (t : Fin cfg0.N) (h0 : ¬t.val % 8 = 0) (h1 : t.val % 8 = 7) (p : Outs Ideal) :
    (outsC m c t h0 h1 p).2.2.2.2.2.2.2.2.1 = dcwNext (tileWord t) (iblk m c 0 t) (iblk m c 2 t) (iblk m c 3 t) (iblk m c 4 t) p.2.2.2.2.2.2.2.2.2.2.1 p.2.2.2.2.2.2.2.2.2.2.2.2.2.2.2.2 := by
  unfold outsC
  dsimp only
  unfold outC_18 runC
  funext y
  frame_open
  simp (disch := decide) only [↓ View.readCov_skip, ↓ View.readCov_cons_toLoadRect, ↓ View.readCov_fill]
  frame_out
  simp only [View.readCov_eq_canon', read_unread_whole]
  rfl

end Cert.Ab

end
-- ==== Proof.Ab.Final.lean ====
/- What the kernel `Ab` leaves in the results of the gating and of the short convolution, entry by entry. -/
module

public import proofs.«01_k».proof.Proof.Ab.Cases
public import proofs.«01_k».proof.Proof.Common.Sums

@[expose] public section

set_option maxRecDepth 16384

noncomputable section

open Idealize.ShloMosaic Idealize.ShloMosaic.TcCoe Idealize.SL.Sem
open Idealize.ShloMosaic.Pipeline (Dat)

namespace Cert.Ab

open Cert.AbIdeal Cert.AbIdeal.Gen Cert.Common

/-- A function on the first `N` numbers, zero after them. -/
def ext (N : ℕ) (f : Fin N → EReal) (n : ℕ) : EReal := if h : n < N then f ⟨n, h⟩ else 0

theorem ext_at {N : ℕ} (f : Fin N → EReal) (n : Fin N) : ext N f n.val = f n := dif_pos n.isLt

theorem ext_of {N : ℕ} (f : Fin N → EReal) {n : ℕ} (k : Fin N) (h : n = k.val) : ext N f n = f k := by
  subst h
  exact ext_at f k

/-- Residues over tiles taken from the last to the first, summed: the sum over all rows. -/
theorem sum_rows_rev (f : Fin 2048 → EReal) :
    ∑ s : Fin 8, ∑ t ∈ Finset.range 8, ∑ x : Fin 32, ext 2048 f ((7 - t) * (32 * 8) + (x.val * 8 + s.val)) = ∑ n, f n := by
  have e : ∀ s : Fin 8, ∑ t ∈ Finset.range 8, ∑ x : Fin 32, ext 2048 f ((7 - t) * (32 * 8) + (x.val * 8 + s.val))
      = ∑ t ∈ Finset.range 8, ∑ x : Fin 32, ext 2048 f (t * (32 * 8) + (x.val * 8 + s.val)) := fun s =>
    Finset.sum_range_reflect (fun t => ∑ x : Fin 32, ext 2048 f (t * (32 * 8) + (x.val * 8 + s.val))) 8
  rw [Finset.sum_congr rfl fun s _ => e s, sum_rows 8 32 2048 (by norm_num) (ext 2048 f)]
  exact Finset.sum_congr rfl fun n _ => ext_at f n

/-- The same, the residues summed in each tile first. -/
theorem sum_folds_rev (f : Fin 2048 → EReal) :
    ∑ t ∈ Finset.range 8, ∑ s : Fin 8, ∑ x : Fin 32, ext 2048 f ((7 - t) * (32 * 8) + (x.val * 8 + s.val)) = ∑ n, f n := by
  rw [Finset.sum_comm]
  exact sum_rows_rev f

/-- Two chunks a tile over tiles taken from the last to the first, summed: the sum over all chunks. -/
theorem sum_chunks_rev (f : Fin 16 → EReal) :
    ∑ t ∈ Finset.range 8, (ext 16 f ((7 - t) * 2 + 0) + ext 16 f ((7 - t) * 2 + 1)) = ∑ n, f n := by
  refine (Finset.sum_range_reflect (fun t => ext 16 f (t * 2 + 0) + ext 16 f (t * 2 + 1)) 8).trans ?_
  rw [← Finset.sum_congr rfl (fun n _ => ext_at f n), Fin.sum_univ_tiles 8 2 (by norm_num), Finset.sum_range]
  exact Finset.sum_congr rfl fun t _ => (Fin.sum_univ_two (fun s : Fin 2 => ext 16 f (t.val * 2 + s.val))).symm

variable (m : (ℓ : Loc nD τ sig) → Buf (Elt Ideal) ℓ)

/-- What the tile of point `t` adds to an entry of the rows of `dnorm_v`. -/
def dnvTerm (c : Dev nD) (t : ℕ) (r : Fin 8) (j : Fin 512) : EReal :=
  ∑ x : Fin 32, ext 2048 (fun n => dvnAt (args m c) n j * vhAt (args m c) n j) ((7 - t) * (32 * 8) + (x.val * 8 + r.val))

/-- One chunk's part of a weight gradient. -/
def wsPart (c : Dev nD) (h : Fin 4) (a b : Fin 128) (n : Fin 16) : EReal :=
  ∑ d : Fin 128, dzAt (args m c) ⟨n.val * 128 + a.val, by omega⟩ ⟨h.val * 128 + d.val, by omega⟩
    * vnAt (args m c) ⟨n.val * 128 + b.val, by omega⟩ ⟨h.val * 128 + d.val, by omega⟩

/-- One chunk's part of a bias gradient, a column at a time. -/
def bsPart (c : Dev nD) (h : Fin 4) (a d : Fin 128) (n : Fin 16) : EReal :=
  dzAt (args m c) ⟨n.val * 128 + a.val, by omega⟩ ⟨h.val * 128 + d.val, by omega⟩

/-- What the tile of point `t` adds to a weight gradient. -/
def dwsTerm (c : Dev nD) (t : ℕ) (h : Fin 4) (a b : Fin 128) : EReal :=
  ext 16 (wsPart m c h a b) ((7 - t) * 2 + 0) + ext 16 (wsPart m c h a b) ((7 - t) * 2 + 1)

/-- What the tile of point `t` adds to a bias gradient's column. -/
def dbsTerm (c : Dev nD) (t : ℕ) (h : Fin 4) (a d : Fin 128) : EReal :=
  ext 16 (bsPart m c h a d) ((7 - t) * 2 + 0) + ext 16 (bsPart m c h a d) ((7 - t) * 2 + 1)

/-- A row's part of the gradient of the row of the short convolution's weight that meets its input `k` rows earlier. -/
def cwPart (c : Dev nD) (k : ℕ) (j : Fin 512) (n : Fin 2048) : EReal :=
  dcatAt (args m c) n ⟨512 + j.val, by omega⟩ * projAt (args m c) n ⟨1024 + j.val, by omega⟩ * xbAt (args m c) k n j

/-- What the tile of point `t` adds to that gradient. -/
def dcwTerm (c : Dev nD) (t : ℕ) (k : ℕ) (j : Fin 512) : EReal :=
  ∑ s : Fin 8, ∑ x : Fin 32, ext 2048 (cwPart m c k j) ((7 - t) * (32 * 8) + (x.val * 8 + s.val))

/-- The three rows of the short convolution's weight gradient, zeros under them. -/
def rows3 (f : ℕ → EReal) (r : Fin 8) : EReal := if r.val = 0 then f 2 else if r.val = 1 then f 1 else if r.val = 2 then f 0 else 0

theorem rows3_sum (S : Finset ℕ) (f : ℕ → ℕ → EReal) (r : Fin 8) : ∑ t ∈ S, rows3 (f t) r = rows3 (fun k => ∑ t ∈ S, f t k) r := by
  unfold rows3
  split
  · rfl
  · split
    · rfl
    · split
      · rfl
      · exact Finset.sum_const_zero

theorem row_val (t : Fin cfg0.N) (x : Fin 32) (s : Fin 8) (h) : (7 - t.val) * (32 * 8) + (x.val * 8 + s.val) = (row t ⟨x.val * 8 + s.val, h⟩).val := rfl

theorem dnv_step (c : Dev nD) (t : Fin cfg0.N) (q : Vec Ideal S8x512 .f32) (r : Fin 8) (j : Fin 512) :
    dnvNext (iblk m c 0 t) (iblk m c 2 t) (iblk m c 3 t) (iblk m c 7 t) (WT (V m c main_v9)) q (ix2 (n0 := 8) (n1 := 512) r j)
      = q (ix2 r j) + dnvTerm m c t.val r j := by
  refine (dnv_at m c t q r j).trans (congrArg (_ + ·) (Finset.sum_congr rfl fun x _ => ?_))
  exact (ext_of (fun n => dvnAt (args m c) n j * vhAt (args m c) n j) _ (row_val t x r _)).symm

theorem dws_step (c : Dev nD) (t : Fin cfg0.N) (q : Vec Ideal S4x128x128 .f32) (h : Fin 4) (a b : Fin 128) :
    dwsNext (vnT (iblk m c 3 t) (iblk m c 6 t)) (dzT (iblk m c 0 t) (iblk m c 2 t) (iblk m c 3 t) (WT (V m c main_v9))) q (ix3 h a b)
      = q (ix3 h a b) + dwsTerm m c t.val h a b := by
  rw [dwsNext_at, dwsChunk_at, dwsChunk_at, add_assoc]
  exact congrArg (_ + ·) (add2 (ext_of (wsPart m c h a b) (chunk t 0) rfl).symm (ext_of (wsPart m c h a b) (chunk t 1) rfl).symm)

theorem dbs_step (c : Dev nD) (t : Fin cfg0.N) (q : Vec Ideal S4x128x128 .f32) (h : Fin 4) (a d : Fin 128) :
    dbsNext (k0_pay49 (F := Ideal) (duT (iblk m c 0 t) (iblk m c 2 t) (WT (V m c main_v9))) (k0_pay36 (iblk m c 3 t))) q (ix3 h a d)
      = q (ix3 h a d) + dbsTerm m c t.val h a d := by
  rw [dbsNext_at, dbsChunk_at, dbsChunk_at, add_assoc]
  exact congrArg (_ + ·) (add2 (ext_of (bsPart m c h a d) (chunk t 0) rfl).symm (ext_of (bsPart m c h a d) (chunk t 1) rfl).symm)

theorem dcwTile_eq (c : Dev nD) (t : Fin cfg0.N) (k : ℕ) (j : Fin 512) : dcwTile m c t k j = dcwTerm m c t.val k j := by
  unfold dcwTile fold
  exact Finset.sum_congr rfl fun s _ => Finset.sum_congr rfl fun x _ => (ext_of (cwPart m c k j) _ (row_val t x s _)).symm

theorem dcw_step (c : Dev nD) (t : Fin cfg0.N) (q : Vec Ideal S8x512 .f32) (r : Fin 8) (j : Fin 512) :
    dcwNext (tileWord t) (iblk m c 0 t) (iblk m c 2 t) (iblk m c 3 t) (iblk m c 4 t) (WT (V m c main_v9)) q (ix2 (n0 := 8) (n1 := 512) r j)
      = q (ix2 r j) + rows3 (fun k => dcwTerm m c t.val k j) r := by
  rw [dcw_at, dcwTile_eq, dcwTile_eq, dcwTile_eq]
  rfl

/-- The running sums start at zero. -/
theorem zero_dnv (r : Fin 8) (j : Fin 512) : k0_pay5 (F := Ideal) (ix2 (n0 := 8) (n1 := 512) r j) = 0 := by
  pointwise [k0_pay5]

theorem zero_dws (h : Fin 4) (a b : Fin 128) : k0_pay6 (F := Ideal) (ix3 (n0 := 4) (n1 := 128) (n2 := 128) h a b) = 0 := by
  pointwise [k0_pay6]

theorem zero_dbs (h : Fin 4) (a b : Fin 128) : k0_pay7 (F := Ideal) (ix3 (n0 := 4) (n1 := 128) (n2 := 128) h a b) = 0 := by
  pointwise [k0_pay7]

theorem zero_dcw (r : Fin 8) (j : Fin 512) : k0_pay8 (F := Ideal) (ix2 (n0 := 8) (n1 := 512) r j) = 0 := by
  pointwise [k0_pay8]

/-- What is carried after the points before `n`: the loaded weight and the sums of the tiles so far. -/
structure Carry (c : Dev nD) (n : ℕ) (p : Outs Ideal) : Prop where
  w : p.2.2.2.2.2.2.2.2.2.2.1 = WT (V m c main_v9)
  dnv : ∀ (r : Fin 8) (j : Fin 512), (p.2.2.2.2.2.2.2.2.2.2.2.2.2.1 : Vec Ideal S8x512 .f32) (ix2 r j) = ∑ t ∈ Finset.range n, dnvTerm m c t r j
  dws : ∀ (h : Fin 4) (a b : Fin 128), (p.2.2.2.2.2.2.2.2.2.2.2.2.2.2.1 : Vec Ideal S4x128x128 .f32) (ix3 h a b) = ∑ t ∈ Finset.range n, dwsTerm m c t h a b
  dbs : ∀ (h : Fin 4) (a d : Fin 128), (p.2.2.2.2.2.2.2.2.2.2.2.2.2.2.2.1 : Vec Ideal S4x128x128 .f32) (ix3 h a d) = ∑ t ∈ Finset.range n, dbsTerm m c t h a d
  dcw : ∀ (r : Fin 8) (j : Fin 512), (p.2.2.2.2.2.2.2.2.2.2.2.2.2.2.2.2 : Vec Ideal S8x512 .f32) (ix2 r j)
    = ∑ t ∈ Finset.range n, rows3 (fun k => dcwTerm m c t k j) r

theorem carryA (c : Dev nD) (t : Fin cfg0.N) (ht : t.val = 0) (h0 : t.val % 8 = 0) (h1 : ¬t.val % 8 = 7) : Carry m c 1 (outsA m c t h0 h1) where
  w := outsA_w m c t h0 h1
  dnv r j := by
    rw [outsA_dnv m c t h0 h1, dnv_step, zero_dnv, zero_add, Finset.sum_range_one, ht]
  dws h a b := by
    rw [outsA_dws m c t h0 h1, dws_step, zero_dws, zero_add, Finset.sum_range_one, ht]
  dbs h a d := by
    rw [outsA_dbs m c t h0 h1, dbs_step, zero_dbs, zero_add, Finset.sum_range_one, ht]
  dcw r j := by
    rw [outsA_dcw m c t h0 h1, dcw_step, zero_dcw, zero_add, Finset.sum_range_one, ht]

theorem carryB (c : Dev nD) (t : Fin cfg0.N) (h0 : ¬t.val % 8 = 0) (h1 : ¬t.val % 8 = 7) (p : Outs Ideal) (hp : Carry m c t.val p) :
    Carry m c (t.val + 1) (outsB m c t h0 h1 p) where
  w := (outsB_w m c t h0 h1 p).trans hp.w
  dnv r j := by
    rw [outsB_dnv m c t h0 h1, hp.w, dnv_step, hp.dnv, Finset.sum_range_succ]
  dws h a b := by
    rw [outsB_dws m c t h0 h1, hp.w, dws_step, hp.dws, Finset.sum_range_succ]
  dbs h a d := by
    rw [outsB_dbs m c t h0 h1, hp.w, dbs_step, hp.dbs, Finset.sum_range_succ]
  dcw r j := by
    rw [outsB_dcw m c t h0 h1, hp.w, dcw_step, hp.dcw, Finset.sum_range_succ]

/-- After point `n` the weight is loaded and the carried sums are those of the tiles so far. -/
theorem carried (c : Dev nD) (n : ℕ) : ∀ hn : n < cfg0.N, n < 7 → Carry m c (n + 1) (outsAt0 m c n hn) := by
  induction n with
  | zero =>
    intro hn _
    rw [show outsAt0 m c 0 hn = _ from outsAt0_A m c ⟨0, hn⟩ (Nat.zero_mod _) (by show ¬0 % 8 = 7; omega)]
    exact carryA m c _ rfl _ _
  | succ n ih =>
    intro hn h7
    have hp := ih (Nat.lt_of_succ_lt hn) (by omega)
    have e := outsAt0_B m c ⟨n + 1, hn⟩ (by show ¬(n + 1) % 8 = 0; omega) (by show ¬(n + 1) % 8 = 7; omega)
    have ep : outsAt0 m c ((⟨n + 1, hn⟩ : Fin cfg0.N).val - 1) (Nat.lt_of_le_of_lt (Nat.sub_le _ _) hn) = outsAt0 m c n (Nat.lt_of_succ_lt hn) := rfl
    rw [ep] at e
    generalize outsAt0 m c n (Nat.lt_of_succ_lt hn) = p at hp e
    have e' : outsAt0 m c (n + 1) hn = outsB m c ⟨n + 1, hn⟩ _ _ p := e
    rw [e']
    exact carryB m c ⟨n + 1, hn⟩ _ _ p hp

/-- The tile of the last product's cotangent that any point leaves. -/
theorem tile_dy (c : Dev nD) (t : Fin cfg0.N) : (outsAt0 m c t.val t.isLt).2.2.2.1 = dyT (iblk m c 0 t) (iblk m c 2 t) := by
  by_cases h0 : t.val % 8 = 0
  · rw [outsAt0_A m c t h0 (by omega)]
    exact outsA_dy m c t h0 (by omega)
  · by_cases h1 : t.val % 8 = 7
    · rw [outsAt0_C m c t h0 h1, outsC_dy m c t h0 h1]
    · rw [outsAt0_B m c t h0 h1, outsB_dy m c t h0 h1]

/-- The chunks of the two halves side by side that any point leaves. -/
theorem tile_cat (c : Dev nD) (t : Fin cfg0.N) : (outsAt0 m c t.val t.isLt).2.2.1
    = chunks (k0_pay117 (F := Ideal) (k0_pay36 (iblk m c 3 t)) (zT (iblk m c 3 t) (iblk m c 6 t) (iblk m c 7 t) (iblk m c 8 t)) (k0_pay90 (k0_pay31 (iblk m c 3 t)))
        (convT (tileWord t) (iblk m c 3 t) (iblk m c 4 t) (iblk m c 9 t))) := by
  by_cases h0 : t.val % 8 = 0
  · rw [outsAt0_A m c t h0 (by omega)]
    exact outsA_cat m c t h0 (by omega)
  · by_cases h1 : t.val % 8 = 7
    · rw [outsAt0_C m c t h0 h1, outsC_cat m c t h0 h1]
    · rw [outsAt0_B m c t h0 h1, outsB_cat m c t h0 h1]

/-- The two halves side by side, in chunks of columns. -/
def G12 (c : Dev nD) : S4x2048x256.Idx → EReal := fun y =>
  catAt (args m c) (y 1) ⟨(y 0).val * 256 + (y 2).val, by have h : (y 0).val < 4 := (y 0).isLt; have h' : (y 2).val < 256 := (y 2).isLt; omega⟩

theorem G12_at (c : Dev nD) (a : Fin 4) (n : Fin 2048) (k : Fin 256) : G12 m c (ix3 a n k) = catAt (args m c) n ⟨a.val * 256 + k.val, by omega⟩ := rfl

/-- The cotangent of the last product. -/
def G13 (c : Dev nD) : S2048x1024.Idx → EReal := fun y => dyAt (args m c) (y 0) (y 1)

/-- The gradient of the layer norm's weight, zeros under it. -/
def G15 (c : Dev nD) : S8x512.Idx → EReal := fun y => if (y 0).val = 0 then dnvAt (args m c) (y 1) else 0

/-- The gradients of the weights over the tokens. -/
def G16 (c : Dev nD) : S4x128x128.Idx → EReal := fun y => if (y 2).val ≤ (y 1).val then dwsAt (args m c) (y 0) (y 1) (y 2) else 0

/-- The gradients of the biases, each in every column. -/
def G17 (c : Dev nD) : S4x128x128.Idx → EReal := fun y => dbsAt (args m c) (y 0) (y 1)

/-- The gradient of the short convolution's weight, zeros under it. -/
def G18 (c : Dev nD) : S8x512.Idx → EReal := fun y => rows3 (fun k => dcwAt (args m c) k (y 1)) (y 0)

theorem final12 (c : Dev nD) : (dats m 0 c).arrAt 12 (cfgs 0).N = G12 m c := by
  refine (dats m 0 c).arrAt_eq_of_covers 12 _ (by decide +kernel) fun t _ y => ?_
  blk_simp
  rw [after0_12, tile_cat]
  idx_vars y
  have h0 : ix3 y0 (row t y1) y2 = (win0_12.blk t).view.emb (ix3 (n0 := 4) (n1 := 256) (n2 := 256) y0 y1 y2) := by
    unfold row; blk_ext [idx t]
  refine Eq.trans ?_ (congrArg (G12 m c) h0)
  rw [G12_at]
  exact cat_at m c t y0 y1 y2

theorem final13 (c : Dev nD) : (dats m 0 c).arrAt 13 (cfgs 0).N = G13 m c := by
  refine (dats m 0 c).arrAt_eq_of_covers 13 _ (by decide +kernel) fun t _ y => ?_
  blk_simp
  rw [after0_13, tile_dy]
  idx_vars y
  have h0 : ix2 (row t y0) y1 = (win0_13.blk t).view.emb (ix2 (n0 := 256) (n1 := 1024) y0 y1) := by
    unfold row; blk_ext [idx t]
  exact (dy_at m c t y0 y1).trans (congrArg (G13 m c) h0)

/-- What the last point leaves, from what the seven points before it carry. -/
theorem last (c : Dev nD) : ∃ p : Outs Ideal, Carry m c 7 p ∧ outsAt0 m c t0_7.val t0_7.isLt = outsC m c t0_7 (by decide) (by decide) p :=
  ⟨outsAt0 m c 6 (by rw [show cfg0.N = 8 from N_0]; omega), carried m c 6 (by rw [show cfg0.N = 8 from N_0]; omega) (by omega),
    outsAt0_C m c t0_7 (by decide) (by decide)⟩

theorem final15 (c : Dev nD) : (dats m 0 c).arrAt 15 (cfgs 0).N = G15 m c := by
  refine (dats m 0 c).arrAt_eq_of_after_last 15 t0_7 (by decide +kernel) _ fun y => ?_
  blk_simp
  rw [after0_15]
  idx_vars y
  obtain ⟨p, hp, e⟩ := last m c
  rw [e, outsC_15 m c t0_7 _ _ p, hp.w]
  refine (dnvOut_apply _ y0 y1).trans ?_
  show _ = if y0.val = 0 then dnvAt (args m c) y1 else 0
  split
  · refine (Finset.sum_congr rfl fun s _ => ?_).trans (sum_rows_rev fun n => dvnAt (args m c) n y1 * vhAt (args m c) n y1)
    rw [dnv_step, hp.dnv, Finset.sum_range_succ _ 7]
    rfl
  · rfl

theorem final16 (c : Dev nD) : (dats m 0 c).arrAt 16 (cfgs 0).N = G16 m c := by
  refine (dats m 0 c).arrAt_eq_of_after_last 16 t0_7 (by decide +kernel) _ fun y => ?_
  blk_simp
  rw [after0_16]
  idx_vars y
  obtain ⟨p, hp, e⟩ := last m c
  rw [e, outsC_16 m c t0_7 _ _ p, hp.w, cut_at]
  show _ = if y2.val ≤ y1.val then dwsAt (args m c) y0 y1 y2 else 0
  split
  · rw [dws_step, hp.dws]
    exact (Finset.sum_range_succ _ 7).symm.trans (sum_chunks_rev (wsPart m c y0 y1 y2))
  · rfl

theorem final17 (c : Dev nD) : (dats m 0 c).arrAt 17 (cfgs 0).N = G17 m c := by
  refine (dats m 0 c).arrAt_eq_of_after_last 17 t0_7 (by decide +kernel) _ fun y => ?_
  blk_simp
  rw [after0_17]
  idx_vars y
  obtain ⟨p, hp, e⟩ := last m c
  rw [e, outsC_17 m c t0_7 _ _ p, hp.w, colSum_at]
  show _ = dbsAt (args m c) y0 y1
  have hd : ∀ d : Fin 128, dbsNext (k0_pay49 (F := Ideal) (duT (iblk m c 0 t0_7) (iblk m c 2 t0_7) (WT (V m c main_v9))) (k0_pay36 (iblk m c 3 t0_7)))
      p.2.2.2.2.2.2.2.2.2.2.2.2.2.2.2.1 (ix3 y0 y1 d) = ∑ n : Fin 16, bsPart m c y0 y1 d n := fun d => by
    rw [dbs_step, hp.dbs]
    exact (Finset.sum_range_succ _ 7).symm.trans (sum_chunks_rev (bsPart m c y0 y1 d))
  refine (Finset.sum_congr rfl fun d _ => hd d).trans ?_
  exact Finset.sum_comm

theorem final18 (c : Dev nD) : (dats m 0 c).arrAt 18 (cfgs 0).N = G18 m c := by
  refine (dats m 0 c).arrAt_eq_of_after_last 18 t0_7 (by decide +kernel) _ fun y => ?_
  blk_simp
  rw [after0_18]
  idx_vars y
  obtain ⟨p, hp, e⟩ := last m c
  rw [e, outsC_18 m c t0_7 _ _ p, hp.w]
  refine (dcw_step m c t0_7 _ y0 y1).trans ?_
  rw [hp.dcw]
  refine (Finset.sum_range_succ (fun t => rows3 (fun k => dcwTerm m c t k y1) y0) 7).symm.trans ?_
  rw [rows3_sum]
  show _ = rows3 (fun k => dcwAt (args m c) k y1) y0
  exact congrArg (fun f => rows3 f y0) (funext fun k => sum_folds_rev (cwPart m c k y1))

end Cert.Ab

end
-- ==== Proof.Ab.Reduce.lean ====
/- Host sums over several axes at once. -/
module

public import Idealize.ShloMosaic.Lib.Pointwise.Reduce
public import Idealize.ShloMosaic.Lib.IdealHost

@[expose] public section

noncomputable section

open Idealize.ShloMosaic

namespace Cert.Common

/-- A sum over the second and the last of five axes, the first of length one. -/
theorem sum_axes14 {c t h d : ℕ} (hr : (⟨5, ![1, c, t, h, d]⟩ : Shape).ReducesTo [1, 4] ⟨3, ![1, t, h]⟩) (v : (⟨5, ![1, c, t, h, d]⟩ : Shape).Idx → EReal)
    (init : EReal) (i : Fin t) (j : Fin h) :
    Ideal.hostReduceAdd hr v init (ix3 0 i j) = init + ∑ a : Fin c, ∑ b : Fin d, v (ix5 0 a i j b) := by
  refine congrArg (init + ·) ?_
  rw [← Fintype.sum_prod_type']
  refine Finset.sum_bij' (fun k _ => ((k 1 : Fin c), (k 4 : Fin d))) (fun p _ => ix5 0 p.1 i j p.2) (fun _ _ => Finset.mem_univ _) (fun p _ => ?_)
    (fun k hk => ?_) (fun _ _ => rfl) (fun k hk => congrArg v (Eq.symm ?_))
  · refine Finset.mem_filter.mpr ⟨Finset.mem_univ _, ?_⟩
    funext b; apply Fin.ext
    match b with
    | ⟨0, _⟩ => rfl
    | ⟨1, _⟩ => rfl
    | ⟨2, _⟩ => rfl
  all_goals
    have e := (Finset.mem_filter.mp hk).2
    funext a; apply Fin.ext
    match a with
    | ⟨0, _⟩ => exact congrArg Fin.val (Fin.eq_zero (show Fin 1 from k 0)).symm
    | ⟨1, _⟩ => rfl
    | ⟨2, _⟩ => exact (congrArg Fin.val (congrFun e (1 : Fin 3))).symm
    | ⟨3, _⟩ => exact (congrArg Fin.val (congrFun e (2 : Fin 3))).symm
    | ⟨4, _⟩ => rfl

/-- A sum over three of five axes, all three of length one, has one term. -/
theorem sum_unit014 {t h : ℕ} (hr : (⟨5, ![1, 1, t, h, 1]⟩ : Shape).ReducesTo [0, 1, 4] ⟨2, ![t, h]⟩) (v : (⟨5, ![1, 1, t, h, 1]⟩ : Shape).Idx → EReal)
    (init : EReal) (i : Fin t) (j : Fin h) : Ideal.hostReduceAdd hr v init (ix2 i j) = init + v (ix5 0 0 i j 0) := by
  refine congrArg (init + ·) ?_
  refine (Finset.sum_eq_single (ix5 (0 : Fin 1) (0 : Fin 1) i j (0 : Fin 1)) ?_ ?_)
  · intro k hk hne
    exfalso
    apply hne
    have e := (Finset.mem_filter.mp hk).2
    funext a; apply Fin.ext
    match a with
    | ⟨0, _⟩ => exact congrArg Fin.val (Fin.eq_zero (show Fin 1 from k 0))
    | ⟨1, _⟩ => exact congrArg Fin.val (Fin.eq_zero (show Fin 1 from k 1))
    | ⟨2, _⟩ => exact congrArg Fin.val (congrFun e (0 : Fin 2))
    | ⟨3, _⟩ => exact congrArg Fin.val (congrFun e (1 : Fin 2))
    | ⟨4, _⟩ => exact congrArg Fin.val (Fin.eq_zero (show Fin 1 from k 4))
  · intro hn
    refine absurd (Finset.mem_filter.mpr ⟨Finset.mem_univ _, ?_⟩) hn
    funext b; apply Fin.ext
    match b with
    | ⟨0, _⟩ => rfl
    | ⟨1, _⟩ => rfl

/-- A sum over three axes, the first of length one. -/
theorem sum_axes_unit {a b : ℕ} (f : (⟨3, ![1, a, b]⟩ : Shape).Idx → EReal) : ∑ k, f k = ∑ i : Fin a, ∑ j : Fin b, f (ix3 0 i j) := by
  rw [← Fintype.sum_prod_type']
  refine Finset.sum_bij' (fun k _ => ((k 1 : Fin a), (k 2 : Fin b))) (fun p _ => ix3 0 p.1 p.2) (fun _ _ => Finset.mem_univ _) (fun _ _ => Finset.mem_univ _)
    (fun k hk => ?_) (fun _ _ => rfl) (fun k hk => congrArg f (Eq.symm ?_))
  all_goals
    funext c; apply Fin.ext
    match c with
    | ⟨0, _⟩ => exact congrArg Fin.val (Fin.eq_zero (show Fin 1 from k 0)).symm
    | ⟨1, _⟩ => rfl
    | ⟨2, _⟩ => rfl

/-- The same for terms that depend on the two coordinates only. -/
theorem sum_axes_of {a b : ℕ} {S : Shape} (hS : S = ⟨3, ![1, a, b]⟩) (f : S.Idx → EReal) (G : Fin a → Fin b → EReal)
    (hf : ∀ (k : S.Idx) (i : Fin a) (j : Fin b), (∀ h : 1 < S.rank, (k ⟨1, h⟩).val = i.val) → (∀ h : 2 < S.rank, (k ⟨2, h⟩).val = j.val) → f k = G i j) :
    ∑ k, f k = ∑ i : Fin a, ∑ j : Fin b, G i j := by
  subst hS
  rw [sum_axes_unit]
  exact Finset.sum_congr rfl fun i _ => Finset.sum_congr rfl fun j _ => hf _ i j (fun _ => rfl) (fun _ => rfl)

end Cert.Common

end
-- ==== Proof.Ab.RefPoint.lean ====
/- The results of the reference `AbRef`, entry by entry. -/
module

public import proofs.«01_k».proof.Proof.Ab.Rows
public import proofs.«01_k».proof.Proof.Ab.Reduce
public import proofs.«01_k».proof.Proof.Gen.AbRefIdeal.Read
public import proofs.«01_k».proof.Proof.Common.Reduce

@[expose] public section

set_option maxRecDepth 16384

noncomputable section

open Idealize.ShloMosaic Idealize.ShloMosaic.TcCoe Idealize.SL.Sem

namespace Cert.Ab

open Cert.AbRefIdeal Cert.AbRefIdeal.Gen Cert.AbRefIdeal.Read Cert.Common

variable (A : Args)

/-- The product with the first weight. -/
theorem ref_proj (n : Fin 2048) (k : Fin 2560) :
    val_main_v26 (F := Ideal) A.x A.mod A.g A.w (ix3 (n0 := 1) (n1 := 2048) (n2 := 2560) 0 n k) = projAt A n k := by
  unfold projAt hrow rms rowLen rowEps
  pointwise [val_main_v1, val_main_v2, val_main_v4, val_main_cst_0, val_main_v5, val_main_v6, val_main_cst_1, val_main_v7, val_main_v8, val_main_cst_2,
    val_main_v9, val_main_v10, val_main_v11, val_main_v12, val_main_v13, val_main_v14, val_main_v15, val_main_v16, val_main_v17, val_main_cst_3,
    val_main_v18, val_main_v19, val_main_v20, val_main_v21, val_main_v22, val_main_v23, val_main_v24, val_main_v26]

/-- The gelu by the reference's own grouping. -/
theorem gelu_ref (z : EReal) : z * (Ideal.ofBits .f32 1056964608#32 * (1 + Ideal.tanh (Ideal.ofBits .f32 1061962282#32 * (z + Ideal.ofBits .f32 1027024659#32 * (z * z * z)))))
    = gelu z := by
  unfold gelu
  simp only [mul_assoc, mul_left_comm z]

/-- The gelu that gates the mixed tokens. -/
theorem ref_gu (n : Fin 2048) (j : Fin 512) :
    val_main_v44 (F := Ideal) A.x A.mod A.g A.w (ix3 (n0 := 1) (n1 := 2048) (n2 := 512) 0 n j) = guAt A n j := by
  unfold guAt
  rw [← gelu_ref]
  pointwise [val_main_v44, val_main_v43, val_main_v42, val_main_cst_7, val_main_v41, val_main_v40, val_main_cst_6, val_main_v39, val_main_v38, val_main_v37,
    val_main_cst_5, val_main_v36, val_main_v35, val_main_v34, val_main_cst_4, val_main_v33, val_main_v32, val_main_v27, ref_proj]

/-- The gelu that is normalised. -/
theorem ref_gv (n : Fin 2048) (j : Fin 512) :
    val_main_v57 (F := Ideal) A.x A.mod A.g A.w (ix3 (n0 := 1) (n1 := 2048) (n2 := 512) 0 n j) = gelu (projAt A n ⟨512 + j.val, by omega⟩) := by
  rw [← gelu_ref]
  pointwise [val_main_v57, val_main_v56, val_main_v55, val_main_cst_11, val_main_v54, val_main_v53, val_main_cst_10, val_main_v52, val_main_v51, val_main_v50,
    val_main_cst_9, val_main_v49, val_main_v48, val_main_v47, val_main_cst_8, val_main_v46, val_main_v45, val_main_v28, ref_proj]

/-- The layer norm before its weight. -/
theorem ref_vh (n : Fin 2048) (j : Fin 512) :
    val_main_v75 (F := Ideal) A.x A.mod A.g A.w (ix3 (n0 := 1) (n1 := 2048) (n2 := 512) 0 n j) = vhAt A n j := by
  unfold vhAt vhat cen
  pointwise [val_main_v75, val_main_v74, val_main_v73, val_main_v72, val_main_v71, val_main_cst_16, val_main_v70, val_main_v69, val_main_v68, val_main_v67,
    val_main_cst_15, val_main_v66, val_main_v65, val_main_cst_14, val_main_v64, val_main_v63, val_main_v62, val_main_v61, val_main_v60, val_main_cst_13,
    val_main_v59, val_main_v58, val_main_cst_12, ref_gv]

/-- The layer norm, its rows and columns cut into chunks and heads. -/
theorem ref_vn (c : Fin 16) (t : Fin 128) (h : Fin 4) (d : Fin 128) :
    val_main_v79 (F := Ideal) A.x A.mod A.g A.w A.nv (ix5 (n0 := 1) (n1 := 16) (n2 := 128) (n3 := 4) (n4 := 128) 0 c t h d)
      = vnAt A ⟨c.val * 128 + t.val, by omega⟩ ⟨h.val * 128 + d.val, by omega⟩ := by
  unfold vnAt
  pointwise [val_main_v79, val_main_v78, val_main_v77, val_main_v76, ref_vh]

/-- The mask. -/
theorem ref_mask (t s : Fin 128) : val_main_v81 (F := Ideal) (ix2 (n0 := 128) (n1 := 128) t s) = if s.val ≤ t.val then 1 else 0 := by
  pointwise [val_main_v81, val_main_call0_v5, val_main_call0_cst, val_main_call0_v4, val_main_call0_v3, val_main_call0_v2, val_main_call0_v1, val_main_call0_c,
    val_main_call0_v0, val_main_v80, val_main_cst_17]
  rw [show IntOp.addi (BitVec.ofNat 32 t.val) 0#32 = BitVec.ofNat 32 t.val from BitVec.add_zero _]
  exact sel_sge t s _ _

/-- A head's weight, cut off after the diagonal. -/
theorem ref_ws (h : Fin 4) (t s : Fin 128) : val_main_v84 (F := Ideal) A.ws (ix3 (n0 := 4) (n1 := 128) (n2 := 128) h t s) = wsAt A h t s := by
  unfold wsAt wmask
  pointwise [val_main_v84, val_main_v83, val_main_v82, ref_mask]
  split_ifs <;> simp

/-- The cotangent of the product with the last weight. -/
theorem ref_dy (n : Fin 2048) (l : Fin 1024) : val_main_v124 (F := Ideal) A.mod A.ct (ix3 (n0 := 1) (n1 := 2048) (n2 := 1024) 0 n l) = dyAt A n l := by
  unfold dyAt gateAt
  pointwise [val_main_v124, val_main_v123, val_main_v25, val_main_v3]

/-- The cotangent of the two halves. -/
theorem ref_dcat (n : Fin 2048) (j : Fin 1024) :
    val_main_v125 (F := Ideal) A.mod A.wo A.ct (ix3 (n0 := 1) (n1 := 2048) (n2 := 1024) 0 n j) = dcatAt A n j := by
  unfold dcatAt dcat
  pointwise [val_main_v125, ref_dy]
  rfl

/-- The cotangent of the mixed tokens, cut into chunks and heads. -/
theorem ref_dz (c : Fin 16) (t : Fin 128) (h : Fin 4) (d : Fin 128) :
    val_main_v150 (F := Ideal) A.x A.mod A.g A.w A.wo A.ct (ix5 (n0 := 1) (n1 := 16) (n2 := 128) (n3 := 4) (n4 := 128) 0 c t h d)
      = dzAt A ⟨c.val * 128 + t.val, by omega⟩ ⟨h.val * 128 + d.val, by omega⟩ := by
  unfold dzAt
  rw [mul_comm]
  pointwise [val_main_v150, val_main_v149, val_main_v126, ref_gu, ref_dcat]

/-- The gradient of the biases. -/
theorem ref_dbs (h : Fin 4) (t : Fin 128) :
    val_main_v154 (F := Ideal) A.x A.mod A.g A.w A.wo A.ct (ix2 (n0 := 4) (n1 := 128) h t) = dbsAt A h t := by
  unfold dbsAt
  pointwise [val_main_v154, val_main_v153, val_main_cst_29, sum_unit014, val_main_v152, val_main_v151, val_main_cst_28, sum_axes14, ref_dz]

/-- The gradient of the biases, along the lanes. -/
theorem ref_dbs_out (h : Fin 4) (t s : Fin 128) :
    val_main_v175 (F := Ideal) A.x A.mod A.g A.w A.wo A.ct (ix3 (n0 := 4) (n1 := 128) (n2 := 128) h t s) = dbsAt A h t := by
  pointwise [val_main_v175, val_main_v174, ref_dbs]

/-- The mixed tokens. -/
theorem ref_z (n : Fin 2048) (j : Fin 512) :
    val_main_v91 (F := Ideal) A.x A.mod A.g A.w A.nv A.ws A.bs (ix3 (n0 := 1) (n1 := 2048) (n2 := 512) 0 n j) = zAt A n j := by
  unfold zAt
  pointwise [val_main_v91, val_main_v90, val_main_v89, val_main_v88, val_main_v87, val_main_v86, val_main_v85, ref_ws, ref_vn]
  refine congrArg (· + _) (Finset.sum_congr rfl fun s _ => (mul_comm _ _).trans ?_)
  exact congrArg (fun k => _ * vnAt A _ k) (Fin.ext (by dsimp only; omega))

/-- The cotangent of the layer norm. -/
theorem ref_dvn (n : Fin 2048) (j : Fin 512) :
    val_main_v161 (F := Ideal) A.x A.mod A.g A.w A.ws A.wo A.ct (ix3 (n0 := 1) (n1 := 2048) (n2 := 512) 0 n j) = dvnAt A n j := by
  unfold dvnAt
  pointwise [val_main_v161, val_main_v158, val_main_v157, val_main_v155, ref_ws, ref_dz]
  refine Finset.sum_congr rfl fun s _ => (mul_comm _ _).trans ?_
  exact congrArg (fun k => _ * dzAt A _ k) (Fin.ext (by dsimp only; omega))

/-- The gradient of the layer norm's weight, in the first of eight rows. -/
theorem ref_dnv (r : Fin 8) (j : Fin 512) :
    val_main_v173 (F := Ideal) A.x A.mod A.g A.w A.ws A.wo A.ct (ix2 (n0 := 8) (n1 := 512) r j) = if r.val = 0 then dnvAt A j else 0 := by
  unfold dnvAt
  pointwise [val_main_v173, val_main_v172, val_main_cst_32, val_main_v171, val_main_v165, val_main_cst_31, sum_unit01, val_main_v164, val_main_v163, val_main_cst_30,
    val_main_v162, ref_vh, ref_dvn]
  simp only [Nat.lt_one_iff, mul_comm, dite_eq_ite]

/-- The gradient of the weights over the tokens. -/
theorem ref_dws (h : Fin 4) (t s : Fin 128) :
    val_main_v160 (F := Ideal) A.x A.mod A.g A.w A.nv A.wo A.ct (ix3 (n0 := 4) (n1 := 128) (n2 := 128) h t s) = if s.val ≤ t.val then dwsAt A h t s else 0 := by
  have e : val_main_v156 (F := Ideal) A.x A.mod A.g A.w A.nv A.wo A.ct (ix3 (n0 := 4) (n1 := 128) (n2 := 128) h t s) = dwsAt A h t s := by
    unfold val_main_v156 dwsAt
    refine (Ideal.dotGeneral_apply _ _ _ _ _ _).trans (sum_axes_of (congrArg (Shape.mk 3) (funext fun a => by fin_cases a <;> rfl)) _ _ fun k c d h1 h2 => ?_)
    refine congrArg₂ (· * ·) ?_ ?_
    · refine Eq.trans (congrArg _ (?_ : _ = ix5 (n0 := 4) (n1 := 1) (n2 := 16) (n3 := 128) (n4 := 128) h 0 c d t)) ?_
      · funext a; apply Fin.ext
        match a with
        | ⟨0, _⟩ => rfl
        | ⟨1, _⟩ => exact congrArg Fin.val (Fin.eq_zero (show Fin 1 from k ⟨0, by decide⟩))
        | ⟨2, _⟩ => exact h1 (by decide)
        | ⟨3, _⟩ => exact h2 (by decide)
        | ⟨4, _⟩ => rfl
      · pointwise [val_main_v155, ref_dz]
    · refine Eq.trans (congrArg _ (?_ : _ = ix5 (n0 := 1) (n1 := 16) (n2 := 128) (n3 := 4) (n4 := 128) 0 c s h d)) (ref_vn A c s h d)
      funext a; apply Fin.ext
      match a with
      | ⟨0, _⟩ => exact congrArg Fin.val (Fin.eq_zero (show Fin 1 from k ⟨0, by decide⟩))
      | ⟨1, _⟩ => exact h1 (by decide)
      | ⟨2, _⟩ => rfl
      | ⟨3, _⟩ => rfl
      | ⟨4, _⟩ => exact h2 (by decide)
  pointwise [val_main_v160, val_main_v159, val_main_v82, ref_mask, e]
  split_ifs <;> simp

/-- The short convolution's input, `k` rows earlier. -/
theorem ref_xb (n : Fin 2048) (j : Fin 512) :
    val_main_v98 (F := Ideal) A.x A.mod A.g A.w (ix3 (n0 := 1) (n1 := 2048) (n2 := 512) 0 n j) = xbAt A 2 n j
      ∧ val_main_v104 (F := Ideal) A.x A.mod A.g A.w (ix3 (n0 := 1) (n1 := 2048) (n2 := 512) 0 n j) = xbAt A 1 n j
      ∧ val_main_v111 (F := Ideal) A.x A.mod A.g A.w (ix3 (n0 := 1) (n1 := 2048) (n2 := 512) 0 n j) = xbAt A 0 n j := by
  unfold xbAt xp
  refine ⟨?_, ?_, ?_⟩
  · pointwise [val_main_v98, val_main_v95, val_main_v94, val_main_cst_18, val_main_v93, val_main_v30, val_main_v31, ref_proj]
  · pointwise [val_main_v104, val_main_v95, val_main_v94, val_main_cst_18, val_main_v93, val_main_v30, val_main_v31, ref_proj]
    by_cases h : n.val < 1
    · rw [dif_pos h, dif_pos (by omega)]
    · rw [dif_neg h, dif_neg (by omega)]
      have e : (⟨1 + n.val - 2, by omega⟩ : Fin 2048) = ⟨n.val - 1, by omega⟩ := Fin.ext (by dsimp only; omega)
      rw [e]
  · pointwise [val_main_v111, val_main_v95, val_main_v94, val_main_cst_18, val_main_v93, val_main_v30, val_main_v31, ref_proj]
    rw [dif_neg (Nat.not_lt_zero _)]

/-- The two halves side by side. -/
theorem ref_cat (n : Fin 2048) (k : Fin 1024) :
    val_main_v117 (F := Ideal) A.x A.mod A.g A.w A.nv A.ws A.bs A.cw (ix3 (n0 := 1) (n1 := 2048) (n2 := 1024) 0 n k) = catAt A n k := by
  unfold catAt convAt
  pointwise [val_main_v117, val_main_v92, val_main_v116, val_main_v115, val_main_v114, val_main_v113, val_main_v112, val_main_v110, val_main_v109, val_main_v108,
    val_main_v107, val_main_v106, val_main_v105, val_main_v103, val_main_v102, val_main_v101, val_main_v100, val_main_v99, val_main_v97, val_main_v96, val_main_v29,
    (ref_xb A _ _).1, (ref_xb A _ _).2.1, (ref_xb A _ _).2.2, ref_gu, ref_z, ref_proj]

/-- The two halves in four column blocks. -/
theorem ref_cat_out (a : Fin 4) (n : Fin 2048) (k : Fin 256) :
    val_main_v168 (F := Ideal) A.x A.mod A.g A.w A.nv A.ws A.bs A.cw (ix3 (n0 := 4) (n1 := 2048) (n2 := 256) a n k) = catAt A n ⟨a.val * 256 + k.val, by omega⟩ := by
  pointwise [val_main_v168, val_main_v167, val_main_v166, ref_cat]

/-- The cotangent of the product with the last weight, as a matrix. -/
theorem ref_dy_out (n : Fin 2048) (l : Fin 1024) : val_main_v170 (F := Ideal) A.mod A.ct (ix2 (n0 := 2048) (n1 := 1024) n l) = dyAt A n l := by
  pointwise [val_main_v170, val_main_v169, ref_dy]

/-- The gradient of the short convolution's weight, in the first three of eight rows. -/
theorem ref_dcw (r : Fin 8) (j : Fin 512) :
    val_main_v177 (F := Ideal) A.x A.mod A.g A.w A.wo A.ct (ix2 (n0 := 8) (n1 := 512) r j)
      = if r.val = 0 then dcwAt A 2 j else if r.val = 1 then dcwAt A 1 j else if r.val = 2 then dcwAt A 0 j else 0 := by
  unfold dcwAt
  pointwise [val_main_v177, val_main_v176, val_main_cst_33, val_main_v148, val_main_v147, val_main_cst_27, val_main_v146, val_main_v145, val_main_cst_26, sum_unit01,
    val_main_v144, val_main_v143, val_main_cst_25, val_main_v142, val_main_v141, val_main_v140, val_main_cst_24, val_main_v139, val_main_v138, val_main_cst_23,
    val_main_v137, val_main_v136, val_main_cst_22, val_main_v135, val_main_v134, val_main_cst_21, val_main_v133, val_main_v132, val_main_cst_20, val_main_v131,
    val_main_v130, val_main_cst_19, val_main_v129, val_main_v128, val_main_v127, val_main_v29,
    (ref_xb A _ _).1, (ref_xb A _ _).2.1, (ref_xb A _ _).2.2, ref_dcat, ref_proj]
  simp only [mul_comm (projAt A _ _) (dcatAt A _ _)]
  fin_vals r with h
  all_goals simp [h]

end Cert.Ab

end
-- ==== Proof.Ab.Claim.lean ====
/- The claim that the kernel `Ab` and its reference end with equal results. -/
module

public import proofs.«01_k».proof.Defs
public import proofs.«01_k».proof.Proof.Ab.Final
public import proofs.«01_k».proof.Proof.Ab.RefPoint
public import proofs.«01_k».proof.Proof.Gen.AbRefIdeal.Run

@[expose] public section

set_option maxRecDepth 16384

noncomputable section

open Idealize.ShloMosaic Idealize.ShloMosaic.TcCoe Idealize.SL.Sem

namespace Cert.Ab.Claims

open Cert.Ab Cert.Common Cert.AbRefIdeal.Read

set_option maxHeartbeats 4000000 in
/-- From the same arguments, whatever they are, the kernel and the reference end with equal results. -/
theorem algebraic : Cert.algebraic_AbIdeal_AbRefIdeal := by
  pair_intro
  · run_from Cert.AbIdeal.Gen.run_main m g
    all_goals first
      | exact hc.1 16
      | exact hc.1 17
      | exact hc.1 18
      | skip
    all_goals
      simp only [Cert.AbIdeal.Gen.hostOps0, Cert.AbIdeal.Gen.hostOps0_1, Cert.AbIdeal.Gen.hostOps0_2, List.flatten_cons, List.flatten_nil,
        List.append_nil, List.cons_append, List.nil_append]
      after_results
  · refine (θ_run _ _ _).mono (fun r h c => ?_) (Cert.AbRefIdeal.Value.run m' g')
    obtain ⟨h0, h1, h2, h3, h4, h5, hargs⟩ := h c
    obtain ⟨a0, a1, a2, a3, a4, a5, a6, a7, a8, a9⟩ := hagree c
    have b0 : StableHlo.launchContents m' c (Proc.devRef .tc Cert.AbRefIdeal.main_arg0) = (args m c).x := a0
    have b1 : StableHlo.launchContents m' c (Proc.devRef .tc Cert.AbRefIdeal.main_arg1) = (args m c).mod := a1
    have b2 : StableHlo.launchContents m' c (Proc.devRef .tc Cert.AbRefIdeal.main_arg2) = (args m c).g := a2
    have b3 : StableHlo.launchContents m' c (Proc.devRef .tc Cert.AbRefIdeal.main_arg3) = (args m c).w := a3
    have b4 : StableHlo.launchContents m' c (Proc.devRef .tc Cert.AbRefIdeal.main_arg4) = (args m c).nv := a4
    have b5 : StableHlo.launchContents m' c (Proc.devRef .tc Cert.AbRefIdeal.main_arg5) = (args m c).ws := a5
    have b6 : StableHlo.launchContents m' c (Proc.devRef .tc Cert.AbRefIdeal.main_arg6) = (args m c).bs := a6
    have b7 : StableHlo.launchContents m' c (Proc.devRef .tc Cert.AbRefIdeal.main_arg7) = (args m c).cw := a7
    have b8 : StableHlo.launchContents m' c (Proc.devRef .tc Cert.AbRefIdeal.main_arg8) = (args m c).wo := a8
    have b9 : StableHlo.launchContents m' c (Proc.devRef .tc Cert.AbRefIdeal.main_arg9) = (args m c).ct := a9
    refine ⟨h0.trans ((val_main_v168_eq _).trans (Eq.trans ?_ (final12 m c).symm)),
      h1.trans ((val_main_v170_eq _).trans (Eq.trans ?_ (final13 m c).symm)),
      h2.trans ((val_main_v173_eq _).trans (Eq.trans ?_ (final15 m c).symm)),
      h3.trans ((val_main_v160_eq _).trans (Eq.trans ?_ (final16 m c).symm)),
      h4.trans ((val_main_v175_eq _).trans (Eq.trans ?_ (final17 m c).symm)),
      h5.trans ((val_main_v177_eq _).trans (Eq.trans ?_ (final18 m c).symm)), hargs⟩
    · funext y
      idx_vars y
      refine Eq.trans ?_ (ref_cat_out (args m c) y0 y1 y2)
      rw [b0, b1, b2, b3, b4, b5, b6, b7]
    · funext y
      idx_vars y
      refine Eq.trans ?_ (ref_dy_out (args m c) y0 y1)
      rw [b1, b9]
    · funext y
      idx_vars y
      refine Eq.trans ?_ (ref_dnv (args m c) y0 y1)
      rw [b0, b1, b2, b3, b5, b8, b9]
    · funext y
      idx_vars y
      refine Eq.trans ?_ (ref_dws (args m c) y0 y1 y2)
      rw [b0, b1, b2, b3, b4, b8, b9]
    · funext y
      idx_vars y
      refine Eq.trans ?_ (ref_dbs_out (args m c) y0 y1 y2)
      rw [b0, b1, b2, b3, b8, b9]
    · funext y
      idx_vars y
      refine Eq.trans ?_ (ref_dcw (args m c) y0 y1)
      rw [b0, b1, b2, b3, b8, b9]

end Cert.Ab.Claims

end
-- ==== Proof.Ab.Ref.lean ====
/- The frame of the reference of `Ab`. -/
module

public import proofs.«01_k».proof.Defs
public import proofs.«01_k».proof.Proof.Gen.AbRefIdeal
public import Idealize.ShloMosaic.Lib.Claim

@[expose] public section

set_option maxRecDepth 16384

namespace Cert.AbRefIdeal.Gen
open Idealize.ShloMosaic Idealize.SL.Sem

set_option maxHeartbeats 8000000 in
/-- Every execution of the reference ends, faults nowhere and leaves the arguments as they were. -/
theorem frame : Cert.quiescent_AbRefIdeal := by
  intro m g _
  hlo_run
  · intro c
    simp only [and_self]
  · refine sem_eq_zero_of_no_sems ?_ _
    decide

end Cert.AbRefIdeal.Gen
-- ==== Proof.Pool.Bits.lean ====
/- The frame of `Pool` as it is printed, over machine words. -/
module

public import proofs.«01_k».proof.Defs
public import proofs.«01_k».proof.Proof.Gen.Pool
public import proofs.«01_k».proof.Proof.Gen.PoolIdeal.Frame
public import Idealize.ShloMosaic.Lib.Tactic.ProgEq

@[expose] public section

set_option maxRecDepth 16384

namespace Cert.Pool.Gen
open Idealize.ShloMosaic Idealize.SL.Sem

/-- Every execution of the printed program ends, faults nowhere, leaves the arguments as they were and every semaphore at zero:
    the run of the idealized program, whose text is the same, read over machine words. -/
theorem frame : Cert.quiescent_Pool := by
  have h := fun m g (_ : True) => Cert.PoolIdeal.Gen.frame (F := Bits) m g
  have e : type_of% h = Cert.quiescent_Pool := by sl_kernel_rfl
  exact e.mp h

end Cert.Pool.Gen
-- ==== Proof.Pool.Ref.lean ====
/- The frame of the reference of `Pool`. -/
module

public import proofs.«01_k».proof.Defs
public import proofs.«01_k».proof.Proof.Gen.PoolRefIdeal
public import Idealize.ShloMosaic.Lib.Claim

@[expose] public section

set_option maxRecDepth 16384

namespace Cert.PoolRefIdeal.Gen
open Idealize.ShloMosaic Idealize.SL.Sem

set_option maxHeartbeats 8000000 in
/-- Every execution of the reference ends, faults nowhere and leaves the arguments as they were. -/
theorem frame : Cert.quiescent_PoolRefIdeal := by
  intro m g _
  hlo_run
  · intro c
    simp only [and_self]
  · refine sem_eq_zero_of_no_sems ?_ _
    decide

end Cert.PoolRefIdeal.Gen
-- ==== Proof.Fwd.RunA.lean ====
/- The body of `Fwd` at a first point of its grid. -/
module

public import proofs.«01_k».proof.Proof.Gen.FwdIdeal.Frame.Runs

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in set_option sl_exec.rejoinHeartbeats 400000 in
/-- The body at a first point, run: the pieces it stores into each output and scratch. -/
noncomputable def kernelRun0_A (c : Dev nD) (i : grid0.Coords) (arg1 : Memref sig .tc .vmem S256x1024 .f32) (harg1 : arg1.IsWhole) (arg2 : Memref sig .tc .vmem S8x1024 .f32) (harg2 : arg2.IsWhole) (arg5 : Memref sig .tc .vmem S256x1024 .f32) (harg5 : arg5.IsWhole) (arg6 : Memref sig .tc .vmem S256x1024 .bf16) (harg6 : arg6.IsWhole) (arg7 : Memref sig .tc .vmem S11x256x256 .bf16) (harg7 : arg7.IsWhole) (arg8 : Memref sig .tc .vmem S11x256x256 .bf16) (harg8 : arg8.IsWhole) (arg9 : Memref sig .tc .vmem S256x1024 .f32) (harg9 : arg9.IsWhole) (arg10 : Memref sig .tc .vmem S11x256x256 .bf16) (harg10 : arg10.IsWhole) (arg11 : Memref sig .tc .vmem S5632x1024 .bf16) (harg11 : arg11.IsWhole) (arg12 : Memref sig .tc .vmem S2816x1024 .bf16) (harg12 : arg12.IsWhole) (arg13 : Memref sig .tc .vmem S256x2816 .bf16) (harg13 : arg13.IsWhole) (hc0 : cond0_0 i)
    (x0 : Vec F S256x1024 .f32) (x1 : Vec F S8x1024 .f32) (fh0 : HbBuf0 (F := F) c hbM0_0) (fh1 : HbBuf0 (F := F) c hbM0_1) :
    Σ' (L2 : List (View.Piece (Elt F) S256x1024 .f32)), Σ' (L3 : List (View.Piece (Elt F) S256x1024 .bf16)), Σ' (L4 : List (View.Piece (Elt F) S11x256x256 .bf16)), Σ' (L5 : List (View.Piece (Elt F) S11x256x256 .bf16)), Σ' (L6 : List (View.Piece (Elt F) S256x1024 .f32)), Σ' (L7 : List (View.Piece (Elt F) S11x256x256 .bf16)), Σ' (LS0 : List (View.Piece (Elt F) S5632x1024 .bf16)), Σ' (LS1 : List (View.Piece (Elt F) S2816x1024 .bf16)), { LT2 : List (View.Piece (Elt F) S256x2816 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LT2) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_0 i arg1 harg1 arg2 harg2 (Memref.whole main_v7) (Memref.isWhole_whole _) (Memref.whole main_v9) (Memref.isWhole_whole _) arg5 harg5 arg6 harg6 arg7 harg7 arg8 harg8 arg9 harg9 arg10 harg10 arg11 harg11 arg12 harg12 arg13 harg13 cc0_scratch3) K } := by
  refine ⟨?_, ?_, ?_, ?_, ?_, ?_, ?_, ?_, ?_, fun W K => ?run⟩
  case run =>
    simp only [cc0_ffn_fwd_0_eq_skeleton]; unfold cc0_ffn_fwd_0_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.FwdIdeal.Gen

end
-- ==== Proof.Fwd.RunB.lean ====
/- The body of `Fwd` at a later point of its grid. -/
module

public import proofs.«01_k».proof.Proof.Gen.FwdIdeal.Frame.Runs

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a later point, run: the pieces it stores into each output and scratch. -/
noncomputable def kernelRun0_B (c : Dev nD) (i : grid0.Coords) (arg1 : Memref sig .tc .vmem S256x1024 .f32) (harg1 : arg1.IsWhole) (arg2 : Memref sig .tc .vmem S8x1024 .f32) (harg2 : arg2.IsWhole) (arg5 : Memref sig .tc .vmem S256x1024 .f32) (harg5 : arg5.IsWhole) (arg6 : Memref sig .tc .vmem S256x1024 .bf16) (harg6 : arg6.IsWhole) (arg7 : Memref sig .tc .vmem S11x256x256 .bf16) (harg7 : arg7.IsWhole) (arg8 : Memref sig .tc .vmem S11x256x256 .bf16) (harg8 : arg8.IsWhole) (arg9 : Memref sig .tc .vmem S256x1024 .f32) (harg9 : arg9.IsWhole) (arg10 : Memref sig .tc .vmem S11x256x256 .bf16) (harg10 : arg10.IsWhole) (arg11 : Memref sig .tc .vmem S5632x1024 .bf16) (harg11 : arg11.IsWhole) (arg12 : Memref sig .tc .vmem S2816x1024 .bf16) (harg12 : arg12.IsWhole) (arg13 : Memref sig .tc .vmem S256x2816 .bf16) (harg13 : arg13.IsWhole) (hc0 : ¬cond0_0 i)
    (x0 : Vec F S256x1024 .f32) (x1 : Vec F S8x1024 .f32) (xs0 : Vec F S5632x1024 .bf16) (xs1 : Vec F S2816x1024 .bf16) (fh0 : HbBuf0 (F := F) c hbM0_0) (fh1 : HbBuf0 (F := F) c hbM0_1) :
    Σ' (L2 : List (View.Piece (Elt F) S256x1024 .f32)), Σ' (L3 : List (View.Piece (Elt F) S256x1024 .bf16)), Σ' (L4 : List (View.Piece (Elt F) S11x256x256 .bf16)), Σ' (L5 : List (View.Piece (Elt F) S11x256x256 .bf16)), Σ' (L6 : List (View.Piece (Elt F) S256x1024 .f32)), Σ' (L7 : List (View.Piece (Elt F) S11x256x256 .bf16)), Σ' (LS0 : List (View.Piece (Elt F) S5632x1024 .bf16)), Σ' (LS1 : List (View.Piece (Elt F) S2816x1024 .bf16)), { LT2 : List (View.Piece (Elt F) S256x2816 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ f, arg13.view.loc (c : Thread nD τ) ↦[arg13.view.set]{fullShare} arg13.view.writes (Elt F) f LT2) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_0 i arg1 harg1 arg2 harg2 (Memref.whole main_v7) (Memref.isWhole_whole _) (Memref.whole main_v9) (Memref.isWhole_whole _) arg5 harg5 arg6 harg6 arg7 harg7 arg8 harg8 arg9 harg9 arg10 harg10 arg11 harg11 arg12 harg12 arg13 harg13 cc0_scratch3) K } := by
  refine ⟨?_, ?_, ?_, ?_, ?_, ?_, [], [], ?_, fun W K => ?run⟩
  case run =>
    simp only [cc0_ffn_fwd_0_eq_skeleton]; unfold cc0_ffn_fwd_0_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg11.eq_unread hfs0; obtain rfl := harg12.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.FwdIdeal.Gen

end
-- ==== Proof.Fwd.Frame.lean ====
/- The frame of the program `Fwd`, for any arithmetic: two cases of the grid point (the first, a later one), the
   contents each leaves, and the run of the launch. -/
module

public import proofs.«01_k».proof.Proof.Fwd.RunA
public import proofs.«01_k».proof.Proof.Fwd.RunB
public import Idealize.ShloMosaic.Lib.Claim

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The contents carried from one point to the next: the outputs in window order, then the scratch. -/
abbrev Outs (F : FTy → Type) : Type := Vec F S256x1024 .f32 × Vec F S256x1024 .bf16 × Vec F S11x256x256 .bf16 × Vec F S11x256x256 .bf16 × Vec F S256x1024 .f32 × Vec F S11x256x256 .bf16 × Vec F S5632x1024 .bf16 × Vec F S2816x1024 .bf16

variable (m : (ℓ : Loc nD τ sig) → Buf (Elt F) ℓ) (ρ : Dev nD → PrngReg)

/-- The case A run of the body at point `t`, at the memrefs and input blocks of that point. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (V m c main_v7) (V m c main_v9)

/-- The case B run of the body at point `t`, at the memrefs and input blocks of that point. -/
abbrev runB (c : Dev nD) (t : Fin cfg0.N) (h0 : ¬t.val % 8 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) p.2.2.2.2.2.2.1 p.2.2.2.2.2.2.2 (V m c main_v7) (V m c main_v9)

theorem coverA_2 (c : Dev nD) (t : Fin cfg0.N) (h0 : t.val % 8 = 0) (y : S256x1024.Idx) :
    ∃ pc ∈ (runA m c t h0).1, y ∈ pc.1.set :=
  View.cover_of_tiledL (runA m c t h0).1 S256x1024.size (by sl_kernel_rfl) y

def outA_2 (c : Dev nD) (t : Fin cfg0.N) (h0 : t.val % 8 = 0) : Vec F S256x1024 .f32 :=
  VO0_2.read (Elt F) (VO0_2.writes (Elt F) VO0_2.junk (runA m c t h0).1)

theorem coverA_3 (c : Dev nD) (t : Fin cfg0.N) (h0 : t.val % 8 = 0) (y : S256x1024.Idx) :
    ∃ pc ∈ (runA m c t h0).2.1, y ∈ pc.1.set :=
  View.cover_of_tiledL (runA m c t h0).2.1 S256x1024.size (by sl_kernel_rfl) y

def outA_3 (c : Dev nD) (t : Fin cfg0.N) (h0 : t.val % 8 = 0) : Vec F S256x1024 .bf16 :=
  VO0_3.read (Elt F) (VO0_3.writes (Elt F) VO0_3.junk (runA m c t h0).2.1)

theorem coverA_4 (c : Dev nD) (t : Fin cfg0.N) (h0 : t.val % 8 = 0) (y : S11x256x256.Idx) :
    ∃ pc ∈ (runA m c t h0).2.2.1, y ∈ pc.1.set :=
  View.cover_of_tiledL (runA m c t h0).2.2.1 S1x256x256.size (by sl_kernel_rfl) y

def outA_4 (c : Dev nD) (t : Fin cfg0.N) (h0 : t.val % 8 = 0) : Vec F S11x256x256 .bf16 :=
  VO0_4.read (Elt F) (VO0_4.writes (Elt F) VO0_4.junk (runA m c t h0).2.2.1)

theorem coverA_5 (c : Dev nD) (t : Fin cfg0.N) (h0 : t.val % 8 = 0) (y : S11x256x256.Idx) :
    ∃ pc ∈ (runA m c t h0).2.2.2.1, y ∈ pc.1.set :=
  View.cover_of_tiledL (runA m c t h0).2.2.2.1 S1x256x256.size (by sl_kernel_rfl) y

def outA_5 (c : Dev nD) (t : Fin cfg0.N) (h0 : t.val % 8 = 0) : Vec F S11x256x256 .bf16 :=
  VO0_5.read (Elt F) (VO0_5.writes (Elt F) VO0_5.junk (runA m c t h0).2.2.2.1)

theorem coverA_6 (c : Dev nD) (t : Fin cfg0.N) (h0 : t.val % 8 = 0) (y : S256x1024.Idx) :
    ∃ pc ∈ (runA m c t h0).2.2.2.2.1, y ∈ pc.1.set :=
  View.cover_of_tiledL (runA m c t h0).2.2.2.2.1 S256x1024.size (by sl_kernel_rfl) y

def outA_6 (c : Dev nD) (t : Fin cfg0.N) (h0 : t.val % 8 = 0) : Vec F S256x1024 .f32 :=
  VO0_6.read (Elt F) (VO0_6.writes (Elt F) VO0_6.junk (runA m c t h0).2.2.2.2.1)

theorem coverA_7 (c : Dev nD) (t : Fin cfg0.N) (h0 : t.val % 8 = 0) (y : S11x256x256.Idx) :
    ∃ pc ∈ (runA m c t h0).2.2.2.2.2.1, y ∈ pc.1.set :=
  View.cover_of_tiledL (runA m c t h0).2.2.2.2.2.1 S1x256x256.size (by sl_kernel_rfl) y

def outA_7 (c : Dev nD) (t : Fin cfg0.N) (h0 : t.val % 8 = 0) : Vec F S11x256x256 .bf16 :=
  VO0_7.read (Elt F) (VO0_7.writes (Elt F) VO0_7.junk (runA m c t h0).2.2.2.2.2.1)

theorem scoverA_0 (c : Dev nD) (t : Fin cfg0.N) (h0 : t.val % 8 = 0) (y : S5632x1024.Idx) :
    ∃ pc ∈ (runA m c t h0).2.2.2.2.2.2.1, y ∈ pc.1.set :=
  View.cover_of_tiledL (runA m c t h0).2.2.2.2.2.2.1 S704x1024.size (by sl_kernel_rfl) y

def soutA_0 (c : Dev nD) (t : Fin cfg0.N) (h0 : t.val % 8 = 0) : Vec F S5632x1024 .bf16 :=
  VS0_0.read (Elt F) (VS0_0.writes (Elt F) VS0_0.junk (runA m c t h0).2.2.2.2.2.2.1)

theorem scoverA_1 (c : Dev nD) (t : Fin cfg0.N) (h0 : t.val % 8 = 0) (y : S2816x1024.Idx) :
    ∃ pc ∈ (runA m c t h0).2.2.2.2.2.2.2.1, y ∈ pc.1.set :=
  View.cover_of_tiledL (runA m c t h0).2.2.2.2.2.2.2.1 S352x1024.size (by sl_kernel_rfl) y

def soutA_1 (c : Dev nD) (t : Fin cfg0.N) (h0 : t.val % 8 = 0) : Vec F S2816x1024 .bf16 :=
  VS0_1.read (Elt F) (VS0_1.writes (Elt F) VS0_1.junk (runA m c t h0).2.2.2.2.2.2.2.1)

theorem coverB_2 (c : Dev nD) (t : Fin cfg0.N) (h0 : ¬t.val % 8 = 0) (p : Outs F) (y : S256x1024.Idx) :
    ∃ pc ∈ (runB m c t h0 p).1, y ∈ pc.1.set :=
  View.cover_of_tiledL (runB m c t h0 p).1 S256x1024.size (by sl_kernel_rfl) y

def outB_2 (c : Dev nD) (t : Fin cfg0.N) (h0 : ¬t.val % 8 = 0) (p : Outs F) : Vec F S256x1024 .f32 :=
  VO0_2.read (Elt F) (VO0_2.writes (Elt F) VO0_2.junk (runB m c t h0 p).1)

theorem coverB_3 (c : Dev nD) (t : Fin cfg0.N) (h0 : ¬t.val % 8 = 0) (p : Outs F) (y : S256x1024.Idx) :
    ∃ pc ∈ (runB m c t h0 p).2.1, y ∈ pc.1.set :=
  View.cover_of_tiledL (runB m c t h0 p).2.1 S256x1024.size (by sl_kernel_rfl) y

def outB_3 (c : Dev nD) (t : Fin cfg0.N) (h0 : ¬t.val % 8 = 0) (p : Outs F) : Vec F S256x1024 .bf16 :=
  VO0_3.read (Elt F) (VO0_3.writes (Elt F) VO0_3.junk (runB m c t h0 p).2.1)

theorem coverB_4 (c : Dev nD) (t : Fin cfg0.N) (h0 : ¬t.val % 8 = 0) (p : Outs F) (y : S11x256x256.Idx) :
    ∃ pc ∈ (runB m c t h0 p).2.2.1, y ∈ pc.1.set :=
  View.cover_of_tiledL (runB m c t h0 p).2.2.1 S1x256x256.size (by sl_kernel_rfl) y

def outB_4 (c : Dev nD) (t : Fin cfg0.N) (h0 : ¬t.val % 8 = 0) (p : Outs F) : Vec F S11x256x256 .bf16 :=
  VO0_4.read (Elt F) (VO0_4.writes (Elt F) VO0_4.junk (runB m c t h0 p).2.2.1)

theorem coverB_5 (c : Dev nD) (t : Fin cfg0.N) (h0 : ¬t.val % 8 = 0) (p : Outs F) (y : S11x256x256.Idx) :
    ∃ pc ∈ (runB m c t h0 p).2.2.2.1, y ∈ pc.1.set :=
  View.cover_of_tiledL (runB m c t h0 p).2.2.2.1 S1x256x256.size (by sl_kernel_rfl) y

def outB_5 (c : Dev nD) (t : Fin cfg0.N) (h0 : ¬t.val % 8 = 0) (p : Outs F) : Vec F S11x256x256 .bf16 :=
  VO0_5.read (Elt F) (VO0_5.writes (Elt F) VO0_5.junk (runB m c t h0 p).2.2.2.1)

theorem coverB_6 (c : Dev nD) (t : Fin cfg0.N) (h0 : ¬t.val % 8 = 0) (p : Outs F) (y : S256x1024.Idx) :
    ∃ pc ∈ (runB m c t h0 p).2.2.2.2.1, y ∈ pc.1.set :=
  View.cover_of_tiledL (runB m c t h0 p).2.2.2.2.1 S256x1024.size (by sl_kernel_rfl) y

def outB_6 (c : Dev nD) (t : Fin cfg0.N) (h0 : ¬t.val % 8 = 0) (p : Outs F) : Vec F S256x1024 .f32 :=
  VO0_6.read (Elt F) (VO0_6.writes (Elt F) VO0_6.junk (runB m c t h0 p).2.2.2.2.1)

theorem coverB_7 (c : Dev nD) (t : Fin cfg0.N) (h0 : ¬t.val % 8 = 0) (p : Outs F) (y : S11x256x256.Idx) :
    ∃ pc ∈ (runB m c t h0 p).2.2.2.2.2.1, y ∈ pc.1.set :=
  View.cover_of_tiledL (runB m c t h0 p).2.2.2.2.2.1 S1x256x256.size (by sl_kernel_rfl) y

def outB_7 (c : Dev nD) (t : Fin cfg0.N) (h0 : ¬t.val % 8 = 0) (p : Outs F) : Vec F S11x256x256 .bf16 :=
  VO0_7.read (Elt F) (VO0_7.writes (Elt F) VO0_7.junk (runB m c t h0 p).2.2.2.2.2.1)

def soutB_0 (m : (ℓ : Loc nD τ sig) → Buf (Elt F) ℓ) (c : Dev nD) (t : Fin cfg0.N) (h0 : ¬t.val % 8 = 0) (p : Outs F) : Vec F S5632x1024 .bf16 :=
  (p.2.2.2.2.2.2.1)

def soutB_1 (m : (ℓ : Loc nD τ sig) → Buf (Elt F) ℓ) (c : Dev nD) (t : Fin cfg0.N) (h0 : ¬t.val % 8 = 0) (p : Outs F) : Vec F S2816x1024 .bf16 :=
  (p.2.2.2.2.2.2.2)

/-- What the outputs and the carried scratch hold after a point of case A. -/
def outsA (c : Dev nD) (t : Fin cfg0.N) (h0 : t.val % 8 = 0) : Outs F :=
  (outA_2 m c t h0, outA_3 m c t h0, outA_4 m c t h0, outA_5 m c t h0, outA_6 m c t h0, outA_7 m c t h0, soutA_0 m c t h0, soutA_1 m c t h0)

/-- What the outputs and the carried scratch hold after a point of case B. -/
def outsB (c : Dev nD) (t : Fin cfg0.N) (h0 : ¬t.val % 8 = 0) (p : Outs F) : Outs F :=
  (outB_2 m c t h0 p, outB_3 m c t h0 p, outB_4 m c t h0 p, outB_5 m c t h0 p, outB_6 m c t h0 p, outB_7 m c t h0 p, soutB_0 m c t h0 p, soutB_1 m c t h0 p)

/-- What the outputs and the carried scratch hold after point `n`, each point over what the one before left. -/
def outsAt0 (c : Dev nD) : (n : ℕ) → n < cfg0.N → Outs F
  | 0, hn => outsA m c ⟨0, hn⟩ (Nat.zero_mod _)
  | n + 1, hn =>
    if h0 : (n + 1) % 8 = 0 then
      False.elim (by have hN : n + 1 < 8 := lt_of_lt_of_eq hn (show cfg0.N = 8 from N_0); omega)
    else outsB m c ⟨n + 1, hn⟩ h0 (outsAt0 c n (Nat.lt_of_succ_lt hn))

theorem outsAt0_A (c : Dev nD) (t : Fin cfg0.N) (h0 : t.val % 8 = 0) : outsAt0 m c t.val t.isLt = outsA m c t h0 := by
  obtain ⟨n, hn⟩ := t
  cases n with
  | zero => exact rfl
  | succ n => exfalso; have hN : n + 1 < 8 := lt_of_lt_of_eq hn (show cfg0.N = 8 from N_0); dsimp only at h0; omega

theorem outsAt0_B (c : Dev nD) (t : Fin cfg0.N) (h0 : ¬t.val % 8 = 0) :
    outsAt0 m c t.val t.isLt = outsB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- The invariant after a point that left `p`: the carried scratch at `p`, the other scratch at anything, the register, the
    copies' semaphores at zero and the operand left in HBM. -/
def PhiP (c : Dev nD) (p : Outs F) : sProp 𝕄 :=
  iprop(iprop(owns (c : Thread nD τ) scM0_0 fullShare (p.2.2.2.2.2.2.1) ∗ owns (c : Thread nD τ) scM0_1 fullShare (p.2.2.2.2.2.2.2) ∗ (∃ d, owns (c : Thread nD τ) scM0_2 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v7) ∗ hbPt0 c hbM0_1 (V m c main_v9)))

def PhiS (c : Dev nD) : (n : ℕ) → n ≤ cfg0.N → sProp 𝕄
  | 0, _ => Pipeline.ΦD osem0 spec0 H0 (V m) c
  | n + 1, hn => PhiP m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = PhiP m c (outsAt0 m c n hn) := rfl

theorem PhiS_pos (c : Dev nD) (n : ℕ) (h : n ≤ cfg0.N) (hz : n ≠ 0) :
    PhiS m c n h = PhiP m c (outsAt0 m c (n - 1) (by omega)) := by
  cases n with
  | zero => exact absurd rfl hz
  | succ n => rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2.1
    | ⟨7, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2.1 := by dsimp only [dats]
theorem after0_7 (c : Dev nD) (t : Fin cfg0.N) : (dats m 0 c).after 7 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: it is handed the input blocks and the carried scratch as the point before left it, and leaves this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4, after0_5, after0_6, after0_7]
  unfold PhiP
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      unfold outsA outA_2 outA_3 outA_4 outA_5 outA_6 outA_7 soutA_0 soutA_1; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2.2.2.2.2.2.2 W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [Hh1]; · iexact Hh1
      isplitl [HW]; · iexact HW
      iintro ⟨H0, H1, ⟨%e2, H2⟩, ⟨%e3, H3⟩, ⟨%e4, H4⟩, ⟨%e5, H5⟩, ⟨%e6, H6⟩, ⟨%e7, H7⟩, ⟨%es0, HS0⟩, ⟨%es1, HS1⟩, ⟨%fT2, HS2⟩, Hq0, Hq1, Hq2, Hq3, Hq4, Hq5, Hq6, Hq7, Hq8, Hq9, Hq10, Hq11, Hq12, Hq13, Hq14, Hq15, Hh0, Hh1, ⟨%W', HW'⟩⟩
      isplitl [HS0 HS1 HS2 Hg Hq0 Hq1 Hq2 Hq3 Hq4 Hq5 Hq6 Hq7 Hq8 Hq9 Hq10 Hq11 Hq12 Hq13 Hq14 Hq15 Hh0 Hh1]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          iexists _; unfold owns; iexists _; isplitr
          swap; · iexact HS2
          ipureintro; rfl
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (coverA_2 m c t h0)
      isplitl [H3]
      · unfold owns; iexists _; isplitr
        swap; · iexact H3
        ipureintro; exact View.read_writes_of_cover _ _ _ _ _ (coverA_3 m c t h0)
      isplitl [H4]
      · unfold owns; iexists _; isplitr
        swap; · iexact H4
        ipureintro; exact View.read_writes_of_cover _ _ _ _ _ (coverA_4 m c t h0)
      isplitl [H5]
      · unfold owns; iexists _; isplitr
        swap; · iexact H5
        ipureintro; exact View.read_writes_of_cover _ _ _ _ _ (coverA_5 m c t h0)
      isplitl [H6]
      · unfold owns; iexists _; isplitr
        swap; · iexact H6
        ipureintro; exact View.read_writes_of_cover _ _ _ _ _ (coverA_6 m c t h0)
      unfold owns; iexists _; isplitr
      swap; · iexact H7
      ipureintro; exact View.read_writes_of_cover _ _ _ _ _ (coverA_7 m c t h0)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      unfold PhiP
      rw [outsAt0_B m c t h0]
      unfold outsB outB_2 outB_3 outB_4 outB_5 outB_6 outB_7 soutB_0 soutB_1; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((runB m c t h0 _).2.2.2.2.2.2.2.2.2 W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hh0]; · iexact Hh0
      isplitl [Hh1]; · iexact Hh1
      isplitl [HW]; · iexact HW
      iintro ⟨H0, H1, ⟨%e2, H2⟩, ⟨%e3, H3⟩, ⟨%e4, H4⟩, ⟨%e5, H5⟩, ⟨%e6, H6⟩, ⟨%e7, H7⟩, HS0, HS1, ⟨%fT2, HS2⟩, Hq0, Hq1, Hq2, Hq3, Hq4, Hq5, Hq6, Hq7, Hq8, Hq9, Hq10, Hq11, Hq12, Hq13, Hq14, Hq15, Hh0, Hh1, ⟨%W', HW'⟩⟩
      isplitl [HS0 HS1 HS2 Hg Hq0 Hq1 Hq2 Hq3 Hq4 Hq5 Hq6 Hq7 Hq8 Hq9 Hq10 Hq11 Hq12 Hq13 Hq14 Hq15 Hh0 Hh1]
      · isplitl [HS0 HS1 HS2]
        · isplitl [HS0]; · iexact HS0
          isplitl [HS1]; · iexact HS1
          iexists _; unfold owns; iexists _; isplitr
          swap; · iexact HS2
          ipureintro; rfl
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          iexact Hq15
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (coverB_2 m c t h0 _)
      isplitl [H3]
      · unfold owns; iexists _; isplitr
        swap; · iexact H3
        ipureintro; exact View.read_writes_of_cover _ _ _ _ _ (coverB_3 m c t h0 _)
      isplitl [H4]
      · unfold owns; iexists _; isplitr
        swap; · iexact H4
        ipureintro; exact View.read_writes_of_cover _ _ _ _ _ (coverB_4 m c t h0 _)
      isplitl [H5]
      · unfold owns; iexists _; isplitr
        swap; · iexact H5
        ipureintro; exact View.read_writes_of_cover _ _ _ _ _ (coverB_5 m c t h0 _)
      isplitl [H6]
      · unfold owns; iexists _; isplitr
        swap; · iexact H6
        ipureintro; exact View.read_writes_of_cover _ _ _ _ _ (coverB_6 m c t h0 _)
      unfold owns; iexists _; isplitr
      swap; · iexact H7
      ipureintro; exact View.read_writes_of_cover _ _ _ _ _ (coverB_7 m c t h0 _)

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold PhiP
  iintro ⟨⟨HS0, HS1, HS2⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1 HS2]
  · isplitl [HS0]
    · iexists _; iexact HS0
    isplitl [HS1]
    · iexists _; iexact HS1
    iexact HS2
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 8 := N_0; omega)

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every weakly fair execution ends with the pipeline's arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FwdIdeal.Gen

end
-- ==== Proof.Fwd.Bits.lean ====
/- The frame of `Fwd` as it is printed, over machine words. -/
module

public import proofs.«01_k».proof.Defs
public import proofs.«01_k».proof.Proof.Gen.Fwd
public import proofs.«01_k».proof.Proof.Fwd.Frame
public import Idealize.ShloMosaic.Lib.Tactic.ProgEq

@[expose] public section

set_option maxRecDepth 16384

namespace Cert.Fwd.Gen
open Idealize.ShloMosaic Idealize.SL.Sem

/-- Every execution of the printed program ends, faults nowhere, leaves the arguments as they were and every semaphore at zero:
    the run of the idealized program, whose text is the same, read over machine words. -/
theorem frame : Cert.quiescent_Fwd := by
  have h := fun m g (_ : True) => Cert.FwdIdeal.Gen.frame (F := Bits) m g
  have e : type_of% h = Cert.quiescent_Fwd := by sl_kernel_rfl
  exact e.mp h

end Cert.Fwd.Gen
-- ==== Proof.Fwd.Parts.lean ====
/- The pieces that one grid point of the kernel `Fwd` stores, each as an array of the blocks it is given. -/
module

public import proofs.«01_k».proof.Proof.Fwd.Frame
public import proofs.«01_k».proof.Proof.Head.Tile
public import proofs.«01_k».proof.Proof.Head.First

@[expose] public section

set_option maxRecDepth 16384

noncomputable section

open Idealize.ShloMosaic Idealize.ShloMosaic.TcCoe Idealize.SL.Sem
open Idealize.ShloMosaic.Pipeline (Dat)

namespace Cert.Fwd

open Cert.FwdIdeal Cert.FwdIdeal.Gen Cert.Common
open Cert.Head (row0 row1 row2 row3 gp up ap chunks whole chunks_at whole_at)

/-- The tile of the normed and modulated input. -/
abbrev hTile (X : Vec Ideal S256x1024 .f32) (P : Vec Ideal S8x1024 .f32) : Vec Ideal S256x1024 .bf16 :=
  k0_pay4 (row0 P) (row1 P) (row3 P) X

/-- The tile of the layer's second product. -/
def yTile (X : Vec Ideal S256x1024 .f32) (P : Vec Ideal S8x1024 .f32) (Wi : Vec Ideal S5632x1024 .bf16) (Wo : Vec Ideal S2816x1024 .bf16) :
    Vec Ideal S256x1024 .f32 := k0_pay85 (whole (ap (hTile X P) Wi)) Wo

/-- The tile of the residual stream, from the layer's second product. -/
def xoTile (X : Vec Ideal S256x1024 .f32) (P : Vec Ideal S8x1024 .f32) (Y : Vec Ideal S256x1024 .f32) : Vec Ideal S256x1024 .f32 :=
  k0_pay1 (k0_pay2 (row2 P)) (k0_pay3 X) Y Cert.Head.cHalf

/-- A product of a tile with 256 rows of the first weight. -/
def prod (H B : Vec Ideal S256x1024 .bf16) (i j : Fin 256) : EReal := ∑ l : Fin 1024, H (ix2 i l) * B (ix2 j l)

/-- The piece that a chunk of either projection is. -/
theorem fac_piece (H B : Vec Ideal S256x1024 .bf16) (a : Fin 1) (i j : Fin 256) :
    k0_pay14 (F := Ideal) H B (ix3 (n0 := 1) (n1 := 256) (n2 := 256) a i j) = prod H B i j := by
  unfold prod
  obtain rfl : a = 0 := Subsingleton.elim _ _
  pointwise [k0_pay14, k0_pay12]

/-- The piece that a chunk of the gated product is. -/
theorem act_piece (H B C : Vec Ideal S256x1024 .bf16) (a : Fin 1) (i j : Fin 256) :
    k0_pay83 (F := Ideal) H B C (ix3 (n0 := 1) (n1 := 256) (n2 := 256) a i j) = silu (prod H B i j) * prod H C i j := by
  unfold silu prod
  obtain rfl : a = 0 := Subsingleton.elim _ _
  pointwise [k0_pay83, k0_pay82, k0_pay78, k0_pay79]

/-- The same chunk as 256 columns of one matrix. -/
theorem mat_piece (H B C : Vec Ideal S256x1024 .bf16) (i j : Fin 256) :
    k0_pay84 (F := Ideal) H B C (ix2 (n0 := 256) (n1 := 256) i j) = silu (prod H B i j) * prod H C i j := by
  unfold silu prod
  pointwise [k0_pay84, k0_pay82, k0_pay78, k0_pay79]

end Cert.Fwd

end
-- ==== Proof.Fwd.Blocks.lean ====
/- The blocks each grid point of the kernel `Fwd` takes, as entries of the arguments, and what it computes of them. -/
module

public import proofs.«01_k».proof.Proof.Fwd.Parts
public import proofs.«01_k».proof.Proof.Head.Blocks

@[expose] public section

set_option maxRecDepth 16384

noncomputable section

open Idealize.ShloMosaic Idealize.ShloMosaic.TcCoe Idealize.SL.Sem
open Idealize.ShloMosaic.Pipeline (Dat)

namespace Cert.Fwd

open Cert.FwdIdeal Cert.FwdIdeal.Gen Cert.Common
open Cert.Acts (facAt yAt xr md md_zero md_one mul_l mul_r)
open Cert.Ab (mul2)
open Cert.Head (gp up ap hAt aAt xoAt xov)

variable (m : (ℓ : Loc nD τ sig) → Buf (Elt Ideal) ℓ)

/-- The arguments of one core. -/
abbrev a0 (c : Dev nD) : Vec Ideal S1x2048x1024 .f32 := m ((c : Thread nD τ).loc main_arg0)
abbrev a1 (c : Dev nD) : Vec Ideal S1x3072 .f32 := m ((c : Thread nD τ).loc main_arg1)
abbrev a2 (c : Dev nD) : Vec Ideal S1024 .f32 := m ((c : Thread nD τ).loc main_arg2)
abbrev a3 (c : Dev nD) : Vec Ideal S1024x5632 .f32 := m ((c : Thread nD τ).loc main_arg3)
abbrev a4 (c : Dev nD) : Vec Ideal S2816x1024 .f32 := m ((c : Thread nD τ).loc main_arg4)

/-- The block each window takes at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, t.val, 0] ∧ win0_5.index t = ![0, t.val, 0] ∧ win0_6.index t = ![t.val, 0]
    ∧ win0_7.index t = ![0, t.val, 0] :=
  (by decide +kernel : ∀ t : Fin grid0.N, _)

/-- Row `i` of the tile of grid point `t`. -/
def row (t : Fin cfg0.N) (i : Fin 256) : Fin 2048 :=
  ⟨t.val * 256 + i.val, by have h : t.val < 8 := lt_of_lt_of_eq t.isLt (show cfg0.N = 8 from N_0); omega⟩

/-- The small operands stacked: the three rows of `mod`, the row `g`, zeros. -/
theorem V_p (c : Dev nD) : (V m c main_v4 : Vec Ideal S8x1024 .f32) = concatenate S8x1024 0
    [⟨S3x1024, shapeCast (s := S1x3x1024) S3x1024 (shapeCast (s := S1x3072) S1x3x1024 (a1 m c) shapeCasts_S1x3072_S1x3x1024) shapeCasts_S1x3x1024_S3x1024⟩,
     ⟨S1x1024, broadcastInDim S1x1024 ![1] bcast_S1024_S1x1024_1 (a2 m c)⟩,
     ⟨S4x1024, broadcastInDim S4x1024 ![] bcast_S_S4x1024 (constant (F := Ideal) S_ .f32 0x00000000#32)⟩]
    concatenates_S3x1024_S1x1024_S4x1024_S8x1024_d0 := by
  unfold V
  simp only [hostOps0, List.flatten_cons, List.flatten_nil, List.append_nil, List.cons_append, List.nil_append]
  after_results
  rfl

theorem iblk_p (c : Dev nD) (t : Fin cfg0.N) (r : Fin 8) (l : Fin 1024) :
    (iblk m c 1 t : Vec Ideal S8x1024 .f32) (ix2 r l) = (V m c main_v4 : Vec Ideal S8x1024 .f32) (ix2 r l) := by
  refine congrArg (V m c main_v4) ?_
  blk_ext [idx t]

theorem blk_shift (c : Dev nD) (t : Fin cfg0.N) (l : Fin 1024) : (iblk m c 1 t : Vec Ideal S8x1024 .f32) (ix2 0 l) = md (a1 m c) 0 l := by
  rw [iblk_p, V_p, md_zero]
  pointwise []

theorem blk_scale (c : Dev nD) (t : Fin cfg0.N) (l : Fin 1024) : (iblk m c 1 t : Vec Ideal S8x1024 .f32) (ix2 1 l) = md (a1 m c) 1 l := by
  rw [iblk_p, V_p, md_one]
  pointwise []

theorem blk_gate (c : Dev nD) (t : Fin cfg0.N) (l : Fin 1024) : (iblk m c 1 t : Vec Ideal S8x1024 .f32) (ix2 2 l) = md (a1 m c) 2 l := by
  rw [iblk_p, V_p]
  pointwise []
  rfl

theorem blk_g (c : Dev nD) (t : Fin cfg0.N) (l : Fin 1024) : (iblk m c 1 t : Vec Ideal S8x1024 .f32) (ix2 3 l) = a2 m c (ix1 l) := by
  rw [iblk_p, V_p]
  pointwise []

/-- The layer's argument, as the host hands it over. -/
theorem V_x (c : Dev nD) : (V m c main_v10 : Vec Ideal S2048x1024 .f32)
    = shapeCast (s := S1x2048x1024) S2048x1024 (a0 m c) shapeCasts_S1x2048x1024_S2048x1024 := by
  unfold V
  simp only [hostOps0, List.flatten_cons, List.flatten_nil, List.append_nil, List.cons_append, List.nil_append]
  after_results
  rfl

theorem blk_x (c : Dev nD) (t : Fin cfg0.N) (i : Fin 256) (l : Fin 1024) :
    (iblk m c 0 t : Vec Ideal S256x1024 .f32) (ix2 i l) = xr (a0 m c) (row t i) l := by
  have e : (iblk m c 0 t : Vec Ideal S256x1024 .f32) (ix2 i l) = (V m c main_v10 : Vec Ideal S2048x1024 .f32) (ix2 (row t i) l) := by
    refine congrArg (V m c main_v10) ?_
    unfold row
    blk_ext [idx t]
  rw [e, V_x]
  pointwise []

/-- The 8 parts of the first weight that the copies bring are its transpose. -/
theorem blk_wi (c : Dev nD) (k : Fin 5632) (l : Fin 1024) :
    Cert.Dx.WT (V m c main_v7) (ix2 k l) = a3 m c (ix2 (n0 := 1024) (n1 := 5632) l k) := by
  have e : ∃ v : Vec Ideal S8x704x1024 .bf16, (V m c main_v7 : Vec Ideal S8x704x1024 .bf16) = v ∧ ∀ (k : Fin 5632) (l : Fin 1024),
      Cert.Dx.WT v (ix2 k l) = a3 m c (ix2 (n0 := 1024) (n1 := 5632) l k) := by
    apply Exists.intro
    apply And.intro
    · unfold V
      simp only [hostOps0, List.flatten_cons, List.flatten_nil, List.append_nil, List.cons_append, List.nil_append]
      after_results
    · intro k l
      pointwise [Cert.Dx.WT]
  obtain ⟨v, hv, h⟩ := e
  rw [hv, h]

/-- The 8 parts of the second weight that the copies bring are the weight. -/
theorem blk_wo (c : Dev nD) (k : Fin 2816) (l : Fin 1024) :
    Cert.Acts.WT (V m c main_v9) (ix2 k l) = a4 m c (ix2 (n0 := 2816) (n1 := 1024) k l) := by
  have e : ∃ v : Vec Ideal S8x352x1024 .bf16, (V m c main_v9 : Vec Ideal S8x352x1024 .bf16) = v ∧ ∀ (k : Fin 2816) (l : Fin 1024),
      Cert.Acts.WT v (ix2 k l) = a4 m c (ix2 (n0 := 2816) (n1 := 1024) k l) := by
    apply Exists.intro
    apply And.intro
    · unfold V
      simp only [hostOps0, List.flatten_cons, List.flatten_nil, List.append_nil, List.cons_append, List.nil_append]
      after_results
    · intro k l
      pointwise [Cert.Acts.WT]
  obtain ⟨v, hv, h⟩ := e
  rw [hv, h]

/-- The tile of the modulated input that point `t` computes. -/
abbrev hT (c : Dev nD) (t : Fin cfg0.N) : Vec Ideal S256x1024 .bf16 := hTile (iblk m c 0 t) (iblk m c 1 t)

/-- The tile of the layer's second product that point `t` computes. -/
abbrev yT (c : Dev nD) (t : Fin cfg0.N) : Vec Ideal S256x1024 .f32 :=
  yTile (iblk m c 0 t) (iblk m c 1 t) (Cert.Dx.WT (V m c main_v7)) (Cert.Acts.WT (V m c main_v9))

/-- A tile of the modulated input is made of the arguments' rows. -/
theorem h_at (c : Dev nD) (t : Fin cfg0.N) (i : Fin 256) (l : Fin 1024) :
    hT m c t (ix2 (n0 := 256) (n1 := 1024) i l) = hAt (a0 m c) (a1 m c) (a2 m c) (row t i) l := by
  refine (Cert.Head.hTile_apply _ _ i l).trans ?_
  unfold hAt
  simp only [blk_x, blk_shift, blk_scale, blk_g]

/-- An entry of the gate's projection. -/
theorem gp_at (c : Dev nD) (t : Fin cfg0.N) (i : Fin 256) (k : Fin 2816) :
    gp (hT m c t) (Cert.Dx.WT (V m c main_v7)) i k = facAt (a0 m c) (a1 m c) (a2 m c) (a3 m c) (row t i) ⟨k.val, by omega⟩ := by
  unfold gp facAt fac
  exact Finset.sum_congr rfl fun l _ => mul2 (h_at m c t i l) (blk_wi m c _ l)

/-- An entry of the other factor's projection. -/
theorem up_at (c : Dev nD) (t : Fin cfg0.N) (i : Fin 256) (k : Fin 2816) :
    up (hT m c t) (Cert.Dx.WT (V m c main_v7)) i k = facAt (a0 m c) (a1 m c) (a2 m c) (a3 m c) (row t i) ⟨2816 + k.val, by omega⟩ := by
  unfold up facAt fac
  exact Finset.sum_congr rfl fun l _ => mul2 (h_at m c t i l) (blk_wi m c _ l)

/-- An entry of the gated product. -/
theorem ap_at (c : Dev nD) (t : Fin cfg0.N) (i : Fin 256) (k : Fin 2816) :
    ap (hT m c t) (Cert.Dx.WT (V m c main_v7)) i k = aAt (a0 m c) (a1 m c) (a2 m c) (a3 m c) (row t i) k := by
  unfold ap aAt
  rw [gp_at, up_at]

/-- A tile of the layer's second product is made of the arguments' rows. -/
theorem y_at (c : Dev nD) (t : Fin cfg0.N) (i : Fin 256) (l : Fin 1024) :
    yT m c t (ix2 (n0 := 256) (n1 := 1024) i l) = yAt (a0 m c) (a1 m c) (a2 m c) (a3 m c) (a4 m c) (row t i) l := by
  refine (Cert.Head.yTile_apply _ _ _ _ i l).trans ?_
  unfold yAt yrow
  exact Finset.sum_congr rfl fun k _ => mul2 (ap_at m c t i k) (blk_wo m c k l)

/-- A tile of the residual stream is made of the arguments' rows. -/
theorem xo_at (c : Dev nD) (t : Fin cfg0.N) (i : Fin 256) (l : Fin 1024) :
    xoTile (iblk m c 0 t) (iblk m c 1 t) (yT m c t) (ix2 (n0 := 256) (n1 := 1024) i l)
      = xoAt (a0 m c) (a1 m c) (a2 m c) (a3 m c) (a4 m c) (row t i) l := by
  refine (Cert.Head.xo_apply _ _ _ i l).trans ?_
  unfold xoAt xov
  beta_reduce
  rw [blk_x, blk_gate, y_at]

end Cert.Fwd

end
-- ==== Proof.Fwd.First.lean ====
/- What the kernel `Fwd` leaves at the first grid point, as whole arrays of the blocks it is given. -/
module

public import proofs.«01_k».proof.Proof.Fwd.Parts

@[expose] public section

set_option maxRecDepth 16384

noncomputable section

open Idealize.ShloMosaic Idealize.ShloMosaic.TcCoe Idealize.SL.Sem
open Idealize.ShloMosaic.Pipeline (Dat)

namespace Cert.Fwd

open Cert.FwdIdeal Cert.FwdIdeal.Gen Cert.Common
open Cert.Head (row0 row1 row2 row3 gp up ap chunks whole chunks_at whole_at)

/-- The block of 704 rows in one slab, read back. -/
theorem read_block704 (A : Vec Ideal S8x704x1024 .bf16) (k : Nat)
    (inb : ∀ a, (![k, 0, 0] : Fin 3 → Nat) a + (![1, 704, 1024] : Fin 3 → Nat) a ≤ S8x704x1024.size a) (h) (x0 : Fin 704) (x1 : Fin 1024) :
    View.read (Elt Ideal) (((View.whole main_v7).slice (Rect.unit ![k, 0, 0] ![1, 704, 1024] inb)).reshape S704x1024 h) A (ix2 x0 x1)
      = A (ix3 (n0 := 8) (n1 := 704) (n2 := 1024) ⟨k, by have h := inb 0; change k + 1 ≤ 8 at h; omega⟩ x0 x1) := by
  exact Cert.Dx.read_block A k inb h x0 x1

/-- One more block of the second weight written under the ones before: every row below its end is the weight's. -/
theorem canon_w (A : Vec Ideal S8x352x1024 .bf16) (k o : Nat) (ho : o = k * 352)
    (inb : ∀ a, (![k, 0, 0] : Fin 3 → Nat) a + (![1, 352, 1024] : Fin 3 → Nat) a ≤ S8x352x1024.size a) (h)
    (inb2 : ∀ a, (![o, 0] : Fin 2 → Nat) a + (![352, 1024] : Fin 2 → Nat) a ≤ S2816x1024.size a)
    (L : List (View.Piece (Elt Ideal) S2816x1024 .bf16)) (r : Fin 2816) (l : Fin 1024) (hr : r.val < o + 352)
    (hL : r.val < o → View.canon L (ix2 r l) = Cert.Acts.WT A (ix2 r l)) :
    View.canon ((⟨Rect.unit ![o, 0] ![352, 1024] inb2, ReadAs.same.apply (View.read (Elt Ideal)
        (((View.whole main_v9).slice (Rect.unit ![k, 0, 0] ![1, 352, 1024] inb)).reshape S352x1024 h) A)⟩ : View.Piece (Elt Ideal) S2816x1024 .bf16) :: L) (ix2 r l)
      = Cert.Acts.WT A (ix2 r l) := by
  exact Cert.Acts.canon_w A k o ho inb h inb2 L r l hr hL

variable (m : (ℓ : Loc nD τ sig) → Buf (Elt Ideal) ℓ) (c : Dev nD) (t : Fin cfg0.N) (h0 : t.val % 8 = 0)

/-- The first point fills one scratch with the first weight's transpose. -/
theorem outsA_wi : (outsA m c t h0).2.2.2.2.2.2.1 = Cert.Dx.WT (V m c main_v7) := by
  unfold outsA
  dsimp only
  unfold soutA_0 runA
  funext y
  frame_out
  generalize (V m c main_v7 : Vec Ideal S8x704x1024 .bf16) = A
  refine congrFun (canon_agree (Cert.Dx.WT A) _ ?_ ?_) y
  · exact fun y => View.cover_of_tiledL (s := S5632x1024) _ ![704, 1024] (by sl_kernel_rfl) y
  · simp only [List.forall_mem_cons]
    refine ⟨fun x => ?_, fun x => ?_, fun x => ?_, fun x => ?_, fun x => ?_, fun x => ?_, fun x => ?_, fun x => ?_, fun x h => absurd h List.not_mem_nil⟩ <;>
    · idx_vars x
      refine (read_block704 A _ _ _ x0 x1).trans ?_
      pointwise [Cert.Dx.WT]
      exact congrArg A (ix3_congr (by simp <;> omega) (by simp <;> omega) rfl)

/-- The first point fills the other scratch with the second weight. -/
theorem outsA_wo : (outsA m c t h0).2.2.2.2.2.2.2 = Cert.Acts.WT (V m c main_v9) := by
  unfold outsA
  dsimp only
  unfold soutA_1 runA
  funext y
  frame_out
  idx_vars y
  have hy := y0.isLt
  generalize (V m c main_v9 : Vec Ideal S8x352x1024 .bf16) = A
  repeat
    first
      | exact absurd hlt (Nat.not_lt_zero _)
      | refine canon_w A _ _ (by norm_num) _ _ _ _ _ _ (by omega) (fun hlt => ?_)

set_option maxHeartbeats 2000000 in
/-- The gated product, its chunks copied side by side into one matrix. -/
theorem matA : View.canon (runA m c t h0).2.2.2.2.2.2.2.2.1 = whole (ap (hTile (iblk m c 0 t) (iblk m c 1 t)) (Cert.Dx.WT (V m c main_v7))) := by
  have hw := outsA_wi m c t h0
  unfold outsA at hw
  dsimp only at hw
  unfold soutA_0 runA at hw
  frame_out at hw
  unfold runA
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine canon_agree (whole (ap (hTile X P) W)) _ ?_ ?_
  · exact fun y => View.cover_of_tiledL (s := S256x2816) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (whole_at (ap (hTile X P) W) _ _ x0 x1 (by omega)).symm
      refine (mat_piece _ _ _ x0 x1).trans ?_
      unfold ap gp up prod
      pointwise []
      all_goals (try simp only [← Nat.add_assoc, Nat.reduceAdd])
      all_goals rfl

set_option maxHeartbeats 2000000 in
/-- The chunks of the gate's projection. -/
theorem outsA_4 : (outsA m c t h0).2.2.1 = chunks (gp (hTile (iblk m c 0 t) (iblk m c 1 t)) (Cert.Dx.WT (V m c main_v7))) := by
  have hw := outsA_wi m c t h0
  unfold outsA at hw
  dsimp only at hw
  unfold soutA_0 runA at hw
  frame_out at hw
  unfold outsA
  dsimp only
  unfold outA_4 runA
  funext y
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine congrFun (canon_agree (chunks (gp (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (gp (hTile X P) W) _ _ x0 x1 x2 (by omega)).symm
      refine (fac_piece _ _ x0 x1 x2).trans ?_
      unfold gp prod
      pointwise []
      all_goals (try simp only [← Nat.add_assoc, Nat.reduceAdd])
      all_goals rfl

set_option maxHeartbeats 2000000 in
/-- The chunks of the other factor's projection. -/
theorem outsA_5 : (outsA m c t h0).2.2.2.1 = chunks (up (hTile (iblk m c 0 t) (iblk m c 1 t)) (Cert.Dx.WT (V m c main_v7))) := by
  have hw := outsA_wi m c t h0
  unfold outsA at hw
  dsimp only at hw
  unfold soutA_0 runA at hw
  frame_out at hw
  unfold outsA
  dsimp only
  unfold outA_5 runA
  funext y
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine congrFun (canon_agree (chunks (up (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (up (hTile X P) W) _ _ x0 x1 x2 (by omega)).symm
      refine (fac_piece _ _ x0 x1 x2).trans ?_
      unfold up prod
      pointwise []
      all_goals (try simp only [← Nat.add_assoc, Nat.reduceAdd])
      all_goals rfl

set_option maxHeartbeats 2000000 in
/-- The chunks of the gated product. -/
theorem outsA_7 : (outsA m c t h0).2.2.2.2.2.1 = chunks (ap (hTile (iblk m c 0 t) (iblk m c 1 t)) (Cert.Dx.WT (V m c main_v7))) := by
  have hw := outsA_wi m c t h0
  unfold outsA at hw
  dsimp only at hw
  unfold soutA_0 runA at hw
  frame_out at hw
  unfold outsA
  dsimp only
  unfold outA_7 runA
  funext y
  frame_open
  simp (disch := decide) only [↓ View.readCov_cons_toLoadRect]
  frame_out
  simp only [View.readCov_eq_canon', hw]
  generalize (iblk m c 0 t : Vec Ideal S256x1024 .f32) = X
  generalize (iblk m c 1 t : Vec Ideal S8x1024 .f32) = P
  generalize ((Cert.Dx.WT (V m c main_v7)) : Vec Ideal S5632x1024 .bf16) = W
  refine congrFun (canon_agree (chunks (ap (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (ap (hTile X P) W) _ _ x0 x1 x2 (by omega)).symm
      refine (act_piece _ _ _ x0 x1 x2).trans ?_
      unfold ap gp up prod
      pointwise []
      all_goals (try simp only [← Nat.add_assoc, Nat.reduceAdd])
      all_goals rfl

/-- The tile of the modulated input. -/
theorem outsA_3 : (outsA m c t h0).2.1 = hTile (iblk m c 0 t) (iblk m c 1 t) := by
  unfold outsA
  dsimp only
  unfold outA_3 runA
  funext y
  frame_open
  frame_out

/-- The tile of the layer's second product. -/
theorem outsA_6 : (outsA m c t h0).2.2.2.2.1 = yTile (iblk m c 0 t) (iblk m c 1 t) (Cert.Dx.WT (V m c main_v7)) (Cert.Acts.WT (V m c main_v9)) := by
  have hD := matA m c t h0
  unfold runA at hD
  frame_open at hD
  simp (disch := decide) only [↓ View.readCov_cons_toLoadRect] at hD
  frame_out at hD
  simp only [View.readCov_eq_canon'] at hD
  have hv := outsA_wo m c t h0
  unfold outsA at hv
  dsimp only at hv
  unfold soutA_1 runA at hv
  frame_out at hv
  unfold outsA
  dsimp only
  unfold outA_6 runA
  funext y
  frame_open
  simp (disch := decide) only [↓ View.readCov_cons_toLoadRect]
  frame_out
  simp only [View.readCov_eq_canon', hD, hv]
  rw [load_full2, load_full2]
  rfl

/-- The tile of the residual stream. -/
theorem outsA_2 : (outsA m c t h0).1 = xoTile (iblk m c 0 t) (iblk m c 1 t)
    (yTile (iblk m c 0 t) (iblk m c 1 t) (Cert.Dx.WT (V m c main_v7)) (Cert.Acts.WT (V m c main_v9))) := by
  have hD := matA m c t h0
  unfold runA at hD
  frame_open at hD
  simp (disch := decide) only [↓ View.readCov_cons_toLoadRect] at hD
  frame_out at hD
  simp only [View.readCov_eq_canon'] at hD
  have hv := outsA_wo m c t h0
  unfold outsA at hv
  dsimp only at hv
  unfold soutA_1 runA at hv
  frame_out at hv
  unfold outsA
  dsimp only
  unfold outA_2 runA
  funext y
  frame_open
  simp (disch := decide) only [↓ View.readCov_cons_toLoadRect]
  frame_out
  simp only [View.readCov_eq_canon', hD, hv]
  rw [load_full2, load_full2]
  rfl

end Cert.Fwd

end
-- ==== Proof.Fwd.Later.lean ====
/- What the kernel `Fwd` leaves at a grid point after the first, as whole arrays of the blocks it is given. -/
module

public import proofs.«01_k».proof.Proof.Fwd.Parts

@[expose] public section

set_option maxRecDepth 16384

noncomputable section

open Idealize.ShloMosaic Idealize.ShloMosaic.TcCoe Idealize.SL.Sem
open Idealize.ShloMosaic.Pipeline (Dat)

namespace Cert.Fwd

open Cert.FwdIdeal Cert.FwdIdeal.Gen Cert.Common
open Cert.Head (row0 row1 row2 row3 gp up ap chunks whole chunks_at whole_at)

variable (m : (ℓ : Loc nD τ sig) → Buf (Elt Ideal) ℓ) (c : Dev nD) (t : Fin cfg0.N) (h0 : ¬t.val % 8 = 0) (p : Outs Ideal)

/-- A later point keeps the first weight. -/
theorem outsB_wi : (outsB m c t h0 p).2.2.2.2.2.2.1 = p.2.2.2.2.2.2.1 := by
  unfold outsB
  dsimp only
  unfold soutB_0
  rfl

/-- A later point keeps the second weight. -/
theorem outsB_wo : (outsB m c t h0 p).2.2.2.2.2.2.2 = p.2.2.2.2.2.2.2 := by
  unfold outsB
  dsimp only
  unfold soutB_1
  rfl

set_option maxHeartbeats 2000000 in
/-- The gated product, its chunks copied side by side into one matrix. -/
theorem matB : View.canon (runB m c t h0 p).2.2.2.2.2.2.2.2.1 = whole (ap (hTile (iblk m c 0 t) (iblk m c 1 t)) p.2.2.2.2.2.2.1) := by
  unfold runB
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.1 : Vec Ideal S5632x1024 .bf16) = W
  refine canon_agree (whole (ap (hTile X P) W)) _ ?_ ?_
  · exact fun y => View.cover_of_tiledL (s := S256x2816) _ ![256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (whole_at (ap (hTile X P) W) _ _ x0 x1 (by omega)).symm
      refine (mat_piece _ _ _ x0 x1).trans ?_
      unfold ap gp up prod
      pointwise []
      all_goals (try simp only [← Nat.add_assoc, Nat.reduceAdd])
      all_goals rfl

set_option maxHeartbeats 2000000 in
/-- The chunks of the gate's projection. -/
theorem outsB_4 : (outsB m c t h0 p).2.2.1 = chunks (gp (hTile (iblk m c 0 t) (iblk m c 1 t)) p.2.2.2.2.2.2.1) := by
  unfold outsB
  dsimp only
  unfold outB_4 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.1 : Vec Ideal S5632x1024 .bf16) = W
  refine congrFun (canon_agree (chunks (gp (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (gp (hTile X P) W) _ _ x0 x1 x2 (by omega)).symm
      refine (fac_piece _ _ x0 x1 x2).trans ?_
      unfold gp prod
      pointwise []
      all_goals (try simp only [← Nat.add_assoc, Nat.reduceAdd])
      all_goals rfl

set_option maxHeartbeats 2000000 in
/-- The chunks of the other factor's projection. -/
theorem outsB_5 : (outsB m c t h0 p).2.2.2.1 = chunks (up (hTile (iblk m c 0 t) (iblk m c 1 t)) p.2.2.2.2.2.2.1) := by
  unfold outsB
  dsimp only
  unfold outB_5 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.1 : Vec Ideal S5632x1024 .bf16) = W
  refine congrFun (canon_agree (chunks (up (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (up (hTile X P) W) _ _ x0 x1 x2 (by omega)).symm
      refine (fac_piece _ _ x0 x1 x2).trans ?_
      unfold up prod
      pointwise []
      all_goals (try simp only [← Nat.add_assoc, Nat.reduceAdd])
      all_goals rfl

set_option maxHeartbeats 2000000 in
/-- The chunks of the gated product. -/
theorem outsB_7 : (outsB m c t h0 p).2.2.2.2.2.1 = chunks (ap (hTile (iblk m c 0 t) (iblk m c 1 t)) p.2.2.2.2.2.2.1) := by
  unfold outsB
  dsimp only
  unfold outB_7 runB
  funext y
  frame_open
  simp (disch := decide) only [↓ View.readCov_skip, ↓ View.readCov_cons_toLoadRect, ↓ View.readCov_fill]
  frame_out
  simp only [View.readCov_eq_canon', read_unread_whole]
  generalize (iblk m c 0 t : Vec Ideal S256x1024 .f32) = X
  generalize (iblk m c 1 t : Vec Ideal S8x1024 .f32) = P
  generalize (p.2.2.2.2.2.2.1 : Vec Ideal S5632x1024 .bf16) = W
  refine congrFun (canon_agree (chunks (ap (hTile X P) W)) _ ?_ ?_) y
  · exact fun y => View.cover_of_tiledL (s := S11x256x256) _ ![1, 256, 256] (by sl_kernel_rfl) y
  · simp only [List.forall_mem_cons]
    refine ⟨fun x => ?_, fun x => ?_, fun x => ?_, fun x => ?_, fun x => ?_, fun x => ?_, fun x => ?_, fun x => ?_, fun x => ?_,
      fun x => ?_, fun x => ?_, fun x h => absurd h List.not_mem_nil⟩ <;>
    · idx_vars x
      refine Eq.trans ?_ (chunks_at (ap (hTile X P) W) _ _ x0 x1 x2 (by omega)).symm
      refine (act_piece _ _ _ x0 x1 x2).trans ?_
      unfold ap gp up prod
      pointwise []
      all_goals (try simp only [← Nat.add_assoc, Nat.reduceAdd])
      all_goals rfl

/-- The tile of the modulated input. -/
theorem outsB_3 : (outsB m c t h0 p).2.1 = hTile (iblk m c 0 t) (iblk m c 1 t) := by
  unfold outsB
  dsimp only
  unfold outB_3 runB
  funext y
  frame_open
  frame_out

/-- The tile of the layer's second product. -/
theorem outsB_6 : (outsB m c t h0 p).2.2.2.2.1 = yTile (iblk m c 0 t) (iblk m c 1 t) p.2.2.2.2.2.2.1 p.2.2.2.2.2.2.2 := by
  have hD := matB m c t h0 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold outB_6 runB
  funext y
  frame_open
  simp (disch := decide) only [↓ View.readCov_skip, ↓ View.readCov_cons_toLoadRect, ↓ View.readCov_fill]
  frame_out
  simp only [View.readCov_eq_canon', read_unread_whole, hD]
  rw [load_full2]
  rfl

/-- The tile of the residual stream. -/
theorem outsB_2 : (outsB m c t h0 p).1 = xoTile (iblk m c 0 t) (iblk m c 1 t)
    (yTile (iblk m c 0 t) (iblk m c 1 t) p.2.2.2.2.2.2.1 p.2.2.2.2.2.2.2) := by
  have hD := matB m c t h0 p
  unfold runB at hD
  frame_open at hD
  simp (disch := decide) only [↓ View.readCov_skip, ↓ View.readCov_cons_toLoadRect, ↓ View.readCov_fill] at hD
  frame_out at hD
  simp only [View.readCov_eq_canon', read_unread_whole] at hD
  unfold outsB
  dsimp only
  unfold outB_2 runB
  funext y
  frame_open
  simp (disch := decide) only [↓ View.readCov_skip, ↓ View.readCov_cons_toLoadRect, ↓ View.readCov_fill]
  frame_out
  simp only [View.readCov_eq_canon', read_unread_whole, hD]
  rw [load_full2]
  rfl

end Cert.Fwd

end
-- ==== Proof.Fwd.Final.lean ====
/- The results of the kernel `Fwd` as functions of its arguments, row by row. -/
module

public import proofs.«01_k».proof.Proof.Fwd.Blocks
public import proofs.«01_k».proof.Proof.Fwd.First
public import proofs.«01_k».proof.Proof.Fwd.Later
public import proofs.«01_k».proof.Proof.Head.Final

@[expose] public section

set_option maxRecDepth 16384

noncomputable section

open Idealize.ShloMosaic Idealize.ShloMosaic.TcCoe Idealize.SL.Sem
open Idealize.ShloMosaic.Pipeline (Dat)

namespace Cert.Fwd

open Cert.FwdIdeal Cert.FwdIdeal.Gen Cert.Common
open Cert.Acts (facAt yAt xr md)
open Cert.Head (gp up ap chunks col chunks_col hAt aAt xoAt)

variable (m : (ℓ : Loc nD τ sig) → Buf (Elt Ideal) ℓ)

/-- Every point carries both weights. -/
theorem carried (c : Dev nD) (n : ℕ) : ∀ hn : n < cfg0.N, (outsAt0 m c n hn).2.2.2.2.2.2.1 = Cert.Dx.WT (V m c main_v7)
    ∧ (outsAt0 m c n hn).2.2.2.2.2.2.2 = Cert.Acts.WT (V m c main_v9) := by
  induction n with
  | zero =>
    intro hn
    rw [show outsAt0 m c 0 hn = outsA m c ⟨0, hn⟩ _ from outsAt0_A m c ⟨0, hn⟩ (Nat.zero_mod _)]
    exact ⟨outsA_wi m c _ _, outsA_wo m c _ _⟩
  | succ n ih =>
    intro hn
    have hc := ih (Nat.lt_of_succ_lt hn)
    have h8 : n + 1 < 8 := lt_of_lt_of_eq hn (show cfg0.N = 8 from N_0)
    have e : outsAt0 m c (n + 1) hn = outsB m c ⟨n + 1, hn⟩ _ (outsAt0 m c n (Nat.lt_of_succ_lt hn)) :=
      outsAt0_B m c ⟨n + 1, hn⟩ (by show ¬(n + 1) % 8 = 0; omega)
    rw [e]
    exact ⟨(outsB_wi m c _ _ _).trans hc.1, (outsB_wo m c _ _ _).trans hc.2⟩

/-- What a point leaves in its tiles, from the blocks it takes. -/
def Tiles (c : Dev nD) (t : Fin cfg0.N) (p : Outs Ideal) : Prop :=
  p.1 = xoTile (iblk m c 0 t) (iblk m c 1 t) (yT m c t) ∧ p.2.1 = hT m c t
  ∧ p.2.2.1 = chunks (gp (hT m c t) (Cert.Dx.WT (V m c main_v7))) ∧ p.2.2.2.1 = chunks (up (hT m c t) (Cert.Dx.WT (V m c main_v7)))
  ∧ p.2.2.2.2.1 = yT m c t ∧ p.2.2.2.2.2.1 = chunks (ap (hT m c t) (Cert.Dx.WT (V m c main_v7)))

/-- Any point leaves these tiles. -/
theorem tiles (c : Dev nD) (t : Fin cfg0.N) : Tiles m c t (outsAt0 m c t.val t.isLt) := by
  by_cases h0 : t.val % 8 = 0
  · rw [outsAt0_A m c t h0]
    exact ⟨outsA_2 m c t h0, outsA_3 m c t h0, outsA_4 m c t h0, outsA_5 m c t h0, outsA_6 m c t h0, outsA_7 m c t h0⟩
  · obtain ⟨hwi, hwo⟩ := carried m c (t.val - 1) (Nat.lt_of_le_of_lt (Nat.sub_le _ _) t.isLt)
    unfold Tiles
    rw [outsAt0_B m c t h0, outsB_2 m c t h0, outsB_3 m c t h0, outsB_4 m c t h0, outsB_5 m c t h0, outsB_6 m c t h0, outsB_7 m c t h0, hwi, hwo]
    exact ⟨rfl, rfl, rfl, rfl, rfl, rfl⟩

/-- The six results. -/
def G2 (c : Dev nD) : S2048x1024.Idx → EReal := fun y => xoAt (a0 m c) (a1 m c) (a2 m c) (a3 m c) (a4 m c) (y 0) (y 1)
def G3 (c : Dev nD) : S2048x1024.Idx → EReal := fun y => hAt (a0 m c) (a1 m c) (a2 m c) (y 0) (y 1)
def G4 (c : Dev nD) : S11x2048x256.Idx → EReal := fun y =>
  facAt (a0 m c) (a1 m c) (a2 m c) (a3 m c) (y 1) (⟨(col (y 0) (y 2)).val, by omega⟩)
def G5 (c : Dev nD) : S11x2048x256.Idx → EReal := fun y =>
  facAt (a0 m c) (a1 m c) (a2 m c) (a3 m c) (y 1) (⟨2816 + (col (y 0) (y 2)).val, by omega⟩)
def G6 (c : Dev nD) : S2048x1024.Idx → EReal := fun y => yAt (a0 m c) (a1 m c) (a2 m c) (a3 m c) (a4 m c) (y 0) (y 1)
def G7 (c : Dev nD) : S11x2048x256.Idx → EReal := fun y => aAt (a0 m c) (a1 m c) (a2 m c) (a3 m c) (y 1) (col (y 0) (y 2))

/-- A point's tile of the first result, entry by entry. -/
theorem tile2 (c : Dev nD) (t : Fin cfg0.N) (i : Fin 256) (l : Fin 1024) :
    ((outsAt0 m c t.val t.isLt).1 : Vec Ideal S256x1024 .f32) (ix2 (n0 := 256) (n1 := 1024) i l) = G2 m c (ix2 (row t i) l) :=
  (congrFun (tiles m c t).1 _).trans (xo_at m c t i l)

/-- The kernel leaves the first result. -/
theorem final2 (c : Dev nD) : (dats m 0 c).arrAt 2 (cfgs 0).N = G2 m c := by
  refine (dats m 0 c).arrAt_eq_of_covers 2 _ (by decide +kernel) fun t _ y => ?_
  blk_simp
  rw [after0_2]
  idx_vars y
  have h0 : ix2 (row t y0) y1 = (win0_2.blk t).view.emb (ix2 (n0 := 256) (n1 := 1024) y0 y1) := by
    unfold row; blk_ext [idx t]
  exact (tile2 m c t y0 y1).trans (congrArg (G2 m c) h0)

/-- A point's tile of the second result, entry by entry. -/
theorem tile3 (c : Dev nD) (t : Fin cfg0.N) (i : Fin 256) (l : Fin 1024) :
    ((outsAt0 m c t.val t.isLt).2.1 : Vec Ideal S256x1024 .bf16) (ix2 (n0 := 256) (n1 := 1024) i l) = G3 m c (ix2 (row t i) l) :=
  (congrFun (tiles m c t).2.1 _).trans (h_at m c t i l)

/-- The kernel leaves the second result. -/
theorem final3 (c : Dev nD) : (dats m 0 c).arrAt 3 (cfgs 0).N = G3 m c := by
  refine (dats m 0 c).arrAt_eq_of_covers 3 _ (by decide +kernel) fun t _ y => ?_
  blk_simp
  rw [after0_3]
  idx_vars y
  have h0 : ix2 (row t y0) y1 = (win0_3.blk t).view.emb (ix2 (n0 := 256) (n1 := 1024) y0 y1) := by
    unfold row; blk_ext [idx t]
  exact (tile3 m c t y0 y1).trans (congrArg (G3 m c) h0)

/-- A point's tile of the third result, entry by entry. -/
theorem tile4 (c : Dev nD) (t : Fin cfg0.N) (k : Fin 11) (i j : Fin 256) :
    ((outsAt0 m c t.val t.isLt).2.2.1 : Vec Ideal S11x256x256 .bf16) (ix3 (n0 := 11) (n1 := 256) (n2 := 256) k i j)
      = G4 m c (ix3 k (row t i) j) :=
  (congrFun (tiles m c t).2.2.1 _).trans ((chunks_col _ k i j).trans (gp_at m c t i (col k j)))

/-- The kernel leaves the third result. -/
theorem final4 (c : Dev nD) : (dats m 0 c).arrAt 4 (cfgs 0).N = G4 m c := by
  refine (dats m 0 c).arrAt_eq_of_covers 4 _ (by decide +kernel) fun t _ y => ?_
  blk_simp
  rw [after0_4]
  idx_vars y
  have h0 : ix3 y0 (row t y1) y2 = (win0_4.blk t).view.emb (ix3 (n0 := 11) (n1 := 256) (n2 := 256) y0 y1 y2) := by
    unfold row; blk_ext [idx t]
  exact (tile4 m c t y0 y1 y2).trans (congrArg (G4 m c) h0)

/-- A point's tile of the fourth result, entry by entry. -/
theorem tile5 (c : Dev nD) (t : Fin cfg0.N) (k : Fin 11) (i j : Fin 256) :
    ((outsAt0 m c t.val t.isLt).2.2.2.1 : Vec Ideal S11x256x256 .bf16) (ix3 (n0 := 11) (n1 := 256) (n2 := 256) k i j)
      = G5 m c (ix3 k (row t i) j) :=
  (congrFun (tiles m c t).2.2.2.1 _).trans ((chunks_col _ k i j).trans (up_at m c t i (col k j)))

/-- The kernel leaves the fourth result. -/
theorem final5 (c : Dev nD) : (dats m 0 c).arrAt 5 (cfgs 0).N = G5 m c := by
  refine (dats m 0 c).arrAt_eq_of_covers 5 _ (by decide +kernel) fun t _ y => ?_
  blk_simp
  rw [after0_5]
  idx_vars y
  have h0 : ix3 y0 (row t y1) y2 = (win0_5.blk t).view.emb (ix3 (n0 := 11) (n1 := 256) (n2 := 256) y0 y1 y2) := by
    unfold row; blk_ext [idx t]
  exact (tile5 m c t y0 y1 y2).trans (congrArg (G5 m c) h0)

/-- A point's tile of the fifth result, entry by entry. -/
theorem tile6 (c : Dev nD) (t : Fin cfg0.N) (i : Fin 256) (l : Fin 1024) :
    ((outsAt0 m c t.val t.isLt).2.2.2.2.1 : Vec Ideal S256x1024 .f32) (ix2 (n0 := 256) (n1 := 1024) i l) = G6 m c (ix2 (row t i) l) :=
  (congrFun (tiles m c t).2.2.2.2.1 _).trans (y_at m c t i l)

/-- The kernel leaves the fifth result. -/
theorem final6 (c : Dev nD) : (dats m 0 c).arrAt 6 (cfgs 0).N = G6 m c := by
  refine (dats m 0 c).arrAt_eq_of_covers 6 _ (by decide +kernel) fun t _ y => ?_
  blk_simp
  rw [after0_6]
  idx_vars y
  have h0 : ix2 (row t y0) y1 = (win0_6.blk t).view.emb (ix2 (n0 := 256) (n1 := 1024) y0 y1) := by
    unfold row; blk_ext [idx t]
  exact (tile6 m c t y0 y1).trans (congrArg (G6 m c) h0)

/-- A point's tile of the sixth result, entry by entry. -/
theorem tile7 (c : Dev nD) (t : Fin cfg0.N) (k : Fin 11) (i j : Fin 256) :
    ((outsAt0 m c t.val t.isLt).2.2.2.2.2.1 : Vec Ideal S11x256x256 .bf16) (ix3 (n0 := 11) (n1 := 256) (n2 := 256) k i j)
      = G7 m c (ix3 k (row t i) j) :=
  (congrFun (tiles m c t).2.2.2.2.2 _).trans ((chunks_col _ k i j).trans (ap_at m c t i (col k j)))

/-- The kernel leaves the sixth result. -/
theorem final7 (c : Dev nD) : (dats m 0 c).arrAt 7 (cfgs 0).N = G7 m c := by
  refine (dats m 0 c).arrAt_eq_of_covers 7 _ (by decide +kernel) fun t _ y => ?_
  blk_simp
  rw [after0_7]
  idx_vars y
  have h0 : ix3 y0 (row t y1) y2 = (win0_7.blk t).view.emb (ix3 (n0 := 11) (n1 := 256) (n2 := 256) y0 y1 y2) := by
    unfold row; blk_ext [idx t]
  exact (tile7 m c t y0 y1 y2).trans (congrArg (G7 m c) h0)

end Cert.Fwd

end
-- ==== Proof.Fwd.RefPoint.lean ====
/- The results of the reference `FwdRef`, entry by entry, are the ones the kernel leaves. -/
module

public import proofs.«01_k».proof.Proof.Fwd.Blocks
public import proofs.«01_k».proof.Proof.Head.RefPoint
public import proofs.«01_k».proof.Proof.Gen.FwdRefIdeal.Read

@[expose] public section

set_option maxRecDepth 16384

noncomputable section

open Idealize.ShloMosaic Idealize.ShloMosaic.TcCoe Idealize.SL.Sem
open Idealize.ShloMosaic.Pipeline (Dat)

namespace Cert.Fwd

open Cert.FwdRefIdeal Cert.FwdRefIdeal.Gen Cert.FwdRefIdeal.Read Cert.Common
open Cert.Acts (facAt yAt xr md)
open Cert.Head (col hAt aAt xoAt)

variable (x : Vec Ideal S1x2048x1024 .f32) (mod : Vec Ideal S1x3072 .f32) (g : Vec Ideal S1024 .f32) (w : Vec Ideal S1024x5632 .f32)
    (wo : Vec Ideal S2816x1024 .f32)

/-- Row `n` of the modulated input. -/
theorem ref_h (n : Fin 2048) (l : Fin 1024) : val_main_v23 (F := Ideal) x mod g (ix3 (n0 := 1) (n1 := 2048) (n2 := 1024) 0 n l)
    = hAt x mod g n l := Cert.Head.ref_h x mod g n l

/-- The gate's factor. -/
theorem ref_z (n : Fin 2048) (k : Fin 2816) : val_main_v26 (F := Ideal) x mod g w (ix3 (n0 := 1) (n1 := 2048) (n2 := 2816) 0 n k)
    = facAt x mod g w n ⟨k.val, by omega⟩ := Cert.Head.ref_z x mod g w n k

/-- The other factor. -/
theorem ref_u (n : Fin 2048) (k : Fin 2816) : val_main_v27 (F := Ideal) x mod g w (ix3 (n0 := 1) (n1 := 2048) (n2 := 2816) 0 n k)
    = facAt x mod g w n ⟨2816 + k.val, by omega⟩ := Cert.Head.ref_u x mod g w n k

/-- The gated product. -/
theorem ref_a (n : Fin 2048) (k : Fin 2816) : val_main_v29 (F := Ideal) x mod g w (ix3 (n0 := 1) (n1 := 2048) (n2 := 2816) 0 n k)
    = aAt x mod g w n k := Cert.Head.ref_a x mod g w n k

/-- The layer's second product. -/
theorem ref_y (n : Fin 2048) (l : Fin 1024) : val_main_v30 (F := Ideal) x mod g w wo (ix3 (n0 := 1) (n1 := 2048) (n2 := 1024) 0 n l)
    = yAt x mod g w wo n l := Cert.Head.ref_y x mod g w wo n l

/-- The residual stream after the layer. -/
theorem ref_xo (n : Fin 2048) (l : Fin 1024) : val_main_v35 (F := Ideal) x mod g w wo (ix3 (n0 := 1) (n1 := 2048) (n2 := 1024) 0 n l)
    = xoAt x mod g w wo n l := Cert.Head.ref_xo x mod g w wo n l

/-- The first result of the reference is the one the kernel leaves. -/
theorem ref_xout (n : Fin 2048) (l : Fin 1024) : val_main_v36 (F := Ideal) x mod g w wo (ix2 (n0 := 2048) (n1 := 1024) n l)
    = xoAt x mod g w wo n l := by
  pointwise [val_main_v36, ref_xo]

/-- The second result of the reference is the one the kernel leaves. -/
theorem ref_hout (n : Fin 2048) (l : Fin 1024) : val_main_v38 (F := Ideal) x mod g (ix2 (n0 := 2048) (n1 := 1024) n l)
    = hAt x mod g n l := by
  pointwise [val_main_v38, val_main_v37, ref_h]

/-- The third result of the reference is the one the kernel leaves. -/
theorem ref_zout (k : Fin 11) (n : Fin 2048) (j : Fin 256) : val_main_v41 (F := Ideal) x mod g w (ix3 (n0 := 11) (n1 := 2048) (n2 := 256) k n j)
    = facAt x mod g w n ⟨(col k j).val, by omega⟩ := by
  unfold col
  pointwise [val_main_v41, val_main_v40, val_main_v39, ref_z]

/-- The fourth result of the reference is the one the kernel leaves. -/
theorem ref_uout (k : Fin 11) (n : Fin 2048) (j : Fin 256) : val_main_v44 (F := Ideal) x mod g w (ix3 (n0 := 11) (n1 := 2048) (n2 := 256) k n j)
    = facAt x mod g w n ⟨2816 + (col k j).val, by omega⟩ := by
  unfold col
  pointwise [val_main_v44, val_main_v43, val_main_v42, ref_u]

/-- The fifth result of the reference is the one the kernel leaves. -/
theorem ref_yout (n : Fin 2048) (l : Fin 1024) : val_main_v45 (F := Ideal) x mod g w wo (ix2 (n0 := 2048) (n1 := 1024) n l)
    = yAt x mod g w wo n l := by
  pointwise [val_main_v45, ref_y]

/-- The sixth result of the reference is the one the kernel leaves. -/
theorem ref_aout (k : Fin 11) (n : Fin 2048) (j : Fin 256) : val_main_v48 (F := Ideal) x mod g w (ix3 (n0 := 11) (n1 := 2048) (n2 := 256) k n j)
    = aAt x mod g w n (col k j) := by
  unfold col
  pointwise [val_main_v48, val_main_v47, val_main_v46, ref_a]

end Cert.Fwd

end
-- ==== Proof.Fwd.Claim.lean ====
/- The claim that the kernel `Fwd` and its reference end with equal results. -/
module

public import proofs.«01_k».proof.Defs
public import proofs.«01_k».proof.Proof.Fwd.Final
public import proofs.«01_k».proof.Proof.Fwd.RefPoint
public import proofs.«01_k».proof.Proof.Gen.FwdRefIdeal.Run

@[expose] public section

set_option maxRecDepth 16384

noncomputable section

open Idealize.ShloMosaic Idealize.ShloMosaic.TcCoe Idealize.SL.Sem

namespace Cert.Fwd.Claims

open Cert.Fwd Cert.Common Cert.FwdRefIdeal.Read

set_option maxHeartbeats 4000000 in
/-- From the same arguments, whatever they are, the kernel and the reference end with equal results. -/
theorem algebraic : Cert.algebraic_FwdIdeal_FwdRefIdeal := by
  pair_intro
  · run_from Cert.FwdIdeal.Gen.run_main m g
    all_goals
      simp only [Cert.FwdIdeal.Gen.hostOps0, List.flatten_cons, List.flatten_nil, List.append_nil, List.cons_append, List.nil_append]
      after_results
  · refine (θ_run _ _ _).mono (fun r h c => ?_) (Cert.FwdRefIdeal.Value.run m' g')
    obtain ⟨h0, h1, h2, h3, h4, h5, hargs⟩ := h c
    obtain ⟨e0, e1, e2, e3, e4⟩ := hagree c
    refine ⟨h0.trans ((val_main_v36_eq _ _).trans (Eq.trans ?_ (final2 m c).symm)),
      h1.trans ((val_main_v38_eq _ _ _).trans (Eq.trans ?_ (final3 m c).symm)),
      h2.trans ((val_main_v41_eq _ _ _ _).trans (Eq.trans ?_ (final4 m c).symm)),
      h3.trans ((val_main_v44_eq _ _ _ _).trans (Eq.trans ?_ (final5 m c).symm)),
      h4.trans ((val_main_v45_eq _ _).trans (Eq.trans ?_ (final6 m c).symm)),
      h5.trans ((val_main_v48_eq _ _).trans (Eq.trans ?_ (final7 m c).symm)), hargs⟩
    · funext y
      idx_vars y
      refine (ref_xout _ _ _ _ _ y0 y1).trans ?_
      rw [e0, e1, e2, e3, e4]
      rfl
    · funext y
      idx_vars y
      refine (ref_hout _ _ _ y0 y1).trans ?_
      rw [e0, e1, e2]
      rfl
    · funext y
      idx_vars y
      refine (ref_zout _ _ _ _ y0 y1 y2).trans ?_
      rw [e0, e1, e2, e3]
      rfl
    · funext y
      idx_vars y
      refine (ref_uout _ _ _ _ y0 y1 y2).trans ?_
      rw [e0, e1, e2, e3]
      rfl
    · funext y
      idx_vars y
      refine (ref_yout _ _ _ _ _ y0 y1).trans ?_
      rw [e0, e1, e2, e3, e4]
      rfl
    · funext y
      idx_vars y
      refine (ref_aout _ _ _ _ y0 y1 y2).trans ?_
      rw [e0, e1, e2, e3]
      rfl

end Cert.Fwd.Claims

end
-- ==== Proof.Fwd.Ref.lean ====
/- The frame of the reference of `Fwd`. -/
module

public import proofs.«01_k».proof.Defs
public import proofs.«01_k».proof.Proof.Gen.FwdRefIdeal
public import Idealize.ShloMosaic.Lib.Claim

@[expose] public section

set_option maxRecDepth 16384

namespace Cert.FwdRefIdeal.Gen
open Idealize.ShloMosaic Idealize.SL.Sem

set_option maxHeartbeats 8000000 in
/-- Every execution of the reference ends, faults nowhere and leaves the arguments as they were. -/
theorem frame : Cert.quiescent_FwdRefIdeal := by
  intro m g _
  hlo_run
  · intro c
    simp only [and_self]
  · refine sem_eq_zero_of_no_sems ?_ _
    decide

end Cert.FwdRefIdeal.Gen
-- ==== Proof.lean ====
/- The claims: each frame is a run of its program; the run of a printed kernel is the run of its idealization, whose text is the
   same, read over machine words. The value claims are proved in the modules named after the calls. -/
module

public import proofs.«01_k».proof.Defs
public import proofs.«01_k».proof.Proof.Gen.Dx
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame.Runs
public import proofs.«01_k».proof.Proof.Gen.DxRefIdeal
public import proofs.«01_k».proof.Proof.Gen.DxRefIdeal.Run
public import proofs.«01_k».proof.Proof.Gen.DxRefIdeal.Read
public import proofs.«01_k».proof.Proof.Gen.Acts
public import proofs.«01_k».proof.Proof.Gen.ActsIdeal
public import proofs.«01_k».proof.Proof.Gen.ActsIdeal.Skeleton
public import proofs.«01_k».proof.Proof.Gen.ActsIdeal.Launch
public import proofs.«01_k».proof.Proof.Gen.ActsIdeal.Points
public import proofs.«01_k».proof.Proof.Gen.ActsIdeal.Frame.Runs
public import proofs.«01_k».proof.Proof.Gen.ActsRefIdeal
public import proofs.«01_k».proof.Proof.Gen.ActsRefIdeal.Run
public import proofs.«01_k».proof.Proof.Gen.ActsRefIdeal.Read
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame.Runs
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Head
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame.Runs
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Ab
public import proofs.«01_k».proof.Proof.Gen.AbIdeal
public import proofs.«01_k».proof.Proof.Gen.AbIdeal.Skeleton
public import proofs.«01_k».proof.Proof.Gen.AbIdeal.Launch
public import proofs.«01_k».proof.Proof.Gen.AbIdeal.Points
public import proofs.«01_k».proof.Proof.Gen.AbIdeal.Frame.Runs
public import proofs.«01_k».proof.Proof.Gen.AbRefIdeal
public import proofs.«01_k».proof.Proof.Gen.AbRefIdeal.Run
public import proofs.«01_k».proof.Proof.Gen.AbRefIdeal.Read
public import proofs.«01_k».proof.Proof.Gen.Pool
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Fwd
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame.Runs
public import proofs.«01_k».proof.Proof.Gen.FwdRefIdeal
public import proofs.«01_k».proof.Proof.Gen.FwdRefIdeal.Run
public import proofs.«01_k».proof.Proof.Gen.FwdRefIdeal.Read
public import proofs.«01_k».proof.Proof.Dx.Bits
public import proofs.«01_k».proof.Proof.Dx.Claim
public import proofs.«01_k».proof.Proof.Dx.Ref
public import proofs.«01_k».proof.Proof.Acts.Bits
public import proofs.«01_k».proof.Proof.Acts.Claim
public import proofs.«01_k».proof.Proof.Acts.Ref
public import proofs.«01_k».proof.Proof.Ffn.Bits
public import proofs.«01_k».proof.Proof.Ffn.Claim
public import proofs.«01_k».proof.Proof.Ffn.Ref
public import proofs.«01_k».proof.Proof.Head.Bits
public import proofs.«01_k».proof.Proof.Head.Claim
public import proofs.«01_k».proof.Proof.Head.Ref
public import proofs.«01_k».proof.Proof.Ab.Bits
public import proofs.«01_k».proof.Proof.Ab.Claim
public import proofs.«01_k».proof.Proof.Ab.Ref
public import proofs.«01_k».proof.Proof.Pool.Bits
public import proofs.«01_k».proof.Proof.Pool.Ref
public import proofs.«01_k».proof.Proof.Fwd.Bits
public import proofs.«01_k».proof.Proof.Fwd.Claim
public import proofs.«01_k».proof.Proof.Fwd.Ref
public import Idealize.ShloMosaic.Adequacy
public import Idealize.ShloMosaic.Init

@[expose] public section

noncomputable section

namespace Cert.Proof

open Idealize.ShloMosaic Idealize.SL.Sem

/-- Every claim. -/
theorem claim : Cert.Claim := ⟨Cert.Dx.Gen.facts, Cert.DxIdeal.Gen.facts, Cert.DxRefIdeal.Gen.facts, Cert.Acts.Gen.facts, Cert.ActsIdeal.Gen.facts, Cert.ActsRefIdeal.Gen.facts, Cert.Ffn.Gen.facts, Cert.FfnIdeal.Gen.facts, Cert.FfnRefIdeal.Gen.facts, Cert.Pool.Gen.facts, Cert.PoolIdeal.Gen.facts, Cert.PoolRefIdeal.Gen.facts, Cert.Head.Gen.facts, Cert.HeadIdeal.Gen.facts, Cert.HeadRefIdeal.Gen.facts, Cert.Ab.Gen.facts, Cert.AbIdeal.Gen.facts, Cert.AbRefIdeal.Gen.facts, Cert.Fwd.Gen.facts, Cert.FwdIdeal.Gen.facts, Cert.FwdRefIdeal.Gen.facts, Cert.Acts.Claims.preFacts, Cert.Ffn.Claims.preFacts,
  Cert.Dx.Gen.frame,
  fun m ρ _ => Cert.DxIdeal.Gen.frame m ρ,
  Cert.DxRefIdeal.Gen.frame,
  Cert.Acts.Gen.frame,
  fun m ρ _ => Cert.ActsIdeal.Gen.frame m ρ,
  fun m ρ _ => Cert.ActsIdeal.Gen.frame m ρ,
  Cert.ActsRefIdeal.Gen.frame,
  fun m ρ _ => Cert.ActsRefIdeal.Gen.frame m ρ trivial,
  Cert.Ffn.Gen.frame,
  fun m ρ _ => Cert.FfnIdeal.Gen.frame m ρ,
  fun m ρ _ => Cert.FfnIdeal.Gen.frame m ρ,
  Cert.FfnRefIdeal.Gen.frame,
  fun m ρ _ => Cert.FfnRefIdeal.Gen.frame m ρ trivial,
  Cert.Pool.Gen.frame,
  fun m ρ _ => Cert.PoolIdeal.Gen.frame m ρ,
  Cert.PoolRefIdeal.Gen.frame,
  Cert.Head.Gen.frame,
  fun m ρ _ => Cert.HeadIdeal.Gen.frame m ρ,
  Cert.HeadRefIdeal.Gen.frame,
  Cert.Ab.Gen.frame,
  fun m ρ _ => Cert.AbIdeal.Gen.frame m ρ,
  Cert.AbRefIdeal.Gen.frame,
  Cert.Fwd.Gen.frame,
  fun m ρ _ => Cert.FwdIdeal.Gen.frame m ρ,
  Cert.FwdRefIdeal.Gen.frame,
  trivial,
  Cert.Dx.Claims.algebraic,
  trivial,
  Cert.Acts.Claims.algebraic,
  trivial,
  Cert.Ffn.Claims.algebraic,
  trivial,
  trivial,
  Cert.Head.Claims.algebraic,
  trivial,
  Cert.Ab.Claims.algebraic,
  trivial,
  Cert.Fwd.Claims.algebraic⟩

end Cert.Proof

end
